-- ==== Defs.lean ====
def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdRefIdeal (m : (ℓ : Loc Cert.AttnBwdRefIdeal.nD Cert.AttnBwdRefIdeal.τ Cert.AttnBwdRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DxDown (m : (ℓ : Loc Cert.DxDown.nD Cert.DxDown.τ Cert.DxDown.sig) → Buf (Elt Bits) ℓ) : Prop :=
  True

def Pre_DxDownIdeal (m : (ℓ : Loc Cert.DxDownIdeal.nD Cert.DxDownIdeal.τ Cert.DxDownIdeal.sig) → Buf (Elt Ideal) ℓ) : Prop :=
  True

def Pre_DxDownRefIdeal (m : (ℓ : Loc Cert.DxDownRefIdeal.nD Cert.DxDownRefIdeal.τ Cert.DxDownRefIdeal.sig) → Buf (Elt Ideal) ℓ) : Prop :=
  True

def Pre_DxGate (m : (ℓ : Loc Cert.DxGate.nD Cert.DxGate.τ Cert.DxGate.sig) → Buf (Elt Bits) ℓ) : Prop :=
  True

def Pre_DxGateIdeal (m : (ℓ : Loc Cert.DxGateIdeal.nD Cert.DxGateIdeal.τ Cert.DxGateIdeal.sig) → Buf (Elt Ideal) ℓ) : Prop :=
  True

def Pre_DxGateRefIdeal (m : (ℓ : Loc Cert.DxGateRefIdeal.nD Cert.DxGateRefIdeal.τ Cert.DxGateRefIdeal.sig) → Buf (Elt Ideal) ℓ) : Prop :=
  True

def Pre_DxUp (m : (ℓ : Loc Cert.DxUp.nD Cert.DxUp.τ Cert.DxUp.sig) → Buf (Elt Bits) ℓ) : Prop :=
  True

def Pre_DxUpIdeal (m : (ℓ : Loc Cert.DxUpIdeal.nD Cert.DxUpIdeal.τ Cert.DxUpIdeal.sig) → Buf (Elt Ideal) ℓ) : Prop :=
  True

def Pre_DxUpRefIdeal (m : (ℓ : Loc Cert.DxUpRefIdeal.nD Cert.DxUpRefIdeal.τ Cert.DxUpRefIdeal.sig) → Buf (Elt Ideal) ℓ) : Prop :=
  True

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdRefIdeal (m : (ℓ : Loc Cert.GluBwdRefIdeal.nD Cert.GluBwdRefIdeal.τ Cert.GluBwdRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnGate (m : (ℓ : Loc Cert.FfnGate.nD Cert.FfnGate.τ Cert.FfnGate.sig) → Buf (Elt Bits) ℓ) : Prop :=
  True

def Pre_FfnGateIdeal (m : (ℓ : Loc Cert.FfnGateIdeal.nD Cert.FfnGateIdeal.τ Cert.FfnGateIdeal.sig) → Buf (Elt Ideal) ℓ) : Prop :=
  True

def Pre_FfnGateRefIdeal (m : (ℓ : Loc Cert.FfnGateRefIdeal.nD Cert.FfnGateRefIdeal.τ Cert.FfnGateRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DxIn (m : (ℓ : Loc Cert.DxIn.nD Cert.DxIn.τ Cert.DxIn.sig) → Buf (Elt Bits) ℓ) : Prop :=
  True

def Pre_DxInIdeal (m : (ℓ : Loc Cert.DxInIdeal.nD Cert.DxInIdeal.τ Cert.DxInIdeal.sig) → Buf (Elt Ideal) ℓ) : Prop :=
  True

def Pre_DxInRefIdeal (m : (ℓ : Loc Cert.DxInRefIdeal.nD Cert.DxInRefIdeal.τ Cert.DxInRefIdeal.sig) → Buf (Elt Ideal) ℓ) : Prop :=
  True

def Pre_DxInNext (m : (ℓ : Loc Cert.DxInNext.nD Cert.DxInNext.τ Cert.DxInNext.sig) → Buf (Elt Bits) ℓ) : Prop :=
  True

def Pre_DxInNextIdeal (m : (ℓ : Loc Cert.DxInNextIdeal.nD Cert.DxInNextIdeal.τ Cert.DxInNextIdeal.sig) → Buf (Elt Ideal) ℓ) : Prop :=
  True

def Pre_DxInNextRefIdeal (m : (ℓ : Loc Cert.DxInNextRefIdeal.nD Cert.DxInNextRefIdeal.τ Cert.DxInNextRefIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutRefIdeal (m : (ℓ : Loc Cert.ProjOutRefIdeal.nD Cert.ProjOutRefIdeal.τ Cert.ProjOutRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DxOut (m : (ℓ : Loc Cert.DxOut.nD Cert.DxOut.τ Cert.DxOut.sig) → Buf (Elt Bits) ℓ) : Prop :=
  True

def Pre_DxOutIdeal (m : (ℓ : Loc Cert.DxOutIdeal.nD Cert.DxOutIdeal.τ Cert.DxOutIdeal.sig) → Buf (Elt Ideal) ℓ) : Prop :=
  True

def Pre_DxOutRefIdeal (m : (ℓ : Loc Cert.DxOutRefIdeal.nD Cert.DxOutRefIdeal.τ Cert.DxOutRefIdeal.sig) → Buf (Elt Ideal) ℓ) : Prop :=
  True

def Pre_SqIn (m : (ℓ : Loc Cert.SqIn.nD Cert.SqIn.τ Cert.SqIn.sig) → Buf (Elt Bits) ℓ) : Prop :=
  True

def Pre_SqInIdeal (m : (ℓ : Loc Cert.SqInIdeal.nD Cert.SqInIdeal.τ Cert.SqInIdeal.sig) → Buf (Elt Ideal) ℓ) : Prop :=
  True

def Pre_SqInRefIdeal (m : (ℓ : Loc Cert.SqInRefIdeal.nD Cert.SqInRefIdeal.τ Cert.SqInRefIdeal.sig) → Buf (Elt Ideal) ℓ) : Prop :=
  True

def Pre_SqDwIn (m : (ℓ : Loc Cert.SqDwIn.nD Cert.SqDwIn.τ Cert.SqDwIn.sig) → Buf (Elt Bits) ℓ) : Prop :=
  True

def Pre_SqDwInIdeal (m : (ℓ : Loc Cert.SqDwInIdeal.nD Cert.SqDwInIdeal.τ Cert.SqDwInIdeal.sig) → Buf (Elt Ideal) ℓ) : Prop :=
  True

def Pre_SqDwInRefIdeal (m : (ℓ : Loc Cert.SqDwInRefIdeal.nD Cert.SqDwInRefIdeal.τ Cert.SqDwInRefIdeal.sig) → Buf (Elt Ideal) ℓ) : Prop :=
  True

def Pre_SqDxIn (m : (ℓ : Loc Cert.SqDxIn.nD Cert.SqDxIn.τ Cert.SqDxIn.sig) → Buf (Elt Bits) ℓ) : Prop :=
  True

def Pre_SqDxInIdeal (m : (ℓ : Loc Cert.SqDxInIdeal.nD Cert.SqDxInIdeal.τ Cert.SqDxInIdeal.sig) → Buf (Elt Ideal) ℓ) : Prop :=
  True

def Pre_SqDxInRefIdeal (m : (ℓ : Loc Cert.SqDxInRefIdeal.nD Cert.SqDxInRefIdeal.τ Cert.SqDxInRefIdeal.sig) → Buf (Elt Ideal) ℓ) : Prop :=
  True

def Pre_SqDxInNext (m : (ℓ : Loc Cert.SqDxInNext.nD Cert.SqDxInNext.τ Cert.SqDxInNext.sig) → Buf (Elt Bits) ℓ) : Prop :=
  True

def Pre_SqDxInNextIdeal (m : (ℓ : Loc Cert.SqDxInNextIdeal.nD Cert.SqDxInNextIdeal.τ Cert.SqDxInNextIdeal.sig) → Buf (Elt Ideal) ℓ) : Prop :=
  True

def Pre_SqDxInNextRefIdeal (m : (ℓ : Loc Cert.SqDxInNextRefIdeal.nD Cert.SqDxInNextRefIdeal.τ Cert.SqDxInNextRefIdeal.sig) → Buf (Elt Ideal) ℓ) : Prop :=
  True

def Pre_SqQuery (m : (ℓ : Loc Cert.SqQuery.nD Cert.SqQuery.τ Cert.SqQuery.sig) → Buf (Elt Bits) ℓ) : Prop :=
  True

def Pre_SqQueryIdeal (m : (ℓ : Loc Cert.SqQueryIdeal.nD Cert.SqQueryIdeal.τ Cert.SqQueryIdeal.sig) → Buf (Elt Ideal) ℓ) : Prop :=
  True

def Pre_SqQueryRefIdeal (m : (ℓ : Loc Cert.SqQueryRefIdeal.nD Cert.SqQueryRefIdeal.τ Cert.SqQueryRefIdeal.sig) → Buf (Elt Ideal) ℓ) : Prop :=
  True

def Pre_SqOut (m : (ℓ : Loc Cert.SqOut.nD Cert.SqOut.τ Cert.SqOut.sig) → Buf (Elt Bits) ℓ) : Prop :=
  True

def Pre_SqOutIdeal (m : (ℓ : Loc Cert.SqOutIdeal.nD Cert.SqOutIdeal.τ Cert.SqOutIdeal.sig) → Buf (Elt Ideal) ℓ) : Prop :=
  True

def Pre_SqOutRefIdeal (m : (ℓ : Loc Cert.SqOutRefIdeal.nD Cert.SqOutRefIdeal.τ Cert.SqOutRefIdeal.sig) → Buf (Elt Ideal) ℓ) : Prop :=
  True

def Pre_SqDwOut (m : (ℓ : Loc Cert.SqDwOut.nD Cert.SqDwOut.τ Cert.SqDwOut.sig) → Buf (Elt Bits) ℓ) : Prop :=
  True

def Pre_SqDwOutIdeal (m : (ℓ : Loc Cert.SqDwOutIdeal.nD Cert.SqDwOutIdeal.τ Cert.SqDwOutIdeal.sig) → Buf (Elt Ideal) ℓ) : Prop :=
  True

def Pre_SqDwOutRefIdeal (m : (ℓ : Loc Cert.SqDwOutRefIdeal.nD Cert.SqDwOutRefIdeal.τ Cert.SqDwOutRefIdeal.sig) → Buf (Elt Ideal) ℓ) : Prop :=
  True

def Pre_SqDxOut (m : (ℓ : Loc Cert.SqDxOut.nD Cert.SqDxOut.τ Cert.SqDxOut.sig) → Buf (Elt Bits) ℓ) : Prop :=
  True

def Pre_SqDxOutIdeal (m : (ℓ : Loc Cert.SqDxOutIdeal.nD Cert.SqDxOutIdeal.τ Cert.SqDxOutIdeal.sig) → Buf (Elt Ideal) ℓ) : Prop :=
  True

def Pre_SqDxOutRefIdeal (m : (ℓ : Loc Cert.SqDxOutRefIdeal.nD Cert.SqDxOutRefIdeal.τ Cert.SqDxOutRefIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_HgQ (m : (ℓ : Loc Cert.HgQ.nD Cert.HgQ.τ Cert.HgQ.sig) → Buf (Elt Bits) ℓ) : Prop :=
  True

def Pre_HgQIdeal (m : (ℓ : Loc Cert.HgQIdeal.nD Cert.HgQIdeal.τ Cert.HgQIdeal.sig) → Buf (Elt Ideal) ℓ) : Prop :=
  True

def Pre_HgQRefIdeal (m : (ℓ : Loc Cert.HgQRefIdeal.nD Cert.HgQRefIdeal.τ Cert.HgQRefIdeal.sig) → Buf (Elt Ideal) ℓ) : Prop :=
  True

def Pre_HgF (m : (ℓ : Loc Cert.HgF.nD Cert.HgF.τ Cert.HgF.sig) → Buf (Elt Bits) ℓ) : Prop :=
  True

def Pre_HgFIdeal (m : (ℓ : Loc Cert.HgFIdeal.nD Cert.HgFIdeal.τ Cert.HgFIdeal.sig) → Buf (Elt Ideal) ℓ) : Prop :=
  True

def Pre_HgFRefIdeal (m : (ℓ : Loc Cert.HgFRefIdeal.nD Cert.HgFRefIdeal.τ Cert.HgFRefIdeal.sig) → Buf (Elt Ideal) ℓ) : Prop :=
  True

def Pre_HgI (m : (ℓ : Loc Cert.HgI.nD Cert.HgI.τ Cert.HgI.sig) → Buf (Elt Bits) ℓ) : Prop :=
  True

def Pre_HgIIdeal (m : (ℓ : Loc Cert.HgIIdeal.nD Cert.HgIIdeal.τ Cert.HgIIdeal.sig) → Buf (Elt Ideal) ℓ) : Prop :=
  True

def Pre_HgIRefIdeal (m : (ℓ : Loc Cert.HgIRefIdeal.nD Cert.HgIRefIdeal.τ Cert.HgIRefIdeal.sig) → Buf (Elt Ideal) ℓ) : Prop :=
  True

def Pre_HgG (m : (ℓ : Loc Cert.HgG.nD Cert.HgG.τ Cert.HgG.sig) → Buf (Elt Bits) ℓ) : Prop :=
  True

def Pre_HgGIdeal (m : (ℓ : Loc Cert.HgGIdeal.nD Cert.HgGIdeal.τ Cert.HgGIdeal.sig) → Buf (Elt Ideal) ℓ) : Prop :=
  True

def Pre_HgGRefIdeal (m : (ℓ : Loc Cert.HgGRefIdeal.nD Cert.HgGRefIdeal.τ Cert.HgGRefIdeal.sig) → Buf (Elt Ideal) ℓ) : Prop :=
  True

def Pre_DwHgQ (m : (ℓ : Loc Cert.DwHgQ.nD Cert.DwHgQ.τ Cert.DwHgQ.sig) → Buf (Elt Bits) ℓ) : Prop :=
  True

def Pre_DwHgQIdeal (m : (ℓ : Loc Cert.DwHgQIdeal.nD Cert.DwHgQIdeal.τ Cert.DwHgQIdeal.sig) → Buf (Elt Ideal) ℓ) : Prop :=
  True

def Pre_DwHgQRefIdeal (m : (ℓ : Loc Cert.DwHgQRefIdeal.nD Cert.DwHgQRefIdeal.τ Cert.DwHgQRefIdeal.sig) → Buf (Elt Ideal) ℓ) : Prop :=
  True

def Pre_DwHgF (m : (ℓ : Loc Cert.DwHgF.nD Cert.DwHgF.τ Cert.DwHgF.sig) → Buf (Elt Bits) ℓ) : Prop :=
  True

def Pre_DwHgFIdeal (m : (ℓ : Loc Cert.DwHgFIdeal.nD Cert.DwHgFIdeal.τ Cert.DwHgFIdeal.sig) → Buf (Elt Ideal) ℓ) : Prop :=
  True

def Pre_DwHgFRefIdeal (m : (ℓ : Loc Cert.DwHgFRefIdeal.nD Cert.DwHgFRefIdeal.τ Cert.DwHgFRefIdeal.sig) → Buf (Elt Ideal) ℓ) : Prop :=
  True

def Pre_DwHgI (m : (ℓ : Loc Cert.DwHgI.nD Cert.DwHgI.τ Cert.DwHgI.sig) → Buf (Elt Bits) ℓ) : Prop :=
  True

def Pre_DwHgIIdeal (m : (ℓ : Loc Cert.DwHgIIdeal.nD Cert.DwHgIIdeal.τ Cert.DwHgIIdeal.sig) → Buf (Elt Ideal) ℓ) : Prop :=
  True

def Pre_DwHgIRefIdeal (m : (ℓ : Loc Cert.DwHgIRefIdeal.nD Cert.DwHgIRefIdeal.τ Cert.DwHgIRefIdeal.sig) → Buf (Elt Ideal) ℓ) : Prop :=
  True

def Pre_DwHgG (m : (ℓ : Loc Cert.DwHgG.nD Cert.DwHgG.τ Cert.DwHgG.sig) → Buf (Elt Bits) ℓ) : Prop :=
  True

def Pre_DwHgGIdeal (m : (ℓ : Loc Cert.DwHgGIdeal.nD Cert.DwHgGIdeal.τ Cert.DwHgGIdeal.sig) → Buf (Elt Ideal) ℓ) : Prop :=
  True

def Pre_DwHgGRefIdeal (m : (ℓ : Loc Cert.DwHgGRefIdeal.nD Cert.DwHgGRefIdeal.τ Cert.DwHgGRefIdeal.sig) → Buf (Elt Ideal) ℓ) : Prop :=
  True

def Pre_DxHgQ (m : (ℓ : Loc Cert.DxHgQ.nD Cert.DxHgQ.τ Cert.DxHgQ.sig) → Buf (Elt Bits) ℓ) : Prop :=
  True

def Pre_DxHgQIdeal (m : (ℓ : Loc Cert.DxHgQIdeal.nD Cert.DxHgQIdeal.τ Cert.DxHgQIdeal.sig) → Buf (Elt Ideal) ℓ) : Prop :=
  True

def Pre_DxHgQRefIdeal (m : (ℓ : Loc Cert.DxHgQRefIdeal.nD Cert.DxHgQRefIdeal.τ Cert.DxHgQRefIdeal.sig) → Buf (Elt Ideal) ℓ) : Prop :=
  True

def Pre_DxHgF (m : (ℓ : Loc Cert.DxHgF.nD Cert.DxHgF.τ Cert.DxHgF.sig) → Buf (Elt Bits) ℓ) : Prop :=
  True

def Pre_DxHgFIdeal (m : (ℓ : Loc Cert.DxHgFIdeal.nD Cert.DxHgFIdeal.τ Cert.DxHgFIdeal.sig) → Buf (Elt Ideal) ℓ) : Prop :=
  True

def Pre_DxHgFRefIdeal (m : (ℓ : Loc Cert.DxHgFRefIdeal.nD Cert.DxHgFRefIdeal.τ Cert.DxHgFRefIdeal.sig) → Buf (Elt Ideal) ℓ) : Prop :=
  True

def Pre_DxHgI (m : (ℓ : Loc Cert.DxHgI.nD Cert.DxHgI.τ Cert.DxHgI.sig) → Buf (Elt Bits) ℓ) : Prop :=
  True

def Pre_DxHgIIdeal (m : (ℓ : Loc Cert.DxHgIIdeal.nD Cert.DxHgIIdeal.τ Cert.DxHgIIdeal.sig) → Buf (Elt Ideal) ℓ) : Prop :=
  True

def Pre_DxHgIRefIdeal (m : (ℓ : Loc Cert.DxHgIRefIdeal.nD Cert.DxHgIRefIdeal.τ Cert.DxHgIRefIdeal.sig) → Buf (Elt Ideal) ℓ) : Prop :=
  True

def Pre_DxHgG (m : (ℓ : Loc Cert.DxHgG.nD Cert.DxHgG.τ Cert.DxHgG.sig) → Buf (Elt Bits) ℓ) : Prop :=
  True

def Pre_DxHgGIdeal (m : (ℓ : Loc Cert.DxHgGIdeal.nD Cert.DxHgGIdeal.τ Cert.DxHgGIdeal.sig) → Buf (Elt Ideal) ℓ) : Prop :=
  True

def Pre_DxHgGRefIdeal (m : (ℓ : Loc Cert.DxHgGRefIdeal.nD Cert.DxHgGRefIdeal.τ Cert.DxHgGRefIdeal.sig) → Buf (Elt Ideal) ℓ) : Prop :=
  True

def Pre_MemK (m : (ℓ : Loc Cert.MemK.nD Cert.MemK.τ Cert.MemK.sig) → Buf (Elt Bits) ℓ) : Prop :=
  True

def Pre_MemKIdeal (m : (ℓ : Loc Cert.MemKIdeal.nD Cert.MemKIdeal.τ Cert.MemKIdeal.sig) → Buf (Elt Ideal) ℓ) : Prop :=
  True

def Pre_MemKRefIdeal (m : (ℓ : Loc Cert.MemKRefIdeal.nD Cert.MemKRefIdeal.τ Cert.MemKRefIdeal.sig) → Buf (Elt Ideal) ℓ) : Prop :=
  True

def Pre_MemV (m : (ℓ : Loc Cert.MemV.nD Cert.MemV.τ Cert.MemV.sig) → Buf (Elt Bits) ℓ) : Prop :=
  True

def Pre_MemVIdeal (m : (ℓ : Loc Cert.MemVIdeal.nD Cert.MemVIdeal.τ Cert.MemVIdeal.sig) → Buf (Elt Ideal) ℓ) : Prop :=
  True

def Pre_MemVRefIdeal (m : (ℓ : Loc Cert.MemVRefIdeal.nD Cert.MemVRefIdeal.τ Cert.MemVRefIdeal.sig) → Buf (Elt Ideal) ℓ) : Prop :=
  True

def Pre_DwMemK (m : (ℓ : Loc Cert.DwMemK.nD Cert.DwMemK.τ Cert.DwMemK.sig) → Buf (Elt Bits) ℓ) : Prop :=
  True

def Pre_DwMemKIdeal (m : (ℓ : Loc Cert.DwMemKIdeal.nD Cert.DwMemKIdeal.τ Cert.DwMemKIdeal.sig) → Buf (Elt Ideal) ℓ) : Prop :=
  True

def Pre_DwMemKRefIdeal (m : (ℓ : Loc Cert.DwMemKRefIdeal.nD Cert.DwMemKRefIdeal.τ Cert.DwMemKRefIdeal.sig) → Buf (Elt Ideal) ℓ) : Prop :=
  True

def Pre_DwMemV (m : (ℓ : Loc Cert.DwMemV.nD Cert.DwMemV.τ Cert.DwMemV.sig) → Buf (Elt Bits) ℓ) : Prop :=
  True

def Pre_DwMemVIdeal (m : (ℓ : Loc Cert.DwMemVIdeal.nD Cert.DwMemVIdeal.τ Cert.DwMemVIdeal.sig) → Buf (Elt Ideal) ℓ) : Prop :=
  True

def Pre_DwMemVRefIdeal (m : (ℓ : Loc Cert.DwMemVRefIdeal.nD Cert.DwMemVRefIdeal.τ Cert.DwMemVRefIdeal.sig) → Buf (Elt Ideal) ℓ) : Prop :=
  True

def Pre_DxMemK (m : (ℓ : Loc Cert.DxMemK.nD Cert.DxMemK.τ Cert.DxMemK.sig) → Buf (Elt Bits) ℓ) : Prop :=
  True

def Pre_DxMemKIdeal (m : (ℓ : Loc Cert.DxMemKIdeal.nD Cert.DxMemKIdeal.τ Cert.DxMemKIdeal.sig) → Buf (Elt Ideal) ℓ) : Prop :=
  True

def Pre_DxMemKRefIdeal (m : (ℓ : Loc Cert.DxMemKRefIdeal.nD Cert.DxMemKRefIdeal.τ Cert.DxMemKRefIdeal.sig) → Buf (Elt Ideal) ℓ) : Prop :=
  True

def Pre_DxMemV (m : (ℓ : Loc Cert.DxMemV.nD Cert.DxMemV.τ Cert.DxMemV.sig) → Buf (Elt Bits) ℓ) : Prop :=
  True

def Pre_DxMemVIdeal (m : (ℓ : Loc Cert.DxMemVIdeal.nD Cert.DxMemVIdeal.τ Cert.DxMemVIdeal.sig) → Buf (Elt Ideal) ℓ) : Prop :=
  True

def Pre_DxMemVRefIdeal (m : (ℓ : Loc Cert.DxMemVRefIdeal.nD Cert.DxMemVRefIdeal.τ Cert.DxMemVRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_GlaFwd (m : (ℓ : Loc Cert.GlaFwd.nD Cert.GlaFwd.τ Cert.GlaFwd.sig) → Buf (Elt Bits) ℓ) : Prop :=
  True

def Pre_GlaFwdIdeal (m : (ℓ : Loc Cert.GlaFwdIdeal.nD Cert.GlaFwdIdeal.τ Cert.GlaFwdIdeal.sig) → Buf (Elt Ideal) ℓ) : Prop :=
  True

def Pre_GlaFwdRefIdeal (m : (ℓ : Loc Cert.GlaFwdRefIdeal.nD Cert.GlaFwdRefIdeal.τ Cert.GlaFwdRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_HeadBwd (m : (ℓ : Loc Cert.HeadBwd.nD Cert.HeadBwd.τ Cert.HeadBwd.sig) → Buf (Elt Bits) ℓ) : Prop :=
  True

def Pre_HeadBwdIdeal (m : (ℓ : Loc Cert.HeadBwdIdeal.nD Cert.HeadBwdIdeal.τ Cert.HeadBwdIdeal.sig) → Buf (Elt Ideal) ℓ) : Prop :=
  True

def Pre_HeadBwdRefIdeal (m : (ℓ : Loc Cert.HeadBwdRefIdeal.nD Cert.HeadBwdRefIdeal.τ Cert.HeadBwdRefIdeal.sig) → Buf (Elt Ideal) ℓ) : Prop :=
  True

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DxDown [hDxDown : Cert.DxDown.Facts] : Prop :=
  ∀ (m : (ℓ : Loc Cert.DxDown.nD Cert.DxDown.τ Cert.DxDown.sig) → Buf (Elt Bits) ℓ) (g : Dev Cert.DxDown.nD → PrngReg), Pre_DxDown m →
    θ_run (Cert.DxDown.defs (F := Bits)) (onTc (τ := Cert.DxDown.τ) (Cert.DxDown.main (F := Bits))) ⟨m, fun _ => 0, g⟩ (fun r => (∀ c : Dev Cert.DxDown.nD,
      r.2.mem ((c.tc : Thread Cert.DxDown.nD Cert.DxDown.τ).loc Cert.DxDown.main_arg0) = m ((c.tc : Thread Cert.DxDown.nD Cert.DxDown.τ).loc Cert.DxDown.main_arg0)
      ∧ r.2.mem ((c.tc : Thread Cert.DxDown.nD Cert.DxDown.τ).loc Cert.DxDown.main_arg1) = m ((c.tc : Thread Cert.DxDown.nD Cert.DxDown.τ).loc Cert.DxDown.main_arg1))
      ∧ r.2.sem = fun _ => 0)

def quiescent_DxDownIdeal [hDxDownIdeal : Cert.DxDownIdeal.Facts] : Prop :=
  ∀ (m : (ℓ : Loc Cert.DxDownIdeal.nD Cert.DxDownIdeal.τ Cert.DxDownIdeal.sig) → Buf (Elt Ideal) ℓ) (g : Dev Cert.DxDownIdeal.nD → PrngReg), Pre_DxDownIdeal m →
    θ_run (Cert.DxDownIdeal.defs (F := Ideal)) (onTc (τ := Cert.DxDownIdeal.τ) (Cert.DxDownIdeal.main (F := Ideal))) ⟨m, fun _ => 0, g⟩ (fun r => (∀ c : Dev Cert.DxDownIdeal.nD,
      r.2.mem ((c.tc : Thread Cert.DxDownIdeal.nD Cert.DxDownIdeal.τ).loc Cert.DxDownIdeal.main_arg0) = m ((c.tc : Thread Cert.DxDownIdeal.nD Cert.DxDownIdeal.τ).loc Cert.DxDownIdeal.main_arg0)
      ∧ r.2.mem ((c.tc : Thread Cert.DxDownIdeal.nD Cert.DxDownIdeal.τ).loc Cert.DxDownIdeal.main_arg1) = m ((c.tc : Thread Cert.DxDownIdeal.nD Cert.DxDownIdeal.τ).loc Cert.DxDownIdeal.main_arg1))
      ∧ r.2.sem = fun _ => 0)

def quiescent_DxDownRefIdeal [hDxDownRefIdeal : Cert.DxDownRefIdeal.Facts] : Prop :=
  ∀ (m : (ℓ : Loc Cert.DxDownRefIdeal.nD Cert.DxDownRefIdeal.τ Cert.DxDownRefIdeal.sig) → Buf (Elt Ideal) ℓ) (g : Dev Cert.DxDownRefIdeal.nD → PrngReg), Pre_DxDownRefIdeal m →
    θ_run (Cert.DxDownRefIdeal.defs (F := Ideal)) (onTc (τ := Cert.DxDownRefIdeal.τ) (Cert.DxDownRefIdeal.main (F := Ideal))) ⟨m, fun _ => 0, g⟩ (fun r => (∀ c : Dev Cert.DxDownRefIdeal.nD,
      r.2.mem ((c.tc : Thread Cert.DxDownRefIdeal.nD Cert.DxDownRefIdeal.τ).loc Cert.DxDownRefIdeal.main_arg0) = m ((c.tc : Thread Cert.DxDownRefIdeal.nD Cert.DxDownRefIdeal.τ).loc Cert.DxDownRefIdeal.main_arg0)
      ∧ r.2.mem ((c.tc : Thread Cert.DxDownRefIdeal.nD Cert.DxDownRefIdeal.τ).loc Cert.DxDownRefIdeal.main_arg1) = m ((c.tc : Thread Cert.DxDownRefIdeal.nD Cert.DxDownRefIdeal.τ).loc Cert.DxDownRefIdeal.main_arg1))
      ∧ r.2.sem = fun _ => 0)

def quiescent_DxGate [hDxGate : Cert.DxGate.Facts] : Prop :=
  ∀ (m : (ℓ : Loc Cert.DxGate.nD Cert.DxGate.τ Cert.DxGate.sig) → Buf (Elt Bits) ℓ) (g : Dev Cert.DxGate.nD → PrngReg), Pre_DxGate m →
    θ_run (Cert.DxGate.defs (F := Bits)) (onTc (τ := Cert.DxGate.τ) (Cert.DxGate.main (F := Bits))) ⟨m, fun _ => 0, g⟩ (fun r => (∀ c : Dev Cert.DxGate.nD,
      r.2.mem ((c.tc : Thread Cert.DxGate.nD Cert.DxGate.τ).loc Cert.DxGate.main_arg0) = m ((c.tc : Thread Cert.DxGate.nD Cert.DxGate.τ).loc Cert.DxGate.main_arg0)
      ∧ r.2.mem ((c.tc : Thread Cert.DxGate.nD Cert.DxGate.τ).loc Cert.DxGate.main_arg1) = m ((c.tc : Thread Cert.DxGate.nD Cert.DxGate.τ).loc Cert.DxGate.main_arg1))
      ∧ r.2.sem = fun _ => 0)

def quiescent_DxGateIdeal [hDxGateIdeal : Cert.DxGateIdeal.Facts] : Prop :=
  ∀ (m : (ℓ : Loc Cert.DxGateIdeal.nD Cert.DxGateIdeal.τ Cert.DxGateIdeal.sig) → Buf (Elt Ideal) ℓ) (g : Dev Cert.DxGateIdeal.nD → PrngReg), Pre_DxGateIdeal m →
    θ_run (Cert.DxGateIdeal.defs (F := Ideal)) (onTc (τ := Cert.DxGateIdeal.τ) (Cert.DxGateIdeal.main (F := Ideal))) ⟨m, fun _ => 0, g⟩ (fun r => (∀ c : Dev Cert.DxGateIdeal.nD,
      r.2.mem ((c.tc : Thread Cert.DxGateIdeal.nD Cert.DxGateIdeal.τ).loc Cert.DxGateIdeal.main_arg0) = m ((c.tc : Thread Cert.DxGateIdeal.nD Cert.DxGateIdeal.τ).loc Cert.DxGateIdeal.main_arg0)
      ∧ r.2.mem ((c.tc : Thread Cert.DxGateIdeal.nD Cert.DxGateIdeal.τ).loc Cert.DxGateIdeal.main_arg1) = m ((c.tc : Thread Cert.DxGateIdeal.nD Cert.DxGateIdeal.τ).loc Cert.DxGateIdeal.main_arg1))
      ∧ r.2.sem = fun _ => 0)

def quiescent_DxGateRefIdeal [hDxGateRefIdeal : Cert.DxGateRefIdeal.Facts] : Prop :=
  ∀ (m : (ℓ : Loc Cert.DxGateRefIdeal.nD Cert.DxGateRefIdeal.τ Cert.DxGateRefIdeal.sig) → Buf (Elt Ideal) ℓ) (g : Dev Cert.DxGateRefIdeal.nD → PrngReg), Pre_DxGateRefIdeal m →
    θ_run (Cert.DxGateRefIdeal.defs (F := Ideal)) (onTc (τ := Cert.DxGateRefIdeal.τ) (Cert.DxGateRefIdeal.main (F := Ideal))) ⟨m, fun _ => 0, g⟩ (fun r => (∀ c : Dev Cert.DxGateRefIdeal.nD,
      r.2.mem ((c.tc : Thread Cert.DxGateRefIdeal.nD Cert.DxGateRefIdeal.τ).loc Cert.DxGateRefIdeal.main_arg0) = m ((c.tc : Thread Cert.DxGateRefIdeal.nD Cert.DxGateRefIdeal.τ).loc Cert.DxGateRefIdeal.main_arg0)
      ∧ r.2.mem ((c.tc : Thread Cert.DxGateRefIdeal.nD Cert.DxGateRefIdeal.τ).loc Cert.DxGateRefIdeal.main_arg1) = m ((c.tc : Thread Cert.DxGateRefIdeal.nD Cert.DxGateRefIdeal.τ).loc Cert.DxGateRefIdeal.main_arg1))
      ∧ r.2.sem = fun _ => 0)

def quiescent_DxUp [hDxUp : Cert.DxUp.Facts] : Prop :=
  ∀ (m : (ℓ : Loc Cert.DxUp.nD Cert.DxUp.τ Cert.DxUp.sig) → Buf (Elt Bits) ℓ) (g : Dev Cert.DxUp.nD → PrngReg), Pre_DxUp m →
    θ_run (Cert.DxUp.defs (F := Bits)) (onTc (τ := Cert.DxUp.τ) (Cert.DxUp.main (F := Bits))) ⟨m, fun _ => 0, g⟩ (fun r => (∀ c : Dev Cert.DxUp.nD,
      r.2.mem ((c.tc : Thread Cert.DxUp.nD Cert.DxUp.τ).loc Cert.DxUp.main_arg0) = m ((c.tc : Thread Cert.DxUp.nD Cert.DxUp.τ).loc Cert.DxUp.main_arg0)
      ∧ r.2.mem ((c.tc : Thread Cert.DxUp.nD Cert.DxUp.τ).loc Cert.DxUp.main_arg1) = m ((c.tc : Thread Cert.DxUp.nD Cert.DxUp.τ).loc Cert.DxUp.main_arg1)
      ∧ r.2.mem ((c.tc : Thread Cert.DxUp.nD Cert.DxUp.τ).loc Cert.DxUp.main_arg2) = m ((c.tc : Thread Cert.DxUp.nD Cert.DxUp.τ).loc Cert.DxUp.main_arg2))
      ∧ r.2.sem = fun _ => 0)

def quiescent_DxUpIdeal [hDxUpIdeal : Cert.DxUpIdeal.Facts] : Prop :=
  ∀ (m : (ℓ : Loc Cert.DxUpIdeal.nD Cert.DxUpIdeal.τ Cert.DxUpIdeal.sig) → Buf (Elt Ideal) ℓ) (g : Dev Cert.DxUpIdeal.nD → PrngReg), Pre_DxUpIdeal m →
    θ_run (Cert.DxUpIdeal.defs (F := Ideal)) (onTc (τ := Cert.DxUpIdeal.τ) (Cert.DxUpIdeal.main (F := Ideal))) ⟨m, fun _ => 0, g⟩ (fun r => (∀ c : Dev Cert.DxUpIdeal.nD,
      r.2.mem ((c.tc : Thread Cert.DxUpIdeal.nD Cert.DxUpIdeal.τ).loc Cert.DxUpIdeal.main_arg0) = m ((c.tc : Thread Cert.DxUpIdeal.nD Cert.DxUpIdeal.τ).loc Cert.DxUpIdeal.main_arg0)
      ∧ r.2.mem ((c.tc : Thread Cert.DxUpIdeal.nD Cert.DxUpIdeal.τ).loc Cert.DxUpIdeal.main_arg1) = m ((c.tc : Thread Cert.DxUpIdeal.nD Cert.DxUpIdeal.τ).loc Cert.DxUpIdeal.main_arg1)
      ∧ r.2.mem ((c.tc : Thread Cert.DxUpIdeal.nD Cert.DxUpIdeal.τ).loc Cert.DxUpIdeal.main_arg2) = m ((c.tc : Thread Cert.DxUpIdeal.nD Cert.DxUpIdeal.τ).loc Cert.DxUpIdeal.main_arg2))
      ∧ r.2.sem = fun _ => 0)

def quiescent_DxUpRefIdeal [hDxUpRefIdeal : Cert.DxUpRefIdeal.Facts] : Prop :=
  ∀ (m : (ℓ : Loc Cert.DxUpRefIdeal.nD Cert.DxUpRefIdeal.τ Cert.DxUpRefIdeal.sig) → Buf (Elt Ideal) ℓ) (g : Dev Cert.DxUpRefIdeal.nD → PrngReg), Pre_DxUpRefIdeal m →
    θ_run (Cert.DxUpRefIdeal.defs (F := Ideal)) (onTc (τ := Cert.DxUpRefIdeal.τ) (Cert.DxUpRefIdeal.main (F := Ideal))) ⟨m, fun _ => 0, g⟩ (fun r => (∀ c : Dev Cert.DxUpRefIdeal.nD,
      r.2.mem ((c.tc : Thread Cert.DxUpRefIdeal.nD Cert.DxUpRefIdeal.τ).loc Cert.DxUpRefIdeal.main_arg0) = m ((c.tc : Thread Cert.DxUpRefIdeal.nD Cert.DxUpRefIdeal.τ).loc Cert.DxUpRefIdeal.main_arg0)
      ∧ r.2.mem ((c.tc : Thread Cert.DxUpRefIdeal.nD Cert.DxUpRefIdeal.τ).loc Cert.DxUpRefIdeal.main_arg1) = m ((c.tc : Thread Cert.DxUpRefIdeal.nD Cert.DxUpRefIdeal.τ).loc Cert.DxUpRefIdeal.main_arg1)
      ∧ r.2.mem ((c.tc : Thread Cert.DxUpRefIdeal.nD Cert.DxUpRefIdeal.τ).loc Cert.DxUpRefIdeal.main_arg2) = m ((c.tc : Thread Cert.DxUpRefIdeal.nD Cert.DxUpRefIdeal.τ).loc Cert.DxUpRefIdeal.main_arg2))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1)
      ∧ r.2.mem ((c.tc : Thread Cert.GluBwd.nD Cert.GluBwd.τ).loc Cert.GluBwd.main_arg2) = m ((c.tc : Thread Cert.GluBwd.nD Cert.GluBwd.τ).loc Cert.GluBwd.main_arg2)
      ∧ r.2.mem ((c.tc : Thread Cert.GluBwd.nD Cert.GluBwd.τ).loc Cert.GluBwd.main_arg3) = m ((c.tc : Thread Cert.GluBwd.nD Cert.GluBwd.τ).loc Cert.GluBwd.main_arg3)
      ∧ r.2.mem ((c.tc : Thread Cert.GluBwd.nD Cert.GluBwd.τ).loc Cert.GluBwd.main_arg4) = m ((c.tc : Thread Cert.GluBwd.nD Cert.GluBwd.τ).loc Cert.GluBwd.main_arg4))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
      ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
      ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4))
      ∧ r.2.sem = fun _ => 0)

def quiescent_GluBwdRefIdeal [hGluBwdRefIdeal : Cert.GluBwdRefIdeal.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1)
      ∧ r.2.mem ((c.tc : Thread Cert.GluBwdRefIdeal.nD Cert.GluBwdRefIdeal.τ).loc Cert.GluBwdRefIdeal.main_arg2) = m ((c.tc : Thread Cert.GluBwdRefIdeal.nD Cert.GluBwdRefIdeal.τ).loc Cert.GluBwdRefIdeal.main_arg2)
      ∧ r.2.mem ((c.tc : Thread Cert.GluBwdRefIdeal.nD Cert.GluBwdRefIdeal.τ).loc Cert.GluBwdRefIdeal.main_arg3) = m ((c.tc : Thread Cert.GluBwdRefIdeal.nD Cert.GluBwdRefIdeal.τ).loc Cert.GluBwdRefIdeal.main_arg3)
      ∧ r.2.mem ((c.tc : Thread Cert.GluBwdRefIdeal.nD Cert.GluBwdRefIdeal.τ).loc Cert.GluBwdRefIdeal.main_arg4) = m ((c.tc : Thread Cert.GluBwdRefIdeal.nD Cert.GluBwdRefIdeal.τ).loc Cert.GluBwdRefIdeal.main_arg4))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_FfnGate [hFfnGate : Cert.FfnGate.Facts] : Prop :=
  ∀ (m : (ℓ : Loc Cert.FfnGate.nD Cert.FfnGate.τ Cert.FfnGate.sig) → Buf (Elt Bits) ℓ) (g : Dev Cert.FfnGate.nD → PrngReg), Pre_FfnGate m →
    θ_run (Cert.FfnGate.defs (F := Bits)) (onTc (τ := Cert.FfnGate.τ) (Cert.FfnGate.main (F := Bits))) ⟨m, fun _ => 0, g⟩ (fun r => (∀ c : Dev Cert.FfnGate.nD,
      r.2.mem ((c.tc : Thread Cert.FfnGate.nD Cert.FfnGate.τ).loc Cert.FfnGate.main_arg0) = m ((c.tc : Thread Cert.FfnGate.nD Cert.FfnGate.τ).loc Cert.FfnGate.main_arg0)
      ∧ r.2.mem ((c.tc : Thread Cert.FfnGate.nD Cert.FfnGate.τ).loc Cert.FfnGate.main_arg1) = m ((c.tc : Thread Cert.FfnGate.nD Cert.FfnGate.τ).loc Cert.FfnGate.main_arg1))
      ∧ r.2.sem = fun _ => 0)

def quiescent_FfnGateIdeal [hFfnGateIdeal : Cert.FfnGateIdeal.Facts] : Prop :=
  ∀ (m : (ℓ : Loc Cert.FfnGateIdeal.nD Cert.FfnGateIdeal.τ Cert.FfnGateIdeal.sig) → Buf (Elt Ideal) ℓ) (g : Dev Cert.FfnGateIdeal.nD → PrngReg), Pre_FfnGateIdeal m →
    θ_run (Cert.FfnGateIdeal.defs (F := Ideal)) (onTc (τ := Cert.FfnGateIdeal.τ) (Cert.FfnGateIdeal.main (F := Ideal))) ⟨m, fun _ => 0, g⟩ (fun r => (∀ c : Dev Cert.FfnGateIdeal.nD,
      r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
      ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1))
      ∧ r.2.sem = fun _ => 0)

def quiescent_FfnGateRefIdeal [hFfnGateRefIdeal : Cert.FfnGateRefIdeal.Facts] : Prop :=
  ∀ (m : (ℓ : Loc Cert.FfnGateRefIdeal.nD Cert.FfnGateRefIdeal.τ Cert.FfnGateRefIdeal.sig) → Buf (Elt Ideal) ℓ) (g : Dev Cert.FfnGateRefIdeal.nD → PrngReg), Pre_FfnGateRefIdeal m →
    θ_run (Cert.FfnGateRefIdeal.defs (F := Ideal)) (onTc (τ := Cert.FfnGateRefIdeal.τ) (Cert.FfnGateRefIdeal.main (F := Ideal))) ⟨m, fun _ => 0, g⟩ (fun r => (∀ c : Dev Cert.FfnGateRefIdeal.nD,
      r.2.mem ((c.tc : Thread Cert.FfnGateRefIdeal.nD Cert.FfnGateRefIdeal.τ).loc Cert.FfnGateRefIdeal.main_arg0) = m ((c.tc : Thread Cert.FfnGateRefIdeal.nD Cert.FfnGateRefIdeal.τ).loc Cert.FfnGateRefIdeal.main_arg0)
      ∧ r.2.mem ((c.tc : Thread Cert.FfnGateRefIdeal.nD Cert.FfnGateRefIdeal.τ).loc Cert.FfnGateRefIdeal.main_arg1) = m ((c.tc : Thread Cert.FfnGateRefIdeal.nD Cert.FfnGateRefIdeal.τ).loc Cert.FfnGateRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DxIn [hDxIn : Cert.DxIn.Facts] : Prop :=
  ∀ (m : (ℓ : Loc Cert.DxIn.nD Cert.DxIn.τ Cert.DxIn.sig) → Buf (Elt Bits) ℓ) (g : Dev Cert.DxIn.nD → PrngReg), Pre_DxIn m →
    θ_run (Cert.DxIn.defs (F := Bits)) (onTc (τ := Cert.DxIn.τ) (Cert.DxIn.main (F := Bits))) ⟨m, fun _ => 0, g⟩ (fun r => (∀ c : Dev Cert.DxIn.nD,
      r.2.mem ((c.tc : Thread Cert.DxIn.nD Cert.DxIn.τ).loc Cert.DxIn.main_arg0) = m ((c.tc : Thread Cert.DxIn.nD Cert.DxIn.τ).loc Cert.DxIn.main_arg0)
      ∧ r.2.mem ((c.tc : Thread Cert.DxIn.nD Cert.DxIn.τ).loc Cert.DxIn.main_arg1) = m ((c.tc : Thread Cert.DxIn.nD Cert.DxIn.τ).loc Cert.DxIn.main_arg1))
      ∧ r.2.sem = fun _ => 0)

def quiescent_DxInIdeal [hDxInIdeal : Cert.DxInIdeal.Facts] : Prop :=
  ∀ (m : (ℓ : Loc Cert.DxInIdeal.nD Cert.DxInIdeal.τ Cert.DxInIdeal.sig) → Buf (Elt Ideal) ℓ) (g : Dev Cert.DxInIdeal.nD → PrngReg), Pre_DxInIdeal m →
    θ_run (Cert.DxInIdeal.defs (F := Ideal)) (onTc (τ := Cert.DxInIdeal.τ) (Cert.DxInIdeal.main (F := Ideal))) ⟨m, fun _ => 0, g⟩ (fun r => (∀ c : Dev Cert.DxInIdeal.nD,
      r.2.mem ((c.tc : Thread Cert.DxInIdeal.nD Cert.DxInIdeal.τ).loc Cert.DxInIdeal.main_arg0) = m ((c.tc : Thread Cert.DxInIdeal.nD Cert.DxInIdeal.τ).loc Cert.DxInIdeal.main_arg0)
      ∧ r.2.mem ((c.tc : Thread Cert.DxInIdeal.nD Cert.DxInIdeal.τ).loc Cert.DxInIdeal.main_arg1) = m ((c.tc : Thread Cert.DxInIdeal.nD Cert.DxInIdeal.τ).loc Cert.DxInIdeal.main_arg1))
      ∧ r.2.sem = fun _ => 0)

def quiescent_DxInRefIdeal [hDxInRefIdeal : Cert.DxInRefIdeal.Facts] : Prop :=
  ∀ (m : (ℓ : Loc Cert.DxInRefIdeal.nD Cert.DxInRefIdeal.τ Cert.DxInRefIdeal.sig) → Buf (Elt Ideal) ℓ) (g : Dev Cert.DxInRefIdeal.nD → PrngReg), Pre_DxInRefIdeal m →
    θ_run (Cert.DxInRefIdeal.defs (F := Ideal)) (onTc (τ := Cert.DxInRefIdeal.τ) (Cert.DxInRefIdeal.main (F := Ideal))) ⟨m, fun _ => 0, g⟩ (fun r => (∀ c : Dev Cert.DxInRefIdeal.nD,
      r.2.mem ((c.tc : Thread Cert.DxInRefIdeal.nD Cert.DxInRefIdeal.τ).loc Cert.DxInRefIdeal.main_arg0) = m ((c.tc : Thread Cert.DxInRefIdeal.nD Cert.DxInRefIdeal.τ).loc Cert.DxInRefIdeal.main_arg0)
      ∧ r.2.mem ((c.tc : Thread Cert.DxInRefIdeal.nD Cert.DxInRefIdeal.τ).loc Cert.DxInRefIdeal.main_arg1) = m ((c.tc : Thread Cert.DxInRefIdeal.nD Cert.DxInRefIdeal.τ).loc Cert.DxInRefIdeal.main_arg1))
      ∧ r.2.sem = fun _ => 0)

def quiescent_DxInNext [hDxInNext : Cert.DxInNext.Facts] : Prop :=
  ∀ (m : (ℓ : Loc Cert.DxInNext.nD Cert.DxInNext.τ Cert.DxInNext.sig) → Buf (Elt Bits) ℓ) (g : Dev Cert.DxInNext.nD → PrngReg), Pre_DxInNext m →
    θ_run (Cert.DxInNext.defs (F := Bits)) (onTc (τ := Cert.DxInNext.τ) (Cert.DxInNext.main (F := Bits))) ⟨m, fun _ => 0, g⟩ (fun r => (∀ c : Dev Cert.DxInNext.nD,
      r.2.mem ((c.tc : Thread Cert.DxInNext.nD Cert.DxInNext.τ).loc Cert.DxInNext.main_arg0) = m ((c.tc : Thread Cert.DxInNext.nD Cert.DxInNext.τ).loc Cert.DxInNext.main_arg0)
      ∧ r.2.mem ((c.tc : Thread Cert.DxInNext.nD Cert.DxInNext.τ).loc Cert.DxInNext.main_arg1) = m ((c.tc : Thread Cert.DxInNext.nD Cert.DxInNext.τ).loc Cert.DxInNext.main_arg1)
      ∧ r.2.mem ((c.tc : Thread Cert.DxInNext.nD Cert.DxInNext.τ).loc Cert.DxInNext.main_arg2) = m ((c.tc : Thread Cert.DxInNext.nD Cert.DxInNext.τ).loc Cert.DxInNext.main_arg2))
      ∧ r.2.sem = fun _ => 0)

def quiescent_DxInNextIdeal [hDxInNextIdeal : Cert.DxInNextIdeal.Facts] : Prop :=
  ∀ (m : (ℓ : Loc Cert.DxInNextIdeal.nD Cert.DxInNextIdeal.τ Cert.DxInNextIdeal.sig) → Buf (Elt Ideal) ℓ) (g : Dev Cert.DxInNextIdeal.nD → PrngReg), Pre_DxInNextIdeal m →
    θ_run (Cert.DxInNextIdeal.defs (F := Ideal)) (onTc (τ := Cert.DxInNextIdeal.τ) (Cert.DxInNextIdeal.main (F := Ideal))) ⟨m, fun _ => 0, g⟩ (fun r => (∀ c : Dev Cert.DxInNextIdeal.nD,
      r.2.mem ((c.tc : Thread Cert.DxInNextIdeal.nD Cert.DxInNextIdeal.τ).loc Cert.DxInNextIdeal.main_arg0) = m ((c.tc : Thread Cert.DxInNextIdeal.nD Cert.DxInNextIdeal.τ).loc Cert.DxInNextIdeal.main_arg0)
      ∧ r.2.mem ((c.tc : Thread Cert.DxInNextIdeal.nD Cert.DxInNextIdeal.τ).loc Cert.DxInNextIdeal.main_arg1) = m ((c.tc : Thread Cert.DxInNextIdeal.nD Cert.DxInNextIdeal.τ).loc Cert.DxInNextIdeal.main_arg1)
      ∧ r.2.mem ((c.tc : Thread Cert.DxInNextIdeal.nD Cert.DxInNextIdeal.τ).loc Cert.DxInNextIdeal.main_arg2) = m ((c.tc : Thread Cert.DxInNextIdeal.nD Cert.DxInNextIdeal.τ).loc Cert.DxInNextIdeal.main_arg2))
      ∧ r.2.sem = fun _ => 0)

def quiescent_DxInNextRefIdeal [hDxInNextRefIdeal : Cert.DxInNextRefIdeal.Facts] : Prop :=
  ∀ (m : (ℓ : Loc Cert.DxInNextRefIdeal.nD Cert.DxInNextRefIdeal.τ Cert.DxInNextRefIdeal.sig) → Buf (Elt Ideal) ℓ) (g : Dev Cert.DxInNextRefIdeal.nD → PrngReg), Pre_DxInNextRefIdeal m →
    θ_run (Cert.DxInNextRefIdeal.defs (F := Ideal)) (onTc (τ := Cert.DxInNextRefIdeal.τ) (Cert.DxInNextRefIdeal.main (F := Ideal))) ⟨m, fun _ => 0, g⟩ (fun r => (∀ c : Dev Cert.DxInNextRefIdeal.nD,
      r.2.mem ((c.tc : Thread Cert.DxInNextRefIdeal.nD Cert.DxInNextRefIdeal.τ).loc Cert.DxInNextRefIdeal.main_arg0) = m ((c.tc : Thread Cert.DxInNextRefIdeal.nD Cert.DxInNextRefIdeal.τ).loc Cert.DxInNextRefIdeal.main_arg0)
      ∧ r.2.mem ((c.tc : Thread Cert.DxInNextRefIdeal.nD Cert.DxInNextRefIdeal.τ).loc Cert.DxInNextRefIdeal.main_arg1) = m ((c.tc : Thread Cert.DxInNextRefIdeal.nD Cert.DxInNextRefIdeal.τ).loc Cert.DxInNextRefIdeal.main_arg1)
      ∧ r.2.mem ((c.tc : Thread Cert.DxInNextRefIdeal.nD Cert.DxInNextRefIdeal.τ).loc Cert.DxInNextRefIdeal.main_arg2) = m ((c.tc : Thread Cert.DxInNextRefIdeal.nD Cert.DxInNextRefIdeal.τ).loc Cert.DxInNextRefIdeal.main_arg2))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2))
      ∧ r.2.sem = fun _ => 0)

def quiescent_ProjOutRefIdeal [hProjOutRefIdeal : Cert.ProjOutRefIdeal.Facts] : Prop :=
  ∀ (m : (ℓ : Loc Cert.ProjOutRefIdeal.nD Cert.ProjOutRefIdeal.τ Cert.ProjOutRefIdeal.sig) → Buf (Elt Ideal) ℓ) (g : Dev Cert.ProjOutRefIdeal.nD → PrngReg), Pre_ProjOutRefIdeal m →
    θ_run (Cert.ProjOutRefIdeal.defs (F := Ideal)) (onTc (τ := Cert.ProjOutRefIdeal.τ) (Cert.ProjOutRefIdeal.main (F := Ideal))) ⟨m, fun _ => 0, g⟩ (fun r => (∀ c : Dev Cert.ProjOutRefIdeal.nD,
      r.2.mem ((c.tc : Thread Cert.ProjOutRefIdeal.nD Cert.ProjOutRefIdeal.τ).loc Cert.ProjOutRefIdeal.main_arg0) = m ((c.tc : Thread Cert.ProjOutRefIdeal.nD Cert.ProjOutRefIdeal.τ).loc Cert.ProjOutRefIdeal.main_arg0)
      ∧ r.2.mem ((c.tc : Thread Cert.ProjOutRefIdeal.nD Cert.ProjOutRefIdeal.τ).loc Cert.ProjOutRefIdeal.main_arg1) = m ((c.tc : Thread Cert.ProjOutRefIdeal.nD Cert.ProjOutRefIdeal.τ).loc Cert.ProjOutRefIdeal.main_arg1)
      ∧ r.2.mem ((c.tc : Thread Cert.ProjOutRefIdeal.nD Cert.ProjOutRefIdeal.τ).loc Cert.ProjOutRefIdeal.main_arg2) = m ((c.tc : Thread Cert.ProjOutRefIdeal.nD Cert.ProjOutRefIdeal.τ).loc Cert.ProjOutRefIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DxOut [hDxOut : Cert.DxOut.Facts] : Prop :=
  ∀ (m : (ℓ : Loc Cert.DxOut.nD Cert.DxOut.τ Cert.DxOut.sig) → Buf (Elt Bits) ℓ) (g : Dev Cert.DxOut.nD → PrngReg), Pre_DxOut m →
    θ_run (Cert.DxOut.defs (F := Bits)) (onTc (τ := Cert.DxOut.τ) (Cert.DxOut.main (F := Bits))) ⟨m, fun _ => 0, g⟩ (fun r => (∀ c : Dev Cert.DxOut.nD,
      r.2.mem ((c.tc : Thread Cert.DxOut.nD Cert.DxOut.τ).loc Cert.DxOut.main_arg0) = m ((c.tc : Thread Cert.DxOut.nD Cert.DxOut.τ).loc Cert.DxOut.main_arg0)
      ∧ r.2.mem ((c.tc : Thread Cert.DxOut.nD Cert.DxOut.τ).loc Cert.DxOut.main_arg1) = m ((c.tc : Thread Cert.DxOut.nD Cert.DxOut.τ).loc Cert.DxOut.main_arg1))
      ∧ r.2.sem = fun _ => 0)

def quiescent_DxOutIdeal [hDxOutIdeal : Cert.DxOutIdeal.Facts] : Prop :=
  ∀ (m : (ℓ : Loc Cert.DxOutIdeal.nD Cert.DxOutIdeal.τ Cert.DxOutIdeal.sig) → Buf (Elt Ideal) ℓ) (g : Dev Cert.DxOutIdeal.nD → PrngReg), Pre_DxOutIdeal m →
    θ_run (Cert.DxOutIdeal.defs (F := Ideal)) (onTc (τ := Cert.DxOutIdeal.τ) (Cert.DxOutIdeal.main (F := Ideal))) ⟨m, fun _ => 0, g⟩ (fun r => (∀ c : Dev Cert.DxOutIdeal.nD,
      r.2.mem ((c.tc : Thread Cert.DxOutIdeal.nD Cert.DxOutIdeal.τ).loc Cert.DxOutIdeal.main_arg0) = m ((c.tc : Thread Cert.DxOutIdeal.nD Cert.DxOutIdeal.τ).loc Cert.DxOutIdeal.main_arg0)
      ∧ r.2.mem ((c.tc : Thread Cert.DxOutIdeal.nD Cert.DxOutIdeal.τ).loc Cert.DxOutIdeal.main_arg1) = m ((c.tc : Thread Cert.DxOutIdeal.nD Cert.DxOutIdeal.τ).loc Cert.DxOutIdeal.main_arg1))
      ∧ r.2.sem = fun _ => 0)

def quiescent_DxOutRefIdeal [hDxOutRefIdeal : Cert.DxOutRefIdeal.Facts] : Prop :=
  ∀ (m : (ℓ : Loc Cert.DxOutRefIdeal.nD Cert.DxOutRefIdeal.τ Cert.DxOutRefIdeal.sig) → Buf (Elt Ideal) ℓ) (g : Dev Cert.DxOutRefIdeal.nD → PrngReg), Pre_DxOutRefIdeal m →
    θ_run (Cert.DxOutRefIdeal.defs (F := Ideal)) (onTc (τ := Cert.DxOutRefIdeal.τ) (Cert.DxOutRefIdeal.main (F := Ideal))) ⟨m, fun _ => 0, g⟩ (fun r => (∀ c : Dev Cert.DxOutRefIdeal.nD,
      r.2.mem ((c.tc : Thread Cert.DxOutRefIdeal.nD Cert.DxOutRefIdeal.τ).loc Cert.DxOutRefIdeal.main_arg0) = m ((c.tc : Thread Cert.DxOutRefIdeal.nD Cert.DxOutRefIdeal.τ).loc Cert.DxOutRefIdeal.main_arg0)
      ∧ r.2.mem ((c.tc : Thread Cert.DxOutRefIdeal.nD Cert.DxOutRefIdeal.τ).loc Cert.DxOutRefIdeal.main_arg1) = m ((c.tc : Thread Cert.DxOutRefIdeal.nD Cert.DxOutRefIdeal.τ).loc Cert.DxOutRefIdeal.main_arg1))
      ∧ r.2.sem = fun _ => 0)

def quiescent_SqIn [hSqIn : Cert.SqIn.Facts] : Prop :=
  ∀ (m : (ℓ : Loc Cert.SqIn.nD Cert.SqIn.τ Cert.SqIn.sig) → Buf (Elt Bits) ℓ) (g : Dev Cert.SqIn.nD → PrngReg), Pre_SqIn m →
    θ_run (Cert.SqIn.defs (F := Bits)) (onTc (τ := Cert.SqIn.τ) (Cert.SqIn.main (F := Bits))) ⟨m, fun _ => 0, g⟩ (fun r => (∀ c : Dev Cert.SqIn.nD,
      r.2.mem ((c.tc : Thread Cert.SqIn.nD Cert.SqIn.τ).loc Cert.SqIn.main_arg0) = m ((c.tc : Thread Cert.SqIn.nD Cert.SqIn.τ).loc Cert.SqIn.main_arg0)
      ∧ r.2.mem ((c.tc : Thread Cert.SqIn.nD Cert.SqIn.τ).loc Cert.SqIn.main_arg1) = m ((c.tc : Thread Cert.SqIn.nD Cert.SqIn.τ).loc Cert.SqIn.main_arg1))
      ∧ r.2.sem = fun _ => 0)

def quiescent_SqInIdeal [hSqInIdeal : Cert.SqInIdeal.Facts] : Prop :=
  ∀ (m : (ℓ : Loc Cert.SqInIdeal.nD Cert.SqInIdeal.τ Cert.SqInIdeal.sig) → Buf (Elt Ideal) ℓ) (g : Dev Cert.SqInIdeal.nD → PrngReg), Pre_SqInIdeal m →
    θ_run (Cert.SqInIdeal.defs (F := Ideal)) (onTc (τ := Cert.SqInIdeal.τ) (Cert.SqInIdeal.main (F := Ideal))) ⟨m, fun _ => 0, g⟩ (fun r => (∀ c : Dev Cert.SqInIdeal.nD,
      r.2.mem ((c.tc : Thread Cert.SqInIdeal.nD Cert.SqInIdeal.τ).loc Cert.SqInIdeal.main_arg0) = m ((c.tc : Thread Cert.SqInIdeal.nD Cert.SqInIdeal.τ).loc Cert.SqInIdeal.main_arg0)
      ∧ r.2.mem ((c.tc : Thread Cert.SqInIdeal.nD Cert.SqInIdeal.τ).loc Cert.SqInIdeal.main_arg1) = m ((c.tc : Thread Cert.SqInIdeal.nD Cert.SqInIdeal.τ).loc Cert.SqInIdeal.main_arg1))
      ∧ r.2.sem = fun _ => 0)

def quiescent_SqInRefIdeal [hSqInRefIdeal : Cert.SqInRefIdeal.Facts] : Prop :=
  ∀ (m : (ℓ : Loc Cert.SqInRefIdeal.nD Cert.SqInRefIdeal.τ Cert.SqInRefIdeal.sig) → Buf (Elt Ideal) ℓ) (g : Dev Cert.SqInRefIdeal.nD → PrngReg), Pre_SqInRefIdeal m →
    θ_run (Cert.SqInRefIdeal.defs (F := Ideal)) (onTc (τ := Cert.SqInRefIdeal.τ) (Cert.SqInRefIdeal.main (F := Ideal))) ⟨m, fun _ => 0, g⟩ (fun r => (∀ c : Dev Cert.SqInRefIdeal.nD,
      r.2.mem ((c.tc : Thread Cert.SqInRefIdeal.nD Cert.SqInRefIdeal.τ).loc Cert.SqInRefIdeal.main_arg0) = m ((c.tc : Thread Cert.SqInRefIdeal.nD Cert.SqInRefIdeal.τ).loc Cert.SqInRefIdeal.main_arg0)
      ∧ r.2.mem ((c.tc : Thread Cert.SqInRefIdeal.nD Cert.SqInRefIdeal.τ).loc Cert.SqInRefIdeal.main_arg1) = m ((c.tc : Thread Cert.SqInRefIdeal.nD Cert.SqInRefIdeal.τ).loc Cert.SqInRefIdeal.main_arg1))
      ∧ r.2.sem = fun _ => 0)

def quiescent_SqDwIn [hSqDwIn : Cert.SqDwIn.Facts] : Prop :=
  ∀ (m : (ℓ : Loc Cert.SqDwIn.nD Cert.SqDwIn.τ Cert.SqDwIn.sig) → Buf (Elt Bits) ℓ) (g : Dev Cert.SqDwIn.nD → PrngReg), Pre_SqDwIn m →
    θ_run (Cert.SqDwIn.defs (F := Bits)) (onTc (τ := Cert.SqDwIn.τ) (Cert.SqDwIn.main (F := Bits))) ⟨m, fun _ => 0, g⟩ (fun r => (∀ c : Dev Cert.SqDwIn.nD,
      r.2.mem ((c.tc : Thread Cert.SqDwIn.nD Cert.SqDwIn.τ).loc Cert.SqDwIn.main_arg0) = m ((c.tc : Thread Cert.SqDwIn.nD Cert.SqDwIn.τ).loc Cert.SqDwIn.main_arg0)
      ∧ r.2.mem ((c.tc : Thread Cert.SqDwIn.nD Cert.SqDwIn.τ).loc Cert.SqDwIn.main_arg1) = m ((c.tc : Thread Cert.SqDwIn.nD Cert.SqDwIn.τ).loc Cert.SqDwIn.main_arg1))
      ∧ r.2.sem = fun _ => 0)

def quiescent_SqDwInIdeal [hSqDwInIdeal : Cert.SqDwInIdeal.Facts] : Prop :=
  ∀ (m : (ℓ : Loc Cert.SqDwInIdeal.nD Cert.SqDwInIdeal.τ Cert.SqDwInIdeal.sig) → Buf (Elt Ideal) ℓ) (g : Dev Cert.SqDwInIdeal.nD → PrngReg), Pre_SqDwInIdeal m →
    θ_run (Cert.SqDwInIdeal.defs (F := Ideal)) (onTc (τ := Cert.SqDwInIdeal.τ) (Cert.SqDwInIdeal.main (F := Ideal))) ⟨m, fun _ => 0, g⟩ (fun r => (∀ c : Dev Cert.SqDwInIdeal.nD,
      r.2.mem ((c.tc : Thread Cert.SqDwInIdeal.nD Cert.SqDwInIdeal.τ).loc Cert.SqDwInIdeal.main_arg0) = m ((c.tc : Thread Cert.SqDwInIdeal.nD Cert.SqDwInIdeal.τ).loc Cert.SqDwInIdeal.main_arg0)
      ∧ r.2.mem ((c.tc : Thread Cert.SqDwInIdeal.nD Cert.SqDwInIdeal.τ).loc Cert.SqDwInIdeal.main_arg1) = m ((c.tc : Thread Cert.SqDwInIdeal.nD Cert.SqDwInIdeal.τ).loc Cert.SqDwInIdeal.main_arg1))
      ∧ r.2.sem = fun _ => 0)

def quiescent_SqDwInRefIdeal [hSqDwInRefIdeal : Cert.SqDwInRefIdeal.Facts] : Prop :=
  ∀ (m : (ℓ : Loc Cert.SqDwInRefIdeal.nD Cert.SqDwInRefIdeal.τ Cert.SqDwInRefIdeal.sig) → Buf (Elt Ideal) ℓ) (g : Dev Cert.SqDwInRefIdeal.nD → PrngReg), Pre_SqDwInRefIdeal m →
    θ_run (Cert.SqDwInRefIdeal.defs (F := Ideal)) (onTc (τ := Cert.SqDwInRefIdeal.τ) (Cert.SqDwInRefIdeal.main (F := Ideal))) ⟨m, fun _ => 0, g⟩ (fun r => (∀ c : Dev Cert.SqDwInRefIdeal.nD,
      r.2.mem ((c.tc : Thread Cert.SqDwInRefIdeal.nD Cert.SqDwInRefIdeal.τ).loc Cert.SqDwInRefIdeal.main_arg0) = m ((c.tc : Thread Cert.SqDwInRefIdeal.nD Cert.SqDwInRefIdeal.τ).loc Cert.SqDwInRefIdeal.main_arg0)
      ∧ r.2.mem ((c.tc : Thread Cert.SqDwInRefIdeal.nD Cert.SqDwInRefIdeal.τ).loc Cert.SqDwInRefIdeal.main_arg1) = m ((c.tc : Thread Cert.SqDwInRefIdeal.nD Cert.SqDwInRefIdeal.τ).loc Cert.SqDwInRefIdeal.main_arg1))
      ∧ r.2.sem = fun _ => 0)

def quiescent_SqDxIn [hSqDxIn : Cert.SqDxIn.Facts] : Prop :=
  ∀ (m : (ℓ : Loc Cert.SqDxIn.nD Cert.SqDxIn.τ Cert.SqDxIn.sig) → Buf (Elt Bits) ℓ) (g : Dev Cert.SqDxIn.nD → PrngReg), Pre_SqDxIn m →
    θ_run (Cert.SqDxIn.defs (F := Bits)) (onTc (τ := Cert.SqDxIn.τ) (Cert.SqDxIn.main (F := Bits))) ⟨m, fun _ => 0, g⟩ (fun r => (∀ c : Dev Cert.SqDxIn.nD,
      r.2.mem ((c.tc : Thread Cert.SqDxIn.nD Cert.SqDxIn.τ).loc Cert.SqDxIn.main_arg0) = m ((c.tc : Thread Cert.SqDxIn.nD Cert.SqDxIn.τ).loc Cert.SqDxIn.main_arg0)
      ∧ r.2.mem ((c.tc : Thread Cert.SqDxIn.nD Cert.SqDxIn.τ).loc Cert.SqDxIn.main_arg1) = m ((c.tc : Thread Cert.SqDxIn.nD Cert.SqDxIn.τ).loc Cert.SqDxIn.main_arg1))
      ∧ r.2.sem = fun _ => 0)

def quiescent_SqDxInIdeal [hSqDxInIdeal : Cert.SqDxInIdeal.Facts] : Prop :=
  ∀ (m : (ℓ : Loc Cert.SqDxInIdeal.nD Cert.SqDxInIdeal.τ Cert.SqDxInIdeal.sig) → Buf (Elt Ideal) ℓ) (g : Dev Cert.SqDxInIdeal.nD → PrngReg), Pre_SqDxInIdeal m →
    θ_run (Cert.SqDxInIdeal.defs (F := Ideal)) (onTc (τ := Cert.SqDxInIdeal.τ) (Cert.SqDxInIdeal.main (F := Ideal))) ⟨m, fun _ => 0, g⟩ (fun r => (∀ c : Dev Cert.SqDxInIdeal.nD,
      r.2.mem ((c.tc : Thread Cert.SqDxInIdeal.nD Cert.SqDxInIdeal.τ).loc Cert.SqDxInIdeal.main_arg0) = m ((c.tc : Thread Cert.SqDxInIdeal.nD Cert.SqDxInIdeal.τ).loc Cert.SqDxInIdeal.main_arg0)
      ∧ r.2.mem ((c.tc : Thread Cert.SqDxInIdeal.nD Cert.SqDxInIdeal.τ).loc Cert.SqDxInIdeal.main_arg1) = m ((c.tc : Thread Cert.SqDxInIdeal.nD Cert.SqDxInIdeal.τ).loc Cert.SqDxInIdeal.main_arg1))
      ∧ r.2.sem = fun _ => 0)

def quiescent_SqDxInRefIdeal [hSqDxInRefIdeal : Cert.SqDxInRefIdeal.Facts] : Prop :=
  ∀ (m : (ℓ : Loc Cert.SqDxInRefIdeal.nD Cert.SqDxInRefIdeal.τ Cert.SqDxInRefIdeal.sig) → Buf (Elt Ideal) ℓ) (g : Dev Cert.SqDxInRefIdeal.nD → PrngReg), Pre_SqDxInRefIdeal m →
    θ_run (Cert.SqDxInRefIdeal.defs (F := Ideal)) (onTc (τ := Cert.SqDxInRefIdeal.τ) (Cert.SqDxInRefIdeal.main (F := Ideal))) ⟨m, fun _ => 0, g⟩ (fun r => (∀ c : Dev Cert.SqDxInRefIdeal.nD,
      r.2.mem ((c.tc : Thread Cert.SqDxInRefIdeal.nD Cert.SqDxInRefIdeal.τ).loc Cert.SqDxInRefIdeal.main_arg0) = m ((c.tc : Thread Cert.SqDxInRefIdeal.nD Cert.SqDxInRefIdeal.τ).loc Cert.SqDxInRefIdeal.main_arg0)
      ∧ r.2.mem ((c.tc : Thread Cert.SqDxInRefIdeal.nD Cert.SqDxInRefIdeal.τ).loc Cert.SqDxInRefIdeal.main_arg1) = m ((c.tc : Thread Cert.SqDxInRefIdeal.nD Cert.SqDxInRefIdeal.τ).loc Cert.SqDxInRefIdeal.main_arg1))
      ∧ r.2.sem = fun _ => 0)

def quiescent_SqDxInNext [hSqDxInNext : Cert.SqDxInNext.Facts] : Prop :=
  ∀ (m : (ℓ : Loc Cert.SqDxInNext.nD Cert.SqDxInNext.τ Cert.SqDxInNext.sig) → Buf (Elt Bits) ℓ) (g : Dev Cert.SqDxInNext.nD → PrngReg), Pre_SqDxInNext m →
    θ_run (Cert.SqDxInNext.defs (F := Bits)) (onTc (τ := Cert.SqDxInNext.τ) (Cert.SqDxInNext.main (F := Bits))) ⟨m, fun _ => 0, g⟩ (fun r => (∀ c : Dev Cert.SqDxInNext.nD,
      r.2.mem ((c.tc : Thread Cert.SqDxInNext.nD Cert.SqDxInNext.τ).loc Cert.SqDxInNext.main_arg0) = m ((c.tc : Thread Cert.SqDxInNext.nD Cert.SqDxInNext.τ).loc Cert.SqDxInNext.main_arg0)
      ∧ r.2.mem ((c.tc : Thread Cert.SqDxInNext.nD Cert.SqDxInNext.τ).loc Cert.SqDxInNext.main_arg1) = m ((c.tc : Thread Cert.SqDxInNext.nD Cert.SqDxInNext.τ).loc Cert.SqDxInNext.main_arg1)
      ∧ r.2.mem ((c.tc : Thread Cert.SqDxInNext.nD Cert.SqDxInNext.τ).loc Cert.SqDxInNext.main_arg2) = m ((c.tc : Thread Cert.SqDxInNext.nD Cert.SqDxInNext.τ).loc Cert.SqDxInNext.main_arg2))
      ∧ r.2.sem = fun _ => 0)

def quiescent_SqDxInNextIdeal [hSqDxInNextIdeal : Cert.SqDxInNextIdeal.Facts] : Prop :=
  ∀ (m : (ℓ : Loc Cert.SqDxInNextIdeal.nD Cert.SqDxInNextIdeal.τ Cert.SqDxInNextIdeal.sig) → Buf (Elt Ideal) ℓ) (g : Dev Cert.SqDxInNextIdeal.nD → PrngReg), Pre_SqDxInNextIdeal m →
    θ_run (Cert.SqDxInNextIdeal.defs (F := Ideal)) (onTc (τ := Cert.SqDxInNextIdeal.τ) (Cert.SqDxInNextIdeal.main (F := Ideal))) ⟨m, fun _ => 0, g⟩ (fun r => (∀ c : Dev Cert.SqDxInNextIdeal.nD,
      r.2.mem ((c.tc : Thread Cert.SqDxInNextIdeal.nD Cert.SqDxInNextIdeal.τ).loc Cert.SqDxInNextIdeal.main_arg0) = m ((c.tc : Thread Cert.SqDxInNextIdeal.nD Cert.SqDxInNextIdeal.τ).loc Cert.SqDxInNextIdeal.main_arg0)
      ∧ r.2.mem ((c.tc : Thread Cert.SqDxInNextIdeal.nD Cert.SqDxInNextIdeal.τ).loc Cert.SqDxInNextIdeal.main_arg1) = m ((c.tc : Thread Cert.SqDxInNextIdeal.nD Cert.SqDxInNextIdeal.τ).loc Cert.SqDxInNextIdeal.main_arg1)
      ∧ r.2.mem ((c.tc : Thread Cert.SqDxInNextIdeal.nD Cert.SqDxInNextIdeal.τ).loc Cert.SqDxInNextIdeal.main_arg2) = m ((c.tc : Thread Cert.SqDxInNextIdeal.nD Cert.SqDxInNextIdeal.τ).loc Cert.SqDxInNextIdeal.main_arg2))
      ∧ r.2.sem = fun _ => 0)

def quiescent_SqDxInNextRefIdeal [hSqDxInNextRefIdeal : Cert.SqDxInNextRefIdeal.Facts] : Prop :=
  ∀ (m : (ℓ : Loc Cert.SqDxInNextRefIdeal.nD Cert.SqDxInNextRefIdeal.τ Cert.SqDxInNextRefIdeal.sig) → Buf (Elt Ideal) ℓ) (g : Dev Cert.SqDxInNextRefIdeal.nD → PrngReg), Pre_SqDxInNextRefIdeal m →
    θ_run (Cert.SqDxInNextRefIdeal.defs (F := Ideal)) (onTc (τ := Cert.SqDxInNextRefIdeal.τ) (Cert.SqDxInNextRefIdeal.main (F := Ideal))) ⟨m, fun _ => 0, g⟩ (fun r => (∀ c : Dev Cert.SqDxInNextRefIdeal.nD,
      r.2.mem ((c.tc : Thread Cert.SqDxInNextRefIdeal.nD Cert.SqDxInNextRefIdeal.τ).loc Cert.SqDxInNextRefIdeal.main_arg0) = m ((c.tc : Thread Cert.SqDxInNextRefIdeal.nD Cert.SqDxInNextRefIdeal.τ).loc Cert.SqDxInNextRefIdeal.main_arg0)
      ∧ r.2.mem ((c.tc : Thread Cert.SqDxInNextRefIdeal.nD Cert.SqDxInNextRefIdeal.τ).loc Cert.SqDxInNextRefIdeal.main_arg1) = m ((c.tc : Thread Cert.SqDxInNextRefIdeal.nD Cert.SqDxInNextRefIdeal.τ).loc Cert.SqDxInNextRefIdeal.main_arg1)
      ∧ r.2.mem ((c.tc : Thread Cert.SqDxInNextRefIdeal.nD Cert.SqDxInNextRefIdeal.τ).loc Cert.SqDxInNextRefIdeal.main_arg2) = m ((c.tc : Thread Cert.SqDxInNextRefIdeal.nD Cert.SqDxInNextRefIdeal.τ).loc Cert.SqDxInNextRefIdeal.main_arg2))
      ∧ r.2.sem = fun _ => 0)

def quiescent_SqQuery [hSqQuery : Cert.SqQuery.Facts] : Prop :=
  ∀ (m : (ℓ : Loc Cert.SqQuery.nD Cert.SqQuery.τ Cert.SqQuery.sig) → Buf (Elt Bits) ℓ) (g : Dev Cert.SqQuery.nD → PrngReg), Pre_SqQuery m →
    θ_run (Cert.SqQuery.defs (F := Bits)) (onTc (τ := Cert.SqQuery.τ) (Cert.SqQuery.main (F := Bits))) ⟨m, fun _ => 0, g⟩ (fun r => (∀ c : Dev Cert.SqQuery.nD,
      r.2.mem ((c.tc : Thread Cert.SqQuery.nD Cert.SqQuery.τ).loc Cert.SqQuery.main_arg0) = m ((c.tc : Thread Cert.SqQuery.nD Cert.SqQuery.τ).loc Cert.SqQuery.main_arg0)
      ∧ r.2.mem ((c.tc : Thread Cert.SqQuery.nD Cert.SqQuery.τ).loc Cert.SqQuery.main_arg1) = m ((c.tc : Thread Cert.SqQuery.nD Cert.SqQuery.τ).loc Cert.SqQuery.main_arg1))
      ∧ r.2.sem = fun _ => 0)

def quiescent_SqQueryIdeal [hSqQueryIdeal : Cert.SqQueryIdeal.Facts] : Prop :=
  ∀ (m : (ℓ : Loc Cert.SqQueryIdeal.nD Cert.SqQueryIdeal.τ Cert.SqQueryIdeal.sig) → Buf (Elt Ideal) ℓ) (g : Dev Cert.SqQueryIdeal.nD → PrngReg), Pre_SqQueryIdeal m →
    θ_run (Cert.SqQueryIdeal.defs (F := Ideal)) (onTc (τ := Cert.SqQueryIdeal.τ) (Cert.SqQueryIdeal.main (F := Ideal))) ⟨m, fun _ => 0, g⟩ (fun r => (∀ c : Dev Cert.SqQueryIdeal.nD,
      r.2.mem ((c.tc : Thread Cert.SqQueryIdeal.nD Cert.SqQueryIdeal.τ).loc Cert.SqQueryIdeal.main_arg0) = m ((c.tc : Thread Cert.SqQueryIdeal.nD Cert.SqQueryIdeal.τ).loc Cert.SqQueryIdeal.main_arg0)
      ∧ r.2.mem ((c.tc : Thread Cert.SqQueryIdeal.nD Cert.SqQueryIdeal.τ).loc Cert.SqQueryIdeal.main_arg1) = m ((c.tc : Thread Cert.SqQueryIdeal.nD Cert.SqQueryIdeal.τ).loc Cert.SqQueryIdeal.main_arg1))
      ∧ r.2.sem = fun _ => 0)

def quiescent_SqQueryRefIdeal [hSqQueryRefIdeal : Cert.SqQueryRefIdeal.Facts] : Prop :=
  ∀ (m : (ℓ : Loc Cert.SqQueryRefIdeal.nD Cert.SqQueryRefIdeal.τ Cert.SqQueryRefIdeal.sig) → Buf (Elt Ideal) ℓ) (g : Dev Cert.SqQueryRefIdeal.nD → PrngReg), Pre_SqQueryRefIdeal m →
    θ_run (Cert.SqQueryRefIdeal.defs (F := Ideal)) (onTc (τ := Cert.SqQueryRefIdeal.τ) (Cert.SqQueryRefIdeal.main (F := Ideal))) ⟨m, fun _ => 0, g⟩ (fun r => (∀ c : Dev Cert.SqQueryRefIdeal.nD,
      r.2.mem ((c.tc : Thread Cert.SqQueryRefIdeal.nD Cert.SqQueryRefIdeal.τ).loc Cert.SqQueryRefIdeal.main_arg0) = m ((c.tc : Thread Cert.SqQueryRefIdeal.nD Cert.SqQueryRefIdeal.τ).loc Cert.SqQueryRefIdeal.main_arg0)
      ∧ r.2.mem ((c.tc : Thread Cert.SqQueryRefIdeal.nD Cert.SqQueryRefIdeal.τ).loc Cert.SqQueryRefIdeal.main_arg1) = m ((c.tc : Thread Cert.SqQueryRefIdeal.nD Cert.SqQueryRefIdeal.τ).loc Cert.SqQueryRefIdeal.main_arg1))
      ∧ r.2.sem = fun _ => 0)

def quiescent_SqOut [hSqOut : Cert.SqOut.Facts] : Prop :=
  ∀ (m : (ℓ : Loc Cert.SqOut.nD Cert.SqOut.τ Cert.SqOut.sig) → Buf (Elt Bits) ℓ) (g : Dev Cert.SqOut.nD → PrngReg), Pre_SqOut m →
    θ_run (Cert.SqOut.defs (F := Bits)) (onTc (τ := Cert.SqOut.τ) (Cert.SqOut.main (F := Bits))) ⟨m, fun _ => 0, g⟩ (fun r => (∀ c : Dev Cert.SqOut.nD,
      r.2.mem ((c.tc : Thread Cert.SqOut.nD Cert.SqOut.τ).loc Cert.SqOut.main_arg0) = m ((c.tc : Thread Cert.SqOut.nD Cert.SqOut.τ).loc Cert.SqOut.main_arg0)
      ∧ r.2.mem ((c.tc : Thread Cert.SqOut.nD Cert.SqOut.τ).loc Cert.SqOut.main_arg1) = m ((c.tc : Thread Cert.SqOut.nD Cert.SqOut.τ).loc Cert.SqOut.main_arg1)
      ∧ r.2.mem ((c.tc : Thread Cert.SqOut.nD Cert.SqOut.τ).loc Cert.SqOut.main_arg2) = m ((c.tc : Thread Cert.SqOut.nD Cert.SqOut.τ).loc Cert.SqOut.main_arg2))
      ∧ r.2.sem = fun _ => 0)

def quiescent_SqOutIdeal [hSqOutIdeal : Cert.SqOutIdeal.Facts] : Prop :=
  ∀ (m : (ℓ : Loc Cert.SqOutIdeal.nD Cert.SqOutIdeal.τ Cert.SqOutIdeal.sig) → Buf (Elt Ideal) ℓ) (g : Dev Cert.SqOutIdeal.nD → PrngReg), Pre_SqOutIdeal m →
    θ_run (Cert.SqOutIdeal.defs (F := Ideal)) (onTc (τ := Cert.SqOutIdeal.τ) (Cert.SqOutIdeal.main (F := Ideal))) ⟨m, fun _ => 0, g⟩ (fun r => (∀ c : Dev Cert.SqOutIdeal.nD,
      r.2.mem ((c.tc : Thread Cert.SqOutIdeal.nD Cert.SqOutIdeal.τ).loc Cert.SqOutIdeal.main_arg0) = m ((c.tc : Thread Cert.SqOutIdeal.nD Cert.SqOutIdeal.τ).loc Cert.SqOutIdeal.main_arg0)
      ∧ r.2.mem ((c.tc : Thread Cert.SqOutIdeal.nD Cert.SqOutIdeal.τ).loc Cert.SqOutIdeal.main_arg1) = m ((c.tc : Thread Cert.SqOutIdeal.nD Cert.SqOutIdeal.τ).loc Cert.SqOutIdeal.main_arg1)
      ∧ r.2.mem ((c.tc : Thread Cert.SqOutIdeal.nD Cert.SqOutIdeal.τ).loc Cert.SqOutIdeal.main_arg2) = m ((c.tc : Thread Cert.SqOutIdeal.nD Cert.SqOutIdeal.τ).loc Cert.SqOutIdeal.main_arg2))
      ∧ r.2.sem = fun _ => 0)

def quiescent_SqOutRefIdeal [hSqOutRefIdeal : Cert.SqOutRefIdeal.Facts] : Prop :=
  ∀ (m : (ℓ : Loc Cert.SqOutRefIdeal.nD Cert.SqOutRefIdeal.τ Cert.SqOutRefIdeal.sig) → Buf (Elt Ideal) ℓ) (g : Dev Cert.SqOutRefIdeal.nD → PrngReg), Pre_SqOutRefIdeal m →
    θ_run (Cert.SqOutRefIdeal.defs (F := Ideal)) (onTc (τ := Cert.SqOutRefIdeal.τ) (Cert.SqOutRefIdeal.main (F := Ideal))) ⟨m, fun _ => 0, g⟩ (fun r => (∀ c : Dev Cert.SqOutRefIdeal.nD,
      r.2.mem ((c.tc : Thread Cert.SqOutRefIdeal.nD Cert.SqOutRefIdeal.τ).loc Cert.SqOutRefIdeal.main_arg0) = m ((c.tc : Thread Cert.SqOutRefIdeal.nD Cert.SqOutRefIdeal.τ).loc Cert.SqOutRefIdeal.main_arg0)
      ∧ r.2.mem ((c.tc : Thread Cert.SqOutRefIdeal.nD Cert.SqOutRefIdeal.τ).loc Cert.SqOutRefIdeal.main_arg1) = m ((c.tc : Thread Cert.SqOutRefIdeal.nD Cert.SqOutRefIdeal.τ).loc Cert.SqOutRefIdeal.main_arg1)
      ∧ r.2.mem ((c.tc : Thread Cert.SqOutRefIdeal.nD Cert.SqOutRefIdeal.τ).loc Cert.SqOutRefIdeal.main_arg2) = m ((c.tc : Thread Cert.SqOutRefIdeal.nD Cert.SqOutRefIdeal.τ).loc Cert.SqOutRefIdeal.main_arg2))
      ∧ r.2.sem = fun _ => 0)

def quiescent_SqDwOut [hSqDwOut : Cert.SqDwOut.Facts] : Prop :=
  ∀ (m : (ℓ : Loc Cert.SqDwOut.nD Cert.SqDwOut.τ Cert.SqDwOut.sig) → Buf (Elt Bits) ℓ) (g : Dev Cert.SqDwOut.nD → PrngReg), Pre_SqDwOut m →
    θ_run (Cert.SqDwOut.defs (F := Bits)) (onTc (τ := Cert.SqDwOut.τ) (Cert.SqDwOut.main (F := Bits))) ⟨m, fun _ => 0, g⟩ (fun r => (∀ c : Dev Cert.SqDwOut.nD,
      r.2.mem ((c.tc : Thread Cert.SqDwOut.nD Cert.SqDwOut.τ).loc Cert.SqDwOut.main_arg0) = m ((c.tc : Thread Cert.SqDwOut.nD Cert.SqDwOut.τ).loc Cert.SqDwOut.main_arg0)
      ∧ r.2.mem ((c.tc : Thread Cert.SqDwOut.nD Cert.SqDwOut.τ).loc Cert.SqDwOut.main_arg1) = m ((c.tc : Thread Cert.SqDwOut.nD Cert.SqDwOut.τ).loc Cert.SqDwOut.main_arg1))
      ∧ r.2.sem = fun _ => 0)

def quiescent_SqDwOutIdeal [hSqDwOutIdeal : Cert.SqDwOutIdeal.Facts] : Prop :=
  ∀ (m : (ℓ : Loc Cert.SqDwOutIdeal.nD Cert.SqDwOutIdeal.τ Cert.SqDwOutIdeal.sig) → Buf (Elt Ideal) ℓ) (g : Dev Cert.SqDwOutIdeal.nD → PrngReg), Pre_SqDwOutIdeal m →
    θ_run (Cert.SqDwOutIdeal.defs (F := Ideal)) (onTc (τ := Cert.SqDwOutIdeal.τ) (Cert.SqDwOutIdeal.main (F := Ideal))) ⟨m, fun _ => 0, g⟩ (fun r => (∀ c : Dev Cert.SqDwOutIdeal.nD,
      r.2.mem ((c.tc : Thread Cert.SqDwOutIdeal.nD Cert.SqDwOutIdeal.τ).loc Cert.SqDwOutIdeal.main_arg0) = m ((c.tc : Thread Cert.SqDwOutIdeal.nD Cert.SqDwOutIdeal.τ).loc Cert.SqDwOutIdeal.main_arg0)
      ∧ r.2.mem ((c.tc : Thread Cert.SqDwOutIdeal.nD Cert.SqDwOutIdeal.τ).loc Cert.SqDwOutIdeal.main_arg1) = m ((c.tc : Thread Cert.SqDwOutIdeal.nD Cert.SqDwOutIdeal.τ).loc Cert.SqDwOutIdeal.main_arg1))
      ∧ r.2.sem = fun _ => 0)

def quiescent_SqDwOutRefIdeal [hSqDwOutRefIdeal : Cert.SqDwOutRefIdeal.Facts] : Prop :=
  ∀ (m : (ℓ : Loc Cert.SqDwOutRefIdeal.nD Cert.SqDwOutRefIdeal.τ Cert.SqDwOutRefIdeal.sig) → Buf (Elt Ideal) ℓ) (g : Dev Cert.SqDwOutRefIdeal.nD → PrngReg), Pre_SqDwOutRefIdeal m →
    θ_run (Cert.SqDwOutRefIdeal.defs (F := Ideal)) (onTc (τ := Cert.SqDwOutRefIdeal.τ) (Cert.SqDwOutRefIdeal.main (F := Ideal))) ⟨m, fun _ => 0, g⟩ (fun r => (∀ c : Dev Cert.SqDwOutRefIdeal.nD,
      r.2.mem ((c.tc : Thread Cert.SqDwOutRefIdeal.nD Cert.SqDwOutRefIdeal.τ).loc Cert.SqDwOutRefIdeal.main_arg0) = m ((c.tc : Thread Cert.SqDwOutRefIdeal.nD Cert.SqDwOutRefIdeal.τ).loc Cert.SqDwOutRefIdeal.main_arg0)
      ∧ r.2.mem ((c.tc : Thread Cert.SqDwOutRefIdeal.nD Cert.SqDwOutRefIdeal.τ).loc Cert.SqDwOutRefIdeal.main_arg1) = m ((c.tc : Thread Cert.SqDwOutRefIdeal.nD Cert.SqDwOutRefIdeal.τ).loc Cert.SqDwOutRefIdeal.main_arg1))
      ∧ r.2.sem = fun _ => 0)

def quiescent_SqDxOut [hSqDxOut : Cert.SqDxOut.Facts] : Prop :=
  ∀ (m : (ℓ : Loc Cert.SqDxOut.nD Cert.SqDxOut.τ Cert.SqDxOut.sig) → Buf (Elt Bits) ℓ) (g : Dev Cert.SqDxOut.nD → PrngReg), Pre_SqDxOut m →
    θ_run (Cert.SqDxOut.defs (F := Bits)) (onTc (τ := Cert.SqDxOut.τ) (Cert.SqDxOut.main (F := Bits))) ⟨m, fun _ => 0, g⟩ (fun r => (∀ c : Dev Cert.SqDxOut.nD,
      r.2.mem ((c.tc : Thread Cert.SqDxOut.nD Cert.SqDxOut.τ).loc Cert.SqDxOut.main_arg0) = m ((c.tc : Thread Cert.SqDxOut.nD Cert.SqDxOut.τ).loc Cert.SqDxOut.main_arg0)
      ∧ r.2.mem ((c.tc : Thread Cert.SqDxOut.nD Cert.SqDxOut.τ).loc Cert.SqDxOut.main_arg1) = m ((c.tc : Thread Cert.SqDxOut.nD Cert.SqDxOut.τ).loc Cert.SqDxOut.main_arg1))
      ∧ r.2.sem = fun _ => 0)

def quiescent_SqDxOutIdeal [hSqDxOutIdeal : Cert.SqDxOutIdeal.Facts] : Prop :=
  ∀ (m : (ℓ : Loc Cert.SqDxOutIdeal.nD Cert.SqDxOutIdeal.τ Cert.SqDxOutIdeal.sig) → Buf (Elt Ideal) ℓ) (g : Dev Cert.SqDxOutIdeal.nD → PrngReg), Pre_SqDxOutIdeal m →
    θ_run (Cert.SqDxOutIdeal.defs (F := Ideal)) (onTc (τ := Cert.SqDxOutIdeal.τ) (Cert.SqDxOutIdeal.main (F := Ideal))) ⟨m, fun _ => 0, g⟩ (fun r => (∀ c : Dev Cert.SqDxOutIdeal.nD,
      r.2.mem ((c.tc : Thread Cert.SqDxOutIdeal.nD Cert.SqDxOutIdeal.τ).loc Cert.SqDxOutIdeal.main_arg0) = m ((c.tc : Thread Cert.SqDxOutIdeal.nD Cert.SqDxOutIdeal.τ).loc Cert.SqDxOutIdeal.main_arg0)
      ∧ r.2.mem ((c.tc : Thread Cert.SqDxOutIdeal.nD Cert.SqDxOutIdeal.τ).loc Cert.SqDxOutIdeal.main_arg1) = m ((c.tc : Thread Cert.SqDxOutIdeal.nD Cert.SqDxOutIdeal.τ).loc Cert.SqDxOutIdeal.main_arg1))
      ∧ r.2.sem = fun _ => 0)

def quiescent_SqDxOutRefIdeal [hSqDxOutRefIdeal : Cert.SqDxOutRefIdeal.Facts] : Prop :=
  ∀ (m : (ℓ : Loc Cert.SqDxOutRefIdeal.nD Cert.SqDxOutRefIdeal.τ Cert.SqDxOutRefIdeal.sig) → Buf (Elt Ideal) ℓ) (g : Dev Cert.SqDxOutRefIdeal.nD → PrngReg), Pre_SqDxOutRefIdeal m →
    θ_run (Cert.SqDxOutRefIdeal.defs (F := Ideal)) (onTc (τ := Cert.SqDxOutRefIdeal.τ) (Cert.SqDxOutRefIdeal.main (F := Ideal))) ⟨m, fun _ => 0, g⟩ (fun r => (∀ c : Dev Cert.SqDxOutRefIdeal.nD,
      r.2.mem ((c.tc : Thread Cert.SqDxOutRefIdeal.nD Cert.SqDxOutRefIdeal.τ).loc Cert.SqDxOutRefIdeal.main_arg0) = m ((c.tc : Thread Cert.SqDxOutRefIdeal.nD Cert.SqDxOutRefIdeal.τ).loc Cert.SqDxOutRefIdeal.main_arg0)
      ∧ r.2.mem ((c.tc : Thread Cert.SqDxOutRefIdeal.nD Cert.SqDxOutRefIdeal.τ).loc Cert.SqDxOutRefIdeal.main_arg1) = m ((c.tc : Thread Cert.SqDxOutRefIdeal.nD Cert.SqDxOutRefIdeal.τ).loc Cert.SqDxOutRefIdeal.main_arg1))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2))
      ∧ r.2.sem = fun _ => 0)

def quiescent_HgQ [hHgQ : Cert.HgQ.Facts] : Prop :=
  ∀ (m : (ℓ : Loc Cert.HgQ.nD Cert.HgQ.τ Cert.HgQ.sig) → Buf (Elt Bits) ℓ) (g : Dev Cert.HgQ.nD → PrngReg), Pre_HgQ m →
    θ_run (Cert.HgQ.defs (F := Bits)) (onTc (τ := Cert.HgQ.τ) (Cert.HgQ.main (F := Bits))) ⟨m, fun _ => 0, g⟩ (fun r => (∀ c : Dev Cert.HgQ.nD,
      r.2.mem ((c.tc : Thread Cert.HgQ.nD Cert.HgQ.τ).loc Cert.HgQ.main_arg0) = m ((c.tc : Thread Cert.HgQ.nD Cert.HgQ.τ).loc Cert.HgQ.main_arg0)
      ∧ r.2.mem ((c.tc : Thread Cert.HgQ.nD Cert.HgQ.τ).loc Cert.HgQ.main_arg1) = m ((c.tc : Thread Cert.HgQ.nD Cert.HgQ.τ).loc Cert.HgQ.main_arg1))
      ∧ r.2.sem = fun _ => 0)

def quiescent_HgQIdeal [hHgQIdeal : Cert.HgQIdeal.Facts] : Prop :=
  ∀ (m : (ℓ : Loc Cert.HgQIdeal.nD Cert.HgQIdeal.τ Cert.HgQIdeal.sig) → Buf (Elt Ideal) ℓ) (g : Dev Cert.HgQIdeal.nD → PrngReg), Pre_HgQIdeal m →
    θ_run (Cert.HgQIdeal.defs (F := Ideal)) (onTc (τ := Cert.HgQIdeal.τ) (Cert.HgQIdeal.main (F := Ideal))) ⟨m, fun _ => 0, g⟩ (fun r => (∀ c : Dev Cert.HgQIdeal.nD,
      r.2.mem ((c.tc : Thread Cert.HgQIdeal.nD Cert.HgQIdeal.τ).loc Cert.HgQIdeal.main_arg0) = m ((c.tc : Thread Cert.HgQIdeal.nD Cert.HgQIdeal.τ).loc Cert.HgQIdeal.main_arg0)
      ∧ r.2.mem ((c.tc : Thread Cert.HgQIdeal.nD Cert.HgQIdeal.τ).loc Cert.HgQIdeal.main_arg1) = m ((c.tc : Thread Cert.HgQIdeal.nD Cert.HgQIdeal.τ).loc Cert.HgQIdeal.main_arg1))
      ∧ r.2.sem = fun _ => 0)

def quiescent_HgQRefIdeal [hHgQRefIdeal : Cert.HgQRefIdeal.Facts] : Prop :=
  ∀ (m : (ℓ : Loc Cert.HgQRefIdeal.nD Cert.HgQRefIdeal.τ Cert.HgQRefIdeal.sig) → Buf (Elt Ideal) ℓ) (g : Dev Cert.HgQRefIdeal.nD → PrngReg), Pre_HgQRefIdeal m →
    θ_run (Cert.HgQRefIdeal.defs (F := Ideal)) (onTc (τ := Cert.HgQRefIdeal.τ) (Cert.HgQRefIdeal.main (F := Ideal))) ⟨m, fun _ => 0, g⟩ (fun r => (∀ c : Dev Cert.HgQRefIdeal.nD,
      r.2.mem ((c.tc : Thread Cert.HgQRefIdeal.nD Cert.HgQRefIdeal.τ).loc Cert.HgQRefIdeal.main_arg0) = m ((c.tc : Thread Cert.HgQRefIdeal.nD Cert.HgQRefIdeal.τ).loc Cert.HgQRefIdeal.main_arg0)
      ∧ r.2.mem ((c.tc : Thread Cert.HgQRefIdeal.nD Cert.HgQRefIdeal.τ).loc Cert.HgQRefIdeal.main_arg1) = m ((c.tc : Thread Cert.HgQRefIdeal.nD Cert.HgQRefIdeal.τ).loc Cert.HgQRefIdeal.main_arg1))
      ∧ r.2.sem = fun _ => 0)

def quiescent_HgF [hHgF : Cert.HgF.Facts] : Prop :=
  ∀ (m : (ℓ : Loc Cert.HgF.nD Cert.HgF.τ Cert.HgF.sig) → Buf (Elt Bits) ℓ) (g : Dev Cert.HgF.nD → PrngReg), Pre_HgF m →
    θ_run (Cert.HgF.defs (F := Bits)) (onTc (τ := Cert.HgF.τ) (Cert.HgF.main (F := Bits))) ⟨m, fun _ => 0, g⟩ (fun r => (∀ c : Dev Cert.HgF.nD,
      r.2.mem ((c.tc : Thread Cert.HgF.nD Cert.HgF.τ).loc Cert.HgF.main_arg0) = m ((c.tc : Thread Cert.HgF.nD Cert.HgF.τ).loc Cert.HgF.main_arg0)
      ∧ r.2.mem ((c.tc : Thread Cert.HgF.nD Cert.HgF.τ).loc Cert.HgF.main_arg1) = m ((c.tc : Thread Cert.HgF.nD Cert.HgF.τ).loc Cert.HgF.main_arg1))
      ∧ r.2.sem = fun _ => 0)

def quiescent_HgFIdeal [hHgFIdeal : Cert.HgFIdeal.Facts] : Prop :=
  ∀ (m : (ℓ : Loc Cert.HgFIdeal.nD Cert.HgFIdeal.τ Cert.HgFIdeal.sig) → Buf (Elt Ideal) ℓ) (g : Dev Cert.HgFIdeal.nD → PrngReg), Pre_HgFIdeal m →
    θ_run (Cert.HgFIdeal.defs (F := Ideal)) (onTc (τ := Cert.HgFIdeal.τ) (Cert.HgFIdeal.main (F := Ideal))) ⟨m, fun _ => 0, g⟩ (fun r => (∀ c : Dev Cert.HgFIdeal.nD,
      r.2.mem ((c.tc : Thread Cert.HgFIdeal.nD Cert.HgFIdeal.τ).loc Cert.HgFIdeal.main_arg0) = m ((c.tc : Thread Cert.HgFIdeal.nD Cert.HgFIdeal.τ).loc Cert.HgFIdeal.main_arg0)
      ∧ r.2.mem ((c.tc : Thread Cert.HgFIdeal.nD Cert.HgFIdeal.τ).loc Cert.HgFIdeal.main_arg1) = m ((c.tc : Thread Cert.HgFIdeal.nD Cert.HgFIdeal.τ).loc Cert.HgFIdeal.main_arg1))
      ∧ r.2.sem = fun _ => 0)

def quiescent_HgFRefIdeal [hHgFRefIdeal : Cert.HgFRefIdeal.Facts] : Prop :=
  ∀ (m : (ℓ : Loc Cert.HgFRefIdeal.nD Cert.HgFRefIdeal.τ Cert.HgFRefIdeal.sig) → Buf (Elt Ideal) ℓ) (g : Dev Cert.HgFRefIdeal.nD → PrngReg), Pre_HgFRefIdeal m →
    θ_run (Cert.HgFRefIdeal.defs (F := Ideal)) (onTc (τ := Cert.HgFRefIdeal.τ) (Cert.HgFRefIdeal.main (F := Ideal))) ⟨m, fun _ => 0, g⟩ (fun r => (∀ c : Dev Cert.HgFRefIdeal.nD,
      r.2.mem ((c.tc : Thread Cert.HgFRefIdeal.nD Cert.HgFRefIdeal.τ).loc Cert.HgFRefIdeal.main_arg0) = m ((c.tc : Thread Cert.HgFRefIdeal.nD Cert.HgFRefIdeal.τ).loc Cert.HgFRefIdeal.main_arg0)
      ∧ r.2.mem ((c.tc : Thread Cert.HgFRefIdeal.nD Cert.HgFRefIdeal.τ).loc Cert.HgFRefIdeal.main_arg1) = m ((c.tc : Thread Cert.HgFRefIdeal.nD Cert.HgFRefIdeal.τ).loc Cert.HgFRefIdeal.main_arg1))
      ∧ r.2.sem = fun _ => 0)

def quiescent_HgI [hHgI : Cert.HgI.Facts] : Prop :=
  ∀ (m : (ℓ : Loc Cert.HgI.nD Cert.HgI.τ Cert.HgI.sig) → Buf (Elt Bits) ℓ) (g : Dev Cert.HgI.nD → PrngReg), Pre_HgI m →
    θ_run (Cert.HgI.defs (F := Bits)) (onTc (τ := Cert.HgI.τ) (Cert.HgI.main (F := Bits))) ⟨m, fun _ => 0, g⟩ (fun r => (∀ c : Dev Cert.HgI.nD,
      r.2.mem ((c.tc : Thread Cert.HgI.nD Cert.HgI.τ).loc Cert.HgI.main_arg0) = m ((c.tc : Thread Cert.HgI.nD Cert.HgI.τ).loc Cert.HgI.main_arg0)
      ∧ r.2.mem ((c.tc : Thread Cert.HgI.nD Cert.HgI.τ).loc Cert.HgI.main_arg1) = m ((c.tc : Thread Cert.HgI.nD Cert.HgI.τ).loc Cert.HgI.main_arg1))
      ∧ r.2.sem = fun _ => 0)

def quiescent_HgIIdeal [hHgIIdeal : Cert.HgIIdeal.Facts] : Prop :=
  ∀ (m : (ℓ : Loc Cert.HgIIdeal.nD Cert.HgIIdeal.τ Cert.HgIIdeal.sig) → Buf (Elt Ideal) ℓ) (g : Dev Cert.HgIIdeal.nD → PrngReg), Pre_HgIIdeal m →
    θ_run (Cert.HgIIdeal.defs (F := Ideal)) (onTc (τ := Cert.HgIIdeal.τ) (Cert.HgIIdeal.main (F := Ideal))) ⟨m, fun _ => 0, g⟩ (fun r => (∀ c : Dev Cert.HgIIdeal.nD,
      r.2.mem ((c.tc : Thread Cert.HgIIdeal.nD Cert.HgIIdeal.τ).loc Cert.HgIIdeal.main_arg0) = m ((c.tc : Thread Cert.HgIIdeal.nD Cert.HgIIdeal.τ).loc Cert.HgIIdeal.main_arg0)
      ∧ r.2.mem ((c.tc : Thread Cert.HgIIdeal.nD Cert.HgIIdeal.τ).loc Cert.HgIIdeal.main_arg1) = m ((c.tc : Thread Cert.HgIIdeal.nD Cert.HgIIdeal.τ).loc Cert.HgIIdeal.main_arg1))
      ∧ r.2.sem = fun _ => 0)

def quiescent_HgIRefIdeal [hHgIRefIdeal : Cert.HgIRefIdeal.Facts] : Prop :=
  ∀ (m : (ℓ : Loc Cert.HgIRefIdeal.nD Cert.HgIRefIdeal.τ Cert.HgIRefIdeal.sig) → Buf (Elt Ideal) ℓ) (g : Dev Cert.HgIRefIdeal.nD → PrngReg), Pre_HgIRefIdeal m →
    θ_run (Cert.HgIRefIdeal.defs (F := Ideal)) (onTc (τ := Cert.HgIRefIdeal.τ) (Cert.HgIRefIdeal.main (F := Ideal))) ⟨m, fun _ => 0, g⟩ (fun r => (∀ c : Dev Cert.HgIRefIdeal.nD,
      r.2.mem ((c.tc : Thread Cert.HgIRefIdeal.nD Cert.HgIRefIdeal.τ).loc Cert.HgIRefIdeal.main_arg0) = m ((c.tc : Thread Cert.HgIRefIdeal.nD Cert.HgIRefIdeal.τ).loc Cert.HgIRefIdeal.main_arg0)
      ∧ r.2.mem ((c.tc : Thread Cert.HgIRefIdeal.nD Cert.HgIRefIdeal.τ).loc Cert.HgIRefIdeal.main_arg1) = m ((c.tc : Thread Cert.HgIRefIdeal.nD Cert.HgIRefIdeal.τ).loc Cert.HgIRefIdeal.main_arg1))
      ∧ r.2.sem = fun _ => 0)

def quiescent_HgG [hHgG : Cert.HgG.Facts] : Prop :=
  ∀ (m : (ℓ : Loc Cert.HgG.nD Cert.HgG.τ Cert.HgG.sig) → Buf (Elt Bits) ℓ) (g : Dev Cert.HgG.nD → PrngReg), Pre_HgG m →
    θ_run (Cert.HgG.defs (F := Bits)) (onTc (τ := Cert.HgG.τ) (Cert.HgG.main (F := Bits))) ⟨m, fun _ => 0, g⟩ (fun r => (∀ c : Dev Cert.HgG.nD,
      r.2.mem ((c.tc : Thread Cert.HgG.nD Cert.HgG.τ).loc Cert.HgG.main_arg0) = m ((c.tc : Thread Cert.HgG.nD Cert.HgG.τ).loc Cert.HgG.main_arg0)
      ∧ r.2.mem ((c.tc : Thread Cert.HgG.nD Cert.HgG.τ).loc Cert.HgG.main_arg1) = m ((c.tc : Thread Cert.HgG.nD Cert.HgG.τ).loc Cert.HgG.main_arg1))
      ∧ r.2.sem = fun _ => 0)

def quiescent_HgGIdeal [hHgGIdeal : Cert.HgGIdeal.Facts] : Prop :=
  ∀ (m : (ℓ : Loc Cert.HgGIdeal.nD Cert.HgGIdeal.τ Cert.HgGIdeal.sig) → Buf (Elt Ideal) ℓ) (g : Dev Cert.HgGIdeal.nD → PrngReg), Pre_HgGIdeal m →
    θ_run (Cert.HgGIdeal.defs (F := Ideal)) (onTc (τ := Cert.HgGIdeal.τ) (Cert.HgGIdeal.main (F := Ideal))) ⟨m, fun _ => 0, g⟩ (fun r => (∀ c : Dev Cert.HgGIdeal.nD,
      r.2.mem ((c.tc : Thread Cert.HgGIdeal.nD Cert.HgGIdeal.τ).loc Cert.HgGIdeal.main_arg0) = m ((c.tc : Thread Cert.HgGIdeal.nD Cert.HgGIdeal.τ).loc Cert.HgGIdeal.main_arg0)
      ∧ r.2.mem ((c.tc : Thread Cert.HgGIdeal.nD Cert.HgGIdeal.τ).loc Cert.HgGIdeal.main_arg1) = m ((c.tc : Thread Cert.HgGIdeal.nD Cert.HgGIdeal.τ).loc Cert.HgGIdeal.main_arg1))
      ∧ r.2.sem = fun _ => 0)

def quiescent_HgGRefIdeal [hHgGRefIdeal : Cert.HgGRefIdeal.Facts] : Prop :=
  ∀ (m : (ℓ : Loc Cert.HgGRefIdeal.nD Cert.HgGRefIdeal.τ Cert.HgGRefIdeal.sig) → Buf (Elt Ideal) ℓ) (g : Dev Cert.HgGRefIdeal.nD → PrngReg), Pre_HgGRefIdeal m →
    θ_run (Cert.HgGRefIdeal.defs (F := Ideal)) (onTc (τ := Cert.HgGRefIdeal.τ) (Cert.HgGRefIdeal.main (F := Ideal))) ⟨m, fun _ => 0, g⟩ (fun r => (∀ c : Dev Cert.HgGRefIdeal.nD,
      r.2.mem ((c.tc : Thread Cert.HgGRefIdeal.nD Cert.HgGRefIdeal.τ).loc Cert.HgGRefIdeal.main_arg0) = m ((c.tc : Thread Cert.HgGRefIdeal.nD Cert.HgGRefIdeal.τ).loc Cert.HgGRefIdeal.main_arg0)
      ∧ r.2.mem ((c.tc : Thread Cert.HgGRefIdeal.nD Cert.HgGRefIdeal.τ).loc Cert.HgGRefIdeal.main_arg1) = m ((c.tc : Thread Cert.HgGRefIdeal.nD Cert.HgGRefIdeal.τ).loc Cert.HgGRefIdeal.main_arg1))
      ∧ r.2.sem = fun _ => 0)

def quiescent_DwHgQ [hDwHgQ : Cert.DwHgQ.Facts] : Prop :=
  ∀ (m : (ℓ : Loc Cert.DwHgQ.nD Cert.DwHgQ.τ Cert.DwHgQ.sig) → Buf (Elt Bits) ℓ) (g : Dev Cert.DwHgQ.nD → PrngReg), Pre_DwHgQ m →
    θ_run (Cert.DwHgQ.defs (F := Bits)) (onTc (τ := Cert.DwHgQ.τ) (Cert.DwHgQ.main (F := Bits))) ⟨m, fun _ => 0, g⟩ (fun r => (∀ c : Dev Cert.DwHgQ.nD,
      r.2.mem ((c.tc : Thread Cert.DwHgQ.nD Cert.DwHgQ.τ).loc Cert.DwHgQ.main_arg0) = m ((c.tc : Thread Cert.DwHgQ.nD Cert.DwHgQ.τ).loc Cert.DwHgQ.main_arg0)
      ∧ r.2.mem ((c.tc : Thread Cert.DwHgQ.nD Cert.DwHgQ.τ).loc Cert.DwHgQ.main_arg1) = m ((c.tc : Thread Cert.DwHgQ.nD Cert.DwHgQ.τ).loc Cert.DwHgQ.main_arg1))
      ∧ r.2.sem = fun _ => 0)

def quiescent_DwHgQIdeal [hDwHgQIdeal : Cert.DwHgQIdeal.Facts] : Prop :=
  ∀ (m : (ℓ : Loc Cert.DwHgQIdeal.nD Cert.DwHgQIdeal.τ Cert.DwHgQIdeal.sig) → Buf (Elt Ideal) ℓ) (g : Dev Cert.DwHgQIdeal.nD → PrngReg), Pre_DwHgQIdeal m →
    θ_run (Cert.DwHgQIdeal.defs (F := Ideal)) (onTc (τ := Cert.DwHgQIdeal.τ) (Cert.DwHgQIdeal.main (F := Ideal))) ⟨m, fun _ => 0, g⟩ (fun r => (∀ c : Dev Cert.DwHgQIdeal.nD,
      r.2.mem ((c.tc : Thread Cert.DwHgQIdeal.nD Cert.DwHgQIdeal.τ).loc Cert.DwHgQIdeal.main_arg0) = m ((c.tc : Thread Cert.DwHgQIdeal.nD Cert.DwHgQIdeal.τ).loc Cert.DwHgQIdeal.main_arg0)
      ∧ r.2.mem ((c.tc : Thread Cert.DwHgQIdeal.nD Cert.DwHgQIdeal.τ).loc Cert.DwHgQIdeal.main_arg1) = m ((c.tc : Thread Cert.DwHgQIdeal.nD Cert.DwHgQIdeal.τ).loc Cert.DwHgQIdeal.main_arg1))
      ∧ r.2.sem = fun _ => 0)

def quiescent_DwHgQRefIdeal [hDwHgQRefIdeal : Cert.DwHgQRefIdeal.Facts] : Prop :=
  ∀ (m : (ℓ : Loc Cert.DwHgQRefIdeal.nD Cert.DwHgQRefIdeal.τ Cert.DwHgQRefIdeal.sig) → Buf (Elt Ideal) ℓ) (g : Dev Cert.DwHgQRefIdeal.nD → PrngReg), Pre_DwHgQRefIdeal m →
    θ_run (Cert.DwHgQRefIdeal.defs (F := Ideal)) (onTc (τ := Cert.DwHgQRefIdeal.τ) (Cert.DwHgQRefIdeal.main (F := Ideal))) ⟨m, fun _ => 0, g⟩ (fun r => (∀ c : Dev Cert.DwHgQRefIdeal.nD,
      r.2.mem ((c.tc : Thread Cert.DwHgQRefIdeal.nD Cert.DwHgQRefIdeal.τ).loc Cert.DwHgQRefIdeal.main_arg0) = m ((c.tc : Thread Cert.DwHgQRefIdeal.nD Cert.DwHgQRefIdeal.τ).loc Cert.DwHgQRefIdeal.main_arg0)
      ∧ r.2.mem ((c.tc : Thread Cert.DwHgQRefIdeal.nD Cert.DwHgQRefIdeal.τ).loc Cert.DwHgQRefIdeal.main_arg1) = m ((c.tc : Thread Cert.DwHgQRefIdeal.nD Cert.DwHgQRefIdeal.τ).loc Cert.DwHgQRefIdeal.main_arg1))
      ∧ r.2.sem = fun _ => 0)

def quiescent_DwHgF [hDwHgF : Cert.DwHgF.Facts] : Prop :=
  ∀ (m : (ℓ : Loc Cert.DwHgF.nD Cert.DwHgF.τ Cert.DwHgF.sig) → Buf (Elt Bits) ℓ) (g : Dev Cert.DwHgF.nD → PrngReg), Pre_DwHgF m →
    θ_run (Cert.DwHgF.defs (F := Bits)) (onTc (τ := Cert.DwHgF.τ) (Cert.DwHgF.main (F := Bits))) ⟨m, fun _ => 0, g⟩ (fun r => (∀ c : Dev Cert.DwHgF.nD,
      r.2.mem ((c.tc : Thread Cert.DwHgF.nD Cert.DwHgF.τ).loc Cert.DwHgF.main_arg0) = m ((c.tc : Thread Cert.DwHgF.nD Cert.DwHgF.τ).loc Cert.DwHgF.main_arg0)
      ∧ r.2.mem ((c.tc : Thread Cert.DwHgF.nD Cert.DwHgF.τ).loc Cert.DwHgF.main_arg1) = m ((c.tc : Thread Cert.DwHgF.nD Cert.DwHgF.τ).loc Cert.DwHgF.main_arg1)
      ∧ r.2.mem ((c.tc : Thread Cert.DwHgF.nD Cert.DwHgF.τ).loc Cert.DwHgF.main_arg2) = m ((c.tc : Thread Cert.DwHgF.nD Cert.DwHgF.τ).loc Cert.DwHgF.main_arg2))
      ∧ r.2.sem = fun _ => 0)

def quiescent_DwHgFIdeal [hDwHgFIdeal : Cert.DwHgFIdeal.Facts] : Prop :=
  ∀ (m : (ℓ : Loc Cert.DwHgFIdeal.nD Cert.DwHgFIdeal.τ Cert.DwHgFIdeal.sig) → Buf (Elt Ideal) ℓ) (g : Dev Cert.DwHgFIdeal.nD → PrngReg), Pre_DwHgFIdeal m →
    θ_run (Cert.DwHgFIdeal.defs (F := Ideal)) (onTc (τ := Cert.DwHgFIdeal.τ) (Cert.DwHgFIdeal.main (F := Ideal))) ⟨m, fun _ => 0, g⟩ (fun r => (∀ c : Dev Cert.DwHgFIdeal.nD,
      r.2.mem ((c.tc : Thread Cert.DwHgFIdeal.nD Cert.DwHgFIdeal.τ).loc Cert.DwHgFIdeal.main_arg0) = m ((c.tc : Thread Cert.DwHgFIdeal.nD Cert.DwHgFIdeal.τ).loc Cert.DwHgFIdeal.main_arg0)
      ∧ r.2.mem ((c.tc : Thread Cert.DwHgFIdeal.nD Cert.DwHgFIdeal.τ).loc Cert.DwHgFIdeal.main_arg1) = m ((c.tc : Thread Cert.DwHgFIdeal.nD Cert.DwHgFIdeal.τ).loc Cert.DwHgFIdeal.main_arg1)
      ∧ r.2.mem ((c.tc : Thread Cert.DwHgFIdeal.nD Cert.DwHgFIdeal.τ).loc Cert.DwHgFIdeal.main_arg2) = m ((c.tc : Thread Cert.DwHgFIdeal.nD Cert.DwHgFIdeal.τ).loc Cert.DwHgFIdeal.main_arg2))
      ∧ r.2.sem = fun _ => 0)

def quiescent_DwHgFRefIdeal [hDwHgFRefIdeal : Cert.DwHgFRefIdeal.Facts] : Prop :=
  ∀ (m : (ℓ : Loc Cert.DwHgFRefIdeal.nD Cert.DwHgFRefIdeal.τ Cert.DwHgFRefIdeal.sig) → Buf (Elt Ideal) ℓ) (g : Dev Cert.DwHgFRefIdeal.nD → PrngReg), Pre_DwHgFRefIdeal m →
    θ_run (Cert.DwHgFRefIdeal.defs (F := Ideal)) (onTc (τ := Cert.DwHgFRefIdeal.τ) (Cert.DwHgFRefIdeal.main (F := Ideal))) ⟨m, fun _ => 0, g⟩ (fun r => (∀ c : Dev Cert.DwHgFRefIdeal.nD,
      r.2.mem ((c.tc : Thread Cert.DwHgFRefIdeal.nD Cert.DwHgFRefIdeal.τ).loc Cert.DwHgFRefIdeal.main_arg0) = m ((c.tc : Thread Cert.DwHgFRefIdeal.nD Cert.DwHgFRefIdeal.τ).loc Cert.DwHgFRefIdeal.main_arg0)
      ∧ r.2.mem ((c.tc : Thread Cert.DwHgFRefIdeal.nD Cert.DwHgFRefIdeal.τ).loc Cert.DwHgFRefIdeal.main_arg1) = m ((c.tc : Thread Cert.DwHgFRefIdeal.nD Cert.DwHgFRefIdeal.τ).loc Cert.DwHgFRefIdeal.main_arg1)
      ∧ r.2.mem ((c.tc : Thread Cert.DwHgFRefIdeal.nD Cert.DwHgFRefIdeal.τ).loc Cert.DwHgFRefIdeal.main_arg2) = m ((c.tc : Thread Cert.DwHgFRefIdeal.nD Cert.DwHgFRefIdeal.τ).loc Cert.DwHgFRefIdeal.main_arg2))
      ∧ r.2.sem = fun _ => 0)

def quiescent_DwHgI [hDwHgI : Cert.DwHgI.Facts] : Prop :=
  ∀ (m : (ℓ : Loc Cert.DwHgI.nD Cert.DwHgI.τ Cert.DwHgI.sig) → Buf (Elt Bits) ℓ) (g : Dev Cert.DwHgI.nD → PrngReg), Pre_DwHgI m →
    θ_run (Cert.DwHgI.defs (F := Bits)) (onTc (τ := Cert.DwHgI.τ) (Cert.DwHgI.main (F := Bits))) ⟨m, fun _ => 0, g⟩ (fun r => (∀ c : Dev Cert.DwHgI.nD,
      r.2.mem ((c.tc : Thread Cert.DwHgI.nD Cert.DwHgI.τ).loc Cert.DwHgI.main_arg0) = m ((c.tc : Thread Cert.DwHgI.nD Cert.DwHgI.τ).loc Cert.DwHgI.main_arg0)
      ∧ r.2.mem ((c.tc : Thread Cert.DwHgI.nD Cert.DwHgI.τ).loc Cert.DwHgI.main_arg1) = m ((c.tc : Thread Cert.DwHgI.nD Cert.DwHgI.τ).loc Cert.DwHgI.main_arg1)
      ∧ r.2.mem ((c.tc : Thread Cert.DwHgI.nD Cert.DwHgI.τ).loc Cert.DwHgI.main_arg2) = m ((c.tc : Thread Cert.DwHgI.nD Cert.DwHgI.τ).loc Cert.DwHgI.main_arg2))
      ∧ r.2.sem = fun _ => 0)

def quiescent_DwHgIIdeal [hDwHgIIdeal : Cert.DwHgIIdeal.Facts] : Prop :=
  ∀ (m : (ℓ : Loc Cert.DwHgIIdeal.nD Cert.DwHgIIdeal.τ Cert.DwHgIIdeal.sig) → Buf (Elt Ideal) ℓ) (g : Dev Cert.DwHgIIdeal.nD → PrngReg), Pre_DwHgIIdeal m →
    θ_run (Cert.DwHgIIdeal.defs (F := Ideal)) (onTc (τ := Cert.DwHgIIdeal.τ) (Cert.DwHgIIdeal.main (F := Ideal))) ⟨m, fun _ => 0, g⟩ (fun r => (∀ c : Dev Cert.DwHgIIdeal.nD,
      r.2.mem ((c.tc : Thread Cert.DwHgIIdeal.nD Cert.DwHgIIdeal.τ).loc Cert.DwHgIIdeal.main_arg0) = m ((c.tc : Thread Cert.DwHgIIdeal.nD Cert.DwHgIIdeal.τ).loc Cert.DwHgIIdeal.main_arg0)
      ∧ r.2.mem ((c.tc : Thread Cert.DwHgIIdeal.nD Cert.DwHgIIdeal.τ).loc Cert.DwHgIIdeal.main_arg1) = m ((c.tc : Thread Cert.DwHgIIdeal.nD Cert.DwHgIIdeal.τ).loc Cert.DwHgIIdeal.main_arg1)
      ∧ r.2.mem ((c.tc : Thread Cert.DwHgIIdeal.nD Cert.DwHgIIdeal.τ).loc Cert.DwHgIIdeal.main_arg2) = m ((c.tc : Thread Cert.DwHgIIdeal.nD Cert.DwHgIIdeal.τ).loc Cert.DwHgIIdeal.main_arg2))
      ∧ r.2.sem = fun _ => 0)

def quiescent_DwHgIRefIdeal [hDwHgIRefIdeal : Cert.DwHgIRefIdeal.Facts] : Prop :=
  ∀ (m : (ℓ : Loc Cert.DwHgIRefIdeal.nD Cert.DwHgIRefIdeal.τ Cert.DwHgIRefIdeal.sig) → Buf (Elt Ideal) ℓ) (g : Dev Cert.DwHgIRefIdeal.nD → PrngReg), Pre_DwHgIRefIdeal m →
    θ_run (Cert.DwHgIRefIdeal.defs (F := Ideal)) (onTc (τ := Cert.DwHgIRefIdeal.τ) (Cert.DwHgIRefIdeal.main (F := Ideal))) ⟨m, fun _ => 0, g⟩ (fun r => (∀ c : Dev Cert.DwHgIRefIdeal.nD,
      r.2.mem ((c.tc : Thread Cert.DwHgIRefIdeal.nD Cert.DwHgIRefIdeal.τ).loc Cert.DwHgIRefIdeal.main_arg0) = m ((c.tc : Thread Cert.DwHgIRefIdeal.nD Cert.DwHgIRefIdeal.τ).loc Cert.DwHgIRefIdeal.main_arg0)
      ∧ r.2.mem ((c.tc : Thread Cert.DwHgIRefIdeal.nD Cert.DwHgIRefIdeal.τ).loc Cert.DwHgIRefIdeal.main_arg1) = m ((c.tc : Thread Cert.DwHgIRefIdeal.nD Cert.DwHgIRefIdeal.τ).loc Cert.DwHgIRefIdeal.main_arg1)
      ∧ r.2.mem ((c.tc : Thread Cert.DwHgIRefIdeal.nD Cert.DwHgIRefIdeal.τ).loc Cert.DwHgIRefIdeal.main_arg2) = m ((c.tc : Thread Cert.DwHgIRefIdeal.nD Cert.DwHgIRefIdeal.τ).loc Cert.DwHgIRefIdeal.main_arg2))
      ∧ r.2.sem = fun _ => 0)

def quiescent_DwHgG [hDwHgG : Cert.DwHgG.Facts] : Prop :=
  ∀ (m : (ℓ : Loc Cert.DwHgG.nD Cert.DwHgG.τ Cert.DwHgG.sig) → Buf (Elt Bits) ℓ) (g : Dev Cert.DwHgG.nD → PrngReg), Pre_DwHgG m →
    θ_run (Cert.DwHgG.defs (F := Bits)) (onTc (τ := Cert.DwHgG.τ) (Cert.DwHgG.main (F := Bits))) ⟨m, fun _ => 0, g⟩ (fun r => (∀ c : Dev Cert.DwHgG.nD,
      r.2.mem ((c.tc : Thread Cert.DwHgG.nD Cert.DwHgG.τ).loc Cert.DwHgG.main_arg0) = m ((c.tc : Thread Cert.DwHgG.nD Cert.DwHgG.τ).loc Cert.DwHgG.main_arg0)
      ∧ r.2.mem ((c.tc : Thread Cert.DwHgG.nD Cert.DwHgG.τ).loc Cert.DwHgG.main_arg1) = m ((c.tc : Thread Cert.DwHgG.nD Cert.DwHgG.τ).loc Cert.DwHgG.main_arg1)
      ∧ r.2.mem ((c.tc : Thread Cert.DwHgG.nD Cert.DwHgG.τ).loc Cert.DwHgG.main_arg2) = m ((c.tc : Thread Cert.DwHgG.nD Cert.DwHgG.τ).loc Cert.DwHgG.main_arg2))
      ∧ r.2.sem = fun _ => 0)

def quiescent_DwHgGIdeal [hDwHgGIdeal : Cert.DwHgGIdeal.Facts] : Prop :=
  ∀ (m : (ℓ : Loc Cert.DwHgGIdeal.nD Cert.DwHgGIdeal.τ Cert.DwHgGIdeal.sig) → Buf (Elt Ideal) ℓ) (g : Dev Cert.DwHgGIdeal.nD → PrngReg), Pre_DwHgGIdeal m →
    θ_run (Cert.DwHgGIdeal.defs (F := Ideal)) (onTc (τ := Cert.DwHgGIdeal.τ) (Cert.DwHgGIdeal.main (F := Ideal))) ⟨m, fun _ => 0, g⟩ (fun r => (∀ c : Dev Cert.DwHgGIdeal.nD,
      r.2.mem ((c.tc : Thread Cert.DwHgGIdeal.nD Cert.DwHgGIdeal.τ).loc Cert.DwHgGIdeal.main_arg0) = m ((c.tc : Thread Cert.DwHgGIdeal.nD Cert.DwHgGIdeal.τ).loc Cert.DwHgGIdeal.main_arg0)
      ∧ r.2.mem ((c.tc : Thread Cert.DwHgGIdeal.nD Cert.DwHgGIdeal.τ).loc Cert.DwHgGIdeal.main_arg1) = m ((c.tc : Thread Cert.DwHgGIdeal.nD Cert.DwHgGIdeal.τ).loc Cert.DwHgGIdeal.main_arg1)
      ∧ r.2.mem ((c.tc : Thread Cert.DwHgGIdeal.nD Cert.DwHgGIdeal.τ).loc Cert.DwHgGIdeal.main_arg2) = m ((c.tc : Thread Cert.DwHgGIdeal.nD Cert.DwHgGIdeal.τ).loc Cert.DwHgGIdeal.main_arg2))
      ∧ r.2.sem = fun _ => 0)

def quiescent_DwHgGRefIdeal [hDwHgGRefIdeal : Cert.DwHgGRefIdeal.Facts] : Prop :=
  ∀ (m : (ℓ : Loc Cert.DwHgGRefIdeal.nD Cert.DwHgGRefIdeal.τ Cert.DwHgGRefIdeal.sig) → Buf (Elt Ideal) ℓ) (g : Dev Cert.DwHgGRefIdeal.nD → PrngReg), Pre_DwHgGRefIdeal m →
    θ_run (Cert.DwHgGRefIdeal.defs (F := Ideal)) (onTc (τ := Cert.DwHgGRefIdeal.τ) (Cert.DwHgGRefIdeal.main (F := Ideal))) ⟨m, fun _ => 0, g⟩ (fun r => (∀ c : Dev Cert.DwHgGRefIdeal.nD,
      r.2.mem ((c.tc : Thread Cert.DwHgGRefIdeal.nD Cert.DwHgGRefIdeal.τ).loc Cert.DwHgGRefIdeal.main_arg0) = m ((c.tc : Thread Cert.DwHgGRefIdeal.nD Cert.DwHgGRefIdeal.τ).loc Cert.DwHgGRefIdeal.main_arg0)
      ∧ r.2.mem ((c.tc : Thread Cert.DwHgGRefIdeal.nD Cert.DwHgGRefIdeal.τ).loc Cert.DwHgGRefIdeal.main_arg1) = m ((c.tc : Thread Cert.DwHgGRefIdeal.nD Cert.DwHgGRefIdeal.τ).loc Cert.DwHgGRefIdeal.main_arg1)
      ∧ r.2.mem ((c.tc : Thread Cert.DwHgGRefIdeal.nD Cert.DwHgGRefIdeal.τ).loc Cert.DwHgGRefIdeal.main_arg2) = m ((c.tc : Thread Cert.DwHgGRefIdeal.nD Cert.DwHgGRefIdeal.τ).loc Cert.DwHgGRefIdeal.main_arg2))
      ∧ r.2.sem = fun _ => 0)

def quiescent_DxHgQ [hDxHgQ : Cert.DxHgQ.Facts] : Prop :=
  ∀ (m : (ℓ : Loc Cert.DxHgQ.nD Cert.DxHgQ.τ Cert.DxHgQ.sig) → Buf (Elt Bits) ℓ) (g : Dev Cert.DxHgQ.nD → PrngReg), Pre_DxHgQ m →
    θ_run (Cert.DxHgQ.defs (F := Bits)) (onTc (τ := Cert.DxHgQ.τ) (Cert.DxHgQ.main (F := Bits))) ⟨m, fun _ => 0, g⟩ (fun r => (∀ c : Dev Cert.DxHgQ.nD,
      r.2.mem ((c.tc : Thread Cert.DxHgQ.nD Cert.DxHgQ.τ).loc Cert.DxHgQ.main_arg0) = m ((c.tc : Thread Cert.DxHgQ.nD Cert.DxHgQ.τ).loc Cert.DxHgQ.main_arg0)
      ∧ r.2.mem ((c.tc : Thread Cert.DxHgQ.nD Cert.DxHgQ.τ).loc Cert.DxHgQ.main_arg1) = m ((c.tc : Thread Cert.DxHgQ.nD Cert.DxHgQ.τ).loc Cert.DxHgQ.main_arg1))
      ∧ r.2.sem = fun _ => 0)

def quiescent_DxHgQIdeal [hDxHgQIdeal : Cert.DxHgQIdeal.Facts] : Prop :=
  ∀ (m : (ℓ : Loc Cert.DxHgQIdeal.nD Cert.DxHgQIdeal.τ Cert.DxHgQIdeal.sig) → Buf (Elt Ideal) ℓ) (g : Dev Cert.DxHgQIdeal.nD → PrngReg), Pre_DxHgQIdeal m →
    θ_run (Cert.DxHgQIdeal.defs (F := Ideal)) (onTc (τ := Cert.DxHgQIdeal.τ) (Cert.DxHgQIdeal.main (F := Ideal))) ⟨m, fun _ => 0, g⟩ (fun r => (∀ c : Dev Cert.DxHgQIdeal.nD,
      r.2.mem ((c.tc : Thread Cert.DxHgQIdeal.nD Cert.DxHgQIdeal.τ).loc Cert.DxHgQIdeal.main_arg0) = m ((c.tc : Thread Cert.DxHgQIdeal.nD Cert.DxHgQIdeal.τ).loc Cert.DxHgQIdeal.main_arg0)
      ∧ r.2.mem ((c.tc : Thread Cert.DxHgQIdeal.nD Cert.DxHgQIdeal.τ).loc Cert.DxHgQIdeal.main_arg1) = m ((c.tc : Thread Cert.DxHgQIdeal.nD Cert.DxHgQIdeal.τ).loc Cert.DxHgQIdeal.main_arg1))
      ∧ r.2.sem = fun _ => 0)

def quiescent_DxHgQRefIdeal [hDxHgQRefIdeal : Cert.DxHgQRefIdeal.Facts] : Prop :=
  ∀ (m : (ℓ : Loc Cert.DxHgQRefIdeal.nD Cert.DxHgQRefIdeal.τ Cert.DxHgQRefIdeal.sig) → Buf (Elt Ideal) ℓ) (g : Dev Cert.DxHgQRefIdeal.nD → PrngReg), Pre_DxHgQRefIdeal m →
    θ_run (Cert.DxHgQRefIdeal.defs (F := Ideal)) (onTc (τ := Cert.DxHgQRefIdeal.τ) (Cert.DxHgQRefIdeal.main (F := Ideal))) ⟨m, fun _ => 0, g⟩ (fun r => (∀ c : Dev Cert.DxHgQRefIdeal.nD,
      r.2.mem ((c.tc : Thread Cert.DxHgQRefIdeal.nD Cert.DxHgQRefIdeal.τ).loc Cert.DxHgQRefIdeal.main_arg0) = m ((c.tc : Thread Cert.DxHgQRefIdeal.nD Cert.DxHgQRefIdeal.τ).loc Cert.DxHgQRefIdeal.main_arg0)
      ∧ r.2.mem ((c.tc : Thread Cert.DxHgQRefIdeal.nD Cert.DxHgQRefIdeal.τ).loc Cert.DxHgQRefIdeal.main_arg1) = m ((c.tc : Thread Cert.DxHgQRefIdeal.nD Cert.DxHgQRefIdeal.τ).loc Cert.DxHgQRefIdeal.main_arg1))
      ∧ r.2.sem = fun _ => 0)

def quiescent_DxHgF [hDxHgF : Cert.DxHgF.Facts] : Prop :=
  ∀ (m : (ℓ : Loc Cert.DxHgF.nD Cert.DxHgF.τ Cert.DxHgF.sig) → Buf (Elt Bits) ℓ) (g : Dev Cert.DxHgF.nD → PrngReg), Pre_DxHgF m →
    θ_run (Cert.DxHgF.defs (F := Bits)) (onTc (τ := Cert.DxHgF.τ) (Cert.DxHgF.main (F := Bits))) ⟨m, fun _ => 0, g⟩ (fun r => (∀ c : Dev Cert.DxHgF.nD,
      r.2.mem ((c.tc : Thread Cert.DxHgF.nD Cert.DxHgF.τ).loc Cert.DxHgF.main_arg0) = m ((c.tc : Thread Cert.DxHgF.nD Cert.DxHgF.τ).loc Cert.DxHgF.main_arg0)
      ∧ r.2.mem ((c.tc : Thread Cert.DxHgF.nD Cert.DxHgF.τ).loc Cert.DxHgF.main_arg1) = m ((c.tc : Thread Cert.DxHgF.nD Cert.DxHgF.τ).loc Cert.DxHgF.main_arg1)
      ∧ r.2.mem ((c.tc : Thread Cert.DxHgF.nD Cert.DxHgF.τ).loc Cert.DxHgF.main_arg2) = m ((c.tc : Thread Cert.DxHgF.nD Cert.DxHgF.τ).loc Cert.DxHgF.main_arg2))
      ∧ r.2.sem = fun _ => 0)

def quiescent_DxHgFIdeal [hDxHgFIdeal : Cert.DxHgFIdeal.Facts] : Prop :=
  ∀ (m : (ℓ : Loc Cert.DxHgFIdeal.nD Cert.DxHgFIdeal.τ Cert.DxHgFIdeal.sig) → Buf (Elt Ideal) ℓ) (g : Dev Cert.DxHgFIdeal.nD → PrngReg), Pre_DxHgFIdeal m →
    θ_run (Cert.DxHgFIdeal.defs (F := Ideal)) (onTc (τ := Cert.DxHgFIdeal.τ) (Cert.DxHgFIdeal.main (F := Ideal))) ⟨m, fun _ => 0, g⟩ (fun r => (∀ c : Dev Cert.DxHgFIdeal.nD,
      r.2.mem ((c.tc : Thread Cert.DxHgFIdeal.nD Cert.DxHgFIdeal.τ).loc Cert.DxHgFIdeal.main_arg0) = m ((c.tc : Thread Cert.DxHgFIdeal.nD Cert.DxHgFIdeal.τ).loc Cert.DxHgFIdeal.main_arg0)
      ∧ r.2.mem ((c.tc : Thread Cert.DxHgFIdeal.nD Cert.DxHgFIdeal.τ).loc Cert.DxHgFIdeal.main_arg1) = m ((c.tc : Thread Cert.DxHgFIdeal.nD Cert.DxHgFIdeal.τ).loc Cert.DxHgFIdeal.main_arg1)
      ∧ r.2.mem ((c.tc : Thread Cert.DxHgFIdeal.nD Cert.DxHgFIdeal.τ).loc Cert.DxHgFIdeal.main_arg2) = m ((c.tc : Thread Cert.DxHgFIdeal.nD Cert.DxHgFIdeal.τ).loc Cert.DxHgFIdeal.main_arg2))
      ∧ r.2.sem = fun _ => 0)

def quiescent_DxHgFRefIdeal [hDxHgFRefIdeal : Cert.DxHgFRefIdeal.Facts] : Prop :=
  ∀ (m : (ℓ : Loc Cert.DxHgFRefIdeal.nD Cert.DxHgFRefIdeal.τ Cert.DxHgFRefIdeal.sig) → Buf (Elt Ideal) ℓ) (g : Dev Cert.DxHgFRefIdeal.nD → PrngReg), Pre_DxHgFRefIdeal m →
    θ_run (Cert.DxHgFRefIdeal.defs (F := Ideal)) (onTc (τ := Cert.DxHgFRefIdeal.τ) (Cert.DxHgFRefIdeal.main (F := Ideal))) ⟨m, fun _ => 0, g⟩ (fun r => (∀ c : Dev Cert.DxHgFRefIdeal.nD,
      r.2.mem ((c.tc : Thread Cert.DxHgFRefIdeal.nD Cert.DxHgFRefIdeal.τ).loc Cert.DxHgFRefIdeal.main_arg0) = m ((c.tc : Thread Cert.DxHgFRefIdeal.nD Cert.DxHgFRefIdeal.τ).loc Cert.DxHgFRefIdeal.main_arg0)
      ∧ r.2.mem ((c.tc : Thread Cert.DxHgFRefIdeal.nD Cert.DxHgFRefIdeal.τ).loc Cert.DxHgFRefIdeal.main_arg1) = m ((c.tc : Thread Cert.DxHgFRefIdeal.nD Cert.DxHgFRefIdeal.τ).loc Cert.DxHgFRefIdeal.main_arg1)
      ∧ r.2.mem ((c.tc : Thread Cert.DxHgFRefIdeal.nD Cert.DxHgFRefIdeal.τ).loc Cert.DxHgFRefIdeal.main_arg2) = m ((c.tc : Thread Cert.DxHgFRefIdeal.nD Cert.DxHgFRefIdeal.τ).loc Cert.DxHgFRefIdeal.main_arg2))
      ∧ r.2.sem = fun _ => 0)

def quiescent_DxHgI [hDxHgI : Cert.DxHgI.Facts] : Prop :=
  ∀ (m : (ℓ : Loc Cert.DxHgI.nD Cert.DxHgI.τ Cert.DxHgI.sig) → Buf (Elt Bits) ℓ) (g : Dev Cert.DxHgI.nD → PrngReg), Pre_DxHgI m →
    θ_run (Cert.DxHgI.defs (F := Bits)) (onTc (τ := Cert.DxHgI.τ) (Cert.DxHgI.main (F := Bits))) ⟨m, fun _ => 0, g⟩ (fun r => (∀ c : Dev Cert.DxHgI.nD,
      r.2.mem ((c.tc : Thread Cert.DxHgI.nD Cert.DxHgI.τ).loc Cert.DxHgI.main_arg0) = m ((c.tc : Thread Cert.DxHgI.nD Cert.DxHgI.τ).loc Cert.DxHgI.main_arg0)
      ∧ r.2.mem ((c.tc : Thread Cert.DxHgI.nD Cert.DxHgI.τ).loc Cert.DxHgI.main_arg1) = m ((c.tc : Thread Cert.DxHgI.nD Cert.DxHgI.τ).loc Cert.DxHgI.main_arg1)
      ∧ r.2.mem ((c.tc : Thread Cert.DxHgI.nD Cert.DxHgI.τ).loc Cert.DxHgI.main_arg2) = m ((c.tc : Thread Cert.DxHgI.nD Cert.DxHgI.τ).loc Cert.DxHgI.main_arg2))
      ∧ r.2.sem = fun _ => 0)

def quiescent_DxHgIIdeal [hDxHgIIdeal : Cert.DxHgIIdeal.Facts] : Prop :=
  ∀ (m : (ℓ : Loc Cert.DxHgIIdeal.nD Cert.DxHgIIdeal.τ Cert.DxHgIIdeal.sig) → Buf (Elt Ideal) ℓ) (g : Dev Cert.DxHgIIdeal.nD → PrngReg), Pre_DxHgIIdeal m →
    θ_run (Cert.DxHgIIdeal.defs (F := Ideal)) (onTc (τ := Cert.DxHgIIdeal.τ) (Cert.DxHgIIdeal.main (F := Ideal))) ⟨m, fun _ => 0, g⟩ (fun r => (∀ c : Dev Cert.DxHgIIdeal.nD,
      r.2.mem ((c.tc : Thread Cert.DxHgIIdeal.nD Cert.DxHgIIdeal.τ).loc Cert.DxHgIIdeal.main_arg0) = m ((c.tc : Thread Cert.DxHgIIdeal.nD Cert.DxHgIIdeal.τ).loc Cert.DxHgIIdeal.main_arg0)
      ∧ r.2.mem ((c.tc : Thread Cert.DxHgIIdeal.nD Cert.DxHgIIdeal.τ).loc Cert.DxHgIIdeal.main_arg1) = m ((c.tc : Thread Cert.DxHgIIdeal.nD Cert.DxHgIIdeal.τ).loc Cert.DxHgIIdeal.main_arg1)
      ∧ r.2.mem ((c.tc : Thread Cert.DxHgIIdeal.nD Cert.DxHgIIdeal.τ).loc Cert.DxHgIIdeal.main_arg2) = m ((c.tc : Thread Cert.DxHgIIdeal.nD Cert.DxHgIIdeal.τ).loc Cert.DxHgIIdeal.main_arg2))
      ∧ r.2.sem = fun _ => 0)

def quiescent_DxHgIRefIdeal [hDxHgIRefIdeal : Cert.DxHgIRefIdeal.Facts] : Prop :=
  ∀ (m : (ℓ : Loc Cert.DxHgIRefIdeal.nD Cert.DxHgIRefIdeal.τ Cert.DxHgIRefIdeal.sig) → Buf (Elt Ideal) ℓ) (g : Dev Cert.DxHgIRefIdeal.nD → PrngReg), Pre_DxHgIRefIdeal m →
    θ_run (Cert.DxHgIRefIdeal.defs (F := Ideal)) (onTc (τ := Cert.DxHgIRefIdeal.τ) (Cert.DxHgIRefIdeal.main (F := Ideal))) ⟨m, fun _ => 0, g⟩ (fun r => (∀ c : Dev Cert.DxHgIRefIdeal.nD,
      r.2.mem ((c.tc : Thread Cert.DxHgIRefIdeal.nD Cert.DxHgIRefIdeal.τ).loc Cert.DxHgIRefIdeal.main_arg0) = m ((c.tc : Thread Cert.DxHgIRefIdeal.nD Cert.DxHgIRefIdeal.τ).loc Cert.DxHgIRefIdeal.main_arg0)
      ∧ r.2.mem ((c.tc : Thread Cert.DxHgIRefIdeal.nD Cert.DxHgIRefIdeal.τ).loc Cert.DxHgIRefIdeal.main_arg1) = m ((c.tc : Thread Cert.DxHgIRefIdeal.nD Cert.DxHgIRefIdeal.τ).loc Cert.DxHgIRefIdeal.main_arg1)
      ∧ r.2.mem ((c.tc : Thread Cert.DxHgIRefIdeal.nD Cert.DxHgIRefIdeal.τ).loc Cert.DxHgIRefIdeal.main_arg2) = m ((c.tc : Thread Cert.DxHgIRefIdeal.nD Cert.DxHgIRefIdeal.τ).loc Cert.DxHgIRefIdeal.main_arg2))
      ∧ r.2.sem = fun _ => 0)

def quiescent_DxHgG [hDxHgG : Cert.DxHgG.Facts] : Prop :=
  ∀ (m : (ℓ : Loc Cert.DxHgG.nD Cert.DxHgG.τ Cert.DxHgG.sig) → Buf (Elt Bits) ℓ) (g : Dev Cert.DxHgG.nD → PrngReg), Pre_DxHgG m →
    θ_run (Cert.DxHgG.defs (F := Bits)) (onTc (τ := Cert.DxHgG.τ) (Cert.DxHgG.main (F := Bits))) ⟨m, fun _ => 0, g⟩ (fun r => (∀ c : Dev Cert.DxHgG.nD,
      r.2.mem ((c.tc : Thread Cert.DxHgG.nD Cert.DxHgG.τ).loc Cert.DxHgG.main_arg0) = m ((c.tc : Thread Cert.DxHgG.nD Cert.DxHgG.τ).loc Cert.DxHgG.main_arg0)
      ∧ r.2.mem ((c.tc : Thread Cert.DxHgG.nD Cert.DxHgG.τ).loc Cert.DxHgG.main_arg1) = m ((c.tc : Thread Cert.DxHgG.nD Cert.DxHgG.τ).loc Cert.DxHgG.main_arg1)
      ∧ r.2.mem ((c.tc : Thread Cert.DxHgG.nD Cert.DxHgG.τ).loc Cert.DxHgG.main_arg2) = m ((c.tc : Thread Cert.DxHgG.nD Cert.DxHgG.τ).loc Cert.DxHgG.main_arg2))
      ∧ r.2.sem = fun _ => 0)

def quiescent_DxHgGIdeal [hDxHgGIdeal : Cert.DxHgGIdeal.Facts] : Prop :=
  ∀ (m : (ℓ : Loc Cert.DxHgGIdeal.nD Cert.DxHgGIdeal.τ Cert.DxHgGIdeal.sig) → Buf (Elt Ideal) ℓ) (g : Dev Cert.DxHgGIdeal.nD → PrngReg), Pre_DxHgGIdeal m →
    θ_run (Cert.DxHgGIdeal.defs (F := Ideal)) (onTc (τ := Cert.DxHgGIdeal.τ) (Cert.DxHgGIdeal.main (F := Ideal))) ⟨m, fun _ => 0, g⟩ (fun r => (∀ c : Dev Cert.DxHgGIdeal.nD,
      r.2.mem ((c.tc : Thread Cert.DxHgGIdeal.nD Cert.DxHgGIdeal.τ).loc Cert.DxHgGIdeal.main_arg0) = m ((c.tc : Thread Cert.DxHgGIdeal.nD Cert.DxHgGIdeal.τ).loc Cert.DxHgGIdeal.main_arg0)
      ∧ r.2.mem ((c.tc : Thread Cert.DxHgGIdeal.nD Cert.DxHgGIdeal.τ).loc Cert.DxHgGIdeal.main_arg1) = m ((c.tc : Thread Cert.DxHgGIdeal.nD Cert.DxHgGIdeal.τ).loc Cert.DxHgGIdeal.main_arg1)
      ∧ r.2.mem ((c.tc : Thread Cert.DxHgGIdeal.nD Cert.DxHgGIdeal.τ).loc Cert.DxHgGIdeal.main_arg2) = m ((c.tc : Thread Cert.DxHgGIdeal.nD Cert.DxHgGIdeal.τ).loc Cert.DxHgGIdeal.main_arg2))
      ∧ r.2.sem = fun _ => 0)

def quiescent_DxHgGRefIdeal [hDxHgGRefIdeal : Cert.DxHgGRefIdeal.Facts] : Prop :=
  ∀ (m : (ℓ : Loc Cert.DxHgGRefIdeal.nD Cert.DxHgGRefIdeal.τ Cert.DxHgGRefIdeal.sig) → Buf (Elt Ideal) ℓ) (g : Dev Cert.DxHgGRefIdeal.nD → PrngReg), Pre_DxHgGRefIdeal m →
    θ_run (Cert.DxHgGRefIdeal.defs (F := Ideal)) (onTc (τ := Cert.DxHgGRefIdeal.τ) (Cert.DxHgGRefIdeal.main (F := Ideal))) ⟨m, fun _ => 0, g⟩ (fun r => (∀ c : Dev Cert.DxHgGRefIdeal.nD,
      r.2.mem ((c.tc : Thread Cert.DxHgGRefIdeal.nD Cert.DxHgGRefIdeal.τ).loc Cert.DxHgGRefIdeal.main_arg0) = m ((c.tc : Thread Cert.DxHgGRefIdeal.nD Cert.DxHgGRefIdeal.τ).loc Cert.DxHgGRefIdeal.main_arg0)
      ∧ r.2.mem ((c.tc : Thread Cert.DxHgGRefIdeal.nD Cert.DxHgGRefIdeal.τ).loc Cert.DxHgGRefIdeal.main_arg1) = m ((c.tc : Thread Cert.DxHgGRefIdeal.nD Cert.DxHgGRefIdeal.τ).loc Cert.DxHgGRefIdeal.main_arg1)
      ∧ r.2.mem ((c.tc : Thread Cert.DxHgGRefIdeal.nD Cert.DxHgGRefIdeal.τ).loc Cert.DxHgGRefIdeal.main_arg2) = m ((c.tc : Thread Cert.DxHgGRefIdeal.nD Cert.DxHgGRefIdeal.τ).loc Cert.DxHgGRefIdeal.main_arg2))
      ∧ r.2.sem = fun _ => 0)

def quiescent_MemK [hMemK : Cert.MemK.Facts] : Prop :=
  ∀ (m : (ℓ : Loc Cert.MemK.nD Cert.MemK.τ Cert.MemK.sig) → Buf (Elt Bits) ℓ) (g : Dev Cert.MemK.nD → PrngReg), Pre_MemK m →
    θ_run (Cert.MemK.defs (F := Bits)) (onTc (τ := Cert.MemK.τ) (Cert.MemK.main (F := Bits))) ⟨m, fun _ => 0, g⟩ (fun r => (∀ c : Dev Cert.MemK.nD,
      r.2.mem ((c.tc : Thread Cert.MemK.nD Cert.MemK.τ).loc Cert.MemK.main_arg0) = m ((c.tc : Thread Cert.MemK.nD Cert.MemK.τ).loc Cert.MemK.main_arg0)
      ∧ r.2.mem ((c.tc : Thread Cert.MemK.nD Cert.MemK.τ).loc Cert.MemK.main_arg1) = m ((c.tc : Thread Cert.MemK.nD Cert.MemK.τ).loc Cert.MemK.main_arg1))
      ∧ r.2.sem = fun _ => 0)

def quiescent_MemKIdeal [hMemKIdeal : Cert.MemKIdeal.Facts] : Prop :=
  ∀ (m : (ℓ : Loc Cert.MemKIdeal.nD Cert.MemKIdeal.τ Cert.MemKIdeal.sig) → Buf (Elt Ideal) ℓ) (g : Dev Cert.MemKIdeal.nD → PrngReg), Pre_MemKIdeal m →
    θ_run (Cert.MemKIdeal.defs (F := Ideal)) (onTc (τ := Cert.MemKIdeal.τ) (Cert.MemKIdeal.main (F := Ideal))) ⟨m, fun _ => 0, g⟩ (fun r => (∀ c : Dev Cert.MemKIdeal.nD,
      r.2.mem ((c.tc : Thread Cert.MemKIdeal.nD Cert.MemKIdeal.τ).loc Cert.MemKIdeal.main_arg0) = m ((c.tc : Thread Cert.MemKIdeal.nD Cert.MemKIdeal.τ).loc Cert.MemKIdeal.main_arg0)
      ∧ r.2.mem ((c.tc : Thread Cert.MemKIdeal.nD Cert.MemKIdeal.τ).loc Cert.MemKIdeal.main_arg1) = m ((c.tc : Thread Cert.MemKIdeal.nD Cert.MemKIdeal.τ).loc Cert.MemKIdeal.main_arg1))
      ∧ r.2.sem = fun _ => 0)

def quiescent_MemKRefIdeal [hMemKRefIdeal : Cert.MemKRefIdeal.Facts] : Prop :=
  ∀ (m : (ℓ : Loc Cert.MemKRefIdeal.nD Cert.MemKRefIdeal.τ Cert.MemKRefIdeal.sig) → Buf (Elt Ideal) ℓ) (g : Dev Cert.MemKRefIdeal.nD → PrngReg), Pre_MemKRefIdeal m →
    θ_run (Cert.MemKRefIdeal.defs (F := Ideal)) (onTc (τ := Cert.MemKRefIdeal.τ) (Cert.MemKRefIdeal.main (F := Ideal))) ⟨m, fun _ => 0, g⟩ (fun r => (∀ c : Dev Cert.MemKRefIdeal.nD,
      r.2.mem ((c.tc : Thread Cert.MemKRefIdeal.nD Cert.MemKRefIdeal.τ).loc Cert.MemKRefIdeal.main_arg0) = m ((c.tc : Thread Cert.MemKRefIdeal.nD Cert.MemKRefIdeal.τ).loc Cert.MemKRefIdeal.main_arg0)
      ∧ r.2.mem ((c.tc : Thread Cert.MemKRefIdeal.nD Cert.MemKRefIdeal.τ).loc Cert.MemKRefIdeal.main_arg1) = m ((c.tc : Thread Cert.MemKRefIdeal.nD Cert.MemKRefIdeal.τ).loc Cert.MemKRefIdeal.main_arg1))
      ∧ r.2.sem = fun _ => 0)

def quiescent_MemV [hMemV : Cert.MemV.Facts] : Prop :=
  ∀ (m : (ℓ : Loc Cert.MemV.nD Cert.MemV.τ Cert.MemV.sig) → Buf (Elt Bits) ℓ) (g : Dev Cert.MemV.nD → PrngReg), Pre_MemV m →
    θ_run (Cert.MemV.defs (F := Bits)) (onTc (τ := Cert.MemV.τ) (Cert.MemV.main (F := Bits))) ⟨m, fun _ => 0, g⟩ (fun r => (∀ c : Dev Cert.MemV.nD,
      r.2.mem ((c.tc : Thread Cert.MemV.nD Cert.MemV.τ).loc Cert.MemV.main_arg0) = m ((c.tc : Thread Cert.MemV.nD Cert.MemV.τ).loc Cert.MemV.main_arg0)
      ∧ r.2.mem ((c.tc : Thread Cert.MemV.nD Cert.MemV.τ).loc Cert.MemV.main_arg1) = m ((c.tc : Thread Cert.MemV.nD Cert.MemV.τ).loc Cert.MemV.main_arg1))
      ∧ r.2.sem = fun _ => 0)

def quiescent_MemVIdeal [hMemVIdeal : Cert.MemVIdeal.Facts] : Prop :=
  ∀ (m : (ℓ : Loc Cert.MemVIdeal.nD Cert.MemVIdeal.τ Cert.MemVIdeal.sig) → Buf (Elt Ideal) ℓ) (g : Dev Cert.MemVIdeal.nD → PrngReg), Pre_MemVIdeal m →
    θ_run (Cert.MemVIdeal.defs (F := Ideal)) (onTc (τ := Cert.MemVIdeal.τ) (Cert.MemVIdeal.main (F := Ideal))) ⟨m, fun _ => 0, g⟩ (fun r => (∀ c : Dev Cert.MemVIdeal.nD,
      r.2.mem ((c.tc : Thread Cert.MemVIdeal.nD Cert.MemVIdeal.τ).loc Cert.MemVIdeal.main_arg0) = m ((c.tc : Thread Cert.MemVIdeal.nD Cert.MemVIdeal.τ).loc Cert.MemVIdeal.main_arg0)
      ∧ r.2.mem ((c.tc : Thread Cert.MemVIdeal.nD Cert.MemVIdeal.τ).loc Cert.MemVIdeal.main_arg1) = m ((c.tc : Thread Cert.MemVIdeal.nD Cert.MemVIdeal.τ).loc Cert.MemVIdeal.main_arg1))
      ∧ r.2.sem = fun _ => 0)

def quiescent_MemVRefIdeal [hMemVRefIdeal : Cert.MemVRefIdeal.Facts] : Prop :=
  ∀ (m : (ℓ : Loc Cert.MemVRefIdeal.nD Cert.MemVRefIdeal.τ Cert.MemVRefIdeal.sig) → Buf (Elt Ideal) ℓ) (g : Dev Cert.MemVRefIdeal.nD → PrngReg), Pre_MemVRefIdeal m →
    θ_run (Cert.MemVRefIdeal.defs (F := Ideal)) (onTc (τ := Cert.MemVRefIdeal.τ) (Cert.MemVRefIdeal.main (F := Ideal))) ⟨m, fun _ => 0, g⟩ (fun r => (∀ c : Dev Cert.MemVRefIdeal.nD,
      r.2.mem ((c.tc : Thread Cert.MemVRefIdeal.nD Cert.MemVRefIdeal.τ).loc Cert.MemVRefIdeal.main_arg0) = m ((c.tc : Thread Cert.MemVRefIdeal.nD Cert.MemVRefIdeal.τ).loc Cert.MemVRefIdeal.main_arg0)
      ∧ r.2.mem ((c.tc : Thread Cert.MemVRefIdeal.nD Cert.MemVRefIdeal.τ).loc Cert.MemVRefIdeal.main_arg1) = m ((c.tc : Thread Cert.MemVRefIdeal.nD Cert.MemVRefIdeal.τ).loc Cert.MemVRefIdeal.main_arg1))
      ∧ r.2.sem = fun _ => 0)

def quiescent_DwMemK [hDwMemK : Cert.DwMemK.Facts] : Prop :=
  ∀ (m : (ℓ : Loc Cert.DwMemK.nD Cert.DwMemK.τ Cert.DwMemK.sig) → Buf (Elt Bits) ℓ) (g : Dev Cert.DwMemK.nD → PrngReg), Pre_DwMemK m →
    θ_run (Cert.DwMemK.defs (F := Bits)) (onTc (τ := Cert.DwMemK.τ) (Cert.DwMemK.main (F := Bits))) ⟨m, fun _ => 0, g⟩ (fun r => (∀ c : Dev Cert.DwMemK.nD,
      r.2.mem ((c.tc : Thread Cert.DwMemK.nD Cert.DwMemK.τ).loc Cert.DwMemK.main_arg0) = m ((c.tc : Thread Cert.DwMemK.nD Cert.DwMemK.τ).loc Cert.DwMemK.main_arg0)
      ∧ r.2.mem ((c.tc : Thread Cert.DwMemK.nD Cert.DwMemK.τ).loc Cert.DwMemK.main_arg1) = m ((c.tc : Thread Cert.DwMemK.nD Cert.DwMemK.τ).loc Cert.DwMemK.main_arg1))
      ∧ r.2.sem = fun _ => 0)

def quiescent_DwMemKIdeal [hDwMemKIdeal : Cert.DwMemKIdeal.Facts] : Prop :=
  ∀ (m : (ℓ : Loc Cert.DwMemKIdeal.nD Cert.DwMemKIdeal.τ Cert.DwMemKIdeal.sig) → Buf (Elt Ideal) ℓ) (g : Dev Cert.DwMemKIdeal.nD → PrngReg), Pre_DwMemKIdeal m →
    θ_run (Cert.DwMemKIdeal.defs (F := Ideal)) (onTc (τ := Cert.DwMemKIdeal.τ) (Cert.DwMemKIdeal.main (F := Ideal))) ⟨m, fun _ => 0, g⟩ (fun r => (∀ c : Dev Cert.DwMemKIdeal.nD,
      r.2.mem ((c.tc : Thread Cert.DwMemKIdeal.nD Cert.DwMemKIdeal.τ).loc Cert.DwMemKIdeal.main_arg0) = m ((c.tc : Thread Cert.DwMemKIdeal.nD Cert.DwMemKIdeal.τ).loc Cert.DwMemKIdeal.main_arg0)
      ∧ r.2.mem ((c.tc : Thread Cert.DwMemKIdeal.nD Cert.DwMemKIdeal.τ).loc Cert.DwMemKIdeal.main_arg1) = m ((c.tc : Thread Cert.DwMemKIdeal.nD Cert.DwMemKIdeal.τ).loc Cert.DwMemKIdeal.main_arg1))
      ∧ r.2.sem = fun _ => 0)

def quiescent_DwMemKRefIdeal [hDwMemKRefIdeal : Cert.DwMemKRefIdeal.Facts] : Prop :=
  ∀ (m : (ℓ : Loc Cert.DwMemKRefIdeal.nD Cert.DwMemKRefIdeal.τ Cert.DwMemKRefIdeal.sig) → Buf (Elt Ideal) ℓ) (g : Dev Cert.DwMemKRefIdeal.nD → PrngReg), Pre_DwMemKRefIdeal m →
    θ_run (Cert.DwMemKRefIdeal.defs (F := Ideal)) (onTc (τ := Cert.DwMemKRefIdeal.τ) (Cert.DwMemKRefIdeal.main (F := Ideal))) ⟨m, fun _ => 0, g⟩ (fun r => (∀ c : Dev Cert.DwMemKRefIdeal.nD,
      r.2.mem ((c.tc : Thread Cert.DwMemKRefIdeal.nD Cert.DwMemKRefIdeal.τ).loc Cert.DwMemKRefIdeal.main_arg0) = m ((c.tc : Thread Cert.DwMemKRefIdeal.nD Cert.DwMemKRefIdeal.τ).loc Cert.DwMemKRefIdeal.main_arg0)
      ∧ r.2.mem ((c.tc : Thread Cert.DwMemKRefIdeal.nD Cert.DwMemKRefIdeal.τ).loc Cert.DwMemKRefIdeal.main_arg1) = m ((c.tc : Thread Cert.DwMemKRefIdeal.nD Cert.DwMemKRefIdeal.τ).loc Cert.DwMemKRefIdeal.main_arg1))
      ∧ r.2.sem = fun _ => 0)

def quiescent_DwMemV [hDwMemV : Cert.DwMemV.Facts] : Prop :=
  ∀ (m : (ℓ : Loc Cert.DwMemV.nD Cert.DwMemV.τ Cert.DwMemV.sig) → Buf (Elt Bits) ℓ) (g : Dev Cert.DwMemV.nD → PrngReg), Pre_DwMemV m →
    θ_run (Cert.DwMemV.defs (F := Bits)) (onTc (τ := Cert.DwMemV.τ) (Cert.DwMemV.main (F := Bits))) ⟨m, fun _ => 0, g⟩ (fun r => (∀ c : Dev Cert.DwMemV.nD,
      r.2.mem ((c.tc : Thread Cert.DwMemV.nD Cert.DwMemV.τ).loc Cert.DwMemV.main_arg0) = m ((c.tc : Thread Cert.DwMemV.nD Cert.DwMemV.τ).loc Cert.DwMemV.main_arg0)
      ∧ r.2.mem ((c.tc : Thread Cert.DwMemV.nD Cert.DwMemV.τ).loc Cert.DwMemV.main_arg1) = m ((c.tc : Thread Cert.DwMemV.nD Cert.DwMemV.τ).loc Cert.DwMemV.main_arg1)
      ∧ r.2.mem ((c.tc : Thread Cert.DwMemV.nD Cert.DwMemV.τ).loc Cert.DwMemV.main_arg2) = m ((c.tc : Thread Cert.DwMemV.nD Cert.DwMemV.τ).loc Cert.DwMemV.main_arg2))
      ∧ r.2.sem = fun _ => 0)

def quiescent_DwMemVIdeal [hDwMemVIdeal : Cert.DwMemVIdeal.Facts] : Prop :=
  ∀ (m : (ℓ : Loc Cert.DwMemVIdeal.nD Cert.DwMemVIdeal.τ Cert.DwMemVIdeal.sig) → Buf (Elt Ideal) ℓ) (g : Dev Cert.DwMemVIdeal.nD → PrngReg), Pre_DwMemVIdeal m →
    θ_run (Cert.DwMemVIdeal.defs (F := Ideal)) (onTc (τ := Cert.DwMemVIdeal.τ) (Cert.DwMemVIdeal.main (F := Ideal))) ⟨m, fun _ => 0, g⟩ (fun r => (∀ c : Dev Cert.DwMemVIdeal.nD,
      r.2.mem ((c.tc : Thread Cert.DwMemVIdeal.nD Cert.DwMemVIdeal.τ).loc Cert.DwMemVIdeal.main_arg0) = m ((c.tc : Thread Cert.DwMemVIdeal.nD Cert.DwMemVIdeal.τ).loc Cert.DwMemVIdeal.main_arg0)
      ∧ r.2.mem ((c.tc : Thread Cert.DwMemVIdeal.nD Cert.DwMemVIdeal.τ).loc Cert.DwMemVIdeal.main_arg1) = m ((c.tc : Thread Cert.DwMemVIdeal.nD Cert.DwMemVIdeal.τ).loc Cert.DwMemVIdeal.main_arg1)
      ∧ r.2.mem ((c.tc : Thread Cert.DwMemVIdeal.nD Cert.DwMemVIdeal.τ).loc Cert.DwMemVIdeal.main_arg2) = m ((c.tc : Thread Cert.DwMemVIdeal.nD Cert.DwMemVIdeal.τ).loc Cert.DwMemVIdeal.main_arg2))
      ∧ r.2.sem = fun _ => 0)

def quiescent_DwMemVRefIdeal [hDwMemVRefIdeal : Cert.DwMemVRefIdeal.Facts] : Prop :=
  ∀ (m : (ℓ : Loc Cert.DwMemVRefIdeal.nD Cert.DwMemVRefIdeal.τ Cert.DwMemVRefIdeal.sig) → Buf (Elt Ideal) ℓ) (g : Dev Cert.DwMemVRefIdeal.nD → PrngReg), Pre_DwMemVRefIdeal m →
    θ_run (Cert.DwMemVRefIdeal.defs (F := Ideal)) (onTc (τ := Cert.DwMemVRefIdeal.τ) (Cert.DwMemVRefIdeal.main (F := Ideal))) ⟨m, fun _ => 0, g⟩ (fun r => (∀ c : Dev Cert.DwMemVRefIdeal.nD,
      r.2.mem ((c.tc : Thread Cert.DwMemVRefIdeal.nD Cert.DwMemVRefIdeal.τ).loc Cert.DwMemVRefIdeal.main_arg0) = m ((c.tc : Thread Cert.DwMemVRefIdeal.nD Cert.DwMemVRefIdeal.τ).loc Cert.DwMemVRefIdeal.main_arg0)
      ∧ r.2.mem ((c.tc : Thread Cert.DwMemVRefIdeal.nD Cert.DwMemVRefIdeal.τ).loc Cert.DwMemVRefIdeal.main_arg1) = m ((c.tc : Thread Cert.DwMemVRefIdeal.nD Cert.DwMemVRefIdeal.τ).loc Cert.DwMemVRefIdeal.main_arg1)
      ∧ r.2.mem ((c.tc : Thread Cert.DwMemVRefIdeal.nD Cert.DwMemVRefIdeal.τ).loc Cert.DwMemVRefIdeal.main_arg2) = m ((c.tc : Thread Cert.DwMemVRefIdeal.nD Cert.DwMemVRefIdeal.τ).loc Cert.DwMemVRefIdeal.main_arg2))
      ∧ r.2.sem = fun _ => 0)

def quiescent_DxMemK [hDxMemK : Cert.DxMemK.Facts] : Prop :=
  ∀ (m : (ℓ : Loc Cert.DxMemK.nD Cert.DxMemK.τ Cert.DxMemK.sig) → Buf (Elt Bits) ℓ) (g : Dev Cert.DxMemK.nD → PrngReg), Pre_DxMemK m →
    θ_run (Cert.DxMemK.defs (F := Bits)) (onTc (τ := Cert.DxMemK.τ) (Cert.DxMemK.main (F := Bits))) ⟨m, fun _ => 0, g⟩ (fun r => (∀ c : Dev Cert.DxMemK.nD,
      r.2.mem ((c.tc : Thread Cert.DxMemK.nD Cert.DxMemK.τ).loc Cert.DxMemK.main_arg0) = m ((c.tc : Thread Cert.DxMemK.nD Cert.DxMemK.τ).loc Cert.DxMemK.main_arg0)
      ∧ r.2.mem ((c.tc : Thread Cert.DxMemK.nD Cert.DxMemK.τ).loc Cert.DxMemK.main_arg1) = m ((c.tc : Thread Cert.DxMemK.nD Cert.DxMemK.τ).loc Cert.DxMemK.main_arg1))
      ∧ r.2.sem = fun _ => 0)

def quiescent_DxMemKIdeal [hDxMemKIdeal : Cert.DxMemKIdeal.Facts] : Prop :=
  ∀ (m : (ℓ : Loc Cert.DxMemKIdeal.nD Cert.DxMemKIdeal.τ Cert.DxMemKIdeal.sig) → Buf (Elt Ideal) ℓ) (g : Dev Cert.DxMemKIdeal.nD → PrngReg), Pre_DxMemKIdeal m →
    θ_run (Cert.DxMemKIdeal.defs (F := Ideal)) (onTc (τ := Cert.DxMemKIdeal.τ) (Cert.DxMemKIdeal.main (F := Ideal))) ⟨m, fun _ => 0, g⟩ (fun r => (∀ c : Dev Cert.DxMemKIdeal.nD,
      r.2.mem ((c.tc : Thread Cert.DxMemKIdeal.nD Cert.DxMemKIdeal.τ).loc Cert.DxMemKIdeal.main_arg0) = m ((c.tc : Thread Cert.DxMemKIdeal.nD Cert.DxMemKIdeal.τ).loc Cert.DxMemKIdeal.main_arg0)
      ∧ r.2.mem ((c.tc : Thread Cert.DxMemKIdeal.nD Cert.DxMemKIdeal.τ).loc Cert.DxMemKIdeal.main_arg1) = m ((c.tc : Thread Cert.DxMemKIdeal.nD Cert.DxMemKIdeal.τ).loc Cert.DxMemKIdeal.main_arg1))
      ∧ r.2.sem = fun _ => 0)

def quiescent_DxMemKRefIdeal [hDxMemKRefIdeal : Cert.DxMemKRefIdeal.Facts] : Prop :=
  ∀ (m : (ℓ : Loc Cert.DxMemKRefIdeal.nD Cert.DxMemKRefIdeal.τ Cert.DxMemKRefIdeal.sig) → Buf (Elt Ideal) ℓ) (g : Dev Cert.DxMemKRefIdeal.nD → PrngReg), Pre_DxMemKRefIdeal m →
    θ_run (Cert.DxMemKRefIdeal.defs (F := Ideal)) (onTc (τ := Cert.DxMemKRefIdeal.τ) (Cert.DxMemKRefIdeal.main (F := Ideal))) ⟨m, fun _ => 0, g⟩ (fun r => (∀ c : Dev Cert.DxMemKRefIdeal.nD,
      r.2.mem ((c.tc : Thread Cert.DxMemKRefIdeal.nD Cert.DxMemKRefIdeal.τ).loc Cert.DxMemKRefIdeal.main_arg0) = m ((c.tc : Thread Cert.DxMemKRefIdeal.nD Cert.DxMemKRefIdeal.τ).loc Cert.DxMemKRefIdeal.main_arg0)
      ∧ r.2.mem ((c.tc : Thread Cert.DxMemKRefIdeal.nD Cert.DxMemKRefIdeal.τ).loc Cert.DxMemKRefIdeal.main_arg1) = m ((c.tc : Thread Cert.DxMemKRefIdeal.nD Cert.DxMemKRefIdeal.τ).loc Cert.DxMemKRefIdeal.main_arg1))
      ∧ r.2.sem = fun _ => 0)

def quiescent_DxMemV [hDxMemV : Cert.DxMemV.Facts] : Prop :=
  ∀ (m : (ℓ : Loc Cert.DxMemV.nD Cert.DxMemV.τ Cert.DxMemV.sig) → Buf (Elt Bits) ℓ) (g : Dev Cert.DxMemV.nD → PrngReg), Pre_DxMemV m →
    θ_run (Cert.DxMemV.defs (F := Bits)) (onTc (τ := Cert.DxMemV.τ) (Cert.DxMemV.main (F := Bits))) ⟨m, fun _ => 0, g⟩ (fun r => (∀ c : Dev Cert.DxMemV.nD,
      r.2.mem ((c.tc : Thread Cert.DxMemV.nD Cert.DxMemV.τ).loc Cert.DxMemV.main_arg0) = m ((c.tc : Thread Cert.DxMemV.nD Cert.DxMemV.τ).loc Cert.DxMemV.main_arg0)
      ∧ r.2.mem ((c.tc : Thread Cert.DxMemV.nD Cert.DxMemV.τ).loc Cert.DxMemV.main_arg1) = m ((c.tc : Thread Cert.DxMemV.nD Cert.DxMemV.τ).loc Cert.DxMemV.main_arg1)
      ∧ r.2.mem ((c.tc : Thread Cert.DxMemV.nD Cert.DxMemV.τ).loc Cert.DxMemV.main_arg2) = m ((c.tc : Thread Cert.DxMemV.nD Cert.DxMemV.τ).loc Cert.DxMemV.main_arg2))
      ∧ r.2.sem = fun _ => 0)

def quiescent_DxMemVIdeal [hDxMemVIdeal : Cert.DxMemVIdeal.Facts] : Prop :=
  ∀ (m : (ℓ : Loc Cert.DxMemVIdeal.nD Cert.DxMemVIdeal.τ Cert.DxMemVIdeal.sig) → Buf (Elt Ideal) ℓ) (g : Dev Cert.DxMemVIdeal.nD → PrngReg), Pre_DxMemVIdeal m →
    θ_run (Cert.DxMemVIdeal.defs (F := Ideal)) (onTc (τ := Cert.DxMemVIdeal.τ) (Cert.DxMemVIdeal.main (F := Ideal))) ⟨m, fun _ => 0, g⟩ (fun r => (∀ c : Dev Cert.DxMemVIdeal.nD,
      r.2.mem ((c.tc : Thread Cert.DxMemVIdeal.nD Cert.DxMemVIdeal.τ).loc Cert.DxMemVIdeal.main_arg0) = m ((c.tc : Thread Cert.DxMemVIdeal.nD Cert.DxMemVIdeal.τ).loc Cert.DxMemVIdeal.main_arg0)
      ∧ r.2.mem ((c.tc : Thread Cert.DxMemVIdeal.nD Cert.DxMemVIdeal.τ).loc Cert.DxMemVIdeal.main_arg1) = m ((c.tc : Thread Cert.DxMemVIdeal.nD Cert.DxMemVIdeal.τ).loc Cert.DxMemVIdeal.main_arg1)
      ∧ r.2.mem ((c.tc : Thread Cert.DxMemVIdeal.nD Cert.DxMemVIdeal.τ).loc Cert.DxMemVIdeal.main_arg2) = m ((c.tc : Thread Cert.DxMemVIdeal.nD Cert.DxMemVIdeal.τ).loc Cert.DxMemVIdeal.main_arg2))
      ∧ r.2.sem = fun _ => 0)

def quiescent_DxMemVRefIdeal [hDxMemVRefIdeal : Cert.DxMemVRefIdeal.Facts] : Prop :=
  ∀ (m : (ℓ : Loc Cert.DxMemVRefIdeal.nD Cert.DxMemVRefIdeal.τ Cert.DxMemVRefIdeal.sig) → Buf (Elt Ideal) ℓ) (g : Dev Cert.DxMemVRefIdeal.nD → PrngReg), Pre_DxMemVRefIdeal m →
    θ_run (Cert.DxMemVRefIdeal.defs (F := Ideal)) (onTc (τ := Cert.DxMemVRefIdeal.τ) (Cert.DxMemVRefIdeal.main (F := Ideal))) ⟨m, fun _ => 0, g⟩ (fun r => (∀ c : Dev Cert.DxMemVRefIdeal.nD,
      r.2.mem ((c.tc : Thread Cert.DxMemVRefIdeal.nD Cert.DxMemVRefIdeal.τ).loc Cert.DxMemVRefIdeal.main_arg0) = m ((c.tc : Thread Cert.DxMemVRefIdeal.nD Cert.DxMemVRefIdeal.τ).loc Cert.DxMemVRefIdeal.main_arg0)
      ∧ r.2.mem ((c.tc : Thread Cert.DxMemVRefIdeal.nD Cert.DxMemVRefIdeal.τ).loc Cert.DxMemVRefIdeal.main_arg1) = m ((c.tc : Thread Cert.DxMemVRefIdeal.nD Cert.DxMemVRefIdeal.τ).loc Cert.DxMemVRefIdeal.main_arg1)
      ∧ r.2.mem ((c.tc : Thread Cert.DxMemVRefIdeal.nD Cert.DxMemVRefIdeal.τ).loc Cert.DxMemVRefIdeal.main_arg2) = m ((c.tc : Thread Cert.DxMemVRefIdeal.nD Cert.DxMemVRefIdeal.τ).loc Cert.DxMemVRefIdeal.main_arg2))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2)
      ∧ r.2.mem ((c.tc : Thread Cert.GluFwd.nD Cert.GluFwd.τ).loc Cert.GluFwd.main_arg3) = m ((c.tc : Thread Cert.GluFwd.nD Cert.GluFwd.τ).loc Cert.GluFwd.main_arg3))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
      ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1)
      ∧ r.2.mem ((c.tc : Thread Cert.GluFwdRefIdeal.nD Cert.GluFwdRefIdeal.τ).loc Cert.GluFwdRefIdeal.main_arg2) = m ((c.tc : Thread Cert.GluFwdRefIdeal.nD Cert.GluFwdRefIdeal.τ).loc Cert.GluFwdRefIdeal.main_arg2)
      ∧ r.2.mem ((c.tc : Thread Cert.GluFwdRefIdeal.nD Cert.GluFwdRefIdeal.τ).loc Cert.GluFwdRefIdeal.main_arg3) = m ((c.tc : Thread Cert.GluFwdRefIdeal.nD Cert.GluFwdRefIdeal.τ).loc Cert.GluFwdRefIdeal.main_arg3))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_GlaFwd [hGlaFwd : Cert.GlaFwd.Facts] : Prop :=
  ∀ (m : (ℓ : Loc Cert.GlaFwd.nD Cert.GlaFwd.τ Cert.GlaFwd.sig) → Buf (Elt Bits) ℓ) (g : Dev Cert.GlaFwd.nD → PrngReg), Pre_GlaFwd m →
    θ_run (Cert.GlaFwd.defs (F := Bits)) (onTc (τ := Cert.GlaFwd.τ) (Cert.GlaFwd.main (F := Bits))) ⟨m, fun _ => 0, g⟩ (fun r => (∀ c : Dev Cert.GlaFwd.nD,
      r.2.mem ((c.tc : Thread Cert.GlaFwd.nD Cert.GlaFwd.τ).loc Cert.GlaFwd.main_arg0) = m ((c.tc : Thread Cert.GlaFwd.nD Cert.GlaFwd.τ).loc Cert.GlaFwd.main_arg0)
      ∧ r.2.mem ((c.tc : Thread Cert.GlaFwd.nD Cert.GlaFwd.τ).loc Cert.GlaFwd.main_arg1) = m ((c.tc : Thread Cert.GlaFwd.nD Cert.GlaFwd.τ).loc Cert.GlaFwd.main_arg1)
      ∧ r.2.mem ((c.tc : Thread Cert.GlaFwd.nD Cert.GlaFwd.τ).loc Cert.GlaFwd.main_arg2) = m ((c.tc : Thread Cert.GlaFwd.nD Cert.GlaFwd.τ).loc Cert.GlaFwd.main_arg2)
      ∧ r.2.mem ((c.tc : Thread Cert.GlaFwd.nD Cert.GlaFwd.τ).loc Cert.GlaFwd.main_arg3) = m ((c.tc : Thread Cert.GlaFwd.nD Cert.GlaFwd.τ).loc Cert.GlaFwd.main_arg3)
      ∧ r.2.mem ((c.tc : Thread Cert.GlaFwd.nD Cert.GlaFwd.τ).loc Cert.GlaFwd.main_arg4) = m ((c.tc : Thread Cert.GlaFwd.nD Cert.GlaFwd.τ).loc Cert.GlaFwd.main_arg4)
      ∧ r.2.mem ((c.tc : Thread Cert.GlaFwd.nD Cert.GlaFwd.τ).loc Cert.GlaFwd.main_arg5) = m ((c.tc : Thread Cert.GlaFwd.nD Cert.GlaFwd.τ).loc Cert.GlaFwd.main_arg5))
      ∧ r.2.sem = fun _ => 0)

def quiescent_GlaFwdIdeal [hGlaFwdIdeal : Cert.GlaFwdIdeal.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg), Pre_GlaFwdIdeal m →
    θ_run (Cert.GlaFwdIdeal.defs (F := Ideal)) (onTc (τ := Cert.GlaFwdIdeal.τ) (Cert.GlaFwdIdeal.main (F := Ideal))) ⟨m, fun _ => 0, g⟩ (fun r => (∀ c : Dev Cert.GlaFwdIdeal.nD,
      r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
      ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
      ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
      ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3)
      ∧ r.2.mem ((c.tc : Thread Cert.GlaFwdIdeal.nD Cert.GlaFwdIdeal.τ).loc Cert.GlaFwdIdeal.main_arg4) = m ((c.tc : Thread Cert.GlaFwdIdeal.nD Cert.GlaFwdIdeal.τ).loc Cert.GlaFwdIdeal.main_arg4)
      ∧ r.2.mem ((c.tc : Thread Cert.GlaFwdIdeal.nD Cert.GlaFwdIdeal.τ).loc Cert.GlaFwdIdeal.main_arg5) = m ((c.tc : Thread Cert.GlaFwdIdeal.nD Cert.GlaFwdIdeal.τ).loc Cert.GlaFwdIdeal.main_arg5))
      ∧ r.2.sem = fun _ => 0)

def quiescent_GlaFwdRefIdeal [hGlaFwdRefIdeal : Cert.GlaFwdRefIdeal.Facts] : Prop :=
  ∀ (m : (ℓ : Loc Cert.GlaFwdRefIdeal.nD Cert.GlaFwdRefIdeal.τ Cert.GlaFwdRefIdeal.sig) → Buf (Elt Ideal) ℓ) (g : Dev Cert.GlaFwdRefIdeal.nD → PrngReg), Pre_GlaFwdRefIdeal m →
    θ_run (Cert.GlaFwdRefIdeal.defs (F := Ideal)) (onTc (τ := Cert.GlaFwdRefIdeal.τ) (Cert.GlaFwdRefIdeal.main (F := Ideal))) ⟨m, fun _ => 0, g⟩ (fun r => (∀ c : Dev Cert.GlaFwdRefIdeal.nD,
      r.2.mem ((c.tc : Thread Cert.GlaFwdRefIdeal.nD Cert.GlaFwdRefIdeal.τ).loc Cert.GlaFwdRefIdeal.main_arg0) = m ((c.tc : Thread Cert.GlaFwdRefIdeal.nD Cert.GlaFwdRefIdeal.τ).loc Cert.GlaFwdRefIdeal.main_arg0)
      ∧ r.2.mem ((c.tc : Thread Cert.GlaFwdRefIdeal.nD Cert.GlaFwdRefIdeal.τ).loc Cert.GlaFwdRefIdeal.main_arg1) = m ((c.tc : Thread Cert.GlaFwdRefIdeal.nD Cert.GlaFwdRefIdeal.τ).loc Cert.GlaFwdRefIdeal.main_arg1)
      ∧ r.2.mem ((c.tc : Thread Cert.GlaFwdRefIdeal.nD Cert.GlaFwdRefIdeal.τ).loc Cert.GlaFwdRefIdeal.main_arg2) = m ((c.tc : Thread Cert.GlaFwdRefIdeal.nD Cert.GlaFwdRefIdeal.τ).loc Cert.GlaFwdRefIdeal.main_arg2)
      ∧ r.2.mem ((c.tc : Thread Cert.GlaFwdRefIdeal.nD Cert.GlaFwdRefIdeal.τ).loc Cert.GlaFwdRefIdeal.main_arg3) = m ((c.tc : Thread Cert.GlaFwdRefIdeal.nD Cert.GlaFwdRefIdeal.τ).loc Cert.GlaFwdRefIdeal.main_arg3)
      ∧ r.2.mem ((c.tc : Thread Cert.GlaFwdRefIdeal.nD Cert.GlaFwdRefIdeal.τ).loc Cert.GlaFwdRefIdeal.main_arg4) = m ((c.tc : Thread Cert.GlaFwdRefIdeal.nD Cert.GlaFwdRefIdeal.τ).loc Cert.GlaFwdRefIdeal.main_arg4)
      ∧ r.2.mem ((c.tc : Thread Cert.GlaFwdRefIdeal.nD Cert.GlaFwdRefIdeal.τ).loc Cert.GlaFwdRefIdeal.main_arg5) = m ((c.tc : Thread Cert.GlaFwdRefIdeal.nD Cert.GlaFwdRefIdeal.τ).loc Cert.GlaFwdRefIdeal.main_arg5))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_HeadBwd [hHeadBwd : Cert.HeadBwd.Facts] : Prop :=
  ∀ (m : (ℓ : Loc Cert.HeadBwd.nD Cert.HeadBwd.τ Cert.HeadBwd.sig) → Buf (Elt Bits) ℓ) (g : Dev Cert.HeadBwd.nD → PrngReg), Pre_HeadBwd m →
    θ_run (Cert.HeadBwd.defs (F := Bits)) (onTc (τ := Cert.HeadBwd.τ) (Cert.HeadBwd.main (F := Bits))) ⟨m, fun _ => 0, g⟩ (fun r => (∀ c : Dev Cert.HeadBwd.nD,
      r.2.mem ((c.tc : Thread Cert.HeadBwd.nD Cert.HeadBwd.τ).loc Cert.HeadBwd.main_arg0) = m ((c.tc : Thread Cert.HeadBwd.nD Cert.HeadBwd.τ).loc Cert.HeadBwd.main_arg0)
      ∧ r.2.mem ((c.tc : Thread Cert.HeadBwd.nD Cert.HeadBwd.τ).loc Cert.HeadBwd.main_arg1) = m ((c.tc : Thread Cert.HeadBwd.nD Cert.HeadBwd.τ).loc Cert.HeadBwd.main_arg1)
      ∧ r.2.mem ((c.tc : Thread Cert.HeadBwd.nD Cert.HeadBwd.τ).loc Cert.HeadBwd.main_arg2) = m ((c.tc : Thread Cert.HeadBwd.nD Cert.HeadBwd.τ).loc Cert.HeadBwd.main_arg2))
      ∧ r.2.sem = fun _ => 0)

def quiescent_HeadBwdIdeal [hHeadBwdIdeal : Cert.HeadBwdIdeal.Facts] : Prop :=
  ∀ (m : (ℓ : Loc Cert.HeadBwdIdeal.nD Cert.HeadBwdIdeal.τ Cert.HeadBwdIdeal.sig) → Buf (Elt Ideal) ℓ) (g : Dev Cert.HeadBwdIdeal.nD → PrngReg), Pre_HeadBwdIdeal m →
    θ_run (Cert.HeadBwdIdeal.defs (F := Ideal)) (onTc (τ := Cert.HeadBwdIdeal.τ) (Cert.HeadBwdIdeal.main (F := Ideal))) ⟨m, fun _ => 0, g⟩ (fun r => (∀ c : Dev Cert.HeadBwdIdeal.nD,
      r.2.mem ((c.tc : Thread Cert.HeadBwdIdeal.nD Cert.HeadBwdIdeal.τ).loc Cert.HeadBwdIdeal.main_arg0) = m ((c.tc : Thread Cert.HeadBwdIdeal.nD Cert.HeadBwdIdeal.τ).loc Cert.HeadBwdIdeal.main_arg0)
      ∧ r.2.mem ((c.tc : Thread Cert.HeadBwdIdeal.nD Cert.HeadBwdIdeal.τ).loc Cert.HeadBwdIdeal.main_arg1) = m ((c.tc : Thread Cert.HeadBwdIdeal.nD Cert.HeadBwdIdeal.τ).loc Cert.HeadBwdIdeal.main_arg1)
      ∧ r.2.mem ((c.tc : Thread Cert.HeadBwdIdeal.nD Cert.HeadBwdIdeal.τ).loc Cert.HeadBwdIdeal.main_arg2) = m ((c.tc : Thread Cert.HeadBwdIdeal.nD Cert.HeadBwdIdeal.τ).loc Cert.HeadBwdIdeal.main_arg2))
      ∧ r.2.sem = fun _ => 0)

def quiescent_HeadBwdRefIdeal [hHeadBwdRefIdeal : Cert.HeadBwdRefIdeal.Facts] : Prop :=
  ∀ (m : (ℓ : Loc Cert.HeadBwdRefIdeal.nD Cert.HeadBwdRefIdeal.τ Cert.HeadBwdRefIdeal.sig) → Buf (Elt Ideal) ℓ) (g : Dev Cert.HeadBwdRefIdeal.nD → PrngReg), Pre_HeadBwdRefIdeal m →
    θ_run (Cert.HeadBwdRefIdeal.defs (F := Ideal)) (onTc (τ := Cert.HeadBwdRefIdeal.τ) (Cert.HeadBwdRefIdeal.main (F := Ideal))) ⟨m, fun _ => 0, g⟩ (fun r => (∀ c : Dev Cert.HeadBwdRefIdeal.nD,
      r.2.mem ((c.tc : Thread Cert.HeadBwdRefIdeal.nD Cert.HeadBwdRefIdeal.τ).loc Cert.HeadBwdRefIdeal.main_arg0) = m ((c.tc : Thread Cert.HeadBwdRefIdeal.nD Cert.HeadBwdRefIdeal.τ).loc Cert.HeadBwdRefIdeal.main_arg0)
      ∧ r.2.mem ((c.tc : Thread Cert.HeadBwdRefIdeal.nD Cert.HeadBwdRefIdeal.τ).loc Cert.HeadBwdRefIdeal.main_arg1) = m ((c.tc : Thread Cert.HeadBwdRefIdeal.nD Cert.HeadBwdRefIdeal.τ).loc Cert.HeadBwdRefIdeal.main_arg1)
      ∧ r.2.mem ((c.tc : Thread Cert.HeadBwdRefIdeal.nD Cert.HeadBwdRefIdeal.τ).loc Cert.HeadBwdRefIdeal.main_arg2) = m ((c.tc : Thread Cert.HeadBwdRefIdeal.nD Cert.HeadBwdRefIdeal.τ).loc Cert.HeadBwdRefIdeal.main_arg2))
      ∧ r.2.sem = fun _ => 0)

def preserves_AttnBwd_AttnBwdIdeal : Prop :=
  True

def algebraic_AttnBwdIdeal_AttnBwdRefIdeal [hAttnBwdIdeal : Cert.AttnBwdIdeal.Facts] [hAttnBwdRefIdeal : Cert.AttnBwdRefIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v0_0)) (v1 : (c : Dev Cert.AttnBwdIdeal.nD) → Buf (Elt Ideal) ((c.tc : Thread Cert.AttnBwdIdeal.nD Cert.AttnBwdIdeal.τ).loc Cert.AttnBwdIdeal.main_v0_1)) (v2 : (c : Dev Cert.AttnBwdIdeal.nD) → Buf (Elt Ideal) ((c.tc : Thread Cert.AttnBwdIdeal.nD Cert.AttnBwdIdeal.τ).loc Cert.AttnBwdIdeal.main_v0_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v0_0) = v0 c
          ∧ r.2.mem ((c.tc : Thread Cert.AttnBwdIdeal.nD Cert.AttnBwdIdeal.τ).loc Cert.AttnBwdIdeal.main_v0_1) = v1 c
          ∧ r.2.mem ((c.tc : Thread Cert.AttnBwdIdeal.nD Cert.AttnBwdIdeal.τ).loc Cert.AttnBwdIdeal.main_v0_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v67) = v0 c
          ∧ r.2.mem ((c.tc : Thread Cert.AttnBwdRefIdeal.nD Cert.AttnBwdRefIdeal.τ).loc Cert.AttnBwdRefIdeal.main_v65) = v1 c
          ∧ r.2.mem ((c.tc : Thread Cert.AttnBwdRefIdeal.nD Cert.AttnBwdRefIdeal.τ).loc Cert.AttnBwdRefIdeal.main_v64) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v5) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DxDown_DxDownIdeal : Prop :=
  True

def algebraic_DxDownIdeal_DxDownRefIdeal [hDxDownIdeal : Cert.DxDownIdeal.Facts] [hDxDownRefIdeal : Cert.DxDownRefIdeal.Facts] : Prop :=
  ∀ (m : (ℓ : Loc Cert.DxDownIdeal.nD Cert.DxDownIdeal.τ Cert.DxDownIdeal.sig) → Buf (Elt Ideal) ℓ) (g : Dev Cert.DxDownIdeal.nD → PrngReg)
    (m' : (ℓ : Loc Cert.DxDownRefIdeal.nD Cert.DxDownRefIdeal.τ Cert.DxDownRefIdeal.sig) → Buf (Elt Ideal) ℓ) (g' : Dev Cert.DxDownRefIdeal.nD → PrngReg), Pre_DxDownIdeal m →
    (∀ c : Dev Cert.DxDownIdeal.nD,
      m' ((c.tc : Thread Cert.DxDownRefIdeal.nD Cert.DxDownRefIdeal.τ).loc Cert.DxDownRefIdeal.main_arg0) = m ((c.tc : Thread Cert.DxDownIdeal.nD Cert.DxDownIdeal.τ).loc Cert.DxDownIdeal.main_arg0)
      ∧ m' ((c.tc : Thread Cert.DxDownRefIdeal.nD Cert.DxDownRefIdeal.τ).loc Cert.DxDownRefIdeal.main_arg1) = m ((c.tc : Thread Cert.DxDownIdeal.nD Cert.DxDownIdeal.τ).loc Cert.DxDownIdeal.main_arg1)) →
    ∃ (v0 : (c : Dev Cert.DxDownIdeal.nD) → Buf (Elt Ideal) ((c.tc : Thread Cert.DxDownIdeal.nD Cert.DxDownIdeal.τ).loc Cert.DxDownIdeal.main_v0)),
      θ_run (Cert.DxDownIdeal.defs (F := Ideal)) (onTc (τ := Cert.DxDownIdeal.τ) (Cert.DxDownIdeal.main (F := Ideal))) ⟨m, fun _ => 0, g⟩ (fun r => ∀ c : Dev Cert.DxDownIdeal.nD,
          r.2.mem ((c.tc : Thread Cert.DxDownIdeal.nD Cert.DxDownIdeal.τ).loc Cert.DxDownIdeal.main_v0) = v0 c
          ∧ r.2.mem ((c.tc : Thread Cert.DxDownIdeal.nD Cert.DxDownIdeal.τ).loc Cert.DxDownIdeal.main_arg0) = m ((c.tc : Thread Cert.DxDownIdeal.nD Cert.DxDownIdeal.τ).loc Cert.DxDownIdeal.main_arg0)
          ∧ r.2.mem ((c.tc : Thread Cert.DxDownIdeal.nD Cert.DxDownIdeal.τ).loc Cert.DxDownIdeal.main_arg1) = m ((c.tc : Thread Cert.DxDownIdeal.nD Cert.DxDownIdeal.τ).loc Cert.DxDownIdeal.main_arg1))
      ∧ θ_run (Cert.DxDownRefIdeal.defs (F := Ideal)) (onTc (τ := Cert.DxDownRefIdeal.τ) (Cert.DxDownRefIdeal.main (F := Ideal))) ⟨m', fun _ => 0, g'⟩ (fun r => ∀ c : Dev Cert.DxDownRefIdeal.nD,
          r.2.mem ((c.tc : Thread Cert.DxDownRefIdeal.nD Cert.DxDownRefIdeal.τ).loc Cert.DxDownRefIdeal.main_v4) = v0 c
          ∧ r.2.mem ((c.tc : Thread Cert.DxDownRefIdeal.nD Cert.DxDownRefIdeal.τ).loc Cert.DxDownRefIdeal.main_arg0) = m' ((c.tc : Thread Cert.DxDownRefIdeal.nD Cert.DxDownRefIdeal.τ).loc Cert.DxDownRefIdeal.main_arg0)
          ∧ r.2.mem ((c.tc : Thread Cert.DxDownRefIdeal.nD Cert.DxDownRefIdeal.τ).loc Cert.DxDownRefIdeal.main_arg1) = m' ((c.tc : Thread Cert.DxDownRefIdeal.nD Cert.DxDownRefIdeal.τ).loc Cert.DxDownRefIdeal.main_arg1))

def preserves_DxGate_DxGateIdeal : Prop :=
  True

def algebraic_DxGateIdeal_DxGateRefIdeal [hDxGateIdeal : Cert.DxGateIdeal.Facts] [hDxGateRefIdeal : Cert.DxGateRefIdeal.Facts] : Prop :=
  ∀ (m : (ℓ : Loc Cert.DxGateIdeal.nD Cert.DxGateIdeal.τ Cert.DxGateIdeal.sig) → Buf (Elt Ideal) ℓ) (g : Dev Cert.DxGateIdeal.nD → PrngReg)
    (m' : (ℓ : Loc Cert.DxGateRefIdeal.nD Cert.DxGateRefIdeal.τ Cert.DxGateRefIdeal.sig) → Buf (Elt Ideal) ℓ) (g' : Dev Cert.DxGateRefIdeal.nD → PrngReg), Pre_DxGateIdeal m →
    (∀ c : Dev Cert.DxGateIdeal.nD,
      m' ((c.tc : Thread Cert.DxGateRefIdeal.nD Cert.DxGateRefIdeal.τ).loc Cert.DxGateRefIdeal.main_arg0) = m ((c.tc : Thread Cert.DxGateIdeal.nD Cert.DxGateIdeal.τ).loc Cert.DxGateIdeal.main_arg0)
      ∧ m' ((c.tc : Thread Cert.DxGateRefIdeal.nD Cert.DxGateRefIdeal.τ).loc Cert.DxGateRefIdeal.main_arg1) = m ((c.tc : Thread Cert.DxGateIdeal.nD Cert.DxGateIdeal.τ).loc Cert.DxGateIdeal.main_arg1)) →
    ∃ (v0 : (c : Dev Cert.DxGateIdeal.nD) → Buf (Elt Ideal) ((c.tc : Thread Cert.DxGateIdeal.nD Cert.DxGateIdeal.τ).loc Cert.DxGateIdeal.main_v0)),
      θ_run (Cert.DxGateIdeal.defs (F := Ideal)) (onTc (τ := Cert.DxGateIdeal.τ) (Cert.DxGateIdeal.main (F := Ideal))) ⟨m, fun _ => 0, g⟩ (fun r => ∀ c : Dev Cert.DxGateIdeal.nD,
          r.2.mem ((c.tc : Thread Cert.DxGateIdeal.nD Cert.DxGateIdeal.τ).loc Cert.DxGateIdeal.main_v0) = v0 c
          ∧ r.2.mem ((c.tc : Thread Cert.DxGateIdeal.nD Cert.DxGateIdeal.τ).loc Cert.DxGateIdeal.main_arg0) = m ((c.tc : Thread Cert.DxGateIdeal.nD Cert.DxGateIdeal.τ).loc Cert.DxGateIdeal.main_arg0)
          ∧ r.2.mem ((c.tc : Thread Cert.DxGateIdeal.nD Cert.DxGateIdeal.τ).loc Cert.DxGateIdeal.main_arg1) = m ((c.tc : Thread Cert.DxGateIdeal.nD Cert.DxGateIdeal.τ).loc Cert.DxGateIdeal.main_arg1))
      ∧ θ_run (Cert.DxGateRefIdeal.defs (F := Ideal)) (onTc (τ := Cert.DxGateRefIdeal.τ) (Cert.DxGateRefIdeal.main (F := Ideal))) ⟨m', fun _ => 0, g'⟩ (fun r => ∀ c : Dev Cert.DxGateRefIdeal.nD,
          r.2.mem ((c.tc : Thread Cert.DxGateRefIdeal.nD Cert.DxGateRefIdeal.τ).loc Cert.DxGateRefIdeal.main_v9) = v0 c
          ∧ r.2.mem ((c.tc : Thread Cert.DxGateRefIdeal.nD Cert.DxGateRefIdeal.τ).loc Cert.DxGateRefIdeal.main_arg0) = m' ((c.tc : Thread Cert.DxGateRefIdeal.nD Cert.DxGateRefIdeal.τ).loc Cert.DxGateRefIdeal.main_arg0)
          ∧ r.2.mem ((c.tc : Thread Cert.DxGateRefIdeal.nD Cert.DxGateRefIdeal.τ).loc Cert.DxGateRefIdeal.main_arg1) = m' ((c.tc : Thread Cert.DxGateRefIdeal.nD Cert.DxGateRefIdeal.τ).loc Cert.DxGateRefIdeal.main_arg1))

def preserves_DxUp_DxUpIdeal : Prop :=
  True

def algebraic_DxUpIdeal_DxUpRefIdeal [hDxUpIdeal : Cert.DxUpIdeal.Facts] [hDxUpRefIdeal : Cert.DxUpRefIdeal.Facts] : Prop :=
  ∀ (m : (ℓ : Loc Cert.DxUpIdeal.nD Cert.DxUpIdeal.τ Cert.DxUpIdeal.sig) → Buf (Elt Ideal) ℓ) (g : Dev Cert.DxUpIdeal.nD → PrngReg)
    (m' : (ℓ : Loc Cert.DxUpRefIdeal.nD Cert.DxUpRefIdeal.τ Cert.DxUpRefIdeal.sig) → Buf (Elt Ideal) ℓ) (g' : Dev Cert.DxUpRefIdeal.nD → PrngReg), Pre_DxUpIdeal m →
    (∀ c : Dev Cert.DxUpIdeal.nD,
      m' ((c.tc : Thread Cert.DxUpRefIdeal.nD Cert.DxUpRefIdeal.τ).loc Cert.DxUpRefIdeal.main_arg0) = m ((c.tc : Thread Cert.DxUpIdeal.nD Cert.DxUpIdeal.τ).loc Cert.DxUpIdeal.main_arg0)
      ∧ m' ((c.tc : Thread Cert.DxUpRefIdeal.nD Cert.DxUpRefIdeal.τ).loc Cert.DxUpRefIdeal.main_arg1) = m ((c.tc : Thread Cert.DxUpIdeal.nD Cert.DxUpIdeal.τ).loc Cert.DxUpIdeal.main_arg1)
      ∧ m' ((c.tc : Thread Cert.DxUpRefIdeal.nD Cert.DxUpRefIdeal.τ).loc Cert.DxUpRefIdeal.main_arg2) = m ((c.tc : Thread Cert.DxUpIdeal.nD Cert.DxUpIdeal.τ).loc Cert.DxUpIdeal.main_arg2)) →
    ∃ (v0 : (c : Dev Cert.DxUpIdeal.nD) → Buf (Elt Ideal) ((c.tc : Thread Cert.DxUpIdeal.nD Cert.DxUpIdeal.τ).loc Cert.DxUpIdeal.main_v0)),
      θ_run (Cert.DxUpIdeal.defs (F := Ideal)) (onTc (τ := Cert.DxUpIdeal.τ) (Cert.DxUpIdeal.main (F := Ideal))) ⟨m, fun _ => 0, g⟩ (fun r => ∀ c : Dev Cert.DxUpIdeal.nD,
          r.2.mem ((c.tc : Thread Cert.DxUpIdeal.nD Cert.DxUpIdeal.τ).loc Cert.DxUpIdeal.main_v0) = v0 c
          ∧ r.2.mem ((c.tc : Thread Cert.DxUpIdeal.nD Cert.DxUpIdeal.τ).loc Cert.DxUpIdeal.main_arg0) = m ((c.tc : Thread Cert.DxUpIdeal.nD Cert.DxUpIdeal.τ).loc Cert.DxUpIdeal.main_arg0)
          ∧ r.2.mem ((c.tc : Thread Cert.DxUpIdeal.nD Cert.DxUpIdeal.τ).loc Cert.DxUpIdeal.main_arg1) = m ((c.tc : Thread Cert.DxUpIdeal.nD Cert.DxUpIdeal.τ).loc Cert.DxUpIdeal.main_arg1)
          ∧ r.2.mem ((c.tc : Thread Cert.DxUpIdeal.nD Cert.DxUpIdeal.τ).loc Cert.DxUpIdeal.main_arg2) = m ((c.tc : Thread Cert.DxUpIdeal.nD Cert.DxUpIdeal.τ).loc Cert.DxUpIdeal.main_arg2))
      ∧ θ_run (Cert.DxUpRefIdeal.defs (F := Ideal)) (onTc (τ := Cert.DxUpRefIdeal.τ) (Cert.DxUpRefIdeal.main (F := Ideal))) ⟨m', fun _ => 0, g'⟩ (fun r => ∀ c : Dev Cert.DxUpRefIdeal.nD,
          r.2.mem ((c.tc : Thread Cert.DxUpRefIdeal.nD Cert.DxUpRefIdeal.τ).loc Cert.DxUpRefIdeal.main_v10) = v0 c
          ∧ r.2.mem ((c.tc : Thread Cert.DxUpRefIdeal.nD Cert.DxUpRefIdeal.τ).loc Cert.DxUpRefIdeal.main_arg0) = m' ((c.tc : Thread Cert.DxUpRefIdeal.nD Cert.DxUpRefIdeal.τ).loc Cert.DxUpRefIdeal.main_arg0)
          ∧ r.2.mem ((c.tc : Thread Cert.DxUpRefIdeal.nD Cert.DxUpRefIdeal.τ).loc Cert.DxUpRefIdeal.main_arg1) = m' ((c.tc : Thread Cert.DxUpRefIdeal.nD Cert.DxUpRefIdeal.τ).loc Cert.DxUpRefIdeal.main_arg1)
          ∧ r.2.mem ((c.tc : Thread Cert.DxUpRefIdeal.nD Cert.DxUpRefIdeal.τ).loc Cert.DxUpRefIdeal.main_arg2) = m' ((c.tc : Thread Cert.DxUpRefIdeal.nD Cert.DxUpRefIdeal.τ).loc Cert.DxUpRefIdeal.main_arg2))

def preserves_GluBwd_GluBwdIdeal : Prop :=
  True

def algebraic_GluBwdIdeal_GluBwdRefIdeal [hGluBwdIdeal : Cert.GluBwdIdeal.Facts] [hGluBwdRefIdeal : Cert.GluBwdRefIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluBwdRefIdeal.nD Cert.GluBwdRefIdeal.τ Cert.GluBwdRefIdeal.sig) → Buf (Elt Ideal) ℓ) (g' : Dev Cert.GluBwdRefIdeal.nD → PrngReg), Pre_GluBwdIdeal m →
    (∀ c : Dev Cert.GluBwdIdeal.nD,
      m' ((c.tc : Thread Cert.GluBwdRefIdeal.nD Cert.GluBwdRefIdeal.τ).loc Cert.GluBwdRefIdeal.main_arg0) = m ((c.tc : Thread Cert.GluBwdIdeal.nD Cert.GluBwdIdeal.τ).loc Cert.GluBwdIdeal.main_arg0)
      ∧ m' ((c.tc : Thread Cert.GluBwdRefIdeal.nD Cert.GluBwdRefIdeal.τ).loc Cert.GluBwdRefIdeal.main_arg1) = m ((c.tc : Thread Cert.GluBwdIdeal.nD Cert.GluBwdIdeal.τ).loc Cert.GluBwdIdeal.main_arg1)
      ∧ m' ((c.tc : Thread Cert.GluBwdRefIdeal.nD Cert.GluBwdRefIdeal.τ).loc Cert.GluBwdRefIdeal.main_arg2) = m ((c.tc : Thread Cert.GluBwdIdeal.nD Cert.GluBwdIdeal.τ).loc Cert.GluBwdIdeal.main_arg2)
      ∧ m' ((c.tc : Thread Cert.GluBwdRefIdeal.nD Cert.GluBwdRefIdeal.τ).loc Cert.GluBwdRefIdeal.main_arg3) = m ((c.tc : Thread Cert.GluBwdIdeal.nD Cert.GluBwdIdeal.τ).loc Cert.GluBwdIdeal.main_arg3)
      ∧ m' ((c.tc : Thread Cert.GluBwdRefIdeal.nD Cert.GluBwdRefIdeal.τ).loc Cert.GluBwdRefIdeal.main_arg4) = m ((c.tc : Thread Cert.GluBwdIdeal.nD Cert.GluBwdIdeal.τ).loc Cert.GluBwdIdeal.main_arg4)) →
    ∃ (v0 : (c : Dev Cert.GluBwdIdeal.nD) → Buf (Elt Ideal) ((c.tc : Thread Cert.GluBwdIdeal.nD Cert.GluBwdIdeal.τ).loc Cert.GluBwdIdeal.main_v0_0)) (v1 : (c : Dev Cert.GluBwdIdeal.nD) → Buf (Elt Ideal) ((c.tc : Thread Cert.GluBwdIdeal.nD Cert.GluBwdIdeal.τ).loc Cert.GluBwdIdeal.main_v0_1)) (v2 : (c : Dev Cert.GluBwdIdeal.nD) → Buf (Elt Ideal) ((c.tc : Thread Cert.GluBwdIdeal.nD Cert.GluBwdIdeal.τ).loc Cert.GluBwdIdeal.main_v0_2)) (v3 : (c : Dev Cert.GluBwdIdeal.nD) → Buf (Elt Ideal) ((c.tc : Thread Cert.GluBwdIdeal.nD Cert.GluBwdIdeal.τ).loc Cert.GluBwdIdeal.main_v0_3)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v0_0) = v0 c
          ∧ r.2.mem ((c.tc : Thread Cert.GluBwdIdeal.nD Cert.GluBwdIdeal.τ).loc Cert.GluBwdIdeal.main_v0_1) = v1 c
          ∧ r.2.mem ((c.tc : Thread Cert.GluBwdIdeal.nD Cert.GluBwdIdeal.τ).loc Cert.GluBwdIdeal.main_v0_2) = v2 c
          ∧ r.2.mem ((c.tc : Thread Cert.GluBwdIdeal.nD Cert.GluBwdIdeal.τ).loc Cert.GluBwdIdeal.main_v0_3) = v3 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
          ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
          ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
          ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4))
      ∧ θ_run (Cert.GluBwdRefIdeal.defs (F := Ideal)) (onTc (τ := Cert.GluBwdRefIdeal.τ) (Cert.GluBwdRefIdeal.main (F := Ideal))) ⟨m', fun _ => 0, g'⟩ (fun r => ∀ c : Dev Cert.GluBwdRefIdeal.nD,
          r.2.mem ((c.tc : Thread Cert.GluBwdRefIdeal.nD Cert.GluBwdRefIdeal.τ).loc Cert.GluBwdRefIdeal.main_v82) = v0 c
          ∧ r.2.mem ((c.tc : Thread Cert.GluBwdRefIdeal.nD Cert.GluBwdRefIdeal.τ).loc Cert.GluBwdRefIdeal.main_v83) = v1 c
          ∧ r.2.mem ((c.tc : Thread Cert.GluBwdRefIdeal.nD Cert.GluBwdRefIdeal.τ).loc Cert.GluBwdRefIdeal.main_v80) = v2 c
          ∧ r.2.mem ((c.tc : Thread Cert.GluBwdRefIdeal.nD Cert.GluBwdRefIdeal.τ).loc Cert.GluBwdRefIdeal.main_v46) = v3 c
          ∧ r.2.mem ((c.tc : Thread Cert.GluBwdRefIdeal.nD Cert.GluBwdRefIdeal.τ).loc Cert.GluBwdRefIdeal.main_arg0) = m' ((c.tc : Thread Cert.GluBwdRefIdeal.nD Cert.GluBwdRefIdeal.τ).loc Cert.GluBwdRefIdeal.main_arg0)
          ∧ r.2.mem ((c.tc : Thread Cert.GluBwdRefIdeal.nD Cert.GluBwdRefIdeal.τ).loc Cert.GluBwdRefIdeal.main_arg1) = m' ((c.tc : Thread Cert.GluBwdRefIdeal.nD Cert.GluBwdRefIdeal.τ).loc Cert.GluBwdRefIdeal.main_arg1)
          ∧ r.2.mem ((c.tc : Thread Cert.GluBwdRefIdeal.nD Cert.GluBwdRefIdeal.τ).loc Cert.GluBwdRefIdeal.main_arg2) = m' ((c.tc : Thread Cert.GluBwdRefIdeal.nD Cert.GluBwdRefIdeal.τ).loc Cert.GluBwdRefIdeal.main_arg2)
          ∧ r.2.mem ((c.tc : Thread Cert.GluBwdRefIdeal.nD Cert.GluBwdRefIdeal.τ).loc Cert.GluBwdRefIdeal.main_arg3) = m' ((c.tc : Thread Cert.GluBwdRefIdeal.nD Cert.GluBwdRefIdeal.τ).loc Cert.GluBwdRefIdeal.main_arg3)
          ∧ r.2.mem ((c.tc : Thread Cert.GluBwdRefIdeal.nD Cert.GluBwdRefIdeal.τ).loc Cert.GluBwdRefIdeal.main_arg4) = m' ((c.tc : Thread Cert.GluBwdRefIdeal.nD Cert.GluBwdRefIdeal.τ).loc Cert.GluBwdRefIdeal.main_arg4))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v34) = v0 c
          ∧ r.2.mem ((c.tc : Thread Cert.NormBwdRefIdeal.nD Cert.NormBwdRefIdeal.τ).loc Cert.NormBwdRefIdeal.main_v17) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)) (v2 : (c : Dev Cert.ConvBwdIdeal.nD) → Buf (Elt Ideal) ((c.tc : Thread Cert.ConvBwdIdeal.nD Cert.ConvBwdIdeal.τ).loc Cert.ConvBwdIdeal.main_v0_2)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_v0_2) = v2 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v98) = v0 c
          ∧ r.2.mem ((c.tc : Thread Cert.ConvBwdRefIdeal.nD Cert.ConvBwdRefIdeal.τ).loc Cert.ConvBwdRefIdeal.main_v96) = v1 c
          ∧ r.2.mem ((c.tc : Thread Cert.ConvBwdRefIdeal.nD Cert.ConvBwdRefIdeal.τ).loc Cert.ConvBwdRefIdeal.main_v49) = v2 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_FfnGate_FfnGateIdeal : Prop :=
  True

def algebraic_FfnGateIdeal_FfnGateRefIdeal [hFfnGateIdeal : Cert.FfnGateIdeal.Facts] [hFfnGateRefIdeal : Cert.FfnGateRefIdeal.Facts] : Prop :=
  ∀ (m : (ℓ : Loc Cert.FfnGateIdeal.nD Cert.FfnGateIdeal.τ Cert.FfnGateIdeal.sig) → Buf (Elt Ideal) ℓ) (g : Dev Cert.FfnGateIdeal.nD → PrngReg)
    (m' : (ℓ : Loc Cert.FfnGateRefIdeal.nD Cert.FfnGateRefIdeal.τ Cert.FfnGateRefIdeal.sig) → Buf (Elt Ideal) ℓ) (g' : Dev Cert.FfnGateRefIdeal.nD → PrngReg), Pre_FfnGateIdeal m →
    (∀ c : Dev Cert.FfnGateIdeal.nD,
      m' ((c.tc : Thread Cert.FfnGateRefIdeal.nD Cert.FfnGateRefIdeal.τ).loc Cert.FfnGateRefIdeal.main_arg0) = m ((c.tc : Thread Cert.FfnGateIdeal.nD Cert.FfnGateIdeal.τ).loc Cert.FfnGateIdeal.main_arg0)
      ∧ m' ((c.tc : Thread Cert.FfnGateRefIdeal.nD Cert.FfnGateRefIdeal.τ).loc Cert.FfnGateRefIdeal.main_arg1) = m ((c.tc : Thread Cert.FfnGateIdeal.nD Cert.FfnGateIdeal.τ).loc Cert.FfnGateIdeal.main_arg1)) →
    ∃ (v0 : (c : Dev Cert.FfnGateIdeal.nD) → Buf (Elt Ideal) ((c.tc : Thread Cert.FfnGateIdeal.nD Cert.FfnGateIdeal.τ).loc Cert.FfnGateIdeal.main_v0)),
      θ_run (Cert.FfnGateIdeal.defs (F := Ideal)) (onTc (τ := Cert.FfnGateIdeal.τ) (Cert.FfnGateIdeal.main (F := Ideal))) ⟨m, fun _ => 0, g⟩ (fun r => ∀ c : Dev Cert.FfnGateIdeal.nD,
          r.2.mem ((c.tc : Thread Cert.FfnGateIdeal.nD Cert.FfnGateIdeal.τ).loc Cert.FfnGateIdeal.main_v0) = v0 c
          ∧ r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
          ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1))
      ∧ θ_run (Cert.FfnGateRefIdeal.defs (F := Ideal)) (onTc (τ := Cert.FfnGateRefIdeal.τ) (Cert.FfnGateRefIdeal.main (F := Ideal))) ⟨m', fun _ => 0, g'⟩ (fun r => ∀ c : Dev Cert.FfnGateRefIdeal.nD,
          r.2.mem ((c.tc : Thread Cert.FfnGateRefIdeal.nD Cert.FfnGateRefIdeal.τ).loc Cert.FfnGateRefIdeal.main_v8) = v0 c
          ∧ r.2.mem ((c.tc : Thread Cert.FfnGateRefIdeal.nD Cert.FfnGateRefIdeal.τ).loc Cert.FfnGateRefIdeal.main_arg0) = m' ((c.tc : Thread Cert.FfnGateRefIdeal.nD Cert.FfnGateRefIdeal.τ).loc Cert.FfnGateRefIdeal.main_arg0)
          ∧ r.2.mem ((c.tc : Thread Cert.FfnGateRefIdeal.nD Cert.FfnGateRefIdeal.τ).loc Cert.FfnGateRefIdeal.main_arg1) = m' ((c.tc : Thread Cert.FfnGateRefIdeal.nD Cert.FfnGateRefIdeal.τ).loc Cert.FfnGateRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v8) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v0)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v0) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v2) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v6) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DxIn_DxInIdeal : Prop :=
  True

def algebraic_DxInIdeal_DxInRefIdeal [hDxInIdeal : Cert.DxInIdeal.Facts] [hDxInRefIdeal : Cert.DxInRefIdeal.Facts] : Prop :=
  ∀ (m : (ℓ : Loc Cert.DxInIdeal.nD Cert.DxInIdeal.τ Cert.DxInIdeal.sig) → Buf (Elt Ideal) ℓ) (g : Dev Cert.DxInIdeal.nD → PrngReg)
    (m' : (ℓ : Loc Cert.DxInRefIdeal.nD Cert.DxInRefIdeal.τ Cert.DxInRefIdeal.sig) → Buf (Elt Ideal) ℓ) (g' : Dev Cert.DxInRefIdeal.nD → PrngReg), Pre_DxInIdeal m →
    (∀ c : Dev Cert.DxInIdeal.nD,
      m' ((c.tc : Thread Cert.DxInRefIdeal.nD Cert.DxInRefIdeal.τ).loc Cert.DxInRefIdeal.main_arg0) = m ((c.tc : Thread Cert.DxInIdeal.nD Cert.DxInIdeal.τ).loc Cert.DxInIdeal.main_arg0)
      ∧ m' ((c.tc : Thread Cert.DxInRefIdeal.nD Cert.DxInRefIdeal.τ).loc Cert.DxInRefIdeal.main_arg1) = m ((c.tc : Thread Cert.DxInIdeal.nD Cert.DxInIdeal.τ).loc Cert.DxInIdeal.main_arg1)) →
    ∃ (v0 : (c : Dev Cert.DxInIdeal.nD) → Buf (Elt Ideal) ((c.tc : Thread Cert.DxInIdeal.nD Cert.DxInIdeal.τ).loc Cert.DxInIdeal.main_v0)),
      θ_run (Cert.DxInIdeal.defs (F := Ideal)) (onTc (τ := Cert.DxInIdeal.τ) (Cert.DxInIdeal.main (F := Ideal))) ⟨m, fun _ => 0, g⟩ (fun r => ∀ c : Dev Cert.DxInIdeal.nD,
          r.2.mem ((c.tc : Thread Cert.DxInIdeal.nD Cert.DxInIdeal.τ).loc Cert.DxInIdeal.main_v0) = v0 c
          ∧ r.2.mem ((c.tc : Thread Cert.DxInIdeal.nD Cert.DxInIdeal.τ).loc Cert.DxInIdeal.main_arg0) = m ((c.tc : Thread Cert.DxInIdeal.nD Cert.DxInIdeal.τ).loc Cert.DxInIdeal.main_arg0)
          ∧ r.2.mem ((c.tc : Thread Cert.DxInIdeal.nD Cert.DxInIdeal.τ).loc Cert.DxInIdeal.main_arg1) = m ((c.tc : Thread Cert.DxInIdeal.nD Cert.DxInIdeal.τ).loc Cert.DxInIdeal.main_arg1))
      ∧ θ_run (Cert.DxInRefIdeal.defs (F := Ideal)) (onTc (τ := Cert.DxInRefIdeal.τ) (Cert.DxInRefIdeal.main (F := Ideal))) ⟨m', fun _ => 0, g'⟩ (fun r => ∀ c : Dev Cert.DxInRefIdeal.nD,
          r.2.mem ((c.tc : Thread Cert.DxInRefIdeal.nD Cert.DxInRefIdeal.τ).loc Cert.DxInRefIdeal.main_v4) = v0 c
          ∧ r.2.mem ((c.tc : Thread Cert.DxInRefIdeal.nD Cert.DxInRefIdeal.τ).loc Cert.DxInRefIdeal.main_arg0) = m' ((c.tc : Thread Cert.DxInRefIdeal.nD Cert.DxInRefIdeal.τ).loc Cert.DxInRefIdeal.main_arg0)
          ∧ r.2.mem ((c.tc : Thread Cert.DxInRefIdeal.nD Cert.DxInRefIdeal.τ).loc Cert.DxInRefIdeal.main_arg1) = m' ((c.tc : Thread Cert.DxInRefIdeal.nD Cert.DxInRefIdeal.τ).loc Cert.DxInRefIdeal.main_arg1))

def preserves_DxInNext_DxInNextIdeal : Prop :=
  True

def algebraic_DxInNextIdeal_DxInNextRefIdeal [hDxInNextIdeal : Cert.DxInNextIdeal.Facts] [hDxInNextRefIdeal : Cert.DxInNextRefIdeal.Facts] : Prop :=
  ∀ (m : (ℓ : Loc Cert.DxInNextIdeal.nD Cert.DxInNextIdeal.τ Cert.DxInNextIdeal.sig) → Buf (Elt Ideal) ℓ) (g : Dev Cert.DxInNextIdeal.nD → PrngReg)
    (m' : (ℓ : Loc Cert.DxInNextRefIdeal.nD Cert.DxInNextRefIdeal.τ Cert.DxInNextRefIdeal.sig) → Buf (Elt Ideal) ℓ) (g' : Dev Cert.DxInNextRefIdeal.nD → PrngReg), Pre_DxInNextIdeal m →
    (∀ c : Dev Cert.DxInNextIdeal.nD,
      m' ((c.tc : Thread Cert.DxInNextRefIdeal.nD Cert.DxInNextRefIdeal.τ).loc Cert.DxInNextRefIdeal.main_arg0) = m ((c.tc : Thread Cert.DxInNextIdeal.nD Cert.DxInNextIdeal.τ).loc Cert.DxInNextIdeal.main_arg0)
      ∧ m' ((c.tc : Thread Cert.DxInNextRefIdeal.nD Cert.DxInNextRefIdeal.τ).loc Cert.DxInNextRefIdeal.main_arg1) = m ((c.tc : Thread Cert.DxInNextIdeal.nD Cert.DxInNextIdeal.τ).loc Cert.DxInNextIdeal.main_arg1)
      ∧ m' ((c.tc : Thread Cert.DxInNextRefIdeal.nD Cert.DxInNextRefIdeal.τ).loc Cert.DxInNextRefIdeal.main_arg2) = m ((c.tc : Thread Cert.DxInNextIdeal.nD Cert.DxInNextIdeal.τ).loc Cert.DxInNextIdeal.main_arg2)) →
    ∃ (v0 : (c : Dev Cert.DxInNextIdeal.nD) → Buf (Elt Ideal) ((c.tc : Thread Cert.DxInNextIdeal.nD Cert.DxInNextIdeal.τ).loc Cert.DxInNextIdeal.main_v0)),
      θ_run (Cert.DxInNextIdeal.defs (F := Ideal)) (onTc (τ := Cert.DxInNextIdeal.τ) (Cert.DxInNextIdeal.main (F := Ideal))) ⟨m, fun _ => 0, g⟩ (fun r => ∀ c : Dev Cert.DxInNextIdeal.nD,
          r.2.mem ((c.tc : Thread Cert.DxInNextIdeal.nD Cert.DxInNextIdeal.τ).loc Cert.DxInNextIdeal.main_v0) = v0 c
          ∧ r.2.mem ((c.tc : Thread Cert.DxInNextIdeal.nD Cert.DxInNextIdeal.τ).loc Cert.DxInNextIdeal.main_arg0) = m ((c.tc : Thread Cert.DxInNextIdeal.nD Cert.DxInNextIdeal.τ).loc Cert.DxInNextIdeal.main_arg0)
          ∧ r.2.mem ((c.tc : Thread Cert.DxInNextIdeal.nD Cert.DxInNextIdeal.τ).loc Cert.DxInNextIdeal.main_arg1) = m ((c.tc : Thread Cert.DxInNextIdeal.nD Cert.DxInNextIdeal.τ).loc Cert.DxInNextIdeal.main_arg1)
          ∧ r.2.mem ((c.tc : Thread Cert.DxInNextIdeal.nD Cert.DxInNextIdeal.τ).loc Cert.DxInNextIdeal.main_arg2) = m ((c.tc : Thread Cert.DxInNextIdeal.nD Cert.DxInNextIdeal.τ).loc Cert.DxInNextIdeal.main_arg2))
      ∧ θ_run (Cert.DxInNextRefIdeal.defs (F := Ideal)) (onTc (τ := Cert.DxInNextRefIdeal.τ) (Cert.DxInNextRefIdeal.main (F := Ideal))) ⟨m', fun _ => 0, g'⟩ (fun r => ∀ c : Dev Cert.DxInNextRefIdeal.nD,
          r.2.mem ((c.tc : Thread Cert.DxInNextRefIdeal.nD Cert.DxInNextRefIdeal.τ).loc Cert.DxInNextRefIdeal.main_v5) = v0 c
          ∧ r.2.mem ((c.tc : Thread Cert.DxInNextRefIdeal.nD Cert.DxInNextRefIdeal.τ).loc Cert.DxInNextRefIdeal.main_arg0) = m' ((c.tc : Thread Cert.DxInNextRefIdeal.nD Cert.DxInNextRefIdeal.τ).loc Cert.DxInNextRefIdeal.main_arg0)
          ∧ r.2.mem ((c.tc : Thread Cert.DxInNextRefIdeal.nD Cert.DxInNextRefIdeal.τ).loc Cert.DxInNextRefIdeal.main_arg1) = m' ((c.tc : Thread Cert.DxInNextRefIdeal.nD Cert.DxInNextRefIdeal.τ).loc Cert.DxInNextRefIdeal.main_arg1)
          ∧ r.2.mem ((c.tc : Thread Cert.DxInNextRefIdeal.nD Cert.DxInNextRefIdeal.τ).loc Cert.DxInNextRefIdeal.main_arg2) = m' ((c.tc : Thread Cert.DxInNextRefIdeal.nD Cert.DxInNextRefIdeal.τ).loc Cert.DxInNextRefIdeal.main_arg2))

def preserves_ProjOut_ProjOutIdeal : Prop :=
  True

def algebraic_ProjOutIdeal_ProjOutRefIdeal [hProjOutIdeal : Cert.ProjOutIdeal.Facts] [hProjOutRefIdeal : Cert.ProjOutRefIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutRefIdeal.nD Cert.ProjOutRefIdeal.τ Cert.ProjOutRefIdeal.sig) → Buf (Elt Ideal) ℓ) (g' : Dev Cert.ProjOutRefIdeal.nD → PrngReg), Pre_ProjOutIdeal m →
    (∀ c : Dev Cert.ProjOutIdeal.nD,
      m' ((c.tc : Thread Cert.ProjOutRefIdeal.nD Cert.ProjOutRefIdeal.τ).loc Cert.ProjOutRefIdeal.main_arg0) = m ((c.tc : Thread Cert.ProjOutIdeal.nD Cert.ProjOutIdeal.τ).loc Cert.ProjOutIdeal.main_arg0)
      ∧ m' ((c.tc : Thread Cert.ProjOutRefIdeal.nD Cert.ProjOutRefIdeal.τ).loc Cert.ProjOutRefIdeal.main_arg1) = m ((c.tc : Thread Cert.ProjOutIdeal.nD Cert.ProjOutIdeal.τ).loc Cert.ProjOutIdeal.main_arg1)
      ∧ m' ((c.tc : Thread Cert.ProjOutRefIdeal.nD Cert.ProjOutRefIdeal.τ).loc Cert.ProjOutRefIdeal.main_arg2) = m ((c.tc : Thread Cert.ProjOutIdeal.nD Cert.ProjOutIdeal.τ).loc Cert.ProjOutIdeal.main_arg2)) →
    ∃ (v0 : (c : Dev Cert.ProjOutIdeal.nD) → Buf (Elt Ideal) ((c.tc : Thread Cert.ProjOutIdeal.nD Cert.ProjOutIdeal.τ).loc Cert.ProjOutIdeal.main_v0)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v0) = v0 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2))
      ∧ θ_run (Cert.ProjOutRefIdeal.defs (F := Ideal)) (onTc (τ := Cert.ProjOutRefIdeal.τ) (Cert.ProjOutRefIdeal.main (F := Ideal))) ⟨m', fun _ => 0, g'⟩ (fun r => ∀ c : Dev Cert.ProjOutRefIdeal.nD,
          r.2.mem ((c.tc : Thread Cert.ProjOutRefIdeal.nD Cert.ProjOutRefIdeal.τ).loc Cert.ProjOutRefIdeal.main_v3) = v0 c
          ∧ r.2.mem ((c.tc : Thread Cert.ProjOutRefIdeal.nD Cert.ProjOutRefIdeal.τ).loc Cert.ProjOutRefIdeal.main_arg0) = m' ((c.tc : Thread Cert.ProjOutRefIdeal.nD Cert.ProjOutRefIdeal.τ).loc Cert.ProjOutRefIdeal.main_arg0)
          ∧ r.2.mem ((c.tc : Thread Cert.ProjOutRefIdeal.nD Cert.ProjOutRefIdeal.τ).loc Cert.ProjOutRefIdeal.main_arg1) = m' ((c.tc : Thread Cert.ProjOutRefIdeal.nD Cert.ProjOutRefIdeal.τ).loc Cert.ProjOutRefIdeal.main_arg1)
          ∧ r.2.mem ((c.tc : Thread Cert.ProjOutRefIdeal.nD Cert.ProjOutRefIdeal.τ).loc Cert.ProjOutRefIdeal.main_arg2) = m' ((c.tc : Thread Cert.ProjOutRefIdeal.nD Cert.ProjOutRefIdeal.τ).loc Cert.ProjOutRefIdeal.main_arg2))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v5) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DxOut_DxOutIdeal : Prop :=
  True

def algebraic_DxOutIdeal_DxOutRefIdeal [hDxOutIdeal : Cert.DxOutIdeal.Facts] [hDxOutRefIdeal : Cert.DxOutRefIdeal.Facts] : Prop :=
  ∀ (m : (ℓ : Loc Cert.DxOutIdeal.nD Cert.DxOutIdeal.τ Cert.DxOutIdeal.sig) → Buf (Elt Ideal) ℓ) (g : Dev Cert.DxOutIdeal.nD → PrngReg)
    (m' : (ℓ : Loc Cert.DxOutRefIdeal.nD Cert.DxOutRefIdeal.τ Cert.DxOutRefIdeal.sig) → Buf (Elt Ideal) ℓ) (g' : Dev Cert.DxOutRefIdeal.nD → PrngReg), Pre_DxOutIdeal m →
    (∀ c : Dev Cert.DxOutIdeal.nD,
      m' ((c.tc : Thread Cert.DxOutRefIdeal.nD Cert.DxOutRefIdeal.τ).loc Cert.DxOutRefIdeal.main_arg0) = m ((c.tc : Thread Cert.DxOutIdeal.nD Cert.DxOutIdeal.τ).loc Cert.DxOutIdeal.main_arg0)
      ∧ m' ((c.tc : Thread Cert.DxOutRefIdeal.nD Cert.DxOutRefIdeal.τ).loc Cert.DxOutRefIdeal.main_arg1) = m ((c.tc : Thread Cert.DxOutIdeal.nD Cert.DxOutIdeal.τ).loc Cert.DxOutIdeal.main_arg1)) →
    ∃ (v0 : (c : Dev Cert.DxOutIdeal.nD) → Buf (Elt Ideal) ((c.tc : Thread Cert.DxOutIdeal.nD Cert.DxOutIdeal.τ).loc Cert.DxOutIdeal.main_v0)),
      θ_run (Cert.DxOutIdeal.defs (F := Ideal)) (onTc (τ := Cert.DxOutIdeal.τ) (Cert.DxOutIdeal.main (F := Ideal))) ⟨m, fun _ => 0, g⟩ (fun r => ∀ c : Dev Cert.DxOutIdeal.nD,
          r.2.mem ((c.tc : Thread Cert.DxOutIdeal.nD Cert.DxOutIdeal.τ).loc Cert.DxOutIdeal.main_v0) = v0 c
          ∧ r.2.mem ((c.tc : Thread Cert.DxOutIdeal.nD Cert.DxOutIdeal.τ).loc Cert.DxOutIdeal.main_arg0) = m ((c.tc : Thread Cert.DxOutIdeal.nD Cert.DxOutIdeal.τ).loc Cert.DxOutIdeal.main_arg0)
          ∧ r.2.mem ((c.tc : Thread Cert.DxOutIdeal.nD Cert.DxOutIdeal.τ).loc Cert.DxOutIdeal.main_arg1) = m ((c.tc : Thread Cert.DxOutIdeal.nD Cert.DxOutIdeal.τ).loc Cert.DxOutIdeal.main_arg1))
      ∧ θ_run (Cert.DxOutRefIdeal.defs (F := Ideal)) (onTc (τ := Cert.DxOutRefIdeal.τ) (Cert.DxOutRefIdeal.main (F := Ideal))) ⟨m', fun _ => 0, g'⟩ (fun r => ∀ c : Dev Cert.DxOutRefIdeal.nD,
          r.2.mem ((c.tc : Thread Cert.DxOutRefIdeal.nD Cert.DxOutRefIdeal.τ).loc Cert.DxOutRefIdeal.main_v4) = v0 c
          ∧ r.2.mem ((c.tc : Thread Cert.DxOutRefIdeal.nD Cert.DxOutRefIdeal.τ).loc Cert.DxOutRefIdeal.main_arg0) = m' ((c.tc : Thread Cert.DxOutRefIdeal.nD Cert.DxOutRefIdeal.τ).loc Cert.DxOutRefIdeal.main_arg0)
          ∧ r.2.mem ((c.tc : Thread Cert.DxOutRefIdeal.nD Cert.DxOutRefIdeal.τ).loc Cert.DxOutRefIdeal.main_arg1) = m' ((c.tc : Thread Cert.DxOutRefIdeal.nD Cert.DxOutRefIdeal.τ).loc Cert.DxOutRefIdeal.main_arg1))

def preserves_SqIn_SqInIdeal : Prop :=
  True

def algebraic_SqInIdeal_SqInRefIdeal [hSqInIdeal : Cert.SqInIdeal.Facts] [hSqInRefIdeal : Cert.SqInRefIdeal.Facts] : Prop :=
  ∀ (m : (ℓ : Loc Cert.SqInIdeal.nD Cert.SqInIdeal.τ Cert.SqInIdeal.sig) → Buf (Elt Ideal) ℓ) (g : Dev Cert.SqInIdeal.nD → PrngReg)
    (m' : (ℓ : Loc Cert.SqInRefIdeal.nD Cert.SqInRefIdeal.τ Cert.SqInRefIdeal.sig) → Buf (Elt Ideal) ℓ) (g' : Dev Cert.SqInRefIdeal.nD → PrngReg), Pre_SqInIdeal m →
    (∀ c : Dev Cert.SqInIdeal.nD,
      m' ((c.tc : Thread Cert.SqInRefIdeal.nD Cert.SqInRefIdeal.τ).loc Cert.SqInRefIdeal.main_arg0) = m ((c.tc : Thread Cert.SqInIdeal.nD Cert.SqInIdeal.τ).loc Cert.SqInIdeal.main_arg0)
      ∧ m' ((c.tc : Thread Cert.SqInRefIdeal.nD Cert.SqInRefIdeal.τ).loc Cert.SqInRefIdeal.main_arg1) = m ((c.tc : Thread Cert.SqInIdeal.nD Cert.SqInIdeal.τ).loc Cert.SqInIdeal.main_arg1)) →
    ∃ (v0 : (c : Dev Cert.SqInIdeal.nD) → Buf (Elt Ideal) ((c.tc : Thread Cert.SqInIdeal.nD Cert.SqInIdeal.τ).loc Cert.SqInIdeal.main_v0)),
      θ_run (Cert.SqInIdeal.defs (F := Ideal)) (onTc (τ := Cert.SqInIdeal.τ) (Cert.SqInIdeal.main (F := Ideal))) ⟨m, fun _ => 0, g⟩ (fun r => ∀ c : Dev Cert.SqInIdeal.nD,
          r.2.mem ((c.tc : Thread Cert.SqInIdeal.nD Cert.SqInIdeal.τ).loc Cert.SqInIdeal.main_v0) = v0 c
          ∧ r.2.mem ((c.tc : Thread Cert.SqInIdeal.nD Cert.SqInIdeal.τ).loc Cert.SqInIdeal.main_arg0) = m ((c.tc : Thread Cert.SqInIdeal.nD Cert.SqInIdeal.τ).loc Cert.SqInIdeal.main_arg0)
          ∧ r.2.mem ((c.tc : Thread Cert.SqInIdeal.nD Cert.SqInIdeal.τ).loc Cert.SqInIdeal.main_arg1) = m ((c.tc : Thread Cert.SqInIdeal.nD Cert.SqInIdeal.τ).loc Cert.SqInIdeal.main_arg1))
      ∧ θ_run (Cert.SqInRefIdeal.defs (F := Ideal)) (onTc (τ := Cert.SqInRefIdeal.τ) (Cert.SqInRefIdeal.main (F := Ideal))) ⟨m', fun _ => 0, g'⟩ (fun r => ∀ c : Dev Cert.SqInRefIdeal.nD,
          r.2.mem ((c.tc : Thread Cert.SqInRefIdeal.nD Cert.SqInRefIdeal.τ).loc Cert.SqInRefIdeal.main_v2) = v0 c
          ∧ r.2.mem ((c.tc : Thread Cert.SqInRefIdeal.nD Cert.SqInRefIdeal.τ).loc Cert.SqInRefIdeal.main_arg0) = m' ((c.tc : Thread Cert.SqInRefIdeal.nD Cert.SqInRefIdeal.τ).loc Cert.SqInRefIdeal.main_arg0)
          ∧ r.2.mem ((c.tc : Thread Cert.SqInRefIdeal.nD Cert.SqInRefIdeal.τ).loc Cert.SqInRefIdeal.main_arg1) = m' ((c.tc : Thread Cert.SqInRefIdeal.nD Cert.SqInRefIdeal.τ).loc Cert.SqInRefIdeal.main_arg1))

def preserves_SqDwIn_SqDwInIdeal : Prop :=
  True

def algebraic_SqDwInIdeal_SqDwInRefIdeal [hSqDwInIdeal : Cert.SqDwInIdeal.Facts] [hSqDwInRefIdeal : Cert.SqDwInRefIdeal.Facts] : Prop :=
  ∀ (m : (ℓ : Loc Cert.SqDwInIdeal.nD Cert.SqDwInIdeal.τ Cert.SqDwInIdeal.sig) → Buf (Elt Ideal) ℓ) (g : Dev Cert.SqDwInIdeal.nD → PrngReg)
    (m' : (ℓ : Loc Cert.SqDwInRefIdeal.nD Cert.SqDwInRefIdeal.τ Cert.SqDwInRefIdeal.sig) → Buf (Elt Ideal) ℓ) (g' : Dev Cert.SqDwInRefIdeal.nD → PrngReg), Pre_SqDwInIdeal m →
    (∀ c : Dev Cert.SqDwInIdeal.nD,
      m' ((c.tc : Thread Cert.SqDwInRefIdeal.nD Cert.SqDwInRefIdeal.τ).loc Cert.SqDwInRefIdeal.main_arg0) = m ((c.tc : Thread Cert.SqDwInIdeal.nD Cert.SqDwInIdeal.τ).loc Cert.SqDwInIdeal.main_arg0)
      ∧ m' ((c.tc : Thread Cert.SqDwInRefIdeal.nD Cert.SqDwInRefIdeal.τ).loc Cert.SqDwInRefIdeal.main_arg1) = m ((c.tc : Thread Cert.SqDwInIdeal.nD Cert.SqDwInIdeal.τ).loc Cert.SqDwInIdeal.main_arg1)) →
    ∃ (v0 : (c : Dev Cert.SqDwInIdeal.nD) → Buf (Elt Ideal) ((c.tc : Thread Cert.SqDwInIdeal.nD Cert.SqDwInIdeal.τ).loc Cert.SqDwInIdeal.main_v0)),
      θ_run (Cert.SqDwInIdeal.defs (F := Ideal)) (onTc (τ := Cert.SqDwInIdeal.τ) (Cert.SqDwInIdeal.main (F := Ideal))) ⟨m, fun _ => 0, g⟩ (fun r => ∀ c : Dev Cert.SqDwInIdeal.nD,
          r.2.mem ((c.tc : Thread Cert.SqDwInIdeal.nD Cert.SqDwInIdeal.τ).loc Cert.SqDwInIdeal.main_v0) = v0 c
          ∧ r.2.mem ((c.tc : Thread Cert.SqDwInIdeal.nD Cert.SqDwInIdeal.τ).loc Cert.SqDwInIdeal.main_arg0) = m ((c.tc : Thread Cert.SqDwInIdeal.nD Cert.SqDwInIdeal.τ).loc Cert.SqDwInIdeal.main_arg0)
          ∧ r.2.mem ((c.tc : Thread Cert.SqDwInIdeal.nD Cert.SqDwInIdeal.τ).loc Cert.SqDwInIdeal.main_arg1) = m ((c.tc : Thread Cert.SqDwInIdeal.nD Cert.SqDwInIdeal.τ).loc Cert.SqDwInIdeal.main_arg1))
      ∧ θ_run (Cert.SqDwInRefIdeal.defs (F := Ideal)) (onTc (τ := Cert.SqDwInRefIdeal.τ) (Cert.SqDwInRefIdeal.main (F := Ideal))) ⟨m', fun _ => 0, g'⟩ (fun r => ∀ c : Dev Cert.SqDwInRefIdeal.nD,
          r.2.mem ((c.tc : Thread Cert.SqDwInRefIdeal.nD Cert.SqDwInRefIdeal.τ).loc Cert.SqDwInRefIdeal.main_v6) = v0 c
          ∧ r.2.mem ((c.tc : Thread Cert.SqDwInRefIdeal.nD Cert.SqDwInRefIdeal.τ).loc Cert.SqDwInRefIdeal.main_arg0) = m' ((c.tc : Thread Cert.SqDwInRefIdeal.nD Cert.SqDwInRefIdeal.τ).loc Cert.SqDwInRefIdeal.main_arg0)
          ∧ r.2.mem ((c.tc : Thread Cert.SqDwInRefIdeal.nD Cert.SqDwInRefIdeal.τ).loc Cert.SqDwInRefIdeal.main_arg1) = m' ((c.tc : Thread Cert.SqDwInRefIdeal.nD Cert.SqDwInRefIdeal.τ).loc Cert.SqDwInRefIdeal.main_arg1))

def preserves_SqDxIn_SqDxInIdeal : Prop :=
  True

def algebraic_SqDxInIdeal_SqDxInRefIdeal [hSqDxInIdeal : Cert.SqDxInIdeal.Facts] [hSqDxInRefIdeal : Cert.SqDxInRefIdeal.Facts] : Prop :=
  ∀ (m : (ℓ : Loc Cert.SqDxInIdeal.nD Cert.SqDxInIdeal.τ Cert.SqDxInIdeal.sig) → Buf (Elt Ideal) ℓ) (g : Dev Cert.SqDxInIdeal.nD → PrngReg)
    (m' : (ℓ : Loc Cert.SqDxInRefIdeal.nD Cert.SqDxInRefIdeal.τ Cert.SqDxInRefIdeal.sig) → Buf (Elt Ideal) ℓ) (g' : Dev Cert.SqDxInRefIdeal.nD → PrngReg), Pre_SqDxInIdeal m →
    (∀ c : Dev Cert.SqDxInIdeal.nD,
      m' ((c.tc : Thread Cert.SqDxInRefIdeal.nD Cert.SqDxInRefIdeal.τ).loc Cert.SqDxInRefIdeal.main_arg0) = m ((c.tc : Thread Cert.SqDxInIdeal.nD Cert.SqDxInIdeal.τ).loc Cert.SqDxInIdeal.main_arg0)
      ∧ m' ((c.tc : Thread Cert.SqDxInRefIdeal.nD Cert.SqDxInRefIdeal.τ).loc Cert.SqDxInRefIdeal.main_arg1) = m ((c.tc : Thread Cert.SqDxInIdeal.nD Cert.SqDxInIdeal.τ).loc Cert.SqDxInIdeal.main_arg1)) →
    ∃ (v0 : (c : Dev Cert.SqDxInIdeal.nD) → Buf (Elt Ideal) ((c.tc : Thread Cert.SqDxInIdeal.nD Cert.SqDxInIdeal.τ).loc Cert.SqDxInIdeal.main_v0)),
      θ_run (Cert.SqDxInIdeal.defs (F := Ideal)) (onTc (τ := Cert.SqDxInIdeal.τ) (Cert.SqDxInIdeal.main (F := Ideal))) ⟨m, fun _ => 0, g⟩ (fun r => ∀ c : Dev Cert.SqDxInIdeal.nD,
          r.2.mem ((c.tc : Thread Cert.SqDxInIdeal.nD Cert.SqDxInIdeal.τ).loc Cert.SqDxInIdeal.main_v0) = v0 c
          ∧ r.2.mem ((c.tc : Thread Cert.SqDxInIdeal.nD Cert.SqDxInIdeal.τ).loc Cert.SqDxInIdeal.main_arg0) = m ((c.tc : Thread Cert.SqDxInIdeal.nD Cert.SqDxInIdeal.τ).loc Cert.SqDxInIdeal.main_arg0)
          ∧ r.2.mem ((c.tc : Thread Cert.SqDxInIdeal.nD Cert.SqDxInIdeal.τ).loc Cert.SqDxInIdeal.main_arg1) = m ((c.tc : Thread Cert.SqDxInIdeal.nD Cert.SqDxInIdeal.τ).loc Cert.SqDxInIdeal.main_arg1))
      ∧ θ_run (Cert.SqDxInRefIdeal.defs (F := Ideal)) (onTc (τ := Cert.SqDxInRefIdeal.τ) (Cert.SqDxInRefIdeal.main (F := Ideal))) ⟨m', fun _ => 0, g'⟩ (fun r => ∀ c : Dev Cert.SqDxInRefIdeal.nD,
          r.2.mem ((c.tc : Thread Cert.SqDxInRefIdeal.nD Cert.SqDxInRefIdeal.τ).loc Cert.SqDxInRefIdeal.main_v4) = v0 c
          ∧ r.2.mem ((c.tc : Thread Cert.SqDxInRefIdeal.nD Cert.SqDxInRefIdeal.τ).loc Cert.SqDxInRefIdeal.main_arg0) = m' ((c.tc : Thread Cert.SqDxInRefIdeal.nD Cert.SqDxInRefIdeal.τ).loc Cert.SqDxInRefIdeal.main_arg0)
          ∧ r.2.mem ((c.tc : Thread Cert.SqDxInRefIdeal.nD Cert.SqDxInRefIdeal.τ).loc Cert.SqDxInRefIdeal.main_arg1) = m' ((c.tc : Thread Cert.SqDxInRefIdeal.nD Cert.SqDxInRefIdeal.τ).loc Cert.SqDxInRefIdeal.main_arg1))

def preserves_SqDxInNext_SqDxInNextIdeal : Prop :=
  True

def algebraic_SqDxInNextIdeal_SqDxInNextRefIdeal [hSqDxInNextIdeal : Cert.SqDxInNextIdeal.Facts] [hSqDxInNextRefIdeal : Cert.SqDxInNextRefIdeal.Facts] : Prop :=
  ∀ (m : (ℓ : Loc Cert.SqDxInNextIdeal.nD Cert.SqDxInNextIdeal.τ Cert.SqDxInNextIdeal.sig) → Buf (Elt Ideal) ℓ) (g : Dev Cert.SqDxInNextIdeal.nD → PrngReg)
    (m' : (ℓ : Loc Cert.SqDxInNextRefIdeal.nD Cert.SqDxInNextRefIdeal.τ Cert.SqDxInNextRefIdeal.sig) → Buf (Elt Ideal) ℓ) (g' : Dev Cert.SqDxInNextRefIdeal.nD → PrngReg), Pre_SqDxInNextIdeal m →
    (∀ c : Dev Cert.SqDxInNextIdeal.nD,
      m' ((c.tc : Thread Cert.SqDxInNextRefIdeal.nD Cert.SqDxInNextRefIdeal.τ).loc Cert.SqDxInNextRefIdeal.main_arg0) = m ((c.tc : Thread Cert.SqDxInNextIdeal.nD Cert.SqDxInNextIdeal.τ).loc Cert.SqDxInNextIdeal.main_arg0)
      ∧ m' ((c.tc : Thread Cert.SqDxInNextRefIdeal.nD Cert.SqDxInNextRefIdeal.τ).loc Cert.SqDxInNextRefIdeal.main_arg1) = m ((c.tc : Thread Cert.SqDxInNextIdeal.nD Cert.SqDxInNextIdeal.τ).loc Cert.SqDxInNextIdeal.main_arg1)
      ∧ m' ((c.tc : Thread Cert.SqDxInNextRefIdeal.nD Cert.SqDxInNextRefIdeal.τ).loc Cert.SqDxInNextRefIdeal.main_arg2) = m ((c.tc : Thread Cert.SqDxInNextIdeal.nD Cert.SqDxInNextIdeal.τ).loc Cert.SqDxInNextIdeal.main_arg2)) →
    ∃ (v0 : (c : Dev Cert.SqDxInNextIdeal.nD) → Buf (Elt Ideal) ((c.tc : Thread Cert.SqDxInNextIdeal.nD Cert.SqDxInNextIdeal.τ).loc Cert.SqDxInNextIdeal.main_v0)),
      θ_run (Cert.SqDxInNextIdeal.defs (F := Ideal)) (onTc (τ := Cert.SqDxInNextIdeal.τ) (Cert.SqDxInNextIdeal.main (F := Ideal))) ⟨m, fun _ => 0, g⟩ (fun r => ∀ c : Dev Cert.SqDxInNextIdeal.nD,
          r.2.mem ((c.tc : Thread Cert.SqDxInNextIdeal.nD Cert.SqDxInNextIdeal.τ).loc Cert.SqDxInNextIdeal.main_v0) = v0 c
          ∧ r.2.mem ((c.tc : Thread Cert.SqDxInNextIdeal.nD Cert.SqDxInNextIdeal.τ).loc Cert.SqDxInNextIdeal.main_arg0) = m ((c.tc : Thread Cert.SqDxInNextIdeal.nD Cert.SqDxInNextIdeal.τ).loc Cert.SqDxInNextIdeal.main_arg0)
          ∧ r.2.mem ((c.tc : Thread Cert.SqDxInNextIdeal.nD Cert.SqDxInNextIdeal.τ).loc Cert.SqDxInNextIdeal.main_arg1) = m ((c.tc : Thread Cert.SqDxInNextIdeal.nD Cert.SqDxInNextIdeal.τ).loc Cert.SqDxInNextIdeal.main_arg1)
          ∧ r.2.mem ((c.tc : Thread Cert.SqDxInNextIdeal.nD Cert.SqDxInNextIdeal.τ).loc Cert.SqDxInNextIdeal.main_arg2) = m ((c.tc : Thread Cert.SqDxInNextIdeal.nD Cert.SqDxInNextIdeal.τ).loc Cert.SqDxInNextIdeal.main_arg2))
      ∧ θ_run (Cert.SqDxInNextRefIdeal.defs (F := Ideal)) (onTc (τ := Cert.SqDxInNextRefIdeal.τ) (Cert.SqDxInNextRefIdeal.main (F := Ideal))) ⟨m', fun _ => 0, g'⟩ (fun r => ∀ c : Dev Cert.SqDxInNextRefIdeal.nD,
          r.2.mem ((c.tc : Thread Cert.SqDxInNextRefIdeal.nD Cert.SqDxInNextRefIdeal.τ).loc Cert.SqDxInNextRefIdeal.main_v5) = v0 c
          ∧ r.2.mem ((c.tc : Thread Cert.SqDxInNextRefIdeal.nD Cert.SqDxInNextRefIdeal.τ).loc Cert.SqDxInNextRefIdeal.main_arg0) = m' ((c.tc : Thread Cert.SqDxInNextRefIdeal.nD Cert.SqDxInNextRefIdeal.τ).loc Cert.SqDxInNextRefIdeal.main_arg0)
          ∧ r.2.mem ((c.tc : Thread Cert.SqDxInNextRefIdeal.nD Cert.SqDxInNextRefIdeal.τ).loc Cert.SqDxInNextRefIdeal.main_arg1) = m' ((c.tc : Thread Cert.SqDxInNextRefIdeal.nD Cert.SqDxInNextRefIdeal.τ).loc Cert.SqDxInNextRefIdeal.main_arg1)
          ∧ r.2.mem ((c.tc : Thread Cert.SqDxInNextRefIdeal.nD Cert.SqDxInNextRefIdeal.τ).loc Cert.SqDxInNextRefIdeal.main_arg2) = m' ((c.tc : Thread Cert.SqDxInNextRefIdeal.nD Cert.SqDxInNextRefIdeal.τ).loc Cert.SqDxInNextRefIdeal.main_arg2))

def preserves_SqQuery_SqQueryIdeal : Prop :=
  True

def algebraic_SqQueryIdeal_SqQueryRefIdeal [hSqQueryIdeal : Cert.SqQueryIdeal.Facts] [hSqQueryRefIdeal : Cert.SqQueryRefIdeal.Facts] : Prop :=
  ∀ (m : (ℓ : Loc Cert.SqQueryIdeal.nD Cert.SqQueryIdeal.τ Cert.SqQueryIdeal.sig) → Buf (Elt Ideal) ℓ) (g : Dev Cert.SqQueryIdeal.nD → PrngReg)
    (m' : (ℓ : Loc Cert.SqQueryRefIdeal.nD Cert.SqQueryRefIdeal.τ Cert.SqQueryRefIdeal.sig) → Buf (Elt Ideal) ℓ) (g' : Dev Cert.SqQueryRefIdeal.nD → PrngReg), Pre_SqQueryIdeal m →
    (∀ c : Dev Cert.SqQueryIdeal.nD,
      m' ((c.tc : Thread Cert.SqQueryRefIdeal.nD Cert.SqQueryRefIdeal.τ).loc Cert.SqQueryRefIdeal.main_arg0) = m ((c.tc : Thread Cert.SqQueryIdeal.nD Cert.SqQueryIdeal.τ).loc Cert.SqQueryIdeal.main_arg0)
      ∧ m' ((c.tc : Thread Cert.SqQueryRefIdeal.nD Cert.SqQueryRefIdeal.τ).loc Cert.SqQueryRefIdeal.main_arg1) = m ((c.tc : Thread Cert.SqQueryIdeal.nD Cert.SqQueryIdeal.τ).loc Cert.SqQueryIdeal.main_arg1)) →
    ∃ (v0 : (c : Dev Cert.SqQueryIdeal.nD) → Buf (Elt Ideal) ((c.tc : Thread Cert.SqQueryIdeal.nD Cert.SqQueryIdeal.τ).loc Cert.SqQueryIdeal.main_v0)),
      θ_run (Cert.SqQueryIdeal.defs (F := Ideal)) (onTc (τ := Cert.SqQueryIdeal.τ) (Cert.SqQueryIdeal.main (F := Ideal))) ⟨m, fun _ => 0, g⟩ (fun r => ∀ c : Dev Cert.SqQueryIdeal.nD,
          r.2.mem ((c.tc : Thread Cert.SqQueryIdeal.nD Cert.SqQueryIdeal.τ).loc Cert.SqQueryIdeal.main_v0) = v0 c
          ∧ r.2.mem ((c.tc : Thread Cert.SqQueryIdeal.nD Cert.SqQueryIdeal.τ).loc Cert.SqQueryIdeal.main_arg0) = m ((c.tc : Thread Cert.SqQueryIdeal.nD Cert.SqQueryIdeal.τ).loc Cert.SqQueryIdeal.main_arg0)
          ∧ r.2.mem ((c.tc : Thread Cert.SqQueryIdeal.nD Cert.SqQueryIdeal.τ).loc Cert.SqQueryIdeal.main_arg1) = m ((c.tc : Thread Cert.SqQueryIdeal.nD Cert.SqQueryIdeal.τ).loc Cert.SqQueryIdeal.main_arg1))
      ∧ θ_run (Cert.SqQueryRefIdeal.defs (F := Ideal)) (onTc (τ := Cert.SqQueryRefIdeal.τ) (Cert.SqQueryRefIdeal.main (F := Ideal))) ⟨m', fun _ => 0, g'⟩ (fun r => ∀ c : Dev Cert.SqQueryRefIdeal.nD,
          r.2.mem ((c.tc : Thread Cert.SqQueryRefIdeal.nD Cert.SqQueryRefIdeal.τ).loc Cert.SqQueryRefIdeal.main_v3) = v0 c
          ∧ r.2.mem ((c.tc : Thread Cert.SqQueryRefIdeal.nD Cert.SqQueryRefIdeal.τ).loc Cert.SqQueryRefIdeal.main_arg0) = m' ((c.tc : Thread Cert.SqQueryRefIdeal.nD Cert.SqQueryRefIdeal.τ).loc Cert.SqQueryRefIdeal.main_arg0)
          ∧ r.2.mem ((c.tc : Thread Cert.SqQueryRefIdeal.nD Cert.SqQueryRefIdeal.τ).loc Cert.SqQueryRefIdeal.main_arg1) = m' ((c.tc : Thread Cert.SqQueryRefIdeal.nD Cert.SqQueryRefIdeal.τ).loc Cert.SqQueryRefIdeal.main_arg1))

def preserves_SqOut_SqOutIdeal : Prop :=
  True

def algebraic_SqOutIdeal_SqOutRefIdeal [hSqOutIdeal : Cert.SqOutIdeal.Facts] [hSqOutRefIdeal : Cert.SqOutRefIdeal.Facts] : Prop :=
  ∀ (m : (ℓ : Loc Cert.SqOutIdeal.nD Cert.SqOutIdeal.τ Cert.SqOutIdeal.sig) → Buf (Elt Ideal) ℓ) (g : Dev Cert.SqOutIdeal.nD → PrngReg)
    (m' : (ℓ : Loc Cert.SqOutRefIdeal.nD Cert.SqOutRefIdeal.τ Cert.SqOutRefIdeal.sig) → Buf (Elt Ideal) ℓ) (g' : Dev Cert.SqOutRefIdeal.nD → PrngReg), Pre_SqOutIdeal m →
    (∀ c : Dev Cert.SqOutIdeal.nD,
      m' ((c.tc : Thread Cert.SqOutRefIdeal.nD Cert.SqOutRefIdeal.τ).loc Cert.SqOutRefIdeal.main_arg0) = m ((c.tc : Thread Cert.SqOutIdeal.nD Cert.SqOutIdeal.τ).loc Cert.SqOutIdeal.main_arg0)
      ∧ m' ((c.tc : Thread Cert.SqOutRefIdeal.nD Cert.SqOutRefIdeal.τ).loc Cert.SqOutRefIdeal.main_arg1) = m ((c.tc : Thread Cert.SqOutIdeal.nD Cert.SqOutIdeal.τ).loc Cert.SqOutIdeal.main_arg1)
      ∧ m' ((c.tc : Thread Cert.SqOutRefIdeal.nD Cert.SqOutRefIdeal.τ).loc Cert.SqOutRefIdeal.main_arg2) = m ((c.tc : Thread Cert.SqOutIdeal.nD Cert.SqOutIdeal.τ).loc Cert.SqOutIdeal.main_arg2)) →
    ∃ (v0 : (c : Dev Cert.SqOutIdeal.nD) → Buf (Elt Ideal) ((c.tc : Thread Cert.SqOutIdeal.nD Cert.SqOutIdeal.τ).loc Cert.SqOutIdeal.main_v0)),
      θ_run (Cert.SqOutIdeal.defs (F := Ideal)) (onTc (τ := Cert.SqOutIdeal.τ) (Cert.SqOutIdeal.main (F := Ideal))) ⟨m, fun _ => 0, g⟩ (fun r => ∀ c : Dev Cert.SqOutIdeal.nD,
          r.2.mem ((c.tc : Thread Cert.SqOutIdeal.nD Cert.SqOutIdeal.τ).loc Cert.SqOutIdeal.main_v0) = v0 c
          ∧ r.2.mem ((c.tc : Thread Cert.SqOutIdeal.nD Cert.SqOutIdeal.τ).loc Cert.SqOutIdeal.main_arg0) = m ((c.tc : Thread Cert.SqOutIdeal.nD Cert.SqOutIdeal.τ).loc Cert.SqOutIdeal.main_arg0)
          ∧ r.2.mem ((c.tc : Thread Cert.SqOutIdeal.nD Cert.SqOutIdeal.τ).loc Cert.SqOutIdeal.main_arg1) = m ((c.tc : Thread Cert.SqOutIdeal.nD Cert.SqOutIdeal.τ).loc Cert.SqOutIdeal.main_arg1)
          ∧ r.2.mem ((c.tc : Thread Cert.SqOutIdeal.nD Cert.SqOutIdeal.τ).loc Cert.SqOutIdeal.main_arg2) = m ((c.tc : Thread Cert.SqOutIdeal.nD Cert.SqOutIdeal.τ).loc Cert.SqOutIdeal.main_arg2))
      ∧ θ_run (Cert.SqOutRefIdeal.defs (F := Ideal)) (onTc (τ := Cert.SqOutRefIdeal.τ) (Cert.SqOutRefIdeal.main (F := Ideal))) ⟨m', fun _ => 0, g'⟩ (fun r => ∀ c : Dev Cert.SqOutRefIdeal.nD,
          r.2.mem ((c.tc : Thread Cert.SqOutRefIdeal.nD Cert.SqOutRefIdeal.τ).loc Cert.SqOutRefIdeal.main_v3) = v0 c
          ∧ r.2.mem ((c.tc : Thread Cert.SqOutRefIdeal.nD Cert.SqOutRefIdeal.τ).loc Cert.SqOutRefIdeal.main_arg0) = m' ((c.tc : Thread Cert.SqOutRefIdeal.nD Cert.SqOutRefIdeal.τ).loc Cert.SqOutRefIdeal.main_arg0)
          ∧ r.2.mem ((c.tc : Thread Cert.SqOutRefIdeal.nD Cert.SqOutRefIdeal.τ).loc Cert.SqOutRefIdeal.main_arg1) = m' ((c.tc : Thread Cert.SqOutRefIdeal.nD Cert.SqOutRefIdeal.τ).loc Cert.SqOutRefIdeal.main_arg1)
          ∧ r.2.mem ((c.tc : Thread Cert.SqOutRefIdeal.nD Cert.SqOutRefIdeal.τ).loc Cert.SqOutRefIdeal.main_arg2) = m' ((c.tc : Thread Cert.SqOutRefIdeal.nD Cert.SqOutRefIdeal.τ).loc Cert.SqOutRefIdeal.main_arg2))

def preserves_SqDwOut_SqDwOutIdeal : Prop :=
  True

def algebraic_SqDwOutIdeal_SqDwOutRefIdeal [hSqDwOutIdeal : Cert.SqDwOutIdeal.Facts] [hSqDwOutRefIdeal : Cert.SqDwOutRefIdeal.Facts] : Prop :=
  ∀ (m : (ℓ : Loc Cert.SqDwOutIdeal.nD Cert.SqDwOutIdeal.τ Cert.SqDwOutIdeal.sig) → Buf (Elt Ideal) ℓ) (g : Dev Cert.SqDwOutIdeal.nD → PrngReg)
    (m' : (ℓ : Loc Cert.SqDwOutRefIdeal.nD Cert.SqDwOutRefIdeal.τ Cert.SqDwOutRefIdeal.sig) → Buf (Elt Ideal) ℓ) (g' : Dev Cert.SqDwOutRefIdeal.nD → PrngReg), Pre_SqDwOutIdeal m →
    (∀ c : Dev Cert.SqDwOutIdeal.nD,
      m' ((c.tc : Thread Cert.SqDwOutRefIdeal.nD Cert.SqDwOutRefIdeal.τ).loc Cert.SqDwOutRefIdeal.main_arg0) = m ((c.tc : Thread Cert.SqDwOutIdeal.nD Cert.SqDwOutIdeal.τ).loc Cert.SqDwOutIdeal.main_arg0)
      ∧ m' ((c.tc : Thread Cert.SqDwOutRefIdeal.nD Cert.SqDwOutRefIdeal.τ).loc Cert.SqDwOutRefIdeal.main_arg1) = m ((c.tc : Thread Cert.SqDwOutIdeal.nD Cert.SqDwOutIdeal.τ).loc Cert.SqDwOutIdeal.main_arg1)) →
    ∃ (v0 : (c : Dev Cert.SqDwOutIdeal.nD) → Buf (Elt Ideal) ((c.tc : Thread Cert.SqDwOutIdeal.nD Cert.SqDwOutIdeal.τ).loc Cert.SqDwOutIdeal.main_v0)),
      θ_run (Cert.SqDwOutIdeal.defs (F := Ideal)) (onTc (τ := Cert.SqDwOutIdeal.τ) (Cert.SqDwOutIdeal.main (F := Ideal))) ⟨m, fun _ => 0, g⟩ (fun r => ∀ c : Dev Cert.SqDwOutIdeal.nD,
          r.2.mem ((c.tc : Thread Cert.SqDwOutIdeal.nD Cert.SqDwOutIdeal.τ).loc Cert.SqDwOutIdeal.main_v0) = v0 c
          ∧ r.2.mem ((c.tc : Thread Cert.SqDwOutIdeal.nD Cert.SqDwOutIdeal.τ).loc Cert.SqDwOutIdeal.main_arg0) = m ((c.tc : Thread Cert.SqDwOutIdeal.nD Cert.SqDwOutIdeal.τ).loc Cert.SqDwOutIdeal.main_arg0)
          ∧ r.2.mem ((c.tc : Thread Cert.SqDwOutIdeal.nD Cert.SqDwOutIdeal.τ).loc Cert.SqDwOutIdeal.main_arg1) = m ((c.tc : Thread Cert.SqDwOutIdeal.nD Cert.SqDwOutIdeal.τ).loc Cert.SqDwOutIdeal.main_arg1))
      ∧ θ_run (Cert.SqDwOutRefIdeal.defs (F := Ideal)) (onTc (τ := Cert.SqDwOutRefIdeal.τ) (Cert.SqDwOutRefIdeal.main (F := Ideal))) ⟨m', fun _ => 0, g'⟩ (fun r => ∀ c : Dev Cert.SqDwOutRefIdeal.nD,
          r.2.mem ((c.tc : Thread Cert.SqDwOutRefIdeal.nD Cert.SqDwOutRefIdeal.τ).loc Cert.SqDwOutRefIdeal.main_v5) = v0 c
          ∧ r.2.mem ((c.tc : Thread Cert.SqDwOutRefIdeal.nD Cert.SqDwOutRefIdeal.τ).loc Cert.SqDwOutRefIdeal.main_arg0) = m' ((c.tc : Thread Cert.SqDwOutRefIdeal.nD Cert.SqDwOutRefIdeal.τ).loc Cert.SqDwOutRefIdeal.main_arg0)
          ∧ r.2.mem ((c.tc : Thread Cert.SqDwOutRefIdeal.nD Cert.SqDwOutRefIdeal.τ).loc Cert.SqDwOutRefIdeal.main_arg1) = m' ((c.tc : Thread Cert.SqDwOutRefIdeal.nD Cert.SqDwOutRefIdeal.τ).loc Cert.SqDwOutRefIdeal.main_arg1))

def preserves_SqDxOut_SqDxOutIdeal : Prop :=
  True

def algebraic_SqDxOutIdeal_SqDxOutRefIdeal [hSqDxOutIdeal : Cert.SqDxOutIdeal.Facts] [hSqDxOutRefIdeal : Cert.SqDxOutRefIdeal.Facts] : Prop :=
  ∀ (m : (ℓ : Loc Cert.SqDxOutIdeal.nD Cert.SqDxOutIdeal.τ Cert.SqDxOutIdeal.sig) → Buf (Elt Ideal) ℓ) (g : Dev Cert.SqDxOutIdeal.nD → PrngReg)
    (m' : (ℓ : Loc Cert.SqDxOutRefIdeal.nD Cert.SqDxOutRefIdeal.τ Cert.SqDxOutRefIdeal.sig) → Buf (Elt Ideal) ℓ) (g' : Dev Cert.SqDxOutRefIdeal.nD → PrngReg), Pre_SqDxOutIdeal m →
    (∀ c : Dev Cert.SqDxOutIdeal.nD,
      m' ((c.tc : Thread Cert.SqDxOutRefIdeal.nD Cert.SqDxOutRefIdeal.τ).loc Cert.SqDxOutRefIdeal.main_arg0) = m ((c.tc : Thread Cert.SqDxOutIdeal.nD Cert.SqDxOutIdeal.τ).loc Cert.SqDxOutIdeal.main_arg0)
      ∧ m' ((c.tc : Thread Cert.SqDxOutRefIdeal.nD Cert.SqDxOutRefIdeal.τ).loc Cert.SqDxOutRefIdeal.main_arg1) = m ((c.tc : Thread Cert.SqDxOutIdeal.nD Cert.SqDxOutIdeal.τ).loc Cert.SqDxOutIdeal.main_arg1)) →
    ∃ (v0 : (c : Dev Cert.SqDxOutIdeal.nD) → Buf (Elt Ideal) ((c.tc : Thread Cert.SqDxOutIdeal.nD Cert.SqDxOutIdeal.τ).loc Cert.SqDxOutIdeal.main_v0)),
      θ_run (Cert.SqDxOutIdeal.defs (F := Ideal)) (onTc (τ := Cert.SqDxOutIdeal.τ) (Cert.SqDxOutIdeal.main (F := Ideal))) ⟨m, fun _ => 0, g⟩ (fun r => ∀ c : Dev Cert.SqDxOutIdeal.nD,
          r.2.mem ((c.tc : Thread Cert.SqDxOutIdeal.nD Cert.SqDxOutIdeal.τ).loc Cert.SqDxOutIdeal.main_v0) = v0 c
          ∧ r.2.mem ((c.tc : Thread Cert.SqDxOutIdeal.nD Cert.SqDxOutIdeal.τ).loc Cert.SqDxOutIdeal.main_arg0) = m ((c.tc : Thread Cert.SqDxOutIdeal.nD Cert.SqDxOutIdeal.τ).loc Cert.SqDxOutIdeal.main_arg0)
          ∧ r.2.mem ((c.tc : Thread Cert.SqDxOutIdeal.nD Cert.SqDxOutIdeal.τ).loc Cert.SqDxOutIdeal.main_arg1) = m ((c.tc : Thread Cert.SqDxOutIdeal.nD Cert.SqDxOutIdeal.τ).loc Cert.SqDxOutIdeal.main_arg1))
      ∧ θ_run (Cert.SqDxOutRefIdeal.defs (F := Ideal)) (onTc (τ := Cert.SqDxOutRefIdeal.τ) (Cert.SqDxOutRefIdeal.main (F := Ideal))) ⟨m', fun _ => 0, g'⟩ (fun r => ∀ c : Dev Cert.SqDxOutRefIdeal.nD,
          r.2.mem ((c.tc : Thread Cert.SqDxOutRefIdeal.nD Cert.SqDxOutRefIdeal.τ).loc Cert.SqDxOutRefIdeal.main_v4) = v0 c
          ∧ r.2.mem ((c.tc : Thread Cert.SqDxOutRefIdeal.nD Cert.SqDxOutRefIdeal.τ).loc Cert.SqDxOutRefIdeal.main_arg0) = m' ((c.tc : Thread Cert.SqDxOutRefIdeal.nD Cert.SqDxOutRefIdeal.τ).loc Cert.SqDxOutRefIdeal.main_arg0)
          ∧ r.2.mem ((c.tc : Thread Cert.SqDxOutRefIdeal.nD Cert.SqDxOutRefIdeal.τ).loc Cert.SqDxOutRefIdeal.main_arg1) = m' ((c.tc : Thread Cert.SqDxOutRefIdeal.nD Cert.SqDxOutRefIdeal.τ).loc Cert.SqDxOutRefIdeal.main_arg1))

def preserves_DwGate_DwGateIdeal : Prop :=
  True

def algebraic_DwGateIdeal_DwGateRefIdeal [hDwGateIdeal : Cert.DwGateIdeal.Facts] [hDwGateRefIdeal : Cert.DwGateRefIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateIdeal m →
    (∀ c : Dev Cert.DwGateIdeal.nD,
      m' ((c.tc : Thread Cert.DwGateRefIdeal.nD Cert.DwGateRefIdeal.τ).loc Cert.DwGateRefIdeal.main_arg0) = m ((c.tc : Thread Cert.DwGateIdeal.nD Cert.DwGateIdeal.τ).loc Cert.DwGateIdeal.main_arg0)
      ∧ m' ((c.tc : Thread Cert.DwGateRefIdeal.nD Cert.DwGateRefIdeal.τ).loc Cert.DwGateRefIdeal.main_arg1) = m ((c.tc : Thread Cert.DwGateIdeal.nD Cert.DwGateIdeal.τ).loc Cert.DwGateIdeal.main_arg1)) →
    ∃ (v0 : (c : Dev Cert.DwGateIdeal.nD) → Buf (Elt Ideal) ((c.tc : Thread Cert.DwGateIdeal.nD Cert.DwGateIdeal.τ).loc Cert.DwGateIdeal.main_v1)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v1) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v11) = v0 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)
      ∧ m' ((c.tc : Thread Cert.DwUpRefIdeal.nD Cert.DwUpRefIdeal.τ).loc Cert.DwUpRefIdeal.main_arg2) = m ((c.tc : Thread Cert.DwUpIdeal.nD Cert.DwUpIdeal.τ).loc Cert.DwUpIdeal.main_arg2)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v13) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1)
          ∧ r.2.mem ((c.tc : Thread Cert.DwUpRefIdeal.nD Cert.DwUpRefIdeal.τ).loc Cert.DwUpRefIdeal.main_arg2) = m' ((c.tc : Thread Cert.DwUpRefIdeal.nD Cert.DwUpRefIdeal.τ).loc Cert.DwUpRefIdeal.main_arg2))

def preserves_HgQ_HgQIdeal : Prop :=
  True

def algebraic_HgQIdeal_HgQRefIdeal [hHgQIdeal : Cert.HgQIdeal.Facts] [hHgQRefIdeal : Cert.HgQRefIdeal.Facts] : Prop :=
  ∀ (m : (ℓ : Loc Cert.HgQIdeal.nD Cert.HgQIdeal.τ Cert.HgQIdeal.sig) → Buf (Elt Ideal) ℓ) (g : Dev Cert.HgQIdeal.nD → PrngReg)
    (m' : (ℓ : Loc Cert.HgQRefIdeal.nD Cert.HgQRefIdeal.τ Cert.HgQRefIdeal.sig) → Buf (Elt Ideal) ℓ) (g' : Dev Cert.HgQRefIdeal.nD → PrngReg), Pre_HgQIdeal m →
    (∀ c : Dev Cert.HgQIdeal.nD,
      m' ((c.tc : Thread Cert.HgQRefIdeal.nD Cert.HgQRefIdeal.τ).loc Cert.HgQRefIdeal.main_arg0) = m ((c.tc : Thread Cert.HgQIdeal.nD Cert.HgQIdeal.τ).loc Cert.HgQIdeal.main_arg0)
      ∧ m' ((c.tc : Thread Cert.HgQRefIdeal.nD Cert.HgQRefIdeal.τ).loc Cert.HgQRefIdeal.main_arg1) = m ((c.tc : Thread Cert.HgQIdeal.nD Cert.HgQIdeal.τ).loc Cert.HgQIdeal.main_arg1)) →
    ∃ (v0 : (c : Dev Cert.HgQIdeal.nD) → Buf (Elt Ideal) ((c.tc : Thread Cert.HgQIdeal.nD Cert.HgQIdeal.τ).loc Cert.HgQIdeal.main_v0)),
      θ_run (Cert.HgQIdeal.defs (F := Ideal)) (onTc (τ := Cert.HgQIdeal.τ) (Cert.HgQIdeal.main (F := Ideal))) ⟨m, fun _ => 0, g⟩ (fun r => ∀ c : Dev Cert.HgQIdeal.nD,
          r.2.mem ((c.tc : Thread Cert.HgQIdeal.nD Cert.HgQIdeal.τ).loc Cert.HgQIdeal.main_v0) = v0 c
          ∧ r.2.mem ((c.tc : Thread Cert.HgQIdeal.nD Cert.HgQIdeal.τ).loc Cert.HgQIdeal.main_arg0) = m ((c.tc : Thread Cert.HgQIdeal.nD Cert.HgQIdeal.τ).loc Cert.HgQIdeal.main_arg0)
          ∧ r.2.mem ((c.tc : Thread Cert.HgQIdeal.nD Cert.HgQIdeal.τ).loc Cert.HgQIdeal.main_arg1) = m ((c.tc : Thread Cert.HgQIdeal.nD Cert.HgQIdeal.τ).loc Cert.HgQIdeal.main_arg1))
      ∧ θ_run (Cert.HgQRefIdeal.defs (F := Ideal)) (onTc (τ := Cert.HgQRefIdeal.τ) (Cert.HgQRefIdeal.main (F := Ideal))) ⟨m', fun _ => 0, g'⟩ (fun r => ∀ c : Dev Cert.HgQRefIdeal.nD,
          r.2.mem ((c.tc : Thread Cert.HgQRefIdeal.nD Cert.HgQRefIdeal.τ).loc Cert.HgQRefIdeal.main_v4) = v0 c
          ∧ r.2.mem ((c.tc : Thread Cert.HgQRefIdeal.nD Cert.HgQRefIdeal.τ).loc Cert.HgQRefIdeal.main_arg0) = m' ((c.tc : Thread Cert.HgQRefIdeal.nD Cert.HgQRefIdeal.τ).loc Cert.HgQRefIdeal.main_arg0)
          ∧ r.2.mem ((c.tc : Thread Cert.HgQRefIdeal.nD Cert.HgQRefIdeal.τ).loc Cert.HgQRefIdeal.main_arg1) = m' ((c.tc : Thread Cert.HgQRefIdeal.nD Cert.HgQRefIdeal.τ).loc Cert.HgQRefIdeal.main_arg1))

def preserves_HgF_HgFIdeal : Prop :=
  True

def algebraic_HgFIdeal_HgFRefIdeal [hHgFIdeal : Cert.HgFIdeal.Facts] [hHgFRefIdeal : Cert.HgFRefIdeal.Facts] : Prop :=
  ∀ (m : (ℓ : Loc Cert.HgFIdeal.nD Cert.HgFIdeal.τ Cert.HgFIdeal.sig) → Buf (Elt Ideal) ℓ) (g : Dev Cert.HgFIdeal.nD → PrngReg)
    (m' : (ℓ : Loc Cert.HgFRefIdeal.nD Cert.HgFRefIdeal.τ Cert.HgFRefIdeal.sig) → Buf (Elt Ideal) ℓ) (g' : Dev Cert.HgFRefIdeal.nD → PrngReg), Pre_HgFIdeal m →
    (∀ c : Dev Cert.HgFIdeal.nD,
      m' ((c.tc : Thread Cert.HgFRefIdeal.nD Cert.HgFRefIdeal.τ).loc Cert.HgFRefIdeal.main_arg0) = m ((c.tc : Thread Cert.HgFIdeal.nD Cert.HgFIdeal.τ).loc Cert.HgFIdeal.main_arg0)
      ∧ m' ((c.tc : Thread Cert.HgFRefIdeal.nD Cert.HgFRefIdeal.τ).loc Cert.HgFRefIdeal.main_arg1) = m ((c.tc : Thread Cert.HgFIdeal.nD Cert.HgFIdeal.τ).loc Cert.HgFIdeal.main_arg1)) →
    ∃ (v0 : (c : Dev Cert.HgFIdeal.nD) → Buf (Elt Ideal) ((c.tc : Thread Cert.HgFIdeal.nD Cert.HgFIdeal.τ).loc Cert.HgFIdeal.main_v0)),
      θ_run (Cert.HgFIdeal.defs (F := Ideal)) (onTc (τ := Cert.HgFIdeal.τ) (Cert.HgFIdeal.main (F := Ideal))) ⟨m, fun _ => 0, g⟩ (fun r => ∀ c : Dev Cert.HgFIdeal.nD,
          r.2.mem ((c.tc : Thread Cert.HgFIdeal.nD Cert.HgFIdeal.τ).loc Cert.HgFIdeal.main_v0) = v0 c
          ∧ r.2.mem ((c.tc : Thread Cert.HgFIdeal.nD Cert.HgFIdeal.τ).loc Cert.HgFIdeal.main_arg0) = m ((c.tc : Thread Cert.HgFIdeal.nD Cert.HgFIdeal.τ).loc Cert.HgFIdeal.main_arg0)
          ∧ r.2.mem ((c.tc : Thread Cert.HgFIdeal.nD Cert.HgFIdeal.τ).loc Cert.HgFIdeal.main_arg1) = m ((c.tc : Thread Cert.HgFIdeal.nD Cert.HgFIdeal.τ).loc Cert.HgFIdeal.main_arg1))
      ∧ θ_run (Cert.HgFRefIdeal.defs (F := Ideal)) (onTc (τ := Cert.HgFRefIdeal.τ) (Cert.HgFRefIdeal.main (F := Ideal))) ⟨m', fun _ => 0, g'⟩ (fun r => ∀ c : Dev Cert.HgFRefIdeal.nD,
          r.2.mem ((c.tc : Thread Cert.HgFRefIdeal.nD Cert.HgFRefIdeal.τ).loc Cert.HgFRefIdeal.main_v4) = v0 c
          ∧ r.2.mem ((c.tc : Thread Cert.HgFRefIdeal.nD Cert.HgFRefIdeal.τ).loc Cert.HgFRefIdeal.main_arg0) = m' ((c.tc : Thread Cert.HgFRefIdeal.nD Cert.HgFRefIdeal.τ).loc Cert.HgFRefIdeal.main_arg0)
          ∧ r.2.mem ((c.tc : Thread Cert.HgFRefIdeal.nD Cert.HgFRefIdeal.τ).loc Cert.HgFRefIdeal.main_arg1) = m' ((c.tc : Thread Cert.HgFRefIdeal.nD Cert.HgFRefIdeal.τ).loc Cert.HgFRefIdeal.main_arg1))

def preserves_HgI_HgIIdeal : Prop :=
  True

def algebraic_HgIIdeal_HgIRefIdeal [hHgIIdeal : Cert.HgIIdeal.Facts] [hHgIRefIdeal : Cert.HgIRefIdeal.Facts] : Prop :=
  ∀ (m : (ℓ : Loc Cert.HgIIdeal.nD Cert.HgIIdeal.τ Cert.HgIIdeal.sig) → Buf (Elt Ideal) ℓ) (g : Dev Cert.HgIIdeal.nD → PrngReg)
    (m' : (ℓ : Loc Cert.HgIRefIdeal.nD Cert.HgIRefIdeal.τ Cert.HgIRefIdeal.sig) → Buf (Elt Ideal) ℓ) (g' : Dev Cert.HgIRefIdeal.nD → PrngReg), Pre_HgIIdeal m →
    (∀ c : Dev Cert.HgIIdeal.nD,
      m' ((c.tc : Thread Cert.HgIRefIdeal.nD Cert.HgIRefIdeal.τ).loc Cert.HgIRefIdeal.main_arg0) = m ((c.tc : Thread Cert.HgIIdeal.nD Cert.HgIIdeal.τ).loc Cert.HgIIdeal.main_arg0)
      ∧ m' ((c.tc : Thread Cert.HgIRefIdeal.nD Cert.HgIRefIdeal.τ).loc Cert.HgIRefIdeal.main_arg1) = m ((c.tc : Thread Cert.HgIIdeal.nD Cert.HgIIdeal.τ).loc Cert.HgIIdeal.main_arg1)) →
    ∃ (v0 : (c : Dev Cert.HgIIdeal.nD) → Buf (Elt Ideal) ((c.tc : Thread Cert.HgIIdeal.nD Cert.HgIIdeal.τ).loc Cert.HgIIdeal.main_v0)),
      θ_run (Cert.HgIIdeal.defs (F := Ideal)) (onTc (τ := Cert.HgIIdeal.τ) (Cert.HgIIdeal.main (F := Ideal))) ⟨m, fun _ => 0, g⟩ (fun r => ∀ c : Dev Cert.HgIIdeal.nD,
          r.2.mem ((c.tc : Thread Cert.HgIIdeal.nD Cert.HgIIdeal.τ).loc Cert.HgIIdeal.main_v0) = v0 c
          ∧ r.2.mem ((c.tc : Thread Cert.HgIIdeal.nD Cert.HgIIdeal.τ).loc Cert.HgIIdeal.main_arg0) = m ((c.tc : Thread Cert.HgIIdeal.nD Cert.HgIIdeal.τ).loc Cert.HgIIdeal.main_arg0)
          ∧ r.2.mem ((c.tc : Thread Cert.HgIIdeal.nD Cert.HgIIdeal.τ).loc Cert.HgIIdeal.main_arg1) = m ((c.tc : Thread Cert.HgIIdeal.nD Cert.HgIIdeal.τ).loc Cert.HgIIdeal.main_arg1))
      ∧ θ_run (Cert.HgIRefIdeal.defs (F := Ideal)) (onTc (τ := Cert.HgIRefIdeal.τ) (Cert.HgIRefIdeal.main (F := Ideal))) ⟨m', fun _ => 0, g'⟩ (fun r => ∀ c : Dev Cert.HgIRefIdeal.nD,
          r.2.mem ((c.tc : Thread Cert.HgIRefIdeal.nD Cert.HgIRefIdeal.τ).loc Cert.HgIRefIdeal.main_v4) = v0 c
          ∧ r.2.mem ((c.tc : Thread Cert.HgIRefIdeal.nD Cert.HgIRefIdeal.τ).loc Cert.HgIRefIdeal.main_arg0) = m' ((c.tc : Thread Cert.HgIRefIdeal.nD Cert.HgIRefIdeal.τ).loc Cert.HgIRefIdeal.main_arg0)
          ∧ r.2.mem ((c.tc : Thread Cert.HgIRefIdeal.nD Cert.HgIRefIdeal.τ).loc Cert.HgIRefIdeal.main_arg1) = m' ((c.tc : Thread Cert.HgIRefIdeal.nD Cert.HgIRefIdeal.τ).loc Cert.HgIRefIdeal.main_arg1))

def preserves_HgG_HgGIdeal : Prop :=
  True

def algebraic_HgGIdeal_HgGRefIdeal [hHgGIdeal : Cert.HgGIdeal.Facts] [hHgGRefIdeal : Cert.HgGRefIdeal.Facts] : Prop :=
  ∀ (m : (ℓ : Loc Cert.HgGIdeal.nD Cert.HgGIdeal.τ Cert.HgGIdeal.sig) → Buf (Elt Ideal) ℓ) (g : Dev Cert.HgGIdeal.nD → PrngReg)
    (m' : (ℓ : Loc Cert.HgGRefIdeal.nD Cert.HgGRefIdeal.τ Cert.HgGRefIdeal.sig) → Buf (Elt Ideal) ℓ) (g' : Dev Cert.HgGRefIdeal.nD → PrngReg), Pre_HgGIdeal m →
    (∀ c : Dev Cert.HgGIdeal.nD,
      m' ((c.tc : Thread Cert.HgGRefIdeal.nD Cert.HgGRefIdeal.τ).loc Cert.HgGRefIdeal.main_arg0) = m ((c.tc : Thread Cert.HgGIdeal.nD Cert.HgGIdeal.τ).loc Cert.HgGIdeal.main_arg0)
      ∧ m' ((c.tc : Thread Cert.HgGRefIdeal.nD Cert.HgGRefIdeal.τ).loc Cert.HgGRefIdeal.main_arg1) = m ((c.tc : Thread Cert.HgGIdeal.nD Cert.HgGIdeal.τ).loc Cert.HgGIdeal.main_arg1)) →
    ∃ (v0 : (c : Dev Cert.HgGIdeal.nD) → Buf (Elt Ideal) ((c.tc : Thread Cert.HgGIdeal.nD Cert.HgGIdeal.τ).loc Cert.HgGIdeal.main_v0)),
      θ_run (Cert.HgGIdeal.defs (F := Ideal)) (onTc (τ := Cert.HgGIdeal.τ) (Cert.HgGIdeal.main (F := Ideal))) ⟨m, fun _ => 0, g⟩ (fun r => ∀ c : Dev Cert.HgGIdeal.nD,
          r.2.mem ((c.tc : Thread Cert.HgGIdeal.nD Cert.HgGIdeal.τ).loc Cert.HgGIdeal.main_v0) = v0 c
          ∧ r.2.mem ((c.tc : Thread Cert.HgGIdeal.nD Cert.HgGIdeal.τ).loc Cert.HgGIdeal.main_arg0) = m ((c.tc : Thread Cert.HgGIdeal.nD Cert.HgGIdeal.τ).loc Cert.HgGIdeal.main_arg0)
          ∧ r.2.mem ((c.tc : Thread Cert.HgGIdeal.nD Cert.HgGIdeal.τ).loc Cert.HgGIdeal.main_arg1) = m ((c.tc : Thread Cert.HgGIdeal.nD Cert.HgGIdeal.τ).loc Cert.HgGIdeal.main_arg1))
      ∧ θ_run (Cert.HgGRefIdeal.defs (F := Ideal)) (onTc (τ := Cert.HgGRefIdeal.τ) (Cert.HgGRefIdeal.main (F := Ideal))) ⟨m', fun _ => 0, g'⟩ (fun r => ∀ c : Dev Cert.HgGRefIdeal.nD,
          r.2.mem ((c.tc : Thread Cert.HgGRefIdeal.nD Cert.HgGRefIdeal.τ).loc Cert.HgGRefIdeal.main_v4) = v0 c
          ∧ r.2.mem ((c.tc : Thread Cert.HgGRefIdeal.nD Cert.HgGRefIdeal.τ).loc Cert.HgGRefIdeal.main_arg0) = m' ((c.tc : Thread Cert.HgGRefIdeal.nD Cert.HgGRefIdeal.τ).loc Cert.HgGRefIdeal.main_arg0)
          ∧ r.2.mem ((c.tc : Thread Cert.HgGRefIdeal.nD Cert.HgGRefIdeal.τ).loc Cert.HgGRefIdeal.main_arg1) = m' ((c.tc : Thread Cert.HgGRefIdeal.nD Cert.HgGRefIdeal.τ).loc Cert.HgGRefIdeal.main_arg1))

def preserves_DwHgQ_DwHgQIdeal : Prop :=
  True

def algebraic_DwHgQIdeal_DwHgQRefIdeal [hDwHgQIdeal : Cert.DwHgQIdeal.Facts] [hDwHgQRefIdeal : Cert.DwHgQRefIdeal.Facts] : Prop :=
  ∀ (m : (ℓ : Loc Cert.DwHgQIdeal.nD Cert.DwHgQIdeal.τ Cert.DwHgQIdeal.sig) → Buf (Elt Ideal) ℓ) (g : Dev Cert.DwHgQIdeal.nD → PrngReg)
    (m' : (ℓ : Loc Cert.DwHgQRefIdeal.nD Cert.DwHgQRefIdeal.τ Cert.DwHgQRefIdeal.sig) → Buf (Elt Ideal) ℓ) (g' : Dev Cert.DwHgQRefIdeal.nD → PrngReg), Pre_DwHgQIdeal m →
    (∀ c : Dev Cert.DwHgQIdeal.nD,
      m' ((c.tc : Thread Cert.DwHgQRefIdeal.nD Cert.DwHgQRefIdeal.τ).loc Cert.DwHgQRefIdeal.main_arg0) = m ((c.tc : Thread Cert.DwHgQIdeal.nD Cert.DwHgQIdeal.τ).loc Cert.DwHgQIdeal.main_arg0)
      ∧ m' ((c.tc : Thread Cert.DwHgQRefIdeal.nD Cert.DwHgQRefIdeal.τ).loc Cert.DwHgQRefIdeal.main_arg1) = m ((c.tc : Thread Cert.DwHgQIdeal.nD Cert.DwHgQIdeal.τ).loc Cert.DwHgQIdeal.main_arg1)) →
    ∃ (v0 : (c : Dev Cert.DwHgQIdeal.nD) → Buf (Elt Ideal) ((c.tc : Thread Cert.DwHgQIdeal.nD Cert.DwHgQIdeal.τ).loc Cert.DwHgQIdeal.main_v1)),
      θ_run (Cert.DwHgQIdeal.defs (F := Ideal)) (onTc (τ := Cert.DwHgQIdeal.τ) (Cert.DwHgQIdeal.main (F := Ideal))) ⟨m, fun _ => 0, g⟩ (fun r => ∀ c : Dev Cert.DwHgQIdeal.nD,
          r.2.mem ((c.tc : Thread Cert.DwHgQIdeal.nD Cert.DwHgQIdeal.τ).loc Cert.DwHgQIdeal.main_v1) = v0 c
          ∧ r.2.mem ((c.tc : Thread Cert.DwHgQIdeal.nD Cert.DwHgQIdeal.τ).loc Cert.DwHgQIdeal.main_arg0) = m ((c.tc : Thread Cert.DwHgQIdeal.nD Cert.DwHgQIdeal.τ).loc Cert.DwHgQIdeal.main_arg0)
          ∧ r.2.mem ((c.tc : Thread Cert.DwHgQIdeal.nD Cert.DwHgQIdeal.τ).loc Cert.DwHgQIdeal.main_arg1) = m ((c.tc : Thread Cert.DwHgQIdeal.nD Cert.DwHgQIdeal.τ).loc Cert.DwHgQIdeal.main_arg1))
      ∧ θ_run (Cert.DwHgQRefIdeal.defs (F := Ideal)) (onTc (τ := Cert.DwHgQRefIdeal.τ) (Cert.DwHgQRefIdeal.main (F := Ideal))) ⟨m', fun _ => 0, g'⟩ (fun r => ∀ c : Dev Cert.DwHgQRefIdeal.nD,
          r.2.mem ((c.tc : Thread Cert.DwHgQRefIdeal.nD Cert.DwHgQRefIdeal.τ).loc Cert.DwHgQRefIdeal.main_v7) = v0 c
          ∧ r.2.mem ((c.tc : Thread Cert.DwHgQRefIdeal.nD Cert.DwHgQRefIdeal.τ).loc Cert.DwHgQRefIdeal.main_arg0) = m' ((c.tc : Thread Cert.DwHgQRefIdeal.nD Cert.DwHgQRefIdeal.τ).loc Cert.DwHgQRefIdeal.main_arg0)
          ∧ r.2.mem ((c.tc : Thread Cert.DwHgQRefIdeal.nD Cert.DwHgQRefIdeal.τ).loc Cert.DwHgQRefIdeal.main_arg1) = m' ((c.tc : Thread Cert.DwHgQRefIdeal.nD Cert.DwHgQRefIdeal.τ).loc Cert.DwHgQRefIdeal.main_arg1))

def preserves_DwHgF_DwHgFIdeal : Prop :=
  True

def algebraic_DwHgFIdeal_DwHgFRefIdeal [hDwHgFIdeal : Cert.DwHgFIdeal.Facts] [hDwHgFRefIdeal : Cert.DwHgFRefIdeal.Facts] : Prop :=
  ∀ (m : (ℓ : Loc Cert.DwHgFIdeal.nD Cert.DwHgFIdeal.τ Cert.DwHgFIdeal.sig) → Buf (Elt Ideal) ℓ) (g : Dev Cert.DwHgFIdeal.nD → PrngReg)
    (m' : (ℓ : Loc Cert.DwHgFRefIdeal.nD Cert.DwHgFRefIdeal.τ Cert.DwHgFRefIdeal.sig) → Buf (Elt Ideal) ℓ) (g' : Dev Cert.DwHgFRefIdeal.nD → PrngReg), Pre_DwHgFIdeal m →
    (∀ c : Dev Cert.DwHgFIdeal.nD,
      m' ((c.tc : Thread Cert.DwHgFRefIdeal.nD Cert.DwHgFRefIdeal.τ).loc Cert.DwHgFRefIdeal.main_arg0) = m ((c.tc : Thread Cert.DwHgFIdeal.nD Cert.DwHgFIdeal.τ).loc Cert.DwHgFIdeal.main_arg0)
      ∧ m' ((c.tc : Thread Cert.DwHgFRefIdeal.nD Cert.DwHgFRefIdeal.τ).loc Cert.DwHgFRefIdeal.main_arg1) = m ((c.tc : Thread Cert.DwHgFIdeal.nD Cert.DwHgFIdeal.τ).loc Cert.DwHgFIdeal.main_arg1)
      ∧ m' ((c.tc : Thread Cert.DwHgFRefIdeal.nD Cert.DwHgFRefIdeal.τ).loc Cert.DwHgFRefIdeal.main_arg2) = m ((c.tc : Thread Cert.DwHgFIdeal.nD Cert.DwHgFIdeal.τ).loc Cert.DwHgFIdeal.main_arg2)) →
    ∃ (v0 : (c : Dev Cert.DwHgFIdeal.nD) → Buf (Elt Ideal) ((c.tc : Thread Cert.DwHgFIdeal.nD Cert.DwHgFIdeal.τ).loc Cert.DwHgFIdeal.main_v0)),
      θ_run (Cert.DwHgFIdeal.defs (F := Ideal)) (onTc (τ := Cert.DwHgFIdeal.τ) (Cert.DwHgFIdeal.main (F := Ideal))) ⟨m, fun _ => 0, g⟩ (fun r => ∀ c : Dev Cert.DwHgFIdeal.nD,
          r.2.mem ((c.tc : Thread Cert.DwHgFIdeal.nD Cert.DwHgFIdeal.τ).loc Cert.DwHgFIdeal.main_v0) = v0 c
          ∧ r.2.mem ((c.tc : Thread Cert.DwHgFIdeal.nD Cert.DwHgFIdeal.τ).loc Cert.DwHgFIdeal.main_arg0) = m ((c.tc : Thread Cert.DwHgFIdeal.nD Cert.DwHgFIdeal.τ).loc Cert.DwHgFIdeal.main_arg0)
          ∧ r.2.mem ((c.tc : Thread Cert.DwHgFIdeal.nD Cert.DwHgFIdeal.τ).loc Cert.DwHgFIdeal.main_arg1) = m ((c.tc : Thread Cert.DwHgFIdeal.nD Cert.DwHgFIdeal.τ).loc Cert.DwHgFIdeal.main_arg1)
          ∧ r.2.mem ((c.tc : Thread Cert.DwHgFIdeal.nD Cert.DwHgFIdeal.τ).loc Cert.DwHgFIdeal.main_arg2) = m ((c.tc : Thread Cert.DwHgFIdeal.nD Cert.DwHgFIdeal.τ).loc Cert.DwHgFIdeal.main_arg2))
      ∧ θ_run (Cert.DwHgFRefIdeal.defs (F := Ideal)) (onTc (τ := Cert.DwHgFRefIdeal.τ) (Cert.DwHgFRefIdeal.main (F := Ideal))) ⟨m', fun _ => 0, g'⟩ (fun r => ∀ c : Dev Cert.DwHgFRefIdeal.nD,
          r.2.mem ((c.tc : Thread Cert.DwHgFRefIdeal.nD Cert.DwHgFRefIdeal.τ).loc Cert.DwHgFRefIdeal.main_v10) = v0 c
          ∧ r.2.mem ((c.tc : Thread Cert.DwHgFRefIdeal.nD Cert.DwHgFRefIdeal.τ).loc Cert.DwHgFRefIdeal.main_arg0) = m' ((c.tc : Thread Cert.DwHgFRefIdeal.nD Cert.DwHgFRefIdeal.τ).loc Cert.DwHgFRefIdeal.main_arg0)
          ∧ r.2.mem ((c.tc : Thread Cert.DwHgFRefIdeal.nD Cert.DwHgFRefIdeal.τ).loc Cert.DwHgFRefIdeal.main_arg1) = m' ((c.tc : Thread Cert.DwHgFRefIdeal.nD Cert.DwHgFRefIdeal.τ).loc Cert.DwHgFRefIdeal.main_arg1)
          ∧ r.2.mem ((c.tc : Thread Cert.DwHgFRefIdeal.nD Cert.DwHgFRefIdeal.τ).loc Cert.DwHgFRefIdeal.main_arg2) = m' ((c.tc : Thread Cert.DwHgFRefIdeal.nD Cert.DwHgFRefIdeal.τ).loc Cert.DwHgFRefIdeal.main_arg2))

def preserves_DwHgI_DwHgIIdeal : Prop :=
  True

def algebraic_DwHgIIdeal_DwHgIRefIdeal [hDwHgIIdeal : Cert.DwHgIIdeal.Facts] [hDwHgIRefIdeal : Cert.DwHgIRefIdeal.Facts] : Prop :=
  ∀ (m : (ℓ : Loc Cert.DwHgIIdeal.nD Cert.DwHgIIdeal.τ Cert.DwHgIIdeal.sig) → Buf (Elt Ideal) ℓ) (g : Dev Cert.DwHgIIdeal.nD → PrngReg)
    (m' : (ℓ : Loc Cert.DwHgIRefIdeal.nD Cert.DwHgIRefIdeal.τ Cert.DwHgIRefIdeal.sig) → Buf (Elt Ideal) ℓ) (g' : Dev Cert.DwHgIRefIdeal.nD → PrngReg), Pre_DwHgIIdeal m →
    (∀ c : Dev Cert.DwHgIIdeal.nD,
      m' ((c.tc : Thread Cert.DwHgIRefIdeal.nD Cert.DwHgIRefIdeal.τ).loc Cert.DwHgIRefIdeal.main_arg0) = m ((c.tc : Thread Cert.DwHgIIdeal.nD Cert.DwHgIIdeal.τ).loc Cert.DwHgIIdeal.main_arg0)
      ∧ m' ((c.tc : Thread Cert.DwHgIRefIdeal.nD Cert.DwHgIRefIdeal.τ).loc Cert.DwHgIRefIdeal.main_arg1) = m ((c.tc : Thread Cert.DwHgIIdeal.nD Cert.DwHgIIdeal.τ).loc Cert.DwHgIIdeal.main_arg1)
      ∧ m' ((c.tc : Thread Cert.DwHgIRefIdeal.nD Cert.DwHgIRefIdeal.τ).loc Cert.DwHgIRefIdeal.main_arg2) = m ((c.tc : Thread Cert.DwHgIIdeal.nD Cert.DwHgIIdeal.τ).loc Cert.DwHgIIdeal.main_arg2)) →
    ∃ (v0 : (c : Dev Cert.DwHgIIdeal.nD) → Buf (Elt Ideal) ((c.tc : Thread Cert.DwHgIIdeal.nD Cert.DwHgIIdeal.τ).loc Cert.DwHgIIdeal.main_v0)),
      θ_run (Cert.DwHgIIdeal.defs (F := Ideal)) (onTc (τ := Cert.DwHgIIdeal.τ) (Cert.DwHgIIdeal.main (F := Ideal))) ⟨m, fun _ => 0, g⟩ (fun r => ∀ c : Dev Cert.DwHgIIdeal.nD,
          r.2.mem ((c.tc : Thread Cert.DwHgIIdeal.nD Cert.DwHgIIdeal.τ).loc Cert.DwHgIIdeal.main_v0) = v0 c
          ∧ r.2.mem ((c.tc : Thread Cert.DwHgIIdeal.nD Cert.DwHgIIdeal.τ).loc Cert.DwHgIIdeal.main_arg0) = m ((c.tc : Thread Cert.DwHgIIdeal.nD Cert.DwHgIIdeal.τ).loc Cert.DwHgIIdeal.main_arg0)
          ∧ r.2.mem ((c.tc : Thread Cert.DwHgIIdeal.nD Cert.DwHgIIdeal.τ).loc Cert.DwHgIIdeal.main_arg1) = m ((c.tc : Thread Cert.DwHgIIdeal.nD Cert.DwHgIIdeal.τ).loc Cert.DwHgIIdeal.main_arg1)
          ∧ r.2.mem ((c.tc : Thread Cert.DwHgIIdeal.nD Cert.DwHgIIdeal.τ).loc Cert.DwHgIIdeal.main_arg2) = m ((c.tc : Thread Cert.DwHgIIdeal.nD Cert.DwHgIIdeal.τ).loc Cert.DwHgIIdeal.main_arg2))
      ∧ θ_run (Cert.DwHgIRefIdeal.defs (F := Ideal)) (onTc (τ := Cert.DwHgIRefIdeal.τ) (Cert.DwHgIRefIdeal.main (F := Ideal))) ⟨m', fun _ => 0, g'⟩ (fun r => ∀ c : Dev Cert.DwHgIRefIdeal.nD,
          r.2.mem ((c.tc : Thread Cert.DwHgIRefIdeal.nD Cert.DwHgIRefIdeal.τ).loc Cert.DwHgIRefIdeal.main_v10) = v0 c
          ∧ r.2.mem ((c.tc : Thread Cert.DwHgIRefIdeal.nD Cert.DwHgIRefIdeal.τ).loc Cert.DwHgIRefIdeal.main_arg0) = m' ((c.tc : Thread Cert.DwHgIRefIdeal.nD Cert.DwHgIRefIdeal.τ).loc Cert.DwHgIRefIdeal.main_arg0)
          ∧ r.2.mem ((c.tc : Thread Cert.DwHgIRefIdeal.nD Cert.DwHgIRefIdeal.τ).loc Cert.DwHgIRefIdeal.main_arg1) = m' ((c.tc : Thread Cert.DwHgIRefIdeal.nD Cert.DwHgIRefIdeal.τ).loc Cert.DwHgIRefIdeal.main_arg1)
          ∧ r.2.mem ((c.tc : Thread Cert.DwHgIRefIdeal.nD Cert.DwHgIRefIdeal.τ).loc Cert.DwHgIRefIdeal.main_arg2) = m' ((c.tc : Thread Cert.DwHgIRefIdeal.nD Cert.DwHgIRefIdeal.τ).loc Cert.DwHgIRefIdeal.main_arg2))

def preserves_DwHgG_DwHgGIdeal : Prop :=
  True

def algebraic_DwHgGIdeal_DwHgGRefIdeal [hDwHgGIdeal : Cert.DwHgGIdeal.Facts] [hDwHgGRefIdeal : Cert.DwHgGRefIdeal.Facts] : Prop :=
  ∀ (m : (ℓ : Loc Cert.DwHgGIdeal.nD Cert.DwHgGIdeal.τ Cert.DwHgGIdeal.sig) → Buf (Elt Ideal) ℓ) (g : Dev Cert.DwHgGIdeal.nD → PrngReg)
    (m' : (ℓ : Loc Cert.DwHgGRefIdeal.nD Cert.DwHgGRefIdeal.τ Cert.DwHgGRefIdeal.sig) → Buf (Elt Ideal) ℓ) (g' : Dev Cert.DwHgGRefIdeal.nD → PrngReg), Pre_DwHgGIdeal m →
    (∀ c : Dev Cert.DwHgGIdeal.nD,
      m' ((c.tc : Thread Cert.DwHgGRefIdeal.nD Cert.DwHgGRefIdeal.τ).loc Cert.DwHgGRefIdeal.main_arg0) = m ((c.tc : Thread Cert.DwHgGIdeal.nD Cert.DwHgGIdeal.τ).loc Cert.DwHgGIdeal.main_arg0)
      ∧ m' ((c.tc : Thread Cert.DwHgGRefIdeal.nD Cert.DwHgGRefIdeal.τ).loc Cert.DwHgGRefIdeal.main_arg1) = m ((c.tc : Thread Cert.DwHgGIdeal.nD Cert.DwHgGIdeal.τ).loc Cert.DwHgGIdeal.main_arg1)
      ∧ m' ((c.tc : Thread Cert.DwHgGRefIdeal.nD Cert.DwHgGRefIdeal.τ).loc Cert.DwHgGRefIdeal.main_arg2) = m ((c.tc : Thread Cert.DwHgGIdeal.nD Cert.DwHgGIdeal.τ).loc Cert.DwHgGIdeal.main_arg2)) →
    ∃ (v0 : (c : Dev Cert.DwHgGIdeal.nD) → Buf (Elt Ideal) ((c.tc : Thread Cert.DwHgGIdeal.nD Cert.DwHgGIdeal.τ).loc Cert.DwHgGIdeal.main_v0)),
      θ_run (Cert.DwHgGIdeal.defs (F := Ideal)) (onTc (τ := Cert.DwHgGIdeal.τ) (Cert.DwHgGIdeal.main (F := Ideal))) ⟨m, fun _ => 0, g⟩ (fun r => ∀ c : Dev Cert.DwHgGIdeal.nD,
          r.2.mem ((c.tc : Thread Cert.DwHgGIdeal.nD Cert.DwHgGIdeal.τ).loc Cert.DwHgGIdeal.main_v0) = v0 c
          ∧ r.2.mem ((c.tc : Thread Cert.DwHgGIdeal.nD Cert.DwHgGIdeal.τ).loc Cert.DwHgGIdeal.main_arg0) = m ((c.tc : Thread Cert.DwHgGIdeal.nD Cert.DwHgGIdeal.τ).loc Cert.DwHgGIdeal.main_arg0)
          ∧ r.2.mem ((c.tc : Thread Cert.DwHgGIdeal.nD Cert.DwHgGIdeal.τ).loc Cert.DwHgGIdeal.main_arg1) = m ((c.tc : Thread Cert.DwHgGIdeal.nD Cert.DwHgGIdeal.τ).loc Cert.DwHgGIdeal.main_arg1)
          ∧ r.2.mem ((c.tc : Thread Cert.DwHgGIdeal.nD Cert.DwHgGIdeal.τ).loc Cert.DwHgGIdeal.main_arg2) = m ((c.tc : Thread Cert.DwHgGIdeal.nD Cert.DwHgGIdeal.τ).loc Cert.DwHgGIdeal.main_arg2))
      ∧ θ_run (Cert.DwHgGRefIdeal.defs (F := Ideal)) (onTc (τ := Cert.DwHgGRefIdeal.τ) (Cert.DwHgGRefIdeal.main (F := Ideal))) ⟨m', fun _ => 0, g'⟩ (fun r => ∀ c : Dev Cert.DwHgGRefIdeal.nD,
          r.2.mem ((c.tc : Thread Cert.DwHgGRefIdeal.nD Cert.DwHgGRefIdeal.τ).loc Cert.DwHgGRefIdeal.main_v10) = v0 c
          ∧ r.2.mem ((c.tc : Thread Cert.DwHgGRefIdeal.nD Cert.DwHgGRefIdeal.τ).loc Cert.DwHgGRefIdeal.main_arg0) = m' ((c.tc : Thread Cert.DwHgGRefIdeal.nD Cert.DwHgGRefIdeal.τ).loc Cert.DwHgGRefIdeal.main_arg0)
          ∧ r.2.mem ((c.tc : Thread Cert.DwHgGRefIdeal.nD Cert.DwHgGRefIdeal.τ).loc Cert.DwHgGRefIdeal.main_arg1) = m' ((c.tc : Thread Cert.DwHgGRefIdeal.nD Cert.DwHgGRefIdeal.τ).loc Cert.DwHgGRefIdeal.main_arg1)
          ∧ r.2.mem ((c.tc : Thread Cert.DwHgGRefIdeal.nD Cert.DwHgGRefIdeal.τ).loc Cert.DwHgGRefIdeal.main_arg2) = m' ((c.tc : Thread Cert.DwHgGRefIdeal.nD Cert.DwHgGRefIdeal.τ).loc Cert.DwHgGRefIdeal.main_arg2))

def preserves_DxHgQ_DxHgQIdeal : Prop :=
  True

def algebraic_DxHgQIdeal_DxHgQRefIdeal [hDxHgQIdeal : Cert.DxHgQIdeal.Facts] [hDxHgQRefIdeal : Cert.DxHgQRefIdeal.Facts] : Prop :=
  ∀ (m : (ℓ : Loc Cert.DxHgQIdeal.nD Cert.DxHgQIdeal.τ Cert.DxHgQIdeal.sig) → Buf (Elt Ideal) ℓ) (g : Dev Cert.DxHgQIdeal.nD → PrngReg)
    (m' : (ℓ : Loc Cert.DxHgQRefIdeal.nD Cert.DxHgQRefIdeal.τ Cert.DxHgQRefIdeal.sig) → Buf (Elt Ideal) ℓ) (g' : Dev Cert.DxHgQRefIdeal.nD → PrngReg), Pre_DxHgQIdeal m →
    (∀ c : Dev Cert.DxHgQIdeal.nD,
      m' ((c.tc : Thread Cert.DxHgQRefIdeal.nD Cert.DxHgQRefIdeal.τ).loc Cert.DxHgQRefIdeal.main_arg0) = m ((c.tc : Thread Cert.DxHgQIdeal.nD Cert.DxHgQIdeal.τ).loc Cert.DxHgQIdeal.main_arg0)
      ∧ m' ((c.tc : Thread Cert.DxHgQRefIdeal.nD Cert.DxHgQRefIdeal.τ).loc Cert.DxHgQRefIdeal.main_arg1) = m ((c.tc : Thread Cert.DxHgQIdeal.nD Cert.DxHgQIdeal.τ).loc Cert.DxHgQIdeal.main_arg1)) →
    ∃ (v0 : (c : Dev Cert.DxHgQIdeal.nD) → Buf (Elt Ideal) ((c.tc : Thread Cert.DxHgQIdeal.nD Cert.DxHgQIdeal.τ).loc Cert.DxHgQIdeal.main_v0)),
      θ_run (Cert.DxHgQIdeal.defs (F := Ideal)) (onTc (τ := Cert.DxHgQIdeal.τ) (Cert.DxHgQIdeal.main (F := Ideal))) ⟨m, fun _ => 0, g⟩ (fun r => ∀ c : Dev Cert.DxHgQIdeal.nD,
          r.2.mem ((c.tc : Thread Cert.DxHgQIdeal.nD Cert.DxHgQIdeal.τ).loc Cert.DxHgQIdeal.main_v0) = v0 c
          ∧ r.2.mem ((c.tc : Thread Cert.DxHgQIdeal.nD Cert.DxHgQIdeal.τ).loc Cert.DxHgQIdeal.main_arg0) = m ((c.tc : Thread Cert.DxHgQIdeal.nD Cert.DxHgQIdeal.τ).loc Cert.DxHgQIdeal.main_arg0)
          ∧ r.2.mem ((c.tc : Thread Cert.DxHgQIdeal.nD Cert.DxHgQIdeal.τ).loc Cert.DxHgQIdeal.main_arg1) = m ((c.tc : Thread Cert.DxHgQIdeal.nD Cert.DxHgQIdeal.τ).loc Cert.DxHgQIdeal.main_arg1))
      ∧ θ_run (Cert.DxHgQRefIdeal.defs (F := Ideal)) (onTc (τ := Cert.DxHgQRefIdeal.τ) (Cert.DxHgQRefIdeal.main (F := Ideal))) ⟨m', fun _ => 0, g'⟩ (fun r => ∀ c : Dev Cert.DxHgQRefIdeal.nD,
          r.2.mem ((c.tc : Thread Cert.DxHgQRefIdeal.nD Cert.DxHgQRefIdeal.τ).loc Cert.DxHgQRefIdeal.main_v6) = v0 c
          ∧ r.2.mem ((c.tc : Thread Cert.DxHgQRefIdeal.nD Cert.DxHgQRefIdeal.τ).loc Cert.DxHgQRefIdeal.main_arg0) = m' ((c.tc : Thread Cert.DxHgQRefIdeal.nD Cert.DxHgQRefIdeal.τ).loc Cert.DxHgQRefIdeal.main_arg0)
          ∧ r.2.mem ((c.tc : Thread Cert.DxHgQRefIdeal.nD Cert.DxHgQRefIdeal.τ).loc Cert.DxHgQRefIdeal.main_arg1) = m' ((c.tc : Thread Cert.DxHgQRefIdeal.nD Cert.DxHgQRefIdeal.τ).loc Cert.DxHgQRefIdeal.main_arg1))

def preserves_DxHgF_DxHgFIdeal : Prop :=
  True

def algebraic_DxHgFIdeal_DxHgFRefIdeal [hDxHgFIdeal : Cert.DxHgFIdeal.Facts] [hDxHgFRefIdeal : Cert.DxHgFRefIdeal.Facts] : Prop :=
  ∀ (m : (ℓ : Loc Cert.DxHgFIdeal.nD Cert.DxHgFIdeal.τ Cert.DxHgFIdeal.sig) → Buf (Elt Ideal) ℓ) (g : Dev Cert.DxHgFIdeal.nD → PrngReg)
    (m' : (ℓ : Loc Cert.DxHgFRefIdeal.nD Cert.DxHgFRefIdeal.τ Cert.DxHgFRefIdeal.sig) → Buf (Elt Ideal) ℓ) (g' : Dev Cert.DxHgFRefIdeal.nD → PrngReg), Pre_DxHgFIdeal m →
    (∀ c : Dev Cert.DxHgFIdeal.nD,
      m' ((c.tc : Thread Cert.DxHgFRefIdeal.nD Cert.DxHgFRefIdeal.τ).loc Cert.DxHgFRefIdeal.main_arg0) = m ((c.tc : Thread Cert.DxHgFIdeal.nD Cert.DxHgFIdeal.τ).loc Cert.DxHgFIdeal.main_arg0)
      ∧ m' ((c.tc : Thread Cert.DxHgFRefIdeal.nD Cert.DxHgFRefIdeal.τ).loc Cert.DxHgFRefIdeal.main_arg1) = m ((c.tc : Thread Cert.DxHgFIdeal.nD Cert.DxHgFIdeal.τ).loc Cert.DxHgFIdeal.main_arg1)
      ∧ m' ((c.tc : Thread Cert.DxHgFRefIdeal.nD Cert.DxHgFRefIdeal.τ).loc Cert.DxHgFRefIdeal.main_arg2) = m ((c.tc : Thread Cert.DxHgFIdeal.nD Cert.DxHgFIdeal.τ).loc Cert.DxHgFIdeal.main_arg2)) →
    ∃ (v0 : (c : Dev Cert.DxHgFIdeal.nD) → Buf (Elt Ideal) ((c.tc : Thread Cert.DxHgFIdeal.nD Cert.DxHgFIdeal.τ).loc Cert.DxHgFIdeal.main_v0)),
      θ_run (Cert.DxHgFIdeal.defs (F := Ideal)) (onTc (τ := Cert.DxHgFIdeal.τ) (Cert.DxHgFIdeal.main (F := Ideal))) ⟨m, fun _ => 0, g⟩ (fun r => ∀ c : Dev Cert.DxHgFIdeal.nD,
          r.2.mem ((c.tc : Thread Cert.DxHgFIdeal.nD Cert.DxHgFIdeal.τ).loc Cert.DxHgFIdeal.main_v0) = v0 c
          ∧ r.2.mem ((c.tc : Thread Cert.DxHgFIdeal.nD Cert.DxHgFIdeal.τ).loc Cert.DxHgFIdeal.main_arg0) = m ((c.tc : Thread Cert.DxHgFIdeal.nD Cert.DxHgFIdeal.τ).loc Cert.DxHgFIdeal.main_arg0)
          ∧ r.2.mem ((c.tc : Thread Cert.DxHgFIdeal.nD Cert.DxHgFIdeal.τ).loc Cert.DxHgFIdeal.main_arg1) = m ((c.tc : Thread Cert.DxHgFIdeal.nD Cert.DxHgFIdeal.τ).loc Cert.DxHgFIdeal.main_arg1)
          ∧ r.2.mem ((c.tc : Thread Cert.DxHgFIdeal.nD Cert.DxHgFIdeal.τ).loc Cert.DxHgFIdeal.main_arg2) = m ((c.tc : Thread Cert.DxHgFIdeal.nD Cert.DxHgFIdeal.τ).loc Cert.DxHgFIdeal.main_arg2))
      ∧ θ_run (Cert.DxHgFRefIdeal.defs (F := Ideal)) (onTc (τ := Cert.DxHgFRefIdeal.τ) (Cert.DxHgFRefIdeal.main (F := Ideal))) ⟨m', fun _ => 0, g'⟩ (fun r => ∀ c : Dev Cert.DxHgFRefIdeal.nD,
          r.2.mem ((c.tc : Thread Cert.DxHgFRefIdeal.nD Cert.DxHgFRefIdeal.τ).loc Cert.DxHgFRefIdeal.main_v7) = v0 c
          ∧ r.2.mem ((c.tc : Thread Cert.DxHgFRefIdeal.nD Cert.DxHgFRefIdeal.τ).loc Cert.DxHgFRefIdeal.main_arg0) = m' ((c.tc : Thread Cert.DxHgFRefIdeal.nD Cert.DxHgFRefIdeal.τ).loc Cert.DxHgFRefIdeal.main_arg0)
          ∧ r.2.mem ((c.tc : Thread Cert.DxHgFRefIdeal.nD Cert.DxHgFRefIdeal.τ).loc Cert.DxHgFRefIdeal.main_arg1) = m' ((c.tc : Thread Cert.DxHgFRefIdeal.nD Cert.DxHgFRefIdeal.τ).loc Cert.DxHgFRefIdeal.main_arg1)
          ∧ r.2.mem ((c.tc : Thread Cert.DxHgFRefIdeal.nD Cert.DxHgFRefIdeal.τ).loc Cert.DxHgFRefIdeal.main_arg2) = m' ((c.tc : Thread Cert.DxHgFRefIdeal.nD Cert.DxHgFRefIdeal.τ).loc Cert.DxHgFRefIdeal.main_arg2))

def preserves_DxHgI_DxHgIIdeal : Prop :=
  True

def algebraic_DxHgIIdeal_DxHgIRefIdeal [hDxHgIIdeal : Cert.DxHgIIdeal.Facts] [hDxHgIRefIdeal : Cert.DxHgIRefIdeal.Facts] : Prop :=
  ∀ (m : (ℓ : Loc Cert.DxHgIIdeal.nD Cert.DxHgIIdeal.τ Cert.DxHgIIdeal.sig) → Buf (Elt Ideal) ℓ) (g : Dev Cert.DxHgIIdeal.nD → PrngReg)
    (m' : (ℓ : Loc Cert.DxHgIRefIdeal.nD Cert.DxHgIRefIdeal.τ Cert.DxHgIRefIdeal.sig) → Buf (Elt Ideal) ℓ) (g' : Dev Cert.DxHgIRefIdeal.nD → PrngReg), Pre_DxHgIIdeal m →
    (∀ c : Dev Cert.DxHgIIdeal.nD,
      m' ((c.tc : Thread Cert.DxHgIRefIdeal.nD Cert.DxHgIRefIdeal.τ).loc Cert.DxHgIRefIdeal.main_arg0) = m ((c.tc : Thread Cert.DxHgIIdeal.nD Cert.DxHgIIdeal.τ).loc Cert.DxHgIIdeal.main_arg0)
      ∧ m' ((c.tc : Thread Cert.DxHgIRefIdeal.nD Cert.DxHgIRefIdeal.τ).loc Cert.DxHgIRefIdeal.main_arg1) = m ((c.tc : Thread Cert.DxHgIIdeal.nD Cert.DxHgIIdeal.τ).loc Cert.DxHgIIdeal.main_arg1)
      ∧ m' ((c.tc : Thread Cert.DxHgIRefIdeal.nD Cert.DxHgIRefIdeal.τ).loc Cert.DxHgIRefIdeal.main_arg2) = m ((c.tc : Thread Cert.DxHgIIdeal.nD Cert.DxHgIIdeal.τ).loc Cert.DxHgIIdeal.main_arg2)) →
    ∃ (v0 : (c : Dev Cert.DxHgIIdeal.nD) → Buf (Elt Ideal) ((c.tc : Thread Cert.DxHgIIdeal.nD Cert.DxHgIIdeal.τ).loc Cert.DxHgIIdeal.main_v0)),
      θ_run (Cert.DxHgIIdeal.defs (F := Ideal)) (onTc (τ := Cert.DxHgIIdeal.τ) (Cert.DxHgIIdeal.main (F := Ideal))) ⟨m, fun _ => 0, g⟩ (fun r => ∀ c : Dev Cert.DxHgIIdeal.nD,
          r.2.mem ((c.tc : Thread Cert.DxHgIIdeal.nD Cert.DxHgIIdeal.τ).loc Cert.DxHgIIdeal.main_v0) = v0 c
          ∧ r.2.mem ((c.tc : Thread Cert.DxHgIIdeal.nD Cert.DxHgIIdeal.τ).loc Cert.DxHgIIdeal.main_arg0) = m ((c.tc : Thread Cert.DxHgIIdeal.nD Cert.DxHgIIdeal.τ).loc Cert.DxHgIIdeal.main_arg0)
          ∧ r.2.mem ((c.tc : Thread Cert.DxHgIIdeal.nD Cert.DxHgIIdeal.τ).loc Cert.DxHgIIdeal.main_arg1) = m ((c.tc : Thread Cert.DxHgIIdeal.nD Cert.DxHgIIdeal.τ).loc Cert.DxHgIIdeal.main_arg1)
          ∧ r.2.mem ((c.tc : Thread Cert.DxHgIIdeal.nD Cert.DxHgIIdeal.τ).loc Cert.DxHgIIdeal.main_arg2) = m ((c.tc : Thread Cert.DxHgIIdeal.nD Cert.DxHgIIdeal.τ).loc Cert.DxHgIIdeal.main_arg2))
      ∧ θ_run (Cert.DxHgIRefIdeal.defs (F := Ideal)) (onTc (τ := Cert.DxHgIRefIdeal.τ) (Cert.DxHgIRefIdeal.main (F := Ideal))) ⟨m', fun _ => 0, g'⟩ (fun r => ∀ c : Dev Cert.DxHgIRefIdeal.nD,
          r.2.mem ((c.tc : Thread Cert.DxHgIRefIdeal.nD Cert.DxHgIRefIdeal.τ).loc Cert.DxHgIRefIdeal.main_v7) = v0 c
          ∧ r.2.mem ((c.tc : Thread Cert.DxHgIRefIdeal.nD Cert.DxHgIRefIdeal.τ).loc Cert.DxHgIRefIdeal.main_arg0) = m' ((c.tc : Thread Cert.DxHgIRefIdeal.nD Cert.DxHgIRefIdeal.τ).loc Cert.DxHgIRefIdeal.main_arg0)
          ∧ r.2.mem ((c.tc : Thread Cert.DxHgIRefIdeal.nD Cert.DxHgIRefIdeal.τ).loc Cert.DxHgIRefIdeal.main_arg1) = m' ((c.tc : Thread Cert.DxHgIRefIdeal.nD Cert.DxHgIRefIdeal.τ).loc Cert.DxHgIRefIdeal.main_arg1)
          ∧ r.2.mem ((c.tc : Thread Cert.DxHgIRefIdeal.nD Cert.DxHgIRefIdeal.τ).loc Cert.DxHgIRefIdeal.main_arg2) = m' ((c.tc : Thread Cert.DxHgIRefIdeal.nD Cert.DxHgIRefIdeal.τ).loc Cert.DxHgIRefIdeal.main_arg2))

def preserves_DxHgG_DxHgGIdeal : Prop :=
  True

def algebraic_DxHgGIdeal_DxHgGRefIdeal [hDxHgGIdeal : Cert.DxHgGIdeal.Facts] [hDxHgGRefIdeal : Cert.DxHgGRefIdeal.Facts] : Prop :=
  ∀ (m : (ℓ : Loc Cert.DxHgGIdeal.nD Cert.DxHgGIdeal.τ Cert.DxHgGIdeal.sig) → Buf (Elt Ideal) ℓ) (g : Dev Cert.DxHgGIdeal.nD → PrngReg)
    (m' : (ℓ : Loc Cert.DxHgGRefIdeal.nD Cert.DxHgGRefIdeal.τ Cert.DxHgGRefIdeal.sig) → Buf (Elt Ideal) ℓ) (g' : Dev Cert.DxHgGRefIdeal.nD → PrngReg), Pre_DxHgGIdeal m →
    (∀ c : Dev Cert.DxHgGIdeal.nD,
      m' ((c.tc : Thread Cert.DxHgGRefIdeal.nD Cert.DxHgGRefIdeal.τ).loc Cert.DxHgGRefIdeal.main_arg0) = m ((c.tc : Thread Cert.DxHgGIdeal.nD Cert.DxHgGIdeal.τ).loc Cert.DxHgGIdeal.main_arg0)
      ∧ m' ((c.tc : Thread Cert.DxHgGRefIdeal.nD Cert.DxHgGRefIdeal.τ).loc Cert.DxHgGRefIdeal.main_arg1) = m ((c.tc : Thread Cert.DxHgGIdeal.nD Cert.DxHgGIdeal.τ).loc Cert.DxHgGIdeal.main_arg1)
      ∧ m' ((c.tc : Thread Cert.DxHgGRefIdeal.nD Cert.DxHgGRefIdeal.τ).loc Cert.DxHgGRefIdeal.main_arg2) = m ((c.tc : Thread Cert.DxHgGIdeal.nD Cert.DxHgGIdeal.τ).loc Cert.DxHgGIdeal.main_arg2)) →
    ∃ (v0 : (c : Dev Cert.DxHgGIdeal.nD) → Buf (Elt Ideal) ((c.tc : Thread Cert.DxHgGIdeal.nD Cert.DxHgGIdeal.τ).loc Cert.DxHgGIdeal.main_v0)),
      θ_run (Cert.DxHgGIdeal.defs (F := Ideal)) (onTc (τ := Cert.DxHgGIdeal.τ) (Cert.DxHgGIdeal.main (F := Ideal))) ⟨m, fun _ => 0, g⟩ (fun r => ∀ c : Dev Cert.DxHgGIdeal.nD,
          r.2.mem ((c.tc : Thread Cert.DxHgGIdeal.nD Cert.DxHgGIdeal.τ).loc Cert.DxHgGIdeal.main_v0) = v0 c
          ∧ r.2.mem ((c.tc : Thread Cert.DxHgGIdeal.nD Cert.DxHgGIdeal.τ).loc Cert.DxHgGIdeal.main_arg0) = m ((c.tc : Thread Cert.DxHgGIdeal.nD Cert.DxHgGIdeal.τ).loc Cert.DxHgGIdeal.main_arg0)
          ∧ r.2.mem ((c.tc : Thread Cert.DxHgGIdeal.nD Cert.DxHgGIdeal.τ).loc Cert.DxHgGIdeal.main_arg1) = m ((c.tc : Thread Cert.DxHgGIdeal.nD Cert.DxHgGIdeal.τ).loc Cert.DxHgGIdeal.main_arg1)
          ∧ r.2.mem ((c.tc : Thread Cert.DxHgGIdeal.nD Cert.DxHgGIdeal.τ).loc Cert.DxHgGIdeal.main_arg2) = m ((c.tc : Thread Cert.DxHgGIdeal.nD Cert.DxHgGIdeal.τ).loc Cert.DxHgGIdeal.main_arg2))
      ∧ θ_run (Cert.DxHgGRefIdeal.defs (F := Ideal)) (onTc (τ := Cert.DxHgGRefIdeal.τ) (Cert.DxHgGRefIdeal.main (F := Ideal))) ⟨m', fun _ => 0, g'⟩ (fun r => ∀ c : Dev Cert.DxHgGRefIdeal.nD,
          r.2.mem ((c.tc : Thread Cert.DxHgGRefIdeal.nD Cert.DxHgGRefIdeal.τ).loc Cert.DxHgGRefIdeal.main_v7) = v0 c
          ∧ r.2.mem ((c.tc : Thread Cert.DxHgGRefIdeal.nD Cert.DxHgGRefIdeal.τ).loc Cert.DxHgGRefIdeal.main_arg0) = m' ((c.tc : Thread Cert.DxHgGRefIdeal.nD Cert.DxHgGRefIdeal.τ).loc Cert.DxHgGRefIdeal.main_arg0)
          ∧ r.2.mem ((c.tc : Thread Cert.DxHgGRefIdeal.nD Cert.DxHgGRefIdeal.τ).loc Cert.DxHgGRefIdeal.main_arg1) = m' ((c.tc : Thread Cert.DxHgGRefIdeal.nD Cert.DxHgGRefIdeal.τ).loc Cert.DxHgGRefIdeal.main_arg1)
          ∧ r.2.mem ((c.tc : Thread Cert.DxHgGRefIdeal.nD Cert.DxHgGRefIdeal.τ).loc Cert.DxHgGRefIdeal.main_arg2) = m' ((c.tc : Thread Cert.DxHgGRefIdeal.nD Cert.DxHgGRefIdeal.τ).loc Cert.DxHgGRefIdeal.main_arg2))

def preserves_MemK_MemKIdeal : Prop :=
  True

def algebraic_MemKIdeal_MemKRefIdeal [hMemKIdeal : Cert.MemKIdeal.Facts] [hMemKRefIdeal : Cert.MemKRefIdeal.Facts] : Prop :=
  ∀ (m : (ℓ : Loc Cert.MemKIdeal.nD Cert.MemKIdeal.τ Cert.MemKIdeal.sig) → Buf (Elt Ideal) ℓ) (g : Dev Cert.MemKIdeal.nD → PrngReg)
    (m' : (ℓ : Loc Cert.MemKRefIdeal.nD Cert.MemKRefIdeal.τ Cert.MemKRefIdeal.sig) → Buf (Elt Ideal) ℓ) (g' : Dev Cert.MemKRefIdeal.nD → PrngReg), Pre_MemKIdeal m →
    (∀ c : Dev Cert.MemKIdeal.nD,
      m' ((c.tc : Thread Cert.MemKRefIdeal.nD Cert.MemKRefIdeal.τ).loc Cert.MemKRefIdeal.main_arg0) = m ((c.tc : Thread Cert.MemKIdeal.nD Cert.MemKIdeal.τ).loc Cert.MemKIdeal.main_arg0)
      ∧ m' ((c.tc : Thread Cert.MemKRefIdeal.nD Cert.MemKRefIdeal.τ).loc Cert.MemKRefIdeal.main_arg1) = m ((c.tc : Thread Cert.MemKIdeal.nD Cert.MemKIdeal.τ).loc Cert.MemKIdeal.main_arg1)) →
    ∃ (v0 : (c : Dev Cert.MemKIdeal.nD) → Buf (Elt Ideal) ((c.tc : Thread Cert.MemKIdeal.nD Cert.MemKIdeal.τ).loc Cert.MemKIdeal.main_v0)),
      θ_run (Cert.MemKIdeal.defs (F := Ideal)) (onTc (τ := Cert.MemKIdeal.τ) (Cert.MemKIdeal.main (F := Ideal))) ⟨m, fun _ => 0, g⟩ (fun r => ∀ c : Dev Cert.MemKIdeal.nD,
          r.2.mem ((c.tc : Thread Cert.MemKIdeal.nD Cert.MemKIdeal.τ).loc Cert.MemKIdeal.main_v0) = v0 c
          ∧ r.2.mem ((c.tc : Thread Cert.MemKIdeal.nD Cert.MemKIdeal.τ).loc Cert.MemKIdeal.main_arg0) = m ((c.tc : Thread Cert.MemKIdeal.nD Cert.MemKIdeal.τ).loc Cert.MemKIdeal.main_arg0)
          ∧ r.2.mem ((c.tc : Thread Cert.MemKIdeal.nD Cert.MemKIdeal.τ).loc Cert.MemKIdeal.main_arg1) = m ((c.tc : Thread Cert.MemKIdeal.nD Cert.MemKIdeal.τ).loc Cert.MemKIdeal.main_arg1))
      ∧ θ_run (Cert.MemKRefIdeal.defs (F := Ideal)) (onTc (τ := Cert.MemKRefIdeal.τ) (Cert.MemKRefIdeal.main (F := Ideal))) ⟨m', fun _ => 0, g'⟩ (fun r => ∀ c : Dev Cert.MemKRefIdeal.nD,
          r.2.mem ((c.tc : Thread Cert.MemKRefIdeal.nD Cert.MemKRefIdeal.τ).loc Cert.MemKRefIdeal.main_v8) = v0 c
          ∧ r.2.mem ((c.tc : Thread Cert.MemKRefIdeal.nD Cert.MemKRefIdeal.τ).loc Cert.MemKRefIdeal.main_arg0) = m' ((c.tc : Thread Cert.MemKRefIdeal.nD Cert.MemKRefIdeal.τ).loc Cert.MemKRefIdeal.main_arg0)
          ∧ r.2.mem ((c.tc : Thread Cert.MemKRefIdeal.nD Cert.MemKRefIdeal.τ).loc Cert.MemKRefIdeal.main_arg1) = m' ((c.tc : Thread Cert.MemKRefIdeal.nD Cert.MemKRefIdeal.τ).loc Cert.MemKRefIdeal.main_arg1))

def preserves_MemV_MemVIdeal : Prop :=
  True

def algebraic_MemVIdeal_MemVRefIdeal [hMemVIdeal : Cert.MemVIdeal.Facts] [hMemVRefIdeal : Cert.MemVRefIdeal.Facts] : Prop :=
  ∀ (m : (ℓ : Loc Cert.MemVIdeal.nD Cert.MemVIdeal.τ Cert.MemVIdeal.sig) → Buf (Elt Ideal) ℓ) (g : Dev Cert.MemVIdeal.nD → PrngReg)
    (m' : (ℓ : Loc Cert.MemVRefIdeal.nD Cert.MemVRefIdeal.τ Cert.MemVRefIdeal.sig) → Buf (Elt Ideal) ℓ) (g' : Dev Cert.MemVRefIdeal.nD → PrngReg), Pre_MemVIdeal m →
    (∀ c : Dev Cert.MemVIdeal.nD,
      m' ((c.tc : Thread Cert.MemVRefIdeal.nD Cert.MemVRefIdeal.τ).loc Cert.MemVRefIdeal.main_arg0) = m ((c.tc : Thread Cert.MemVIdeal.nD Cert.MemVIdeal.τ).loc Cert.MemVIdeal.main_arg0)
      ∧ m' ((c.tc : Thread Cert.MemVRefIdeal.nD Cert.MemVRefIdeal.τ).loc Cert.MemVRefIdeal.main_arg1) = m ((c.tc : Thread Cert.MemVIdeal.nD Cert.MemVIdeal.τ).loc Cert.MemVIdeal.main_arg1)) →
    ∃ (v0 : (c : Dev Cert.MemVIdeal.nD) → Buf (Elt Ideal) ((c.tc : Thread Cert.MemVIdeal.nD Cert.MemVIdeal.τ).loc Cert.MemVIdeal.main_v0)),
      θ_run (Cert.MemVIdeal.defs (F := Ideal)) (onTc (τ := Cert.MemVIdeal.τ) (Cert.MemVIdeal.main (F := Ideal))) ⟨m, fun _ => 0, g⟩ (fun r => ∀ c : Dev Cert.MemVIdeal.nD,
          r.2.mem ((c.tc : Thread Cert.MemVIdeal.nD Cert.MemVIdeal.τ).loc Cert.MemVIdeal.main_v0) = v0 c
          ∧ r.2.mem ((c.tc : Thread Cert.MemVIdeal.nD Cert.MemVIdeal.τ).loc Cert.MemVIdeal.main_arg0) = m ((c.tc : Thread Cert.MemVIdeal.nD Cert.MemVIdeal.τ).loc Cert.MemVIdeal.main_arg0)
          ∧ r.2.mem ((c.tc : Thread Cert.MemVIdeal.nD Cert.MemVIdeal.τ).loc Cert.MemVIdeal.main_arg1) = m ((c.tc : Thread Cert.MemVIdeal.nD Cert.MemVIdeal.τ).loc Cert.MemVIdeal.main_arg1))
      ∧ θ_run (Cert.MemVRefIdeal.defs (F := Ideal)) (onTc (τ := Cert.MemVRefIdeal.τ) (Cert.MemVRefIdeal.main (F := Ideal))) ⟨m', fun _ => 0, g'⟩ (fun r => ∀ c : Dev Cert.MemVRefIdeal.nD,
          r.2.mem ((c.tc : Thread Cert.MemVRefIdeal.nD Cert.MemVRefIdeal.τ).loc Cert.MemVRefIdeal.main_v8) = v0 c
          ∧ r.2.mem ((c.tc : Thread Cert.MemVRefIdeal.nD Cert.MemVRefIdeal.τ).loc Cert.MemVRefIdeal.main_arg0) = m' ((c.tc : Thread Cert.MemVRefIdeal.nD Cert.MemVRefIdeal.τ).loc Cert.MemVRefIdeal.main_arg0)
          ∧ r.2.mem ((c.tc : Thread Cert.MemVRefIdeal.nD Cert.MemVRefIdeal.τ).loc Cert.MemVRefIdeal.main_arg1) = m' ((c.tc : Thread Cert.MemVRefIdeal.nD Cert.MemVRefIdeal.τ).loc Cert.MemVRefIdeal.main_arg1))

def preserves_DwMemK_DwMemKIdeal : Prop :=
  True

def algebraic_DwMemKIdeal_DwMemKRefIdeal [hDwMemKIdeal : Cert.DwMemKIdeal.Facts] [hDwMemKRefIdeal : Cert.DwMemKRefIdeal.Facts] : Prop :=
  ∀ (m : (ℓ : Loc Cert.DwMemKIdeal.nD Cert.DwMemKIdeal.τ Cert.DwMemKIdeal.sig) → Buf (Elt Ideal) ℓ) (g : Dev Cert.DwMemKIdeal.nD → PrngReg)
    (m' : (ℓ : Loc Cert.DwMemKRefIdeal.nD Cert.DwMemKRefIdeal.τ Cert.DwMemKRefIdeal.sig) → Buf (Elt Ideal) ℓ) (g' : Dev Cert.DwMemKRefIdeal.nD → PrngReg), Pre_DwMemKIdeal m →
    (∀ c : Dev Cert.DwMemKIdeal.nD,
      m' ((c.tc : Thread Cert.DwMemKRefIdeal.nD Cert.DwMemKRefIdeal.τ).loc Cert.DwMemKRefIdeal.main_arg0) = m ((c.tc : Thread Cert.DwMemKIdeal.nD Cert.DwMemKIdeal.τ).loc Cert.DwMemKIdeal.main_arg0)
      ∧ m' ((c.tc : Thread Cert.DwMemKRefIdeal.nD Cert.DwMemKRefIdeal.τ).loc Cert.DwMemKRefIdeal.main_arg1) = m ((c.tc : Thread Cert.DwMemKIdeal.nD Cert.DwMemKIdeal.τ).loc Cert.DwMemKIdeal.main_arg1)) →
    ∃ (v0 : (c : Dev Cert.DwMemKIdeal.nD) → Buf (Elt Ideal) ((c.tc : Thread Cert.DwMemKIdeal.nD Cert.DwMemKIdeal.τ).loc Cert.DwMemKIdeal.main_v1)),
      θ_run (Cert.DwMemKIdeal.defs (F := Ideal)) (onTc (τ := Cert.DwMemKIdeal.τ) (Cert.DwMemKIdeal.main (F := Ideal))) ⟨m, fun _ => 0, g⟩ (fun r => ∀ c : Dev Cert.DwMemKIdeal.nD,
          r.2.mem ((c.tc : Thread Cert.DwMemKIdeal.nD Cert.DwMemKIdeal.τ).loc Cert.DwMemKIdeal.main_v1) = v0 c
          ∧ r.2.mem ((c.tc : Thread Cert.DwMemKIdeal.nD Cert.DwMemKIdeal.τ).loc Cert.DwMemKIdeal.main_arg0) = m ((c.tc : Thread Cert.DwMemKIdeal.nD Cert.DwMemKIdeal.τ).loc Cert.DwMemKIdeal.main_arg0)
          ∧ r.2.mem ((c.tc : Thread Cert.DwMemKIdeal.nD Cert.DwMemKIdeal.τ).loc Cert.DwMemKIdeal.main_arg1) = m ((c.tc : Thread Cert.DwMemKIdeal.nD Cert.DwMemKIdeal.τ).loc Cert.DwMemKIdeal.main_arg1))
      ∧ θ_run (Cert.DwMemKRefIdeal.defs (F := Ideal)) (onTc (τ := Cert.DwMemKRefIdeal.τ) (Cert.DwMemKRefIdeal.main (F := Ideal))) ⟨m', fun _ => 0, g'⟩ (fun r => ∀ c : Dev Cert.DwMemKRefIdeal.nD,
          r.2.mem ((c.tc : Thread Cert.DwMemKRefIdeal.nD Cert.DwMemKRefIdeal.τ).loc Cert.DwMemKRefIdeal.main_v11) = v0 c
          ∧ r.2.mem ((c.tc : Thread Cert.DwMemKRefIdeal.nD Cert.DwMemKRefIdeal.τ).loc Cert.DwMemKRefIdeal.main_arg0) = m' ((c.tc : Thread Cert.DwMemKRefIdeal.nD Cert.DwMemKRefIdeal.τ).loc Cert.DwMemKRefIdeal.main_arg0)
          ∧ r.2.mem ((c.tc : Thread Cert.DwMemKRefIdeal.nD Cert.DwMemKRefIdeal.τ).loc Cert.DwMemKRefIdeal.main_arg1) = m' ((c.tc : Thread Cert.DwMemKRefIdeal.nD Cert.DwMemKRefIdeal.τ).loc Cert.DwMemKRefIdeal.main_arg1))

def preserves_DwMemV_DwMemVIdeal : Prop :=
  True

def algebraic_DwMemVIdeal_DwMemVRefIdeal [hDwMemVIdeal : Cert.DwMemVIdeal.Facts] [hDwMemVRefIdeal : Cert.DwMemVRefIdeal.Facts] : Prop :=
  ∀ (m : (ℓ : Loc Cert.DwMemVIdeal.nD Cert.DwMemVIdeal.τ Cert.DwMemVIdeal.sig) → Buf (Elt Ideal) ℓ) (g : Dev Cert.DwMemVIdeal.nD → PrngReg)
    (m' : (ℓ : Loc Cert.DwMemVRefIdeal.nD Cert.DwMemVRefIdeal.τ Cert.DwMemVRefIdeal.sig) → Buf (Elt Ideal) ℓ) (g' : Dev Cert.DwMemVRefIdeal.nD → PrngReg), Pre_DwMemVIdeal m →
    (∀ c : Dev Cert.DwMemVIdeal.nD,
      m' ((c.tc : Thread Cert.DwMemVRefIdeal.nD Cert.DwMemVRefIdeal.τ).loc Cert.DwMemVRefIdeal.main_arg0) = m ((c.tc : Thread Cert.DwMemVIdeal.nD Cert.DwMemVIdeal.τ).loc Cert.DwMemVIdeal.main_arg0)
      ∧ m' ((c.tc : Thread Cert.DwMemVRefIdeal.nD Cert.DwMemVRefIdeal.τ).loc Cert.DwMemVRefIdeal.main_arg1) = m ((c.tc : Thread Cert.DwMemVIdeal.nD Cert.DwMemVIdeal.τ).loc Cert.DwMemVIdeal.main_arg1)
      ∧ m' ((c.tc : Thread Cert.DwMemVRefIdeal.nD Cert.DwMemVRefIdeal.τ).loc Cert.DwMemVRefIdeal.main_arg2) = m ((c.tc : Thread Cert.DwMemVIdeal.nD Cert.DwMemVIdeal.τ).loc Cert.DwMemVIdeal.main_arg2)) →
    ∃ (v0 : (c : Dev Cert.DwMemVIdeal.nD) → Buf (Elt Ideal) ((c.tc : Thread Cert.DwMemVIdeal.nD Cert.DwMemVIdeal.τ).loc Cert.DwMemVIdeal.main_v0)),
      θ_run (Cert.DwMemVIdeal.defs (F := Ideal)) (onTc (τ := Cert.DwMemVIdeal.τ) (Cert.DwMemVIdeal.main (F := Ideal))) ⟨m, fun _ => 0, g⟩ (fun r => ∀ c : Dev Cert.DwMemVIdeal.nD,
          r.2.mem ((c.tc : Thread Cert.DwMemVIdeal.nD Cert.DwMemVIdeal.τ).loc Cert.DwMemVIdeal.main_v0) = v0 c
          ∧ r.2.mem ((c.tc : Thread Cert.DwMemVIdeal.nD Cert.DwMemVIdeal.τ).loc Cert.DwMemVIdeal.main_arg0) = m ((c.tc : Thread Cert.DwMemVIdeal.nD Cert.DwMemVIdeal.τ).loc Cert.DwMemVIdeal.main_arg0)
          ∧ r.2.mem ((c.tc : Thread Cert.DwMemVIdeal.nD Cert.DwMemVIdeal.τ).loc Cert.DwMemVIdeal.main_arg1) = m ((c.tc : Thread Cert.DwMemVIdeal.nD Cert.DwMemVIdeal.τ).loc Cert.DwMemVIdeal.main_arg1)
          ∧ r.2.mem ((c.tc : Thread Cert.DwMemVIdeal.nD Cert.DwMemVIdeal.τ).loc Cert.DwMemVIdeal.main_arg2) = m ((c.tc : Thread Cert.DwMemVIdeal.nD Cert.DwMemVIdeal.τ).loc Cert.DwMemVIdeal.main_arg2))
      ∧ θ_run (Cert.DwMemVRefIdeal.defs (F := Ideal)) (onTc (τ := Cert.DwMemVRefIdeal.τ) (Cert.DwMemVRefIdeal.main (F := Ideal))) ⟨m', fun _ => 0, g'⟩ (fun r => ∀ c : Dev Cert.DwMemVRefIdeal.nD,
          r.2.mem ((c.tc : Thread Cert.DwMemVRefIdeal.nD Cert.DwMemVRefIdeal.τ).loc Cert.DwMemVRefIdeal.main_v13) = v0 c
          ∧ r.2.mem ((c.tc : Thread Cert.DwMemVRefIdeal.nD Cert.DwMemVRefIdeal.τ).loc Cert.DwMemVRefIdeal.main_arg0) = m' ((c.tc : Thread Cert.DwMemVRefIdeal.nD Cert.DwMemVRefIdeal.τ).loc Cert.DwMemVRefIdeal.main_arg0)
          ∧ r.2.mem ((c.tc : Thread Cert.DwMemVRefIdeal.nD Cert.DwMemVRefIdeal.τ).loc Cert.DwMemVRefIdeal.main_arg1) = m' ((c.tc : Thread Cert.DwMemVRefIdeal.nD Cert.DwMemVRefIdeal.τ).loc Cert.DwMemVRefIdeal.main_arg1)
          ∧ r.2.mem ((c.tc : Thread Cert.DwMemVRefIdeal.nD Cert.DwMemVRefIdeal.τ).loc Cert.DwMemVRefIdeal.main_arg2) = m' ((c.tc : Thread Cert.DwMemVRefIdeal.nD Cert.DwMemVRefIdeal.τ).loc Cert.DwMemVRefIdeal.main_arg2))

def preserves_DxMemK_DxMemKIdeal : Prop :=
  True

def algebraic_DxMemKIdeal_DxMemKRefIdeal [hDxMemKIdeal : Cert.DxMemKIdeal.Facts] [hDxMemKRefIdeal : Cert.DxMemKRefIdeal.Facts] : Prop :=
  ∀ (m : (ℓ : Loc Cert.DxMemKIdeal.nD Cert.DxMemKIdeal.τ Cert.DxMemKIdeal.sig) → Buf (Elt Ideal) ℓ) (g : Dev Cert.DxMemKIdeal.nD → PrngReg)
    (m' : (ℓ : Loc Cert.DxMemKRefIdeal.nD Cert.DxMemKRefIdeal.τ Cert.DxMemKRefIdeal.sig) → Buf (Elt Ideal) ℓ) (g' : Dev Cert.DxMemKRefIdeal.nD → PrngReg), Pre_DxMemKIdeal m →
    (∀ c : Dev Cert.DxMemKIdeal.nD,
      m' ((c.tc : Thread Cert.DxMemKRefIdeal.nD Cert.DxMemKRefIdeal.τ).loc Cert.DxMemKRefIdeal.main_arg0) = m ((c.tc : Thread Cert.DxMemKIdeal.nD Cert.DxMemKIdeal.τ).loc Cert.DxMemKIdeal.main_arg0)
      ∧ m' ((c.tc : Thread Cert.DxMemKRefIdeal.nD Cert.DxMemKRefIdeal.τ).loc Cert.DxMemKRefIdeal.main_arg1) = m ((c.tc : Thread Cert.DxMemKIdeal.nD Cert.DxMemKIdeal.τ).loc Cert.DxMemKIdeal.main_arg1)) →
    ∃ (v0 : (c : Dev Cert.DxMemKIdeal.nD) → Buf (Elt Ideal) ((c.tc : Thread Cert.DxMemKIdeal.nD Cert.DxMemKIdeal.τ).loc Cert.DxMemKIdeal.main_v0)),
      θ_run (Cert.DxMemKIdeal.defs (F := Ideal)) (onTc (τ := Cert.DxMemKIdeal.τ) (Cert.DxMemKIdeal.main (F := Ideal))) ⟨m, fun _ => 0, g⟩ (fun r => ∀ c : Dev Cert.DxMemKIdeal.nD,
          r.2.mem ((c.tc : Thread Cert.DxMemKIdeal.nD Cert.DxMemKIdeal.τ).loc Cert.DxMemKIdeal.main_v0) = v0 c
          ∧ r.2.mem ((c.tc : Thread Cert.DxMemKIdeal.nD Cert.DxMemKIdeal.τ).loc Cert.DxMemKIdeal.main_arg0) = m ((c.tc : Thread Cert.DxMemKIdeal.nD Cert.DxMemKIdeal.τ).loc Cert.DxMemKIdeal.main_arg0)
          ∧ r.2.mem ((c.tc : Thread Cert.DxMemKIdeal.nD Cert.DxMemKIdeal.τ).loc Cert.DxMemKIdeal.main_arg1) = m ((c.tc : Thread Cert.DxMemKIdeal.nD Cert.DxMemKIdeal.τ).loc Cert.DxMemKIdeal.main_arg1))
      ∧ θ_run (Cert.DxMemKRefIdeal.defs (F := Ideal)) (onTc (τ := Cert.DxMemKRefIdeal.τ) (Cert.DxMemKRefIdeal.main (F := Ideal))) ⟨m', fun _ => 0, g'⟩ (fun r => ∀ c : Dev Cert.DxMemKRefIdeal.nD,
          r.2.mem ((c.tc : Thread Cert.DxMemKRefIdeal.nD Cert.DxMemKRefIdeal.τ).loc Cert.DxMemKRefIdeal.main_v9) = v0 c
          ∧ r.2.mem ((c.tc : Thread Cert.DxMemKRefIdeal.nD Cert.DxMemKRefIdeal.τ).loc Cert.DxMemKRefIdeal.main_arg0) = m' ((c.tc : Thread Cert.DxMemKRefIdeal.nD Cert.DxMemKRefIdeal.τ).loc Cert.DxMemKRefIdeal.main_arg0)
          ∧ r.2.mem ((c.tc : Thread Cert.DxMemKRefIdeal.nD Cert.DxMemKRefIdeal.τ).loc Cert.DxMemKRefIdeal.main_arg1) = m' ((c.tc : Thread Cert.DxMemKRefIdeal.nD Cert.DxMemKRefIdeal.τ).loc Cert.DxMemKRefIdeal.main_arg1))

def preserves_DxMemV_DxMemVIdeal : Prop :=
  True

def algebraic_DxMemVIdeal_DxMemVRefIdeal [hDxMemVIdeal : Cert.DxMemVIdeal.Facts] [hDxMemVRefIdeal : Cert.DxMemVRefIdeal.Facts] : Prop :=
  ∀ (m : (ℓ : Loc Cert.DxMemVIdeal.nD Cert.DxMemVIdeal.τ Cert.DxMemVIdeal.sig) → Buf (Elt Ideal) ℓ) (g : Dev Cert.DxMemVIdeal.nD → PrngReg)
    (m' : (ℓ : Loc Cert.DxMemVRefIdeal.nD Cert.DxMemVRefIdeal.τ Cert.DxMemVRefIdeal.sig) → Buf (Elt Ideal) ℓ) (g' : Dev Cert.DxMemVRefIdeal.nD → PrngReg), Pre_DxMemVIdeal m →
    (∀ c : Dev Cert.DxMemVIdeal.nD,
      m' ((c.tc : Thread Cert.DxMemVRefIdeal.nD Cert.DxMemVRefIdeal.τ).loc Cert.DxMemVRefIdeal.main_arg0) = m ((c.tc : Thread Cert.DxMemVIdeal.nD Cert.DxMemVIdeal.τ).loc Cert.DxMemVIdeal.main_arg0)
      ∧ m' ((c.tc : Thread Cert.DxMemVRefIdeal.nD Cert.DxMemVRefIdeal.τ).loc Cert.DxMemVRefIdeal.main_arg1) = m ((c.tc : Thread Cert.DxMemVIdeal.nD Cert.DxMemVIdeal.τ).loc Cert.DxMemVIdeal.main_arg1)
      ∧ m' ((c.tc : Thread Cert.DxMemVRefIdeal.nD Cert.DxMemVRefIdeal.τ).loc Cert.DxMemVRefIdeal.main_arg2) = m ((c.tc : Thread Cert.DxMemVIdeal.nD Cert.DxMemVIdeal.τ).loc Cert.DxMemVIdeal.main_arg2)) →
    ∃ (v0 : (c : Dev Cert.DxMemVIdeal.nD) → Buf (Elt Ideal) ((c.tc : Thread Cert.DxMemVIdeal.nD Cert.DxMemVIdeal.τ).loc Cert.DxMemVIdeal.main_v0)),
      θ_run (Cert.DxMemVIdeal.defs (F := Ideal)) (onTc (τ := Cert.DxMemVIdeal.τ) (Cert.DxMemVIdeal.main (F := Ideal))) ⟨m, fun _ => 0, g⟩ (fun r => ∀ c : Dev Cert.DxMemVIdeal.nD,
          r.2.mem ((c.tc : Thread Cert.DxMemVIdeal.nD Cert.DxMemVIdeal.τ).loc Cert.DxMemVIdeal.main_v0) = v0 c
          ∧ r.2.mem ((c.tc : Thread Cert.DxMemVIdeal.nD Cert.DxMemVIdeal.τ).loc Cert.DxMemVIdeal.main_arg0) = m ((c.tc : Thread Cert.DxMemVIdeal.nD Cert.DxMemVIdeal.τ).loc Cert.DxMemVIdeal.main_arg0)
          ∧ r.2.mem ((c.tc : Thread Cert.DxMemVIdeal.nD Cert.DxMemVIdeal.τ).loc Cert.DxMemVIdeal.main_arg1) = m ((c.tc : Thread Cert.DxMemVIdeal.nD Cert.DxMemVIdeal.τ).loc Cert.DxMemVIdeal.main_arg1)
          ∧ r.2.mem ((c.tc : Thread Cert.DxMemVIdeal.nD Cert.DxMemVIdeal.τ).loc Cert.DxMemVIdeal.main_arg2) = m ((c.tc : Thread Cert.DxMemVIdeal.nD Cert.DxMemVIdeal.τ).loc Cert.DxMemVIdeal.main_arg2))
      ∧ θ_run (Cert.DxMemVRefIdeal.defs (F := Ideal)) (onTc (τ := Cert.DxMemVRefIdeal.τ) (Cert.DxMemVRefIdeal.main (F := Ideal))) ⟨m', fun _ => 0, g'⟩ (fun r => ∀ c : Dev Cert.DxMemVRefIdeal.nD,
          r.2.mem ((c.tc : Thread Cert.DxMemVRefIdeal.nD Cert.DxMemVRefIdeal.τ).loc Cert.DxMemVRefIdeal.main_v10) = v0 c
          ∧ r.2.mem ((c.tc : Thread Cert.DxMemVRefIdeal.nD Cert.DxMemVRefIdeal.τ).loc Cert.DxMemVRefIdeal.main_arg0) = m' ((c.tc : Thread Cert.DxMemVRefIdeal.nD Cert.DxMemVRefIdeal.τ).loc Cert.DxMemVRefIdeal.main_arg0)
          ∧ r.2.mem ((c.tc : Thread Cert.DxMemVRefIdeal.nD Cert.DxMemVRefIdeal.τ).loc Cert.DxMemVRefIdeal.main_arg1) = m' ((c.tc : Thread Cert.DxMemVRefIdeal.nD Cert.DxMemVRefIdeal.τ).loc Cert.DxMemVRefIdeal.main_arg1)
          ∧ r.2.mem ((c.tc : Thread Cert.DxMemVRefIdeal.nD Cert.DxMemVRefIdeal.τ).loc Cert.DxMemVRefIdeal.main_arg2) = m' ((c.tc : Thread Cert.DxMemVRefIdeal.nD Cert.DxMemVRefIdeal.τ).loc Cert.DxMemVRefIdeal.main_arg2))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v23) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)
      ∧ m' ((c.tc : Thread Cert.GluFwdRefIdeal.nD Cert.GluFwdRefIdeal.τ).loc Cert.GluFwdRefIdeal.main_arg2) = m ((c.tc : Thread Cert.GluFwdIdeal.nD Cert.GluFwdIdeal.τ).loc Cert.GluFwdIdeal.main_arg2)
      ∧ m' ((c.tc : Thread Cert.GluFwdRefIdeal.nD Cert.GluFwdRefIdeal.τ).loc Cert.GluFwdRefIdeal.main_arg3) = m ((c.tc : Thread Cert.GluFwdIdeal.nD Cert.GluFwdIdeal.τ).loc Cert.GluFwdIdeal.main_arg3)) →
    ∃ (v0 : (c : Dev Cert.GluFwdIdeal.nD) → Buf (Elt Ideal) ((c.tc : Thread Cert.GluFwdIdeal.nD Cert.GluFwdIdeal.τ).loc Cert.GluFwdIdeal.main_v0)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v0) = v0 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
          ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v35) = v0 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1)
          ∧ r.2.mem ((c.tc : Thread Cert.GluFwdRefIdeal.nD Cert.GluFwdRefIdeal.τ).loc Cert.GluFwdRefIdeal.main_arg2) = m' ((c.tc : Thread Cert.GluFwdRefIdeal.nD Cert.GluFwdRefIdeal.τ).loc Cert.GluFwdRefIdeal.main_arg2)
          ∧ r.2.mem ((c.tc : Thread Cert.GluFwdRefIdeal.nD Cert.GluFwdRefIdeal.τ).loc Cert.GluFwdRefIdeal.main_arg3) = m' ((c.tc : Thread Cert.GluFwdRefIdeal.nD Cert.GluFwdRefIdeal.τ).loc Cert.GluFwdRefIdeal.main_arg3))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v12) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v39) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_GlaFwd_GlaFwdIdeal : Prop :=
  True

def algebraic_GlaFwdIdeal_GlaFwdRefIdeal [hGlaFwdIdeal : Cert.GlaFwdIdeal.Facts] [hGlaFwdRefIdeal : Cert.GlaFwdRefIdeal.Facts] : Prop :=
  ∀ (m : (ℓ : Loc Cert.GlaFwdIdeal.nD Cert.GlaFwdIdeal.τ Cert.GlaFwdIdeal.sig) → Buf (Elt Ideal) ℓ) (g : Dev Cert.GlaFwdIdeal.nD → PrngReg)
    (m' : (ℓ : Loc Cert.GlaFwdRefIdeal.nD Cert.GlaFwdRefIdeal.τ Cert.GlaFwdRefIdeal.sig) → Buf (Elt Ideal) ℓ) (g' : Dev Cert.GlaFwdRefIdeal.nD → PrngReg), Pre_GlaFwdIdeal m →
    (∀ c : Dev Cert.GlaFwdIdeal.nD,
      m' ((c.tc : Thread Cert.GlaFwdRefIdeal.nD Cert.GlaFwdRefIdeal.τ).loc Cert.GlaFwdRefIdeal.main_arg0) = m ((c.tc : Thread Cert.GlaFwdIdeal.nD Cert.GlaFwdIdeal.τ).loc Cert.GlaFwdIdeal.main_arg0)
      ∧ m' ((c.tc : Thread Cert.GlaFwdRefIdeal.nD Cert.GlaFwdRefIdeal.τ).loc Cert.GlaFwdRefIdeal.main_arg1) = m ((c.tc : Thread Cert.GlaFwdIdeal.nD Cert.GlaFwdIdeal.τ).loc Cert.GlaFwdIdeal.main_arg1)
      ∧ m' ((c.tc : Thread Cert.GlaFwdRefIdeal.nD Cert.GlaFwdRefIdeal.τ).loc Cert.GlaFwdRefIdeal.main_arg2) = m ((c.tc : Thread Cert.GlaFwdIdeal.nD Cert.GlaFwdIdeal.τ).loc Cert.GlaFwdIdeal.main_arg2)
      ∧ m' ((c.tc : Thread Cert.GlaFwdRefIdeal.nD Cert.GlaFwdRefIdeal.τ).loc Cert.GlaFwdRefIdeal.main_arg3) = m ((c.tc : Thread Cert.GlaFwdIdeal.nD Cert.GlaFwdIdeal.τ).loc Cert.GlaFwdIdeal.main_arg3)
      ∧ m' ((c.tc : Thread Cert.GlaFwdRefIdeal.nD Cert.GlaFwdRefIdeal.τ).loc Cert.GlaFwdRefIdeal.main_arg4) = m ((c.tc : Thread Cert.GlaFwdIdeal.nD Cert.GlaFwdIdeal.τ).loc Cert.GlaFwdIdeal.main_arg4)
      ∧ m' ((c.tc : Thread Cert.GlaFwdRefIdeal.nD Cert.GlaFwdRefIdeal.τ).loc Cert.GlaFwdRefIdeal.main_arg5) = m ((c.tc : Thread Cert.GlaFwdIdeal.nD Cert.GlaFwdIdeal.τ).loc Cert.GlaFwdIdeal.main_arg5)) →
    ∃ (v0 : (c : Dev Cert.GlaFwdIdeal.nD) → Buf (Elt Ideal) ((c.tc : Thread Cert.GlaFwdIdeal.nD Cert.GlaFwdIdeal.τ).loc Cert.GlaFwdIdeal.main_v0_0)),
      θ_run (Cert.GlaFwdIdeal.defs (F := Ideal)) (onTc (τ := Cert.GlaFwdIdeal.τ) (Cert.GlaFwdIdeal.main (F := Ideal))) ⟨m, fun _ => 0, g⟩ (fun r => ∀ c : Dev Cert.GlaFwdIdeal.nD,
          r.2.mem ((c.tc : Thread Cert.GlaFwdIdeal.nD Cert.GlaFwdIdeal.τ).loc Cert.GlaFwdIdeal.main_v0_0) = v0 c
          ∧ r.2.mem ((c.tc : Thread Cert.GlaFwdIdeal.nD Cert.GlaFwdIdeal.τ).loc Cert.GlaFwdIdeal.main_arg0) = m ((c.tc : Thread Cert.GlaFwdIdeal.nD Cert.GlaFwdIdeal.τ).loc Cert.GlaFwdIdeal.main_arg0)
          ∧ r.2.mem ((c.tc : Thread Cert.GlaFwdIdeal.nD Cert.GlaFwdIdeal.τ).loc Cert.GlaFwdIdeal.main_arg1) = m ((c.tc : Thread Cert.GlaFwdIdeal.nD Cert.GlaFwdIdeal.τ).loc Cert.GlaFwdIdeal.main_arg1)
          ∧ r.2.mem ((c.tc : Thread Cert.GlaFwdIdeal.nD Cert.GlaFwdIdeal.τ).loc Cert.GlaFwdIdeal.main_arg2) = m ((c.tc : Thread Cert.GlaFwdIdeal.nD Cert.GlaFwdIdeal.τ).loc Cert.GlaFwdIdeal.main_arg2)
          ∧ r.2.mem ((c.tc : Thread Cert.GlaFwdIdeal.nD Cert.GlaFwdIdeal.τ).loc Cert.GlaFwdIdeal.main_arg3) = m ((c.tc : Thread Cert.GlaFwdIdeal.nD Cert.GlaFwdIdeal.τ).loc Cert.GlaFwdIdeal.main_arg3)
          ∧ r.2.mem ((c.tc : Thread Cert.GlaFwdIdeal.nD Cert.GlaFwdIdeal.τ).loc Cert.GlaFwdIdeal.main_arg4) = m ((c.tc : Thread Cert.GlaFwdIdeal.nD Cert.GlaFwdIdeal.τ).loc Cert.GlaFwdIdeal.main_arg4)
          ∧ r.2.mem ((c.tc : Thread Cert.GlaFwdIdeal.nD Cert.GlaFwdIdeal.τ).loc Cert.GlaFwdIdeal.main_arg5) = m ((c.tc : Thread Cert.GlaFwdIdeal.nD Cert.GlaFwdIdeal.τ).loc Cert.GlaFwdIdeal.main_arg5))
      ∧ θ_run (Cert.GlaFwdRefIdeal.defs (F := Ideal)) (onTc (τ := Cert.GlaFwdRefIdeal.τ) (Cert.GlaFwdRefIdeal.main (F := Ideal))) ⟨m', fun _ => 0, g'⟩ (fun r => ∀ c : Dev Cert.GlaFwdRefIdeal.nD,
          r.2.mem ((c.tc : Thread Cert.GlaFwdRefIdeal.nD Cert.GlaFwdRefIdeal.τ).loc Cert.GlaFwdRefIdeal.main_v72) = v0 c
          ∧ r.2.mem ((c.tc : Thread Cert.GlaFwdRefIdeal.nD Cert.GlaFwdRefIdeal.τ).loc Cert.GlaFwdRefIdeal.main_arg0) = m' ((c.tc : Thread Cert.GlaFwdRefIdeal.nD Cert.GlaFwdRefIdeal.τ).loc Cert.GlaFwdRefIdeal.main_arg0)
          ∧ r.2.mem ((c.tc : Thread Cert.GlaFwdRefIdeal.nD Cert.GlaFwdRefIdeal.τ).loc Cert.GlaFwdRefIdeal.main_arg1) = m' ((c.tc : Thread Cert.GlaFwdRefIdeal.nD Cert.GlaFwdRefIdeal.τ).loc Cert.GlaFwdRefIdeal.main_arg1)
          ∧ r.2.mem ((c.tc : Thread Cert.GlaFwdRefIdeal.nD Cert.GlaFwdRefIdeal.τ).loc Cert.GlaFwdRefIdeal.main_arg2) = m' ((c.tc : Thread Cert.GlaFwdRefIdeal.nD Cert.GlaFwdRefIdeal.τ).loc Cert.GlaFwdRefIdeal.main_arg2)
          ∧ r.2.mem ((c.tc : Thread Cert.GlaFwdRefIdeal.nD Cert.GlaFwdRefIdeal.τ).loc Cert.GlaFwdRefIdeal.main_arg3) = m' ((c.tc : Thread Cert.GlaFwdRefIdeal.nD Cert.GlaFwdRefIdeal.τ).loc Cert.GlaFwdRefIdeal.main_arg3)
          ∧ r.2.mem ((c.tc : Thread Cert.GlaFwdRefIdeal.nD Cert.GlaFwdRefIdeal.τ).loc Cert.GlaFwdRefIdeal.main_arg4) = m' ((c.tc : Thread Cert.GlaFwdRefIdeal.nD Cert.GlaFwdRefIdeal.τ).loc Cert.GlaFwdRefIdeal.main_arg4)
          ∧ r.2.mem ((c.tc : Thread Cert.GlaFwdRefIdeal.nD Cert.GlaFwdRefIdeal.τ).loc Cert.GlaFwdRefIdeal.main_arg5) = m' ((c.tc : Thread Cert.GlaFwdRefIdeal.nD Cert.GlaFwdRefIdeal.τ).loc Cert.GlaFwdRefIdeal.main_arg5))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v0) = v0 c
          ∧ r.2.mem ((c.tc : Thread Cert.AdamUpRefIdeal.nD Cert.AdamUpRefIdeal.τ).loc Cert.AdamUpRefIdeal.main_v24) = v1 c
          ∧ r.2.mem ((c.tc : Thread Cert.AdamUpRefIdeal.nD Cert.AdamUpRefIdeal.τ).loc Cert.AdamUpRefIdeal.main_v5) = v2 c
          ∧ r.2.mem ((c.tc : Thread Cert.AdamUpRefIdeal.nD Cert.AdamUpRefIdeal.τ).loc Cert.AdamUpRefIdeal.main_v11) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_HeadBwd_HeadBwdIdeal : Prop :=
  True

def algebraic_HeadBwdIdeal_HeadBwdRefIdeal [hHeadBwdIdeal : Cert.HeadBwdIdeal.Facts] [hHeadBwdRefIdeal : Cert.HeadBwdRefIdeal.Facts] : Prop :=
  ∀ (m : (ℓ : Loc Cert.HeadBwdIdeal.nD Cert.HeadBwdIdeal.τ Cert.HeadBwdIdeal.sig) → Buf (Elt Ideal) ℓ) (g : Dev Cert.HeadBwdIdeal.nD → PrngReg)
    (m' : (ℓ : Loc Cert.HeadBwdRefIdeal.nD Cert.HeadBwdRefIdeal.τ Cert.HeadBwdRefIdeal.sig) → Buf (Elt Ideal) ℓ) (g' : Dev Cert.HeadBwdRefIdeal.nD → PrngReg), Pre_HeadBwdIdeal m →
    (∀ c : Dev Cert.HeadBwdIdeal.nD,
      m' ((c.tc : Thread Cert.HeadBwdRefIdeal.nD Cert.HeadBwdRefIdeal.τ).loc Cert.HeadBwdRefIdeal.main_arg0) = m ((c.tc : Thread Cert.HeadBwdIdeal.nD Cert.HeadBwdIdeal.τ).loc Cert.HeadBwdIdeal.main_arg0)
      ∧ m' ((c.tc : Thread Cert.HeadBwdRefIdeal.nD Cert.HeadBwdRefIdeal.τ).loc Cert.HeadBwdRefIdeal.main_arg1) = m ((c.tc : Thread Cert.HeadBwdIdeal.nD Cert.HeadBwdIdeal.τ).loc Cert.HeadBwdIdeal.main_arg1)
      ∧ m' ((c.tc : Thread Cert.HeadBwdRefIdeal.nD Cert.HeadBwdRefIdeal.τ).loc Cert.HeadBwdRefIdeal.main_arg2) = m ((c.tc : Thread Cert.HeadBwdIdeal.nD Cert.HeadBwdIdeal.τ).loc Cert.HeadBwdIdeal.main_arg2)) →
    ∃ (v0 : (c : Dev Cert.HeadBwdIdeal.nD) → Buf (Elt Ideal) ((c.tc : Thread Cert.HeadBwdIdeal.nD Cert.HeadBwdIdeal.τ).loc Cert.HeadBwdIdeal.main_v0_0)) (v1 : (c : Dev Cert.HeadBwdIdeal.nD) → Buf (Elt Ideal) ((c.tc : Thread Cert.HeadBwdIdeal.nD Cert.HeadBwdIdeal.τ).loc Cert.HeadBwdIdeal.main_v0_1)) (v2 : (c : Dev Cert.HeadBwdIdeal.nD) → Buf (Elt Ideal) ((c.tc : Thread Cert.HeadBwdIdeal.nD Cert.HeadBwdIdeal.τ).loc Cert.HeadBwdIdeal.main_v0_2)),
      θ_run (Cert.HeadBwdIdeal.defs (F := Ideal)) (onTc (τ := Cert.HeadBwdIdeal.τ) (Cert.HeadBwdIdeal.main (F := Ideal))) ⟨m, fun _ => 0, g⟩ (fun r => ∀ c : Dev Cert.HeadBwdIdeal.nD,
          r.2.mem ((c.tc : Thread Cert.HeadBwdIdeal.nD Cert.HeadBwdIdeal.τ).loc Cert.HeadBwdIdeal.main_v0_0) = v0 c
          ∧ r.2.mem ((c.tc : Thread Cert.HeadBwdIdeal.nD Cert.HeadBwdIdeal.τ).loc Cert.HeadBwdIdeal.main_v0_1) = v1 c
          ∧ r.2.mem ((c.tc : Thread Cert.HeadBwdIdeal.nD Cert.HeadBwdIdeal.τ).loc Cert.HeadBwdIdeal.main_v0_2) = v2 c
          ∧ r.2.mem ((c.tc : Thread Cert.HeadBwdIdeal.nD Cert.HeadBwdIdeal.τ).loc Cert.HeadBwdIdeal.main_arg0) = m ((c.tc : Thread Cert.HeadBwdIdeal.nD Cert.HeadBwdIdeal.τ).loc Cert.HeadBwdIdeal.main_arg0)
          ∧ r.2.mem ((c.tc : Thread Cert.HeadBwdIdeal.nD Cert.HeadBwdIdeal.τ).loc Cert.HeadBwdIdeal.main_arg1) = m ((c.tc : Thread Cert.HeadBwdIdeal.nD Cert.HeadBwdIdeal.τ).loc Cert.HeadBwdIdeal.main_arg1)
          ∧ r.2.mem ((c.tc : Thread Cert.HeadBwdIdeal.nD Cert.HeadBwdIdeal.τ).loc Cert.HeadBwdIdeal.main_arg2) = m ((c.tc : Thread Cert.HeadBwdIdeal.nD Cert.HeadBwdIdeal.τ).loc Cert.HeadBwdIdeal.main_arg2))
      ∧ θ_run (Cert.HeadBwdRefIdeal.defs (F := Ideal)) (onTc (τ := Cert.HeadBwdRefIdeal.τ) (Cert.HeadBwdRefIdeal.main (F := Ideal))) ⟨m', fun _ => 0, g'⟩ (fun r => ∀ c : Dev Cert.HeadBwdRefIdeal.nD,
          r.2.mem ((c.tc : Thread Cert.HeadBwdRefIdeal.nD Cert.HeadBwdRefIdeal.τ).loc Cert.HeadBwdRefIdeal.main_v48) = v0 c
          ∧ r.2.mem ((c.tc : Thread Cert.HeadBwdRefIdeal.nD Cert.HeadBwdRefIdeal.τ).loc Cert.HeadBwdRefIdeal.main_v49) = v1 c
          ∧ r.2.mem ((c.tc : Thread Cert.HeadBwdRefIdeal.nD Cert.HeadBwdRefIdeal.τ).loc Cert.HeadBwdRefIdeal.main_v32) = v2 c
          ∧ r.2.mem ((c.tc : Thread Cert.HeadBwdRefIdeal.nD Cert.HeadBwdRefIdeal.τ).loc Cert.HeadBwdRefIdeal.main_arg0) = m' ((c.tc : Thread Cert.HeadBwdRefIdeal.nD Cert.HeadBwdRefIdeal.τ).loc Cert.HeadBwdRefIdeal.main_arg0)
          ∧ r.2.mem ((c.tc : Thread Cert.HeadBwdRefIdeal.nD Cert.HeadBwdRefIdeal.τ).loc Cert.HeadBwdRefIdeal.main_arg1) = m' ((c.tc : Thread Cert.HeadBwdRefIdeal.nD Cert.HeadBwdRefIdeal.τ).loc Cert.HeadBwdRefIdeal.main_arg1)
          ∧ r.2.mem ((c.tc : Thread Cert.HeadBwdRefIdeal.nD Cert.HeadBwdRefIdeal.τ).loc Cert.HeadBwdRefIdeal.main_arg2) = m' ((c.tc : Thread Cert.HeadBwdRefIdeal.nD Cert.HeadBwdRefIdeal.τ).loc Cert.HeadBwdRefIdeal.main_arg2))

def Claim : Prop :=
  ∃ (hAttnBwd : Cert.AttnBwd.Facts) (hAttnBwdIdeal : Cert.AttnBwdIdeal.Facts) (hAttnBwdRefIdeal : Cert.AttnBwdRefIdeal.Facts) (hDwDown : Cert.DwDown.Facts) (hDwDownIdeal : Cert.DwDownIdeal.Facts) (hDwDownRefIdeal : Cert.DwDownRefIdeal.Facts) (hDxDown : Cert.DxDown.Facts) (hDxDownIdeal : Cert.DxDownIdeal.Facts) (hDxDownRefIdeal : Cert.DxDownRefIdeal.Facts) (hDxGate : Cert.DxGate.Facts) (hDxGateIdeal : Cert.DxGateIdeal.Facts) (hDxGateRefIdeal : Cert.DxGateRefIdeal.Facts) (hDxUp : Cert.DxUp.Facts) (hDxUpIdeal : Cert.DxUpIdeal.Facts) (hDxUpRefIdeal : Cert.DxUpRefIdeal.Facts) (hGluBwd : Cert.GluBwd.Facts) (hGluBwdIdeal : Cert.GluBwdIdeal.Facts) (hGluBwdRefIdeal : Cert.GluBwdRefIdeal.Facts) (hNormBwd : Cert.NormBwd.Facts) (hNormBwdIdeal : Cert.NormBwdIdeal.Facts) (hNormBwdRefIdeal : Cert.NormBwdRefIdeal.Facts) (hConvBwd : Cert.ConvBwd.Facts) (hConvBwdIdeal : Cert.ConvBwdIdeal.Facts) (hConvBwdRefIdeal : Cert.ConvBwdRefIdeal.Facts) (hFfnDown : Cert.FfnDown.Facts) (hFfnDownIdeal : Cert.FfnDownIdeal.Facts) (hFfnDownRefIdeal : Cert.FfnDownRefIdeal.Facts) (hFfnGate : Cert.FfnGate.Facts) (hFfnGateIdeal : Cert.FfnGateIdeal.Facts) (hFfnGateRefIdeal : Cert.FfnGateRefIdeal.Facts) (hFfnUp : Cert.FfnUp.Facts) (hFfnUpIdeal : Cert.FfnUpIdeal.Facts) (hFfnUpRefIdeal : Cert.FfnUpRefIdeal.Facts) (hProjIn : Cert.ProjIn.Facts) (hProjInIdeal : Cert.ProjInIdeal.Facts) (hProjInRefIdeal : Cert.ProjInRefIdeal.Facts) (hDwIn : Cert.DwIn.Facts) (hDwInIdeal : Cert.DwInIdeal.Facts) (hDwInRefIdeal : Cert.DwInRefIdeal.Facts) (hDxIn : Cert.DxIn.Facts) (hDxInIdeal : Cert.DxInIdeal.Facts) (hDxInRefIdeal : Cert.DxInRefIdeal.Facts) (hDxInNext : Cert.DxInNext.Facts) (hDxInNextIdeal : Cert.DxInNextIdeal.Facts) (hDxInNextRefIdeal : Cert.DxInNextRefIdeal.Facts) (hProjOut : Cert.ProjOut.Facts) (hProjOutIdeal : Cert.ProjOutIdeal.Facts) (hProjOutRefIdeal : Cert.ProjOutRefIdeal.Facts) (hDwOut : Cert.DwOut.Facts) (hDwOutIdeal : Cert.DwOutIdeal.Facts) (hDwOutRefIdeal : Cert.DwOutRefIdeal.Facts) (hDxOut : Cert.DxOut.Facts) (hDxOutIdeal : Cert.DxOutIdeal.Facts) (hDxOutRefIdeal : Cert.DxOutRefIdeal.Facts) (hSqIn : Cert.SqIn.Facts) (hSqInIdeal : Cert.SqInIdeal.Facts) (hSqInRefIdeal : Cert.SqInRefIdeal.Facts) (hSqDwIn : Cert.SqDwIn.Facts) (hSqDwInIdeal : Cert.SqDwInIdeal.Facts) (hSqDwInRefIdeal : Cert.SqDwInRefIdeal.Facts) (hSqDxIn : Cert.SqDxIn.Facts) (hSqDxInIdeal : Cert.SqDxInIdeal.Facts) (hSqDxInRefIdeal : Cert.SqDxInRefIdeal.Facts) (hSqDxInNext : Cert.SqDxInNext.Facts) (hSqDxInNextIdeal : Cert.SqDxInNextIdeal.Facts) (hSqDxInNextRefIdeal : Cert.SqDxInNextRefIdeal.Facts) (hSqQuery : Cert.SqQuery.Facts) (hSqQueryIdeal : Cert.SqQueryIdeal.Facts) (hSqQueryRefIdeal : Cert.SqQueryRefIdeal.Facts) (hSqOut : Cert.SqOut.Facts) (hSqOutIdeal : Cert.SqOutIdeal.Facts) (hSqOutRefIdeal : Cert.SqOutRefIdeal.Facts) (hSqDwOut : Cert.SqDwOut.Facts) (hSqDwOutIdeal : Cert.SqDwOutIdeal.Facts) (hSqDwOutRefIdeal : Cert.SqDwOutRefIdeal.Facts) (hSqDxOut : Cert.SqDxOut.Facts) (hSqDxOutIdeal : Cert.SqDxOutIdeal.Facts) (hSqDxOutRefIdeal : Cert.SqDxOutRefIdeal.Facts) (hDwGate : Cert.DwGate.Facts) (hDwGateIdeal : Cert.DwGateIdeal.Facts) (hDwGateRefIdeal : Cert.DwGateRefIdeal.Facts) (hDwUp : Cert.DwUp.Facts) (hDwUpIdeal : Cert.DwUpIdeal.Facts) (hDwUpRefIdeal : Cert.DwUpRefIdeal.Facts) (hHgQ : Cert.HgQ.Facts) (hHgQIdeal : Cert.HgQIdeal.Facts) (hHgQRefIdeal : Cert.HgQRefIdeal.Facts) (hHgF : Cert.HgF.Facts) (hHgFIdeal : Cert.HgFIdeal.Facts) (hHgFRefIdeal : Cert.HgFRefIdeal.Facts) (hHgI : Cert.HgI.Facts) (hHgIIdeal : Cert.HgIIdeal.Facts) (hHgIRefIdeal : Cert.HgIRefIdeal.Facts) (hHgG : Cert.HgG.Facts) (hHgGIdeal : Cert.HgGIdeal.Facts) (hHgGRefIdeal : Cert.HgGRefIdeal.Facts) (hDwHgQ : Cert.DwHgQ.Facts) (hDwHgQIdeal : Cert.DwHgQIdeal.Facts) (hDwHgQRefIdeal : Cert.DwHgQRefIdeal.Facts) (hDwHgF : Cert.DwHgF.Facts) (hDwHgFIdeal : Cert.DwHgFIdeal.Facts) (hDwHgFRefIdeal : Cert.DwHgFRefIdeal.Facts) (hDwHgI : Cert.DwHgI.Facts) (hDwHgIIdeal : Cert.DwHgIIdeal.Facts) (hDwHgIRefIdeal : Cert.DwHgIRefIdeal.Facts) (hDwHgG : Cert.DwHgG.Facts) (hDwHgGIdeal : Cert.DwHgGIdeal.Facts) (hDwHgGRefIdeal : Cert.DwHgGRefIdeal.Facts) (hDxHgQ : Cert.DxHgQ.Facts) (hDxHgQIdeal : Cert.DxHgQIdeal.Facts) (hDxHgQRefIdeal : Cert.DxHgQRefIdeal.Facts) (hDxHgF : Cert.DxHgF.Facts) (hDxHgFIdeal : Cert.DxHgFIdeal.Facts) (hDxHgFRefIdeal : Cert.DxHgFRefIdeal.Facts) (hDxHgI : Cert.DxHgI.Facts) (hDxHgIIdeal : Cert.DxHgIIdeal.Facts) (hDxHgIRefIdeal : Cert.DxHgIRefIdeal.Facts) (hDxHgG : Cert.DxHgG.Facts) (hDxHgGIdeal : Cert.DxHgGIdeal.Facts) (hDxHgGRefIdeal : Cert.DxHgGRefIdeal.Facts) (hMemK : Cert.MemK.Facts) (hMemKIdeal : Cert.MemKIdeal.Facts) (hMemKRefIdeal : Cert.MemKRefIdeal.Facts) (hMemV : Cert.MemV.Facts) (hMemVIdeal : Cert.MemVIdeal.Facts) (hMemVRefIdeal : Cert.MemVRefIdeal.Facts) (hDwMemK : Cert.DwMemK.Facts) (hDwMemKIdeal : Cert.DwMemKIdeal.Facts) (hDwMemKRefIdeal : Cert.DwMemKRefIdeal.Facts) (hDwMemV : Cert.DwMemV.Facts) (hDwMemVIdeal : Cert.DwMemVIdeal.Facts) (hDwMemVRefIdeal : Cert.DwMemVRefIdeal.Facts) (hDxMemK : Cert.DxMemK.Facts) (hDxMemKIdeal : Cert.DxMemKIdeal.Facts) (hDxMemKRefIdeal : Cert.DxMemKRefIdeal.Facts) (hDxMemV : Cert.DxMemV.Facts) (hDxMemVIdeal : Cert.DxMemVIdeal.Facts) (hDxMemVRefIdeal : Cert.DxMemVRefIdeal.Facts) (hAttnFwd : Cert.AttnFwd.Facts) (hAttnFwdIdeal : Cert.AttnFwdIdeal.Facts) (hAttnFwdRefIdeal : Cert.AttnFwdRefIdeal.Facts) (hGluFwd : Cert.GluFwd.Facts) (hGluFwdIdeal : Cert.GluFwdIdeal.Facts) (hGluFwdRefIdeal : Cert.GluFwdRefIdeal.Facts) (hNormFwd : Cert.NormFwd.Facts) (hNormFwdIdeal : Cert.NormFwdIdeal.Facts) (hNormFwdRefIdeal : Cert.NormFwdRefIdeal.Facts) (hConvFwd : Cert.ConvFwd.Facts) (hConvFwdIdeal : Cert.ConvFwdIdeal.Facts) (hConvFwdRefIdeal : Cert.ConvFwdRefIdeal.Facts) (hGlaFwd : Cert.GlaFwd.Facts) (hGlaFwdIdeal : Cert.GlaFwdIdeal.Facts) (hGlaFwdRefIdeal : Cert.GlaFwdRefIdeal.Facts) (hAdamUp : Cert.AdamUp.Facts) (hAdamUpIdeal : Cert.AdamUpIdeal.Facts) (hAdamUpRefIdeal : Cert.AdamUpRefIdeal.Facts) (hHeadBwd : Cert.HeadBwd.Facts) (hHeadBwdIdeal : Cert.HeadBwdIdeal.Facts) (hHeadBwdRefIdeal : Cert.HeadBwdRefIdeal.Facts),
    quiescent_AttnBwd (hAttnBwd := hAttnBwd)
    ∧ quiescent_AttnBwdIdeal (hAttnBwdIdeal := hAttnBwdIdeal)
    ∧ quiescent_AttnBwdRefIdeal (hAttnBwdRefIdeal := hAttnBwdRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DxDown (hDxDown := hDxDown)
    ∧ quiescent_DxDownIdeal (hDxDownIdeal := hDxDownIdeal)
    ∧ quiescent_DxDownRefIdeal (hDxDownRefIdeal := hDxDownRefIdeal)
    ∧ quiescent_DxGate (hDxGate := hDxGate)
    ∧ quiescent_DxGateIdeal (hDxGateIdeal := hDxGateIdeal)
    ∧ quiescent_DxGateRefIdeal (hDxGateRefIdeal := hDxGateRefIdeal)
    ∧ quiescent_DxUp (hDxUp := hDxUp)
    ∧ quiescent_DxUpIdeal (hDxUpIdeal := hDxUpIdeal)
    ∧ quiescent_DxUpRefIdeal (hDxUpRefIdeal := hDxUpRefIdeal)
    ∧ quiescent_GluBwd (hGluBwd := hGluBwd)
    ∧ quiescent_GluBwdIdeal (hGluBwdIdeal := hGluBwdIdeal)
    ∧ quiescent_GluBwdRefIdeal (hGluBwdRefIdeal := hGluBwdRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnGate (hFfnGate := hFfnGate)
    ∧ quiescent_FfnGateIdeal (hFfnGateIdeal := hFfnGateIdeal)
    ∧ quiescent_FfnGateRefIdeal (hFfnGateRefIdeal := hFfnGateRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DxIn (hDxIn := hDxIn)
    ∧ quiescent_DxInIdeal (hDxInIdeal := hDxInIdeal)
    ∧ quiescent_DxInRefIdeal (hDxInRefIdeal := hDxInRefIdeal)
    ∧ quiescent_DxInNext (hDxInNext := hDxInNext)
    ∧ quiescent_DxInNextIdeal (hDxInNextIdeal := hDxInNextIdeal)
    ∧ quiescent_DxInNextRefIdeal (hDxInNextRefIdeal := hDxInNextRefIdeal)
    ∧ quiescent_ProjOut (hProjOut := hProjOut)
    ∧ quiescent_ProjOutIdeal (hProjOutIdeal := hProjOutIdeal)
    ∧ quiescent_ProjOutRefIdeal (hProjOutRefIdeal := hProjOutRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DxOut (hDxOut := hDxOut)
    ∧ quiescent_DxOutIdeal (hDxOutIdeal := hDxOutIdeal)
    ∧ quiescent_DxOutRefIdeal (hDxOutRefIdeal := hDxOutRefIdeal)
    ∧ quiescent_SqIn (hSqIn := hSqIn)
    ∧ quiescent_SqInIdeal (hSqInIdeal := hSqInIdeal)
    ∧ quiescent_SqInRefIdeal (hSqInRefIdeal := hSqInRefIdeal)
    ∧ quiescent_SqDwIn (hSqDwIn := hSqDwIn)
    ∧ quiescent_SqDwInIdeal (hSqDwInIdeal := hSqDwInIdeal)
    ∧ quiescent_SqDwInRefIdeal (hSqDwInRefIdeal := hSqDwInRefIdeal)
    ∧ quiescent_SqDxIn (hSqDxIn := hSqDxIn)
    ∧ quiescent_SqDxInIdeal (hSqDxInIdeal := hSqDxInIdeal)
    ∧ quiescent_SqDxInRefIdeal (hSqDxInRefIdeal := hSqDxInRefIdeal)
    ∧ quiescent_SqDxInNext (hSqDxInNext := hSqDxInNext)
    ∧ quiescent_SqDxInNextIdeal (hSqDxInNextIdeal := hSqDxInNextIdeal)
    ∧ quiescent_SqDxInNextRefIdeal (hSqDxInNextRefIdeal := hSqDxInNextRefIdeal)
    ∧ quiescent_SqQuery (hSqQuery := hSqQuery)
    ∧ quiescent_SqQueryIdeal (hSqQueryIdeal := hSqQueryIdeal)
    ∧ quiescent_SqQueryRefIdeal (hSqQueryRefIdeal := hSqQueryRefIdeal)
    ∧ quiescent_SqOut (hSqOut := hSqOut)
    ∧ quiescent_SqOutIdeal (hSqOutIdeal := hSqOutIdeal)
    ∧ quiescent_SqOutRefIdeal (hSqOutRefIdeal := hSqOutRefIdeal)
    ∧ quiescent_SqDwOut (hSqDwOut := hSqDwOut)
    ∧ quiescent_SqDwOutIdeal (hSqDwOutIdeal := hSqDwOutIdeal)
    ∧ quiescent_SqDwOutRefIdeal (hSqDwOutRefIdeal := hSqDwOutRefIdeal)
    ∧ quiescent_SqDxOut (hSqDxOut := hSqDxOut)
    ∧ quiescent_SqDxOutIdeal (hSqDxOutIdeal := hSqDxOutIdeal)
    ∧ quiescent_SqDxOutRefIdeal (hSqDxOutRefIdeal := hSqDxOutRefIdeal)
    ∧ quiescent_DwGate (hDwGate := hDwGate)
    ∧ quiescent_DwGateIdeal (hDwGateIdeal := hDwGateIdeal)
    ∧ quiescent_DwGateRefIdeal (hDwGateRefIdeal := hDwGateRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_HgQ (hHgQ := hHgQ)
    ∧ quiescent_HgQIdeal (hHgQIdeal := hHgQIdeal)
    ∧ quiescent_HgQRefIdeal (hHgQRefIdeal := hHgQRefIdeal)
    ∧ quiescent_HgF (hHgF := hHgF)
    ∧ quiescent_HgFIdeal (hHgFIdeal := hHgFIdeal)
    ∧ quiescent_HgFRefIdeal (hHgFRefIdeal := hHgFRefIdeal)
    ∧ quiescent_HgI (hHgI := hHgI)
    ∧ quiescent_HgIIdeal (hHgIIdeal := hHgIIdeal)
    ∧ quiescent_HgIRefIdeal (hHgIRefIdeal := hHgIRefIdeal)
    ∧ quiescent_HgG (hHgG := hHgG)
    ∧ quiescent_HgGIdeal (hHgGIdeal := hHgGIdeal)
    ∧ quiescent_HgGRefIdeal (hHgGRefIdeal := hHgGRefIdeal)
    ∧ quiescent_DwHgQ (hDwHgQ := hDwHgQ)
    ∧ quiescent_DwHgQIdeal (hDwHgQIdeal := hDwHgQIdeal)
    ∧ quiescent_DwHgQRefIdeal (hDwHgQRefIdeal := hDwHgQRefIdeal)
    ∧ quiescent_DwHgF (hDwHgF := hDwHgF)
    ∧ quiescent_DwHgFIdeal (hDwHgFIdeal := hDwHgFIdeal)
    ∧ quiescent_DwHgFRefIdeal (hDwHgFRefIdeal := hDwHgFRefIdeal)
    ∧ quiescent_DwHgI (hDwHgI := hDwHgI)
    ∧ quiescent_DwHgIIdeal (hDwHgIIdeal := hDwHgIIdeal)
    ∧ quiescent_DwHgIRefIdeal (hDwHgIRefIdeal := hDwHgIRefIdeal)
    ∧ quiescent_DwHgG (hDwHgG := hDwHgG)
    ∧ quiescent_DwHgGIdeal (hDwHgGIdeal := hDwHgGIdeal)
    ∧ quiescent_DwHgGRefIdeal (hDwHgGRefIdeal := hDwHgGRefIdeal)
    ∧ quiescent_DxHgQ (hDxHgQ := hDxHgQ)
    ∧ quiescent_DxHgQIdeal (hDxHgQIdeal := hDxHgQIdeal)
    ∧ quiescent_DxHgQRefIdeal (hDxHgQRefIdeal := hDxHgQRefIdeal)
    ∧ quiescent_DxHgF (hDxHgF := hDxHgF)
    ∧ quiescent_DxHgFIdeal (hDxHgFIdeal := hDxHgFIdeal)
    ∧ quiescent_DxHgFRefIdeal (hDxHgFRefIdeal := hDxHgFRefIdeal)
    ∧ quiescent_DxHgI (hDxHgI := hDxHgI)
    ∧ quiescent_DxHgIIdeal (hDxHgIIdeal := hDxHgIIdeal)
    ∧ quiescent_DxHgIRefIdeal (hDxHgIRefIdeal := hDxHgIRefIdeal)
    ∧ quiescent_DxHgG (hDxHgG := hDxHgG)
    ∧ quiescent_DxHgGIdeal (hDxHgGIdeal := hDxHgGIdeal)
    ∧ quiescent_DxHgGRefIdeal (hDxHgGRefIdeal := hDxHgGRefIdeal)
    ∧ quiescent_MemK (hMemK := hMemK)
    ∧ quiescent_MemKIdeal (hMemKIdeal := hMemKIdeal)
    ∧ quiescent_MemKRefIdeal (hMemKRefIdeal := hMemKRefIdeal)
    ∧ quiescent_MemV (hMemV := hMemV)
    ∧ quiescent_MemVIdeal (hMemVIdeal := hMemVIdeal)
    ∧ quiescent_MemVRefIdeal (hMemVRefIdeal := hMemVRefIdeal)
    ∧ quiescent_DwMemK (hDwMemK := hDwMemK)
    ∧ quiescent_DwMemKIdeal (hDwMemKIdeal := hDwMemKIdeal)
    ∧ quiescent_DwMemKRefIdeal (hDwMemKRefIdeal := hDwMemKRefIdeal)
    ∧ quiescent_DwMemV (hDwMemV := hDwMemV)
    ∧ quiescent_DwMemVIdeal (hDwMemVIdeal := hDwMemVIdeal)
    ∧ quiescent_DwMemVRefIdeal (hDwMemVRefIdeal := hDwMemVRefIdeal)
    ∧ quiescent_DxMemK (hDxMemK := hDxMemK)
    ∧ quiescent_DxMemKIdeal (hDxMemKIdeal := hDxMemKIdeal)
    ∧ quiescent_DxMemKRefIdeal (hDxMemKRefIdeal := hDxMemKRefIdeal)
    ∧ quiescent_DxMemV (hDxMemV := hDxMemV)
    ∧ quiescent_DxMemVIdeal (hDxMemVIdeal := hDxMemVIdeal)
    ∧ quiescent_DxMemVRefIdeal (hDxMemVRefIdeal := hDxMemVRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_GlaFwd (hGlaFwd := hGlaFwd)
    ∧ quiescent_GlaFwdIdeal (hGlaFwdIdeal := hGlaFwdIdeal)
    ∧ quiescent_GlaFwdRefIdeal (hGlaFwdRefIdeal := hGlaFwdRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_HeadBwd (hHeadBwd := hHeadBwd)
    ∧ quiescent_HeadBwdIdeal (hHeadBwdIdeal := hHeadBwdIdeal)
    ∧ quiescent_HeadBwdRefIdeal (hHeadBwdRefIdeal := hHeadBwdRefIdeal)
    ∧ preserves_AttnBwd_AttnBwdIdeal
    ∧ algebraic_AttnBwdIdeal_AttnBwdRefIdeal (hAttnBwdIdeal := hAttnBwdIdeal) (hAttnBwdRefIdeal := hAttnBwdRefIdeal)
    ∧ preserves_DwDown_DwDownIdeal
    ∧ algebraic_DwDownIdeal_DwDownRefIdeal (hDwDownIdeal := hDwDownIdeal) (hDwDownRefIdeal := hDwDownRefIdeal)
    ∧ preserves_DxDown_DxDownIdeal
    ∧ algebraic_DxDownIdeal_DxDownRefIdeal (hDxDownIdeal := hDxDownIdeal) (hDxDownRefIdeal := hDxDownRefIdeal)
    ∧ preserves_DxGate_DxGateIdeal
    ∧ algebraic_DxGateIdeal_DxGateRefIdeal (hDxGateIdeal := hDxGateIdeal) (hDxGateRefIdeal := hDxGateRefIdeal)
    ∧ preserves_DxUp_DxUpIdeal
    ∧ algebraic_DxUpIdeal_DxUpRefIdeal (hDxUpIdeal := hDxUpIdeal) (hDxUpRefIdeal := hDxUpRefIdeal)
    ∧ preserves_GluBwd_GluBwdIdeal
    ∧ algebraic_GluBwdIdeal_GluBwdRefIdeal (hGluBwdIdeal := hGluBwdIdeal) (hGluBwdRefIdeal := hGluBwdRefIdeal)
    ∧ preserves_NormBwd_NormBwdIdeal
    ∧ algebraic_NormBwdIdeal_NormBwdRefIdeal (hNormBwdIdeal := hNormBwdIdeal) (hNormBwdRefIdeal := hNormBwdRefIdeal)
    ∧ preserves_ConvBwd_ConvBwdIdeal
    ∧ algebraic_ConvBwdIdeal_ConvBwdRefIdeal (hConvBwdIdeal := hConvBwdIdeal) (hConvBwdRefIdeal := hConvBwdRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnGate_FfnGateIdeal
    ∧ algebraic_FfnGateIdeal_FfnGateRefIdeal (hFfnGateIdeal := hFfnGateIdeal) (hFfnGateRefIdeal := hFfnGateRefIdeal)
    ∧ preserves_FfnUp_FfnUpIdeal
    ∧ algebraic_FfnUpIdeal_FfnUpRefIdeal (hFfnUpIdeal := hFfnUpIdeal) (hFfnUpRefIdeal := hFfnUpRefIdeal)
    ∧ preserves_ProjIn_ProjInIdeal
    ∧ algebraic_ProjInIdeal_ProjInRefIdeal (hProjInIdeal := hProjInIdeal) (hProjInRefIdeal := hProjInRefIdeal)
    ∧ preserves_DwIn_DwInIdeal
    ∧ algebraic_DwInIdeal_DwInRefIdeal (hDwInIdeal := hDwInIdeal) (hDwInRefIdeal := hDwInRefIdeal)
    ∧ preserves_DxIn_DxInIdeal
    ∧ algebraic_DxInIdeal_DxInRefIdeal (hDxInIdeal := hDxInIdeal) (hDxInRefIdeal := hDxInRefIdeal)
    ∧ preserves_DxInNext_DxInNextIdeal
    ∧ algebraic_DxInNextIdeal_DxInNextRefIdeal (hDxInNextIdeal := hDxInNextIdeal) (hDxInNextRefIdeal := hDxInNextRefIdeal)
    ∧ preserves_ProjOut_ProjOutIdeal
    ∧ algebraic_ProjOutIdeal_ProjOutRefIdeal (hProjOutIdeal := hProjOutIdeal) (hProjOutRefIdeal := hProjOutRefIdeal)
    ∧ preserves_DwOut_DwOutIdeal
    ∧ algebraic_DwOutIdeal_DwOutRefIdeal (hDwOutIdeal := hDwOutIdeal) (hDwOutRefIdeal := hDwOutRefIdeal)
    ∧ preserves_DxOut_DxOutIdeal
    ∧ algebraic_DxOutIdeal_DxOutRefIdeal (hDxOutIdeal := hDxOutIdeal) (hDxOutRefIdeal := hDxOutRefIdeal)
    ∧ preserves_SqIn_SqInIdeal
    ∧ algebraic_SqInIdeal_SqInRefIdeal (hSqInIdeal := hSqInIdeal) (hSqInRefIdeal := hSqInRefIdeal)
    ∧ preserves_SqDwIn_SqDwInIdeal
    ∧ algebraic_SqDwInIdeal_SqDwInRefIdeal (hSqDwInIdeal := hSqDwInIdeal) (hSqDwInRefIdeal := hSqDwInRefIdeal)
    ∧ preserves_SqDxIn_SqDxInIdeal
    ∧ algebraic_SqDxInIdeal_SqDxInRefIdeal (hSqDxInIdeal := hSqDxInIdeal) (hSqDxInRefIdeal := hSqDxInRefIdeal)
    ∧ preserves_SqDxInNext_SqDxInNextIdeal
    ∧ algebraic_SqDxInNextIdeal_SqDxInNextRefIdeal (hSqDxInNextIdeal := hSqDxInNextIdeal) (hSqDxInNextRefIdeal := hSqDxInNextRefIdeal)
    ∧ preserves_SqQuery_SqQueryIdeal
    ∧ algebraic_SqQueryIdeal_SqQueryRefIdeal (hSqQueryIdeal := hSqQueryIdeal) (hSqQueryRefIdeal := hSqQueryRefIdeal)
    ∧ preserves_SqOut_SqOutIdeal
    ∧ algebraic_SqOutIdeal_SqOutRefIdeal (hSqOutIdeal := hSqOutIdeal) (hSqOutRefIdeal := hSqOutRefIdeal)
    ∧ preserves_SqDwOut_SqDwOutIdeal
    ∧ algebraic_SqDwOutIdeal_SqDwOutRefIdeal (hSqDwOutIdeal := hSqDwOutIdeal) (hSqDwOutRefIdeal := hSqDwOutRefIdeal)
    ∧ preserves_SqDxOut_SqDxOutIdeal
    ∧ algebraic_SqDxOutIdeal_SqDxOutRefIdeal (hSqDxOutIdeal := hSqDxOutIdeal) (hSqDxOutRefIdeal := hSqDxOutRefIdeal)
    ∧ preserves_DwGate_DwGateIdeal
    ∧ algebraic_DwGateIdeal_DwGateRefIdeal (hDwGateIdeal := hDwGateIdeal) (hDwGateRefIdeal := hDwGateRefIdeal)
    ∧ preserves_DwUp_DwUpIdeal
    ∧ algebraic_DwUpIdeal_DwUpRefIdeal (hDwUpIdeal := hDwUpIdeal) (hDwUpRefIdeal := hDwUpRefIdeal)
    ∧ preserves_HgQ_HgQIdeal
    ∧ algebraic_HgQIdeal_HgQRefIdeal (hHgQIdeal := hHgQIdeal) (hHgQRefIdeal := hHgQRefIdeal)
    ∧ preserves_HgF_HgFIdeal
    ∧ algebraic_HgFIdeal_HgFRefIdeal (hHgFIdeal := hHgFIdeal) (hHgFRefIdeal := hHgFRefIdeal)
    ∧ preserves_HgI_HgIIdeal
    ∧ algebraic_HgIIdeal_HgIRefIdeal (hHgIIdeal := hHgIIdeal) (hHgIRefIdeal := hHgIRefIdeal)
    ∧ preserves_HgG_HgGIdeal
    ∧ algebraic_HgGIdeal_HgGRefIdeal (hHgGIdeal := hHgGIdeal) (hHgGRefIdeal := hHgGRefIdeal)
    ∧ preserves_DwHgQ_DwHgQIdeal
    ∧ algebraic_DwHgQIdeal_DwHgQRefIdeal (hDwHgQIdeal := hDwHgQIdeal) (hDwHgQRefIdeal := hDwHgQRefIdeal)
    ∧ preserves_DwHgF_DwHgFIdeal
    ∧ algebraic_DwHgFIdeal_DwHgFRefIdeal (hDwHgFIdeal := hDwHgFIdeal) (hDwHgFRefIdeal := hDwHgFRefIdeal)
    ∧ preserves_DwHgI_DwHgIIdeal
    ∧ algebraic_DwHgIIdeal_DwHgIRefIdeal (hDwHgIIdeal := hDwHgIIdeal) (hDwHgIRefIdeal := hDwHgIRefIdeal)
    ∧ preserves_DwHgG_DwHgGIdeal
    ∧ algebraic_DwHgGIdeal_DwHgGRefIdeal (hDwHgGIdeal := hDwHgGIdeal) (hDwHgGRefIdeal := hDwHgGRefIdeal)
    ∧ preserves_DxHgQ_DxHgQIdeal
    ∧ algebraic_DxHgQIdeal_DxHgQRefIdeal (hDxHgQIdeal := hDxHgQIdeal) (hDxHgQRefIdeal := hDxHgQRefIdeal)
    ∧ preserves_DxHgF_DxHgFIdeal
    ∧ algebraic_DxHgFIdeal_DxHgFRefIdeal (hDxHgFIdeal := hDxHgFIdeal) (hDxHgFRefIdeal := hDxHgFRefIdeal)
    ∧ preserves_DxHgI_DxHgIIdeal
    ∧ algebraic_DxHgIIdeal_DxHgIRefIdeal (hDxHgIIdeal := hDxHgIIdeal) (hDxHgIRefIdeal := hDxHgIRefIdeal)
    ∧ preserves_DxHgG_DxHgGIdeal
    ∧ algebraic_DxHgGIdeal_DxHgGRefIdeal (hDxHgGIdeal := hDxHgGIdeal) (hDxHgGRefIdeal := hDxHgGRefIdeal)
    ∧ preserves_MemK_MemKIdeal
    ∧ algebraic_MemKIdeal_MemKRefIdeal (hMemKIdeal := hMemKIdeal) (hMemKRefIdeal := hMemKRefIdeal)
    ∧ preserves_MemV_MemVIdeal
    ∧ algebraic_MemVIdeal_MemVRefIdeal (hMemVIdeal := hMemVIdeal) (hMemVRefIdeal := hMemVRefIdeal)
    ∧ preserves_DwMemK_DwMemKIdeal
    ∧ algebraic_DwMemKIdeal_DwMemKRefIdeal (hDwMemKIdeal := hDwMemKIdeal) (hDwMemKRefIdeal := hDwMemKRefIdeal)
    ∧ preserves_DwMemV_DwMemVIdeal
    ∧ algebraic_DwMemVIdeal_DwMemVRefIdeal (hDwMemVIdeal := hDwMemVIdeal) (hDwMemVRefIdeal := hDwMemVRefIdeal)
    ∧ preserves_DxMemK_DxMemKIdeal
    ∧ algebraic_DxMemKIdeal_DxMemKRefIdeal (hDxMemKIdeal := hDxMemKIdeal) (hDxMemKRefIdeal := hDxMemKRefIdeal)
    ∧ preserves_DxMemV_DxMemVIdeal
    ∧ algebraic_DxMemVIdeal_DxMemVRefIdeal (hDxMemVIdeal := hDxMemVIdeal) (hDxMemVRefIdeal := hDxMemVRefIdeal)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_GluFwd_GluFwdIdeal
    ∧ algebraic_GluFwdIdeal_GluFwdRefIdeal (hGluFwdIdeal := hGluFwdIdeal) (hGluFwdRefIdeal := hGluFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_GlaFwd_GlaFwdIdeal
    ∧ algebraic_GlaFwdIdeal_GlaFwdRefIdeal (hGlaFwdIdeal := hGlaFwdIdeal) (hGlaFwdRefIdeal := hGlaFwdRefIdeal)
    ∧ preserves_AdamUp_AdamUpIdeal
    ∧ algebraic_AdamUpIdeal_AdamUpRefIdeal (hAdamUpIdeal := hAdamUpIdeal) (hAdamUpRefIdeal := hAdamUpRefIdeal)
    ∧ preserves_HeadBwd_HeadBwdIdeal
    ∧ algebraic_HeadBwdIdeal_HeadBwdRefIdeal (hHeadBwdIdeal := hHeadBwdIdeal) (hHeadBwdRefIdeal := hHeadBwdRefIdeal)
-- ==== AttnBwd.lean ====
abbrev S4096x1024 : Shape := ⟨2, ![4096, 1024]⟩
abbrev S512x1024 : Shape := ⟨2, ![512, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S512x1024, .bf16⟩
  | .hbm, ⟨3, _⟩ => ⟨S4096x1024, .bf16⟩
  | .hbm, ⟨4, _⟩ => ⟨S4096x1024, .bf16⟩
  | .hbm, ⟨5, _⟩ => ⟨S512x1024, .f32⟩
  | .hbm, ⟨6, _⟩ => ⟨S512x1024, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== AttnBwdRefIdeal.lean ====
abbrev S4096x1024 : Shape := ⟨2, ![4096, 1024]⟩
abbrev S512x1024 : Shape := ⟨2, ![512, 1024]⟩
abbrev S2x2048x4x256 : Shape := ⟨4, ![2, 2048, 4, 256]⟩
abbrev S2x256x4x256 : Shape := ⟨4, ![2, 256, 4, 256]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩
abbrev S2x4x256x256 : Shape := ⟨4, ![2, 4, 256, 256]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S512x1024, .bf16⟩
  | .hbm, ⟨3, _⟩ => ⟨S4096x1024, .bf16⟩
  | .hbm, ⟨4, _⟩ => ⟨S4096x1024, .f32⟩
  | .hbm, ⟨5, _⟩ => ⟨S512x1024, .f32⟩
  | .hbm, ⟨6, _⟩ => ⟨S512x1024, .f32⟩
  | .hbm, ⟨7, _⟩ => ⟨S4096x1024, .f32⟩
  | .hbm, ⟨8, _⟩ => ⟨S2x2048x4x256, .f32⟩
  | .hbm, ⟨9, _⟩ => ⟨S2x256x4x256, .f32⟩
  | .hbm, ⟨10, _⟩ => ⟨S2x256x4x256, .f32⟩
  | .hbm, ⟨11, _⟩ => ⟨S2x4x2048x256, .f32⟩
  | .hbm, ⟨12, _⟩ => ⟨S_, .f32⟩
  | .hbm, ⟨13, _⟩ => ⟨S2x4x2048x256, .f32⟩
  | .hbm, ⟨14, _⟩ => ⟨S2x4x2048x256, .f32⟩
  | .hbm, ⟨15, _⟩ => ⟨S_, .f32⟩
  | .hbm, ⟨16, _⟩ => ⟨S2x4x2048, .f32⟩
  | .hbm, ⟨17, _⟩ => ⟨S2x4x2048x1, .f32⟩
  | .hbm, ⟨18, _⟩ => ⟨S2x4x2048x256, .f32⟩
  | .hbm, ⟨19, _⟩ => ⟨S2x4x2048x256, .i1⟩
  | .hbm, ⟨20, _⟩ => ⟨S2x4x2048x256, .f32⟩
  | .hbm, ⟨21, _⟩ => ⟨S_, .f32⟩
  | .hbm, ⟨22, _⟩ => ⟨S2x4x2048, .f32⟩
  | .hbm, ⟨23, _⟩ => ⟨S_, .f32⟩
  | .hbm, ⟨24, _⟩ => ⟨S2x4x2048, .f32⟩
  | .hbm, ⟨25, _⟩ => ⟨S2x4x2048, .f32⟩
  | .hbm, ⟨26, _⟩ => ⟨S_, .f32⟩
  | .hbm, ⟨27, _⟩ => ⟨S2x4x2048, .f32⟩
  | .hbm, ⟨28, _⟩ => ⟨S2x4x2048, .i1⟩
  | .hbm, ⟨29, _⟩ => ⟨S_, .f32⟩
  | .hbm, ⟨30, _⟩ => ⟨S2x4x2048, .f32⟩
  | .hbm, ⟨31, _⟩ => ⟨S2x4x2048, .i1⟩
  | .hbm, ⟨32, _⟩ => ⟨S_, .f32⟩
  | .hbm, ⟨33, _⟩ => ⟨S2x4x2048, .f32⟩
  | .hbm, ⟨34, _⟩ => ⟨S_, .f32⟩
  | .hbm, ⟨35, _⟩ => ⟨S2x4x2048, .f32⟩
  | .hbm, ⟨36, _⟩ => ⟨S_, .f32⟩
  | .hbm, ⟨37, _⟩ => ⟨S2x4x2048, .f32⟩
  | .hbm, ⟨38, _⟩ => ⟨S2x4x2048, .f32⟩
  | .hbm, ⟨39, _⟩ => ⟨S2x4x2048, .f32⟩
  | .hbm, ⟨40, _⟩ => ⟨S2x4x2048x1, .f32⟩
  | .hbm, ⟨41, _⟩ => ⟨S2x4x2048x256, .f32⟩
  | .hbm, ⟨42, _⟩ => ⟨S2x4x2048x256, .f32⟩
  | .hbm, ⟨43, _⟩ => ⟨S2x4x2048x256, .f32⟩
  | .hbm, ⟨44, _⟩ => ⟨S_, .f32⟩
  | .hbm, ⟨45, _⟩ => ⟨S2x4x2048, .f32⟩
  | .hbm, ⟨46, _⟩ => ⟨S2x4x2048x1, .f32⟩
  | .hbm, ⟨47, _⟩ => ⟨S2x4x2048x256, .f32⟩
  | .hbm, ⟨48, _⟩ => ⟨S2x4x2048x256, .f32⟩
  | .hbm, ⟨49, _⟩ => ⟨S2x4x2048x1, .f32⟩
  | .hbm, ⟨50, _⟩ => ⟨S_, .f32⟩
  | .hbm, ⟨51, _⟩ => ⟨S2x4x2048x1, .f32⟩
  | .hbm, ⟨52, _⟩ => ⟨S2x4x2048x1, .f32⟩
  | .hbm, ⟨53, _⟩ => ⟨S2x4x256x2048, .f32⟩
  | .hbm, ⟨54, _⟩ => ⟨S2x2048x4x256, .f32⟩
  | .hbm, ⟨55, _⟩ => ⟨S4096x1024, .f32⟩
  | .hbm, ⟨56, _⟩ => ⟨S2x2048x4x256, .f32⟩
  | .hbm, ⟨57, _⟩ => ⟨S2x4x256x2048, .f32⟩
  | .hbm, ⟨58, _⟩ => ⟨S2x4x2048x256, .f32⟩
  | .hbm, ⟨59, _⟩ => ⟨S2x4x256x256, .f32⟩
  | .hbm, ⟨60, _⟩ => ⟨S2x256x4x256, .f32⟩
  | .hbm, ⟨61, _⟩ => ⟨S2x4x2048x256, .f32⟩
  | .hbm, ⟨62, _⟩ => ⟨S2x4x2048x256, .f32⟩
  | .hbm, ⟨63, _⟩ => ⟨S2x4x2048x256, .f32⟩
  | .hbm, ⟨64, _⟩ => ⟨S_, .f32⟩
  | .hbm, ⟨65, _⟩ => ⟨S2x4x2048, .f32⟩
  | .hbm, ⟨66, _⟩ => ⟨S2x4x2048x1, .f32⟩
  | .hbm, ⟨67, _⟩ => ⟨S2x4x2048x1, .f32⟩
  | .hbm, ⟨68, _⟩ => ⟨S2x4x2048x256, .f32⟩
  | .hbm, ⟨69, _⟩ => ⟨S2x4x2048x256, .f32⟩
  | .hbm, ⟨70, _⟩ => ⟨S_, .f32⟩
  | .hbm, ⟨71, _⟩ => ⟨S2x4x2048, .f32⟩
  | .hbm, ⟨72, _⟩ => ⟨S2x4x2048x256, .f32⟩
  | .hbm, ⟨73, _⟩ => ⟨S2x4x2048x256, .f32⟩
  | .hbm, ⟨74, _⟩ => ⟨S2x4x2048x256, .f32⟩
  | .hbm, ⟨75, _⟩ => ⟨S_, .f32⟩
  | .hbm, ⟨76, _⟩ => ⟨S2x4x2048x256, .f32⟩
  | .hbm, ⟨77, _⟩ => ⟨S2x4x2048x256, .f32⟩
  | .hbm, ⟨78, _⟩ => ⟨S2x4x256x256, .f32⟩
  | .hbm, ⟨79, _⟩ => ⟨S2x256x4x256, .f32⟩
  | .hbm, ⟨80, _⟩ => ⟨S2x4x2048x256, .f32⟩
  | .hbm, ⟨81, _⟩ => ⟨S2x2048x4x256, .f32⟩
  | .hbm, ⟨82, _⟩ => ⟨S512x1024, .f32⟩
  | .hbm, ⟨83, _⟩ => ⟨S512x1024, .f32⟩
  | .hbm, ⟨84, _⟩ => ⟨S4096x1024, .f32⟩
  | .hbm, ⟨85, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== DwDown.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DxDown.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxDownRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S2816x1024, .f32⟩
  | .hbm, ⟨3, _⟩ => ⟨S_, .f32⟩
  | .hbm, ⟨4, _⟩ => ⟨S4096x2816, .f32⟩
  | .hbm, ⟨5, _⟩ => ⟨S4096x1024, .f32⟩
  | .hbm, ⟨6, _⟩ => ⟨S4096x2816, .f32⟩
  | .hbm, ⟨7, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DxGate.lean ====
abbrev S4096x2816 : Shape := ⟨2, ![4096, 2816]⟩
abbrev S4x1024x1408 : Shape := ⟨3, ![4, 1024, 1408]⟩
abbrev S4096x1024 : Shape := ⟨2, ![4096, 1024]⟩
abbrev S512x1408 : Shape := ⟨2, ![512, 1408]⟩
abbrev S1x1024x1408 : Shape := ⟨3, ![1, 1024, 1408]⟩
abbrev S512x1024 : Shape := ⟨2, ![512, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4x1024x1408, .bf16⟩
  | .hbm, ⟨2, _⟩ => ⟨S4096x1024, .f32⟩
  | .local _ .vmem, ⟨0, _⟩ => ⟨S512x1408, .bf16⟩
  | .local _ .vmem, ⟨1, _⟩ => ⟨S512x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![v0.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxGateRefIdeal.lean ====
abbrev S4096x2816 : Shape := ⟨2, ![4096, 2816]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x2816 : Shape := ⟨2, ![1024, 2816]⟩
abbrev S_ : Shape := ⟨0, ![]⟩
abbrev S4096x1024 : Shape := ⟨2, ![4096, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4x1024x1408, .bf16⟩
  | .hbm, ⟨2, _⟩ => ⟨S4x1024x1408, .f32⟩
  | .hbm, ⟨3, _⟩ => ⟨S1x1024x1408, .f32⟩
  | .hbm, ⟨4, _⟩ => ⟨S1024x1408, .f32⟩
  | .hbm, ⟨5, _⟩ => ⟨S1x1024x1408, .f32⟩
  | .hbm, ⟨6, _⟩ => ⟨S1024x1408, .f32⟩
  | .hbm, ⟨7, _⟩ => ⟨S1024x2816, .f32⟩
  | .hbm, ⟨8, _⟩ => ⟨S_, .f32⟩
  | .hbm, ⟨9, _⟩ => ⟨S4096x1024, .f32⟩
  | .hbm, ⟨10, _⟩ => ⟨S4096x2816, .f32⟩
  | .hbm, ⟨11, _⟩ => ⟨S4096x2816, .f32⟩
  | .hbm, ⟨12, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DxUp.lean ====
abbrev S4096x2816 : Shape := ⟨2, ![4096, 2816]⟩
abbrev S4x1024x1408 : Shape := ⟨3, ![4, 1024, 1408]⟩
abbrev S4096x1024 : Shape := ⟨2, ![4096, 1024]⟩
abbrev S512x1408 : Shape := ⟨2, ![512, 1408]⟩
abbrev S1x1024x1408 : Shape := ⟨3, ![1, 1024, 1408]⟩
abbrev S512x1024 : Shape := ⟨2, ![512, 1024]⟩
abbrev S1024x1408 : Shape := ⟨2, ![1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S4x1024x1408, .bf16⟩
  | .hbm, ⟨2, _⟩ => ⟨S4096x1024, .f32⟩
  | .hbm, ⟨3, _⟩ => ⟨S4096x1024, .f32⟩
  | .local _ .vmem, ⟨0, _⟩ => ⟨S512x1408, .bf16⟩
  | .local _ .vmem, ⟨1, _⟩ => ⟨S512x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![v0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxUpRefIdeal.lean ====
abbrev S4096x2816 : Shape := ⟨2, ![4096, 2816]⟩
abbrev S4x1024x1408 : Shape := ⟨3, ![4, 1024, 1408]⟩
abbrev S4096x1024 : Shape := ⟨2, ![4096, 1024]⟩
abbrev S1x1024x1408 : Shape := ⟨3, ![1, 1024, 1408]⟩
abbrev S1024x1408 : Shape := ⟨2, ![1024, 1408]⟩
abbrev S1024x2816 : Shape := ⟨2, ![1024, 2816]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4x1024x1408, .bf16⟩
  | .hbm, ⟨2, _⟩ => ⟨S4096x1024, .f32⟩
  | .hbm, ⟨3, _⟩ => ⟨S4x1024x1408, .f32⟩
  | .hbm, ⟨4, _⟩ => ⟨S1x1024x1408, .f32⟩
  | .hbm, ⟨5, _⟩ => ⟨S1024x1408, .f32⟩
  | .hbm, ⟨6, _⟩ => ⟨S1x1024x1408, .f32⟩
  | .hbm, ⟨7, _⟩ => ⟨S1024x1408, .f32⟩
  | .hbm, ⟨8, _⟩ => ⟨S1024x2816, .f32⟩
  | .hbm, ⟨9, _⟩ => ⟨S_, .f32⟩
  | .hbm, ⟨10, _⟩ => ⟨S4096x1024, .f32⟩
  | .hbm, ⟨11, _⟩ => ⟨S4096x2816, .f32⟩
  | .hbm, ⟨12, _⟩ => ⟨S4096x2816, .f32⟩
  | .hbm, ⟨13, _⟩ => ⟨S4096x1024, .f32⟩
  | .hbm, ⟨14, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== GluBwd.lean ====
abbrev S4096x2816 : Shape := ⟨2, ![4096, 2816]⟩
abbrev S3x2816 : Shape := ⟨2, ![3, 2816]⟩
abbrev S1x2816 : Shape := ⟨2, ![1, 2816]⟩
abbrev S2048x256 : Shape := ⟨2, ![2048, 256]⟩
abbrev S3x256 : Shape := ⟨2, ![3, 256]⟩
abbrev S1x256 : Shape := ⟨2, ![1, 256]⟩
abbrev S256 : Shape := ⟨1, ![256]⟩
abbrev S2x256 : Shape := ⟨2, ![2, 256]⟩

abbrev nBuf : Space → Nat
  | .hbm => 9
  | .vmem => 18
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S3x2816, .f32⟩
  | .hbm, ⟨3, _⟩ => ⟨S1x2816, .f32⟩
  | .hbm, ⟨4, _⟩ => ⟨S4096x2816, .bf16⟩
  | .hbm, ⟨5, _⟩ => ⟨S4096x2816, .bf16⟩
  | .hbm, ⟨6, _⟩ => ⟨S4096x2816, .bf16⟩
  | .hbm, ⟨7, _⟩ => ⟨S3x2816, .f32⟩
  | .hbm, ⟨8, _⟩ => ⟨S1x2816, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S3x256, .f32⟩
  | .local _ .vmem, ⟨5, _⟩ => ⟨S3x256, .f32⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S3x256, .f32⟩
  | .local _ .vmem, ⟨15, _⟩ => ⟨S3x256, .f32⟩
  | .local _ .vmem, ⟨16, _⟩ => ⟨S1x256, .f32⟩
  | .local _ .vmem, ⟨17, _⟩ => ⟨S1x256, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== GluBwdRefIdeal.lean ====
abbrev S4096x2816 : Shape := ⟨2, ![4096, 2816]⟩
abbrev S3x2816 : Shape := ⟨2, ![3, 2816]⟩
abbrev S1x2816 : Shape := ⟨2, ![1, 2816]⟩
abbrev S2x2048x2816 : Shape := ⟨3, ![2, 2048, 2816]⟩
abbrev S2816 : Shape := ⟨1, ![2816]⟩
abbrev S_ : Shape := ⟨0, ![]⟩
abbrev S2x2x2816 : Shape := ⟨3, ![2, 2, 2816]⟩
abbrev S2x2046x2816 : Shape := ⟨3, ![2, 2046, 2816]⟩
abbrev S1x1x2816 : Shape := ⟨3, ![1, 1, 2816]⟩
abbrev S2x1x2816 : Shape := ⟨3, ![2, 1, 2816]⟩
abbrev S2x2047x2816 : Shape := ⟨3, ![2, 2047, 2816]⟩

abbrev nBuf : Space → Nat
  | .hbm => 122
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S3x2816, .f32⟩
  | .hbm, ⟨3, _⟩ => ⟨S1x2816, .f32⟩
  | .hbm, ⟨4, _⟩ => ⟨S4096x2816, .bf16⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S2x2048x2816, .f32⟩
  | .hbm, ⟨9, _⟩ => ⟨S1x2816, .f32⟩
  | .hbm, ⟨10, _⟩ => ⟨S2816, .f32⟩
  | .hbm, ⟨11, _⟩ => ⟨S_, .f32⟩
  | .hbm, ⟨12, _⟩ => ⟨S2x2x2816, .f32⟩
  | .hbm, ⟨13, _⟩ => ⟨S2x2046x2816, .f32⟩
  | .hbm, ⟨14, _⟩ => ⟨S2x2048x2816, .f32⟩
  | .hbm, ⟨15, _⟩ => ⟨S_, .f32⟩
  | .hbm, ⟨16, _⟩ => ⟨S2x2x2816, .f32⟩
  | .hbm, ⟨17, _⟩ => ⟨S1x1x2816, .f32⟩
  | .hbm, ⟨18, _⟩ => ⟨S2x2048x2816, .f32⟩
  | .hbm, ⟨19, _⟩ => ⟨S2x2048x2816, .f32⟩
  | .hbm, ⟨20, _⟩ => ⟨S_, .f32⟩
  | .hbm, ⟨21, _⟩ => ⟨S2x2048x2816, .f32⟩
  | .hbm, ⟨22, _⟩ => ⟨S2x2048x2816, .f32⟩
  | .hbm, ⟨23, _⟩ => ⟨S1x2816, .f32⟩
  | .hbm, ⟨24, _⟩ => ⟨S2816, .f32⟩
  | .hbm, ⟨25, _⟩ => ⟨S_, .f32⟩
  | .hbm, ⟨26, _⟩ => ⟨S2x1x2816, .f32⟩
  | .hbm, ⟨27, _⟩ => ⟨S2x2047x2816, .f32⟩
  | .hbm, ⟨28, _⟩ => ⟨S2x2048x2816, .f32⟩
  | .hbm, ⟨29, _⟩ => ⟨S_, .f32⟩
  | .hbm, ⟨30, _⟩ => ⟨S2x1x2816, .f32⟩
  | .hbm, ⟨31, _⟩ => ⟨S1x1x2816, .f32⟩
  | .hbm, ⟨32, _⟩ => ⟨S2x2048x2816, .f32⟩
  | .hbm, ⟨33, _⟩ => ⟨S2x2048x2816, .f32⟩
  | .hbm, ⟨34, _⟩ => ⟨S2x2048x2816, .f32⟩
  | .hbm, ⟨35, _⟩ => ⟨S1x2816, .f32⟩
  | .hbm, ⟨36, _⟩ => ⟨S2816, .f32⟩
  | .hbm, ⟨37, _⟩ => ⟨S1x1x2816, .f32⟩
  | .hbm, ⟨38, _⟩ => ⟨S2x2048x2816, .f32⟩
  | .hbm, ⟨39, _⟩ => ⟨S2x2048x2816, .f32⟩
  | .hbm, ⟨40, _⟩ => ⟨S2x2048x2816, .f32⟩
  | .hbm, ⟨41, _⟩ => ⟨S1x1x2816, .f32⟩
  | .hbm, ⟨42, _⟩ => ⟨S2x2048x2816, .f32⟩
  | .hbm, ⟨43, _⟩ => ⟨S2x2048x2816, .f32⟩
  | .hbm, ⟨44, _⟩ => ⟨S2x2048x2816, .f32⟩
  | .hbm, ⟨45, _⟩ => ⟨S2x2048x2816, .f32⟩
  | .hbm, ⟨46, _⟩ => ⟨S_, .f32⟩
  | .hbm, ⟨47, _⟩ => ⟨S2x2048x2816, .f32⟩
  | .hbm, ⟨48, _⟩ => ⟨S2x2048x2816, .f32⟩
  | .hbm, ⟨49, _⟩ => ⟨S_, .f32⟩
  | .hbm, ⟨50, _⟩ => ⟨S2x2048x2816, .f32⟩
  | .hbm, ⟨51, _⟩ => ⟨S2x2048x2816, .f32⟩
  | .hbm, ⟨52, _⟩ => ⟨S_, .f32⟩
  | .hbm, ⟨53, _⟩ => ⟨S2x2048x2816, .f32⟩
  | .hbm, ⟨54, _⟩ => ⟨S2x2048x2816, .f32⟩
  | .hbm, ⟨55, _⟩ => ⟨S2x2048x2816, .f32⟩
  | .hbm, ⟨56, _⟩ => ⟨S2x2048x2816, .f32⟩
  | .hbm, ⟨57, _⟩ => ⟨S2x2048x2816, .f32⟩
  | .hbm, ⟨58, _⟩ => ⟨S2x2048x2816, .f32⟩
  | .hbm, ⟨59, _⟩ => ⟨S4096x2816, .f32⟩
  | .hbm, ⟨60, _⟩ => ⟨S2x2048x2816, .f32⟩
  | .hbm, ⟨61, _⟩ => ⟨S2x2048x2816, .f32⟩
  | .hbm, ⟨62, _⟩ => ⟨S2x2048x2816, .f32⟩
  | .hbm, ⟨63, _⟩ => ⟨S4096x2816, .f32⟩
  | .hbm, ⟨64, _⟩ => ⟨S2x2048x2816, .f32⟩
  | .hbm, ⟨65, _⟩ => ⟨S2x2048x2816, .f32⟩
  | .hbm, ⟨66, _⟩ => ⟨S2x2048x2816, .f32⟩
  | .hbm, ⟨67, _⟩ => ⟨S2x2048x2816, .f32⟩
  | .hbm, ⟨68, _⟩ => ⟨S_, .f32⟩
  | .hbm, ⟨69, _⟩ => ⟨S2816, .f32⟩
  | .hbm, ⟨70, _⟩ => ⟨S1x1x2816, .f32⟩
  | .hbm, ⟨71, _⟩ => ⟨S_, .f32⟩
  | .hbm, ⟨72, _⟩ => ⟨S2816, .f32⟩
  | .hbm, ⟨73, _⟩ => ⟨S1x2816, .f32⟩
  | .hbm, ⟨74, _⟩ => ⟨S2x2048x2816, .f32⟩
  | .hbm, ⟨75, _⟩ => ⟨S2x2048x2816, .f32⟩
  | .hbm, ⟨76, _⟩ => ⟨S2x2048x2816, .f32⟩
  | .hbm, ⟨77, _⟩ => ⟨S_, .f32⟩
  | .hbm, ⟨78, _⟩ => ⟨S2816, .f32⟩
  | .hbm, ⟨79, _⟩ => ⟨S1x1x2816, .f32⟩
  | .hbm, ⟨80, _⟩ => ⟨S_, .f32⟩
  | .hbm, ⟨81, _⟩ => ⟨S2816, .f32⟩
  | .hbm, ⟨82, _⟩ => ⟨S1x2816, .f32⟩
  | .hbm, ⟨83, _⟩ => ⟨S_, .f32⟩
  | .hbm, ⟨84, _⟩ => ⟨S3x2816, .f32⟩
  | .hbm, ⟨85, _⟩ => ⟨S2x2048x2816, .f32⟩
  | .hbm, ⟨86, _⟩ => ⟨S2x2048x2816, .f32⟩
  | .hbm, ⟨87, _⟩ => ⟨S2x2048x2816, .f32⟩
  | .hbm, ⟨88, _⟩ => ⟨S_, .f32⟩
  | .hbm, ⟨89, _⟩ => ⟨S2816, .f32⟩
  | .hbm, ⟨90, _⟩ => ⟨S1x1x2816, .f32⟩
  | .hbm, ⟨91, _⟩ => ⟨S_, .f32⟩
  | .hbm, ⟨92, _⟩ => ⟨S2816, .f32⟩
  | .hbm, ⟨93, _⟩ => ⟨S2x1x2816, .f32⟩
  | .hbm, ⟨94, _⟩ => ⟨S2x2047x2816, .f32⟩
  | .hbm, ⟨95, _⟩ => ⟨S_, .f32⟩
  | .hbm, ⟨96, _⟩ => ⟨S2x2048x2816, .f32⟩
  | .hbm, ⟨97, _⟩ => ⟨S2x2048x2816, .f32⟩
  | .hbm, ⟨98, _⟩ => ⟨S1x2816, .f32⟩
  | .hbm, ⟨99, _⟩ => ⟨S_, .f32⟩
  | .hbm, ⟨100, _⟩ => ⟨S3x2816, .f32⟩
  | .hbm, ⟨101, _⟩ => ⟨S3x2816, .f32⟩
  | .hbm, ⟨102, _⟩ => ⟨S2x2048x2816, .f32⟩
  | .hbm, ⟨103, _⟩ => ⟨S2x2048x2816, .f32⟩
  | .hbm, ⟨104, _⟩ => ⟨S2x2048x2816, .f32⟩
  | .hbm, ⟨105, _⟩ => ⟨S_, .f32⟩
  | .hbm, ⟨106, _⟩ => ⟨S2816, .f32⟩
  | .hbm, ⟨107, _⟩ => ⟨S1x1x2816, .f32⟩
  | .hbm, ⟨108, _⟩ => ⟨S_, .f32⟩
  | .hbm, ⟨109, _⟩ => ⟨S2816, .f32⟩
  | .hbm, ⟨110, _⟩ => ⟨S2x2x2816, .f32⟩
  | .hbm, ⟨111, _⟩ => ⟨S2x2046x2816, .f32⟩
  | .hbm, ⟨112, _⟩ => ⟨S_, .f32⟩
  | .hbm, ⟨113, _⟩ => ⟨S2x2048x2816, .f32⟩
  | .hbm, ⟨114, _⟩ => ⟨S2x2048x2816, .f32⟩
  | .hbm, ⟨115, _⟩ => ⟨S1x2816, .f32⟩
  | .hbm, ⟨116, _⟩ => ⟨S_, .f32⟩
  | .hbm, ⟨117, _⟩ => ⟨S3x2816, .f32⟩
  | .hbm, ⟨118, _⟩ => ⟨S3x2816, .f32⟩
  | .hbm, ⟨119, _⟩ => ⟨S4096x2816, .f32⟩
  | .hbm, ⟨120, _⟩ => ⟨S4096x2816, .bf16⟩
  | .hbm, ⟨121, _⟩ => ⟨S4096x2816, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v34_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v34_1 : Ref sig .tc := ⟨.hbm, 55, rfl⟩
abbrev main_v34_0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v42 : Ref sig .tc := ⟨.hbm, 67, rfl⟩
abbrev main_cst_4 : Ref sig .tc := ⟨.hbm, 68, rfl⟩
abbrev main_v43 : Ref sig .tc := ⟨.hbm, 69, rfl⟩
abbrev main_v44 : Ref sig .tc := ⟨.hbm, 70, rfl⟩
abbrev main_cst_5 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_6 : Ref sig .tc := ⟨.hbm, 77, rfl⟩
abbrev main_v50 : Ref sig .tc := ⟨.hbm, 78, rfl⟩
abbrev main_v51 : Ref sig .tc := ⟨.hbm, 79, rfl⟩
abbrev main_cst_7 : Ref sig .tc := ⟨.hbm, 80, rfl⟩
abbrev main_v52 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_9 : Ref sig .tc := ⟨.hbm, 88, rfl⟩
abbrev main_v58 : Ref sig .tc := ⟨.hbm, 89, rfl⟩
abbrev main_v59 : Ref sig .tc := ⟨.hbm, 90, rfl⟩
abbrev main_cst_10 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_11 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_12 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_13 : Ref sig .tc := ⟨.hbm, 105, rfl⟩
abbrev main_v71 : Ref sig .tc := ⟨.hbm, 106, rfl⟩
abbrev main_v72 : Ref sig .tc := ⟨.hbm, 107, rfl⟩
abbrev main_cst_14 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_15 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_16 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩

abbrev nD : Nat := 1
abbrev τ : Topo := Topo.v7x

variable {F : FTy → Type} [FloatOps F]
-- ==== NormBwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== ConvBwd.lean ====
abbrev S4096x2048 : Shape := ⟨2, ![4096, 2048]⟩
abbrev S4x2048 : Shape := ⟨2, ![4, 2048]⟩
abbrev S1x2048 : Shape := ⟨2, ![1, 2048]⟩
abbrev S2048x256 : Shape := ⟨2, ![2048, 256]⟩
abbrev S4x256 : Shape := ⟨2, ![4, 256]⟩
abbrev S1x256 : Shape := ⟨2, ![1, 256]⟩
abbrev S256 : Shape := ⟨1, ![256]⟩
abbrev S3x256 : Shape := ⟨2, ![3, 256]⟩
abbrev S2x256 : Shape := ⟨2, ![2, 256]⟩

abbrev nBuf : Space → Nat
  | .hbm => 7
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4x2048, .f32⟩
  | .hbm, ⟨2, _⟩ => ⟨S1x2048, .f32⟩
  | .hbm, ⟨3, _⟩ => ⟨S4096x2048, .bf16⟩
  | .hbm, ⟨4, _⟩ => ⟨S4096x2048, .bf16⟩
  | .hbm, ⟨5, _⟩ => ⟨S4x2048, .f32⟩
  | .hbm, ⟨6, _⟩ => ⟨S1x2048, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S4x256, .f32⟩
  | .local _ .vmem, ⟨11, _⟩ => ⟨S4x256, .f32⟩
  | .local _ .vmem, ⟨12, _⟩ => ⟨S1x256, .f32⟩
  | .local _ .vmem, ⟨13, _⟩ => ⟨S1x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ConvBwdRefIdeal.lean ====
abbrev S4096x2048 : Shape := ⟨2, ![4096, 2048]⟩
abbrev S4x2048 : Shape := ⟨2, ![4, 2048]⟩
abbrev S1x2048 : Shape := ⟨2, ![1, 2048]⟩
abbrev S2x2048x2048 : Shape := ⟨3, ![2, 2048, 2048]⟩
abbrev S2048 : Shape := ⟨1, ![2048]⟩
abbrev S_ : Shape := ⟨0, ![]⟩
abbrev S2x3x2048 : Shape := ⟨3, ![2, 3, 2048]⟩
abbrev S2x2045x2048 : Shape := ⟨3, ![2, 2045, 2048]⟩
abbrev S1x1x2048 : Shape := ⟨3, ![1, 1, 2048]⟩
abbrev S2x2x2048 : Shape := ⟨3, ![2, 2, 2048]⟩
abbrev S2x2046x2048 : Shape := ⟨3, ![2, 2046, 2048]⟩
abbrev S2x1x2048 : Shape := ⟨3, ![2, 1, 2048]⟩
abbrev S2x2047x2048 : Shape := ⟨3, ![2, 2047, 2048]⟩

abbrev nBuf : Space → Nat
  | .hbm => 142
  | .vmem => 0
  | .smem => 0
  | _ => 0

abbrev hbmTy0_0 (i : Nat) : BufTy := match i % 128 with
  | 0 => ⟨S4096x2048, .f32⟩
  | 1 => ⟨S4x2048, .f32⟩
  | 2 => ⟨S1x2048, .f32⟩
  | 3 => ⟨S4096x2048, .bf16⟩
  | 4 => ⟨S2x2048x2048, .f32⟩
  | 5 => ⟨S1x2048, .f32⟩
  | 6 => ⟨S2048, .f32⟩
  | 7 => ⟨S_, .f32⟩
  | 8 => ⟨S2x3x2048, .f32⟩
  | 9 => ⟨S2x2045x2048, .f32⟩
  | 10 => ⟨S2x2048x2048, .f32⟩
  | 11 => ⟨S_, .f32⟩
  | 12 => ⟨S2x3x2048, .f32⟩
  | 13 => ⟨S1x1x2048, .f32⟩
  | 14 => ⟨S2x2048x2048, .f32⟩
  | 15 => ⟨S2x2048x2048, .f32⟩
  | 16 => ⟨S_, .f32⟩
  | 17 => ⟨S2x2048x2048, .f32⟩
  | 18 => ⟨S2x2048x2048, .f32⟩
  | 19 => ⟨S1x2048, .f32⟩
  | 20 => ⟨S2048, .f32⟩
  | 21 => ⟨S_, .f32⟩
  | 22 => ⟨S2x2x2048, .f32⟩
  | 23 => ⟨S2x2046x2048, .f32⟩
  | 24 => ⟨S2x2048x2048, .f32⟩
  | 25 => ⟨S_, .f32⟩
  | 26 => ⟨S2x2x2048, .f32⟩
  | 27 => ⟨S1x1x2048, .f32⟩
  | 28 => ⟨S2x2048x2048, .f32⟩
  | 29 => ⟨S2x2048x2048, .f32⟩
  | 30 => ⟨S2x2048x2048, .f32⟩
  | 31 => ⟨S1x2048, .f32⟩
  | 32 => ⟨S2048, .f32⟩
  | 33 => ⟨S_, .f32⟩
  | 34 => ⟨S2x1x2048, .f32⟩
  | 35 => ⟨S2x2047x2048, .f32⟩
  | 36 => ⟨S2x2048x2048, .f32⟩
  | 37 => ⟨S_, .f32⟩
  | 38 => ⟨S2x1x2048, .f32⟩
  | 39 => ⟨S1x1x2048, .f32⟩
  | 40 => ⟨S2x2048x2048, .f32⟩
  | 41 => ⟨S2x2048x2048, .f32⟩
  | 42 => ⟨S2x2048x2048, .f32⟩
  | 43 => ⟨S1x2048, .f32⟩
  | 44 => ⟨S2048, .f32⟩
  | 45 => ⟨S1x1x2048, .f32⟩
  | 46 => ⟨S2x2048x2048, .f32⟩
  | 47 => ⟨S2x2048x2048, .f32⟩
  | 48 => ⟨S2x2048x2048, .f32⟩
  | 49 => ⟨S1x1x2048, .f32⟩
  | 50 => ⟨S2x2048x2048, .f32⟩
  | 51 => ⟨S2x2048x2048, .f32⟩
  | 52 => ⟨S2x2048x2048, .f32⟩
  | 53 => ⟨S2x2048x2048, .f32⟩
  | 54 => ⟨S_, .f32⟩
  | 55 => ⟨S2x2048x2048, .f32⟩
  | 56 => ⟨S2x2048x2048, .f32⟩
  | 57 => ⟨S_, .f32⟩
  | 58 => ⟨S2x2048x2048, .f32⟩
  | 59 => ⟨S2x2048x2048, .f32⟩
  | 60 => ⟨S_, .f32⟩
  | 61 => ⟨S2x2048x2048, .f32⟩
  | 62 => ⟨S2x2048x2048, .f32⟩
  | 63 => ⟨S2x2048x2048, .f32⟩
  | 64 => ⟨S2x2048x2048, .f32⟩
  | 65 => ⟨S4096x2048, .f32⟩
  | 66 => ⟨S4096x2048, .f32⟩
  | 67 => ⟨S2x2048x2048, .f32⟩
  | 68 => ⟨S2x2048x2048, .f32⟩
  | 69 => ⟨S2x2048x2048, .f32⟩
  | 70 => ⟨S2x2048x2048, .f32⟩
  | 71 => ⟨S2x2048x2048, .f32⟩
  | 72 => ⟨S_, .f32⟩
  | 73 => ⟨S2048, .f32⟩
  | 74 => ⟨S1x1x2048, .f32⟩
  | 75 => ⟨S_, .f32⟩
  | 76 => ⟨S2048, .f32⟩
  | 77 => ⟨S1x2048, .f32⟩
  | 78 => ⟨S2x2048x2048, .f32⟩
  | 79 => ⟨S2x2048x2048, .f32⟩
  | 80 => ⟨S2x2048x2048, .f32⟩
  | 81 => ⟨S_, .f32⟩
  | 82 => ⟨S2048, .f32⟩
  | 83 => ⟨S1x1x2048, .f32⟩
  | 84 => ⟨S_, .f32⟩
  | 85 => ⟨S2048, .f32⟩
  | 86 => ⟨S1x2048, .f32⟩
  | 87 => ⟨S_, .f32⟩
  | 88 => ⟨S4x2048, .f32⟩
  | 89 => ⟨S2x2048x2048, .f32⟩
  | 90 => ⟨S2x2048x2048, .f32⟩
  | 91 => ⟨S2x2048x2048, .f32⟩
  | 92 => ⟨S_, .f32⟩
  | 93 => ⟨S2048, .f32⟩
  | 94 => ⟨S1x1x2048, .f32⟩
  | 95 => ⟨S_, .f32⟩
  | 96 => ⟨S2048, .f32⟩
  | 97 => ⟨S2x1x2048, .f32⟩
  | 98 => ⟨S2x2047x2048, .f32⟩
  | 99 => ⟨S_, .f32⟩
  | 100 => ⟨S2x2048x2048, .f32⟩
  | 101 => ⟨S2x2048x2048, .f32⟩
  | 102 => ⟨S1x2048, .f32⟩
  | 103 => ⟨S_, .f32⟩
  | 104 => ⟨S4x2048, .f32⟩
  | 105 => ⟨S4x2048, .f32⟩
  | 106 => ⟨S2x2048x2048, .f32⟩
  | 107 => ⟨S2x2048x2048, .f32⟩
  | 108 => ⟨S2x2048x2048, .f32⟩
  | 109 => ⟨S_, .f32⟩
  | 110 => ⟨S2048, .f32⟩
  | 111 => ⟨S1x1x2048, .f32⟩
  | 112 => ⟨S_, .f32⟩
  | 113 => ⟨S2048, .f32⟩
  | 114 => ⟨S2x2x2048, .f32⟩
  | 115 => ⟨S2x2046x2048, .f32⟩
  | 116 => ⟨S_, .f32⟩
  | 117 => ⟨S2x2048x2048, .f32⟩
  | 118 => ⟨S2x2048x2048, .f32⟩
  | 119 => ⟨S1x2048, .f32⟩
  | 120 => ⟨S_, .f32⟩
  | 121 => ⟨S4x2048, .f32⟩
  | 122 => ⟨S4x2048, .f32⟩
  | 123 => ⟨S2x2048x2048, .f32⟩
  | 124 => ⟨S2x2048x2048, .f32⟩
  | 125 => ⟨S2x2048x2048, .f32⟩
  | 126 => ⟨S_, .f32⟩
  | 127 => ⟨S2048, .f32⟩
  | _ => ⟨S4096x2048, .f32⟩

abbrev hbmTy0_1 (i : Nat) : BufTy := match i % 128 with
  | 0 => ⟨S1x1x2048, .f32⟩
  | 1 => ⟨S_, .f32⟩
  | 2 => ⟨S2048, .f32⟩
  | 3 => ⟨S2x3x2048, .f32⟩
  | 4 => ⟨S2x2045x2048, .f32⟩
  | 5 => ⟨S_, .f32⟩
  | 6 => ⟨S2x2048x2048, .f32⟩
  | 7 => ⟨S2x2048x2048, .f32⟩
  | 8 => ⟨S1x2048, .f32⟩
  | 9 => ⟨S_, .f32⟩
  | 10 => ⟨S4x2048, .f32⟩
  | 11 => ⟨S4x2048, .f32⟩
  | 12 => ⟨S4096x2048, .f32⟩
  | 13 => ⟨S4096x2048, .bf16⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_v41_2 : Ref sig .tc := ⟨.hbm, 59, rfl⟩
abbrev main_call0_cst_1 : Ref sig .tc := ⟨.hbm, 60, rfl⟩
abbrev main_call0_v6 : Ref sig .tc := ⟨.hbm, 61, rfl⟩
abbrev main_call0_v7 : Ref sig .tc := ⟨.hbm, 62, rfl⟩
abbrev main_v41_1 : Ref sig .tc := ⟨.hbm, 63, rfl⟩
abbrev main_v41_0 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_15 : Ref sig .tc := ⟨.hbm, 109, rfl⟩
abbrev main_v74 : Ref sig .tc := ⟨.hbm, 110, rfl⟩
abbrev main_v75 : Ref sig .tc := ⟨.hbm, 111, rfl⟩
abbrev main_cst_16 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_17 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_18 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_19 : Ref sig .tc := ⟨.hbm, 126, rfl⟩
abbrev main_v87 : Ref sig .tc := ⟨.hbm, 127, rfl⟩
abbrev main_v88 : Ref sig .tc := ⟨.hbm, 128, rfl⟩
abbrev main_cst_20 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_21 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_22 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩

abbrev nD : Nat := 1
abbrev τ : Topo := Topo.v7x

variable {F : FTy → Type} [FloatOps F]
-- ==== FfnDown.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnGate.lean ====
abbrev S4096x1024 : Shape := ⟨2, ![4096, 1024]⟩
abbrev S4x1024x1408 : Shape := ⟨3, ![4, 1024, 1408]⟩
abbrev S4096x2816 : Shape := ⟨2, ![4096, 2816]⟩
abbrev S512x1024 : Shape := ⟨2, ![512, 1024]⟩
abbrev S1x1024x1408 : Shape := ⟨3, ![1, 1024, 1408]⟩
abbrev S512x1408 : Shape := ⟨2, ![512, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![v0.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnGateRefIdeal.lean ====
abbrev S4096x1024 : Shape := ⟨2, ![4096, 1024]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x2816 : Shape := ⟨2, ![1024, 2816]⟩
abbrev S4096x2816 : Shape := ⟨2, ![4096, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4x1024x1408, .f32⟩
  | .hbm, ⟨3, _⟩ => ⟨S4096x1024, .f32⟩
  | .hbm, ⟨4, _⟩ => ⟨S1x1024x1408, .f32⟩
  | .hbm, ⟨5, _⟩ => ⟨S1024x1408, .f32⟩
  | .hbm, ⟨6, _⟩ => ⟨S1x1024x1408, .f32⟩
  | .hbm, ⟨7, _⟩ => ⟨S1024x1408, .f32⟩
  | .hbm, ⟨8, _⟩ => ⟨S1024x2816, .f32⟩
  | .hbm, ⟨9, _⟩ => ⟨S4096x2816, .f32⟩
  | .hbm, ⟨10, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== FfnUp.lean ====
abbrev S4096x1024 : Shape := ⟨2, ![4096, 1024]⟩
abbrev S4x1024x1408 : Shape := ⟨3, ![4, 1024, 1408]⟩
abbrev S4096x2816 : Shape := ⟨2, ![4096, 2816]⟩
abbrev S512x1024 : Shape := ⟨2, ![512, 1024]⟩
abbrev S1x1024x1408 : Shape := ⟨3, ![1, 1024, 1408]⟩
abbrev S512x1408 : Shape := ⟨2, ![512, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![v0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S4096x1024 : Shape := ⟨2, ![4096, 1024]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x2816 : Shape := ⟨2, ![1024, 2816]⟩
abbrev S4096x2816 : Shape := ⟨2, ![4096, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4x1024x1408, .f32⟩
  | .hbm, ⟨3, _⟩ => ⟨S4096x1024, .f32⟩
  | .hbm, ⟨4, _⟩ => ⟨S1x1024x1408, .f32⟩
  | .hbm, ⟨5, _⟩ => ⟨S1024x1408, .f32⟩
  | .hbm, ⟨6, _⟩ => ⟨S1x1024x1408, .f32⟩
  | .hbm, ⟨7, _⟩ => ⟨S1024x1408, .f32⟩
  | .hbm, ⟨8, _⟩ => ⟨S1024x2816, .f32⟩
  | .hbm, ⟨9, _⟩ => ⟨S4096x2816, .f32⟩
  | .hbm, ⟨10, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== ProjIn.lean ====
abbrev S4096x1024 : Shape := ⟨2, ![4096, 1024]⟩
abbrev S1024x2048 : Shape := ⟨2, ![1024, 2048]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInIdeal.lean ====
abbrev S4096x1024 : Shape := ⟨2, ![4096, 1024]⟩
abbrev S1024x2048 : Shape := ⟨2, ![1024, 2048]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwIn.lean ====
abbrev S4096x1024 : Shape := ⟨2, ![4096, 1024]⟩
abbrev S4096x2048 : Shape := ⟨2, ![4096, 2048]⟩
abbrev S1024x2048 : Shape := ⟨2, ![1024, 2048]⟩
abbrev S1024x512 : Shape := ⟨2, ![1024, 512]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInIdeal.lean ====
abbrev S4096x1024 : Shape := ⟨2, ![4096, 1024]⟩
abbrev S4096x2048 : Shape := ⟨2, ![4096, 2048]⟩
abbrev S1024x2048 : Shape := ⟨2, ![1024, 2048]⟩
abbrev S1024x512 : Shape := ⟨2, ![1024, 512]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S_, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DxIn.lean ====
abbrev S4096x2048 : Shape := ⟨2, ![4096, 2048]⟩
abbrev S1024x2048 : Shape := ⟨2, ![1024, 2048]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxInIdeal.lean ====
abbrev S4096x2048 : Shape := ⟨2, ![4096, 2048]⟩
abbrev S1024x2048 : Shape := ⟨2, ![1024, 2048]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxInRefIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S1024x2048, .f32⟩
  | .hbm, ⟨3, _⟩ => ⟨S_, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DxInNext.lean ====
abbrev S4096x2048 : Shape := ⟨2, ![4096, 2048]⟩
abbrev S1024x2048 : Shape := ⟨2, ![1024, 2048]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxInNextIdeal.lean ====
abbrev S4096x2048 : Shape := ⟨2, ![4096, 2048]⟩
abbrev S1024x2048 : Shape := ⟨2, ![1024, 2048]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxInNextRefIdeal.lean ====
abbrev S4096x2048 : Shape := ⟨2, ![4096, 2048]⟩
abbrev S1024x2048 : Shape := ⟨2, ![1024, 2048]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S_, .f32⟩
  | .hbm, ⟨5, _⟩ => ⟨S4096x1024, .f32⟩
  | .hbm, ⟨6, _⟩ => ⟨S4096x2048, .f32⟩
  | .hbm, ⟨7, _⟩ => ⟨S4096x2048, .f32⟩
  | .hbm, ⟨8, _⟩ => ⟨S4096x1024, .f32⟩
  | .hbm, ⟨9, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== ProjOut.lean ====
abbrev S4096x2048 : Shape := ⟨2, ![4096, 2048]⟩
abbrev S2048x1024 : Shape := ⟨2, ![2048, 1024]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjOutIdeal.lean ====
abbrev S4096x2048 : Shape := ⟨2, ![4096, 2048]⟩
abbrev S2048x1024 : Shape := ⟨2, ![2048, 1024]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjOutRefIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwOut.lean ====
abbrev S4096x2048 : Shape := ⟨2, ![4096, 2048]⟩
abbrev S4096x1024 : Shape := ⟨2, ![4096, 1024]⟩
abbrev S2048x1024 : Shape := ⟨2, ![2048, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S2048x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutIdeal.lean ====
abbrev S4096x2048 : Shape := ⟨2, ![4096, 2048]⟩
abbrev S4096x1024 : Shape := ⟨2, ![4096, 1024]⟩
abbrev S2048x1024 : Shape := ⟨2, ![2048, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S2048x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S4096x2048, .f32⟩
  | .hbm, ⟨3, _⟩ => ⟨S_, .f32⟩
  | .hbm, ⟨4, _⟩ => ⟨S2048x1024, .f32⟩
  | .hbm, ⟨5, _⟩ => ⟨S4096x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DxOut.lean ====
abbrev S4096x1024 : Shape := ⟨2, ![4096, 1024]⟩
abbrev S2048x1024 : Shape := ⟨2, ![2048, 1024]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxOutIdeal.lean ====
abbrev S4096x1024 : Shape := ⟨2, ![4096, 1024]⟩
abbrev S2048x1024 : Shape := ⟨2, ![2048, 1024]⟩
abbrev S4096x2048 : Shape := ⟨2, ![4096, 2048]⟩
abbrev S512x1024 : Shape := ⟨2, ![512, 1024]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S2048x1024, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxOutRefIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S4096x2048, .f32⟩
  | .hbm, ⟨5, _⟩ => ⟨S4096x1024, .f32⟩
  | .hbm, ⟨6, _⟩ => ⟨S4096x2048, .f32⟩
  | .hbm, ⟨7, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SqIn.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SqInRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SqDwIn.lean ====
abbrev S4096x1024 : Shape := ⟨2, ![4096, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SqDwInRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SqDxIn.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SqDxInRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SqDxInNext.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SqDxInNextRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== SqQuery.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SqQueryRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SqOut.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SqOutRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SqDwOut.lean ====
abbrev S4096x1024 : Shape := ⟨2, ![4096, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SqDwOutRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SqDxOut.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SqDxOutRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwGate.lean ====
abbrev S4096x1024 : Shape := ⟨2, ![4096, 1024]⟩
abbrev S4096x2816 : Shape := ⟨2, ![4096, 2816]⟩
abbrev S4x1024x1408 : Shape := ⟨3, ![4, 1024, 1408]⟩
abbrev S1024x512 : Shape := ⟨2, ![1024, 512]⟩
abbrev S1024x1408 : Shape := ⟨2, ![1024, 1408]⟩
abbrev S1x512x1408 : Shape := ⟨3, ![1, 512, 1408]⟩
abbrev S512x1408 : Shape := ⟨2, ![512, 1408]⟩
abbrev S2x1024x1408 : Shape := ⟨3, ![2, 1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4x1024x1408, .bf16⟩
  | .hbm, ⟨3, _⟩ => ⟨S2x1024x1408, .bf16⟩
  | .local _ .vmem, ⟨0, _⟩ => ⟨S1024x512, .bf16⟩
  | .local _ .vmem, ⟨1, _⟩ => ⟨S1024x512, .bf16⟩
  | .local _ .vmem, ⟨2, _⟩ => ⟨S1024x1408, .bf16⟩
  | .local _ .vmem, ⟨3, _⟩ => ⟨S1024x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S512x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGateRefIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩
abbrev S1024x1408 : Shape := ⟨2, ![1024, 1408]⟩
abbrev S1x1024x1408 : Shape := ⟨3, ![1, 1024, 1408]⟩
abbrev S2x1024x1408 : Shape := ⟨3, ![2, 1024, 1408]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x1024, .f32⟩
  | .hbm, ⟨3, _⟩ => ⟨S_, .f32⟩
  | .hbm, ⟨4, _⟩ => ⟨S1024x2816, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | .hbm, ⟨10, _⟩ => ⟨S1024x1408, .bf16⟩
  | .hbm, ⟨11, _⟩ => ⟨S1024x1408, .bf16⟩
  | .hbm, ⟨12, _⟩ => ⟨S1x1024x1408, .bf16⟩
  | .hbm, ⟨13, _⟩ => ⟨S1x1024x1408, .bf16⟩
  | .hbm, ⟨14, _⟩ => ⟨S2x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== DwUp.lean ====
abbrev S4096x1024 : Shape := ⟨2, ![4096, 1024]⟩
abbrev S4096x2816 : Shape := ⟨2, ![4096, 2816]⟩
abbrev S4x1024x1408 : Shape := ⟨3, ![4, 1024, 1408]⟩
abbrev S1024x512 : Shape := ⟨2, ![1024, 512]⟩
abbrev S1024x1408 : Shape := ⟨2, ![1024, 1408]⟩
abbrev S1x512x1408 : Shape := ⟨3, ![1, 512, 1408]⟩
abbrev S512x1408 : Shape := ⟨2, ![512, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4x1024x1408, .bf16⟩
  | .hbm, ⟨3, _⟩ => ⟨S4x1024x1408, .bf16⟩
  | .local _ .vmem, ⟨0, _⟩ => ⟨S1024x512, .bf16⟩
  | .local _ .vmem, ⟨1, _⟩ => ⟨S1024x512, .bf16⟩
  | .local _ .vmem, ⟨2, _⟩ => ⟨S1024x1408, .bf16⟩
  | .local _ .vmem, ⟨3, _⟩ => ⟨S1024x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S512x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![v0.toNat, arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S4096x1024 : Shape := ⟨2, ![4096, 1024]⟩
abbrev S4096x2816 : Shape := ⟨2, ![4096, 2816]⟩
abbrev S4x1024x1408 : Shape := ⟨3, ![4, 1024, 1408]⟩
abbrev S2x1024x1408 : Shape := ⟨3, ![2, 1024, 1408]⟩
abbrev S_ : Shape := ⟨0, ![]⟩
abbrev S1024x2816 : Shape := ⟨2, ![1024, 2816]⟩
abbrev S2816x1024 : Shape := ⟨2, ![2816, 1024]⟩
abbrev S1024x1408 : Shape := ⟨2, ![1024, 1408]⟩
abbrev S1x1024x1408 : Shape := ⟨3, ![1, 1024, 1408]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4x1024x1408, .bf16⟩
  | .hbm, ⟨3, _⟩ => ⟨S2x1024x1408, .bf16⟩
  | .hbm, ⟨4, _⟩ => ⟨S4096x1024, .f32⟩
  | .hbm, ⟨5, _⟩ => ⟨S_, .f32⟩
  | .hbm, ⟨6, _⟩ => ⟨S1024x2816, .f32⟩
  | .hbm, ⟨7, _⟩ => ⟨S4096x2816, .f32⟩
  | .hbm, ⟨8, _⟩ => ⟨S4096x2816, .f32⟩
  | .hbm, ⟨9, _⟩ => ⟨S2816x1024, .f32⟩
  | .hbm, ⟨10, _⟩ => ⟨S1024x2816, .f32⟩
  | .hbm, ⟨11, _⟩ => ⟨S1024x2816, .bf16⟩
  | .hbm, ⟨12, _⟩ => ⟨S1024x1408, .bf16⟩
  | .hbm, ⟨13, _⟩ => ⟨S1024x1408, .bf16⟩
  | .hbm, ⟨14, _⟩ => ⟨S1x1024x1408, .bf16⟩
  | .hbm, ⟨15, _⟩ => ⟨S1x1024x1408, .bf16⟩
  | .hbm, ⟨16, _⟩ => ⟨S2x1024x1408, .bf16⟩
  | .hbm, ⟨17, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== HgQ.lean ====
abbrev S4096x1024 : Shape := ⟨2, ![4096, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![v0.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgQIdeal.lean ====
  let v0 : BitVec 32 := Scalar.addi c0_i32 arg1
  let c0_i32_1 : BitVec 32 := 0#32
  ![v0.toNat, arg2.toNat, c0_i32_0.toNat]
-- ==== HgQRefIdeal.lean ====
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S1x1024x1024, .bf16⟩
  | .hbm, ⟨4, _⟩ => ⟨S1024x1024, .bf16⟩
  | .hbm, ⟨5, _⟩ => ⟨S1024x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== HgF.lean ====
abbrev S4096x1024 : Shape := ⟨2, ![4096, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  let c0_i32_0 : BitVec 32 := 0#32
  ![v0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgFIdeal.lean ====
  let c1_i32 : BitVec 32 := 1#32
  let v0 : BitVec 32 := Scalar.addi c1_i32 arg1
-- ==== HgFRefIdeal.lean ====
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S1x1024x1024, .bf16⟩
  | .hbm, ⟨4, _⟩ => ⟨S1024x1024, .bf16⟩
  | .hbm, ⟨5, _⟩ => ⟨S1024x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== HgI.lean ====
abbrev S4096x1024 : Shape := ⟨2, ![4096, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![v0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgIIdeal.lean ====
  let c2_i32 : BitVec 32 := 2#32
  let v0 : BitVec 32 := Scalar.addi c2_i32 arg1
-- ==== HgIRefIdeal.lean ====
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S1x1024x1024, .bf16⟩
  | .hbm, ⟨4, _⟩ => ⟨S1024x1024, .bf16⟩
  | .hbm, ⟨5, _⟩ => ⟨S1024x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== HgG.lean ====
abbrev S4096x1024 : Shape := ⟨2, ![4096, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  let c0_i32_0 : BitVec 32 := 0#32
  ![v0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HgGRefIdeal.lean ====
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S1x1024x1024, .bf16⟩
  | .hbm, ⟨4, _⟩ => ⟨S1024x1024, .bf16⟩
  | .hbm, ⟨5, _⟩ => ⟨S1024x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DwHgQ.lean ====
abbrev S4096x1024 : Shape := ⟨2, ![4096, 1024]⟩
abbrev S4x1024x1024 : Shape := ⟨3, ![4, 1024, 1024]⟩
abbrev S1024x512 : Shape := ⟨2, ![1024, 512]⟩
abbrev S1024x1024 : Shape := ⟨2, ![1024, 1024]⟩
abbrev S1x512x1024 : Shape := ⟨3, ![1, 512, 1024]⟩
abbrev S512x1024 : Shape := ⟨2, ![512, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x1024x1024, .bf16⟩
  | .hbm, ⟨3, _⟩ => ⟨S1x1024x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwHgQRefIdeal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwHgF.lean ====
abbrev S4096x1024 : Shape := ⟨2, ![4096, 1024]⟩
abbrev S4x1024x1024 : Shape := ⟨3, ![4, 1024, 1024]⟩
abbrev S1024x512 : Shape := ⟨2, ![1024, 512]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x1024x1024, .bf16⟩
  | .hbm, ⟨3, _⟩ => ⟨S4x1024x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  let c0_i32_0 : BitVec 32 := 0#32
  ![v0.toNat, arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwHgFIdeal.lean ====
  let c1_i32 : BitVec 32 := 1#32
  let v0 : BitVec 32 := Scalar.addi c1_i32 arg1
-- ==== DwHgFRefIdeal.lean ====
abbrev S4096x1024 : Shape := ⟨2, ![4096, 1024]⟩
abbrev S4x1024x1024 : Shape := ⟨3, ![4, 1024, 1024]⟩
abbrev S1x1024x1024 : Shape := ⟨3, ![1, 1024, 1024]⟩
abbrev S_ : Shape := ⟨0, ![]⟩
abbrev S1024x1024 : Shape := ⟨2, ![1024, 1024]⟩
abbrev S2x1024x1024 : Shape := ⟨3, ![2, 1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x1024x1024, .bf16⟩
  | .hbm, ⟨3, _⟩ => ⟨S1x1024x1024, .bf16⟩
  | .hbm, ⟨4, _⟩ => ⟨S4096x1024, .f32⟩
  | .hbm, ⟨5, _⟩ => ⟨S_, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1x1024x1024, .bf16⟩
  | .hbm, ⟨13, _⟩ => ⟨S2x1024x1024, .bf16⟩
  | .hbm, ⟨14, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== DwHgI.lean ====
abbrev S4096x1024 : Shape := ⟨2, ![4096, 1024]⟩
abbrev S4x1024x1024 : Shape := ⟨3, ![4, 1024, 1024]⟩
abbrev S1024x512 : Shape := ⟨2, ![1024, 512]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x1024x1024, .bf16⟩
  | .hbm, ⟨3, _⟩ => ⟨S4x1024x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![v0.toNat, arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwHgIIdeal.lean ====
  let c2_i32 : BitVec 32 := 2#32
  let v0 : BitVec 32 := Scalar.addi c2_i32 arg1
-- ==== DwHgIRefIdeal.lean ====
abbrev S4096x1024 : Shape := ⟨2, ![4096, 1024]⟩
abbrev S4x1024x1024 : Shape := ⟨3, ![4, 1024, 1024]⟩
abbrev S2x1024x1024 : Shape := ⟨3, ![2, 1024, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x1024x1024, .bf16⟩
  | .hbm, ⟨3, _⟩ => ⟨S2x1024x1024, .bf16⟩
  | .hbm, ⟨4, _⟩ => ⟨S4096x1024, .f32⟩
  | .hbm, ⟨5, _⟩ => ⟨S_, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1x1024x1024, .bf16⟩
  | .hbm, ⟨13, _⟩ => ⟨S1x1024x1024, .bf16⟩
  | .hbm, ⟨14, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== DwHgG.lean ====
abbrev S4096x1024 : Shape := ⟨2, ![4096, 1024]⟩
abbrev S4x1024x1024 : Shape := ⟨3, ![4, 1024, 1024]⟩
abbrev S1024x512 : Shape := ⟨2, ![1024, 512]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x1024x1024, .bf16⟩
  | .hbm, ⟨3, _⟩ => ⟨S4x1024x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  let c0_i32_0 : BitVec 32 := 0#32
  ![v0.toNat, arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwHgGRefIdeal.lean ====
abbrev S4096x1024 : Shape := ⟨2, ![4096, 1024]⟩
abbrev S4x1024x1024 : Shape := ⟨3, ![4, 1024, 1024]⟩
abbrev S3x1024x1024 : Shape := ⟨3, ![3, 1024, 1024]⟩
abbrev S_ : Shape := ⟨0, ![]⟩
abbrev S1024x1024 : Shape := ⟨2, ![1024, 1024]⟩
abbrev S1x1024x1024 : Shape := ⟨3, ![1, 1024, 1024]⟩
abbrev S0x1024x1024 : Shape := ⟨3, ![0, 1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x1024x1024, .bf16⟩
  | .hbm, ⟨3, _⟩ => ⟨S3x1024x1024, .bf16⟩
  | .hbm, ⟨4, _⟩ => ⟨S4096x1024, .f32⟩
  | .hbm, ⟨5, _⟩ => ⟨S_, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1x1024x1024, .bf16⟩
  | .hbm, ⟨13, _⟩ => ⟨S0x1024x1024, .bf16⟩
  | .hbm, ⟨14, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== DxHgQ.lean ====
abbrev S4096x1024 : Shape := ⟨2, ![4096, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![v0.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxHgQRefIdeal.lean ====
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S1x1024x1024, .bf16⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DxHgF.lean ====
abbrev S4096x1024 : Shape := ⟨2, ![4096, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  let c0_i32_0 : BitVec 32 := 0#32
  ![v0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxHgFIdeal.lean ====
  let c1_i32 : BitVec 32 := 1#32
  let v0 : BitVec 32 := Scalar.addi c1_i32 arg2
-- ==== DxHgFRefIdeal.lean ====
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S1x1024x1024, .bf16⟩
  | .hbm, ⟨4, _⟩ => ⟨S1024x1024, .bf16⟩
  | .hbm, ⟨5, _⟩ => ⟨S1024x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== DxHgI.lean ====
abbrev S4096x1024 : Shape := ⟨2, ![4096, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![v0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxHgIIdeal.lean ====
  let c2_i32 : BitVec 32 := 2#32
  let v0 : BitVec 32 := Scalar.addi c2_i32 arg2
-- ==== DxHgIRefIdeal.lean ====
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S1x1024x1024, .bf16⟩
  | .hbm, ⟨4, _⟩ => ⟨S1024x1024, .bf16⟩
  | .hbm, ⟨5, _⟩ => ⟨S1024x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== DxHgG.lean ====
abbrev S4096x1024 : Shape := ⟨2, ![4096, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg2
  let c0_i32 : BitVec 32 := 0#32
  let c0_i32_0 : BitVec 32 := 0#32
  ![v0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DxHgGRefIdeal.lean ====
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S1x1024x1024, .bf16⟩
  | .hbm, ⟨4, _⟩ => ⟨S1024x1024, .bf16⟩
  | .hbm, ⟨5, _⟩ => ⟨S1024x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== MemK.lean ====
abbrev S512x1024 : Shape := ⟨2, ![512, 1024]⟩
abbrev S4x1024x512 : Shape := ⟨3, ![4, 1024, 512]⟩
abbrev S1x1024x512 : Shape := ⟨3, ![1, 1024, 512]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x1024, .bf16⟩
  | .hbm, ⟨1, _⟩ => ⟨S4x1024x512, .bf16⟩
  | .hbm, ⟨2, _⟩ => ⟨S512x1024, .bf16⟩
  | .local _ .vmem, ⟨0, _⟩ => ⟨S512x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S512x512, .bf16⟩
  | .local _ .vmem, ⟨4, _⟩ => ⟨S512x512, .bf16⟩
  | .local _ .vmem, ⟨5, _⟩ => ⟨S512x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![v0.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemKRefIdeal.lean ====
abbrev S512x1024 : Shape := ⟨2, ![512, 1024]⟩
abbrev S4x1024x512 : Shape := ⟨3, ![4, 1024, 512]⟩
abbrev S1x1024x512 : Shape := ⟨3, ![1, 1024, 512]⟩
abbrev S1024x512 : Shape := ⟨2, ![1024, 512]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S4x1024x512, .bf16⟩
  | .hbm, ⟨2, _⟩ => ⟨S4x1024x512, .f32⟩
  | .hbm, ⟨3, _⟩ => ⟨S512x1024, .f32⟩
  | .hbm, ⟨4, _⟩ => ⟨S1x1024x512, .f32⟩
  | .hbm, ⟨5, _⟩ => ⟨S1024x512, .f32⟩
  | .hbm, ⟨6, _⟩ => ⟨S1x1024x512, .f32⟩
  | .hbm, ⟨7, _⟩ => ⟨S1024x512, .f32⟩
  | .hbm, ⟨8, _⟩ => ⟨S1024x1024, .f32⟩
  | .hbm, ⟨9, _⟩ => ⟨S512x1024, .f32⟩
  | .hbm, ⟨10, _⟩ => ⟨S512x1024, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== MemV.lean ====
abbrev S512x1024 : Shape := ⟨2, ![512, 1024]⟩
abbrev S4x1024x512 : Shape := ⟨3, ![4, 1024, 512]⟩
abbrev S1x1024x512 : Shape := ⟨3, ![1, 1024, 512]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x1024, .bf16⟩
  | .hbm, ⟨1, _⟩ => ⟨S4x1024x512, .bf16⟩
  | .hbm, ⟨2, _⟩ => ⟨S512x1024, .bf16⟩
  | .local _ .vmem, ⟨0, _⟩ => ⟨S512x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S512x512, .bf16⟩
  | .local _ .vmem, ⟨4, _⟩ => ⟨S512x512, .bf16⟩
  | .local _ .vmem, ⟨5, _⟩ => ⟨S512x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![v0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemVRefIdeal.lean ====
abbrev S512x1024 : Shape := ⟨2, ![512, 1024]⟩
abbrev S4x1024x512 : Shape := ⟨3, ![4, 1024, 512]⟩
abbrev S1x1024x512 : Shape := ⟨3, ![1, 1024, 512]⟩
abbrev S1024x512 : Shape := ⟨2, ![1024, 512]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S4x1024x512, .bf16⟩
  | .hbm, ⟨2, _⟩ => ⟨S4x1024x512, .f32⟩
  | .hbm, ⟨3, _⟩ => ⟨S512x1024, .f32⟩
  | .hbm, ⟨4, _⟩ => ⟨S1x1024x512, .f32⟩
  | .hbm, ⟨5, _⟩ => ⟨S1024x512, .f32⟩
  | .hbm, ⟨6, _⟩ => ⟨S1x1024x512, .f32⟩
  | .hbm, ⟨7, _⟩ => ⟨S1024x512, .f32⟩
  | .hbm, ⟨8, _⟩ => ⟨S1024x1024, .f32⟩
  | .hbm, ⟨9, _⟩ => ⟨S512x1024, .f32⟩
  | .hbm, ⟨10, _⟩ => ⟨S512x1024, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== DwMemK.lean ====
abbrev S512x1024 : Shape := ⟨2, ![512, 1024]⟩
abbrev S4x1024x512 : Shape := ⟨3, ![4, 1024, 512]⟩
abbrev S512x512 : Shape := ⟨2, ![512, 512]⟩
abbrev S1x512x512 : Shape := ⟨3, ![1, 512, 512]⟩
abbrev S2x1024x512 : Shape := ⟨3, ![2, 1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S4x1024x512, .bf16⟩
  | .hbm, ⟨3, _⟩ => ⟨S2x1024x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwMemKRefIdeal.lean ====
abbrev S512x1024 : Shape := ⟨2, ![512, 1024]⟩
abbrev S_ : Shape := ⟨0, ![]⟩
abbrev S1024x1024 : Shape := ⟨2, ![1024, 1024]⟩
abbrev S1024x512 : Shape := ⟨2, ![1024, 512]⟩
abbrev S1x1024x512 : Shape := ⟨3, ![1, 1024, 512]⟩
abbrev S2x1024x512 : Shape := ⟨3, ![2, 1024, 512]⟩

abbrev nBuf : Space → Nat
  | .hbm => 15
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S512x1024, .f32⟩
  | .hbm, ⟨3, _⟩ => ⟨S_, .f32⟩
  | .hbm, ⟨4, _⟩ => ⟨S1024x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1024x512, .bf16⟩
  | .hbm, ⟨11, _⟩ => ⟨S1024x512, .bf16⟩
  | .hbm, ⟨12, _⟩ => ⟨S1x1024x512, .bf16⟩
  | .hbm, ⟨13, _⟩ => ⟨S1x1024x512, .bf16⟩
  | .hbm, ⟨14, _⟩ => ⟨S2x1024x512, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== DwMemV.lean ====
abbrev S512x1024 : Shape := ⟨2, ![512, 1024]⟩
abbrev S4x1024x512 : Shape := ⟨3, ![4, 1024, 512]⟩
abbrev S512x512 : Shape := ⟨2, ![512, 512]⟩
abbrev S1x512x512 : Shape := ⟨3, ![1, 512, 512]⟩

abbrev nBuf : Space → Nat
  | .hbm => 4
  | .vmem => 7
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S4x1024x512, .bf16⟩
  | .hbm, ⟨3, _⟩ => ⟨S4x1024x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![v0.toNat, arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwMemVRefIdeal.lean ====
abbrev S512x1024 : Shape := ⟨2, ![512, 1024]⟩
abbrev S4x1024x512 : Shape := ⟨3, ![4, 1024, 512]⟩
abbrev S2x1024x512 : Shape := ⟨3, ![2, 1024, 512]⟩
abbrev S_ : Shape := ⟨0, ![]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 18
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S4x1024x512, .bf16⟩
  | .hbm, ⟨3, _⟩ => ⟨S2x1024x512, .bf16⟩
  | .hbm, ⟨4, _⟩ => ⟨S512x1024, .f32⟩
  | .hbm, ⟨5, _⟩ => ⟨S_, .f32⟩
  | .hbm, ⟨6, _⟩ => ⟨S1024x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1024x512, .bf16⟩
  | .hbm, ⟨13, _⟩ => ⟨S1024x512, .bf16⟩
  | .hbm, ⟨14, _⟩ => ⟨S1x1024x512, .bf16⟩
  | .hbm, ⟨15, _⟩ => ⟨S1x1024x512, .bf16⟩
  | .hbm, ⟨16, _⟩ => ⟨S2x1024x512, .bf16⟩
  | .hbm, ⟨17, _⟩ => ⟨S4x1024x512, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== DxMemK.lean ====
abbrev S512x1024 : Shape := ⟨2, ![512, 1024]⟩
abbrev S4x1024x512 : Shape := ⟨3, ![4, 1024, 512]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x1024, .bf16⟩
  | .hbm, ⟨1, _⟩ => ⟨S4x1024x512, .bf16⟩
  | .hbm, ⟨2, _⟩ => ⟨S512x1024, .f32⟩
  | .local _ .vmem, ⟨0, _⟩ => ⟨S512x512, .bf16⟩
  | .local _ .vmem, ⟨1, _⟩ => ⟨S512x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S512x1024, .f32⟩
  | .local _ .vmem, ⟨5, _⟩ => ⟨S512x1024, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![v0.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DxMemKRefIdeal.lean ====
abbrev S512x1024 : Shape := ⟨2, ![512, 1024]⟩
abbrev S4x1024x512 : Shape := ⟨3, ![4, 1024, 512]⟩
abbrev S1x1024x512 : Shape := ⟨3, ![1, 1024, 512]⟩
abbrev S1024x512 : Shape := ⟨2, ![1024, 512]⟩
abbrev S1024x1024 : Shape := ⟨2, ![1024, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S4x1024x512, .bf16⟩
  | .hbm, ⟨2, _⟩ => ⟨S4x1024x512, .f32⟩
  | .hbm, ⟨3, _⟩ => ⟨S1x1024x512, .f32⟩
  | .hbm, ⟨4, _⟩ => ⟨S1024x512, .f32⟩
  | .hbm, ⟨5, _⟩ => ⟨S1x1024x512, .f32⟩
  | .hbm, ⟨6, _⟩ => ⟨S1024x512, .f32⟩
  | .hbm, ⟨7, _⟩ => ⟨S1024x1024, .f32⟩
  | .hbm, ⟨8, _⟩ => ⟨S_, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S512x1024, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DxMemV.lean ====
abbrev S512x1024 : Shape := ⟨2, ![512, 1024]⟩
abbrev S4x1024x512 : Shape := ⟨3, ![4, 1024, 512]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S512x1024, .bf16⟩
  | .hbm, ⟨1, _⟩ => ⟨S4x1024x512, .bf16⟩
  | .hbm, ⟨2, _⟩ => ⟨S512x1024, .f32⟩
  | .hbm, ⟨3, _⟩ => ⟨S512x1024, .f32⟩
  | .local _ .vmem, ⟨0, _⟩ => ⟨S512x512, .bf16⟩
  | .local _ .vmem, ⟨1, _⟩ => ⟨S512x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![v0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== DxMemVRefIdeal.lean ====
abbrev S512x1024 : Shape := ⟨2, ![512, 1024]⟩
abbrev S4x1024x512 : Shape := ⟨3, ![4, 1024, 512]⟩
abbrev S1x1024x512 : Shape := ⟨3, ![1, 1024, 512]⟩
abbrev S1024x512 : Shape := ⟨2, ![1024, 512]⟩
abbrev S1024x1024 : Shape := ⟨2, ![1024, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S4x1024x512, .bf16⟩
  | .hbm, ⟨2, _⟩ => ⟨S512x1024, .f32⟩
  | .hbm, ⟨3, _⟩ => ⟨S4x1024x512, .f32⟩
  | .hbm, ⟨4, _⟩ => ⟨S1x1024x512, .f32⟩
  | .hbm, ⟨5, _⟩ => ⟨S1024x512, .f32⟩
  | .hbm, ⟨6, _⟩ => ⟨S1x1024x512, .f32⟩
  | .hbm, ⟨7, _⟩ => ⟨S1024x512, .f32⟩
  | .hbm, ⟨8, _⟩ => ⟨S1024x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S512x1024, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== AttnFwd.lean ====
abbrev S4096x1024 : Shape := ⟨2, ![4096, 1024]⟩
abbrev S512x1024 : Shape := ⟨2, ![512, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S512x1024, .bf16⟩
  | .hbm, ⟨3, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S512x1024, .bf16⟩
  | .local _ .vmem, ⟨7, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnFwdRefIdeal.lean ====
abbrev S4096x1024 : Shape := ⟨2, ![4096, 1024]⟩
abbrev S512x1024 : Shape := ⟨2, ![512, 1024]⟩
abbrev S2x2048x4x256 : Shape := ⟨4, ![2, 2048, 4, 256]⟩
abbrev S2x256x4x256 : Shape := ⟨4, ![2, 256, 4, 256]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S512x1024, .bf16⟩
  | .hbm, ⟨3, _⟩ => ⟨S4096x1024, .f32⟩
  | .hbm, ⟨4, _⟩ => ⟨S512x1024, .f32⟩
  | .hbm, ⟨5, _⟩ => ⟨S512x1024, .f32⟩
  | .hbm, ⟨6, _⟩ => ⟨S2x2048x4x256, .f32⟩
  | .hbm, ⟨7, _⟩ => ⟨S2x256x4x256, .f32⟩
  | .hbm, ⟨8, _⟩ => ⟨S2x256x4x256, .f32⟩
  | .hbm, ⟨9, _⟩ => ⟨S2x4x2048x256, .f32⟩
  | .hbm, ⟨10, _⟩ => ⟨S_, .f32⟩
  | .hbm, ⟨11, _⟩ => ⟨S2x4x2048x256, .f32⟩
  | .hbm, ⟨12, _⟩ => ⟨S2x4x2048x256, .f32⟩
  | .hbm, ⟨13, _⟩ => ⟨S_, .f32⟩
  | .hbm, ⟨14, _⟩ => ⟨S2x4x2048, .f32⟩
  | .hbm, ⟨15, _⟩ => ⟨S_, .f32⟩
  | .hbm, ⟨16, _⟩ => ⟨S2x4x2048, .f32⟩
  | .hbm, ⟨17, _⟩ => ⟨S2x4x2048, .f32⟩
  | .hbm, ⟨18, _⟩ => ⟨S2x4x2048x1, .f32⟩
  | .hbm, ⟨19, _⟩ => ⟨S2x4x2048x256, .f32⟩
  | .hbm, ⟨20, _⟩ => ⟨S2x4x2048x256, .f32⟩
  | .hbm, ⟨21, _⟩ => ⟨S2x4x2048x256, .f32⟩
  | .hbm, ⟨22, _⟩ => ⟨S_, .f32⟩
  | .hbm, ⟨23, _⟩ => ⟨S2x4x2048, .f32⟩
  | .hbm, ⟨24, _⟩ => ⟨S2x4x2048x1, .f32⟩
  | .hbm, ⟨25, _⟩ => ⟨S2x4x2048x256, .f32⟩
  | .hbm, ⟨26, _⟩ => ⟨S2x4x2048x256, .f32⟩
  | .hbm, ⟨27, _⟩ => ⟨S2x4x256x2048, .f32⟩
  | .hbm, ⟨28, _⟩ => ⟨S2x2048x4x256, .f32⟩
  | .hbm, ⟨29, _⟩ => ⟨S4096x1024, .f32⟩
  | .hbm, ⟨30, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== GluFwd.lean ====
abbrev S4096x2816 : Shape := ⟨2, ![4096, 2816]⟩
abbrev S3x2816 : Shape := ⟨2, ![3, 2816]⟩
abbrev S1x2816 : Shape := ⟨2, ![1, 2816]⟩
abbrev S2048x256 : Shape := ⟨2, ![2048, 256]⟩
abbrev S3x256 : Shape := ⟨2, ![3, 256]⟩
abbrev S1x256 : Shape := ⟨2, ![1, 256]⟩

abbrev nBuf : Space → Nat
  | .hbm => 5
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S3x2816, .f32⟩
  | .hbm, ⟨3, _⟩ => ⟨S1x2816, .f32⟩
  | .hbm, ⟨4, _⟩ => ⟨S4096x2816, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S3x256, .f32⟩
  | .local _ .vmem, ⟨5, _⟩ => ⟨S3x256, .f32⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GluFwdRefIdeal.lean ====
abbrev S4096x2816 : Shape := ⟨2, ![4096, 2816]⟩
abbrev S3x2816 : Shape := ⟨2, ![3, 2816]⟩
abbrev S1x2816 : Shape := ⟨2, ![1, 2816]⟩
abbrev S2x2048x2816 : Shape := ⟨3, ![2, 2048, 2816]⟩
abbrev S2816 : Shape := ⟨1, ![2816]⟩
abbrev S_ : Shape := ⟨0, ![]⟩
abbrev S2x2x2816 : Shape := ⟨3, ![2, 2, 2816]⟩
abbrev S2x2046x2816 : Shape := ⟨3, ![2, 2046, 2816]⟩
abbrev S1x1x2816 : Shape := ⟨3, ![1, 1, 2816]⟩
abbrev S2x1x2816 : Shape := ⟨3, ![2, 1, 2816]⟩
abbrev S2x2047x2816 : Shape := ⟨3, ![2, 2047, 2816]⟩

abbrev nBuf : Space → Nat
  | .hbm => 51
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S3x2816, .f32⟩
  | .hbm, ⟨3, _⟩ => ⟨S1x2816, .f32⟩
  | .hbm, ⟨4, _⟩ => ⟨S4096x2816, .f32⟩
  | .hbm, ⟨5, _⟩ => ⟨S4096x2816, .f32⟩
  | .hbm, ⟨6, _⟩ => ⟨S2x2048x2816, .f32⟩
  | .hbm, ⟨7, _⟩ => ⟨S1x2816, .f32⟩
  | .hbm, ⟨8, _⟩ => ⟨S2816, .f32⟩
  | .hbm, ⟨9, _⟩ => ⟨S_, .f32⟩
  | .hbm, ⟨10, _⟩ => ⟨S2x2x2816, .f32⟩
  | .hbm, ⟨11, _⟩ => ⟨S2x2046x2816, .f32⟩
  | .hbm, ⟨12, _⟩ => ⟨S2x2048x2816, .f32⟩
  | .hbm, ⟨13, _⟩ => ⟨S1x1x2816, .f32⟩
  | .hbm, ⟨14, _⟩ => ⟨S2x2048x2816, .f32⟩
  | .hbm, ⟨15, _⟩ => ⟨S2x2048x2816, .f32⟩
  | .hbm, ⟨16, _⟩ => ⟨S_, .f32⟩
  | .hbm, ⟨17, _⟩ => ⟨S2x2048x2816, .f32⟩
  | .hbm, ⟨18, _⟩ => ⟨S2x2048x2816, .f32⟩
  | .hbm, ⟨19, _⟩ => ⟨S1x2816, .f32⟩
  | .hbm, ⟨20, _⟩ => ⟨S2816, .f32⟩
  | .hbm, ⟨21, _⟩ => ⟨S_, .f32⟩
  | .hbm, ⟨22, _⟩ => ⟨S2x1x2816, .f32⟩
  | .hbm, ⟨23, _⟩ => ⟨S2x2047x2816, .f32⟩
  | .hbm, ⟨24, _⟩ => ⟨S2x2048x2816, .f32⟩
  | .hbm, ⟨25, _⟩ => ⟨S1x1x2816, .f32⟩
  | .hbm, ⟨26, _⟩ => ⟨S2x2048x2816, .f32⟩
  | .hbm, ⟨27, _⟩ => ⟨S2x2048x2816, .f32⟩
  | .hbm, ⟨28, _⟩ => ⟨S2x2048x2816, .f32⟩
  | .hbm, ⟨29, _⟩ => ⟨S1x2816, .f32⟩
  | .hbm, ⟨30, _⟩ => ⟨S2816, .f32⟩
  | .hbm, ⟨31, _⟩ => ⟨S1x1x2816, .f32⟩
  | .hbm, ⟨32, _⟩ => ⟨S2x2048x2816, .f32⟩
  | .hbm, ⟨33, _⟩ => ⟨S2x2048x2816, .f32⟩
  | .hbm, ⟨34, _⟩ => ⟨S2x2048x2816, .f32⟩
  | .hbm, ⟨35, _⟩ => ⟨S1x1x2816, .f32⟩
  | .hbm, ⟨36, _⟩ => ⟨S2x2048x2816, .f32⟩
  | .hbm, ⟨37, _⟩ => ⟨S2x2048x2816, .f32⟩
  | .hbm, ⟨38, _⟩ => ⟨S2x2048x2816, .f32⟩
  | .hbm, ⟨39, _⟩ => ⟨S2x2048x2816, .f32⟩
  | .hbm, ⟨40, _⟩ => ⟨S_, .f32⟩
  | .hbm, ⟨41, _⟩ => ⟨S2x2048x2816, .f32⟩
  | .hbm, ⟨42, _⟩ => ⟨S2x2048x2816, .f32⟩
  | .hbm, ⟨43, _⟩ => ⟨S_, .f32⟩
  | .hbm, ⟨44, _⟩ => ⟨S2x2048x2816, .f32⟩
  | .hbm, ⟨45, _⟩ => ⟨S2x2048x2816, .f32⟩
  | .hbm, ⟨46, _⟩ => ⟨S2x2048x2816, .f32⟩
  | .hbm, ⟨47, _⟩ => ⟨S2x2048x2816, .f32⟩
  | .hbm, ⟨48, _⟩ => ⟨S2x2048x2816, .f32⟩
  | .hbm, ⟨49, _⟩ => ⟨S4096x2816, .f32⟩
  | .hbm, ⟨50, _⟩ => ⟨S4096x2816, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== NormFwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ConvFwd.lean ====
abbrev S4096x2048 : Shape := ⟨2, ![4096, 2048]⟩
abbrev S4x2048 : Shape := ⟨2, ![4, 2048]⟩
abbrev S1x2048 : Shape := ⟨2, ![1, 2048]⟩
abbrev S2048x256 : Shape := ⟨2, ![2048, 256]⟩
abbrev S4x256 : Shape := ⟨2, ![4, 256]⟩
abbrev S1x256 : Shape := ⟨2, ![1, 256]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4x2048, .f32⟩
  | .hbm, ⟨2, _⟩ => ⟨S1x2048, .f32⟩
  | .hbm, ⟨3, _⟩ => ⟨S4096x2048, .f32⟩
  | .local _ .vmem, ⟨0, _⟩ => ⟨S2048x256, .f32⟩
  | .local _ .vmem, ⟨1, _⟩ => ⟨S2048x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S2048x256, .f32⟩
  | .local _ .vmem, ⟨7, _⟩ => ⟨S2048x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvFwdRefIdeal.lean ====
abbrev S4096x2048 : Shape := ⟨2, ![4096, 2048]⟩
abbrev S4x2048 : Shape := ⟨2, ![4, 2048]⟩
abbrev S1x2048 : Shape := ⟨2, ![1, 2048]⟩
abbrev S2x2048x2048 : Shape := ⟨3, ![2, 2048, 2048]⟩
abbrev S2048 : Shape := ⟨1, ![2048]⟩
abbrev S_ : Shape := ⟨0, ![]⟩
abbrev S2x3x2048 : Shape := ⟨3, ![2, 3, 2048]⟩
abbrev S2x2045x2048 : Shape := ⟨3, ![2, 2045, 2048]⟩
abbrev S1x1x2048 : Shape := ⟨3, ![1, 1, 2048]⟩
abbrev S2x2x2048 : Shape := ⟨3, ![2, 2, 2048]⟩
abbrev S2x2046x2048 : Shape := ⟨3, ![2, 2046, 2048]⟩
abbrev S2x1x2048 : Shape := ⟨3, ![2, 1, 2048]⟩
abbrev S2x2047x2048 : Shape := ⟨3, ![2, 2047, 2048]⟩

abbrev nBuf : Space → Nat
  | .hbm => 55
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x2048, .f32⟩
  | .hbm, ⟨2, _⟩ => ⟨S1x2048, .f32⟩
  | .hbm, ⟨3, _⟩ => ⟨S2x2048x2048, .f32⟩
  | .hbm, ⟨4, _⟩ => ⟨S1x2048, .f32⟩
  | .hbm, ⟨5, _⟩ => ⟨S2048, .f32⟩
  | .hbm, ⟨6, _⟩ => ⟨S_, .f32⟩
  | .hbm, ⟨7, _⟩ => ⟨S2x3x2048, .f32⟩
  | .hbm, ⟨8, _⟩ => ⟨S2x2045x2048, .f32⟩
  | .hbm, ⟨9, _⟩ => ⟨S2x2048x2048, .f32⟩
  | .hbm, ⟨10, _⟩ => ⟨S1x1x2048, .f32⟩
  | .hbm, ⟨11, _⟩ => ⟨S2x2048x2048, .f32⟩
  | .hbm, ⟨12, _⟩ => ⟨S2x2048x2048, .f32⟩
  | .hbm, ⟨13, _⟩ => ⟨S_, .f32⟩
  | .hbm, ⟨14, _⟩ => ⟨S2x2048x2048, .f32⟩
  | .hbm, ⟨15, _⟩ => ⟨S2x2048x2048, .f32⟩
  | .hbm, ⟨16, _⟩ => ⟨S1x2048, .f32⟩
  | .hbm, ⟨17, _⟩ => ⟨S2048, .f32⟩
  | .hbm, ⟨18, _⟩ => ⟨S_, .f32⟩
  | .hbm, ⟨19, _⟩ => ⟨S2x2x2048, .f32⟩
  | .hbm, ⟨20, _⟩ => ⟨S2x2046x2048, .f32⟩
  | .hbm, ⟨21, _⟩ => ⟨S2x2048x2048, .f32⟩
  | .hbm, ⟨22, _⟩ => ⟨S1x1x2048, .f32⟩
  | .hbm, ⟨23, _⟩ => ⟨S2x2048x2048, .f32⟩
  | .hbm, ⟨24, _⟩ => ⟨S2x2048x2048, .f32⟩
  | .hbm, ⟨25, _⟩ => ⟨S2x2048x2048, .f32⟩
  | .hbm, ⟨26, _⟩ => ⟨S1x2048, .f32⟩
  | .hbm, ⟨27, _⟩ => ⟨S2048, .f32⟩
  | .hbm, ⟨28, _⟩ => ⟨S_, .f32⟩
  | .hbm, ⟨29, _⟩ => ⟨S2x1x2048, .f32⟩
  | .hbm, ⟨30, _⟩ => ⟨S2x2047x2048, .f32⟩
  | .hbm, ⟨31, _⟩ => ⟨S2x2048x2048, .f32⟩
  | .hbm, ⟨32, _⟩ => ⟨S1x1x2048, .f32⟩
  | .hbm, ⟨33, _⟩ => ⟨S2x2048x2048, .f32⟩
  | .hbm, ⟨34, _⟩ => ⟨S2x2048x2048, .f32⟩
  | .hbm, ⟨35, _⟩ => ⟨S2x2048x2048, .f32⟩
  | .hbm, ⟨36, _⟩ => ⟨S1x2048, .f32⟩
  | .hbm, ⟨37, _⟩ => ⟨S2048, .f32⟩
  | .hbm, ⟨38, _⟩ => ⟨S1x1x2048, .f32⟩
  | .hbm, ⟨39, _⟩ => ⟨S2x2048x2048, .f32⟩
  | .hbm, ⟨40, _⟩ => ⟨S2x2048x2048, .f32⟩
  | .hbm, ⟨41, _⟩ => ⟨S2x2048x2048, .f32⟩
  | .hbm, ⟨42, _⟩ => ⟨S1x1x2048, .f32⟩
  | .hbm, ⟨43, _⟩ => ⟨S2x2048x2048, .f32⟩
  | .hbm, ⟨44, _⟩ => ⟨S2x2048x2048, .f32⟩
  | .hbm, ⟨45, _⟩ => ⟨S2x2048x2048, .f32⟩
  | .hbm, ⟨46, _⟩ => ⟨S2x2048x2048, .f32⟩
  | .hbm, ⟨47, _⟩ => ⟨S_, .f32⟩
  | .hbm, ⟨48, _⟩ => ⟨S2x2048x2048, .f32⟩
  | .hbm, ⟨49, _⟩ => ⟨S2x2048x2048, .f32⟩
  | .hbm, ⟨50, _⟩ => ⟨S_, .f32⟩
  | .hbm, ⟨51, _⟩ => ⟨S2x2048x2048, .f32⟩
  | .hbm, ⟨52, _⟩ => ⟨S2x2048x2048, .f32⟩
  | .hbm, ⟨53, _⟩ => ⟨S2x2048x2048, .f32⟩
  | .hbm, ⟨54, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== GlaFwd.lean ====
abbrev S4096x1024 : Shape := ⟨2, ![4096, 1024]⟩
abbrev S1x1024 : Shape := ⟨2, ![1, 1024]⟩
abbrev S1x128 : Shape := ⟨2, ![1, 128]⟩
abbrev S131072x128 : Shape := ⟨2, ![131072, 128]⟩
abbrev S32x1024 : Shape := ⟨2, ![32, 1024]⟩
abbrev S1024x128 : Shape := ⟨2, ![1024, 128]⟩
abbrev S1x1024x128 : Shape := ⟨3, ![1, 1024, 128]⟩
abbrev S32x32 : Shape := ⟨2, ![32, 32]⟩
abbrev S128x128 : Shape := ⟨2, ![128, 128]⟩
abbrev S32x128 : Shape := ⟨2, ![32, 128]⟩
abbrev S8x128 : Shape := ⟨2, ![8, 128]⟩
abbrev S128x8 : Shape := ⟨2, ![128, 8]⟩
abbrev S128x1 : Shape := ⟨2, ![128, 1]⟩
abbrev S32 : Shape := ⟨1, ![32]⟩
abbrev S32x1 : Shape := ⟨2, ![32, 1]⟩

abbrev nBuf : Space → Nat
  | .hbm => 8
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x128, .f32⟩
  | .hbm, ⟨6, _⟩ => ⟨S4096x1024, .bf16⟩
  | .hbm, ⟨7, _⟩ => ⟨S131072x128, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S1x1024, .f32⟩
  | .local _ .vmem, ⟨9, _⟩ => ⟨S1x128, .f32⟩
  | .local _ .vmem, ⟨10, _⟩ => ⟨S32x1024, .bf16⟩
  | .local _ .vmem, ⟨11, _⟩ => ⟨S32x1024, .bf16⟩
  | .local _ .vmem, ⟨12, _⟩ => ⟨S1024x128, .f32⟩
  | .local _ .vmem, ⟨13, _⟩ => ⟨S1024x128, .f32⟩
  | .local _ .vmem, ⟨14, _⟩ => ⟨S1x1024x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 64, 1], ![false, false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_11 : BitVec 32 := 0#32
  let v8 : BitVec 1 := Scalar.cmpi .ne v7 c0_i32_11
  v8

def k0_off1 (i : grid0.Coords) : Fin 3 → Nat :=
  let arg2 : BitVec 32 := BitVec.ofNat 32 (i 2).val
  let v422 : Index := Scalar.indexCast arg2
  let c0_89 : Index := 0#32
  let c0_90 : Index := 0#32
  ![v422.toNat, 0, 0]
def k0_off2 (i : grid0.Coords) : Fin 3 → Nat :=
  let arg2 : BitVec 32 := BitVec.ofNat 32 (i 2).val
  let v9 : Index := Scalar.indexCast arg2
  let c0_12 : Index := 0#32
  let c0_13 : Index := 0#32
  ![v9.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg1
  let c0_i32 : BitVec 32 := 0#32
  ![v1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg1
  let c0_i32 : BitVec 32 := 0#32
  ![v1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg1
  let c0_i32 : BitVec 32 := 0#32
  ![v1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg1
  let c0_i32 : BitVec 32 := 0#32
  ![v1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg1
  let c0_i32 : BitVec 32 := 0#32
  ![v1.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg1
  let c1_i32 : BitVec 32 := 1#32
  let v2 : BitVec 32 := Scalar.muli v1 c1_i32
  let v3 : BitVec 32 := Scalar.addi v2 arg2
  let c0_i32 : BitVec 32 := 0#32
  let c0_i32_0 : BitVec 32 := 0#32
  ![v3.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== GlaFwdRefIdeal.lean ====
abbrev S4096x1024 : Shape := ⟨2, ![4096, 1024]⟩
abbrev S1x1024 : Shape := ⟨2, ![1, 1024]⟩
abbrev S1x128 : Shape := ⟨2, ![1, 128]⟩
abbrev S2x2048x8x128 : Shape := ⟨4, ![2, 2048, 8, 128]⟩
abbrev S8x128 : Shape := ⟨2, ![8, 128]⟩
abbrev S_ : Shape := ⟨0, ![]⟩
abbrev S1x1x8x128 : Shape := ⟨4, ![1, 1, 8, 128]⟩
abbrev S2x64x32x8x128 : Shape := ⟨5, ![2, 64, 32, 8, 128]⟩
abbrev S2x64x8x32x128 : Shape := ⟨5, ![2, 64, 8, 32, 128]⟩
abbrev S2x64x8x1x128 : Shape := ⟨5, ![2, 64, 8, 1, 128]⟩
abbrev S2x64x8x128 : Shape := ⟨4, ![2, 64, 8, 128]⟩
abbrev S2x8x128x128 : Shape := ⟨4, ![2, 8, 128, 128]⟩
abbrev S64x2x8x32x128 : Shape := ⟨5, ![64, 2, 8, 32, 128]⟩
abbrev S64x2x8x128 : Shape := ⟨4, ![64, 2, 8, 128]⟩
abbrev S1x2x8x32x128 : Shape := ⟨5, ![1, 2, 8, 32, 128]⟩
abbrev S2x8x32x128 : Shape := ⟨4, ![2, 8, 32, 128]⟩
abbrev S1x2x8x128 : Shape := ⟨4, ![1, 2, 8, 128]⟩
abbrev S2x8x128 : Shape := ⟨3, ![2, 8, 128]⟩
abbrev S32x32 : Shape := ⟨2, ![32, 32]⟩
abbrev S2x8x32x32 : Shape := ⟨4, ![2, 8, 32, 32]⟩
abbrev S2x8x128x1 : Shape := ⟨4, ![2, 8, 128, 1]⟩
abbrev S2x2048x8 : Shape := ⟨3, ![2, 2048, 8]⟩
abbrev S2x2048x8x1 : Shape := ⟨4, ![2, 2048, 8, 1]⟩
abbrev S1x1x1x128 : Shape := ⟨4, ![1, 1, 1, 128]⟩

abbrev nBuf : Space → Nat
  | .hbm => 180
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S1x1024, .f32⟩
  | 5 => ⟨S1x128, .f32⟩
  | 6 => ⟨S2x2048x8x128, .f32⟩
  | 7 => ⟨S2x2048x8x128, .f32⟩
  | 8 => ⟨S2x2048x8x128, .f32⟩
  | 9 => ⟨S8x128, .f32⟩
  | 10 => ⟨S_, .f32⟩
  | 11 => ⟨S8x128, .f32⟩
  | 12 => ⟨S8x128, .f32⟩
  | 13 => ⟨S2x2048x8x128, .f32⟩
  | 14 => ⟨S2x2048x8x128, .f32⟩
  | 15 => ⟨S_, .f32⟩
  | 16 => ⟨S2x2048x8x128, .f32⟩
  | 17 => ⟨S2x2048x8x128, .f32⟩
  | 18 => ⟨S_, .f32⟩
  | 19 => ⟨S2x2048x8x128, .f32⟩
  | 20 => ⟨S2x2048x8x128, .f32⟩
  | 21 => ⟨S1x1x8x128, .f32⟩
  | 22 => ⟨S2x2048x8x128, .f32⟩
  | 23 => ⟨S2x2048x8x128, .f32⟩
  | 24 => ⟨S1x1x8x128, .f32⟩
  | 25 => ⟨S2x2048x8x128, .f32⟩
  | 26 => ⟨S2x2048x8x128, .f32⟩
  | 27 => ⟨S2x2048x8x128, .f32⟩
  | 28 => ⟨S2x2048x8x128, .f32⟩
  | 29 => ⟨S_, .f32⟩
  | 30 => ⟨S2x2048x8x128, .f32⟩
  | 31 => ⟨S2x2048x8x128, .f32⟩
  | 32 => ⟨S_, .f32⟩
  | 33 => ⟨S2x2048x8x128, .f32⟩
  | 34 => ⟨S2x2048x8x128, .f32⟩
  | 35 => ⟨S2x2048x8x128, .f32⟩
  | 36 => ⟨S_, .f32⟩
  | 37 => ⟨S2x2048x8x128, .f32⟩
  | 38 => ⟨S2x2048x8x128, .f32⟩
  | 39 => ⟨S_, .f32⟩
  | 40 => ⟨S2x2048x8x128, .f32⟩
  | 41 => ⟨S2x2048x8x128, .f32⟩
  | 42 => ⟨S2x2048x8x128, .f32⟩
  | 43 => ⟨S2x64x32x8x128, .f32⟩
  | 44 => ⟨S2x64x8x32x128, .f32⟩
  | 45 => ⟨S2x64x32x8x128, .f32⟩
  | 46 => ⟨S2x64x8x32x128, .f32⟩
  | 47 => ⟨S2x64x32x8x128, .f32⟩
  | 48 => ⟨S2x64x8x32x128, .f32⟩
  | 49 => ⟨S2x64x32x8x128, .f32⟩
  | 50 => ⟨S2x64x8x32x128, .f32⟩
  | 51 => ⟨S_, .f32⟩
  | 52 => ⟨S_, .f32⟩
  | 53 => ⟨S2x64x8x32x128, .f32⟩
  | 54 => ⟨S2x64x8x1x128, .f32⟩
  | 55 => ⟨S2x64x8x128, .f32⟩
  | 56 => ⟨S2x64x8x32x128, .f32⟩
  | 57 => ⟨S2x64x8x32x128, .f32⟩
  | 58 => ⟨S2x64x8x32x128, .f32⟩
  | 59 => ⟨S2x64x8x32x128, .f32⟩
  | 60 => ⟨S2x64x8x32x128, .f32⟩
  | 61 => ⟨S2x64x8x1x128, .f32⟩
  | 62 => ⟨S2x64x8x32x128, .f32⟩
  | 63 => ⟨S2x64x8x32x128, .f32⟩
  | 64 => ⟨S2x64x8x32x128, .f32⟩
  | 65 => ⟨S2x64x8x32x128, .f32⟩
  | 66 => ⟨S_, .f32⟩
  | 67 => ⟨S2x8x128x128, .f32⟩
  | 68 => ⟨S64x2x8x32x128, .f32⟩
  | 69 => ⟨S64x2x8x32x128, .f32⟩
  | 70 => ⟨S64x2x8x32x128, .f32⟩
  | 71 => ⟨S64x2x8x32x128, .f32⟩
  | 72 => ⟨S64x2x8x128, .f32⟩
  | 73 => ⟨S_, .f32⟩
  | 74 => ⟨S64x2x8x32x128, .f32⟩
  | 75 => ⟨S_, .i32⟩
  | 76 => ⟨S64x2x8x32x128, .f32⟩
  | 77 => ⟨S64x2x8x32x128, .f32⟩
  | 78 => ⟨S64x2x8x32x128, .f32⟩
  | 79 => ⟨S64x2x8x32x128, .f32⟩
  | 80 => ⟨S64x2x8x128, .f32⟩
  | 81 => ⟨S_, .i32⟩
  | 82 => ⟨S2x8x128x128, .f32⟩
  | 83 => ⟨S64x2x8x32x128, .f32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S1x2x8x32x128, .f32⟩
  | 91 => ⟨S2x8x32x128, .f32⟩
  | 92 => ⟨S_, .i32⟩
  | 93 => ⟨S_, .i32⟩
  | 94 => ⟨S_, .i32⟩
  | 95 => ⟨S_, .i32⟩
  | 96 => ⟨S1x2x8x32x128, .f32⟩
  | 97 => ⟨S2x8x32x128, .f32⟩
  | 98 => ⟨S_, .i32⟩
  | 99 => ⟨S_, .i32⟩
  | 100 => ⟨S_, .i32⟩
  | 101 => ⟨S_, .i32⟩
  | 102 => ⟨S1x2x8x32x128, .f32⟩
  | 103 => ⟨S2x8x32x128, .f32⟩
  | 104 => ⟨S_, .i32⟩
  | 105 => ⟨S_, .i32⟩
  | 106 => ⟨S_, .i32⟩
  | 107 => ⟨S_, .i32⟩
  | 108 => ⟨S1x2x8x32x128, .f32⟩
  | 109 => ⟨S2x8x32x128, .f32⟩
  | 110 => ⟨S_, .i32⟩
  | 111 => ⟨S_, .i32⟩
  | 112 => ⟨S_, .i32⟩
  | 113 => ⟨S1x2x8x128, .f32⟩
  | 114 => ⟨S2x8x128, .f32⟩
  | 115 => ⟨S_, .i1⟩
  | 116 => ⟨S32x32, .i1⟩
  | 117 => ⟨S32x32, .i32⟩
  | 118 => ⟨S_, .i32⟩
  | 119 => ⟨S32x32, .i32⟩
  | 120 => ⟨S32x32, .i32⟩
  | 121 => ⟨S32x32, .i32⟩
  | 122 => ⟨S32x32, .i1⟩
  | 123 => ⟨S_, .i1⟩
  | 124 => ⟨S32x32, .i1⟩
  | 125 => ⟨S32x32, .i1⟩
  | 126 => ⟨S2x8x32x32, .f32⟩
  | 127 => ⟨S_, .f32⟩
  | _ => ⟨S4096x1024, .f32⟩

abbrev hbmTy0_1 (i : Nat) : BufTy := match i % 128 with
  | 0 => ⟨S_, .f32⟩
  | 1 => ⟨S2x8x32x32, .i1⟩
  | 2 => ⟨S2x8x32x32, .f32⟩
  | 3 => ⟨S2x8x32x32, .f32⟩
  | 4 => ⟨S2x8x32x128, .f32⟩
  | 5 => ⟨S2x8x32x128, .f32⟩
  | 6 => ⟨S2x8x128, .f32⟩
  | 7 => ⟨S2x8x128x1, .f32⟩
  | 8 => ⟨S2x8x128x128, .f32⟩
  | 9 => ⟨S2x8x128x128, .f32⟩
  | 10 => ⟨S2x8x128x128, .f32⟩
  | 11 => ⟨S2x8x128x128, .f32⟩
  | 12 => ⟨S2x8x32x128, .f32⟩
  | 13 => ⟨S1x2x8x32x128, .f32⟩
  | 14 => ⟨S_, .i32⟩
  | 15 => ⟨S_, .i32⟩
  | 16 => ⟨S_, .i32⟩
  | 17 => ⟨S_, .i32⟩
  | 18 => ⟨S64x2x8x32x128, .f32⟩
  | 19 => ⟨S_, .i32⟩
  | 20 => ⟨S_, .i32⟩
  | 21 => ⟨S2x64x32x8x128, .f32⟩
  | 22 => ⟨S2x2048x8x128, .f32⟩
  | 23 => ⟨S2x2048x8x128, .f32⟩
  | 24 => ⟨S_, .f32⟩
  | 25 => ⟨S2x2048x8, .f32⟩
  | 26 => ⟨S2x2048x8x1, .f32⟩
  | 27 => ⟨S_, .f32⟩
  | 28 => ⟨S2x2048x8x1, .f32⟩
  | 29 => ⟨S2x2048x8x1, .f32⟩
  | 30 => ⟨S_, .f32⟩
  | 31 => ⟨S2x2048x8x1, .f32⟩
  | 32 => ⟨S2x2048x8x1, .f32⟩
  | 33 => ⟨S2x2048x8x1, .f32⟩
  | 34 => ⟨S2x2048x8x128, .f32⟩
  | 35 => ⟨S2x2048x8x128, .f32⟩
  | 36 => ⟨S1x1x1x128, .f32⟩
  | 37 => ⟨S2x2048x8x128, .f32⟩
  | 38 => ⟨S2x2048x8x128, .f32⟩
  | 39 => ⟨S2x2048x8x128, .f32⟩
  | 40 => ⟨S2x2048x8x128, .f32⟩
  | 41 => ⟨S2x2048x8x128, .f32⟩
  | 42 => ⟨S_, .f32⟩
  | 43 => ⟨S2x2048x8x128, .f32⟩
  | 44 => ⟨S2x2048x8x128, .f32⟩
  | 45 => ⟨S_, .f32⟩
  | 46 => ⟨S2x2048x8x128, .f32⟩
  | 47 => ⟨S2x2048x8x128, .f32⟩
  | 48 => ⟨S2x2048x8x128, .f32⟩
  | 49 => ⟨S2x2048x8x128, .f32⟩
  | 50 => ⟨S4096x1024, .f32⟩
  | 51 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_call0_cst : Ref sig .tc := ⟨.hbm, 51, rfl⟩
abbrev main_call1_call0_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_4 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_5 : Ref sig .tc := ⟨.hbm, 73, rfl⟩
abbrev main_v51 : Ref sig .tc := ⟨.hbm, 74, rfl⟩
abbrev main_c : Ref sig .tc := ⟨.hbm, 75, rfl⟩
abbrev main_v52_0 : Ref sig .tc := ⟨.hbm, 76, rfl⟩
abbrev main_v52_1 : Ref sig .tc := ⟨.hbm, 77, rfl⟩
abbrev main_v52_2 : Ref sig .tc := ⟨.hbm, 78, rfl⟩
abbrev main_v52_3 : Ref sig .tc := ⟨.hbm, 79, rfl⟩
abbrev main_v52_4 : Ref sig .tc := ⟨.hbm, 80, rfl⟩
abbrev main_v52_5 : Ref sig .tc := ⟨.hbm, 81, rfl⟩
abbrev main_v52_6 : Ref sig .tc := ⟨.hbm, 82, rfl⟩
abbrev main_v52_7 : Ref sig .tc := ⟨.hbm, 83, rfl⟩
abbrev main_while0c_c_16 : Ref sig .tc := ⟨.hbm, 84, rfl⟩
abbrev main_while0c_v73 : Ref sig .tc := ⟨.hbm, 85, rfl⟩
abbrev main_while0b_call2_c : Ref sig .tc := ⟨.hbm, 86, rfl⟩
abbrev main_while0b_call2_c_0 : Ref sig .tc := ⟨.hbm, 87, rfl⟩
abbrev main_while0b_call2_c_1 : Ref sig .tc := ⟨.hbm, 88, rfl⟩
abbrev main_while0b_call2_c_2 : Ref sig .tc := ⟨.hbm, 89, rfl⟩
abbrev main_while0b_call2_v0 : Ref sig .tc := ⟨.hbm, 90, rfl⟩
abbrev main_while0b_v73 : Ref sig .tc := ⟨.hbm, 91, rfl⟩
abbrev main_while0b_call3_c : Ref sig .tc := ⟨.hbm, 92, rfl⟩
abbrev main_while0b_call3_c_0 : Ref sig .tc := ⟨.hbm, 93, rfl⟩
abbrev main_while0b_call3_c_1 : Ref sig .tc := ⟨.hbm, 94, rfl⟩
abbrev main_while0b_call3_c_2 : Ref sig .tc := ⟨.hbm, 95, rfl⟩
abbrev main_while0b_call3_v0 : Ref sig .tc := ⟨.hbm, 96, rfl⟩
abbrev main_while0b_v74 : Ref sig .tc := ⟨.hbm, 97, rfl⟩
abbrev main_while0b_call4_c : Ref sig .tc := ⟨.hbm, 98, rfl⟩
abbrev main_while0b_call4_c_0 : Ref sig .tc := ⟨.hbm, 99, rfl⟩
abbrev main_while0b_call4_c_1 : Ref sig .tc := ⟨.hbm, 100, rfl⟩
abbrev main_while0b_call4_c_2 : Ref sig .tc := ⟨.hbm, 101, rfl⟩
abbrev main_while0b_call4_v0 : Ref sig .tc := ⟨.hbm, 102, rfl⟩
abbrev main_while0b_v75 : Ref sig .tc := ⟨.hbm, 103, rfl⟩
abbrev main_while0b_call5_c : Ref sig .tc := ⟨.hbm, 104, rfl⟩
abbrev main_while0b_call5_c_0 : Ref sig .tc := ⟨.hbm, 105, rfl⟩
abbrev main_while0b_call5_c_1 : Ref sig .tc := ⟨.hbm, 106, rfl⟩
abbrev main_while0b_call5_c_2 : Ref sig .tc := ⟨.hbm, 107, rfl⟩
abbrev main_while0b_call5_v0 : Ref sig .tc := ⟨.hbm, 108, rfl⟩
abbrev main_while0b_v76 : Ref sig .tc := ⟨.hbm, 109, rfl⟩
abbrev main_while0b_call6_c : Ref sig .tc := ⟨.hbm, 110, rfl⟩
abbrev main_while0b_call6_c_0 : Ref sig .tc := ⟨.hbm, 111, rfl⟩
abbrev main_while0b_call6_c_1 : Ref sig .tc := ⟨.hbm, 112, rfl⟩
abbrev main_while0b_call6_v0 : Ref sig .tc := ⟨.hbm, 113, rfl⟩
abbrev main_while0b_v77 : Ref sig .tc := ⟨.hbm, 114, rfl⟩
abbrev main_while0b_c_16 : Ref sig .tc := ⟨.hbm, 115, rfl⟩
abbrev main_while0b_v78 : Ref sig .tc := ⟨.hbm, 116, rfl⟩
abbrev main_while0b_call7_v0 : Ref sig .tc := ⟨.hbm, 117, rfl⟩
abbrev main_while0b_call7_c : Ref sig .tc := ⟨.hbm, 118, rfl⟩
abbrev main_while0b_call7_v1 : Ref sig .tc := ⟨.hbm, 119, rfl⟩
abbrev main_while0b_call7_v2 : Ref sig .tc := ⟨.hbm, 120, rfl⟩
abbrev main_while0b_call7_v3 : Ref sig .tc := ⟨.hbm, 121, rfl⟩
abbrev main_while0b_call7_v4 : Ref sig .tc := ⟨.hbm, 122, rfl⟩
abbrev main_while0b_call7_c_0 : Ref sig .tc := ⟨.hbm, 123, rfl⟩
abbrev main_while0b_call7_v5 : Ref sig .tc := ⟨.hbm, 124, rfl⟩
abbrev main_while0b_v79 : Ref sig .tc := ⟨.hbm, 125, rfl⟩
abbrev main_while0b_v80 : Ref sig .tc := ⟨.hbm, 126, rfl⟩
abbrev main_while0b_cst_17 : Ref sig .tc := ⟨.hbm, 127, rfl⟩
abbrev main_while0b_call8_v0 : Ref sig .tc := ⟨.hbm, 128, rfl⟩
abbrev main_while0b_call8_v1 : Ref sig .tc := ⟨.hbm, 129, rfl⟩
abbrev main_while0b_call8_v2 : Ref sig .tc := ⟨.hbm, 130, rfl⟩
abbrev main_while0b_v81 : Ref sig .tc := ⟨.hbm, 131, rfl⟩
abbrev main_while0b_v82 : Ref sig .tc := ⟨.hbm, 132, rfl⟩
abbrev main_while0b_v83 : Ref sig .tc := ⟨.hbm, 133, rfl⟩
abbrev main_while0b_v84 : Ref sig .tc := ⟨.hbm, 134, rfl⟩
abbrev main_while0b_v85 : Ref sig .tc := ⟨.hbm, 135, rfl⟩
abbrev main_while0b_v86 : Ref sig .tc := ⟨.hbm, 136, rfl⟩
abbrev main_while0b_v87 : Ref sig .tc := ⟨.hbm, 137, rfl⟩
abbrev main_while0b_v88 : Ref sig .tc := ⟨.hbm, 138, rfl⟩
abbrev main_while0b_v89 : Ref sig .tc := ⟨.hbm, 139, rfl⟩
abbrev main_while0b_v90 : Ref sig .tc := ⟨.hbm, 140, rfl⟩
abbrev main_while0b_call9_v0 : Ref sig .tc := ⟨.hbm, 141, rfl⟩
abbrev main_while0b_call9_c : Ref sig .tc := ⟨.hbm, 142, rfl⟩
abbrev main_while0b_call9_c_0 : Ref sig .tc := ⟨.hbm, 143, rfl⟩
abbrev main_while0b_call9_c_1 : Ref sig .tc := ⟨.hbm, 144, rfl⟩
abbrev main_while0b_call9_c_2 : Ref sig .tc := ⟨.hbm, 145, rfl⟩
abbrev main_while0b_v91 : Ref sig .tc := ⟨.hbm, 146, rfl⟩
abbrev main_while0b_c_18 : Ref sig .tc := ⟨.hbm, 147, rfl⟩
abbrev main_while0b_v92 : Ref sig .tc := ⟨.hbm, 148, rfl⟩
abbrev main_v53 : Ref sig .tc := ⟨.hbm, 149, rfl⟩
abbrev main_v54 : Ref sig .tc := ⟨.hbm, 150, rfl⟩
abbrev main_v55 : Ref sig .tc := ⟨.hbm, 151, rfl⟩
abbrev main_cst_6 : Ref sig .tc := ⟨.hbm, 152, rfl⟩
abbrev main_v56 : Ref sig .tc := ⟨.hbm, 153, rfl⟩
abbrev main_v57 : Ref sig .tc := ⟨.hbm, 154, rfl⟩
abbrev main_cst_7 : Ref sig .tc := ⟨.hbm, 155, rfl⟩
abbrev main_v58 : Ref sig .tc := ⟨.hbm, 156, rfl⟩
abbrev main_v59 : Ref sig .tc := ⟨.hbm, 157, rfl⟩
abbrev main_cst_8 : Ref sig .tc := ⟨.hbm, 158, rfl⟩
abbrev main_v60 : Ref sig .tc := ⟨.hbm, 159, rfl⟩
abbrev main_v61 : Ref sig .tc := ⟨.hbm, 160, rfl⟩
abbrev main_v62 : Ref sig .tc := ⟨.hbm, 161, rfl⟩
abbrev main_v63 : Ref sig .tc := ⟨.hbm, 162, rfl⟩
abbrev main_v64 : Ref sig .tc := ⟨.hbm, 163, rfl⟩
abbrev main_v65 : Ref sig .tc := ⟨.hbm, 164, rfl⟩
abbrev main_v66 : Ref sig .tc := ⟨.hbm, 165, rfl⟩
abbrev main_v67 : Ref sig .tc := ⟨.hbm, 166, rfl⟩
abbrev main_v68 : Ref sig .tc := ⟨.hbm, 167, rfl⟩
abbrev main_call10_v0 : Ref sig .tc := ⟨.hbm, 168, rfl⟩
abbrev main_call10_v1 : Ref sig .tc := ⟨.hbm, 169, rfl⟩
abbrev main_call10_cst : Ref sig .tc := ⟨.hbm, 170, rfl⟩
abbrev main_call10_v2 : Ref sig .tc := ⟨.hbm, 171, rfl⟩
abbrev main_call10_v3 : Ref sig .tc := ⟨.hbm, 172, rfl⟩
abbrev main_call10_cst_0 : Ref sig .tc := ⟨.hbm, 173, rfl⟩
abbrev main_call10_v4 : Ref sig .tc := ⟨.hbm, 174, rfl⟩
abbrev main_call10_v5 : Ref sig .tc := ⟨.hbm, 175, rfl⟩
abbrev main_v69 : Ref sig .tc := ⟨.hbm, 176, rfl⟩
abbrev main_v70 : Ref sig .tc := ⟨.hbm, 177, rfl⟩
abbrev main_v71 : Ref sig .tc := ⟨.hbm, 178, rfl⟩
abbrev main_v72 : Ref sig .tc := ⟨.hbm, 179, rfl⟩

abbrev nD : Nat := 1
abbrev τ : Topo := Topo.v7x

variable {F : FTy → Type} [FloatOps F]

abbrev main_while0_count : Scf.Loop 32 := ⟨0#32, 64#32, 1#32⟩
-- ==== AdamUp.lean ====
abbrev S4096x1408 : Shape := ⟨2, ![4096, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpRefIdeal.lean ====
abbrev S4096x1408 : Shape := ⟨2, ![4096, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S_, .f32⟩
  | .hbm, ⟨7, _⟩ => ⟨S4096x1408, .f32⟩
  | .hbm, ⟨8, _⟩ => ⟨S4096x1408, .f32⟩
  | .hbm, ⟨9, _⟩ => ⟨S_, .f32⟩
  | .hbm, ⟨10, _⟩ => ⟨S4096x1408, .f32⟩
  | .hbm, ⟨11, _⟩ => ⟨S4096x1408, .f32⟩
  | .hbm, ⟨12, _⟩ => ⟨S4096x1408, .f32⟩
  | .hbm, ⟨13, _⟩ => ⟨S_, .f32⟩
  | .hbm, ⟨14, _⟩ => ⟨S4096x1408, .f32⟩
  | .hbm, ⟨15, _⟩ => ⟨S4096x1408, .f32⟩
  | .hbm, ⟨16, _⟩ => ⟨S4096x1408, .f32⟩
  | .hbm, ⟨17, _⟩ => ⟨S_, .f32⟩
  | .hbm, ⟨18, _⟩ => ⟨S4096x1408, .f32⟩
  | .hbm, ⟨19, _⟩ => ⟨S4096x1408, .f32⟩
  | .hbm, ⟨20, _⟩ => ⟨S4096x1408, .f32⟩
  | .hbm, ⟨21, _⟩ => ⟨S_, .f32⟩
  | .hbm, ⟨22, _⟩ => ⟨S4096x1408, .f32⟩
  | .hbm, ⟨23, _⟩ => ⟨S4096x1408, .f32⟩
  | .hbm, ⟨24, _⟩ => ⟨S_, .f32⟩
  | .hbm, ⟨25, _⟩ => ⟨S4096x1408, .f32⟩
  | .hbm, ⟨26, _⟩ => ⟨S4096x1408, .f32⟩
  | .hbm, ⟨27, _⟩ => ⟨S4096x1408, .f32⟩
  | .hbm, ⟨28, _⟩ => ⟨S_, .f32⟩
  | .hbm, ⟨29, _⟩ => ⟨S4096x1408, .f32⟩
  | .hbm, ⟨30, _⟩ => ⟨S4096x1408, .f32⟩
  | .hbm, ⟨31, _⟩ => ⟨S4096x1408, .f32⟩
  | .hbm, ⟨32, _⟩ => ⟨S_, .f32⟩
  | .hbm, ⟨33, _⟩ => ⟨S4096x1408, .f32⟩
  | .hbm, ⟨34, _⟩ => ⟨S4096x1408, .f32⟩
  | .hbm, ⟨35, _⟩ => ⟨S4096x1408, .f32⟩
  | .hbm, ⟨36, _⟩ => ⟨S_, .f32⟩
  | .hbm, ⟨37, _⟩ => ⟨S4096x1408, .f32⟩
  | .hbm, ⟨38, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== HeadBwd.lean ====
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1x1 : Shape := ⟨2, ![1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S1x128, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== HeadBwdRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_cst_8 : Ref sig .tc := ⟨.hbm, 34, rfl⟩
abbrev main_v22 : Ref sig .tc := ⟨.hbm, 35, rfl⟩
abbrev main_v23 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_10 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_11 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_12 : Ref sig .tc := ⟨.hbm, 57, rfl⟩
abbrev main_v41 : Ref sig .tc := ⟨.hbm, 58, rfl⟩
abbrev main_v42 : Ref sig .tc := ⟨.hbm, 59, rfl⟩
abbrev main_cst_13 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Proof.Attn.Row.lean ====
/-
  The gradient of one head of a softmax attention at ONE query row, over the extended reals: plain functions of the
  row of `q`, the head's 256 memory rows of `k` and of `v`, and the row of the gradient of the result. Both programs'
  results are stated through them.
-/
module

public import Idealize.ShloMosaic.Lib.Pointwise

@[expose] public section

noncomputable section

open Idealize.ShloMosaic

namespace Cert.Attn

/-- `1/16`, the factor of the scores. -/
abbrev sixteenth : EReal := Ideal.ofBits .f32 0x3D800000#32
/-- `-∞`, where the maximum over the memory starts. -/
abbrev least : EReal := Ideal.ofBits .f32 0xFF800000#32

variable (q : Fin 256 → EReal) (K V : Fin 256 → Fin 256 → EReal) (o : Fin 256 → EReal)

/-- The score of memory row `j`: `q · k_j / 16`. -/
def score (j : Fin 256) : EReal := (∑ d, q d * K j d) * sixteenth
/-- The largest score of the row. -/
def top : EReal := max least (Finset.univ.fold max least (score q K))
/-- The exponential of a score less the largest one. -/
def ex (j : Fin 256) : EReal := Ideal.exp (score q K j - top q K)
/-- The sum of the row's exponentials. -/
def tot : EReal := ∑ j, ex q K j
/-- The attention weight of memory row `j`. -/
def pr (j : Fin 256) : EReal := Ideal.div (ex q K j) (tot q K)
/-- The gradient of the weight of memory row `j`: `do · v_j`. -/
def dp (j : Fin 256) : EReal := ∑ d, o d * V j d
/-- What the weights' common divisor passes back: `∑ dp_j · ex_j / tot²`. -/
def corr : EReal := ∑ j, dp V o j * Ideal.div 1 (tot q K * tot q K) * ex q K j
/-- The gradient of `q · k_j`. -/
def ds (j : Fin 256) : EReal := (Ideal.div (dp V o j) (tot q K) + (0 - corr q K V o)) * ex q K j * sixteenth
/-- The gradient of the row of `q`, at coordinate `d`. -/
def dq (d : Fin 256) : EReal := ∑ j, ds q K V o j * K j d

/-! The three gradients over whole arrays: two sequences of 2048 tokens, four heads of 256 columns, 256 memory rows. -/

/-- Column `d` of head `h`. -/
abbrev hcol (h : Fin 4) (d : Fin 256) : Fin 1024 := ⟨256 * h.val + d.val, by omega⟩
/-- Token `l` of sequence `b`. -/
abbrev tok (b : Fin 2) (l : Fin 2048) : Fin 4096 := ⟨2048 * b.val + l.val, by omega⟩
/-- Memory row `j` of sequence `b`. -/
abbrev mrow (b : Fin 2) (j : Fin 256) : Fin 512 := ⟨256 * b.val + j.val, by omega⟩

variable (A0 : Fin 4096 → Fin 1024 → EReal) (A1 A2 : Fin 512 → Fin 1024 → EReal) (A3 : Fin 4096 → Fin 1024 → EReal)
variable (b : Fin 2) (h : Fin 4)

/-- Head `h` of the row of token `l`. -/
abbrev trow (l : Fin 2048) (d : Fin 256) : EReal := A0 (tok b l) (hcol h d)
/-- Head `h` of the memory of sequence `b`. -/
abbrev mem (j d : Fin 256) : EReal := A1 (mrow b j) (hcol h d)

/-- The gradient of `q` at token `l`, column `d` of head `h`. -/
def gdq (l : Fin 2048) (d : Fin 256) : EReal := dq (trow A0 b h l) (mem A1 b h) (mem A2 b h) (trow A3 b h l) d
/-- The gradient of `k` at memory row `j`, column `d` of head `h`: a sum over the sequence's tokens. -/
def gdk (j d : Fin 256) : EReal :=
  ∑ l : Fin 2048, ds (trow A0 b h l) (mem A1 b h) (mem A2 b h) (trow A3 b h l) j * trow A0 b h l d
/-- The gradient of `v` at memory row `j`, column `d` of head `h`: a sum over the sequence's tokens. -/
def gdv (j d : Fin 256) : EReal := ∑ l : Fin 2048, pr (trow A0 b h l) (mem A1 b h) j * trow A3 b h l d

/-- The head of a column. -/
abbrev hd (e : Fin 1024) : Fin 4 := ⟨e.val / 256, by omega⟩
/-- A column's place in its head. -/
abbrev hc (e : Fin 1024) : Fin 256 := ⟨e.val % 256, by omega⟩

/-- The gradient of `q` as an array. -/
def arrDq (r : Fin 4096) (e : Fin 1024) : EReal :=
  gdq A0 A1 A2 A3 ⟨r.val / 2048, by omega⟩ (hd e) ⟨r.val % 2048, by omega⟩ (hc e)
/-- The gradient of `k` as an array. -/
def arrDk (r : Fin 512) (e : Fin 1024) : EReal :=
  gdk A0 A1 A2 A3 ⟨r.val / 256, by omega⟩ (hd e) ⟨r.val % 256, by omega⟩ (hc e)
/-- The gradient of `v` as an array. -/
def arrDv (r : Fin 512) (e : Fin 1024) : EReal :=
  gdv A0 A1 A3 ⟨r.val / 256, by omega⟩ (hd e) ⟨r.val % 256, by omega⟩ (hc e)

end Cert.Attn

end
end
-- ==== Proof.Attn.Head.lean ====
/-
  One head of the kernel's body at one grid point, read at an index: the body's payloads, given the head's columns of
  the four input blocks, are the row functions of Row.lean. Head 0's payloads are read; the other three heads' are the
  same functions, cut elsewhere by the printer, and equal head 0's by definition.
-/
module

public import proofs.«01_k».proof.Proof.Gen.AttnBwdIdeal.Value
public import proofs.«01_k».proof.Proof.Attn.Row
public import Idealize.ShloMosaic.Lib.Pipeline.ValueKit
public import Idealize.ShloMosaic.Lib.Pipeline.ReadBack

@[expose] public section

set_option maxRecDepth 16384

noncomputable section

open Idealize.ShloMosaic Idealize.ShloMosaic.TcCoe

namespace Cert.AttnBwdIdeal.Attn

open Cert.AttnBwdIdeal Cert.AttnBwdIdeal.Gen Cert.Attn

variable (q o : Vec Ideal S512x256 .bf16) (k v : Vec Ideal S256x256 .bf16) (acc : Vec Ideal S256x256 .f32)

/-- Row `r` of a [512, 256] tile. -/
abbrev row (x : Vec Ideal S512x256 .bf16) (r : Fin 512) (d : Fin 256) : EReal := x (ix2 r d)
/-- A [256, 256] tile as a function of its two coordinates. -/
abbrev mat (x : Vec Ideal S256x256 .bf16) (j d : Fin 256) : EReal := x (ix2 j d)

/-- The body's exponentials are the row's. -/
theorem pay9_at (r : Fin 512) (j : Fin 256) : k0_pay9 q k (ix2 r j) = ex (row q r) (mat k) j := by
  pointwise [k0_pay9, k0_pay7, k0_pay8]
  rfl

/-- The body's row sums are the row's. -/
theorem pay10_at (r : Fin 512) : k0_pay10 q k (ix2 r 0) = tot (row q r) (mat k) := by
  pointwise [k0_pay10]
  simp only [pay9_at]
  rfl

/-- The body's gradient of the weights is the row's. -/
theorem pay12_at (r : Fin 512) (j : Fin 256) : k0_pay12 v o (ix2 r j) = dp (mat v) (row o r) j := by
  pointwise [k0_pay12, k0_pay11]
  rfl

/-- The summand of the body's correction is the row's. -/
theorem pay14_at (r : Fin 512) (j : Fin 256) : k0_pay14 q k v o (ix2 r j)
    = dp (mat v) (row o r) j * Ideal.div 1 (tot (row q r) (mat k) * tot (row q r) (mat k)) * ex (row q r) (mat k) j := by
  pointwise [k0_pay14]
  simp only [pay9_at, pay10_at, pay12_at]

/-- The body's gradient of the scores is the row's. -/
theorem pay15_at (r : Fin 512) (j : Fin 256) :
    k0_pay15 (k0_pay9 q k) (k0_pay10 q k) (k0_pay12 v o) (k0_pay14 q k v o) (ix2 r j)
      = ds (row q r) (mat k) (mat v) (row o r) j := by
  pointwise [k0_pay15]
  simp only [pay9_at, pay10_at, pay12_at, pay14_at]
  simp only [Finset.univ_unique, Finset.sum_singleton]
  rfl

/-- One head's `dq` at a grid point. -/
def headDq : Vec Ideal S512x256 .bf16 :=
  k0_pay16 (k0_pay8 k) (k0_pay9 q k) (k0_pay10 q k) (k0_pay12 v o) (k0_pay14 q k v o)
/-- One head's `dk` after a grid point, `acc` before it. -/
def accDk : Vec Ideal S256x256 .f32 :=
  k0_pay17 (k0_pay7 q) (k0_pay9 q k) (k0_pay10 q k) (k0_pay12 v o) (k0_pay14 q k v o) acc
/-- One head's `dv` after a grid point, `acc` before it. -/
def accDv : Vec Ideal S256x256 .f32 := k0_pay18 (k0_pay13 q k o) acc

/-- One head's `dq` is the row's gradient. -/
theorem headDq_at (r : Fin 512) (d : Fin 256) :
    headDq q o k v (ix2 r d) = dq (row q r) (mat k) (mat v) (row o r) d := by
  unfold headDq
  pointwise [k0_pay16, k0_pay8]
  simp only [pay15_at]
  rfl

/-- One head's `dk` gains the rows' `ds_j · q_d`. -/
theorem accDk_at (j d : Fin 256) : accDk q o k v acc (ix2 j d)
    = acc (ix2 j d) + ∑ r : Fin 512, ds (row q r) (mat k) (mat v) (row o r) j * q (ix2 r d) := by
  unfold accDk
  pointwise [k0_pay17, k0_pay7]
  simp only [pay15_at]

/-- One head's `dv` gains the rows' `p_j · do_d`. -/
theorem accDv_at (j d : Fin 256) : accDv q o k acc (ix2 j d)
    = acc (ix2 j d) + ∑ r : Fin 512, pr (row q r) (mat k) j * o (ix2 r d) := by
  unfold accDv
  pointwise [k0_pay18, k0_pay13, k0_pay10, k0_pay11]
  simp only [pay9_at]
  rfl

end Cert.AttnBwdIdeal.Attn

end
end
-- ==== Proof.Attn.Blocks.lean ====
/-
  What the body leaves in the three output blocks at one grid point, read at an index: the head is the column's block
  of 256, and each element is a row function of Row.lean over the point's input blocks.
-/
module

public import proofs.«01_k».proof.Proof.Attn.Head

@[expose] public section

set_option maxRecDepth 16384

noncomputable section

open Idealize.ShloMosaic Idealize.ShloMosaic.TcCoe

namespace Cert.AttnBwdIdeal.Attn

open Cert.AttnBwdIdeal Cert.AttnBwdIdeal.Gen Cert.Attn

variable (m : (ℓ : Loc nD τ sig) → Buf (Elt Ideal) ℓ)

/-- An index that one of the newer pieces covers reads nothing of the oldest one. -/
theorem canon_drop {Val : EltTy → Type} [∀ e, Nonempty (Val e)] {s : Shape} {e : EltTy} :
    ∀ (L : List (View.Piece Val s e)) (p : View.Piece Val s e) (y : s.Idx), (∃ q ∈ L, y ∈ q.1.set) →
      View.canon (L ++ [p]) y = View.canon L y
  | [], _, _, h => by obtain ⟨q, hq, -⟩ := h; exact absurd hq List.not_mem_nil
  | q :: L, p, y, h => by
    by_cases hy : y ∈ q.1.set
    · rw [← Rect.map_emb_univ] at hy
      obtain ⟨x, -, rfl⟩ := Finset.mem_map.mp hy
      rw [List.cons_append, View.canon_cons_emb, View.canon_cons_emb]
    · rw [List.cons_append, View.canon_cons_of_not_mem _ _ hy, View.canon_cons_of_not_mem _ _ hy]
      refine canon_drop L p y ?_
      obtain ⟨r, hr, hr'⟩ := h
      rcases List.mem_cons.mp hr with rfl | hr
      · exact absurd hr' hy
      · exact ⟨r, hr, hr'⟩

/-- Row `r` of a [512, 1024] block, head `h`'s columns. -/
abbrev rowOf (x : Vec Ideal S512x1024 .bf16) (h : Fin 4) (r : Fin 512) (d : Fin 256) : EReal := x (ix2 r (hcol h d))
/-- A [256, 1024] block, head `h`'s columns. -/
abbrev matOf (x : Vec Ideal S256x1024 .bf16) (h : Fin 4) (j d : Fin 256) : EReal := x (ix2 j (hcol h d))

/-- One tile of a block: its rows are the block's, head `h`'s columns. -/
theorem row_ld (x : Vec Ideal S512x1024 .bf16) (h : Fin 4) (off : Fin 2 → ℕ) (hoff : off = ![0, 256 * h.val])
    (inb : ∀ a, off a + S512x256.size a ≤ S512x1024.size a) (r : Fin 512) :
    row (View.ld x (Rect.unit (s := S512x1024) off S512x256.size inb)) r = rowOf x h r := by
  subst hoff
  funext d
  show x _ = x _
  congr 1
  funext a
  apply Fin.ext
  match a with
  | ⟨0, _⟩ => show 0 + 1 * r.val = r.val; omega
  | ⟨1, _⟩ => show 256 * h.val + 1 * d.val = 256 * h.val + d.val; omega

/-- One tile of a memory block: head `h`'s columns. -/
theorem mat_ld (x : Vec Ideal S256x1024 .bf16) (h : Fin 4) (off : Fin 2 → ℕ) (hoff : off = ![0, 256 * h.val])
    (inb : ∀ a, off a + S256x256.size a ≤ S256x1024.size a) :
    mat (View.ld x (Rect.unit (s := S256x1024) off S256x256.size inb)) = matOf x h := by
  subst hoff
  funext j d
  show x _ = x _
  congr 1
  funext a
  apply Fin.ext
  match a with
  | ⟨0, _⟩ => show 0 + 1 * j.val = j.val; omega
  | ⟨1, _⟩ => show 256 * h.val + 1 * d.val = 256 * h.val + d.val; omega

/-- A tile of an accumulated block at an index is the block at head `h`'s column. -/
theorem ld_acc (x : Vec Ideal S256x1024 .f32) (h : Fin 4) (off : Fin 2 → ℕ) (hoff : off = ![0, 256 * h.val])
    (inb : ∀ a, off a + S256x256.size a ≤ S256x1024.size a) (j d : Fin 256) :
    View.ld x (Rect.unit (s := S256x1024) off S256x256.size inb) (ix2 j d) = x (ix2 j (hcol h d)) := by
  subst hoff
  show x _ = x _
  congr 1
  funext a
  apply Fin.ext
  match a with
  | ⟨0, _⟩ => show 0 + 1 * j.val = j.val; omega
  | ⟨1, _⟩ => show 256 * h.val + 1 * d.val = 256 * h.val + d.val; omega

/-- The `dq` block of a point, at row `r` and column `d` of head `h`, from the point's input blocks. -/
def DQ (x0 : Vec Ideal S512x1024 .bf16) (x1 x2 : Vec Ideal S256x1024 .bf16) (x3 : Vec Ideal S512x1024 .bf16)
    (h : Fin 4) (r : Fin 512) (d : Fin 256) : EReal :=
  dq (rowOf x0 h r) (matOf x1 h) (matOf x2 h) (rowOf x3 h r) d
/-- What a point adds to `dk`, at memory row `j` and column `d` of head `h`. -/
def DK (x0 : Vec Ideal S512x1024 .bf16) (x1 x2 : Vec Ideal S256x1024 .bf16) (x3 : Vec Ideal S512x1024 .bf16)
    (h : Fin 4) (j d : Fin 256) : EReal :=
  ∑ r : Fin 512, ds (rowOf x0 h r) (matOf x1 h) (matOf x2 h) (rowOf x3 h r) j * rowOf x0 h r d
/-- What a point adds to `dv`. -/
def DV (x0 : Vec Ideal S512x1024 .bf16) (x1 : Vec Ideal S256x1024 .bf16) (x3 : Vec Ideal S512x1024 .bf16)
    (h : Fin 4) (j d : Fin 256) : EReal :=
  ∑ r : Fin 512, pr (rowOf x0 h r) (matOf x1 h) j * rowOf x3 h r d

/-- Head `H`'s tile of the `dq` block, at the tile index `x` of row `r` and column `d` of head `h`. -/
theorem tile_dq (x0 : Vec Ideal S512x1024 .bf16) (x1 x2 : Vec Ideal S256x1024 .bf16) (x3 : Vec Ideal S512x1024 .bf16)
    (H h : Fin 4) (r : Fin 512) (d : Fin 256) (off : Fin 2 → ℕ) (hoff : off = ![0, 256 * H.val])
    (inb : ∀ a, off a + S512x256.size a ≤ S512x1024.size a) (inb' : ∀ a, off a + S256x256.size a ≤ S256x1024.size a)
    (x : S512x256.Idx) (hx0 : r.val = (x 0).val) (hx1 : 256 * h.val + d.val = 256 * H.val + (x 1).val) :
    headDq (View.ld x0 (Rect.unit (s := S512x1024) off S512x256.size inb))
      (View.ld x3 (Rect.unit (s := S512x1024) off S512x256.size inb))
      (View.ld x1 (Rect.unit (s := S256x1024) off S256x256.size inb'))
      (View.ld x2 (Rect.unit (s := S256x1024) off S256x256.size inb')) x = DQ x0 x1 x2 x3 h r d := by
  obtain ⟨a, e, rfl⟩ : ∃ (a : Fin 512) (e : Fin 256), x = ix2 a e := ⟨x 0, x 1, eq_ix2 x⟩
  have e1 : 256 * h.val + d.val = 256 * H.val + e.val := hx1
  obtain rfl : r = a := Fin.ext hx0
  obtain rfl : h = H := Fin.ext (by omega)
  obtain rfl : d = e := Fin.ext (by omega)
  rw [headDq_at, row_ld x0 h off hoff, row_ld x3 h off hoff, mat_ld x1 h off hoff, mat_ld x2 h off hoff]
  rfl

/-- Head `H`'s tile of the `dk` block. -/
theorem tile_dk (x0 : Vec Ideal S512x1024 .bf16) (x1 x2 : Vec Ideal S256x1024 .bf16) (x3 : Vec Ideal S512x1024 .bf16)
    (acc : Vec Ideal S256x1024 .f32)
    (H h : Fin 4) (j d : Fin 256) (off : Fin 2 → ℕ) (hoff : off = ![0, 256 * H.val])
    (inb : ∀ a, off a + S512x256.size a ≤ S512x1024.size a) (inb' : ∀ a, off a + S256x256.size a ≤ S256x1024.size a)
    (x : S256x256.Idx) (hx0 : j.val = (x 0).val) (hx1 : 256 * h.val + d.val = 256 * H.val + (x 1).val) :
    accDk (View.ld x0 (Rect.unit (s := S512x1024) off S512x256.size inb))
      (View.ld x3 (Rect.unit (s := S512x1024) off S512x256.size inb))
      (View.ld x1 (Rect.unit (s := S256x1024) off S256x256.size inb'))
      (View.ld x2 (Rect.unit (s := S256x1024) off S256x256.size inb'))
      (View.ld acc (Rect.unit (s := S256x1024) off S256x256.size inb')) x
      = acc (ix2 j (hcol h d)) + DK x0 x1 x2 x3 h j d := by
  obtain ⟨a, e, rfl⟩ : ∃ (a : Fin 256) (e : Fin 256), x = ix2 a e := ⟨x 0, x 1, eq_ix2 x⟩
  have e1 : 256 * h.val + d.val = 256 * H.val + e.val := hx1
  obtain rfl : j = a := Fin.ext hx0
  obtain rfl : h = H := Fin.ext (by omega)
  obtain rfl : d = e := Fin.ext (by omega)
  rw [accDk_at]
  refine congrArg₂ (· + ·) (ld_acc acc h off hoff inb' j d) (Finset.sum_congr rfl fun r _ => ?_)
  rw [row_ld x0 h off hoff, row_ld x3 h off hoff, mat_ld x1 h off hoff, mat_ld x2 h off hoff]
  exact congrArg₂ (· * ·) rfl (congrFun (row_ld x0 h off hoff inb r) d)

/-- Head `H`'s tile of the `dv` block. -/
theorem tile_dv (x0 : Vec Ideal S512x1024 .bf16) (x1 : Vec Ideal S256x1024 .bf16) (x3 : Vec Ideal S512x1024 .bf16)
    (acc : Vec Ideal S256x1024 .f32)
    (H h : Fin 4) (j d : Fin 256) (off : Fin 2 → ℕ) (hoff : off = ![0, 256 * H.val])
    (inb : ∀ a, off a + S512x256.size a ≤ S512x1024.size a) (inb' : ∀ a, off a + S256x256.size a ≤ S256x1024.size a)
    (x : S256x256.Idx) (hx0 : j.val = (x 0).val) (hx1 : 256 * h.val + d.val = 256 * H.val + (x 1).val) :
    accDv (View.ld x0 (Rect.unit (s := S512x1024) off S512x256.size inb))
      (View.ld x3 (Rect.unit (s := S512x1024) off S512x256.size inb))
      (View.ld x1 (Rect.unit (s := S256x1024) off S256x256.size inb'))
      (View.ld acc (Rect.unit (s := S256x1024) off S256x256.size inb')) x
      = acc (ix2 j (hcol h d)) + DV x0 x1 x3 h j d := by
  obtain ⟨a, e, rfl⟩ : ∃ (a : Fin 256) (e : Fin 256), x = ix2 a e := ⟨x 0, x 1, eq_ix2 x⟩
  have e1 : 256 * h.val + d.val = 256 * H.val + e.val := hx1
  obtain rfl : j = a := Fin.ext hx0
  obtain rfl : h = H := Fin.ext (by omega)
  obtain rfl : d = e := Fin.ext (by omega)
  rw [accDv_at]
  refine congrArg₂ (· + ·) (ld_acc acc h off hoff inb' j d) (Finset.sum_congr rfl fun r _ => ?_)
  rw [row_ld x0 h off hoff, mat_ld x1 h off hoff]
  exact congrArg₂ (· * ·) rfl (congrFun (row_ld x3 h off hoff inb r) d)

/-- Case A (the first point of a batch): the `dq` block. -/
theorem outA_dq (c : Dev nD) (t : Fin cfg0.N) (ht : t.val % 4 = 0) (h : Fin 4) (r : Fin 512) (d : Fin 256) :
    (outsAt0 m c t.val t.isLt).1 (ix2 r (hcol h d))
      = DQ (iblk m c 0 t) (iblk m c 1 t) (iblk m c 2 t) (iblk m c 3 t) h r d := by
  rw [outsAt0_A m c t ht]
  frame_open
  frame_out
  canon_tiles x hx
  · exact tile_dq _ _ _ _ 3 h r d ![0, 768] rfl _ _ x hx0 hx1
  · exact tile_dq _ _ _ _ 2 h r d ![0, 512] rfl _ _ x hx0 hx1
  · exact tile_dq _ _ _ _ 1 h r d ![0, 256] rfl _ _ x hx0 hx1
  · exact tile_dq _ _ _ _ 0 h r d ![0, 0] rfl _ _ x hx0 (hx1.trans (Nat.zero_add _).symm)

/-- Case B (the other points): the `dq` block. -/
theorem outB_dq (c : Dev nD) (t : Fin cfg0.N) (ht : ¬ t.val % 4 = 0) (h : Fin 4) (r : Fin 512) (d : Fin 256) :
    (outsAt0 m c t.val t.isLt).1 (ix2 r (hcol h d))
      = DQ (iblk m c 0 t) (iblk m c 1 t) (iblk m c 2 t) (iblk m c 3 t) h r d := by
  rw [outsAt0_B m c t ht]
  frame_open
  frame_out
  canon_tiles x hx
  · exact tile_dq _ _ _ _ 3 h r d ![0, 768] rfl _ _ x hx0 hx1
  · exact tile_dq _ _ _ _ 2 h r d ![0, 512] rfl _ _ x hx0 hx1
  · exact tile_dq _ _ _ _ 1 h r d ![0, 256] rfl _ _ x hx0 hx1
  · exact tile_dq _ _ _ _ 0 h r d ![0, 0] rfl _ _ x hx0 (hx1.trans (Nat.zero_add _).symm)

/-- Case B: the `dk` block gains the point's part. -/
theorem outB_dk (c : Dev nD) (t : Fin cfg0.N) (ht : ¬ t.val % 4 = 0) (h : Fin 4) (j d : Fin 256) :
    (outsAt0 m c t.val t.isLt).2.1 (ix2 j (hcol h d))
      = (outsAt0 m c (t.val - 1) (Nat.lt_of_le_of_lt (Nat.sub_le _ _) t.isLt)).2.1 (ix2 j (hcol h d))
        + DK (iblk m c 0 t) (iblk m c 1 t) (iblk m c 2 t) (iblk m c 3 t) h j d := by
  rw [outsAt0_B m c t ht]
  frame_open
  simp (disch := decide) only [↓ View.readCov_skip, ↓ View.readCov_cons_toLoadRect, ↓ View.readCov_fill]
  frame_out
  canon_tiles x hx
  · exact tile_dk _ _ _ _ _ 3 h j d ![0, 768] rfl _ _ x hx0 hx1
  · exact tile_dk _ _ _ _ _ 2 h j d ![0, 512] rfl _ _ x hx0 hx1
  · exact tile_dk _ _ _ _ _ 1 h j d ![0, 256] rfl _ _ x hx0 hx1
  · exact tile_dk _ _ _ _ _ 0 h j d ![0, 0] rfl _ _ x hx0 (hx1.trans (Nat.zero_add _).symm)

/-- Case B: the `dv` block gains the point's part. -/
theorem outB_dv (c : Dev nD) (t : Fin cfg0.N) (ht : ¬ t.val % 4 = 0) (h : Fin 4) (j d : Fin 256) :
    (outsAt0 m c t.val t.isLt).2.2 (ix2 j (hcol h d))
      = (outsAt0 m c (t.val - 1) (Nat.lt_of_le_of_lt (Nat.sub_le _ _) t.isLt)).2.2 (ix2 j (hcol h d))
        + DV (iblk m c 0 t) (iblk m c 1 t) (iblk m c 3 t) h j d := by
  rw [outsAt0_B m c t ht]
  frame_open
  simp (disch := decide) only [↓ View.readCov_skip, ↓ View.readCov_cons_toLoadRect, ↓ View.readCov_fill]
  frame_out
  canon_tiles x hx
  · exact tile_dv _ _ _ _ 3 h j d ![0, 768] rfl _ _ x hx0 hx1
  · exact tile_dv _ _ _ _ 2 h j d ![0, 512] rfl _ _ x hx0 hx1
  · exact tile_dv _ _ _ _ 1 h j d ![0, 256] rfl _ _ x hx0 hx1
  · exact tile_dv _ _ _ _ 0 h j d ![0, 0] rfl _ _ x hx0 (hx1.trans (Nat.zero_add _).symm)

/-- The zero block with which a batch's `dk` starts. -/
theorem zero_dk (i : S256x1024.Idx) : (k0_pay5 (F := Ideal)) i = 0 := by pointwise [k0_pay5]
/-- The zero block with which a batch's `dv` starts. -/
theorem zero_dv (i : S256x1024.Idx) : (k0_pay6 (F := Ideal)) i = 0 := by pointwise [k0_pay6]

/-- Case A: the `dk` block is the point's part. -/
theorem outA_dk (c : Dev nD) (t : Fin cfg0.N) (ht : t.val % 4 = 0) (h : Fin 4) (j d : Fin 256) :
    (outsAt0 m c t.val t.isLt).2.1 (ix2 j (hcol h d))
      = 0 + DK (iblk m c 0 t) (iblk m c 1 t) (iblk m c 2 t) (iblk m c 3 t) h j d := by
  rw [outsAt0_A m c t ht, ← zero_dk (ix2 j (hcol h d))]
  frame_open
  simp (disch := decide) only [↓ View.readCov_skip, ↓ View.readCov_cons_toLoadRect, ↓ View.readCov_fill]
  frame_out
  refine (canon_drop (Val := Elt Ideal) [_, _, _, _] _ _ ?_).trans ?_
  · refine View.cover_of_tiledL _ ![256, 256] ?_ _
    sl_kernel_rfl
  canon_tiles x hx
  · exact tile_dk _ _ _ _ _ 3 h j d ![0, 768] rfl _ _ x hx0 hx1
  · exact tile_dk _ _ _ _ _ 2 h j d ![0, 512] rfl _ _ x hx0 hx1
  · exact tile_dk _ _ _ _ _ 1 h j d ![0, 256] rfl _ _ x hx0 hx1
  · exact tile_dk _ _ _ _ _ 0 h j d ![0, 0] rfl _ _ x hx0 (hx1.trans (Nat.zero_add _).symm)

/-- Case A: the `dv` block is the point's part. -/
theorem outA_dv (c : Dev nD) (t : Fin cfg0.N) (ht : t.val % 4 = 0) (h : Fin 4) (j d : Fin 256) :
    (outsAt0 m c t.val t.isLt).2.2 (ix2 j (hcol h d))
      = 0 + DV (iblk m c 0 t) (iblk m c 1 t) (iblk m c 3 t) h j d := by
  rw [outsAt0_A m c t ht, ← zero_dv (ix2 j (hcol h d))]
  frame_open
  simp (disch := decide) only [↓ View.readCov_skip, ↓ View.readCov_cons_toLoadRect, ↓ View.readCov_fill]
  frame_out
  refine (canon_drop (Val := Elt Ideal) [_, _, _, _] _ _ ?_).trans ?_
  · refine View.cover_of_tiledL _ ![256, 256] ?_ _
    sl_kernel_rfl
  canon_tiles x hx
  · exact tile_dv _ _ _ _ 3 h j d ![0, 768] rfl _ _ x hx0 hx1
  · exact tile_dv _ _ _ _ 2 h j d ![0, 512] rfl _ _ x hx0 hx1
  · exact tile_dv _ _ _ _ 1 h j d ![0, 256] rfl _ _ x hx0 hx1
  · exact tile_dv _ _ _ _ 0 h j d ![0, 0] rfl _ _ x hx0 (hx1.trans (Nat.zero_add _).symm)

end Cert.AttnBwdIdeal.Attn

end
end
-- ==== Proof.Attn.Final.lean ====
/-
  The kernel's three result arrays after the run, as functions of the arguments: the row functions of Row.lean over
  the argument arrays. `dq`'s blocks are written one a point; `dk`'s and `dv`'s are sums over a sequence's four points.
-/
module

public import proofs.«01_k».proof.Proof.Attn.Blocks

@[expose] public section

set_option maxRecDepth 16384

noncomputable section

open Idealize.ShloMosaic Idealize.ShloMosaic.TcCoe

namespace Cert.AttnBwdIdeal.Attn

open Cert.AttnBwdIdeal Cert.AttnBwdIdeal.Gen Cert.Attn

variable (m : (ℓ : Loc nD τ sig) → Buf (Elt Ideal) ℓ)

theorem idx0 : ∀ t : Fin grid0.N, win0_0.index t = ![t.val, 0] := by decide +kernel
theorem idx1 : ∀ t : Fin grid0.N, win0_1.index t = ![t.val / 4, 0] := by decide +kernel
theorem idx2 : ∀ t : Fin grid0.N, win0_2.index t = ![t.val / 4, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val / 4, 0] := by decide +kernel
theorem idx6 : ∀ t : Fin grid0.N, win0_6.index t = ![t.val / 4, 0] := by decide +kernel

/-- `q` as launched, by row and column. -/
abbrev a0 (c : Dev nD) (r : Fin 4096) (e : Fin 1024) : EReal := m ((c : Thread nD τ).loc main_arg0) (ix2 r e)
/-- `k` as launched. -/
abbrev a1 (c : Dev nD) (r : Fin 512) (e : Fin 1024) : EReal := m ((c : Thread nD τ).loc main_arg1) (ix2 r e)
/-- `v` as launched. -/
abbrev a2 (c : Dev nD) (r : Fin 512) (e : Fin 1024) : EReal := m ((c : Thread nD τ).loc main_arg2) (ix2 r e)
/-- The gradient of the result as launched. -/
abbrev a3 (c : Dev nD) (r : Fin 4096) (e : Fin 1024) : EReal := m ((c : Thread nD τ).loc main_arg3) (ix2 r e)

/-- Point `t`'s sequence. -/
abbrev seq (t : Fin cfg0.N) : Fin 2 := ⟨t.val / 4, by have : t.val < 8 := lt_of_lt_of_eq t.isLt Gen.N_0; omega⟩
/-- Row `r` of point `t`'s block as a token of its sequence. -/
abbrev lane (t : Fin cfg0.N) (r : Fin 512) : Fin 2048 := ⟨t.val % 4 * 512 + r.val, by omega⟩

theorem blk_q (c : Dev nD) (t : Fin cfg0.N) (h : Fin 4) (r : Fin 512) :
    rowOf (iblk m c 0 t) h r = trow (a0 m c) (seq t) h (lane t r) := by
  funext d
  unfold rowOf trow a0
  blk_ext [iblk, V, idx0 t]
theorem blk_o (c : Dev nD) (t : Fin cfg0.N) (h : Fin 4) (r : Fin 512) :
    rowOf (iblk m c 3 t) h r = trow (a3 m c) (seq t) h (lane t r) := by
  funext d
  unfold rowOf trow a3
  blk_ext [iblk, V, idx3 t]
theorem blk_k (c : Dev nD) (t : Fin cfg0.N) (h : Fin 4) : matOf (iblk m c 1 t) h = mem (a1 m c) (seq t) h := by
  funext j d
  unfold matOf mem a1
  blk_ext [iblk, V, idx1 t]
theorem blk_v (c : Dev nD) (t : Fin cfg0.N) (h : Fin 4) : matOf (iblk m c 2 t) h = mem (a2 m c) (seq t) h := by
  funext j d
  unfold matOf mem a2
  blk_ext [iblk, V, idx2 t]

/-- What a point's `dq` block holds, from the arguments. -/
theorem dq_point (c : Dev nD) (t : Fin cfg0.N) (h : Fin 4) (r : Fin 512) (d : Fin 256) :
    (outsAt0 m c t.val t.isLt).1 (ix2 r (hcol h d))
      = gdq (a0 m c) (a1 m c) (a2 m c) (a3 m c) (seq t) h (lane t r) d := by
  have e : (outsAt0 m c t.val t.isLt).1 (ix2 r (hcol h d))
      = DQ (iblk m c 0 t) (iblk m c 1 t) (iblk m c 2 t) (iblk m c 3 t) h r d := by
    by_cases ht : t.val % 4 = 0
    · exact outA_dq m c t ht h r d
    · exact outB_dq m c t ht h r d
  rw [e]
  unfold DQ gdq
  rw [blk_q, blk_k, blk_v, blk_o]

/-- What a point adds to `dk`, from the arguments. -/
theorem dk_point (c : Dev nD) (t : Fin cfg0.N) (h : Fin 4) (j d : Fin 256) :
    DK (iblk m c 0 t) (iblk m c 1 t) (iblk m c 2 t) (iblk m c 3 t) h j d
      = ∑ r : Fin 512, ds (trow (a0 m c) (seq t) h (lane t r)) (mem (a1 m c) (seq t) h) (mem (a2 m c) (seq t) h)
          (trow (a3 m c) (seq t) h (lane t r)) j * trow (a0 m c) (seq t) h (lane t r) d := by
  unfold DK
  refine Finset.sum_congr rfl fun r _ => ?_
  rw [blk_q, blk_k, blk_v, blk_o]
/-- What a point adds to `dv`, from the arguments. -/
theorem dv_point (c : Dev nD) (t : Fin cfg0.N) (h : Fin 4) (j d : Fin 256) :
    DV (iblk m c 0 t) (iblk m c 1 t) (iblk m c 3 t) h j d
      = ∑ r : Fin 512, pr (trow (a0 m c) (seq t) h (lane t r)) (mem (a1 m c) (seq t) h) j
          * trow (a3 m c) (seq t) h (lane t r) d := by
  unfold DV
  refine Finset.sum_congr rfl fun r _ => ?_
  rw [blk_q, blk_k, blk_o]

/-- At a sequence's last point the `dk` block holds the whole sum over its tokens. -/
theorem dk_sum (c : Dev nD) (t : Fin cfg0.N) (ht : t.val % 4 = 3) (h : Fin 4) (j d : Fin 256) :
    (outsAt0 m c t.val t.isLt).2.1 (ix2 j (hcol h d)) = gdk (a0 m c) (a1 m c) (a2 m c) (a3 m c) (seq t) h j d := by
  have hN : t.val < 8 := lt_of_lt_of_eq t.isLt Gen.N_0
  have e := Pipeline.eq_sum_fin_of_reset_step_of_flush (M := EReal)
    (fun n hn => (outsAt0 m c n hn).2.1 (ix2 j (hcol h d))) 4 0 _
    (fun t ht => outA_dk m c t ht h j d) (fun t ht => outB_dk m c t ht h j d) t ht
  refine e.trans ((zero_add _).trans ?_)
  unfold gdk
  refine Eq.trans (Finset.sum_congr rfl fun s _ => dk_point m c _ h j d) ?_
  refine Fin.sum_mul_add_congr fun s r hl => ?_
  have e1 : seq ⟨4 * (t.val / 4) + s.val, by have := s.isLt; exact lt_of_lt_of_eq (by omega) Gen.N_0.symm⟩ = seq t :=
    Fin.ext (by show (4 * (t.val / 4) + s.val) / 4 = t.val / 4; omega)
  have e2 : lane ⟨4 * (t.val / 4) + s.val, by have := s.isLt; exact lt_of_lt_of_eq (by omega) Gen.N_0.symm⟩ r
      = ⟨s.val * 512 + r.val, hl⟩ :=
    Fin.ext (by show (4 * (t.val / 4) + s.val) % 4 * 512 + r.val = s.val * 512 + r.val; omega)
  rw [e1, e2]

/-- At a sequence's last point the `dv` block holds the whole sum over its tokens. -/
theorem dv_sum (c : Dev nD) (t : Fin cfg0.N) (ht : t.val % 4 = 3) (h : Fin 4) (j d : Fin 256) :
    (outsAt0 m c t.val t.isLt).2.2 (ix2 j (hcol h d)) = gdv (a0 m c) (a1 m c) (a3 m c) (seq t) h j d := by
  have hN : t.val < 8 := lt_of_lt_of_eq t.isLt Gen.N_0
  have e := Pipeline.eq_sum_fin_of_reset_step_of_flush (M := EReal)
    (fun n hn => (outsAt0 m c n hn).2.2 (ix2 j (hcol h d))) 4 0 _
    (fun t ht => outA_dv m c t ht h j d) (fun t ht => outB_dv m c t ht h j d) t ht
  refine e.trans ((zero_add _).trans ?_)
  unfold gdv
  refine Eq.trans (Finset.sum_congr rfl fun s _ => dv_point m c _ h j d) ?_
  refine Fin.sum_mul_add_congr fun s r hl => ?_
  have e1 : seq ⟨4 * (t.val / 4) + s.val, by have := s.isLt; exact lt_of_lt_of_eq (by omega) Gen.N_0.symm⟩ = seq t :=
    Fin.ext (by show (4 * (t.val / 4) + s.val) / 4 = t.val / 4; omega)
  have e2 : lane ⟨4 * (t.val / 4) + s.val, by have := s.isLt; exact lt_of_lt_of_eq (by omega) Gen.N_0.symm⟩ r
      = ⟨s.val * 512 + r.val, hl⟩ :=
    Fin.ext (by show (4 * (t.val / 4) + s.val) % 4 * 512 + r.val = s.val * 512 + r.val; omega)
  rw [e1, e2]

/-- A column is column `hc` of head `hd`. -/
theorem hcol_hd (e : Fin 1024) : hcol (hd e) (hc e) = e := Fin.ext (by show 256 * (e.val / 256) + e.val % 256 = e.val; omega)

/-- The array of `dq` after the run. -/
theorem arr4 (c : Dev nD) :
    (dats m 0 c).arrAt 4 cfg0.N = fun i => arrDq (a0 m c) (a1 m c) (a2 m c) (a3 m c) (i 0) (i 1) := by
  refine (dats m 0 c).arrAt_eq_of_covers 4 _ (by decide +kernel) fun t hf y => ?_
  blk_simp
  rw [after0_4]
  obtain ⟨r, e, rfl⟩ : ∃ (r : Fin 512) (e : Fin 1024), y = ix2 r e := ⟨y 0, y 1, eq_ix2 y⟩
  have hN : t.val < 8 := lt_of_lt_of_eq t.isLt Gen.N_0
  have hy : ((cfg0.win 4).blk t).view.emb (ix2 r e) = (ix2 ⟨t.val * 512 + r.val, by omega⟩ e : S4096x1024.Idx) := by
    blk_ext [idx4 t]
  have e1 : (⟨(t.val * 512 + r.val) / 2048, by omega⟩ : Fin 2) = seq t := Fin.ext (by
    show (t.val * 512 + r.val) / 2048 = t.val / 4; omega)
  have e2 : (⟨(t.val * 512 + r.val) % 2048, by omega⟩ : Fin 2048) = lane t r := Fin.ext (by
    show (t.val * 512 + r.val) % 2048 = t.val % 4 * 512 + r.val; omega)
  refine Eq.trans ?_ (congrArg (fun i : S4096x1024.Idx =>
    arrDq (a0 m c) (a1 m c) (a2 m c) (a3 m c) (i 0) (i 1)) hy).symm
  show _ = gdq (a0 m c) (a1 m c) (a2 m c) (a3 m c) ⟨(t.val * 512 + r.val) / 2048, _⟩ (hd e)
    ⟨(t.val * 512 + r.val) % 2048, _⟩ (hc e)
  rw [e1, e2, ← dq_point, hcol_hd]

/-- The array of `dk` after the run. -/
theorem arr5 (c : Dev nD) :
    (dats m 0 c).arrAt 5 cfg0.N = fun i => arrDk (a0 m c) (a1 m c) (a2 m c) (a3 m c) (i 0) (i 1) := by
  refine (dats m 0 c).arrAt_eq_of_covers 5 _ (by decide +kernel) fun t hf y => ?_
  blk_simp
  rw [after0_5]
  obtain ⟨j, e, rfl⟩ : ∃ (j : Fin 256) (e : Fin 1024), y = ix2 j e := ⟨y 0, y 1, eq_ix2 y⟩
  have hN : t.val < 8 := lt_of_lt_of_eq t.isLt Gen.N_0
  have hy : ((cfg0.win 5).blk t).view.emb (ix2 j e) = (ix2 ⟨t.val / 4 * 256 + j.val, by omega⟩ e : S512x1024.Idx) := by
    blk_ext [idx5 t]
  have e1 : (⟨(t.val / 4 * 256 + j.val) / 256, by omega⟩ : Fin 2) = seq t := Fin.ext (by
    show (t.val / 4 * 256 + j.val) / 256 = t.val / 4; omega)
  have e2 : (⟨(t.val / 4 * 256 + j.val) % 256, by omega⟩ : Fin 256) = j := Fin.ext (by
    show (t.val / 4 * 256 + j.val) % 256 = j.val; omega)
  refine Eq.trans ?_ (congrArg (fun i : S512x1024.Idx =>
    arrDk (a0 m c) (a1 m c) (a2 m c) (a3 m c) (i 0) (i 1)) hy).symm
  show _ = gdk (a0 m c) (a1 m c) (a2 m c) (a3 m c) ⟨(t.val / 4 * 256 + j.val) / 256, _⟩ (hd e)
    ⟨(t.val / 4 * 256 + j.val) % 256, _⟩ (hc e)
  rw [e1, e2, ← dk_sum m c t ((flush0_5 t).mp hf), hcol_hd]

/-- The array of `dv` after the run. -/
theorem arr6 (c : Dev nD) :
    (dats m 0 c).arrAt 6 cfg0.N = fun i => arrDv (a0 m c) (a1 m c) (a3 m c) (i 0) (i 1) := by
  refine (dats m 0 c).arrAt_eq_of_covers 6 _ (by decide +kernel) fun t hf y => ?_
  blk_simp
  rw [after0_6]
  obtain ⟨j, e, rfl⟩ : ∃ (j : Fin 256) (e : Fin 1024), y = ix2 j e := ⟨y 0, y 1, eq_ix2 y⟩
  have hN : t.val < 8 := lt_of_lt_of_eq t.isLt Gen.N_0
  have hy : ((cfg0.win 6).blk t).view.emb (ix2 j e) = (ix2 ⟨t.val / 4 * 256 + j.val, by omega⟩ e : S512x1024.Idx) := by
    blk_ext [idx6 t]
  have e1 : (⟨(t.val / 4 * 256 + j.val) / 256, by omega⟩ : Fin 2) = seq t := Fin.ext (by
    show (t.val / 4 * 256 + j.val) / 256 = t.val / 4; omega)
  have e2 : (⟨(t.val / 4 * 256 + j.val) % 256, by omega⟩ : Fin 256) = j := Fin.ext (by
    show (t.val / 4 * 256 + j.val) % 256 = j.val; omega)
  refine Eq.trans ?_ (congrArg (fun i : S512x1024.Idx =>
    arrDv (a0 m c) (a1 m c) (a3 m c) (i 0) (i 1)) hy).symm
  show _ = gdv (a0 m c) (a1 m c) (a3 m c) ⟨(t.val / 4 * 256 + j.val) / 256, _⟩ (hd e)
    ⟨(t.val / 4 * 256 + j.val) % 256, _⟩ (hc e)
  rw [e1, e2, ← dv_sum m c t ((flush0_6 t).mp hf), hcol_hd]

end Cert.AttnBwdIdeal.Attn

end
end
-- ==== Proof.Attn.Ref.lean ====
/-
  The reference's three results, as functions of the arguments: the reference's term cut into stages (the scores, the
  exponentials, their sums, the weights, the weights' gradient, the scores' gradient), each read at an index as a row
  function of Row.lean.
-/
module

public import proofs.«01_k».proof.Proof.Attn.Row
public import proofs.«01_k».proof.Proof.Gen.AttnBwdRefIdeal.Run
public import Idealize.ShloMosaic.Lib.Pipeline.ValueKit

@[expose] public section

set_option maxRecDepth 16384

noncomputable section

open Idealize.ShloMosaic Idealize.ShloMosaic.TcCoe

namespace Cert.AttnBwdRefIdeal.Attn

open Cert.AttnBwdRefIdeal Cert.AttnBwdRefIdeal.Gen Cert.Attn

variable (x0 : FVec Ideal S4096x1024 .bf16) (x1 x2 : FVec Ideal S512x1024 .bf16) (x3 : FVec Ideal S4096x1024 .bf16)

/-- A [4096, 1024] argument, by sequence, token, head and column. -/
def tok4 : FVec Ideal S2x2048x4x256 .f32 := shapeCast _ (extf .f32 x0 bitsLt_bf16_f32) shapeCasts_S4096x1024_S2x2048x4x256
/-- A [512, 1024] argument, by sequence, memory row, head and column. -/
def mem4 : FVec Ideal S2x256x4x256 .f32 := shapeCast _ (extf .f32 x1 bitsLt_bf16_f32) shapeCasts_S512x1024_S2x256x4x256
/-- The gradient of the result, turned. -/
def turned : FVec Ideal S2x4x256x2048 .f32 := transpose S2x4x256x2048 [0, 2, 3, 1] (tok4 x3) transposes_S2x2048x4x256_S2x4x256x2048_0_2_3_1

theorem tok4_at (b : Fin 2) (l : Fin 2048) (h : Fin 4) (d : Fin 256) :
    tok4 x0 (ix4 b l h d) = x0 (ix2 (tok b l) (hcol h d)) := by
  pointwise [tok4]
  blk_ext
theorem mem4_at (b : Fin 2) (j : Fin 256) (h : Fin 4) (d : Fin 256) :
    mem4 x1 (ix4 b j h d) = x1 (ix2 (mrow b j) (hcol h d)) := by
  pointwise [mem4]
  blk_ext
theorem turned_at (b : Fin 2) (l : Fin 2048) (h : Fin 4) (d : Fin 256) :
    turned x3 (ix4 b h d l) = x3 (ix2 (tok b l) (hcol h d)) := by
  pointwise [turned]
  rw [tok4_at]

/-- An argument by row and column. -/
abbrev ar (x : FVec Ideal S4096x1024 .bf16) (r : Fin 4096) (e : Fin 1024) : EReal := x (ix2 r e)
/-- An argument by row and column. -/
abbrev am (x : FVec Ideal S512x1024 .bf16) (r : Fin 512) (e : Fin 1024) : EReal := x (ix2 r e)

/-- The scores. -/
def scores : FVec Ideal S2x4x2048x256 .f32 :=
  mulf (Host.dotGeneral dot_S2x2048x4x256_S2x256x4x256_S2x4x2048x256_3_3_1_1_02_02 none (tok4 x0) (mem4 x1)) (broadcastInDim S2x4x2048x256 ![] bcast_S_S2x4x2048x256 (constant S_ .f32 0x3D800000#32))

theorem scores_at (b : Fin 2) (h : Fin 4) (l : Fin 2048) (j : Fin 256) :
    scores x0 x1 (ix4 b h l j) = score (trow (ar x0) b h l) (mem (am x1) b h) j := by
  pointwise [scores]
  simp only [tok4_at, mem4_at]
  rfl

/-- A host maximum over the last of four axes, at an index: the fold over that axis. -/
theorem hostMax_at {n0 n1 n2 n3 : ℕ} {u : Shape} (x : FVec Ideal ⟨4, ![n0, n1, n2, n3]⟩ .f32) (c : FVec Ideal u .f32)
    (hr : (⟨4, ![n0, n1, n2, n3]⟩ : Shape).ReducesTo [3] ⟨3, ![n0, n1, n2]⟩) (hu : 0 < u.numel)
    (a : Fin n0) (b : Fin n1) (l : Fin n2) :
    Host.reduce FloatOps.maximumf x c hr hu (ix3 a b l)
      = Finset.univ.fold max (c (Shape.Idx.first hu)) fun k : Fin n3 => x (ix4 a b l k) := by
  pointwise

/-- The largest scores, from the reduction alone. -/
def rtops : FVec Ideal S2x4x2048 .f32 :=
  Host.reduce FloatOps.maximumf (scores x0 x1) (constant S_ .f32 0xFF800000#32) reducesTo_S2x4x2048x256_S2x4x2048_d3 h_S_

theorem rtops_at (b : Fin 2) (h : Fin 4) (l : Fin 2048) :
    rtops x0 x1 (ix3 b h l) = Finset.univ.fold max least (score (trow (ar x0) b h l) (mem (am x1) b h)) := by
  have e := hostMax_at (scores x0 x1) (constant S_ .f32 0xFF800000#32) reducesTo_S2x4x2048x256_S2x4x2048_d3 h_S_ b h l
  have e2 : rtops x0 x1 (ix3 b h l) = Host.reduce FloatOps.maximumf (scores x0 x1) (constant S_ .f32 0xFF800000#32) reducesTo_S2x4x2048x256_S2x4x2048_d3 h_S_ (ix3 b h l) := by
    unfold rtops; with_reducible rfl
  rw [e2, e]
  simp only [scores_at, constant_apply]
  with_reducible_and_instances rfl

/-- The largest scores. -/
def tops : FVec Ideal S2x4x2048 .f32 :=
  maximumf (broadcastInDim S2x4x2048 ![] bcast_S_S2x4x2048 (constant S_ .f32 0xFF800000#32)) (rtops x0 x1)

theorem tops_at (b : Fin 2) (h : Fin 4) (l : Fin 2048) :
    tops x0 x1 (ix3 b h l) = top (trow (ar x0) b h l) (mem (am x1) b h) := by
  have e1 : (broadcastInDim S2x4x2048 ![] bcast_S_S2x4x2048 (constant S_ .f32 0xFF800000#32) : FVec Ideal S2x4x2048 .f32) (ix3 b h l) = least := by
    pointwise
  unfold tops top
  rw [maximumf_apply, e1, rtops_at]
  exact congrFun (congrFun Ideal.maximumf_eq_max _) _

/-- The exponentials. -/
def exps : FVec Ideal S2x4x2048x256 .f32 :=
  Host.exp (subf (scores x0 x1) (broadcastInDim S2x4x2048x256 ![0, 1, 2, 3] bcast_S2x4x2048x1_S2x4x2048x256_0_1_2_3 (broadcastInDim S2x4x2048x1 ![0, 1, 2] bcast_S2x4x2048_S2x4x2048x1_0_1_2 (tops x0 x1))))

theorem exps_at (b : Fin 2) (h : Fin 4) (l : Fin 2048) (j : Fin 256) :
    exps x0 x1 (ix4 b h l j) = ex (trow (ar x0) b h l) (mem (am x1) b h) j := by
  pointwise [exps]
  simp only [scores_at, tops_at]
  rfl

/-- Their sums. -/
def sums : FVec Ideal S2x4x2048x1 .f32 :=
  broadcastInDim S2x4x2048x1 ![0, 1, 2] bcast_S2x4x2048_S2x4x2048x1_0_1_2 (Host.reduceAdd (exps x0 x1) (constant S_ .f32 0x00000000#32) reducesTo_S2x4x2048x256_S2x4x2048_d3 h_S_)

theorem sums_at (b : Fin 2) (h : Fin 4) (l : Fin 2048) :
    sums x0 x1 (ix4 b h l 0) = tot (trow (ar x0) b h l) (mem (am x1) b h) := by
  pointwise [sums]
  simp only [exps_at]
  rfl

/-- The weights. -/
def weights : FVec Ideal S2x4x2048x256 .f32 :=
  Host.divf (exps x0 x1) (broadcastInDim S2x4x2048x256 ![0, 1, 2, 3] bcast_S2x4x2048x1_S2x4x2048x256_0_1_2_3 (sums x0 x1))

theorem weights_at (b : Fin 2) (h : Fin 4) (l : Fin 2048) (j : Fin 256) :
    weights x0 x1 (ix4 b h l j) = pr (trow (ar x0) b h l) (mem (am x1) b h) j := by
  pointwise [weights]
  simp only [exps_at, sums_at]
  rfl

/-- The gradient of the weights. -/
def dweights : FVec Ideal S2x4x2048x256 .f32 :=
  Host.dotGeneral dot_S2x4x256x2048_S2x256x4x256_S2x4x2048x256_2_3_3_1_01_02 none (turned x3) (mem4 x2)

theorem dweights_at (b : Fin 2) (h : Fin 4) (l : Fin 2048) (j : Fin 256) :
    dweights x2 x3 (ix4 b h l j) = dp (mem (am x2) b h) (trow (ar x3) b h l) j := by
  pointwise [dweights]
  simp only [turned_at, mem4_at]
  rfl

/-- What the sums pass back. -/
def corrs : FVec Ideal S2x4x2048 .f32 :=
  Host.reduceAdd (mulf (mulf (dweights x2 x3) (broadcastInDim S2x4x2048x256 ![0, 1, 2, 3] bcast_S2x4x2048x1_S2x4x2048x256_0_1_2_3 (Host.divf (broadcastInDim S2x4x2048x1 ![] bcast_S_S2x4x2048x1 (constant S_ .f32 0x3F800000#32)) (mulf (sums x0 x1) (sums x0 x1))))) (exps x0 x1)) (constant S_ .f32 0x00000000#32) reducesTo_S2x4x2048x256_S2x4x2048_d3 h_S_

theorem corrs_at (b : Fin 2) (h : Fin 4) (l : Fin 2048) :
    corrs x0 x1 x2 x3 (ix3 b h l)
      = corr (trow (ar x0) b h l) (mem (am x1) b h) (mem (am x2) b h) (trow (ar x3) b h l) := by
  pointwise [corrs]
  simp only [exps_at, sums_at, dweights_at]
  rfl

/-- The gradient of the scores' products. -/
def dscores : FVec Ideal S2x4x2048x256 .f32 :=
  mulf (mulf (addf (Host.divf (dweights x2 x3) (broadcastInDim S2x4x2048x256 ![0, 1, 2, 3] bcast_S2x4x2048x1_S2x4x2048x256_0_1_2_3 (sums x0 x1))) (broadcastInDim S2x4x2048x256 ![0, 1, 2] bcast_S2x4x2048_S2x4x2048x256_0_1_2 (Host.reduceAdd (Host.negf (shapeCast S2x4x2048x1 (corrs x0 x1 x2 x3) shapeCasts_S2x4x2048_S2x4x2048x1)) (constant S_ .f32 0x00000000#32) reducesTo_S2x4x2048x1_S2x4x2048_d3 h_S_))) (exps x0 x1)) (broadcastInDim S2x4x2048x256 ![] bcast_S_S2x4x2048x256 (constant S_ .f32 0x3D800000#32))

theorem dscores_at (b : Fin 2) (h : Fin 4) (l : Fin 2048) (j : Fin 256) :
    dscores x0 x1 x2 x3 (ix4 b h l j)
      = ds (trow (ar x0) b h l) (mem (am x1) b h) (mem (am x2) b h) (trow (ar x3) b h l) j := by
  pointwise [dscores]
  simp only [exps_at, sums_at, dweights_at, corrs_at, Finset.univ_unique, Finset.sum_singleton]
  unfold ds
  rw [zero_sub]

/-- The gradient of `q`. -/
def outDq : FVec Ideal S4096x1024 .bf16 :=
  truncf .bf16 (shapeCast _ (transpose S2x2048x4x256 [0, 2, 1, 3] (Host.dotGeneral dot_S2x4x2048x256_S2x256x4x256_S2x4x2048x256_3_1_2_3_01_02 none (dscores x0 x1 x2 x3) (mem4 x1)) transposes_S2x4x2048x256_S2x2048x4x256_0_2_1_3) shapeCasts_S2x2048x4x256_S4096x1024) bitsLt_bf16_f32
/-- The gradient of `k`. -/
def outDk : FVec Ideal S512x1024 .f32 :=
  shapeCast _ (transpose S2x256x4x256 [0, 2, 1, 3] (Host.dotGeneral dot_S2x4x2048x256_S2x2048x4x256_S2x4x256x256_2_1_3_3_01_02 none (dscores x0 x1 x2 x3) (tok4 x0)) transposes_S2x4x256x256_S2x256x4x256_0_2_1_3) shapeCasts_S2x256x4x256_S512x1024
/-- The gradient of `v`. -/
def outDv : FVec Ideal S512x1024 .f32 :=
  shapeCast _ (transpose S2x256x4x256 [0, 3, 1, 2] (Host.dotGeneral dot_S2x4x256x2048_S2x4x2048x256_S2x4x256x256_3_2_2_3_01_01 none (turned x3) (weights x0 x1)) transposes_S2x4x256x256_S2x256x4x256_0_3_1_2) shapeCasts_S2x256x4x256_S512x1024

theorem outDq_at (r : Fin 4096) (e : Fin 1024) :
    outDq x0 x1 x2 x3 (ix2 r e) = arrDq (ar x0) (am x1) (am x2) (ar x3) r e := by
  pointwise [outDq]
  simp only [dscores_at, mem4_at]
  rfl
theorem outDk_at (r : Fin 512) (e : Fin 1024) :
    outDk x0 x1 x2 x3 (ix2 r e) = arrDk (ar x0) (am x1) (am x2) (ar x3) r e := by
  pointwise [outDk]
  simp only [dscores_at, tok4_at]
  rfl
theorem outDv_at (r : Fin 512) (e : Fin 1024) :
    outDv x0 x1 x3 (ix2 r e) = arrDv (ar x0) (am x1) (ar x3) r e := by
  pointwise [outDv]
  simp only [turned_at, weights_at]
  exact Finset.sum_congr rfl fun l _ => mul_comm _ _

end Cert.AttnBwdRefIdeal.Attn

end
end
-- ==== Proof.Ext2.lean ====
/-
  A function on a rank-2 index is known by its values at the pairs of coordinates.
-/
module

public import Idealize.ShloMosaic.Lib.Pointwise

@[expose] public section

noncomputable section

open Idealize.ShloMosaic

namespace Cert.Common

/-- A function of two coordinates of a rank-2 index, from its values at the pairs. -/
theorem ext2 {n0 n1 : ℕ} {f : (⟨2, ![n0, n1]⟩ : Shape).Idx → EReal} {g : Fin n0 → Fin n1 → EReal}
    (h : ∀ a b, f (ix2 a b) = g a b) : f = fun i => g (i 0) (i 1) := by
  funext i
  conv_lhs => rw [eq_ix2 i]
  exact h (i 0) (i 1)

end Cert.Common

end
end
-- ==== Proof.Attn.Claim.lean ====
/-
  The attention gradient's claims: the frames of the three programs, and that the kernel's three results are the
  reference's over the extended reals.
-/
module

public import proofs.«01_k».proof.Defs
public import proofs.«01_k».proof.Proof.Gen.AttnBwd.Frame
public import proofs.«01_k».proof.Proof.Attn.Final
public import proofs.«01_k».proof.Proof.Attn.Ref
public import proofs.«01_k».proof.Proof.Ext2

@[expose] public section

set_option maxRecDepth 16384

noncomputable section

open Idealize.ShloMosaic Idealize.ShloMosaic.TcCoe Idealize.SL.Sem Cert.Common

namespace Cert.Attn

/-- The reference's frame: its generated run, read at the arguments. -/
theorem frame_ref : Cert.quiescent_AttnBwdRefIdeal := fun m ρ _ =>
  (θ_run Cert.AttnBwdRefIdeal.defs _ _).mono (fun _ h => ⟨fun c => (h c).2.2.2, Idealize.ShloMosaic.sem_eq_zero_of_no_sems (by decide) _⟩)
    (Cert.AttnBwdRefIdeal.Value.run m ρ)

open Cert.AttnBwdRefIdeal Cert.AttnBwdRefIdeal.Attn in
/-- The reference's run, its results by the stages of Ref.lean. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67) = outDq (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v65) = outDk (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v64) = outDv (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by with_unfolding_all rfl), (h c).2.1.trans (by with_unfolding_all rfl), (h c).2.2.1.trans (by with_unfolding_all rfl),
    (h c).2.2.2⟩) (Value.run m ρ)

/-- The kernel's three results are the reference's over the extended reals. -/
theorem value : Cert.algebraic_AttnBwdIdeal_AttnBwdRefIdeal := fun m ρ m' ρ' _ hag =>
  ⟨fun c => (Cert.AttnBwdIdeal.Gen.dats m 0 c).arrAt 4 Cert.AttnBwdIdeal.cfg0.N, fun c => (Cert.AttnBwdIdeal.Gen.dats m 0 c).arrAt 5 Cert.AttnBwdIdeal.cfg0.N, fun c => (Cert.AttnBwdIdeal.Gen.dats m 0 c).arrAt 6 Cert.AttnBwdIdeal.cfg0.N,
    Cert.AttnBwdIdeal.Value.run_blocks m ρ,
    (θ_run _ _ _).mono (fun _ h c => by
      obtain ⟨h0, h1, h2, hr⟩ := h c
      obtain ⟨a0, a1, a2, a3⟩ := hag c
      refine ⟨h0.trans ?_, h1.trans ?_, h2.trans ?_, hr⟩
      · rw [a0, a1, a2, a3]
        exact (ext2 (Cert.AttnBwdRefIdeal.Attn.outDq_at _ _ _ _)).trans (Cert.AttnBwdIdeal.Attn.arr4 m c).symm
      · rw [a0, a1, a2, a3]
        exact (ext2 (Cert.AttnBwdRefIdeal.Attn.outDk_at _ _ _ _)).trans (Cert.AttnBwdIdeal.Attn.arr5 m c).symm
      · rw [a0, a1, a3]
        exact (ext2 (Cert.AttnBwdRefIdeal.Attn.outDv_at _ _ _)).trans (Cert.AttnBwdIdeal.Attn.arr6 m c).symm)
      (run_ref m' ρ')⟩

end Cert.Attn

end
end
-- ==== Proof.Ext3.lean ====
/-
  A function on a rank-3 index is known by its values at the triples of coordinates.
-/
module

public import Idealize.ShloMosaic.Lib.Pointwise

@[expose] public section

noncomputable section

open Idealize.ShloMosaic

namespace Cert.Common

/-- A function of three coordinates of a rank-3 index, from its values at the triples. -/
theorem ext3 {n0 n1 n2 : ℕ} {f : (⟨3, ![n0, n1, n2]⟩ : Shape).Idx → EReal} {g : Fin n0 → Fin n1 → Fin n2 → EReal}
    (h : ∀ a b d, f (ix3 a b d) = g a b d) : f = fun i => g (i 0) (i 1) (i 2) := by
  funext i
  conv_lhs => rw [eq_ix3 i]
  exact h (i 0) (i 1) (i 2)

end Cert.Common

end
end
-- ==== Proof.Mat.lean ====
/-
  The product of two matrices over the extended reals, as the products' proofs state their results.
-/
module

public import Idealize.ShloMosaic.Lib.Pointwise

@[expose] public section

noncomputable section

namespace Cert.Common

/-- Row `p` of `x` times column `q` of `y`. -/
def mat {a b d : ℕ} (x : Fin a → Fin b → EReal) (y : Fin b → Fin d → EReal) (p : Fin a) (q : Fin d) : EReal :=
  ∑ e : Fin b, x p e * y e q

end Cert.Common

end
end
-- ==== Proof.Kit.lean ====
/-
  What the calls' modules have in common: the claims, and the lemmas about pipelines, arrays and products.
-/
module

public import proofs.«01_k».proof.Defs
public import Idealize.ShloMosaic.Lib.Pipeline.ValueKit
public import Idealize.ShloMosaic.Lib.Pipeline.ReadBack
public import Idealize.ShloMosaic.Lib.Pointwise
public import proofs.«01_k».proof.Proof.Ext2
public import proofs.«01_k».proof.Proof.Ext3
public import proofs.«01_k».proof.Proof.Mat
-- ==== Proof.Ffn.DwDown.lean ====
/-
  The gradient of the feed-forward layer's second weight: the kernel adds up, over four tiles of 1024 tokens, the
  products of the activations' columns with the gradient's columns; the reference is one sum over the 4096 tokens.
-/
module

public import proofs.«01_k».proof.Proof.Kit
public import proofs.«01_k».proof.Proof.Gen.DwDown.Frame
public import proofs.«01_k».proof.Proof.Gen.DwDownIdeal.Value
public import proofs.«01_k».proof.Proof.Gen.DwDownRefIdeal.Run

@[expose] public section

set_option maxRecDepth 16384

noncomputable section

open Idealize.ShloMosaic Idealize.ShloMosaic.TcCoe Idealize.SL.Sem Cert.Common

namespace Cert.DwDownIdeal.Ffn

open Cert.DwDownIdeal Cert.DwDownIdeal.Gen

variable (m : (ℓ : Loc nD τ sig) → Buf (Elt Ideal) ℓ)

theorem idx0 : ∀ t : Fin grid0.N, win0_0.index t = ![t.val % 4, t.val / 4] := by decide +kernel
theorem idx1 : ∀ t : Fin grid0.N, win0_1.index t = ![t.val % 4, 0] := by decide +kernel
theorem idx2 : ∀ t : Fin grid0.N, win0_2.index t = ![t.val / 4, 0] := by decide +kernel

/-- What a point adds at row `p` and column `q` of its block: the sum over its 1024 tokens. -/
def part (x0 : Vec Ideal S1024x1408 .bf16) (x1 : Vec Ideal S1024x1024 .f32) (p : Fin 1408) (q : Fin 1024) : EReal :=
  ∑ r : Fin 1024, x0 (ix2 r p) * x1 (ix2 r q)

theorem acc_A (c : Dev nD) (t : Fin cfg0.N) (ht : t.val % 4 = 0) (p : Fin 1408) (q : Fin 1024) :
    (outsAt0 m c t.val t.isLt).2 (ix2 p q) = 0 + part (iblk m c 0 t) (iblk m c 1 t) p q := by
  rw [outsAt0_A m c t ht (by omega)]
  frame_open
  simp (disch := decide) only [↓ View.readCov_skip, ↓ View.readCov_cons_toLoadRect, ↓ View.readCov_fill]
  frame_out
  unfold part
  pointwise [k0_pay2, k0_pay1]

theorem acc_B (c : Dev nD) (t : Fin cfg0.N) (ht : ¬ t.val % 4 = 0) (p : Fin 1408) (q : Fin 1024) :
    (outsAt0 m c t.val t.isLt).2 (ix2 p q)
      = (outsAt0 m c (t.val - 1) (Nat.lt_of_le_of_lt (Nat.sub_le _ _) t.isLt)).2 (ix2 p q)
        + part (iblk m c 0 t) (iblk m c 1 t) p q := by
  by_cases h : t.val % 4 = 3
  · rw [outsAt0_C m c t ht h]
    frame_open
    simp (disch := decide) only [↓ View.readCov_skip, ↓ View.readCov_cons_toLoadRect, ↓ View.readCov_fill]
    frame_out
    simp only [read_unread_whole]
    unfold part
    pointwise [k0_pay2]
  · rw [outsAt0_B m c t ht h]
    frame_open
    simp (disch := decide) only [↓ View.readCov_skip, ↓ View.readCov_cons_toLoadRect, ↓ View.readCov_fill]
    frame_out
    simp only [read_unread_whole]
    unfold part
    pointwise [k0_pay2]

/-- The last point of a block writes the sum out. -/
theorem out_C (c : Dev nD) (t : Fin cfg0.N) (ht : t.val % 4 = 3) (p : Fin 1408) (q : Fin 1024) :
    (outsAt0 m c t.val t.isLt).1 (ix2 p q) = (outsAt0 m c t.val t.isLt).2 (ix2 p q) := by
  rw [acc_B m c t (by omega), outsAt0_C m c t (by omega) ht]
  frame_open
  simp (disch := decide) only [↓ View.readCov_skip, ↓ View.readCov_cons_toLoadRect, ↓ View.readCov_fill]
  frame_out
  simp only [read_unread_whole]
  unfold part
  pointwise [k0_pay3, k0_pay2]

/-- The activations as launched. -/
abbrev a0 (c : Dev nD) (r : Fin 4096) (e : Fin 2816) : EReal := m ((c : Thread nD τ).loc main_arg0) (ix2 r e)
/-- The gradient of the layer's result as launched. -/
abbrev a1 (c : Dev nD) (r : Fin 4096) (e : Fin 1024) : EReal := m ((c : Thread nD τ).loc main_arg1) (ix2 r e)

/-- The weight's gradient: a sum over all tokens. -/
def grad (x : Fin 4096 → Fin 2816 → EReal) (y : Fin 4096 → Fin 1024 → EReal) (p : Fin 2816) (q : Fin 1024) : EReal :=
  ∑ r : Fin 4096, x r p * y r q

/-- Row `p` of point `t`'s output block as a row of the array. -/
abbrev orow (t : Fin cfg0.N) (p : Fin 1408) : Fin 2816 :=
  ⟨t.val / 4 * 1408 + p.val, by have : t.val < 8 := lt_of_lt_of_eq t.isLt Gen.N_0; omega⟩
/-- Row `r` of point `t`'s input blocks as a token. -/
abbrev tokn (t : Fin cfg0.N) (r : Fin 1024) : Fin 4096 := ⟨t.val % 4 * 1024 + r.val, by omega⟩

theorem blk0 (c : Dev nD) (t : Fin cfg0.N) (r : Fin 1024) (p : Fin 1408) :
    iblk m c 0 t (ix2 r p) = a0 m c (tokn t r) (orow t p) := by
  unfold a0
  blk_ext [iblk, V, idx0 t]
theorem blk1 (c : Dev nD) (t : Fin cfg0.N) (r : Fin 1024) (q : Fin 1024) :
    iblk m c 1 t (ix2 r q) = a1 m c (tokn t r) q := by
  unfold a1
  blk_ext [iblk, V, idx1 t]

/-- At a block's last point the accumulator holds the whole sum. -/
theorem sum_at (c : Dev nD) (t : Fin cfg0.N) (ht : t.val % 4 = 3) (p : Fin 1408) (q : Fin 1024) :
    (outsAt0 m c t.val t.isLt).2 (ix2 p q) = grad (a0 m c) (a1 m c) (orow t p) q := by
  have hN : t.val < 8 := lt_of_lt_of_eq t.isLt Gen.N_0
  have e := Pipeline.eq_sum_fin_of_reset_step_of_flush (M := EReal)
    (fun n hn => (outsAt0 m c n hn).2 (ix2 p q)) 4 0 _
    (fun t ht => acc_A m c t ht p q) (fun t ht => acc_B m c t ht p q) t ht
  refine e.trans ((zero_add _).trans ?_)
  unfold grad part
  refine Fin.sum_mul_add_congr fun s r hl => ?_
  rw [blk0, blk1]
  have e1 : orow ⟨4 * (t.val / 4) + s.val, by have := s.isLt; exact lt_of_lt_of_eq (by omega) Gen.N_0.symm⟩ p = orow t p :=
    Fin.ext (by show (4 * (t.val / 4) + s.val) / 4 * 1408 + p.val = t.val / 4 * 1408 + p.val; omega)
  have e2 : tokn ⟨4 * (t.val / 4) + s.val, by have := s.isLt; exact lt_of_lt_of_eq (by omega) Gen.N_0.symm⟩ r
      = ⟨s.val * 1024 + r.val, hl⟩ :=
    Fin.ext (by show (4 * (t.val / 4) + s.val) % 4 * 1024 + r.val = s.val * 1024 + r.val; omega)
  rw [e1, e2]

/-- The kernel's result array after the run. -/
theorem arr2 (c : Dev nD) : (dats m 0 c).arrAt 2 cfg0.N = fun i => grad (a0 m c) (a1 m c) (i 0) (i 1) := by
  refine (dats m 0 c).arrAt_eq_of_covers 2 _ (by decide +kernel) fun t hf y => ?_
  blk_simp
  rw [after0_2]
  obtain ⟨p, q, rfl⟩ : ∃ (p : Fin 1408) (q : Fin 1024), y = ix2 p q := ⟨y 0, y 1, eq_ix2 y⟩
  have hy : ((cfg0.win 2).blk t).view.emb (ix2 p q) = (ix2 (orow t p) q : S2816x1024.Idx) := by
    blk_ext [idx2 t]
  refine Eq.trans ?_ (congrArg (fun i : S2816x1024.Idx => grad (a0 m c) (a1 m c) (i 0) (i 1)) hy).symm
  exact (out_C m c t ((flush0_2 t).mp hf) p q).trans (sum_at m c t ((flush0_2 t).mp hf) p q)

end Cert.DwDownIdeal.Ffn

namespace Cert.DwDownRefIdeal.Ffn

open Cert.DwDownRefIdeal Cert.DwDownRefIdeal.Gen

/-- The reference's result. -/
def out (x : FVec Ideal S4096x2816 .bf16) (y : FVec Ideal S4096x1024 .f32) : FVec Ideal S2816x1024 .bf16 :=
  truncf .bf16 (transpose S2816x1024 [1, 0] (Host.dotGeneral dot_S4096x1024_S4096x2816_S1024x2816_0_0_1_1_n_n none y (extf .f32 x bitsLt_bf16_f32)) transposes_S1024x2816_S2816x1024_1_0) bitsLt_bf16_f32

theorem out_at (x : FVec Ideal S4096x2816 .bf16) (y : FVec Ideal S4096x1024 .f32) (p : Fin 2816) (q : Fin 1024) :
    out x y (ix2 p q) = Cert.DwDownIdeal.Ffn.grad (fun r e => x (ix2 r e)) (fun r e => y (ix2 r e)) p q := by
  unfold Cert.DwDownIdeal.Ffn.grad
  pointwise [out]
  exact Finset.sum_congr rfl fun r _ => mul_comm _ _

end Cert.DwDownRefIdeal.Ffn

namespace Cert.DwDown.Claims

/-- The reference's frame: its generated run, read at the arguments. -/
theorem frame_ref : Cert.quiescent_DwDownRefIdeal := fun m ρ _ =>
  (θ_run Cert.DwDownRefIdeal.defs _ _).mono (fun _ h => ⟨fun c => (h c).2, Idealize.ShloMosaic.sem_eq_zero_of_no_sems (by decide) _⟩)
    (Cert.DwDownRefIdeal.Value.run m ρ)

/-- The kernel's result is the reference's over the extended reals. -/
theorem value : Cert.algebraic_DwDownIdeal_DwDownRefIdeal := fun m ρ m' ρ' _ hag =>
  ⟨fun c => (Cert.DwDownIdeal.Gen.dats m 0 c).arrAt 2 Cert.DwDownIdeal.cfg0.N,
    Cert.DwDownIdeal.Value.run_blocks m ρ,
    (θ_run _ _ _).mono (fun _ h c => by
      obtain ⟨h0, hr⟩ := h c
      obtain ⟨a0, a1⟩ := hag c
      refine ⟨h0.trans ?_, hr⟩
      rw [a0, a1]
      exact (ext2 (Cert.DwDownRefIdeal.Ffn.out_at _ _)).trans (Cert.DwDownIdeal.Ffn.arr2 m c).symm)
      (Cert.DwDownRefIdeal.Value.run m' ρ')⟩

end Cert.DwDown.Claims

end
end
-- ==== Proof.Ffn.DxDown.lean ====
/-
  The gradient of the feed-forward layer's activations: rows of the result's gradient times rows of the second
  weight, a block of 512 tokens at a point; the reference is the one product.
-/
module

public import proofs.«01_k».proof.Proof.Kit
public import proofs.«01_k».proof.Proof.Gen.DxDown.Frame
public import proofs.«01_k».proof.Proof.Gen.DxDownIdeal.Value
public import proofs.«01_k».proof.Proof.Gen.DxDownRefIdeal.Run

@[expose] public section

set_option maxRecDepth 16384

noncomputable section

open Idealize.ShloMosaic Idealize.ShloMosaic.TcCoe Idealize.SL.Sem Cert.Common

namespace Cert.DxDownIdeal.Ffn

open Cert.DxDownIdeal Cert.DxDownIdeal.Gen

variable (m : (ℓ : Loc nD τ sig) → Buf (Elt Ideal) ℓ)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

/-- A point's block: its rows times the weight's rows. -/
theorem out_point (c : Dev nD) (t : Fin cfg0.N) (p : Fin 512) (q : Fin 2816) :
    outsAt0 m c t (ix2 p q)
      = ∑ e : Fin 1024, (show Vec Ideal S512x1024 .f32 from iblk m c 0 t) (ix2 p e)
          * (show Vec Ideal S2816x1024 .bf16 from iblk m c 1 t) (ix2 q e) := by
  unfold outsAt0
  frame_open
  simp (disch := decide) only [↓ View.readCov_skip, ↓ View.readCov_cons_toLoadRect, ↓ View.readCov_fill]
  frame_out
  pointwise [k0_pay3, k0_pay2, k0_pay1]

/-- The gradient of the layer's result as launched. -/
abbrev a0 (c : Dev nD) (r : Fin 4096) (e : Fin 1024) : EReal := m ((c : Thread nD τ).loc main_arg0) (ix2 r e)
/-- The weight as launched. -/
abbrev a1 (c : Dev nD) (r : Fin 2816) (e : Fin 1024) : EReal := m ((c : Thread nD τ).loc main_arg1) (ix2 r e)

/-- The activations' gradient: a row of the result's gradient times a row of the weight. -/
def grad (x : Fin 4096 → Fin 1024 → EReal) (y : Fin 2816 → Fin 1024 → EReal) (p : Fin 4096) (q : Fin 2816) : EReal :=
  ∑ e : Fin 1024, x p e * y q e

/-- Row `p` of point `t`'s blocks as a token. -/
abbrev tokn (t : Fin cfg0.N) (p : Fin 512) : Fin 4096 :=
  ⟨t.val * 512 + p.val, by have : t.val < 8 := lt_of_lt_of_eq t.isLt Gen.N_0; omega⟩

theorem blk0 (c : Dev nD) (t : Fin cfg0.N) (p : Fin 512) (e : Fin 1024) :
    (show Vec Ideal S512x1024 .f32 from iblk m c 0 t) (ix2 p e) = a0 m c (tokn t p) e := by
  unfold a0
  blk_ext [iblk, V, idx0 t]
theorem blk1 (c : Dev nD) (t : Fin cfg0.N) (q : Fin 2816) (e : Fin 1024) :
    (show Vec Ideal S2816x1024 .bf16 from iblk m c 1 t) (ix2 q e) = a1 m c q e := by
  unfold a1
  blk_ext [iblk, V, idx1 t]

/-- The kernel's result array after the run. -/
theorem arr2 (c : Dev nD) : (dats m 0 c).arrAt 2 cfg0.N = fun i => grad (a0 m c) (a1 m c) (i 0) (i 1) := by
  refine (dats m 0 c).arrAt_eq_of_covers 2 _ (by decide +kernel) fun t hf y => ?_
  blk_simp
  rw [after0_2]
  obtain ⟨p, q, rfl⟩ : ∃ (p : Fin 512) (q : Fin 2816), y = ix2 p q := ⟨y 0, y 1, eq_ix2 y⟩
  have hy : ((cfg0.win 2).blk t).view.emb (ix2 p q) = (ix2 (tokn t p) q : S4096x2816.Idx) := by
    blk_ext [idx2 t]
  refine Eq.trans ?_ (congrArg (fun i : S4096x2816.Idx => grad (a0 m c) (a1 m c) (i 0) (i 1)) hy).symm
  refine (out_point m c t p q).trans ?_
  unfold grad
  refine Finset.sum_congr rfl fun e _ => ?_
  rw [blk0, blk1]
  rfl

end Cert.DxDownIdeal.Ffn

namespace Cert.DxDownRefIdeal.Ffn

open Cert.DxDownRefIdeal Cert.DxDownRefIdeal.Gen

/-- The reference's result. -/
def out (x : FVec Ideal S4096x1024 .f32) (y : FVec Ideal S2816x1024 .bf16) : FVec Ideal S4096x2816 .bf16 :=
  truncf .bf16 (Host.dotGeneral dot_S4096x1024_S2816x1024_S4096x2816_1_1_0_0_n_n none x (extf .f32 y bitsLt_bf16_f32)) bitsLt_bf16_f32

theorem out_at (x : FVec Ideal S4096x1024 .f32) (y : FVec Ideal S2816x1024 .bf16) (p : Fin 4096) (q : Fin 2816) :
    out x y (ix2 p q) = Cert.DxDownIdeal.Ffn.grad (fun r e => x (ix2 r e)) (fun r e => y (ix2 r e)) p q := by
  unfold Cert.DxDownIdeal.Ffn.grad
  pointwise [out]

end Cert.DxDownRefIdeal.Ffn

namespace Cert.DxDown.Claims

/-- The reference's frame: its generated run, read at the arguments. -/
theorem frame_ref : Cert.quiescent_DxDownRefIdeal := fun m ρ _ =>
  (θ_run Cert.DxDownRefIdeal.defs _ _).mono (fun _ h => ⟨fun c => (h c).2, Idealize.ShloMosaic.sem_eq_zero_of_no_sems (by decide) _⟩)
    (Cert.DxDownRefIdeal.Value.run m ρ)

/-- The kernel's result is the reference's over the extended reals. -/
theorem value : Cert.algebraic_DxDownIdeal_DxDownRefIdeal := fun m ρ m' ρ' _ hag =>
  ⟨fun c => (Cert.DxDownIdeal.Gen.dats m 0 c).arrAt 2 Cert.DxDownIdeal.cfg0.N,
    Cert.DxDownIdeal.Value.run_blocks m ρ,
    (θ_run _ _ _).mono (fun _ h c => by
      obtain ⟨h0, hr⟩ := h c
      obtain ⟨a0, a1⟩ := hag c
      refine ⟨h0.trans ?_, hr⟩
      rw [a0, a1]
      exact (ext2 (Cert.DxDownRefIdeal.Ffn.out_at _ _)).trans (Cert.DxDownIdeal.Ffn.arr2 m c).symm)
      (Cert.DxDownRefIdeal.Value.run m' ρ')⟩

end Cert.DxDown.Claims

end
end
-- ==== Proof.Ffn.DxGate.lean ====
/-
  The gradient of the feed-forward layer's input through the gate columns: rows of 2816 columns times the weight's
  rows, added up over the weight's two slots of 1408 columns; the reference is one product.
-/
module

public import proofs.«01_k».proof.Proof.Kit
public import proofs.«01_k».proof.Proof.Gen.DxGate.Frame
public import proofs.«01_k».proof.Proof.Gen.DxGateIdeal.Value
public import proofs.«01_k».proof.Proof.Gen.DxGateRefIdeal.Run

@[expose] public section

set_option maxRecDepth 16384

noncomputable section

open Idealize.ShloMosaic Idealize.ShloMosaic.TcCoe Idealize.SL.Sem Cert.Common

namespace Cert.DxGateIdeal.Ffn

open Cert.DxGateIdeal Cert.DxGateIdeal.Gen

variable (m : (ℓ : Loc nD τ sig) → Buf (Elt Ideal) ℓ)

theorem idx0 : ∀ t : Fin grid0.N, win0_0.index t = ![t.val / 2, t.val % 2] := by decide +kernel
theorem idx1 : ∀ t : Fin grid0.N, win0_1.index t = ![t.val % 2, 0, 0] := by decide +kernel
theorem idx2 : ∀ t : Fin grid0.N, win0_2.index t = ![t.val / 2, 0] := by decide +kernel

/-- What a point adds at row `p` and column `q` of its block: the sum over its 1408 columns. -/
def part (x0 : Vec Ideal S512x1408 .bf16) (x1 : Vec Ideal S1x1024x1408 .bf16) (p : Fin 512) (q : Fin 1024) : EReal :=
  ∑ e : Fin 1408, x0 (ix2 p e) * x1 (ix3 0 q e)

/-- One product of the body, at an index. -/
theorem pay_at (acc : Vec Ideal S512x1024 .f32) (x0 : Vec Ideal S512x1408 .bf16) (x1 : Vec Ideal S1x1024x1408 .bf16)
    (p : Fin 512) (q : Fin 1024) : k0_pay2 acc x0 x1 (ix2 p q) = acc (ix2 p q) + part x0 x1 p q := by
  unfold part
  pointwise [k0_pay2]

theorem acc_A (c : Dev nD) (t : Fin cfg0.N) (ht : t.val % 2 = 0) (p : Fin 512) (q : Fin 1024) :
    (outsAt0 m c t.val t.isLt).2 (ix2 p q) = 0 + part (iblk m c 0 t) (iblk m c 1 t) p q := by
  rw [outsAt0_A m c t ht (by omega)]
  frame_open
  simp (disch := decide) only [↓ View.readCov_skip, ↓ View.readCov_cons_toLoadRect, ↓ View.readCov_fill]
  frame_out
  refine (pay_at _ _ _ p q).trans (congrArg (· + _) ?_)
  pointwise [k0_pay1]

theorem acc_B (c : Dev nD) (t : Fin cfg0.N) (ht : ¬ t.val % 2 = 0) (p : Fin 512) (q : Fin 1024) :
    (outsAt0 m c t.val t.isLt).2 (ix2 p q)
      = (outsAt0 m c (t.val - 1) (Nat.lt_of_le_of_lt (Nat.sub_le _ _) t.isLt)).2 (ix2 p q)
        + part (iblk m c 0 t) (iblk m c 1 t) p q := by
  rw [outsAt0_B m c t ht (by omega)]
  frame_open
  simp (disch := decide) only [↓ View.readCov_skip, ↓ View.readCov_cons_toLoadRect, ↓ View.readCov_fill]
  frame_out
  simp only [read_unread_whole]
  exact pay_at _ _ _ p q

/-- The last point of a block writes the sum out. -/
theorem out_B (c : Dev nD) (t : Fin cfg0.N) (ht : t.val % 2 = 1) (p : Fin 512) (q : Fin 1024) :
    (outsAt0 m c t.val t.isLt).1 (ix2 p q) = (outsAt0 m c t.val t.isLt).2 (ix2 p q) := by
  rw [acc_B m c t (by omega), outsAt0_B m c t (by omega) ht]
  frame_open
  simp (disch := decide) only [↓ View.readCov_skip, ↓ View.readCov_cons_toLoadRect, ↓ View.readCov_fill]
  frame_out
  simp only [read_unread_whole]
  exact pay_at _ _ _ p q

/-- The gradient of the gate columns as launched. -/
abbrev a0 (c : Dev nD) (r : Fin 4096) (e : Fin 2816) : EReal := m ((c : Thread nD τ).loc main_arg0) (ix2 r e)
/-- The weight as launched, in four slots of 1408 columns. -/
abbrev a1 (c : Dev nD) (s : Fin 4) (r : Fin 1024) (e : Fin 1408) : EReal := m ((c : Thread nD τ).loc main_arg1) (ix3 s r e)

/-- The gradient of the layer's input: a row times the weight's row, the columns in two slots. -/
def grad (x : Fin 4096 → Fin 2816 → EReal) (y : Fin 4 → Fin 1024 → Fin 1408 → EReal) (p : Fin 4096) (q : Fin 1024) : EReal :=
  ∑ e : Fin 2816, x p e * y ⟨e.val / 1408, by omega⟩ q ⟨e.val % 1408, by omega⟩

/-- Row `p` of point `t`'s blocks as a token. -/
abbrev tokn (t : Fin cfg0.N) (p : Fin 512) : Fin 4096 :=
  ⟨t.val / 2 * 512 + p.val, by have : t.val < 16 := lt_of_lt_of_eq t.isLt Gen.N_0; omega⟩
/-- Column `e` of point `t`'s block. -/
abbrev col (t : Fin cfg0.N) (e : Fin 1408) : Fin 2816 := ⟨t.val % 2 * 1408 + e.val, by omega⟩

theorem blk0 (c : Dev nD) (t : Fin cfg0.N) (p : Fin 512) (e : Fin 1408) :
    iblk m c 0 t (ix2 p e) = a0 m c (tokn t p) (col t e) := by
  unfold a0
  blk_ext [iblk, V, idx0 t]
theorem blk1 (c : Dev nD) (t : Fin cfg0.N) (q : Fin 1024) (e : Fin 1408) :
    iblk m c 1 t (ix3 0 q e) = a1 m c ⟨t.val % 2, by omega⟩ q e := by
  unfold a1
  blk_ext [iblk, V, idx1 t]

/-- At a block's last point the accumulator holds the whole sum. -/
theorem sum_at (c : Dev nD) (t : Fin cfg0.N) (ht : t.val % 2 = 1) (p : Fin 512) (q : Fin 1024) :
    (outsAt0 m c t.val t.isLt).2 (ix2 p q)
      = ∑ e : Fin 2816, a0 m c (tokn t p) e * a1 m c ⟨e.val / 1408, by omega⟩ q ⟨e.val % 1408, by omega⟩ := by
  have hN : t.val < 16 := lt_of_lt_of_eq t.isLt Gen.N_0
  have e := Pipeline.eq_sum_fin_of_reset_step_of_flush (M := EReal)
    (fun n hn => (outsAt0 m c n hn).2 (ix2 p q)) 2 0 _
    (fun t ht => acc_A m c t ht p q) (fun t ht => acc_B m c t ht p q) t ht
  refine e.trans ((zero_add _).trans ?_)
  unfold part
  refine Fin.sum_mul_add_congr fun s r hl => ?_
  rw [blk0, blk1]
  have hs := s.isLt
  have hr := r.isLt
  have e1 : tokn ⟨2 * (t.val / 2) + s.val, lt_of_lt_of_eq (by omega) Gen.N_0.symm⟩ p = tokn t p :=
    Fin.ext (by show (2 * (t.val / 2) + s.val) / 2 * 512 + p.val = t.val / 2 * 512 + p.val; omega)
  have e2 : col ⟨2 * (t.val / 2) + s.val, lt_of_lt_of_eq (by omega) Gen.N_0.symm⟩ r
      = ⟨s.val * 1408 + r.val, hl⟩ :=
    Fin.ext (by show (2 * (t.val / 2) + s.val) % 2 * 1408 + r.val = s.val * 1408 + r.val; omega)
  have e3 : (⟨(2 * (t.val / 2) + s.val) % 2, by omega⟩ : Fin 4) = ⟨(s.val * 1408 + r.val) / 1408, by omega⟩ :=
    Fin.ext (by show (2 * (t.val / 2) + s.val) % 2 = (s.val * 1408 + r.val) / 1408; omega)
  have e4 : r = ⟨(s.val * 1408 + r.val) % 1408, by omega⟩ := Fin.ext (by show r.val = (s.val * 1408 + r.val) % 1408; omega)
  exact congrArg₂ (· * ·) (congrArg₂ (a0 m c) e1 e2) (congrArg₂ (fun s r => a1 m c s q r) e3 e4)

/-- The kernel's result array after the run. -/
theorem arr2 (c : Dev nD) : (dats m 0 c).arrAt 2 cfg0.N = fun i => grad (a0 m c) (a1 m c) (i 0) (i 1) := by
  refine (dats m 0 c).arrAt_eq_of_covers 2 _ (by decide +kernel) fun t hf y => ?_
  blk_simp
  rw [after0_2]
  obtain ⟨p, q, rfl⟩ : ∃ (p : Fin 512) (q : Fin 1024), y = ix2 p q := ⟨y 0, y 1, eq_ix2 y⟩
  have hy : ((cfg0.win 2).blk t).view.emb (ix2 p q) = (ix2 (tokn t p) q : S4096x1024.Idx) := by
    blk_ext [idx2 t]
  refine Eq.trans ?_ (congrArg (fun i : S4096x1024.Idx => grad (a0 m c) (a1 m c) (i 0) (i 1)) hy).symm
  refine (out_B m c t ((flush0_2 t).mp hf) p q).trans ?_
  rw [sum_at m c t ((flush0_2 t).mp hf) p q]
  rfl

end Cert.DxGateIdeal.Ffn

namespace Cert.DxGateRefIdeal.Ffn

open Cert.DxGateRefIdeal Cert.DxGateRefIdeal.Gen

/-- The weight's two slots side by side. -/
def weight (y : FVec Ideal S4x1024x1408 .bf16) : FVec Ideal S1024x2816 .f32 :=
  concatenate S1024x2816 1 [⟨S1024x1408, (shapeCast _ (extractStridedSlice S1x1024x1408 ![0, 0, 0] (extf .f32 y bitsLt_bf16_f32) slices_S4x1024x1408_S1x1024x1408_0_0_0) shapeCasts_S1x1024x1408_S1024x1408)⟩, ⟨S1024x1408, (shapeCast _ (extractStridedSlice S1x1024x1408 ![1, 0, 0] (extf .f32 y bitsLt_bf16_f32) slices_S4x1024x1408_S1x1024x1408_1_0_0) shapeCasts_S1x1024x1408_S1024x1408)⟩] concatenates_S1024x1408_S1024x1408_S1024x2816_d1

theorem weight_at (y : FVec Ideal S4x1024x1408 .bf16) (q : Fin 1024) (e : Fin 2816) :
    weight y (ix2 q e) = y (ix3 ⟨e.val / 1408, by omega⟩ q ⟨e.val % 1408, by omega⟩) := by
  pointwise [weight]
  split_ifs with h
  · have h1 : (⟨e.val / 1408, by omega⟩ : Fin 4) = 0 := Fin.ext (by show e.val / 1408 = 0; omega)
    have h2 : (⟨e.val % 1408, by omega⟩ : Fin 1408) = ⟨e.val, h⟩ := Fin.ext (by show e.val % 1408 = e.val; omega)
    rw [h1, h2]
  · have h1 : (⟨e.val / 1408, by omega⟩ : Fin 4) = 1 := Fin.ext (by show e.val / 1408 = 1; omega)
    have h2 : (⟨e.val % 1408, by omega⟩ : Fin 1408) = ⟨e.val - 1408, by omega⟩ :=
      Fin.ext (by show e.val % 1408 = e.val - 1408; omega)
    rw [h1, h2]
  · exact absurd rfl ‹_›

/-- The reference's result. -/
def out (x : FVec Ideal S4096x2816 .bf16) (y : FVec Ideal S4x1024x1408 .bf16) : FVec Ideal S4096x1024 .f32 :=
  Host.dotGeneral dot_S4096x2816_S1024x2816_S4096x1024_1_1_0_0_n_n none (extf .f32 x bitsLt_bf16_f32) (weight y)

theorem out_at (x : FVec Ideal S4096x2816 .bf16) (y : FVec Ideal S4x1024x1408 .bf16) (p : Fin 4096) (q : Fin 1024) :
    out x y (ix2 p q) = Cert.DxGateIdeal.Ffn.grad (fun r e => x (ix2 r e)) (fun s r e => y (ix3 s r e)) p q := by
  unfold Cert.DxGateIdeal.Ffn.grad
  pointwise [out]
  simp only [weight_at]

end Cert.DxGateRefIdeal.Ffn

namespace Cert.DxGate.Claims

/-- The reference's frame: its generated run, read at the arguments. -/
theorem frame_ref : Cert.quiescent_DxGateRefIdeal := fun m ρ _ =>
  (θ_run Cert.DxGateRefIdeal.defs _ _).mono (fun _ h => ⟨fun c => (h c).2, Idealize.ShloMosaic.sem_eq_zero_of_no_sems (by decide) _⟩)
    (Cert.DxGateRefIdeal.Value.run m ρ)

/-- The kernel's result is the reference's over the extended reals. -/
theorem value : Cert.algebraic_DxGateIdeal_DxGateRefIdeal := fun m ρ m' ρ' _ hag =>
  ⟨fun c => (Cert.DxGateIdeal.Gen.dats m 0 c).arrAt 2 Cert.DxGateIdeal.cfg0.N,
    Cert.DxGateIdeal.Value.run_blocks m ρ,
    (θ_run _ _ _).mono (fun _ h c => by
      obtain ⟨h0, hr⟩ := h c
      obtain ⟨a0, a1⟩ := hag c
      refine ⟨h0.trans ?_, hr⟩
      rw [a0, a1]
      exact (ext2 (Cert.DxGateRefIdeal.Ffn.out_at _ _)).trans (Cert.DxGateIdeal.Ffn.arr2 m c).symm)
      (Cert.DxGateRefIdeal.Value.run m' ρ')⟩

end Cert.DxGate.Claims

end
end
-- ==== Proof.Ffn.DxUp.lean ====
/-
  The gradient of the feed-forward layer's input through the up columns, added to the gradient so far: rows of 2816
  columns times the weight's rows, over the weight's two slots of 1408 columns; the reference is one product and a sum.
-/
module

public import proofs.«01_k».proof.Proof.Kit
public import proofs.«01_k».proof.Proof.Gen.DxUp.Frame
public import proofs.«01_k».proof.Proof.Gen.DxUpIdeal.Value
public import proofs.«01_k».proof.Proof.Gen.DxUpRefIdeal.Run

@[expose] public section

set_option maxRecDepth 16384

noncomputable section

open Idealize.ShloMosaic Idealize.ShloMosaic.TcCoe Idealize.SL.Sem Cert.Common

namespace Cert.DxUpIdeal.Ffn

open Cert.DxUpIdeal Cert.DxUpIdeal.Gen

variable (m : (ℓ : Loc nD τ sig) → Buf (Elt Ideal) ℓ)

theorem idx0 : ∀ t : Fin grid0.N, win0_0.index t = ![t.val / 2, t.val % 2] := by decide +kernel
theorem idx1 : ∀ t : Fin grid0.N, win0_1.index t = ![2 + t.val % 2, 0, 0] := by decide +kernel
theorem idx2 : ∀ t : Fin grid0.N, win0_2.index t = ![t.val / 2, 0] := by decide +kernel
theorem idx3 : ∀ t : Fin grid0.N, win0_3.index t = ![t.val / 2, 0] := by decide +kernel

/-- What a point adds at row `p` and column `q` of its block: the sum over its 1408 columns. -/
def part (x0 : Vec Ideal S512x1408 .bf16) (x1 : Vec Ideal S1x1024x1408 .bf16) (p : Fin 512) (q : Fin 1024) : EReal :=
  ∑ e : Fin 1408, x0 (ix2 p e) * x1 (ix3 0 q e)

/-- One product of the body, at an index. -/
theorem pay_at (acc : Vec Ideal S512x1024 .f32) (x0 : Vec Ideal S512x1408 .bf16) (x1 : Vec Ideal S1x1024x1408 .bf16)
    (p : Fin 512) (q : Fin 1024) : k0_pay2 acc x0 x1 (ix2 p q) = acc (ix2 p q) + part x0 x1 p q := by
  unfold part
  pointwise [k0_pay2]

theorem acc_A (c : Dev nD) (t : Fin cfg0.N) (ht : t.val % 2 = 0) (p : Fin 512) (q : Fin 1024) :
    (outsAt0 m c t.val t.isLt).2 (ix2 p q) = 0 + part (iblk m c 0 t) (iblk m c 1 t) p q := by
  rw [outsAt0_A m c t ht (by omega)]
  frame_open
  simp (disch := decide) only [↓ View.readCov_skip, ↓ View.readCov_cons_toLoadRect, ↓ View.readCov_fill]
  frame_out
  refine (pay_at _ _ _ p q).trans (congrArg (· + _) ?_)
  pointwise [k0_pay1]

theorem acc_B (c : Dev nD) (t : Fin cfg0.N) (ht : ¬ t.val % 2 = 0) (p : Fin 512) (q : Fin 1024) :
    (outsAt0 m c t.val t.isLt).2 (ix2 p q)
      = (outsAt0 m c (t.val - 1) (Nat.lt_of_le_of_lt (Nat.sub_le _ _) t.isLt)).2 (ix2 p q)
        + part (iblk m c 0 t) (iblk m c 1 t) p q := by
  rw [outsAt0_B m c t ht (by omega)]
  frame_open
  simp (disch := decide) only [↓ View.readCov_skip, ↓ View.readCov_cons_toLoadRect, ↓ View.readCov_fill]
  frame_out
  simp only [read_unread_whole]
  exact pay_at _ _ _ p q

/-- The last point of a block writes the sum out, with the block of the third argument added. -/
theorem out_B (c : Dev nD) (t : Fin cfg0.N) (ht : t.val % 2 = 1) (p : Fin 512) (q : Fin 1024) :
    (outsAt0 m c t.val t.isLt).1 (ix2 p q) = (outsAt0 m c t.val t.isLt).2 (ix2 p q) + (show Vec Ideal S512x1024 .f32 from iblk m c 2 t) (ix2 p q) := by
  rw [acc_B m c t (by omega), outsAt0_B m c t (by omega) ht]
  frame_open
  simp (disch := decide) only [↓ View.readCov_skip, ↓ View.readCov_cons_toLoadRect, ↓ View.readCov_fill]
  frame_out
  simp only [read_unread_whole]
  unfold k0_pay3
  exact congrArg (· + _) (pay_at _ _ _ p q)

/-- The gradient of the up columns as launched. -/
abbrev a0 (c : Dev nD) (r : Fin 4096) (e : Fin 2816) : EReal := m ((c : Thread nD τ).loc main_arg0) (ix2 r e)
/-- The weight as launched, in four slots of 1408 columns. -/
abbrev a1 (c : Dev nD) (s : Fin 4) (r : Fin 1024) (e : Fin 1408) : EReal := m ((c : Thread nD τ).loc main_arg1) (ix3 s r e)
/-- The gradient so far, as launched. -/
abbrev a2 (c : Dev nD) (r : Fin 4096) (e : Fin 1024) : EReal := m ((c : Thread nD τ).loc main_arg2) (ix2 r e)

/-- The gradient of the layer's input: a row times the weight's row, the columns in two slots, and the gradient so far. -/
def grad (x : Fin 4096 → Fin 2816 → EReal) (y : Fin 4 → Fin 1024 → Fin 1408 → EReal) (z : Fin 4096 → Fin 1024 → EReal) (p : Fin 4096) (q : Fin 1024) : EReal :=
  z p q + ∑ e : Fin 2816, x p e * y ⟨2 + e.val / 1408, by omega⟩ q ⟨e.val % 1408, by omega⟩

/-- Row `p` of point `t`'s blocks as a token. -/
abbrev tokn (t : Fin cfg0.N) (p : Fin 512) : Fin 4096 :=
  ⟨t.val / 2 * 512 + p.val, by have : t.val < 16 := lt_of_lt_of_eq t.isLt Gen.N_0; omega⟩
/-- Column `e` of point `t`'s block. -/
abbrev col (t : Fin cfg0.N) (e : Fin 1408) : Fin 2816 := ⟨t.val % 2 * 1408 + e.val, by omega⟩

theorem blk0 (c : Dev nD) (t : Fin cfg0.N) (p : Fin 512) (e : Fin 1408) :
    iblk m c 0 t (ix2 p e) = a0 m c (tokn t p) (col t e) := by
  unfold a0
  blk_ext [iblk, V, idx0 t]
theorem blk1 (c : Dev nD) (t : Fin cfg0.N) (q : Fin 1024) (e : Fin 1408) :
    iblk m c 1 t (ix3 0 q e) = a1 m c ⟨2 + t.val % 2, by omega⟩ q e := by
  unfold a1
  blk_ext [iblk, V, idx1 t]
theorem blk2 (c : Dev nD) (t : Fin cfg0.N) (p : Fin 512) (q : Fin 1024) :
    (show Vec Ideal S512x1024 .f32 from iblk m c 2 t) (ix2 p q) = a2 m c (tokn t p) q := by
  unfold a2
  blk_ext [iblk, V, idx2 t]

/-- At a block's last point the accumulator holds the whole sum. -/
theorem sum_at (c : Dev nD) (t : Fin cfg0.N) (ht : t.val % 2 = 1) (p : Fin 512) (q : Fin 1024) :
    (outsAt0 m c t.val t.isLt).2 (ix2 p q)
      = ∑ e : Fin 2816, a0 m c (tokn t p) e * a1 m c ⟨2 + e.val / 1408, by omega⟩ q ⟨e.val % 1408, by omega⟩ := by
  have hN : t.val < 16 := lt_of_lt_of_eq t.isLt Gen.N_0
  have e := Pipeline.eq_sum_fin_of_reset_step_of_flush (M := EReal)
    (fun n hn => (outsAt0 m c n hn).2 (ix2 p q)) 2 0 _
    (fun t ht => acc_A m c t ht p q) (fun t ht => acc_B m c t ht p q) t ht
  refine e.trans ((zero_add _).trans ?_)
  unfold part
  refine Fin.sum_mul_add_congr fun s r hl => ?_
  rw [blk0, blk1]
  have hs := s.isLt
  have hr := r.isLt
  have e1 : tokn ⟨2 * (t.val / 2) + s.val, lt_of_lt_of_eq (by omega) Gen.N_0.symm⟩ p = tokn t p :=
    Fin.ext (by show (2 * (t.val / 2) + s.val) / 2 * 512 + p.val = t.val / 2 * 512 + p.val; omega)
  have e2 : col ⟨2 * (t.val / 2) + s.val, lt_of_lt_of_eq (by omega) Gen.N_0.symm⟩ r
      = ⟨s.val * 1408 + r.val, hl⟩ :=
    Fin.ext (by show (2 * (t.val / 2) + s.val) % 2 * 1408 + r.val = s.val * 1408 + r.val; omega)
  have e3 : (⟨2 + (2 * (t.val / 2) + s.val) % 2, by omega⟩ : Fin 4) = ⟨2 + (s.val * 1408 + r.val) / 1408, by omega⟩ :=
    Fin.ext (by show 2 + (2 * (t.val / 2) + s.val) % 2 = 2 + (s.val * 1408 + r.val) / 1408; omega)
  have e4 : r = ⟨(s.val * 1408 + r.val) % 1408, by omega⟩ := Fin.ext (by show r.val = (s.val * 1408 + r.val) % 1408; omega)
  exact congrArg₂ (· * ·) (congrArg₂ (a0 m c) e1 e2) (congrArg₂ (fun s r => a1 m c s q r) e3 e4)

/-- The kernel's result array after the run. -/
theorem arr3 (c : Dev nD) : (dats m 0 c).arrAt 3 cfg0.N = fun i => grad (a0 m c) (a1 m c) (a2 m c) (i 0) (i 1) := by
  refine (dats m 0 c).arrAt_eq_of_covers 3 _ (by decide +kernel) fun t hf y => ?_
  blk_simp
  rw [after0_3]
  obtain ⟨p, q, rfl⟩ : ∃ (p : Fin 512) (q : Fin 1024), y = ix2 p q := ⟨y 0, y 1, eq_ix2 y⟩
  have hy : ((cfg0.win 3).blk t).view.emb (ix2 p q) = (ix2 (tokn t p) q : S4096x1024.Idx) := by
    blk_ext [idx3 t]
  refine Eq.trans ?_ (congrArg (fun i : S4096x1024.Idx => grad (a0 m c) (a1 m c) (a2 m c) (i 0) (i 1)) hy).symm
  refine (out_B m c t ((flush0_3 t).mp hf) p q).trans ?_
  rw [sum_at m c t ((flush0_3 t).mp hf) p q, blk2, add_comm]
  rfl

end Cert.DxUpIdeal.Ffn

namespace Cert.DxUpRefIdeal.Ffn

open Cert.DxUpRefIdeal Cert.DxUpRefIdeal.Gen

/-- The weight's two slots side by side. -/
def weight (y : FVec Ideal S4x1024x1408 .bf16) : FVec Ideal S1024x2816 .f32 :=
  concatenate S1024x2816 1 [⟨S1024x1408, (shapeCast _ (extractStridedSlice S1x1024x1408 ![2, 0, 0] (extf .f32 y bitsLt_bf16_f32) slices_S4x1024x1408_S1x1024x1408_2_0_0) shapeCasts_S1x1024x1408_S1024x1408)⟩, ⟨S1024x1408, (shapeCast _ (extractStridedSlice S1x1024x1408 ![3, 0, 0] (extf .f32 y bitsLt_bf16_f32) slices_S4x1024x1408_S1x1024x1408_3_0_0) shapeCasts_S1x1024x1408_S1024x1408)⟩] concatenates_S1024x1408_S1024x1408_S1024x2816_d1

theorem weight_at (y : FVec Ideal S4x1024x1408 .bf16) (q : Fin 1024) (e : Fin 2816) :
    weight y (ix2 q e) = y (ix3 ⟨2 + e.val / 1408, by omega⟩ q ⟨e.val % 1408, by omega⟩) := by
  pointwise [weight]
  split_ifs with h
  · have h1 : (⟨2 + e.val / 1408, by omega⟩ : Fin 4) = 2 := Fin.ext (by show 2 + e.val / 1408 = 2; omega)
    have h2 : (⟨e.val % 1408, by omega⟩ : Fin 1408) = ⟨e.val, h⟩ := Fin.ext (by show e.val % 1408 = e.val; omega)
    rw [h1, h2]
  · have h1 : (⟨2 + e.val / 1408, by omega⟩ : Fin 4) = 3 := Fin.ext (by show 2 + e.val / 1408 = 3; omega)
    have h2 : (⟨e.val % 1408, by omega⟩ : Fin 1408) = ⟨e.val - 1408, by omega⟩ :=
      Fin.ext (by show e.val % 1408 = e.val - 1408; omega)
    rw [h1, h2]
  · exact absurd rfl ‹_›

/-- The reference's result. -/
def out (x : FVec Ideal S4096x2816 .bf16) (y : FVec Ideal S4x1024x1408 .bf16) (z : FVec Ideal S4096x1024 .f32) : FVec Ideal S4096x1024 .f32 :=
  addf z (Host.dotGeneral dot_S4096x2816_S1024x2816_S4096x1024_1_1_0_0_n_n none (extf .f32 x bitsLt_bf16_f32) (weight y))

theorem out_at (x : FVec Ideal S4096x2816 .bf16) (y : FVec Ideal S4x1024x1408 .bf16) (z : FVec Ideal S4096x1024 .f32) (p : Fin 4096) (q : Fin 1024) :
    out x y z (ix2 p q) = Cert.DxUpIdeal.Ffn.grad (fun r e => x (ix2 r e)) (fun s r e => y (ix3 s r e)) (fun r e => z (ix2 r e)) p q := by
  unfold Cert.DxUpIdeal.Ffn.grad
  pointwise [out]
  simp only [weight_at]

end Cert.DxUpRefIdeal.Ffn

namespace Cert.DxUp.Claims

/-- The reference's frame: its generated run, read at the arguments. -/
theorem frame_ref : Cert.quiescent_DxUpRefIdeal := fun m ρ _ =>
  (θ_run Cert.DxUpRefIdeal.defs _ _).mono (fun _ h => ⟨fun c => (h c).2, Idealize.ShloMosaic.sem_eq_zero_of_no_sems (by decide) _⟩)
    (Cert.DxUpRefIdeal.Value.run m ρ)

/-- The kernel's result is the reference's over the extended reals. -/
theorem value : Cert.algebraic_DxUpIdeal_DxUpRefIdeal := fun m ρ m' ρ' _ hag =>
  ⟨fun c => (Cert.DxUpIdeal.Gen.dats m 0 c).arrAt 3 Cert.DxUpIdeal.cfg0.N,
    Cert.DxUpIdeal.Value.run_blocks m ρ,
    (θ_run _ _ _).mono (fun _ h c => by
      obtain ⟨h0, hr⟩ := h c
      obtain ⟨a0, a1, a2⟩ := hag c
      refine ⟨h0.trans ?_, hr⟩
      rw [a0, a1, a2]
      exact (ext2 (Cert.DxUpRefIdeal.Ffn.out_at _ _ _)).trans (Cert.DxUpIdeal.Ffn.arr3 m c).symm)
      (Cert.DxUpRefIdeal.Value.run m' ρ')⟩

end Cert.DxUp.Claims

end
end
-- ==== Proof.Cols.Conv.lean ====
/-
  The gradient of a causal convolution of K taps with the activation x ↦ x · logistic x, for one column of a sequence of
  2048 tokens, over the extended reals; and the two shifts as a kernel writes them, a rotation under a mask.
-/
module

public import Idealize.ShloMosaic.Lib.Pointwise
public import Idealize.ShloMosaic.Lib.WordCmp

@[expose] public section

noncomputable section

open Idealize.ShloMosaic

namespace Cert.Conv

/-- The column `n` tokens earlier, zero before the sequence. -/
def before (n : ℕ) (x : Fin 2048 → EReal) (l : Fin 2048) : EReal := if n ≤ l.val then x ⟨l.val - n, by omega⟩ else 0
/-- The column `n` tokens later, zero after the sequence. -/
def after (n : ℕ) (g : Fin 2048 → EReal) (l : Fin 2048) : EReal := if h : l.val + n < 2048 then g ⟨l.val + n, h⟩ else 0

theorem before_zero (x : Fin 2048 → EReal) (l : Fin 2048) : before 0 x l = x l := by
  unfold before
  rw [if_pos (Nat.zero_le _)]
  exact congrArg x (Fin.ext (Nat.sub_zero _))
theorem after_zero (g : Fin 2048 → EReal) (l : Fin 2048) : after 0 g l = g l := by
  unfold after
  rw [dif_pos (show l.val + 0 < 2048 by omega)]
  rfl

/-- A rotation by `n`, masked below row `n`. -/
theorem sel_before (n : ℕ) (hn : n < 2048) (x : Fin 2048 → EReal) (l : Fin 2048) :
    Scalar.select (IntOp.cmpi .sge (BitVec.ofNat 32 l.val) (BitVec.ofNat 32 n))
      (x ⟨(l.val + 2048 - n) % 2048, Nat.mod_lt _ (by decide)⟩) 0 = before n x l := by
  have hl := l.isLt
  rw [WordCmp.cmpi_sge_ofNat (by omega) (by omega)]
  unfold Scalar.select
  unfold before
  by_cases h : n ≤ l.val
  · rw [if_pos (by simp [h]), if_pos h]
    exact congrArg x (Fin.ext (by show (l.val + 2048 - n) % 2048 = l.val - n; omega))
  · rw [if_neg (by simp [h]), if_neg h]

/-- A rotation by `k`, masked from row `k` on, where `k` and `n` make up the sequence. -/
theorem sel_after (n k : ℕ) (hk : k + n = 2048) (hn : 0 < n) (g : Fin 2048 → EReal) (l : Fin 2048) :
    Scalar.select (IntOp.cmpi .slt (BitVec.ofNat 32 l.val) (BitVec.ofNat 32 k))
      (g ⟨(l.val + 2048 - k) % 2048, Nat.mod_lt _ (by decide)⟩) 0 = after n g l := by
  have hl := l.isLt
  rw [WordCmp.cmpi_slt_ofNat (by omega) (by omega)]
  unfold Scalar.select
  unfold after
  by_cases h : l.val + n < 2048
  · rw [decide_eq_true (show l.val < k by omega), if_pos (by decide), dif_pos h]
    exact congrArg g (Fin.ext (by show (l.val + 2048 - k) % 2048 = l.val + n; omega))
  · rw [decide_eq_false (show ¬l.val < k by omega), if_neg (by decide), dif_neg h]

/-- The host's sum over the first two of three axes. -/
theorem sum01 {n0 n1 n2 : ℕ} (h : (⟨3, ![n0, n1, n2]⟩ : Shape).ReducesTo [0, 1] ⟨1, ![n2]⟩)
    (v : (⟨3, ![n0, n1, n2]⟩ : Shape).Idx → EReal) (init : EReal) (e : Fin n2) :
    Ideal.hostReduceAdd h v init (ix1 e) = init + ∑ k0 : Fin n0, ∑ k1 : Fin n1, v (ix3 k0 k1 e) := by
  refine congrArg (init + ·) ((Finset.sum_filter_eq_sum_of_fiber _ (fun k : Fin n0 × Fin n1 => ix3 k.1 k.2 e)
    (fun _ _ e => Prod.ext (congrFun e 0) (congrFun e 1)) (fun i => ?_) v).trans ?_)
  · constructor
    · intro q
      refine ⟨(i 0, i 1), ?_⟩
      funext a; apply Fin.ext
      match a with
      | ⟨0, _⟩ => rfl
      | ⟨1, _⟩ => rfl
      | ⟨2, _⟩ => exact (congrArg Fin.val (congrFun q 0)).symm
    · rintro ⟨k, rfl⟩
      funext b
      apply Fin.ext
      match b with
      | ⟨0, _⟩ => rfl
  · simp only [Fintype.sum_prod_type]

/-- A shift by concatenation, as a column `n` tokens earlier. -/
theorem cat_before (n : ℕ) (x : Fin 2048 → EReal) (l : Fin 2048) :
    (if _ : l.val < n then 0 else x ⟨l.val - n, by omega⟩) = before n x l := by
  unfold before
  by_cases h : l.val < n
  · rw [dif_pos h, if_neg (by omega)]
  · rw [dif_neg h, if_pos (by omega)]
/-- A shift by padding, as a column `n` tokens later. -/
theorem pad_after (n k : ℕ) (hk : k + n = 2048) (g : Fin 2048 → EReal) (l : Fin 2048) :
    (if h : l.val < k then g ⟨n + l.val, by omega⟩ else 0) = after n g l := by
  unfold after
  by_cases h : l.val < k
  · rw [dif_pos h, dif_pos (by omega)]
    exact congrArg g (Fin.ext (Nat.add_comm _ _))
  · rw [dif_neg h, dif_neg (by omega)]

section
variable (K : ℕ) (x : Fin 2048 → EReal) (w : Fin K → EReal) (b : EReal) (c : Fin 2048 → EReal)

/-- The convolution. -/
def pre (l : Fin 2048) : EReal := (∑ j : Fin K, before (K - 1 - j.val) x l * w j) + b
/-- Its logistic. -/
def sig (l : Fin 2048) : EReal := Ideal.logistic (pre K x w b l)
/-- The convolution's gradient, from the gradient `c` of the activation's result. -/
def dz (l : Fin 2048) : EReal :=
  c l * sig K x w b l + pre K x w b l * c l * (sig K x w b l * (1 - sig K x w b l))
/-- The gradient of a column the activation's result is multiplied by, from the gradient `c` of the product. -/
def dm (l : Fin 2048) : EReal := pre K x w b l * sig K x w b l * c l
/-- The column's gradient. -/
def dx (l : Fin 2048) : EReal := ∑ j : Fin K, after (K - 1 - j.val) (fun l => dz K x w b c l * w j) l
/-- The gradient of tap `j`. -/
def dw (j : Fin K) : EReal := ∑ l, before (K - 1 - j.val) x l * dz K x w b c l
/-- The gradient of the bias. -/
def db : EReal := ∑ l, dz K x w b c l
end

/-- Four rows put together of single rows, the others zero. -/
theorem rows4 (f : Fin 4 → EReal) (j : Fin 4) :
    ((((if h : j.val < 1 then f 0 else 0) + if h : j.val < 2 then if h : j.val < 1 then 0 else f 1 else 0)
      + if h : j.val < 3 then if h : j.val < 2 then 0 else f 2 else 0) + if h : j.val < 3 then 0 else f 3) = f j := by
  fin_cases j <;> simp
/-- Three rows put together of single rows, the others zero. -/
theorem rows3 (f : Fin 3 → EReal) (j : Fin 3) :
    (((if h : j.val < 1 then f 0 else 0) + if h : j.val < 2 then if h : j.val < 1 then 0 else f 1 else 0)
      + if h : j.val < 2 then 0 else f 2) = f j := by
  fin_cases j <;> simp

/-- Four padded rows added. -/
theorem pads4 (f : Fin 4 → EReal) (j : Fin 4) :
    ((((if h : 3 ≤ j.val ∧ j.val - 3 < 1 then f 3 else 0) + if h : 2 ≤ j.val ∧ j.val - 2 < 1 then f 2 else 0)
      + if h : 1 ≤ j.val ∧ j.val - 1 < 1 then f 1 else 0) + if h : j.val < 1 then f 0 else 0) = f j := by
  fin_cases j <;> simp
/-- Three padded rows added. -/
theorem pads3 (f : Fin 3 → EReal) (j : Fin 3) :
    (((if h : 2 ≤ j.val ∧ j.val - 2 < 1 then f 2 else 0) + if h : 1 ≤ j.val ∧ j.val - 1 < 1 then f 1 else 0)
      + if h : j.val < 1 then f 0 else 0) = f j := by
  fin_cases j <;> simp

section
variable {C : ℕ} (K : ℕ) (X : Fin 4096 → Fin C → EReal) (W : Fin K → Fin C → EReal) (B : Fin C → EReal)
  (D : Fin 4096 → Fin C → EReal)

/-- Column `e` of sequence `b`. -/
abbrev seq (X : Fin 4096 → Fin C → EReal) (b : Fin 2) (e : Fin C) (l : Fin 2048) : EReal :=
  X ⟨b.val * 2048 + l.val, by omega⟩ e

/-- A function of the columns of a sequence, for two sequences of 2048 tokens. -/
def rows (F : Fin 2 → Fin C → Fin 2048 → EReal) (r : Fin 4096) (e : Fin C) : EReal :=
  F ⟨r.val / 2048, by omega⟩ e ⟨r.val % 2048, by omega⟩
theorem rows_at (F : Fin 2 → Fin C → Fin 2048 → EReal) (b : Fin 2) (l : Fin 2048) (e : Fin C) :
    rows F ⟨b.val * 2048 + l.val, by omega⟩ e = F b e l := by
  have h1 : (⟨(b.val * 2048 + l.val) / 2048, by omega⟩ : Fin 2) = b :=
    Fin.ext (by show (b.val * 2048 + l.val) / 2048 = b.val; omega)
  have h2 : (⟨(b.val * 2048 + l.val) % 2048, by omega⟩ : Fin 2048) = l :=
    Fin.ext (by show (b.val * 2048 + l.val) % 2048 = l.val; omega)
  exact (congrArg (fun b => F b e _) h1).trans (congrArg (F b e) h2)

/-- The columns' gradients. -/
def gradX : Fin 4096 → Fin C → EReal := rows fun b e => dx K (seq X b e) (W · e) (B e) (seq D b e)
/-- The gradients of the columns the activation's results are multiplied by. -/
def gradM : Fin 4096 → Fin C → EReal := rows fun b e => dm K (seq X b e) (W · e) (B e) (seq D b e)
/-- The taps' gradients, over both sequences. -/
def gradW (j : Fin K) (e : Fin C) : EReal := ∑ b : Fin 2, dw K (seq X b e) (W · e) (B e) (seq D b e) j
/-- The biases' gradients, over both sequences. -/
def gradB (_ : Fin 1) (e : Fin C) : EReal := ∑ b : Fin 2, db K (seq X b e) (W · e) (B e) (seq D b e)
end

end Cert.Conv

end
end
-- ==== Proof.Cols.GluBwd.lean ====
/-
  The gradient of the feed-forward network's gate: its causal convolution of three taps, its activation and the product
  with the other half. A block of one sequence and 256 columns at a point, the taps' and the biases' gradients added up
  over the two sequences.
-/
module

public import proofs.«01_k».proof.Proof.Kit
public import proofs.«01_k».proof.Proof.Gen.GluBwd.Frame
public import proofs.«01_k».proof.Proof.Gen.GluBwdIdeal.Value
public import proofs.«01_k».proof.Proof.Gen.GluBwdRefIdeal.Run
public import proofs.«01_k».proof.Proof.Cols.Conv

@[expose] public section

set_option maxRecDepth 16384

noncomputable section

open Idealize.ShloMosaic Idealize.ShloMosaic.TcCoe Idealize.SL.Sem Cert.Common

namespace Cert.GluBwdIdeal.Cols

open Cert.GluBwdIdeal Cert.GluBwdIdeal.Gen Cert.Conv

variable (m : (ℓ : Loc nD τ sig) → Buf (Elt Ideal) ℓ)

theorem idx0 : ∀ t : Fin grid0.N, win0_0.index t = ![t.val % 2, t.val / 2] := by decide +kernel
theorem idx1 : ∀ t : Fin grid0.N, win0_1.index t = ![t.val % 2, t.val / 2] := by decide +kernel
theorem idx2 : ∀ t : Fin grid0.N, win0_2.index t = ![0, t.val / 2] := by decide +kernel
theorem idx3 : ∀ t : Fin grid0.N, win0_3.index t = ![0, t.val / 2] := by decide +kernel
theorem idx4 : ∀ t : Fin grid0.N, win0_4.index t = ![t.val % 2, t.val / 2] := by decide +kernel
theorem idx5 : ∀ t : Fin grid0.N, win0_5.index t = ![t.val % 2, t.val / 2] := by decide +kernel
theorem idx6 : ∀ t : Fin grid0.N, win0_6.index t = ![t.val % 2, t.val / 2] := by decide +kernel
theorem idx7 : ∀ t : Fin grid0.N, win0_7.index t = ![0, t.val / 2] := by decide +kernel
theorem idx8 : ∀ t : Fin grid0.N, win0_8.index t = ![0, t.val / 2] := by decide +kernel

section
variable (x u : Vec Ideal S2048x256 .bf16) (w : Vec Ideal S3x256 .f32) (b : Vec Ideal S1x256 .f32) (d : Vec Ideal S2048x256 .bf16)

/-- A column of a block. -/
abbrev colx (e : Fin 256) (l : Fin 2048) : EReal := x (ix2 l e)
/-- A column of the gradient of the activation's result. -/
abbrev colc (e : Fin 256) (l : Fin 2048) : EReal := colx d e l * colx u e l
/-- A column of the taps. -/
abbrev colw (e : Fin 256) (j : Fin 3) : EReal := w (ix2 j e)
/-- A bias. -/
abbrev colb (e : Fin 256) : EReal := b (ix2 0 e)

theorem back1 (l : Fin 2048) (e : Fin 256) : k0_pay9 x (ix2 l e) = before 1 (colx x e) l := by
  pointwise [k0_pay9, k0_pay7]
  exact sel_before 1 (by decide) (colx x e) l
theorem back2 (l : Fin 2048) (e : Fin 256) : k0_pay11 x (ix2 l e) = before 2 (colx x e) l := by
  pointwise [k0_pay11, k0_pay7]
  exact sel_before 2 (by decide) (colx x e) l

theorem pre_at (l : Fin 2048) (e : Fin 256) : k0_pay13 x w b (ix2 l e) = pre 3 (colx x e) (colw w e) (colb b e) l := by
  unfold pre
  pointwise [k0_pay13, k0_pay7, k0_pay8, k0_pay10, k0_pay12]
  rw [back1, back2, Fin.sum_univ_three]
  show _ = before 2 _ _ * _ + before 1 _ _ * _ + before 0 _ _ * _ + _
  rw [before_zero]
  abel
theorem sig_at (l : Fin 2048) (e : Fin 256) :
    k0_pay14 x w b (ix2 l e) = Conv.sig 3 (colx x e) (colw w e) (colb b e) l := by
  pointwise [k0_pay14]
  rw [pre_at]
  rfl

theorem dm_at (l : Fin 2048) (e : Fin 256) :
    k0_pay1 (k0_pay16 x w b d) (ix2 l e) = dm 3 (colx x e) (colw w e) (colb b e) (colx d e) l := by
  unfold dm
  pointwise [k0_pay1, k0_pay16, k0_pay6]
  rw [pre_at, sig_at]

/-- The block of the convolution's gradient. -/
abbrev dzB : Vec Ideal S2048x256 .f32 :=
  k0_pay19 (k0_pay14 x w b) (k0_pay15 x w b) (k0_pay17 u d) (k0_pay18 x u w b d)

theorem dz_at (l : Fin 2048) (e : Fin 256) :
    dzB x u w b d (ix2 l e) = dz 3 (colx x e) (colw w e) (colb b e) (colc u d e) l := by
  unfold dz dzB
  pointwise [k0_pay19, k0_pay15, k0_pay17, k0_pay18, k0_pay6]
  rw [pre_at, sig_at]

theorem dx_at (l : Fin 2048) (e : Fin 256) :
    k0_pay22 (k0_pay8 w) (k0_pay10 w) (k0_pay12 w) (k0_pay14 x w b) (k0_pay15 x w b) (k0_pay17 u d) (k0_pay18 x u w b d) (ix2 l e)
      = dx 3 (colx x e) (colw w e) (colb b e) (colc u d e) l := by
  unfold dx
  pointwise [k0_pay22, k0_pay8, k0_pay10, k0_pay12]
  simp only [dz_at]
  rw [Fin.sum_univ_three]
  show _ = after 2 _ _ + after 1 _ _ + after 0 _ _
  rw [after_zero, ← sel_after 2 2046 (by decide) (by decide), ← sel_after 1 2047 (by decide) (by decide)]

theorem dw_at (acc : Vec Ideal S3x256 .f32) (j : Fin 3) (e : Fin 256) :
    k0_pay4 (k0_pay21 (k0_pay7 x) (k0_pay9 x) (k0_pay11 x) (k0_pay14 x w b) (k0_pay15 x w b) (k0_pay17 u d) (k0_pay18 x u w b d))
      acc (ix2 j e)
      = acc (ix2 j e) + dw 3 (colx x e) (colw w e) (colb b e) (colc u d e) j := by
  pointwise [k0_pay4, k0_pay21, k0_pay7]
  simp only [dz_at, back1, back2]
  have h2 : dw 3 (colx x e) (colw w e) (colb b e) (colc u d e) 2
      = ∑ l, colx x e l * dz 3 (colx x e) (colw w e) (colb b e) (colc u d e) l :=
    Finset.sum_congr rfl fun l _ => congrArg (· * _) (before_zero _ l)
  rw [← rows3 (dw 3 (colx x e) (colw w e) (colb b e) (colc u d e)) j, h2]
  rfl

theorem db_at (acc : Vec Ideal S1x256 .f32) (z : Fin 1) (e : Fin 256) :
    k0_pay5 (k0_pay20 (k0_pay14 x w b) (k0_pay15 x w b) (k0_pay17 u d) (k0_pay18 x u w b d)) acc (ix2 z e)
      = acc (ix2 z e) + db 3 (colx x e) (colw w e) (colb b e) (colc u d e) := by
  pointwise [k0_pay5, k0_pay20]
  simp only [dz_at]
  rfl

end

/-- The gradients of the columns of point `t`'s blocks. -/
abbrev dxP (c : Dev nD) (t : Fin cfg0.N) (e : Fin 256) : Fin 2048 → EReal :=
  dx 3 (colx (iblk m c 0 t) e) (colw (iblk m c 2 t) e) (colb (iblk m c 3 t) e) (colc (iblk m c 1 t) (iblk m c 4 t) e)
/-- The gradients of the columns of the other half. -/
abbrev dmP (c : Dev nD) (t : Fin cfg0.N) (e : Fin 256) : Fin 2048 → EReal :=
  dm 3 (colx (iblk m c 0 t) e) (colw (iblk m c 2 t) e) (colb (iblk m c 3 t) e) (colx (iblk m c 4 t) e)
/-- What point `t`'s blocks add to the taps' gradients. -/
abbrev dwP (c : Dev nD) (t : Fin cfg0.N) (e : Fin 256) : Fin 3 → EReal :=
  dw 3 (colx (iblk m c 0 t) e) (colw (iblk m c 2 t) e) (colb (iblk m c 3 t) e) (colc (iblk m c 1 t) (iblk m c 4 t) e)
/-- What point `t`'s blocks add to the biases' gradients. -/
abbrev dbP (c : Dev nD) (t : Fin cfg0.N) (e : Fin 256) : EReal :=
  db 3 (colx (iblk m c 0 t) e) (colw (iblk m c 2 t) e) (colb (iblk m c 3 t) e) (colc (iblk m c 1 t) (iblk m c 4 t) e)

theorem out5 (c : Dev nD) (t : Fin cfg0.N) (l : Fin 2048) (e : Fin 256) :
    (outsAt0 m c t.val t.isLt).1 (ix2 l e) = dxP m c t e l := by
  refine Eq.trans ?_ (dx_at _ _ _ _ _ l e)
  by_cases h : t.val % 2 = 0
  · rw [outsAt0_A m c t h]
    frame_open
    simp (disch := decide) only [↓ View.readCov_skip, ↓ View.readCov_cons_toLoadRect, ↓ View.readCov_fill]
    frame_out
    done
  · rw [outsAt0_B m c t h]
    frame_open
    simp (disch := decide) only [↓ View.readCov_skip, ↓ View.readCov_cons_toLoadRect, ↓ View.readCov_fill]
    frame_out
    done

theorem out6 (c : Dev nD) (t : Fin cfg0.N) (l : Fin 2048) (e : Fin 256) :
    (outsAt0 m c t.val t.isLt).2.1 (ix2 l e) = dmP m c t e l := by
  refine Eq.trans ?_ (dm_at _ _ _ _ l e)
  by_cases h : t.val % 2 = 0
  · rw [outsAt0_A m c t h]
    frame_open
    simp (disch := decide) only [↓ View.readCov_skip, ↓ View.readCov_cons_toLoadRect, ↓ View.readCov_fill]
    frame_out
    done
  · rw [outsAt0_B m c t h]
    frame_open
    simp (disch := decide) only [↓ View.readCov_skip, ↓ View.readCov_cons_toLoadRect, ↓ View.readCov_fill]
    frame_out
    done

theorem dw_A (c : Dev nD) (t : Fin cfg0.N) (ht : t.val % 2 = 0) (j : Fin 3) (e : Fin 256) :
    (outsAt0 m c t.val t.isLt).2.2.1 (ix2 j e) = 0 + dwP m c t e j := by
  rw [outsAt0_A m c t ht]
  frame_open
  simp (disch := decide) only [↓ View.readCov_skip, ↓ View.readCov_cons_toLoadRect, ↓ View.readCov_fill]
  frame_out
  refine (dw_at _ _ _ _ _ _ j e).trans ?_
  pointwise [k0_pay2]
  done
theorem dw_B (c : Dev nD) (t : Fin cfg0.N) (ht : ¬ t.val % 2 = 0) (j : Fin 3) (e : Fin 256) :
    (outsAt0 m c t.val t.isLt).2.2.1 (ix2 j e)
      = (outsAt0 m c (t.val - 1) (Nat.lt_of_le_of_lt (Nat.sub_le _ _) t.isLt)).2.2.1 (ix2 j e) + dwP m c t e j := by
  rw [outsAt0_B m c t ht]
  frame_open
  simp (disch := decide) only [↓ View.readCov_skip, ↓ View.readCov_cons_toLoadRect, ↓ View.readCov_fill]
  frame_out
  exact dw_at _ _ _ _ _ _ j e
theorem db_A (c : Dev nD) (t : Fin cfg0.N) (ht : t.val % 2 = 0) (e : Fin 256) :
    (outsAt0 m c t.val t.isLt).2.2.2 (ix2 0 e) = 0 + dbP m c t e := by
  rw [outsAt0_A m c t ht]
  frame_open
  simp (disch := decide) only [↓ View.readCov_skip, ↓ View.readCov_cons_toLoadRect, ↓ View.readCov_fill]
  frame_out
  refine (db_at _ _ _ _ _ _ 0 e).trans ?_
  pointwise [k0_pay3]
  done
theorem db_B (c : Dev nD) (t : Fin cfg0.N) (ht : ¬ t.val % 2 = 0) (e : Fin 256) :
    (outsAt0 m c t.val t.isLt).2.2.2 (ix2 0 e)
      = (outsAt0 m c (t.val - 1) (Nat.lt_of_le_of_lt (Nat.sub_le _ _) t.isLt)).2.2.2 (ix2 0 e) + dbP m c t e := by
  rw [outsAt0_B m c t ht]
  frame_open
  simp (disch := decide) only [↓ View.readCov_skip, ↓ View.readCov_cons_toLoadRect, ↓ View.readCov_fill]
  frame_out
  exact db_at _ _ _ _ _ _ 0 e

/-- The gate, the other half, the taps, the biases and the result's gradient, as launched. -/
abbrev a0 (c : Dev nD) (r : Fin 4096) (e : Fin 2816) : EReal := m ((c : Thread nD τ).loc main_arg0) (ix2 r e)
abbrev a1 (c : Dev nD) (r : Fin 4096) (e : Fin 2816) : EReal := m ((c : Thread nD τ).loc main_arg1) (ix2 r e)
abbrev a2 (c : Dev nD) (j : Fin 3) (e : Fin 2816) : EReal := m ((c : Thread nD τ).loc main_arg2) (ix2 j e)
abbrev a3 (c : Dev nD) (e : Fin 2816) : EReal := m ((c : Thread nD τ).loc main_arg3) (ix2 0 e)
abbrev a4 (c : Dev nD) (r : Fin 4096) (e : Fin 2816) : EReal := m ((c : Thread nD τ).loc main_arg4) (ix2 r e)
/-- The gradient of the activation's result. -/
abbrev a41 (c : Dev nD) (r : Fin 4096) (e : Fin 2816) : EReal := a4 m c r e * a1 m c r e

/-- Point `t`'s sequence. -/
abbrev sq (t : Fin cfg0.N) : Fin 2 := ⟨t.val % 2, Nat.mod_lt _ (by decide)⟩
/-- Column `e` of point `t`'s blocks. -/
abbrev cl (t : Fin cfg0.N) (e : Fin 256) : Fin 2816 :=
  ⟨t.val / 2 * 256 + e.val, by have : t.val < 22 := lt_of_lt_of_eq t.isLt Gen.N_0; omega⟩

theorem sq_pair (t : Fin cfg0.N) (s : Fin 2) (h : 2 * (t.val / 2) + s.val < cfg0.N) : sq ⟨2 * (t.val / 2) + s.val, h⟩ = s :=
  Fin.ext (by show (2 * (t.val / 2) + s.val) % 2 = s.val; omega)
theorem cl_pair (t : Fin cfg0.N) (s : Fin 2) (h : 2 * (t.val / 2) + s.val < cfg0.N) (q : Fin 256) :
    cl ⟨2 * (t.val / 2) + s.val, h⟩ q = cl t q :=
  Fin.ext (by show (2 * (t.val / 2) + s.val) / 2 * 256 + q.val = t.val / 2 * 256 + q.val; omega)

theorem blk0 (c : Dev nD) (t : Fin cfg0.N) (e : Fin 256) : colx (iblk m c 0 t) e = seq (a0 m c) (sq t) (cl t e) := by
  funext l
  unfold colx seq a0
  blk_ext [iblk, V, idx0 t]
theorem blk1 (c : Dev nD) (t : Fin cfg0.N) (e : Fin 256) : colx (iblk m c 1 t) e = seq (a1 m c) (sq t) (cl t e) := by
  funext l
  unfold colx seq a1
  blk_ext [iblk, V, idx1 t]
theorem blk4 (c : Dev nD) (t : Fin cfg0.N) (e : Fin 256) : colx (iblk m c 4 t) e = seq (a4 m c) (sq t) (cl t e) := by
  funext l
  unfold colx seq a4
  blk_ext [iblk, V, idx4 t]
theorem blk2 (c : Dev nD) (t : Fin cfg0.N) (e : Fin 256) : colw (iblk m c 2 t) e = (a2 m c · (cl t e)) := by
  funext j
  unfold colw a2
  blk_ext [iblk, V, idx2 t]
theorem blk3 (c : Dev nD) (t : Fin cfg0.N) (e : Fin 256) : colb (iblk m c 3 t) e = a3 m c (cl t e) := by
  unfold colb a3
  blk_ext [iblk, V, idx3 t]
theorem blk41 (c : Dev nD) (t : Fin cfg0.N) (e : Fin 256) :
    colc (iblk m c 1 t) (iblk m c 4 t) e = seq (a41 m c) (sq t) (cl t e) := by
  funext l
  exact congrArg₂ (· * ·) (congrFun (blk4 m c t e) l) (congrFun (blk1 m c t e) l)

/-- The gate's gradient after the run. -/
theorem arr5 (c : Dev nD) : (dats m 0 c).arrAt 5 cfg0.N
    = fun i => gradX 3 (a0 m c) (a2 m c) (a3 m c) (a41 m c) (i 0) (i 1) := by
  refine (dats m 0 c).arrAt_eq_of_covers 5 _ (by decide +kernel) fun t hf y => ?_
  blk_simp
  rw [after0_5]
  obtain ⟨p, q, rfl⟩ : ∃ (p : Fin 2048) (q : Fin 256), y = ix2 p q := ⟨y 0, y 1, eq_ix2 y⟩
  have hy : ((cfg0.win 5).blk t).view.emb (ix2 p q)
      = (ix2 ⟨(sq t).val * 2048 + p.val, by omega⟩ (cl t q) : S4096x2816.Idx) := by
    blk_ext [idx5 t]
  refine Eq.trans ?_ (congrArg (fun i : S4096x2816.Idx => gradX 3 (a0 m c) (a2 m c) (a3 m c) (a41 m c) (i 0) (i 1)) hy).symm
  refine (out5 m c t p q).trans ?_
  unfold dxP
  rw [blk0, blk2, blk3, blk41]
  exact (rows_at (fun b e => dx 3 (seq (a0 m c) b e) (a2 m c · e) (a3 m c e) (seq (a41 m c) b e)) (sq t) p (cl t q)).symm

/-- The other half's gradient after the run. -/
theorem arr6 (c : Dev nD) : (dats m 0 c).arrAt 6 cfg0.N
    = fun i => gradM 3 (a0 m c) (a2 m c) (a3 m c) (a4 m c) (i 0) (i 1) := by
  refine (dats m 0 c).arrAt_eq_of_covers 6 _ (by decide +kernel) fun t hf y => ?_
  blk_simp
  rw [after0_6]
  obtain ⟨p, q, rfl⟩ : ∃ (p : Fin 2048) (q : Fin 256), y = ix2 p q := ⟨y 0, y 1, eq_ix2 y⟩
  have hy : ((cfg0.win 6).blk t).view.emb (ix2 p q)
      = (ix2 ⟨(sq t).val * 2048 + p.val, by omega⟩ (cl t q) : S4096x2816.Idx) := by
    blk_ext [idx6 t]
  refine Eq.trans ?_ (congrArg (fun i : S4096x2816.Idx => gradM 3 (a0 m c) (a2 m c) (a3 m c) (a4 m c) (i 0) (i 1)) hy).symm
  refine (out6 m c t p q).trans ?_
  unfold dmP
  rw [blk0, blk2, blk3, blk4]
  exact (rows_at (fun b e => dm 3 (seq (a0 m c) b e) (a2 m c · e) (a3 m c e) (seq (a4 m c) b e)) (sq t) p (cl t q)).symm

/-- The taps' gradients after the run. -/
theorem arr7 (c : Dev nD) : (dats m 0 c).arrAt 7 cfg0.N
    = fun i => gradW 3 (a0 m c) (a2 m c) (a3 m c) (a41 m c) (i 0) (i 1) := by
  refine (dats m 0 c).arrAt_eq_of_covers 7 _ (by decide +kernel) fun t hf y => ?_
  blk_simp
  rw [after0_7]
  obtain ⟨p, q, rfl⟩ : ∃ (p : Fin 3) (q : Fin 256), y = ix2 p q := ⟨y 0, y 1, eq_ix2 y⟩
  have hy : ((cfg0.win 7).blk t).view.emb (ix2 p q) = (ix2 p (cl t q) : S3x2816.Idx) := by
    blk_ext [idx7 t]
  refine Eq.trans ?_ (congrArg (fun i : S3x2816.Idx => gradW 3 (a0 m c) (a2 m c) (a3 m c) (a41 m c) (i 0) (i 1)) hy).symm
  have ht := (flush0_7 t).mp hf
  have hN : t.val < 22 := lt_of_lt_of_eq t.isLt Gen.N_0
  have e := Pipeline.eq_sum_fin_of_reset_step_of_flush (M := EReal)
    (fun n hn => (outsAt0 m c n hn).2.2.1 (ix2 p q)) 2 0 _
    (fun t ht => dw_A m c t ht p q) (fun t ht => dw_B m c t ht p q) t ht
  refine e.trans ((zero_add _).trans (Finset.sum_congr rfl fun s _ => ?_))
  have hs := s.isLt
  unfold dwP
  rw [blk0, blk2, blk3, blk41]
  rw [sq_pair, cl_pair]
  rfl

/-- The biases' gradients after the run. -/
theorem arr8 (c : Dev nD) : (dats m 0 c).arrAt 8 cfg0.N
    = fun i => gradB 3 (a0 m c) (a2 m c) (a3 m c) (a41 m c) (i 0) (i 1) := by
  refine (dats m 0 c).arrAt_eq_of_covers 8 _ (by decide +kernel) fun t hf y => ?_
  blk_simp
  rw [after0_8]
  obtain ⟨p, q, rfl⟩ : ∃ (p : Fin 1) (q : Fin 256), y = ix2 p q := ⟨y 0, y 1, eq_ix2 y⟩
  have hy : ((cfg0.win 8).blk t).view.emb (ix2 p q) = (ix2 p (cl t q) : S1x2816.Idx) := by
    blk_ext [idx8 t]
  refine Eq.trans ?_ (congrArg (fun i : S1x2816.Idx => gradB 3 (a0 m c) (a2 m c) (a3 m c) (a41 m c) (i 0) (i 1)) hy).symm
  have ht := (flush0_8 t).mp hf
  have hN : t.val < 22 := lt_of_lt_of_eq t.isLt Gen.N_0
  obtain rfl : p = 0 := Subsingleton.elim _ _
  have e := Pipeline.eq_sum_fin_of_reset_step_of_flush (M := EReal)
    (fun n hn => (outsAt0 m c n hn).2.2.2 (ix2 0 q)) 2 0 _
    (fun t ht => db_A m c t ht q) (fun t ht => db_B m c t ht q) t ht
  refine e.trans ((zero_add _).trans (Finset.sum_congr rfl fun s _ => ?_))
  have hs := s.isLt
  unfold dbP
  rw [blk0, blk2, blk3, blk41]
  rw [sq_pair, cl_pair]
  rfl

end Cert.GluBwdIdeal.Cols

namespace Cert.GluBwdRefIdeal.Cols

open Cert.GluBwdRefIdeal Cert.GluBwdRefIdeal.Gen Cert.Conv

variable (x u d : FVec Ideal S4096x2816 .bf16) (w : FVec Ideal S3x2816 .f32) (b : FVec Ideal S1x2816 .f32)
variable (y : FVec Ideal S2x2048x2816 .f32)

/-- Zeros. -/
abbrev zeroS : FVec Ideal S_ .f32 := constant S_ .f32 0x00000000#32
/-- Ones. -/
abbrev oneR : FVec Ideal S2x2048x2816 .f32 := broadcastInDim S2x2048x2816 ![] bcast_S_S2x2048x2816 (constant S_ .f32 0x3F800000#32)
/-- An array by sequence. -/
def seqR (x : FVec Ideal S4096x2816 .bf16) : FVec Ideal S2x2048x2816 .f32 :=
  shapeCast _ (extf .f32 x bitsLt_bf16_f32) shapeCasts_S4096x2816_S2x2048x2816
/-- The columns 1 tokens earlier. -/
def late1 : FVec Ideal S2x2048x2816 .f32 :=
  concatenate S2x2048x2816 1 [⟨S2x1x2816, (broadcastInDim S2x1x2816 ![] bcast_S_S2x1x2816 zeroS)⟩, ⟨S2x2047x2816, (extractStridedSlice S2x2047x2816 ![0, 0, 0] y slices_S2x2048x2816_S2x2047x2816_0_0_0)⟩] concatenates_S2x1x2816_S2x2047x2816_S2x2048x2816_d1
/-- An array 1 tokens later. -/
def early1 : FVec Ideal S2x2048x2816 .f32 :=
  pad S2x2048x2816 ![0, 0, 0] ![0, 1, 0] ![0, 0, 0] (extractStridedSlice S2x2047x2816 ![0, 1, 0] y slices_S2x2048x2816_S2x2047x2816_0_1_0) zeroS pads_S2x2047x2816_S2x2048x2816_000_010_000 h_S_
/-- The columns 2 tokens earlier. -/
def late2 : FVec Ideal S2x2048x2816 .f32 :=
  concatenate S2x2048x2816 1 [⟨S2x2x2816, (broadcastInDim S2x2x2816 ![] bcast_S_S2x2x2816 zeroS)⟩, ⟨S2x2046x2816, (extractStridedSlice S2x2046x2816 ![0, 0, 0] y slices_S2x2048x2816_S2x2046x2816_0_0_0)⟩] concatenates_S2x2x2816_S2x2046x2816_S2x2048x2816_d1
/-- An array 2 tokens later. -/
def early2 : FVec Ideal S2x2048x2816 .f32 :=
  pad S2x2048x2816 ![0, 0, 0] ![0, 2, 0] ![0, 0, 0] (extractStridedSlice S2x2046x2816 ![0, 2, 0] y slices_S2x2048x2816_S2x2046x2816_0_2_0) zeroS pads_S2x2046x2816_S2x2048x2816_000_020_000 h_S_
/-- Tap 0. -/
def tap0 : FVec Ideal S2x2048x2816 .f32 :=
  broadcastInDim S2x2048x2816 ![0, 1, 2] bcast_S1x1x2816_S2x2048x2816_0_1_2 (broadcastInDim S1x1x2816 ![2] bcast_S2816_S1x1x2816_2 (shapeCast _ (extractStridedSlice S1x2816 ![0, 0] w slices_S3x2816_S1x2816_0_0) shapeCasts_S1x2816_S2816))
/-- Tap 1. -/
def tap1 : FVec Ideal S2x2048x2816 .f32 :=
  broadcastInDim S2x2048x2816 ![0, 1, 2] bcast_S1x1x2816_S2x2048x2816_0_1_2 (broadcastInDim S1x1x2816 ![2] bcast_S2816_S1x1x2816_2 (shapeCast _ (extractStridedSlice S1x2816 ![1, 0] w slices_S3x2816_S1x2816_1_0) shapeCasts_S1x2816_S2816))
/-- Tap 2. -/
def tap2 : FVec Ideal S2x2048x2816 .f32 :=
  broadcastInDim S2x2048x2816 ![0, 1, 2] bcast_S1x1x2816_S2x2048x2816_0_1_2 (broadcastInDim S1x1x2816 ![2] bcast_S2816_S1x1x2816_2 (shapeCast _ (extractStridedSlice S1x2816 ![2, 0] w slices_S3x2816_S1x2816_2_0) shapeCasts_S1x2816_S2816))
/-- The sum over both sequences, one row. -/
def total : FVec Ideal S1x2816 .f32 :=
  broadcastInDim S1x2816 ![1] bcast_S2816_S1x2816_1 (Host.reduceAdd (shapeCast _ (Host.reduceAdd y zeroS reducesTo_S2x2048x2816_S2816_d0_1 h_S_) shapeCasts_S2816_S1x1x2816) zeroS reducesTo_S1x1x2816_S2816_d0_1 h_S_)
/-- The convolution. -/
def preR : FVec Ideal S2x2048x2816 .f32 :=
  addf (addf (addf (addf (broadcastInDim S2x2048x2816 ![] bcast_S_S2x2048x2816 zeroS) (mulf (tap0 w) (late2 (seqR x)))) (mulf (tap1 w) (late1 (seqR x)))) (mulf (tap2 w) (seqR x))) (broadcastInDim S2x2048x2816 ![0, 1, 2] bcast_S1x1x2816_S2x2048x2816_0_1_2 (broadcastInDim S1x1x2816 ![1, 2] bcast_S1x2816_S1x1x2816_1_2 b))
/-- Its logistic. -/
def sigR : FVec Ideal S2x2048x2816 .f32 := Host.divf oneR (addf oneR (Host.exp (Host.negf (preR x w b))))
/-- The convolution's gradient. -/
def dzR : FVec Ideal S2x2048x2816 .f32 :=
  addf (mulf (mulf (seqR d) (seqR u)) (sigR x w b)) (mulf (mulf (preR x w b) (mulf (seqR d) (seqR u))) (mulf (sigR x w b) (subf oneR (sigR x w b))))
/-- The biases' gradients. -/
def outB : FVec Ideal S1x2816 .f32 := total (dzR x u d w b)
/-- The taps' gradients. -/
def outW : FVec Ideal S3x2816 .f32 :=
  addf (addf (pad S3x2816 ![2, 0] ![0, 0] ![0, 0] (total (mulf (dzR x u d w b) (seqR x))) zeroS pads_S1x2816_S3x2816_200_000 h_S_) (pad S3x2816 ![1, 0] ![1, 0] ![0, 0] (total (mulf (dzR x u d w b) (late1 (seqR x)))) zeroS pads_S1x2816_S3x2816_110_000 h_S_)) (pad S3x2816 ![0, 0] ![2, 0] ![0, 0] (total (mulf (dzR x u d w b) (late2 (seqR x)))) zeroS pads_S1x2816_S3x2816_020_000 h_S_)
/-- The columns' gradients. -/
def outX : FVec Ideal S4096x2816 .bf16 :=
  truncf .bf16 (shapeCast _ (addf (addf (mulf (tap2 w) (dzR x u d w b)) (early1 (mulf (tap1 w) (dzR x u d w b)))) (early2 (mulf (tap0 w) (dzR x u d w b)))) shapeCasts_S2x2048x2816_S4096x2816) bitsLt_bf16_f32
/-- The other half's gradients. -/
def outM : FVec Ideal S4096x2816 .bf16 :=
  truncf .bf16 (shapeCast _ (mulf (mulf (preR x w b) (sigR x w b)) (seqR d)) shapeCasts_S2x2048x2816_S4096x2816) bitsLt_bf16_f32

/-- An array by row and column. -/
abbrev ar (x : FVec Ideal S4096x2816 .bf16) (r : Fin 4096) (e : Fin 2816) : EReal := x (ix2 r e)
/-- The gradient of the activation's result. -/
abbrev ad (d u : FVec Ideal S4096x2816 .bf16) (r : Fin 4096) (e : Fin 2816) : EReal := ar d r e * ar u r e
/-- The taps. -/
abbrev wr (w : FVec Ideal S3x2816 .f32) (j : Fin 3) (e : Fin 2816) : EReal := w (ix2 j e)
/-- The biases. -/
abbrev br (b : FVec Ideal S1x2816 .f32) (e : Fin 2816) : EReal := b (ix2 0 e)
/-- A column of an array by sequence. -/
abbrev col (q : Fin 2) (e : Fin 2816) (l : Fin 2048) : EReal := y (ix3 q l e)

theorem seqR_at (q : Fin 2) (l : Fin 2048) (e : Fin 2816) : seqR x (ix3 q l e) = seq (ar x) q e l := by
  pointwise [seqR]
theorem late1_at (q : Fin 2) (l : Fin 2048) (e : Fin 2816) : late1 y (ix3 q l e) = before 1 (col y q e) l := by
  pointwise [late1]
  exact cat_before 1 (col y q e) l
theorem early1_at (q : Fin 2) (l : Fin 2048) (e : Fin 2816) : early1 y (ix3 q l e) = after 1 (col y q e) l := by
  pointwise [early1]
  exact pad_after 1 2047 (by decide) (col y q e) l
theorem late2_at (q : Fin 2) (l : Fin 2048) (e : Fin 2816) : late2 y (ix3 q l e) = before 2 (col y q e) l := by
  pointwise [late2]
  exact cat_before 2 (col y q e) l
theorem early2_at (q : Fin 2) (l : Fin 2048) (e : Fin 2816) : early2 y (ix3 q l e) = after 2 (col y q e) l := by
  pointwise [early2]
  exact pad_after 2 2046 (by decide) (col y q e) l
theorem tap0_at (q : Fin 2) (l : Fin 2048) (e : Fin 2816) : tap0 w (ix3 q l e) = wr w 0 e := by
  pointwise [tap0]
theorem tap1_at (q : Fin 2) (l : Fin 2048) (e : Fin 2816) : tap1 w (ix3 q l e) = wr w 1 e := by
  pointwise [tap1]
theorem tap2_at (q : Fin 2) (l : Fin 2048) (e : Fin 2816) : tap2 w (ix3 q l e) = wr w 2 e := by
  pointwise [tap2]
theorem total_at (z : Fin 1) (e : Fin 2816) : total y (ix2 z e) = ∑ q : Fin 2, ∑ l, col y q e l := by
  pointwise [total, sum01]
  simp only [Fin.sum_univ_one]
theorem col_seqR (q : Fin 2) (e : Fin 2816) : col (seqR x) q e = seq (ar x) q e := funext fun l => seqR_at x q l e
theorem preR_at (q : Fin 2) (l : Fin 2048) (e : Fin 2816) :
    preR x w b (ix3 q l e) = pre 3 (seq (ar x) q e) (wr w · e) (br b e) l := by
  unfold pre
  pointwise [preR]
  rw [tap0_at, tap1_at, tap2_at, late2_at, late1_at, seqR_at, col_seqR, Fin.sum_univ_three]
  show _ = before 2 _ _ * _ + before 1 _ _ * _ + before 0 _ _ * _ + _
  rw [before_zero, mul_comm (wr w 0 e), mul_comm (wr w 1 e), mul_comm (wr w 2 e)]
theorem sigR_at (q : Fin 2) (l : Fin 2048) (e : Fin 2816) :
    sigR x w b (ix3 q l e) = Conv.sig 3 (seq (ar x) q e) (wr w · e) (br b e) l := by
  pointwise [sigR]
  rw [preR_at]
  rfl
theorem dzR_at (q : Fin 2) (l : Fin 2048) (e : Fin 2816) :
    dzR x u d w b (ix3 q l e) = dz 3 (seq (ar x) q e) (wr w · e) (br b e) (seq (ad d u) q e) l := by
  unfold dz
  pointwise [dzR]
  rw [preR_at, sigR_at, seqR_at, seqR_at]
theorem outB_at (z : Fin 1) (e : Fin 2816) : outB x u d w b (ix2 z e) = gradB 3 (ar x) (wr w) (br b) (ad d u) z e := by
  unfold gradB outB
  rw [total_at]
  exact Finset.sum_congr rfl fun q _ => Finset.sum_congr rfl fun l _ => dzR_at _ _ _ _ _ q l e
theorem share0_at (z : Fin 1) (e : Fin 2816) :
    total (mulf (dzR x u d w b) (late2 (seqR x))) (ix2 z e) = gradW 3 (ar x) (wr w) (br b) (ad d u) 0 e := by
  rw [total_at]
  refine Finset.sum_congr rfl fun q _ => Finset.sum_congr rfl fun l _ => ?_
  show dzR x u d w b (ix3 q l e) * _ = before 2 _ l * _
  rw [dzR_at, late2_at, col_seqR, mul_comm]
theorem scaled0_at (q : Fin 2) (e : Fin 2816) : col (mulf (tap0 w) (dzR x u d w b)) q e
    = fun l => dz 3 (seq (ar x) q e) (wr w · e) (br b e) (seq (ad d u) q e) l * wr w 0 e := by
  funext l
  show tap0 w (ix3 q l e) * dzR x u d w b (ix3 q l e) = _
  rw [tap0_at, dzR_at, mul_comm]
theorem share1_at (z : Fin 1) (e : Fin 2816) :
    total (mulf (dzR x u d w b) (late1 (seqR x))) (ix2 z e) = gradW 3 (ar x) (wr w) (br b) (ad d u) 1 e := by
  rw [total_at]
  refine Finset.sum_congr rfl fun q _ => Finset.sum_congr rfl fun l _ => ?_
  show dzR x u d w b (ix3 q l e) * _ = before 1 _ l * _
  rw [dzR_at, late1_at, col_seqR, mul_comm]
theorem scaled1_at (q : Fin 2) (e : Fin 2816) : col (mulf (tap1 w) (dzR x u d w b)) q e
    = fun l => dz 3 (seq (ar x) q e) (wr w · e) (br b e) (seq (ad d u) q e) l * wr w 1 e := by
  funext l
  show tap1 w (ix3 q l e) * dzR x u d w b (ix3 q l e) = _
  rw [tap1_at, dzR_at, mul_comm]
theorem share2_at (z : Fin 1) (e : Fin 2816) :
    total (mulf (dzR x u d w b) (seqR x)) (ix2 z e) = gradW 3 (ar x) (wr w) (br b) (ad d u) 2 e := by
  rw [total_at]
  refine Finset.sum_congr rfl fun q _ => Finset.sum_congr rfl fun l _ => ?_
  show dzR x u d w b (ix3 q l e) * _ = before 0 _ l * _
  rw [before_zero, dzR_at, seqR_at, mul_comm]
theorem scaled2_at (q : Fin 2) (e : Fin 2816) : col (mulf (tap2 w) (dzR x u d w b)) q e
    = fun l => dz 3 (seq (ar x) q e) (wr w · e) (br b e) (seq (ad d u) q e) l * wr w 2 e := by
  funext l
  show tap2 w (ix3 q l e) * dzR x u d w b (ix3 q l e) = _
  rw [tap2_at, dzR_at, mul_comm]
theorem outW_at (j : Fin 3) (e : Fin 2816) : outW x u d w b (ix2 j e) = gradW 3 (ar x) (wr w) (br b) (ad d u) j e := by
  pointwise [outW]
  simp only [share0_at, share1_at, share2_at]
  exact pads3 (fun j => gradW 3 (ar x) (wr w) (br b) (ad d u) j e) j
theorem outX_at (r : Fin 4096) (e : Fin 2816) : outX x u d w b (ix2 r e) = gradX 3 (ar x) (wr w) (br b) (ad d u) r e := by
  unfold gradX rows dx
  pointwise [outX]
  rw [early2_at, scaled0_at, early1_at, scaled1_at, tap2_at, dzR_at, Fin.sum_univ_three]
  show _ = after 2 _ _ + after 1 _ _ + after 0 _ _
  rw [after_zero, mul_comm (wr w 2 e)]
  abel
theorem outM_at (r : Fin 4096) (e : Fin 2816) : outM x d w b (ix2 r e) = gradM 3 (ar x) (wr w) (br b) (ar d) r e := by
  unfold gradM rows dm
  pointwise [outM]
  rw [preR_at, sigR_at, seqR_at]

end Cert.GluBwdRefIdeal.Cols

namespace Cert.GluBwd.Claims

/-- The reference's frame: its generated run, read at the arguments. -/
theorem frame_ref : Cert.quiescent_GluBwdRefIdeal := fun m ρ _ =>
  (θ_run Cert.GluBwdRefIdeal.defs _ _).mono (fun _ h => ⟨fun c => (h c).2.2.2.2, Idealize.ShloMosaic.sem_eq_zero_of_no_sems (by decide) _⟩)
    (Cert.GluBwdRefIdeal.Value.run m ρ)

/-- The kernel's four results are the reference's over the extended reals. -/
theorem value : Cert.algebraic_GluBwdIdeal_GluBwdRefIdeal := fun m ρ m' ρ' _ hag =>
  ⟨fun c => (Cert.GluBwdIdeal.Gen.dats m 0 c).arrAt 5 Cert.GluBwdIdeal.cfg0.N,
    fun c => (Cert.GluBwdIdeal.Gen.dats m 0 c).arrAt 6 Cert.GluBwdIdeal.cfg0.N,
    fun c => (Cert.GluBwdIdeal.Gen.dats m 0 c).arrAt 7 Cert.GluBwdIdeal.cfg0.N,
    fun c => (Cert.GluBwdIdeal.Gen.dats m 0 c).arrAt 8 Cert.GluBwdIdeal.cfg0.N,
    Cert.GluBwdIdeal.Value.run_blocks m ρ,
    (θ_run _ _ _).mono (fun _ h c => by
      obtain ⟨h0, h1, h2, h3, hr⟩ := h c
      obtain ⟨a0, a1, a2, a3, a4⟩ := hag c
      refine ⟨h0.trans ?_, h1.trans ?_, h2.trans ?_, h3.trans ?_, hr⟩
      · unfold Cert.GluBwdRefIdeal.Value.res_main_v82
        rw [a0, a1, a2, a3, a4]
        exact (ext2 (Cert.GluBwdRefIdeal.Cols.outX_at _ _ _ _ _)).trans (Cert.GluBwdIdeal.Cols.arr5 m c).symm
      · unfold Cert.GluBwdRefIdeal.Value.res_main_v83
        rw [a0, a2, a3, a4]
        exact (ext2 (Cert.GluBwdRefIdeal.Cols.outM_at _ _ _ _)).trans (Cert.GluBwdIdeal.Cols.arr6 m c).symm
      · unfold Cert.GluBwdRefIdeal.Value.res_main_v80
        rw [a0, a1, a2, a3, a4]
        exact (ext2 (Cert.GluBwdRefIdeal.Cols.outW_at _ _ _ _ _)).trans (Cert.GluBwdIdeal.Cols.arr7 m c).symm
      · unfold Cert.GluBwdRefIdeal.Value.res_main_v46
        rw [a0, a1, a2, a3, a4]
        exact (ext2 (Cert.GluBwdRefIdeal.Cols.outB_at _ _ _ _ _)).trans (Cert.GluBwdIdeal.Cols.arr8 m c).symm)
      (Cert.GluBwdRefIdeal.Value.run m' ρ')⟩

end Cert.GluBwd.Claims

end
end
-- ==== Proof.Cols.Norm.lean ====
/-
  The gradient of the root-mean-square norm of rows of 1024, with the gradient that passes beside it: a block of 512
  rows at a point, the weight's gradient added up over the points. Both programs' results are stated through the
  functions of one row in `Cert.Norm`.
-/
module

public import proofs.«01_k».proof.Proof.Kit
public import proofs.«01_k».proof.Proof.Gen.NormBwd.Frame
public import proofs.«01_k».proof.Proof.Gen.NormBwdIdeal.Value
public import proofs.«01_k».proof.Proof.Gen.NormBwdRefIdeal.Run

@[expose] public section

set_option maxRecDepth 16384

noncomputable section

open Idealize.ShloMosaic Idealize.ShloMosaic.TcCoe Idealize.SL.Sem Cert.Common

namespace Cert.Norm

/-- The length of a row. -/
abbrev len : EReal := Ideal.ofBits .f32 0x44800000#32
/-- What is added to the mean square. -/
abbrev eps : EReal := Ideal.ofBits .f32 0x358637BD#32
/-- One half, negative. -/
abbrev negHalf : EReal := Ideal.ofBits .f32 0xBF000000#32

variable (x dy w dr : Fin 1024 → EReal)

/-- The row's mean square, and a little. -/
def ms : EReal := Ideal.div (∑ e, x e * x e) len + eps
/-- The row's factor. -/
def rs : EReal := Ideal.rsqrt (ms x)
/-- What the factor's derivative passes back to each square. -/
def back : EReal := Ideal.div ((∑ e, x e * (dy e * w e)) * (negHalf * Ideal.div (rs x) (ms x))) len
/-- The gradient of the row. -/
def dx (e : Fin 1024) : EReal := dr e + dy e * w e * rs x + x e * back x dy w + back x dy w * x e
/-- The row's share in the weight's gradient. -/
def dw (e : Fin 1024) : EReal := x e * rs x * dy e

/-- The gradient of all rows. -/
def gradX (x dy dr : Fin 4096 → Fin 1024 → EReal) (w : Fin 1024 → EReal) (p : Fin 4096) (e : Fin 1024) : EReal :=
  dx (x p) (dy p) w (dr p) e
/-- The weight's gradient. -/
def gradW (x dy : Fin 4096 → Fin 1024 → EReal) (_ : Fin 1) (e : Fin 1024) : EReal := ∑ p, dw (x p) (dy p) e

end Cert.Norm

namespace Cert.NormBwdIdeal.Cols

open Cert.NormBwdIdeal Cert.NormBwdIdeal.Gen Cert.Norm

variable (m : (ℓ : Loc nD τ sig) → Buf (Elt Ideal) ℓ)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![0, 0] := by decide +kernel

/-- A row of a block. -/
abbrev row (x : Vec Ideal S512x1024 .f32) (p : Fin 512) (e : Fin 1024) : EReal := x (ix2 p e)
/-- The weight's block. -/
abbrev wrow (w : Vec Ideal S1x1024 .f32) (e : Fin 1024) : EReal := w (ix2 0 e)

theorem ms_at (x : Vec Ideal S512x1024 .f32) (p : Fin 512) (z : Fin 1) : k0_pay3 x (ix2 p z) = ms (row x p) := by
  pointwise [k0_pay3]
  rfl
theorem rs_at (x : Vec Ideal S512x1024 .f32) (p : Fin 512) (z : Fin 1) : k0_pay4 x (ix2 p z) = rs (row x p) := by
  pointwise [k0_pay4]
  rw [ms_at]
  rfl

/-- What a block's rows add to the weight's gradient. -/
def part (x dy : Vec Ideal S512x1024 .f32) (e : Fin 1024) : EReal := ∑ p : Fin 512, dw (row x p) (row dy p) e

theorem part_at (x dy : Vec Ideal S512x1024 .f32) (z : Fin 1) (e : Fin 1024) : k0_pay5 x dy (ix2 z e) = part x dy e := by
  unfold part
  pointwise [k0_pay5]
  simp only [rs_at]
  rfl

theorem dx_at (x dy dr : Vec Ideal S512x1024 .f32) (w : Vec Ideal S1x1024 .f32) (p : Fin 512) (e : Fin 1024) :
    k0_pay6 x dy dr w (ix2 p e) = dx (row x p) (row dy p) (wrow w) (row dr p) e := by
  unfold dx back
  pointwise [k0_pay6]
  simp only [rs_at, ms_at, Fin.sum_univ_one]
  rw [add_comm, ← add_assoc, ← add_assoc]

theorem out4 (c : Dev nD) (t : Fin cfg0.N) (p : Fin 512) (e : Fin 1024) :
    (outsAt0 m c t.val t.isLt).1 (ix2 p e)
      = dx (row (iblk m c 0 t) p) (row (iblk m c 1 t) p) (wrow (iblk m c 3 t)) (row (iblk m c 2 t) p) e := by
  refine Eq.trans ?_ (dx_at _ _ _ _ p e)
  by_cases h : t.val % 8 = 0
  · rw [outsAt0_A m c t h]
    frame_open
    simp (disch := decide) only [↓ View.readCov_skip, ↓ View.readCov_cons_toLoadRect, ↓ View.readCov_fill]
    frame_out
    done
  · rw [outsAt0_B m c t h]
    frame_open
    simp (disch := decide) only [↓ View.readCov_skip, ↓ View.readCov_cons_toLoadRect, ↓ View.readCov_fill]
    frame_out
    done

theorem acc_A (c : Dev nD) (t : Fin cfg0.N) (ht : t.val % 8 = 0) (e : Fin 1024) :
    (outsAt0 m c t.val t.isLt).2 (ix2 0 e) = 0 + part (iblk m c 0 t) (iblk m c 1 t) e := by
  rw [outsAt0_A m c t ht]
  frame_open
  simp (disch := decide) only [↓ View.readCov_skip, ↓ View.readCov_cons_toLoadRect, ↓ View.readCov_fill]
  frame_out
  rw [← part_at _ _ 0 e]
  pointwise [k0_pay2, k0_pay1]
  done

theorem acc_B (c : Dev nD) (t : Fin cfg0.N) (ht : ¬ t.val % 8 = 0) (e : Fin 1024) :
    (outsAt0 m c t.val t.isLt).2 (ix2 0 e)
      = (outsAt0 m c (t.val - 1) (Nat.lt_of_le_of_lt (Nat.sub_le _ _) t.isLt)).2 (ix2 0 e)
        + part (iblk m c 0 t) (iblk m c 1 t) e := by
  rw [outsAt0_B m c t ht]
  frame_open
  simp (disch := decide) only [↓ View.readCov_skip, ↓ View.readCov_cons_toLoadRect, ↓ View.readCov_fill]
  frame_out
  rw [← part_at _ _ 0 e]
  pointwise [k0_pay2]
  done

/-- The rows, the weight, the gradient of the norm's result and the gradient beside it, as launched. -/
abbrev a0 (c : Dev nD) (r : Fin 4096) (e : Fin 1024) : EReal := m ((c : Thread nD τ).loc main_arg0) (ix2 r e)
abbrev a1 (c : Dev nD) (e : Fin 1024) : EReal := m ((c : Thread nD τ).loc main_arg1) (ix2 0 e)
abbrev a2 (c : Dev nD) (r : Fin 4096) (e : Fin 1024) : EReal := m ((c : Thread nD τ).loc main_arg2) (ix2 r e)
abbrev a3 (c : Dev nD) (r : Fin 4096) (e : Fin 1024) : EReal := m ((c : Thread nD τ).loc main_arg3) (ix2 r e)

/-- Row `p` of point `t`'s blocks. -/
abbrev tokn (t : Fin cfg0.N) (p : Fin 512) : Fin 4096 :=
  ⟨t.val * 512 + p.val, by have : t.val < 8 := lt_of_lt_of_eq t.isLt Gen.N_0; omega⟩

theorem blk0 (c : Dev nD) (t : Fin cfg0.N) (p : Fin 512) : row (iblk m c 0 t) p = a0 m c (tokn t p) := by
  funext e
  unfold row a0
  blk_ext [iblk, V, idx0 t]
theorem blk1 (c : Dev nD) (t : Fin cfg0.N) (p : Fin 512) : row (iblk m c 1 t) p = a2 m c (tokn t p) := by
  funext e
  unfold row a2
  blk_ext [iblk, V, idx1 t]
theorem blk2 (c : Dev nD) (t : Fin cfg0.N) (p : Fin 512) : row (iblk m c 2 t) p = a3 m c (tokn t p) := by
  funext e
  unfold row a3
  blk_ext [iblk, V, idx2 t]
theorem blk3 (c : Dev nD) (t : Fin cfg0.N) : wrow (iblk m c 3 t) = a1 m c := by
  funext e
  unfold wrow a1
  blk_ext [iblk, V, idx3 t]

/-- The rows' gradient after the run. -/
theorem arr4 (c : Dev nD) : (dats m 0 c).arrAt 4 cfg0.N
    = fun i => gradX (a0 m c) (a2 m c) (a3 m c) (a1 m c) (i 0) (i 1) := by
  refine (dats m 0 c).arrAt_eq_of_covers 4 _ (by decide +kernel) fun t hf y => ?_
  blk_simp
  rw [after0_4]
  obtain ⟨p, q, rfl⟩ : ∃ (p : Fin 512) (q : Fin 1024), y = ix2 p q := ⟨y 0, y 1, eq_ix2 y⟩
  have hy : ((cfg0.win 4).blk t).view.emb (ix2 p q) = (ix2 (tokn t p) q : S4096x1024.Idx) := by
    blk_ext [idx4 t]
  refine Eq.trans ?_ (congrArg (fun i : S4096x1024.Idx => gradX (a0 m c) (a2 m c) (a3 m c) (a1 m c) (i 0) (i 1)) hy).symm
  refine (out4 m c t p q).trans ?_
  rw [blk0, blk1, blk2, blk3]
  rfl

/-- The weight's gradient after the run. -/
theorem arr5 (c : Dev nD) : (dats m 0 c).arrAt 5 cfg0.N = fun i => gradW (a0 m c) (a2 m c) (i 0) (i 1) := by
  refine (dats m 0 c).arrAt_eq_of_covers 5 _ (by decide +kernel) fun t hf y => ?_
  blk_simp
  rw [after0_5]
  obtain ⟨p, q, rfl⟩ : ∃ (p : Fin 1) (q : Fin 1024), y = ix2 p q := ⟨y 0, y 1, eq_ix2 y⟩
  have hy : ((cfg0.win 5).blk t).view.emb (ix2 p q) = (ix2 p q : S1x1024.Idx) := by
    blk_ext [idx5 t]
  refine Eq.trans ?_ (congrArg (fun i : S1x1024.Idx => gradW (a0 m c) (a2 m c) (i 0) (i 1)) hy).symm
  have ht := (flush0_5 t).mp hf
  have hN : t.val < 8 := lt_of_lt_of_eq t.isLt Gen.N_0
  obtain rfl : p = 0 := Subsingleton.elim _ _
  have e := Pipeline.eq_sum_fin_of_reset_step_of_flush (M := EReal)
    (fun n hn => (outsAt0 m c n hn).2 (ix2 0 q)) 8 0 _
    (fun t ht => acc_A m c t ht q) (fun t ht => acc_B m c t ht q) t ht
  refine e.trans ((zero_add _).trans ?_)
  unfold part
  show _ = ∑ p, dw (a0 m c p) (a2 m c p) q
  refine Fin.sum_mul_add_congr fun s r hl => ?_
  rw [blk0, blk1]
  have hs := s.isLt
  have e1 : tokn ⟨8 * (t.val / 8) + s.val, lt_of_lt_of_eq (by omega) Gen.N_0.symm⟩ r = ⟨s.val * 512 + r.val, hl⟩ :=
    Fin.ext (by show (8 * (t.val / 8) + s.val) * 512 + r.val = s.val * 512 + r.val; omega)
  exact congrArg (fun k => dw (a0 m c k) (a2 m c k) q) e1

end Cert.NormBwdIdeal.Cols

namespace Cert.NormBwdRefIdeal.Cols

open Cert.NormBwdRefIdeal Cert.NormBwdRefIdeal.Gen Cert.Norm

variable (x dy dr : FVec Ideal S4096x1024 .f32) (w : FVec Ideal S1x1024 .f32)

/-- An array by row and column. -/
abbrev ar (x : FVec Ideal S4096x1024 .f32) (r : Fin 4096) (e : Fin 1024) : EReal := x (ix2 r e)
/-- The weight. -/
abbrev wr (w : FVec Ideal S1x1024 .f32) (e : Fin 1024) : EReal := w (ix2 0 e)

/-- The mean squares. -/
def msR : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
/-- The factors. -/
def rsR : FVec Ideal S4096x1 .f32 := Host.rsqrt (msR x)
/-- The gradient of the rows' results, times the weight. -/
def dyw : FVec Ideal S4096x1024 .f32 := mulf dy (broadcastInDim S4096x1024 ![0, 1] bcast_S1x1024_S4096x1024_0_1 w)
/-- What the factors pass back. -/
def backR : FVec Ideal S4096x1024 .f32 :=
  broadcastInDim S4096x1024 ![0] bcast_S4096_S4096x1024_0 (Host.reduceAdd (Host.divf (mulf (shapeCast _ (Host.reduceAdd (mulf x (dyw dy w)) (constant S_ .f32 0x00000000#32) reducesTo_S4096x1024_S4096_d1 h_S_) shapeCasts_S4096_S4096x1) (mulf (broadcastInDim S4096x1 ![] bcast_S_S4096x1 (constant S_ .f32 0xBF000000#32)) (Host.divf (rsR x) (msR x)))) (broadcastInDim S4096x1 ![] bcast_S_S4096x1 (constant S_ .f32 0x44800000#32))) (constant S_ .f32 0x00000000#32) reducesTo_S4096x1_S4096_d1 h_S_)
/-- The rows' gradient. -/
def outX : FVec Ideal S4096x1024 .f32 :=
  addf (addf (addf dr (mulf (dyw dy w) (broadcastInDim S4096x1024 ![0, 1] bcast_S4096x1_S4096x1024_0_1 (rsR x)))) (mulf x (backR x dy w))) (mulf (backR x dy w) x)
/-- The weight's gradient. -/
def outW : FVec Ideal S1x1024 .f32 :=
  shapeCast _ (Host.reduceAdd (mulf (mulf x (broadcastInDim S4096x1024 ![0, 1] bcast_S4096x1_S4096x1024_0_1 (rsR x))) dy) (constant S_ .f32 0x00000000#32) reducesTo_S4096x1024_S1024_d0 h_S_) shapeCasts_S1024_S1x1024

theorem msR_at (p : Fin 4096) (z : Fin 1) : msR x (ix2 p z) = ms (ar x p) := by
  pointwise [msR]
  rfl
theorem rsR_at (p : Fin 4096) (z : Fin 1) : rsR x (ix2 p z) = rs (ar x p) := by
  pointwise [rsR]
  rw [msR_at]
  rfl
theorem dyw_at (p : Fin 4096) (e : Fin 1024) : dyw dy w (ix2 p e) = ar dy p e * wr w e := by
  pointwise [dyw]
theorem backR_at (p : Fin 4096) (e : Fin 1024) : backR x dy w (ix2 p e) = back (ar x p) (ar dy p) (wr w) := by
  pointwise [backR]
  simp only [rsR_at, msR_at, dyw_at, Fin.sum_univ_one]
  rfl
theorem outX_at (p : Fin 4096) (e : Fin 1024) :
    outX x dy dr w (ix2 p e) = gradX (ar x) (ar dy) (ar dr) (wr w) p e := by
  unfold gradX
  pointwise [outX]
  simp only [rsR_at, dyw_at, backR_at]
  rfl
theorem outW_at (z : Fin 1) (e : Fin 1024) : outW x dy (ix2 z e) = gradW (ar x) (ar dy) z e := by
  unfold gradW
  pointwise [outW]
  simp only [rsR_at]
  rfl

end Cert.NormBwdRefIdeal.Cols

namespace Cert.NormBwd.Claims

/-- The reference's frame: its generated run, read at the arguments. -/
theorem frame_ref : Cert.quiescent_NormBwdRefIdeal := fun m ρ _ =>
  (θ_run Cert.NormBwdRefIdeal.defs _ _).mono (fun _ h => ⟨fun c => (h c).2.2, Idealize.ShloMosaic.sem_eq_zero_of_no_sems (by decide) _⟩)
    (Cert.NormBwdRefIdeal.Value.run m ρ)

/-- The kernel's two results are the reference's over the extended reals. -/
theorem value : Cert.algebraic_NormBwdIdeal_NormBwdRefIdeal := fun m ρ m' ρ' _ hag =>
  ⟨fun c => (Cert.NormBwdIdeal.Gen.dats m 0 c).arrAt 4 Cert.NormBwdIdeal.cfg0.N,
    fun c => (Cert.NormBwdIdeal.Gen.dats m 0 c).arrAt 5 Cert.NormBwdIdeal.cfg0.N,
    Cert.NormBwdIdeal.Value.run_blocks m ρ,
    (θ_run _ _ _).mono (fun _ h c => by
      obtain ⟨h0, h1, hr⟩ := h c
      obtain ⟨a0, a1, a2, a3⟩ := hag c
      refine ⟨h0.trans ?_, h1.trans ?_, hr⟩
      · rw [a0, a1, a2, a3]
        exact (ext2 (Cert.NormBwdRefIdeal.Cols.outX_at _ _ _ _)).trans (Cert.NormBwdIdeal.Cols.arr4 m c).symm
      · rw [a0, a2]
        exact (ext2 (Cert.NormBwdRefIdeal.Cols.outW_at _ _)).trans (Cert.NormBwdIdeal.Cols.arr5 m c).symm)
      (Cert.NormBwdRefIdeal.Value.run m' ρ')⟩

end Cert.NormBwd.Claims

end
end
-- ==== Proof.Cols.ConvBwd.lean ====
/-
  The gradient of the mixer's causal convolution of four taps and its activation: a block of one sequence and 256
  columns at a point, the taps' and the biases' gradients added up over the two sequences.
-/
module

public import proofs.«01_k».proof.Proof.Kit
public import proofs.«01_k».proof.Proof.Gen.ConvBwd.Frame
public import proofs.«01_k».proof.Proof.Gen.ConvBwdIdeal.Value
public import proofs.«01_k».proof.Proof.Gen.ConvBwdRefIdeal.Run
public import proofs.«01_k».proof.Proof.Cols.Conv

@[expose] public section

set_option maxRecDepth 16384

noncomputable section

open Idealize.ShloMosaic Idealize.ShloMosaic.TcCoe Idealize.SL.Sem Cert.Common

namespace Cert.ConvBwdIdeal.Cols

open Cert.ConvBwdIdeal Cert.ConvBwdIdeal.Gen Cert.Conv

variable (m : (ℓ : Loc nD τ sig) → Buf (Elt Ideal) ℓ)

theorem idx0 : ∀ t : Fin grid0.N, win0_0.index t = ![t.val % 2, t.val / 2] := by decide +kernel
theorem idx1 : ∀ t : Fin grid0.N, win0_1.index t = ![0, t.val / 2] := by decide +kernel
theorem idx2 : ∀ t : Fin grid0.N, win0_2.index t = ![0, t.val / 2] := by decide +kernel
theorem idx3 : ∀ t : Fin grid0.N, win0_3.index t = ![t.val % 2, t.val / 2] := by decide +kernel
theorem idx4 : ∀ t : Fin grid0.N, win0_4.index t = ![t.val % 2, t.val / 2] := by decide +kernel
theorem idx5 : ∀ t : Fin grid0.N, win0_5.index t = ![0, t.val / 2] := by decide +kernel
theorem idx6 : ∀ t : Fin grid0.N, win0_6.index t = ![0, t.val / 2] := by decide +kernel

section
variable (x : Vec Ideal S2048x256 .f32) (w : Vec Ideal S4x256 .f32) (b : Vec Ideal S1x256 .f32) (d : Vec Ideal S2048x256 .bf16)

/-- A column of a block. -/
abbrev colx (e : Fin 256) (l : Fin 2048) : EReal := x (ix2 l e)
/-- A column of the block of the result's gradient. -/
abbrev cold (e : Fin 256) (l : Fin 2048) : EReal := d (ix2 l e)
/-- A column of the taps. -/
abbrev colw (e : Fin 256) (j : Fin 4) : EReal := w (ix2 j e)
/-- A bias. -/
abbrev colb (e : Fin 256) : EReal := b (ix2 0 e)

theorem back1 (l : Fin 2048) (e : Fin 256) : k0_pay8 x (ix2 l e) = before 1 (colx x e) l := by
  pointwise [k0_pay8]
  exact sel_before 1 (by decide) (colx x e) l
theorem back2 (l : Fin 2048) (e : Fin 256) : k0_pay10 x (ix2 l e) = before 2 (colx x e) l := by
  pointwise [k0_pay10]
  exact sel_before 2 (by decide) (colx x e) l
theorem back3 (l : Fin 2048) (e : Fin 256) : k0_pay12 x (ix2 l e) = before 3 (colx x e) l := by
  pointwise [k0_pay12]
  exact sel_before 3 (by decide) (colx x e) l

theorem pre_at (l : Fin 2048) (e : Fin 256) : k0_pay14 x w b (ix2 l e) = pre 4 (colx x e) (colw w e) (colb b e) l := by
  unfold pre
  pointwise [k0_pay14, k0_pay7, k0_pay9, k0_pay11, k0_pay13]
  rw [back1, back2, back3, Fin.sum_univ_four]
  show _ = before 3 _ _ * _ + before 2 _ _ * _ + before 1 _ _ * _ + before 0 _ _ * _ + _
  rw [before_zero]
  abel
theorem sig_at (l : Fin 2048) (e : Fin 256) :
    k0_pay15 x w b (ix2 l e) = Conv.sig 4 (colx x e) (colw w e) (colb b e) l := by
  pointwise [k0_pay15]
  rw [pre_at]
  rfl

/-- The block of the convolution's gradient. -/
abbrev dzB : Vec Ideal S2048x256 .f32 := k0_pay16 (k0_pay6 d) (k0_pay14 x w b) (k0_pay15 x w b)

theorem dz_at (l : Fin 2048) (e : Fin 256) :
    dzB x w b d (ix2 l e) = dz 4 (colx x e) (colw w e) (colb b e) (cold d e) l := by
  unfold dz dzB
  pointwise [k0_pay16, k0_pay6]
  rw [pre_at, sig_at]

theorem dx_at (l : Fin 2048) (e : Fin 256) :
    k0_pay1 (k0_pay7 w) (dzB x w b d)
      (k0_pay19 (k0_pay6 d) (k0_pay11 w) (k0_pay13 w) (k0_pay14 x w b) (k0_pay15 x w b))
      (k0_pay20 (k0_pay6 d) (k0_pay9 w) (k0_pay14 x w b) (k0_pay15 x w b)) (ix2 l e)
      = dx 4 (colx x e) (colw w e) (colb b e) (cold d e) l := by
  unfold dx
  pointwise [k0_pay1, k0_pay19, k0_pay20, k0_pay7, k0_pay9, k0_pay11, k0_pay13]
  simp only [dz_at]
  rw [Fin.sum_univ_four]
  show _ = after 3 _ _ + after 2 _ _ + after 1 _ _ + after 0 _ _
  rw [after_zero, ← sel_after 3 2045 (by decide) (by decide), ← sel_after 2 2046 (by decide) (by decide),
    ← sel_after 1 2047 (by decide) (by decide)]

theorem dw_at (acc : Vec Ideal S4x256 .f32) (j : Fin 4) (e : Fin 256) :
    k0_pay4 x (dzB x w b d)
      (k0_pay18 (k0_pay6 d) (k0_pay10 x) (k0_pay12 x) (k0_pay14 x w b) (k0_pay15 x w b))
      (FloatOps.ofBits FTy.f32 0#32)
      (k0_pay21 (k0_pay6 d) (k0_pay8 x) (k0_pay14 x w b) (k0_pay15 x w b)) acc (ix2 j e)
      = acc (ix2 j e) + dw 4 (colx x e) (colw w e) (colb b e) (cold d e) j := by
  pointwise [k0_pay4, k0_pay18, k0_pay21]
  simp only [dz_at, back1, back2, back3]
  have h3 : dw 4 (colx x e) (colw w e) (colb b e) (cold d e) 3
      = ∑ l, colx x e l * dz 4 (colx x e) (colw w e) (colb b e) (cold d e) l :=
    Finset.sum_congr rfl fun l _ => congrArg (· * _) (before_zero _ l)
  rw [← rows4 (dw 4 (colx x e) (colw w e) (colb b e) (cold d e)) j, h3]
  rfl

theorem db_at (acc : Vec Ideal S1x256 .f32) (z : Fin 1) (e : Fin 256) :
    k0_pay5 (k0_pay17 (k0_pay6 d) (k0_pay14 x w b) (k0_pay15 x w b)) acc (ix2 z e)
      = acc (ix2 z e) + db 4 (colx x e) (colw w e) (colb b e) (cold d e) := by
  pointwise [k0_pay5, k0_pay17]
  simp only [dz_at]
  rfl

end

/-- The gradients of the columns of point `t`'s blocks. -/
abbrev dxP (c : Dev nD) (t : Fin cfg0.N) (e : Fin 256) : Fin 2048 → EReal :=
  dx 4 (colx (iblk m c 0 t) e) (colw (iblk m c 1 t) e) (colb (iblk m c 2 t) e) (cold (iblk m c 3 t) e)
/-- What point `t`'s blocks add to the taps' gradients. -/
abbrev dwP (c : Dev nD) (t : Fin cfg0.N) (e : Fin 256) : Fin 4 → EReal :=
  dw 4 (colx (iblk m c 0 t) e) (colw (iblk m c 1 t) e) (colb (iblk m c 2 t) e) (cold (iblk m c 3 t) e)
/-- What point `t`'s blocks add to the biases' gradients. -/
abbrev dbP (c : Dev nD) (t : Fin cfg0.N) (e : Fin 256) : EReal :=
  db 4 (colx (iblk m c 0 t) e) (colw (iblk m c 1 t) e) (colb (iblk m c 2 t) e) (cold (iblk m c 3 t) e)

theorem out4 (c : Dev nD) (t : Fin cfg0.N) (l : Fin 2048) (e : Fin 256) :
    (outsAt0 m c t.val t.isLt).1 (ix2 l e) = dxP m c t e l := by
  refine Eq.trans ?_ (dx_at _ _ _ _ l e)
  by_cases h : t.val % 2 = 0
  · rw [outsAt0_A m c t h]
    frame_open
    simp (disch := decide) only [↓ View.readCov_skip, ↓ View.readCov_cons_toLoadRect, ↓ View.readCov_fill]
    frame_out
    done
  · rw [outsAt0_B m c t h]
    frame_open
    simp (disch := decide) only [↓ View.readCov_skip, ↓ View.readCov_cons_toLoadRect, ↓ View.readCov_fill]
    frame_out
    done

theorem dw_A (c : Dev nD) (t : Fin cfg0.N) (ht : t.val % 2 = 0) (j : Fin 4) (e : Fin 256) :
    (outsAt0 m c t.val t.isLt).2.1 (ix2 j e) = 0 + dwP m c t e j := by
  rw [outsAt0_A m c t ht]
  frame_open
  simp (disch := decide) only [↓ View.readCov_skip, ↓ View.readCov_cons_toLoadRect, ↓ View.readCov_fill]
  frame_out
  refine (dw_at _ _ _ _ _ j e).trans ?_
  pointwise [k0_pay2]
  done
theorem dw_B (c : Dev nD) (t : Fin cfg0.N) (ht : ¬ t.val % 2 = 0) (j : Fin 4) (e : Fin 256) :
    (outsAt0 m c t.val t.isLt).2.1 (ix2 j e)
      = (outsAt0 m c (t.val - 1) (Nat.lt_of_le_of_lt (Nat.sub_le _ _) t.isLt)).2.1 (ix2 j e) + dwP m c t e j := by
  rw [outsAt0_B m c t ht]
  frame_open
  simp (disch := decide) only [↓ View.readCov_skip, ↓ View.readCov_cons_toLoadRect, ↓ View.readCov_fill]
  frame_out
  exact dw_at _ _ _ _ _ j e
theorem db_A (c : Dev nD) (t : Fin cfg0.N) (ht : t.val % 2 = 0) (e : Fin 256) :
    (outsAt0 m c t.val t.isLt).2.2 (ix2 0 e) = 0 + dbP m c t e := by
  rw [outsAt0_A m c t ht]
  frame_open
  simp (disch := decide) only [↓ View.readCov_skip, ↓ View.readCov_cons_toLoadRect, ↓ View.readCov_fill]
  frame_out
  refine (db_at _ _ _ _ _ 0 e).trans ?_
  pointwise [k0_pay3]
  done
theorem db_B (c : Dev nD) (t : Fin cfg0.N) (ht : ¬ t.val % 2 = 0) (e : Fin 256) :
    (outsAt0 m c t.val t.isLt).2.2 (ix2 0 e)
      = (outsAt0 m c (t.val - 1) (Nat.lt_of_le_of_lt (Nat.sub_le _ _) t.isLt)).2.2 (ix2 0 e) + dbP m c t e := by
  rw [outsAt0_B m c t ht]
  frame_open
  simp (disch := decide) only [↓ View.readCov_skip, ↓ View.readCov_cons_toLoadRect, ↓ View.readCov_fill]
  frame_out
  exact db_at _ _ _ _ _ 0 e

/-- The columns, the taps, the biases and the result's gradient, as launched. -/
abbrev a0 (c : Dev nD) (r : Fin 4096) (e : Fin 2048) : EReal := m ((c : Thread nD τ).loc main_arg0) (ix2 r e)
abbrev a1 (c : Dev nD) (j : Fin 4) (e : Fin 2048) : EReal := m ((c : Thread nD τ).loc main_arg1) (ix2 j e)
abbrev a2 (c : Dev nD) (e : Fin 2048) : EReal := m ((c : Thread nD τ).loc main_arg2) (ix2 0 e)
abbrev a3 (c : Dev nD) (r : Fin 4096) (e : Fin 2048) : EReal := m ((c : Thread nD τ).loc main_arg3) (ix2 r e)

/-- Point `t`'s sequence. -/
abbrev sq (t : Fin cfg0.N) : Fin 2 := ⟨t.val % 2, Nat.mod_lt _ (by decide)⟩
/-- Column `e` of point `t`'s blocks. -/
abbrev cl (t : Fin cfg0.N) (e : Fin 256) : Fin 2048 :=
  ⟨t.val / 2 * 256 + e.val, by have : t.val < 16 := lt_of_lt_of_eq t.isLt Gen.N_0; omega⟩

theorem sq_pair (t : Fin cfg0.N) (s : Fin 2) (h : 2 * (t.val / 2) + s.val < cfg0.N) : sq ⟨2 * (t.val / 2) + s.val, h⟩ = s :=
  Fin.ext (by show (2 * (t.val / 2) + s.val) % 2 = s.val; omega)
theorem cl_pair (t : Fin cfg0.N) (s : Fin 2) (h : 2 * (t.val / 2) + s.val < cfg0.N) (q : Fin 256) :
    cl ⟨2 * (t.val / 2) + s.val, h⟩ q = cl t q :=
  Fin.ext (by show (2 * (t.val / 2) + s.val) / 2 * 256 + q.val = t.val / 2 * 256 + q.val; omega)

theorem blk0 (c : Dev nD) (t : Fin cfg0.N) (e : Fin 256) : colx (iblk m c 0 t) e = seq (a0 m c) (sq t) (cl t e) := by
  funext l
  unfold colx seq a0
  blk_ext [iblk, V, idx0 t]
theorem blk1 (c : Dev nD) (t : Fin cfg0.N) (e : Fin 256) : colw (iblk m c 1 t) e = (a1 m c · (cl t e)) := by
  funext j
  unfold colw a1
  blk_ext [iblk, V, idx1 t]
theorem blk2 (c : Dev nD) (t : Fin cfg0.N) (e : Fin 256) : colb (iblk m c 2 t) e = a2 m c (cl t e) := by
  unfold colb a2
  blk_ext [iblk, V, idx2 t]
theorem blk3 (c : Dev nD) (t : Fin cfg0.N) (e : Fin 256) : cold (iblk m c 3 t) e = seq (a3 m c) (sq t) (cl t e) := by
  funext l
  unfold cold seq a3
  blk_ext [iblk, V, idx3 t]

/-- The columns' gradients after the run. -/
theorem arr4 (c : Dev nD) : (dats m 0 c).arrAt 4 cfg0.N
    = fun i => gradX 4 (a0 m c) (a1 m c) (a2 m c) (a3 m c) (i 0) (i 1) := by
  refine (dats m 0 c).arrAt_eq_of_covers 4 _ (by decide +kernel) fun t hf y => ?_
  blk_simp
  rw [after0_4]
  obtain ⟨p, q, rfl⟩ : ∃ (p : Fin 2048) (q : Fin 256), y = ix2 p q := ⟨y 0, y 1, eq_ix2 y⟩
  have hy : ((cfg0.win 4).blk t).view.emb (ix2 p q)
      = (ix2 ⟨(sq t).val * 2048 + p.val, by omega⟩ (cl t q) : S4096x2048.Idx) := by
    blk_ext [idx4 t]
  refine Eq.trans ?_ (congrArg (fun i : S4096x2048.Idx => gradX 4 (a0 m c) (a1 m c) (a2 m c) (a3 m c) (i 0) (i 1)) hy).symm
  refine (out4 m c t p q).trans ?_
  unfold dxP
  rw [blk0, blk1, blk2, blk3]
  exact (rows_at (fun b e => dx 4 (seq (a0 m c) b e) (a1 m c · e) (a2 m c e) (seq (a3 m c) b e)) (sq t) p (cl t q)).symm

/-- The taps' gradients after the run. -/
theorem arr5 (c : Dev nD) : (dats m 0 c).arrAt 5 cfg0.N
    = fun i => gradW 4 (a0 m c) (a1 m c) (a2 m c) (a3 m c) (i 0) (i 1) := by
  refine (dats m 0 c).arrAt_eq_of_covers 5 _ (by decide +kernel) fun t hf y => ?_
  blk_simp
  rw [after0_5]
  obtain ⟨p, q, rfl⟩ : ∃ (p : Fin 4) (q : Fin 256), y = ix2 p q := ⟨y 0, y 1, eq_ix2 y⟩
  have hy : ((cfg0.win 5).blk t).view.emb (ix2 p q) = (ix2 p (cl t q) : S4x2048.Idx) := by
    blk_ext [idx5 t]
  refine Eq.trans ?_ (congrArg (fun i : S4x2048.Idx => gradW 4 (a0 m c) (a1 m c) (a2 m c) (a3 m c) (i 0) (i 1)) hy).symm
  have ht := (flush0_5 t).mp hf
  have hN : t.val < 16 := lt_of_lt_of_eq t.isLt Gen.N_0
  have e := Pipeline.eq_sum_fin_of_reset_step_of_flush (M := EReal)
    (fun n hn => (outsAt0 m c n hn).2.1 (ix2 p q)) 2 0 _
    (fun t ht => dw_A m c t ht p q) (fun t ht => dw_B m c t ht p q) t ht
  refine e.trans ((zero_add _).trans (Finset.sum_congr rfl fun s _ => ?_))
  have hs := s.isLt
  unfold dwP
  rw [blk0, blk1, blk2, blk3]
  rw [sq_pair, cl_pair]
  rfl

/-- The biases' gradients after the run. -/
theorem arr6 (c : Dev nD) : (dats m 0 c).arrAt 6 cfg0.N
    = fun i => gradB 4 (a0 m c) (a1 m c) (a2 m c) (a3 m c) (i 0) (i 1) := by
  refine (dats m 0 c).arrAt_eq_of_covers 6 _ (by decide +kernel) fun t hf y => ?_
  blk_simp
  rw [after0_6]
  obtain ⟨p, q, rfl⟩ : ∃ (p : Fin 1) (q : Fin 256), y = ix2 p q := ⟨y 0, y 1, eq_ix2 y⟩
  have hy : ((cfg0.win 6).blk t).view.emb (ix2 p q) = (ix2 p (cl t q) : S1x2048.Idx) := by
    blk_ext [idx6 t]
  refine Eq.trans ?_ (congrArg (fun i : S1x2048.Idx => gradB 4 (a0 m c) (a1 m c) (a2 m c) (a3 m c) (i 0) (i 1)) hy).symm
  have ht := (flush0_6 t).mp hf
  have hN : t.val < 16 := lt_of_lt_of_eq t.isLt Gen.N_0
  obtain rfl : p = 0 := Subsingleton.elim _ _
  have e := Pipeline.eq_sum_fin_of_reset_step_of_flush (M := EReal)
    (fun n hn => (outsAt0 m c n hn).2.2 (ix2 0 q)) 2 0 _
    (fun t ht => db_A m c t ht q) (fun t ht => db_B m c t ht q) t ht
  refine e.trans ((zero_add _).trans (Finset.sum_congr rfl fun s _ => ?_))
  have hs := s.isLt
  unfold dbP
  rw [blk0, blk1, blk2, blk3]
  rw [sq_pair, cl_pair]
  rfl

end Cert.ConvBwdIdeal.Cols

namespace Cert.ConvBwdRefIdeal.Cols

open Cert.ConvBwdRefIdeal Cert.ConvBwdRefIdeal.Gen Cert.Conv

variable (x : FVec Ideal S4096x2048 .f32) (d : FVec Ideal S4096x2048 .bf16) (w : FVec Ideal S4x2048 .f32) (b : FVec Ideal S1x2048 .f32)
variable (y : FVec Ideal S2x2048x2048 .f32)

/-- Zeros. -/
abbrev zeroS : FVec Ideal S_ .f32 := constant S_ .f32 0x00000000#32
/-- Ones. -/
abbrev oneR : FVec Ideal S2x2048x2048 .f32 := broadcastInDim S2x2048x2048 ![] bcast_S_S2x2048x2048 (constant S_ .f32 0x3F800000#32)
/-- The columns by sequence. -/
def seqR (x : FVec Ideal S4096x2048 .f32) : FVec Ideal S2x2048x2048 .f32 := shapeCast _ x shapeCasts_S4096x2048_S2x2048x2048
/-- The result's gradient by sequence. -/
def seqD (d : FVec Ideal S4096x2048 .bf16) : FVec Ideal S2x2048x2048 .f32 :=
  shapeCast _ (extf .f32 d bitsLt_bf16_f32) shapeCasts_S4096x2048_S2x2048x2048
/-- The columns 1 tokens earlier. -/
def late1 : FVec Ideal S2x2048x2048 .f32 :=
  concatenate S2x2048x2048 1 [⟨S2x1x2048, (broadcastInDim S2x1x2048 ![] bcast_S_S2x1x2048 zeroS)⟩, ⟨S2x2047x2048, (extractStridedSlice S2x2047x2048 ![0, 0, 0] y slices_S2x2048x2048_S2x2047x2048_0_0_0)⟩] concatenates_S2x1x2048_S2x2047x2048_S2x2048x2048_d1
/-- An array 1 tokens later. -/
def early1 : FVec Ideal S2x2048x2048 .f32 :=
  pad S2x2048x2048 ![0, 0, 0] ![0, 1, 0] ![0, 0, 0] (extractStridedSlice S2x2047x2048 ![0, 1, 0] y slices_S2x2048x2048_S2x2047x2048_0_1_0) zeroS pads_S2x2047x2048_S2x2048x2048_000_010_000 h_S_
/-- The columns 2 tokens earlier. -/
def late2 : FVec Ideal S2x2048x2048 .f32 :=
  concatenate S2x2048x2048 1 [⟨S2x2x2048, (broadcastInDim S2x2x2048 ![] bcast_S_S2x2x2048 zeroS)⟩, ⟨S2x2046x2048, (extractStridedSlice S2x2046x2048 ![0, 0, 0] y slices_S2x2048x2048_S2x2046x2048_0_0_0)⟩] concatenates_S2x2x2048_S2x2046x2048_S2x2048x2048_d1
/-- An array 2 tokens later. -/
def early2 : FVec Ideal S2x2048x2048 .f32 :=
  pad S2x2048x2048 ![0, 0, 0] ![0, 2, 0] ![0, 0, 0] (extractStridedSlice S2x2046x2048 ![0, 2, 0] y slices_S2x2048x2048_S2x2046x2048_0_2_0) zeroS pads_S2x2046x2048_S2x2048x2048_000_020_000 h_S_
/-- The columns 3 tokens earlier. -/
def late3 : FVec Ideal S2x2048x2048 .f32 :=
  concatenate S2x2048x2048 1 [⟨S2x3x2048, (broadcastInDim S2x3x2048 ![] bcast_S_S2x3x2048 zeroS)⟩, ⟨S2x2045x2048, (extractStridedSlice S2x2045x2048 ![0, 0, 0] y slices_S2x2048x2048_S2x2045x2048_0_0_0)⟩] concatenates_S2x3x2048_S2x2045x2048_S2x2048x2048_d1
/-- An array 3 tokens later. -/
def early3 : FVec Ideal S2x2048x2048 .f32 :=
  pad S2x2048x2048 ![0, 0, 0] ![0, 3, 0] ![0, 0, 0] (extractStridedSlice S2x2045x2048 ![0, 3, 0] y slices_S2x2048x2048_S2x2045x2048_0_3_0) zeroS pads_S2x2045x2048_S2x2048x2048_000_030_000 h_S_
/-- Tap 0. -/
def tap0 : FVec Ideal S2x2048x2048 .f32 :=
  broadcastInDim S2x2048x2048 ![0, 1, 2] bcast_S1x1x2048_S2x2048x2048_0_1_2 (broadcastInDim S1x1x2048 ![2] bcast_S2048_S1x1x2048_2 (shapeCast _ (extractStridedSlice S1x2048 ![0, 0] w slices_S4x2048_S1x2048_0_0) shapeCasts_S1x2048_S2048))
/-- Tap 1. -/
def tap1 : FVec Ideal S2x2048x2048 .f32 :=
  broadcastInDim S2x2048x2048 ![0, 1, 2] bcast_S1x1x2048_S2x2048x2048_0_1_2 (broadcastInDim S1x1x2048 ![2] bcast_S2048_S1x1x2048_2 (shapeCast _ (extractStridedSlice S1x2048 ![1, 0] w slices_S4x2048_S1x2048_1_0) shapeCasts_S1x2048_S2048))
/-- Tap 2. -/
def tap2 : FVec Ideal S2x2048x2048 .f32 :=
  broadcastInDim S2x2048x2048 ![0, 1, 2] bcast_S1x1x2048_S2x2048x2048_0_1_2 (broadcastInDim S1x1x2048 ![2] bcast_S2048_S1x1x2048_2 (shapeCast _ (extractStridedSlice S1x2048 ![2, 0] w slices_S4x2048_S1x2048_2_0) shapeCasts_S1x2048_S2048))
/-- Tap 3. -/
def tap3 : FVec Ideal S2x2048x2048 .f32 :=
  broadcastInDim S2x2048x2048 ![0, 1, 2] bcast_S1x1x2048_S2x2048x2048_0_1_2 (broadcastInDim S1x1x2048 ![2] bcast_S2048_S1x1x2048_2 (shapeCast _ (extractStridedSlice S1x2048 ![3, 0] w slices_S4x2048_S1x2048_3_0) shapeCasts_S1x2048_S2048))
/-- The sum over both sequences, one row. -/
def total : FVec Ideal S1x2048 .f32 :=
  broadcastInDim S1x2048 ![1] bcast_S2048_S1x2048_1 (Host.reduceAdd (shapeCast _ (Host.reduceAdd y zeroS reducesTo_S2x2048x2048_S2048_d0_1 h_S_) shapeCasts_S2048_S1x1x2048) zeroS reducesTo_S1x1x2048_S2048_d0_1 h_S_)
/-- The convolution. -/
def preR : FVec Ideal S2x2048x2048 .f32 :=
  addf (addf (addf (addf (addf (broadcastInDim S2x2048x2048 ![] bcast_S_S2x2048x2048 zeroS) (mulf (tap0 w) (late3 (seqR x)))) (mulf (tap1 w) (late2 (seqR x)))) (mulf (tap2 w) (late1 (seqR x)))) (mulf (tap3 w) (seqR x))) (broadcastInDim S2x2048x2048 ![0, 1, 2] bcast_S1x1x2048_S2x2048x2048_0_1_2 (broadcastInDim S1x1x2048 ![1, 2] bcast_S1x2048_S1x1x2048_1_2 b))
/-- Its logistic. -/
def sigR : FVec Ideal S2x2048x2048 .f32 := Host.divf oneR (addf oneR (Host.exp (Host.negf (preR x w b))))
/-- The convolution's gradient. -/
def dzR : FVec Ideal S2x2048x2048 .f32 :=
  addf (mulf (seqD d) (sigR x w b)) (mulf (mulf (preR x w b) (seqD d)) (mulf (sigR x w b) (subf oneR (sigR x w b))))
/-- The biases' gradients. -/
def outB : FVec Ideal S1x2048 .f32 := total (dzR x d w b)
/-- The taps' gradients. -/
def outW : FVec Ideal S4x2048 .f32 :=
  addf (addf (addf (pad S4x2048 ![3, 0] ![0, 0] ![0, 0] (total (mulf (dzR x d w b) (seqR x))) zeroS pads_S1x2048_S4x2048_300_000 h_S_) (pad S4x2048 ![2, 0] ![1, 0] ![0, 0] (total (mulf (dzR x d w b) (late1 (seqR x)))) zeroS pads_S1x2048_S4x2048_210_000 h_S_)) (pad S4x2048 ![1, 0] ![2, 0] ![0, 0] (total (mulf (dzR x d w b) (late2 (seqR x)))) zeroS pads_S1x2048_S4x2048_120_000 h_S_)) (pad S4x2048 ![0, 0] ![3, 0] ![0, 0] (total (mulf (dzR x d w b) (late3 (seqR x)))) zeroS pads_S1x2048_S4x2048_030_000 h_S_)
/-- The columns' gradients. -/
def outX : FVec Ideal S4096x2048 .bf16 :=
  truncf .bf16 (shapeCast _ (addf (addf (addf (mulf (tap3 w) (dzR x d w b)) (early1 (mulf (tap2 w) (dzR x d w b)))) (early2 (mulf (tap1 w) (dzR x d w b)))) (early3 (mulf (tap0 w) (dzR x d w b)))) shapeCasts_S2x2048x2048_S4096x2048) bitsLt_bf16_f32

/-- An array by row and column. -/
abbrev ar (x : FVec Ideal S4096x2048 .f32) (r : Fin 4096) (e : Fin 2048) : EReal := x (ix2 r e)
/-- The result's gradient by row and column. -/
abbrev ad (d : FVec Ideal S4096x2048 .bf16) (r : Fin 4096) (e : Fin 2048) : EReal := d (ix2 r e)
/-- The taps. -/
abbrev wr (w : FVec Ideal S4x2048 .f32) (j : Fin 4) (e : Fin 2048) : EReal := w (ix2 j e)
/-- The biases. -/
abbrev br (b : FVec Ideal S1x2048 .f32) (e : Fin 2048) : EReal := b (ix2 0 e)
/-- A column of an array by sequence. -/
abbrev col (q : Fin 2) (e : Fin 2048) (l : Fin 2048) : EReal := y (ix3 q l e)

theorem seqR_at (q : Fin 2) (l : Fin 2048) (e : Fin 2048) : seqR x (ix3 q l e) = seq (ar x) q e l := by
  pointwise [seqR]
theorem seqD_at (q : Fin 2) (l : Fin 2048) (e : Fin 2048) : seqD d (ix3 q l e) = seq (ad d) q e l := by
  pointwise [seqD]
theorem late1_at (q : Fin 2) (l : Fin 2048) (e : Fin 2048) : late1 y (ix3 q l e) = before 1 (col y q e) l := by
  pointwise [late1]
  exact cat_before 1 (col y q e) l
theorem early1_at (q : Fin 2) (l : Fin 2048) (e : Fin 2048) : early1 y (ix3 q l e) = after 1 (col y q e) l := by
  pointwise [early1]
  exact pad_after 1 2047 (by decide) (col y q e) l
theorem late2_at (q : Fin 2) (l : Fin 2048) (e : Fin 2048) : late2 y (ix3 q l e) = before 2 (col y q e) l := by
  pointwise [late2]
  exact cat_before 2 (col y q e) l
theorem early2_at (q : Fin 2) (l : Fin 2048) (e : Fin 2048) : early2 y (ix3 q l e) = after 2 (col y q e) l := by
  pointwise [early2]
  exact pad_after 2 2046 (by decide) (col y q e) l
theorem late3_at (q : Fin 2) (l : Fin 2048) (e : Fin 2048) : late3 y (ix3 q l e) = before 3 (col y q e) l := by
  pointwise [late3]
  exact cat_before 3 (col y q e) l
theorem early3_at (q : Fin 2) (l : Fin 2048) (e : Fin 2048) : early3 y (ix3 q l e) = after 3 (col y q e) l := by
  pointwise [early3]
  exact pad_after 3 2045 (by decide) (col y q e) l
theorem tap0_at (q : Fin 2) (l : Fin 2048) (e : Fin 2048) : tap0 w (ix3 q l e) = wr w 0 e := by
  pointwise [tap0]
theorem tap1_at (q : Fin 2) (l : Fin 2048) (e : Fin 2048) : tap1 w (ix3 q l e) = wr w 1 e := by
  pointwise [tap1]
theorem tap2_at (q : Fin 2) (l : Fin 2048) (e : Fin 2048) : tap2 w (ix3 q l e) = wr w 2 e := by
  pointwise [tap2]
theorem tap3_at (q : Fin 2) (l : Fin 2048) (e : Fin 2048) : tap3 w (ix3 q l e) = wr w 3 e := by
  pointwise [tap3]
theorem total_at (z : Fin 1) (e : Fin 2048) : total y (ix2 z e) = ∑ q : Fin 2, ∑ l, col y q e l := by
  pointwise [total, sum01]
  simp only [Fin.sum_univ_one]
theorem col_seqR (q : Fin 2) (e : Fin 2048) : col (seqR x) q e = seq (ar x) q e := funext fun l => seqR_at x q l e
theorem preR_at (q : Fin 2) (l : Fin 2048) (e : Fin 2048) :
    preR x w b (ix3 q l e) = pre 4 (seq (ar x) q e) (wr w · e) (br b e) l := by
  unfold pre
  pointwise [preR]
  rw [tap0_at, tap1_at, tap2_at, tap3_at, late3_at, late2_at, late1_at, seqR_at, col_seqR, Fin.sum_univ_four]
  show _ = before 3 _ _ * _ + before 2 _ _ * _ + before 1 _ _ * _ + before 0 _ _ * _ + _
  rw [before_zero, mul_comm (wr w 0 e), mul_comm (wr w 1 e), mul_comm (wr w 2 e), mul_comm (wr w 3 e)]
theorem sigR_at (q : Fin 2) (l : Fin 2048) (e : Fin 2048) :
    sigR x w b (ix3 q l e) = Conv.sig 4 (seq (ar x) q e) (wr w · e) (br b e) l := by
  pointwise [sigR]
  rw [preR_at]
  rfl
theorem dzR_at (q : Fin 2) (l : Fin 2048) (e : Fin 2048) :
    dzR x d w b (ix3 q l e) = dz 4 (seq (ar x) q e) (wr w · e) (br b e) (seq (ad d) q e) l := by
  unfold dz
  pointwise [dzR]
  rw [preR_at, sigR_at, seqD_at]
theorem outB_at (z : Fin 1) (e : Fin 2048) : outB x d w b (ix2 z e) = gradB 4 (ar x) (wr w) (br b) (ad d) z e := by
  unfold gradB outB
  rw [total_at]
  exact Finset.sum_congr rfl fun q _ => Finset.sum_congr rfl fun l _ => dzR_at _ _ _ _ q l e
theorem share0_at (z : Fin 1) (e : Fin 2048) :
    total (mulf (dzR x d w b) (late3 (seqR x))) (ix2 z e) = gradW 4 (ar x) (wr w) (br b) (ad d) 0 e := by
  rw [total_at]
  refine Finset.sum_congr rfl fun q _ => Finset.sum_congr rfl fun l _ => ?_
  show dzR x d w b (ix3 q l e) * _ = before 3 _ l * _
  rw [dzR_at, late3_at, col_seqR, mul_comm]
theorem scaled0_at (q : Fin 2) (e : Fin 2048) : col (mulf (tap0 w) (dzR x d w b)) q e
    = fun l => dz 4 (seq (ar x) q e) (wr w · e) (br b e) (seq (ad d) q e) l * wr w 0 e := by
  funext l
  show tap0 w (ix3 q l e) * dzR x d w b (ix3 q l e) = _
  rw [tap0_at, dzR_at, mul_comm]
theorem share1_at (z : Fin 1) (e : Fin 2048) :
    total (mulf (dzR x d w b) (late2 (seqR x))) (ix2 z e) = gradW 4 (ar x) (wr w) (br b) (ad d) 1 e := by
  rw [total_at]
  refine Finset.sum_congr rfl fun q _ => Finset.sum_congr rfl fun l _ => ?_
  show dzR x d w b (ix3 q l e) * _ = before 2 _ l * _
  rw [dzR_at, late2_at, col_seqR, mul_comm]
theorem scaled1_at (q : Fin 2) (e : Fin 2048) : col (mulf (tap1 w) (dzR x d w b)) q e
    = fun l => dz 4 (seq (ar x) q e) (wr w · e) (br b e) (seq (ad d) q e) l * wr w 1 e := by
  funext l
  show tap1 w (ix3 q l e) * dzR x d w b (ix3 q l e) = _
  rw [tap1_at, dzR_at, mul_comm]
theorem share2_at (z : Fin 1) (e : Fin 2048) :
    total (mulf (dzR x d w b) (late1 (seqR x))) (ix2 z e) = gradW 4 (ar x) (wr w) (br b) (ad d) 2 e := by
  rw [total_at]
  refine Finset.sum_congr rfl fun q _ => Finset.sum_congr rfl fun l _ => ?_
  show dzR x d w b (ix3 q l e) * _ = before 1 _ l * _
  rw [dzR_at, late1_at, col_seqR, mul_comm]
theorem scaled2_at (q : Fin 2) (e : Fin 2048) : col (mulf (tap2 w) (dzR x d w b)) q e
    = fun l => dz 4 (seq (ar x) q e) (wr w · e) (br b e) (seq (ad d) q e) l * wr w 2 e := by
  funext l
  show tap2 w (ix3 q l e) * dzR x d w b (ix3 q l e) = _
  rw [tap2_at, dzR_at, mul_comm]
theorem share3_at (z : Fin 1) (e : Fin 2048) :
    total (mulf (dzR x d w b) (seqR x)) (ix2 z e) = gradW 4 (ar x) (wr w) (br b) (ad d) 3 e := by
  rw [total_at]
  refine Finset.sum_congr rfl fun q _ => Finset.sum_congr rfl fun l _ => ?_
  show dzR x d w b (ix3 q l e) * _ = before 0 _ l * _
  rw [before_zero, dzR_at, seqR_at, mul_comm]
theorem scaled3_at (q : Fin 2) (e : Fin 2048) : col (mulf (tap3 w) (dzR x d w b)) q e
    = fun l => dz 4 (seq (ar x) q e) (wr w · e) (br b e) (seq (ad d) q e) l * wr w 3 e := by
  funext l
  show tap3 w (ix3 q l e) * dzR x d w b (ix3 q l e) = _
  rw [tap3_at, dzR_at, mul_comm]
theorem outW_at (j : Fin 4) (e : Fin 2048) : outW x d w b (ix2 j e) = gradW 4 (ar x) (wr w) (br b) (ad d) j e := by
  pointwise [outW]
  simp only [share0_at, share1_at, share2_at, share3_at]
  exact pads4 (fun j => gradW 4 (ar x) (wr w) (br b) (ad d) j e) j
theorem outX_at (r : Fin 4096) (e : Fin 2048) : outX x d w b (ix2 r e) = gradX 4 (ar x) (wr w) (br b) (ad d) r e := by
  unfold gradX rows dx
  pointwise [outX]
  rw [early3_at, scaled0_at, early2_at, scaled1_at, early1_at, scaled2_at, tap3_at, dzR_at, Fin.sum_univ_four]
  show _ = after 3 _ _ + after 2 _ _ + after 1 _ _ + after 0 _ _
  rw [after_zero, mul_comm (wr w 3 e)]
  abel

end Cert.ConvBwdRefIdeal.Cols

namespace Cert.ConvBwd.Claims

/-- The reference's frame: its generated run, read at the arguments. -/
theorem frame_ref : Cert.quiescent_ConvBwdRefIdeal := fun m ρ _ =>
  (θ_run Cert.ConvBwdRefIdeal.defs _ _).mono (fun _ h => ⟨fun c => (h c).2.2.2, Idealize.ShloMosaic.sem_eq_zero_of_no_sems (by decide) _⟩)
    (Cert.ConvBwdRefIdeal.Value.run m ρ)

/-- The kernel's three results are the reference's over the extended reals. -/
theorem value : Cert.algebraic_ConvBwdIdeal_ConvBwdRefIdeal := fun m ρ m' ρ' _ hag =>
  ⟨fun c => (Cert.ConvBwdIdeal.Gen.dats m 0 c).arrAt 4 Cert.ConvBwdIdeal.cfg0.N,
    fun c => (Cert.ConvBwdIdeal.Gen.dats m 0 c).arrAt 5 Cert.ConvBwdIdeal.cfg0.N,
    fun c => (Cert.ConvBwdIdeal.Gen.dats m 0 c).arrAt 6 Cert.ConvBwdIdeal.cfg0.N,
    Cert.ConvBwdIdeal.Value.run_blocks m ρ,
    (θ_run _ _ _).mono (fun _ h c => by
      obtain ⟨h0, h1, h2, hr⟩ := h c
      obtain ⟨a0, a1, a2, a3⟩ := hag c
      refine ⟨h0.trans ?_, h1.trans ?_, h2.trans ?_, hr⟩
      · unfold Cert.ConvBwdRefIdeal.Value.res_main_v98
        rw [a0, a1, a2, a3]
        exact (ext2 (Cert.ConvBwdRefIdeal.Cols.outX_at _ _ _ _)).trans (Cert.ConvBwdIdeal.Cols.arr4 m c).symm
      · unfold Cert.ConvBwdRefIdeal.Value.res_main_v96
        rw [a0, a1, a2, a3]
        exact (ext2 (Cert.ConvBwdRefIdeal.Cols.outW_at _ _ _ _)).trans (Cert.ConvBwdIdeal.Cols.arr5 m c).symm
      · unfold Cert.ConvBwdRefIdeal.Value.res_main_v49
        rw [a0, a1, a2, a3]
        exact (ext2 (Cert.ConvBwdRefIdeal.Cols.outB_at _ _ _ _)).trans (Cert.ConvBwdIdeal.Cols.arr6 m c).symm)
      (Cert.ConvBwdRefIdeal.Value.run m' ρ')⟩

end Cert.ConvBwd.Claims

end
end
-- ==== Proof.Attn.Fwd.lean ====
/-
  Softmax attention over a short memory, four heads of 256 columns: a block of 512 tokens of one sequence at a point.
-/
module

public import proofs.«01_k».proof.Proof.Kit
public import proofs.«01_k».proof.Proof.Gen.AttnFwd.Frame
public import proofs.«01_k».proof.Proof.Gen.AttnFwdIdeal.Value
public import proofs.«01_k».proof.Proof.Gen.AttnFwdRefIdeal.Run
public import proofs.«01_k».proof.Proof.Attn.Blocks
public import proofs.«01_k».proof.Proof.Attn.Ref

@[expose] public section

set_option maxRecDepth 16384

noncomputable section

open Idealize.ShloMosaic Idealize.ShloMosaic.TcCoe Idealize.SL.Sem Cert.Common

namespace Cert.Attn

/-- The result of one head at one row: the weighted sum of the memory rows of `v`, at coordinate `d`. -/
def mix (q : Fin 256 → EReal) (K V : Fin 256 → Fin 256 → EReal) (d : Fin 256) : EReal := ∑ j, pr q K j * V j d

/-- The result as an array. -/
def arrO (A0 : Fin 4096 → Fin 1024 → EReal) (A1 A2 : Fin 512 → Fin 1024 → EReal) (r : Fin 4096) (e : Fin 1024) : EReal :=
  mix (trow A0 ⟨r.val / 2048, by omega⟩ (hd e) ⟨r.val % 2048, by omega⟩) (mem A1 ⟨r.val / 2048, by omega⟩ (hd e))
    (mem A2 ⟨r.val / 2048, by omega⟩ (hd e)) (hc e)

theorem arrO_at (A0 : Fin 4096 → Fin 1024 → EReal) (A1 A2 : Fin 512 → Fin 1024 → EReal) (b : Fin 2) (h : Fin 4)
    (l : Fin 2048) (d : Fin 256) : arrO A0 A1 A2 (tok b l) (hcol h d) = mix (trow A0 b h l) (mem A1 b h) (mem A2 b h) d := by
  have e1 : (⟨(tok b l).val / 2048, by omega⟩ : Fin 2) = b := Fin.ext (by show (2048 * b.val + l.val) / 2048 = b.val; omega)
  have e2 : (⟨(tok b l).val % 2048, by omega⟩ : Fin 2048) = l := Fin.ext (by show (2048 * b.val + l.val) % 2048 = l.val; omega)
  have e3 : hd (hcol h d) = h := Fin.ext (by show (256 * h.val + d.val) / 256 = h.val; omega)
  have e4 : hc (hcol h d) = d := Fin.ext (by show (256 * h.val + d.val) % 256 = d.val; omega)
  unfold arrO
  rw [e1, e2, e3, e4]

end Cert.Attn

namespace Cert.AttnFwdIdeal.Fwd

open Cert.AttnFwdIdeal Cert.AttnFwdIdeal.Gen Cert.Attn
open Cert.AttnBwdIdeal.Attn (row mat rowOf matOf row_ld mat_ld)

variable (m : (ℓ : Loc nD τ sig) → Buf (Elt Ideal) ℓ)

theorem idx0 : ∀ t : Fin grid0.N, win0_0.index t = ![t.val, 0] := by decide +kernel
theorem idx1 : ∀ t : Fin grid0.N, win0_1.index t = ![t.val / 4, 0] := by decide +kernel
theorem idx2 : ∀ t : Fin grid0.N, win0_2.index t = ![t.val / 4, 0] := by decide +kernel
theorem idx3 : ∀ t : Fin grid0.N, win0_3.index t = ![t.val, 0] := by decide +kernel

section
variable (q : Vec Ideal S512x256 .bf16) (k v : Vec Ideal S256x256 .bf16)

/-- The weights of a block's rows. -/
def wts : FVec Ideal S512x256 .f32 :=
  divf (Cert.AttnBwdIdeal.Gen.k0_pay9 q k) (broadcastTo S512x256 (Cert.AttnBwdIdeal.Gen.k0_pay10 q k) broadcasts_S512x1_S512x256)

theorem wts_at (r : Fin 512) (j : Fin 256) : wts q k (ix2 r j) = pr (row q r) (mat k) j := by
  pointwise [wts]
  rw [Cert.AttnBwdIdeal.Attn.pay9_at, Cert.AttnBwdIdeal.Attn.pay10_at]
  rfl

/-- One head's result at a grid point, in the gradient's first stages. -/
def head : FVec Ideal S512x256 .bf16 :=
  truncf .bf16 (matmul (φ₂ := .bf16) dot_S512x256_S256x256_S512x256_1_0_0_1_n_n none (truncf .bf16 (wts q k) bitsLt_bf16_f32) v (constant S512x256 .f32 0x00000000#32)) bitsLt_bf16_f32

theorem head_at (r : Fin 512) (d : Fin 256) : head q k v (ix2 r d) = mix (row q r) (mat k) (mat v) d := by
  pointwise [head]
  simp only [wts_at]
  rfl

theorem head0 : k0_pay2 q k v = head q k v := by with_unfolding_all rfl
theorem head1 : k0_pay4 v (k0_pay3 q k) = head q k v := by with_unfolding_all rfl
theorem head2 : k0_pay5 q k v = head q k v := by with_unfolding_all rfl
theorem head3 : k0_pay1 q k v (constant S512x256 .f32 0x00000000#32) = head q k v := by with_unfolding_all rfl

end

/-- What a point's block holds, at row `r` and column `d` of head `h`, from the point's input blocks. -/
def O (x0 : Vec Ideal S512x1024 .bf16) (x1 x2 : Vec Ideal S256x1024 .bf16) (h : Fin 4) (r : Fin 512) (d : Fin 256) : EReal :=
  mix (rowOf x0 h r) (matOf x1 h) (matOf x2 h) d

/-- Head `H`'s tile of the block, at the tile index `x` of row `r` and column `d` of head `h`. -/
theorem tile (x0 : Vec Ideal S512x1024 .bf16) (x1 x2 : Vec Ideal S256x1024 .bf16)
    (H h : Fin 4) (r : Fin 512) (d : Fin 256) (off : Fin 2 → ℕ) (hoff : off = ![0, 256 * H.val])
    (inb : ∀ a, off a + S512x256.size a ≤ S512x1024.size a) (inb' : ∀ a, off a + S256x256.size a ≤ S256x1024.size a)
    (x : S512x256.Idx) (hx0 : r.val = (x 0).val) (hx1 : 256 * h.val + d.val = 256 * H.val + (x 1).val) :
    head (View.ld x0 (Rect.unit (s := S512x1024) off S512x256.size inb))
      (View.ld x1 (Rect.unit (s := S256x1024) off S256x256.size inb'))
      (View.ld x2 (Rect.unit (s := S256x1024) off S256x256.size inb')) x = O x0 x1 x2 h r d := by
  obtain ⟨a, e, rfl⟩ : ∃ (a : Fin 512) (e : Fin 256), x = ix2 a e := ⟨x 0, x 1, eq_ix2 x⟩
  have e1 : 256 * h.val + d.val = 256 * H.val + e.val := hx1
  obtain rfl : r = a := Fin.ext hx0
  obtain rfl : h = H := Fin.ext (by omega)
  obtain rfl : d = e := Fin.ext (by omega)
  rw [head_at]
  exact congrFun (congrArg₂ (fun f g => g f) (row_ld x0 h off hoff inb r)
    (congrArg₂ (fun K V q => mix q K V) (mat_ld x1 h off hoff inb') (mat_ld x2 h off hoff inb'))) d

/-- The block after a point. -/
theorem out_at (x0 : Vec Ideal S512x1024 .bf16) (x1 x2 : Vec Ideal S256x1024 .bf16) (h : Fin 4) (r : Fin 512) (d : Fin 256) :
    out0_3 x0 x1 x2 (ix2 r (hcol h d)) = O x0 x1 x2 h r d := by
  unfold out0_3
  rw [head0, head1, head2, head3]
  canon_tiles x hx
  · exact tile _ _ _ 3 h r d ![0, 768] rfl _ _ x hx0 hx1
  · exact tile _ _ _ 2 h r d ![0, 512] rfl _ _ x hx0 hx1
  · exact tile _ _ _ 1 h r d ![0, 256] rfl _ _ x hx0 hx1
  · exact tile _ _ _ 0 h r d ![0, 0] rfl _ _ x hx0 (hx1.trans (Nat.zero_add _).symm)

/-- `q`, `k` and `v` as launched, by row and column. -/
abbrev a0 (c : Dev nD) (r : Fin 4096) (e : Fin 1024) : EReal := m ((c : Thread nD τ).loc main_arg0) (ix2 r e)
abbrev a1 (c : Dev nD) (r : Fin 512) (e : Fin 1024) : EReal := m ((c : Thread nD τ).loc main_arg1) (ix2 r e)
abbrev a2 (c : Dev nD) (r : Fin 512) (e : Fin 1024) : EReal := m ((c : Thread nD τ).loc main_arg2) (ix2 r e)

/-- Point `t`'s sequence. -/
abbrev seq (t : Fin cfg0.N) : Fin 2 := ⟨t.val / 4, by have : t.val < 8 := lt_of_lt_of_eq t.isLt Gen.N_0; omega⟩
/-- Row `r` of point `t`'s block as a token of its sequence. -/
abbrev lane (t : Fin cfg0.N) (r : Fin 512) : Fin 2048 := ⟨t.val % 4 * 512 + r.val, by omega⟩

theorem blk_q (c : Dev nD) (t : Fin cfg0.N) (h : Fin 4) (r : Fin 512) :
    rowOf (iblk m c 0 t) h r = trow (a0 m c) (seq t) h (lane t r) := by
  funext d
  unfold rowOf trow a0
  blk_ext [iblk, V, idx0 t]
theorem blk_k (c : Dev nD) (t : Fin cfg0.N) (h : Fin 4) : matOf (iblk m c 1 t) h = mem (a1 m c) (seq t) h := by
  funext j d
  unfold matOf mem a1
  blk_ext [iblk, V, idx1 t]
theorem blk_v (c : Dev nD) (t : Fin cfg0.N) (h : Fin 4) : matOf (iblk m c 2 t) h = mem (a2 m c) (seq t) h := by
  funext j d
  unfold matOf mem a2
  blk_ext [iblk, V, idx2 t]

/-- The result after the run. -/
theorem arr3 (c : Dev nD) : (dats m 0 c).arrAt 3 cfg0.N = fun i => arrO (a0 m c) (a1 m c) (a2 m c) (i 0) (i 1) := by
  refine (dats m 0 c).arrAt_eq_of_covers 3 _ (by decide +kernel) fun t hf y => ?_
  blk_simp
  rw [after0_3]
  obtain ⟨r, h, d, rfl⟩ : ∃ (r : Fin 512) (h : Fin 4) (d : Fin 256), y = ix2 r (hcol h d) :=
    ⟨y 0, hd (y 1), hc (y 1), (eq_ix2 y).trans (congrArg (ix2 (y 0)) (Fin.ext (Nat.div_add_mod _ _).symm))⟩
  have hy : ((cfg0.win 3).blk t).view.emb (ix2 r (hcol h d)) = (ix2 (tok (seq t) (lane t r)) (hcol h d) : S4096x1024.Idx) := by
    blk_ext [idx3 t]
  refine Eq.trans ?_ (congrArg (fun i : S4096x1024.Idx => arrO (a0 m c) (a1 m c) (a2 m c) (i 0) (i 1)) hy).symm
  refine (out_at _ _ _ h r d).trans (Eq.trans ?_ (arrO_at _ _ _ (seq t) h (lane t r) d).symm)
  unfold O
  rw [blk_q, blk_k, blk_v]

end Cert.AttnFwdIdeal.Fwd

namespace Cert.AttnFwdRefIdeal.Fwd

open Cert.AttnFwdRefIdeal Cert.AttnFwdRefIdeal.Gen Cert.Attn Cert.AttnBwdRefIdeal.Attn

variable (x0 : FVec Ideal S4096x1024 .bf16) (x1 x2 : FVec Ideal S512x1024 .bf16)

/-- The result: the weights are those the reference's gradient computes first. -/
def out : FVec Ideal S4096x1024 .bf16 :=
  truncf .bf16 (shapeCast _ (transpose S2x2048x4x256 [0, 3, 1, 2] (Host.dotGeneral dot_S2x256x4x256_S2x4x2048x256_S2x4x256x2048_1_3_3_2_02_01 none (mem4 x2) (weights x0 x1)) transposes_S2x4x256x2048_S2x2048x4x256_0_3_1_2) shapeCasts_S2x2048x4x256_S4096x1024) bitsLt_bf16_f32

theorem out_at (r : Fin 4096) (e : Fin 1024) : out x0 x1 x2 (ix2 r e) = arrO (ar x0) (am x1) (am x2) r e := by
  pointwise [out]
  simp only [mem4_at, weights_at]
  exact Finset.sum_congr rfl fun l _ => mul_comm _ _

end Cert.AttnFwdRefIdeal.Fwd

namespace Cert.AttnFwd.Claims

/-- The reference's frame: its generated run, read at the arguments. -/
theorem frame_ref : Cert.quiescent_AttnFwdRefIdeal := fun m ρ _ =>
  (θ_run Cert.AttnFwdRefIdeal.defs _ _).mono (fun _ h => ⟨fun c => (h c).2, Idealize.ShloMosaic.sem_eq_zero_of_no_sems (by decide) _⟩)
    (Cert.AttnFwdRefIdeal.Value.run m ρ)

/-- The kernel's result is the reference's over the extended reals. -/
theorem value : Cert.algebraic_AttnFwdIdeal_AttnFwdRefIdeal := fun m ρ m' ρ' _ hag =>
  ⟨fun c => (Cert.AttnFwdIdeal.Gen.dats m 0 c).arrAt 3 Cert.AttnFwdIdeal.cfg0.N,
    Cert.AttnFwdIdeal.Value.run_blocks m ρ,
    (θ_run _ _ _).mono (fun _ h c => by
      obtain ⟨h0, hr⟩ := h c
      obtain ⟨a0, a1, a2⟩ := hag c
      refine ⟨h0.trans ?_, hr⟩
      rw [a0, a1, a2]
      exact (ext2 (Cert.AttnFwdRefIdeal.Fwd.out_at _ _ _)).trans (Cert.AttnFwdIdeal.Fwd.arr3 m c).symm)
      (Cert.AttnFwdRefIdeal.Value.run m' ρ')⟩

end Cert.AttnFwd.Claims

end
end
-- ==== Proof.Gla.Body.lean ====
/-
The HGRN2 scan's body, run once over any values: at a sequence's first chunk and at any other.
-/
module

public import proofs.«01_k».proof.Proof.Gen.GlaFwdIdeal.Skeleton
public import proofs.«01_k».proof.Proof.Gen.GlaFwdIdeal.Frame

@[expose] public section

set_option maxRecDepth 16384

noncomputable section

namespace Cert.GlaFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The grid's last axis has one point, so the scratch is read and stored whole. -/
theorem off1_zero (i : grid0.Coords) : k0_off1 i = ![0, 0, 0] := by
  rw [k0_off1_eq]; exact congrArg (fun z : ℕ => (![z, 0, 0] : Fin 3 → ℕ)) (Nat.lt_one_iff.mp (i 2).isLt)
theorem off2_zero (i : grid0.Coords) : k0_off2 i = ![0, 0, 0] := by
  rw [k0_off2_eq]; exact congrArg (fun z : ℕ => (![z, 0, 0] : Fin 3 → ℕ)) (Nat.lt_one_iff.mp (i 2).isLt)

theorem whole_inb : ∀ a, (![0, 0, 0] : Fin 3 → ℕ) a + S1x1024x128.size a ≤ S1x1024x128.size a := by decide

theorem store_whole (o : Fin 3 → ℕ) (ho : o = ![0, 0, 0]) (h : ∀ a, o a + S1x1024x128.size a ≤ S1x1024x128.size a)
    (b : Memref sig .tc .vmem S1x1024x128 .f32) (x : FVec F S1x1024x128 .f32) :
    (Prog.lift (.store b (Rect.unit (s := S1x1024x128) o S1x1024x128.size h) x Finset.univ
        (View.stores_vmem_bits_univ h_S1x1024x128 rfl) (.inl rfl)) : Prog (TpuEff nD τ sig (Elt F) Λ₀ .tc) _)
      = Prog.lift (.store b (Rect.unit (s := S1x1024x128) ![0, 0, 0] S1x1024x128.size whole_inb) x Finset.univ
        (View.stores_vmem_bits_univ h_S1x1024x128 rfl) (.inl rfl)) := by
  subst ho; rfl

theorem load_whole (o : Fin 3 → ℕ) (ho : o = ![0, 0, 0]) (h : ∀ a, o a + S1x1024x128.size a ≤ S1x1024x128.size a)
    (b : Memref sig .tc .vmem S1x1024x128 .f32) :
    (Prog.lift (.load b (Rect.unit (s := S1x1024x128) o S1x1024x128.size h).toLoadRect
        (View.loadsAt_vmem h_S1x1024x128)) : Prog (TpuEff nD τ sig (Elt F) Λ₀ .tc) (Vec F S1x1024x128 .f32))
      = Prog.lift (.load b (Rect.unit (s := S1x1024x128) ![0, 0, 0] S1x1024x128.size whole_inb).toLoadRect
        (View.loadsAt_vmem h_S1x1024x128)) := by
  subst ho; rfl

/-! ## The body's one condition, and where the carried scratch is read and stored -/

/-- The condition of the one branch of the body: the chunk is a sequence's first. -/
abbrev cond0_0 (i : grid0.Coords) : Prop := (Scalar.cmpi .ne (Scalar.extui (Scalar.cmpi .eq (BitVec.ofNat 32 (i 1).val) 0#32)) 0#32) = 1#1
/-- It holds at the first of each sequence's 64 chunks. -/
theorem hcond0_0 : ∀ t : Fin cfg0.N, cond0_0 (grid0.coords t) ↔ t.val % 64 = 0 :=
  (fun t => by
    have ht : t.val < 128 := Nat.lt_of_lt_of_eq t.isLt N_0
    have e0 : (grid0.coords t 0).val = t.val / 64 % 2 := Pipeline.Grid.coords_val t 0 (by decide) rfl
    have e1 : (grid0.coords t 1).val = t.val / 1 % 64 := Pipeline.Grid.coords_val t 1 (by decide) rfl
    have e2 : (grid0.coords t 2).val = t.val / 1 % 1 := Pipeline.Grid.coords_val t 2 (by decide) rfl
    simp only [cond0_0, e0, e1, e2]
    word_cmp
   : ∀ t : Fin grid0.N, cond0_0 (grid0.coords t) ↔ t.val % 64 = 0)

/-! ## The buffers the body runs on -/

/-- One staging buffer of output 6: what the body leaves there is stated through it. -/
abbrev VO0_6 : View sig .tc .vmem S32x1024 .bf16 := (Memref.whole cc0_stg6_0 : Memref sig .tc .vmem S32x1024 .bf16).view
/-- One staging buffer of output 7: what the body leaves there is stated through it. -/
abbrev VO0_7 : View sig .tc .vmem S1024x128 .f32 := (Memref.whole cc0_stg7_0 : Memref sig .tc .vmem S1024x128 .f32).view
/-- The buffers the body is handed at a point, each whole. -/
abbrev ms0_0 (t : Fin cfg0.N) : Memref sig .tc .vmem S32x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .f32 := win0_7.stage (cfg0.slots t 7)
abbrev hs0_7 (t : Fin cfg0.N) : (ms0_7 t).IsWhole := hstage0_7 ((cfg0.slots t 7).cast nbuf0_7)
/-- The scratch that carries the states from chunk to chunk. -/
abbrev scM0_0 : Memref sig .tc .vmem S1x1024x128 .f32 := Memref.whole cc0_scratch0
/-- The same as a view. -/
abbrev VS0_0 : View sig .tc .vmem S1x1024x128 .f32 := scM0_0.view

/-- The invariant between points, with the scratch owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

section Body

variable (c : Dev nD) (i : grid0.Coords) (arg3 : Memref sig .tc .vmem S32x1024 .f32) (harg3 : arg3.IsWhole) (arg4 : Memref sig .tc .vmem S32x1024 .f32) (harg4 : arg4.IsWhole) (arg5 : Memref sig .tc .vmem S32x1024 .f32) (harg5 : arg5.IsWhole) (arg6 : Memref sig .tc .vmem S32x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S32x1024 .bf16) (harg9 : arg9.IsWhole) (arg10 : Memref sig .tc .vmem S1024x128 .f32) (harg10 : arg10.IsWhole) (arg11 : Memref sig .tc .vmem S1x1024x128 .f32) (harg11 : arg11.IsWhole)

set_option maxHeartbeats 1000000 in
/-- The body at a sequence's first chunk, run: what it leaves in each output and in the scratch, as the pieces it stores
    (last first), whatever the scratch held before. -/
noncomputable def kernelRun0_A (hc0 : cond0_0 i)
    (x0 : Vec F S32x1024 .f32) (x1 : Vec F S32x1024 .f32) (x2 : Vec F S32x1024 .f32) (x3 : Vec F S32x1024 .f32) (x4 : Vec F S1x1024 .f32) (x5 : Vec F S1x128 .f32) :
    Σ' (L6 : List (View.Piece (Elt F) S32x1024 .bf16)), Σ' (L7 : List (View.Piece (Elt F) S1024x128 .f32)), { LS0 : List (View.Piece (Elt F) S1x1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0)) -∗ K ⟨⟩))
          ⊢ wp frame (wpE (defs₀ (F := F)) Variants.none c none) E (cc0_scan i arg3 harg3 arg4 harg4 arg5 harg5 arg6 harg6 arg7 harg7 arg8 harg8 arg9 harg9 arg10 harg10 arg11 harg11) K } := by
  refine ⟨?_, ?_, ?_, fun E K => ?run⟩
  case run =>
    simp only [cc0_scan_eq_skeleton]; unfold cc0_scan_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold k0_part1_skel
    simp only [store_whole _ (off1_zero i), store_whole _ (off2_zero i), load_whole _ (off1_zero i), load_whole _ (off2_zero i)]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    iexists _; iexact HS0

set_option maxHeartbeats 1000000 in
/-- The body at any other chunk, run: the same, from a scratch that holds the state before the chunk. -/
noncomputable def kernelRun0_B (hc0 : ¬cond0_0 i)
    (x0 : Vec F S32x1024 .f32) (x1 : Vec F S32x1024 .f32) (x2 : Vec F S32x1024 .f32) (x3 : Vec F S32x1024 .f32) (x4 : Vec F S1x1024 .f32) (x5 : Vec F S1x128 .f32) (xs0 : Vec F S1x1024x128 .f32) :
    Σ' (L6 : List (View.Piece (Elt F) S32x1024 .bf16)), Σ' (L7 : List (View.Piece (Elt F) S1024x128 .f32)), { LS0 : List (View.Piece (Elt F) S1x1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0)) -∗ K ⟨⟩))
          ⊢ wp frame (wpE (defs₀ (F := F)) Variants.none c none) E (cc0_scan i arg3 harg3 arg4 harg4 arg5 harg5 arg6 harg6 arg7 harg7 arg8 harg8 arg9 harg9 arg10 harg10 arg11 harg11) K } := by
  refine ⟨?_, ?_, ?_, fun E K => ?run⟩
  case run =>
    simp only [cc0_scan_eq_skeleton]; unfold cc0_scan_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold k0_part1_skel
    simp only [store_whole _ (off1_zero i), store_whole _ (off2_zero i), load_whole _ (off1_zero i), load_whole _ (off2_zero i)]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg11.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    iexists _; iexact HS0

end Body

end Cert.GlaFwdIdeal.Gen

end
-- ==== Proof.Gla.Frame.lean ====
/-
The HGRN2 scan's frame, over any values: what each point leaves, carried from chunk to chunk.
-/
module

public import proofs.«01_k».proof.Proof.Gla.Body
public import proofs.«01_k».proof.Proof.Gen.GlaFwdIdeal.Points
public import Idealize.ShloMosaic.Lib.Claim

@[expose] public section

set_option maxRecDepth 16384

noncomputable section

namespace Cert.GlaFwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Covers

variable (c : Dev nD) (i : grid0.Coords) (arg3 : Memref sig .tc .vmem S32x1024 .f32) (harg3 : arg3.IsWhole) (arg4 : Memref sig .tc .vmem S32x1024 .f32) (harg4 : arg4.IsWhole) (arg5 : Memref sig .tc .vmem S32x1024 .f32) (harg5 : arg5.IsWhole) (arg6 : Memref sig .tc .vmem S32x1024 .f32) (harg6 : arg6.IsWhole) (arg7 : Memref sig .tc .vmem S1x1024 .f32) (harg7 : arg7.IsWhole) (arg8 : Memref sig .tc .vmem S1x128 .f32) (harg8 : arg8.IsWhole) (arg9 : Memref sig .tc .vmem S32x1024 .bf16) (harg9 : arg9.IsWhole) (arg10 : Memref sig .tc .vmem S1024x128 .f32) (harg10 : arg10.IsWhole) (arg11 : Memref sig .tc .vmem S1x1024x128 .f32) (harg11 : arg11.IsWhole)

section
variable (hc0 : cond0_0 i)
    (x0 : Vec F S32x1024 .f32) (x1 : Vec F S32x1024 .f32) (x2 : Vec F S32x1024 .f32) (x3 : Vec F S32x1024 .f32) (x4 : Vec F S1x1024 .f32) (x5 : Vec F S1x128 .f32)

/-- Case A's stores cover output 6. -/
theorem cover0_A_6 (y : S32x1024.Idx) :
    ∃ pc ∈ (kernelRun0_A c i arg3 harg3 arg4 harg4 arg5 harg5 arg6 harg6 arg7 harg7 arg8 harg8 arg9 harg9 arg10 harg10 arg11 harg11 hc0 x0 x1 x2 x3 x4 x5).1, y ∈ pc.1.set :=
  View.cover_of_tiledL (kernelRun0_A c i arg3 harg3 arg4 harg4 arg5 harg5 arg6 harg6 arg7 harg7 arg8 harg8 arg9 harg9 arg10 harg10 arg11 harg11 hc0 x0 x1 x2 x3 x4 x5).1 S32x1024.size (by sl_kernel_rfl) y

/-- What case A leaves in output 6. -/
def out0_A_6 : Vec F S32x1024 .bf16 :=
  VO0_6.read (Elt F) (VO0_6.writes (Elt F) VO0_6.junk (kernelRun0_A c i arg3 harg3 arg4 harg4 arg5 harg5 arg6 harg6 arg7 harg7 arg8 harg8 arg9 harg9 arg10 harg10 arg11 harg11 hc0 x0 x1 x2 x3 x4 x5).1)

/-- Case A's stores cover output 7. -/
theorem cover0_A_7 (y : S1024x128.Idx) :
    ∃ pc ∈ (kernelRun0_A c i arg3 harg3 arg4 harg4 arg5 harg5 arg6 harg6 arg7 harg7 arg8 harg8 arg9 harg9 arg10 harg10 arg11 harg11 hc0 x0 x1 x2 x3 x4 x5).2.1, y ∈ pc.1.set :=
  View.cover_of_tiledL (kernelRun0_A c i arg3 harg3 arg4 harg4 arg5 harg5 arg6 harg6 arg7 harg7 arg8 harg8 arg9 harg9 arg10 harg10 arg11 harg11 hc0 x0 x1 x2 x3 x4 x5).2.1 S1024x128.size (by sl_kernel_rfl) y

/-- What case A leaves in output 7. -/
def out0_A_7 : Vec F S1024x128 .f32 :=
  VO0_7.read (Elt F) (VO0_7.writes (Elt F) VO0_7.junk (kernelRun0_A c i arg3 harg3 arg4 harg4 arg5 harg5 arg6 harg6 arg7 harg7 arg8 harg8 arg9 harg9 arg10 harg10 arg11 harg11 hc0 x0 x1 x2 x3 x4 x5).2.1)

/-- Case A's stores cover the scratch. -/
theorem scover0_A_0 (y : S1x1024x128.Idx) :
    ∃ pc ∈ (kernelRun0_A c i arg3 harg3 arg4 harg4 arg5 harg5 arg6 harg6 arg7 harg7 arg8 harg8 arg9 harg9 arg10 harg10 arg11 harg11 hc0 x0 x1 x2 x3 x4 x5).2.2.1, y ∈ pc.1.set :=
  View.cover_of_tiledL (kernelRun0_A c i arg3 harg3 arg4 harg4 arg5 harg5 arg6 harg6 arg7 harg7 arg8 harg8 arg9 harg9 arg10 harg10 arg11 harg11 hc0 x0 x1 x2 x3 x4 x5).2.2.1 S1x1024x128.size (by sl_kernel_rfl) y

/-- What case A leaves in the scratch. -/
def sout0_A_0 : Vec F S1x1024x128 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 hc0 x0 x1 x2 x3 x4 x5).2.2.1)

end

section
variable (hc0 : ¬cond0_0 i)
    (x0 : Vec F S32x1024 .f32) (x1 : Vec F S32x1024 .f32) (x2 : Vec F S32x1024 .f32) (x3 : Vec F S32x1024 .f32) (x4 : Vec F S1x1024 .f32) (x5 : Vec F S1x128 .f32) (xs0 : Vec F S1x1024x128 .f32)

/-- Case B's stores cover output 6. -/
theorem cover0_B_6 (y : S32x1024.Idx) :
    ∃ pc ∈ (kernelRun0_B c i arg3 harg3 arg4 harg4 arg5 harg5 arg6 harg6 arg7 harg7 arg8 harg8 arg9 harg9 arg10 harg10 arg11 harg11 hc0 x0 x1 x2 x3 x4 x5 xs0).1, y ∈ pc.1.set :=
  View.cover_of_tiledL (kernelRun0_B c i arg3 harg3 arg4 harg4 arg5 harg5 arg6 harg6 arg7 harg7 arg8 harg8 arg9 harg9 arg10 harg10 arg11 harg11 hc0 x0 x1 x2 x3 x4 x5 xs0).1 S32x1024.size (by sl_kernel_rfl) y

/-- What case B leaves in output 6. -/
def out0_B_6 : Vec F S32x1024 .bf16 :=
  VO0_6.read (Elt F) (VO0_6.writes (Elt F) VO0_6.junk (kernelRun0_B c i arg3 harg3 arg4 harg4 arg5 harg5 arg6 harg6 arg7 harg7 arg8 harg8 arg9 harg9 arg10 harg10 arg11 harg11 hc0 x0 x1 x2 x3 x4 x5 xs0).1)

/-- Case B's stores cover output 7. -/
theorem cover0_B_7 (y : S1024x128.Idx) :
    ∃ pc ∈ (kernelRun0_B c i arg3 harg3 arg4 harg4 arg5 harg5 arg6 harg6 arg7 harg7 arg8 harg8 arg9 harg9 arg10 harg10 arg11 harg11 hc0 x0 x1 x2 x3 x4 x5 xs0).2.1, y ∈ pc.1.set :=
  View.cover_of_tiledL (kernelRun0_B c i arg3 harg3 arg4 harg4 arg5 harg5 arg6 harg6 arg7 harg7 arg8 harg8 arg9 harg9 arg10 harg10 arg11 harg11 hc0 x0 x1 x2 x3 x4 x5 xs0).2.1 S1024x128.size (by sl_kernel_rfl) y

/-- What case B leaves in output 7. -/
def out0_B_7 : Vec F S1024x128 .f32 :=
  VO0_7.read (Elt F) (VO0_7.writes (Elt F) VO0_7.junk (kernelRun0_B c i arg3 harg3 arg4 harg4 arg5 harg5 arg6 harg6 arg7 harg7 arg8 harg8 arg9 harg9 arg10 harg10 arg11 harg11 hc0 x0 x1 x2 x3 x4 x5 xs0).2.1)

/-- Case B's stores cover the scratch. -/
theorem scover0_B_0 (y : S1x1024x128.Idx) :
    ∃ pc ∈ (kernelRun0_B c i arg3 harg3 arg4 harg4 arg5 harg5 arg6 harg6 arg7 harg7 arg8 harg8 arg9 harg9 arg10 harg10 arg11 harg11 hc0 x0 x1 x2 x3 x4 x5 xs0).2.2.1, y ∈ pc.1.set :=
  View.cover_of_tiledL (kernelRun0_B c i arg3 harg3 arg4 harg4 arg5 harg5 arg6 harg6 arg7 harg7 arg8 harg8 arg9 harg9 arg10 harg10 arg11 harg11 hc0 x0 x1 x2 x3 x4 x5 xs0).2.2.1 S1x1024x128.size (by sl_kernel_rfl) y

/-- What case B leaves in the scratch. -/
def sout0_B_0 : Vec F S1x1024x128 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 hc0 x0 x1 x2 x3 x4 x5 xs0).2.2.1)

end

end Covers

variable (m : (ℓ : Loc nD τ sig) → Buf (Elt F) ℓ) (ρ : Dev nD → PrngReg)

/-! ## What the outputs hold after each point -/

/-- What the two outputs' buffers and the scratch hold after the body at position `n`: a sequence's first chunk
    starts from zeros, any other from the state the chunk before left. -/
def outsAt0 (c : Dev nD) : (n : ℕ) → n < cfg0.N → Vec F S32x1024 .bf16 × Vec F S1024x128 .f32 × Vec F S1x1024x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 64 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2)

/-- `outsAt0` at a sequence's first chunk. -/
theorem outsAt0_A (c : Dev nD) (t : Fin cfg0.N) (h0 : t.val % 64 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- `outsAt0` at any other chunk, from what the chunk before left. -/
theorem outsAt0_B (c : Dev nD) (t : Fin cfg0.N) (h0 : ¬t.val % 64 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The invariant before position `n`: at first the scratch holds anything, afterwards what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

/-- The proof data: each input's buffer keeps its block, the outputs' hold `outsAt0`, the scratch is carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q _ := fullShare
  owed _ := 0

/-- The arrays are as the region finds them. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 6400000 in
/-- The body at any point: the case the point is in runs on the blocks and the carried scratch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 128 := lt_of_lt_of_eq t.isLt (show cfg0.N = 128 from N_0)
  by_cases h0 : t.val % 64 = 0
  · by_cases hz : t.val = 0
    · rw [PhiS_castSucc m c t, PhiS_zero m c _ _ hz, PhiA0_eq]
      rw [outsAt0_A m c t h0]
      unfold out0_A_6 out0_A_7 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
    · rw [PhiS_castSucc m c t, PhiS_pos m c _ _ hz]
      rw [outsAt0_A m c t h0]
      unfold out0_A_6 out0_A_7 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexists _; iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
  · by_cases hz : t.val = 0
    · exfalso; have hN : t.val < 128 := lt_of_lt_of_eq t.isLt (show cfg0.N = 128 from N_0); omega
    · rw [PhiS_castSucc m c t, PhiS_pos m c _ _ hz]
      rw [outsAt0_B m c t h0]
      unfold out0_B_6 out0_B_7 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- The launch: the run's end, with every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run ends with every array of the pipeline at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame, over any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.GlaFwdIdeal.Gen

end
-- ==== Proof.Gla.Floats.lean ====
/-
The same frame for the program over the machine's floats: the program's text is the same.
-/
module

public import proofs.«01_k».proof.Proof.Gla.Frame
public import proofs.«01_k».proof.Proof.Gen.GlaFwd

@[expose] public section

set_option maxRecDepth 65536

noncomputable section

namespace Cert.GlaFwd

open Idealize.ShloMosaic Idealize.ShloMosaic.TcCoe Idealize.SL.Sem

variable {F : FTy → Type} [FloatOps F]
variable (m : (ℓ : Loc nD τ sig) → Buf (Elt F) ℓ) (ρ : Dev nD → PrngReg)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Eq.mp (by sl_kernel_rfl) (Cert.GlaFwdIdeal.Gen.frame (F := F) m ρ)

end Cert.GlaFwd

end
-- ==== Proof.Gla.Spec.lean ====
/-
  A gated recurrence with a matrix state over chunks of 32 tokens, for one head of 128 columns, over the extended reals:
  plain functions of a chunk's rows and the state before it. Both programs' results are stated through them.
-/
module

public import Idealize.ShloMosaic.Lib.Pointwise

@[expose] public section

noncomputable section

open Idealize.ShloMosaic

namespace Cert.Gla

/-- `128 ^ (-1/2)`, the factor of the queries. -/
abbrev scale : EReal := Ideal.ofBits .f32 0x3DB504F3#32
/-- The norm's 128 and its small term. -/
abbrev width : EReal := Ideal.ofBits .f32 0x43000000#32
abbrev eps : EReal := Ideal.ofBits .f32 0x358637BD#32
/-- Column `d` of head `h`. -/
abbrev hcol (h : Fin 8) (d : Fin 128) : Fin 1024 := ⟨128 * h.val + d.val, by omega⟩

section
variable (q f v : Fin 32 → Fin 128 → EReal) (lb : Fin 128 → EReal) (S : Fin 128 → Fin 128 → EReal)

/-- The forget gate. -/
def fg (l : Fin 32) (d : Fin 128) : EReal := lb d + (1 - lb d) * Ideal.logistic (f l d)
/-- The sum of the gate's logarithms up to row `l`. -/
def cum (l : Fin 32) (d : Fin 128) : EReal := ∑ s : Fin 32, if s ≤ l then Ideal.log (fg f lb s d) else 0
/-- The decayed queries. -/
def qd (l : Fin 32) (d : Fin 128) : EReal := q l d * Ideal.logistic (q l d) * scale * Ideal.exp (cum f lb l d)
/-- The keys with the decay undone. -/
def ki (l : Fin 32) (d : Fin 128) : EReal := (1 - fg f lb l d) * Ideal.exp (-(cum f lb l d))
/-- The keys decayed to the chunk's end. -/
def ke (l : Fin 32) (d : Fin 128) : EReal := (1 - fg f lb l d) * Ideal.exp (cum f lb 31 d - cum f lb l d)
/-- The chunk's scores. -/
def att (l s : Fin 32) : EReal := if s ≤ l then ∑ d, qd q f lb l d * ki f lb s d else 0
/-- What the chunk reads, of itself and of the state. -/
def o (l : Fin 32) (e : Fin 128) : EReal := ∑ s, att q f lb l s * v s e + ∑ d, qd q f lb l d * S d e
/-- The state after the chunk. -/
def nxt (d e : Fin 128) : EReal := S d e * Ideal.exp (cum f lb 31 d) + ∑ s, ke f lb s d * v s e

end

/-- The norm of a row, gated. -/
def fin (y w g : Fin 128 → EReal) (e : Fin 128) : EReal :=
  y e * Ideal.rsqrt (Ideal.div (∑ k, y k * y k) width + eps) * w e * (g e * Ideal.logistic (g e))

/-- Head `h` of the rows of chunk `t`. -/
def blk (A : Fin 4096 → Fin 1024 → EReal) (h : Fin 8) (t : ℕ) (l : Fin 32) (d : Fin 128) : EReal :=
  A ⟨(32 * t + l.val) % 4096, Nat.mod_lt _ (by decide)⟩ (hcol h d)

section
variable (Q Fg V G : Fin 4096 → Fin 1024 → EReal) (lb : Fin 1024 → EReal) (w : Fin 128 → EReal) (b : ℕ) (h : Fin 8)

/-- The state of head `h` of sequence `b` before its chunk `n`. -/
def st : ℕ → Fin 128 → Fin 128 → EReal
  | 0 => fun _ _ => 0
  | n + 1 => nxt (blk Fg h (64 * b + n)) (blk V h (64 * b + n)) (fun d => lb (hcol h d)) (st n)

/-- What chunk `n` of sequence `b` reads. -/
def rd (n : ℕ) : Fin 32 → Fin 128 → EReal :=
  o (blk Q h (64 * b + n)) (blk Fg h (64 * b + n)) (blk V h (64 * b + n)) (fun d => lb (hcol h d)) (st Fg V lb b h n)

/-- The result at row `l` of chunk `n` of sequence `b`. -/
def res (n : ℕ) (l : Fin 32) (e : Fin 128) : EReal := fin (rd Q Fg V lb b h n l) w (blk G h (64 * b + n) l) e

end

end Cert.Gla

end
end
-- ==== Proof.Gla.Head.lean ====
/-
  One chunk of the kernel, head by head: every head's result and new state is the same function of the head's columns,
  read at an index as the functions of Spec.lean.
-/
module

public import proofs.«01_k».proof.Proof.Gla.Frame
public import proofs.«01_k».proof.Proof.Gla.Spec
public import Idealize.ShloMosaic.Lib.Pipeline.ValueKit
public import Idealize.ShloMosaic.Lib.Pipeline.ReadBack
public import Idealize.ShloMosaic.Lib.Pointwise

@[expose] public section

set_option maxRecDepth 65536

noncomputable section

namespace Cert.GlaFwdIdeal.Fwd

open Idealize.ShloMosaic Idealize.ShloMosaic.TcCoe Idealize.SL.Sem Cert.GlaFwdIdeal.Gen Cert.Gla

/-- Row `k` of head `h` of the state. -/
abbrev srow (h : Fin 8) (k : Fin 128) : Fin 1024 := ⟨128 * h.val + k.val, by omega⟩

theorem cut_tok : ∀ h : Fin 8, S32x1024.Slices ![0, 128 * h.val] S32x128 := by decide
theorem cut_row : ∀ h : Fin 8, S1x1024.Slices ![0, 128 * h.val] S1x128 := by decide
theorem cut_state : ∀ h : Fin 8, S1024x128.Slices ![128 * h.val, 0] S128x128 := by decide

section
variable {F : FTy → Type} [FloatOps F]

/-- Head `h`'s columns of a chunk. -/
def hd (x : FVec F S32x1024 .f32) (h : Fin 8) : FVec F S32x128 .f32 := extractStridedSlice S32x128 ![0, 128 * h.val] x (cut_tok h)
/-- Head `h`'s part of the state. -/
def sth (x : FVec F S1024x128 .f32) (h : Fin 8) : FVec F S128x128 .f32 := extractStridedSlice S128x128 ![128 * h.val, 0] x (cut_state h)

variable (qd ki ke v g : FVec F S32x1024 .f32) (eg : FVec F S1x1024 .f32) (w : FVec F S1x128 .f32) (s : FVec F S1024x128 .f32)
variable (h : Fin 8)

/-- The scores of a head. -/
def attH : FVec F S32x32 .f32 :=
  select k0_pay5 (matmul dot_S32x128_S32x128_S32x32_1_1_0_0_n_n none (truncf .bf16 (hd qd h) bitsLt_bf16_f32) (truncf .bf16 (hd ki h) bitsLt_bf16_f32) (constant S32x32 .f32 0x00000000#32)) (broadcast S32x32 (Scalar.ofBits .f32 0x00000000#32))
/-- What a head reads of its chunk. -/
def o1H : FVec F S32x128 .f32 :=
  matmul dot_S32x32_S32x128_S32x128_1_0_0_1_n_n none (truncf .bf16 (attH qd ki h) bitsLt_bf16_f32) (truncf .bf16 (hd v h) bitsLt_bf16_f32) (constant S32x128 .f32 0x00000000#32)
/-- What a head reads of its state. -/
def o2H : FVec F S32x128 .f32 :=
  matmul dot_S32x128_S128x128_S32x128_1_0_0_1_n_n none (truncf .bf16 (hd qd h) bitsLt_bf16_f32) (truncf .bf16 (sth s h) bitsLt_bf16_f32) (constant S32x128 .f32 0x00000000#32)
/-- A head's result. -/
def outH : FVec F S32x128 .f32 :=
  mulf (mulf (k0_pay66 (o1H qd ki v h) (o2H qd s h)) (k0_pay67 w)) (mulf (hd g h) (logistic (hd g h)))
/-- A head's new state. -/
def newH : FVec F S128x128 .f32 :=
  addf (mulf (sth s h) (broadcastTo S128x128 (extractStridedSlice S128x1 ![0, 0] (transpose S128x8 [1, 0] (broadcastTo S8x128 (shapeCast S1x128 (extractStridedSlice S1x128 ![0, 128 * h.val] eg (cut_row h)) shapeCasts_S1x128_S1x128) broadcasts_S1x128_S8x128) transposes_S8x128_p1_0_S128x8) slices_S128x8_o0_0_S128x1) broadcasts_S128x1_S128x128))
    (matmul dot_S32x128_S32x128_S128x128_0_0_1_1_n_n none (truncf .bf16 (hd ke h) bitsLt_bf16_f32) (truncf .bf16 (hd v h) bitsLt_bf16_f32) (constant S128x128 .f32 0x00000000#32))

/-- Eight heads' results side by side. -/
def joinO (p : Fin 8 → FVec F S32x128 .f32) : FVec F S32x1024 .bf16 :=
  truncf .bf16 (concatenate S32x1024 1 [⟨S32x128, p 0⟩, ⟨S32x128, p 1⟩, ⟨S32x128, p 2⟩, ⟨S32x128, p 3⟩, ⟨S32x128, p 4⟩, ⟨S32x128, p 5⟩, ⟨S32x128, p 6⟩, ⟨S32x128, p 7⟩] concatenates_S32x128_S32x128_S32x128_S32x128_S32x128_S32x128_S32x128_S32x128_S32x1024_d1) bitsLt_bf16_f32
/-- Eight heads' states one above the other. -/
def joinS (p : Fin 8 → FVec F S128x128 .f32) : FVec F S1x1024x128 .f32 :=
  k0_pay1 (p 0) (p 1) (p 2) (p 3) (p 4) (p 5) (p 6) (p 7)

end

section
variable {F : FTy → Type} [FloatOps F]
variable (x0 x1 x2 x3 : Vec F S32x1024 .f32) (x4 : Vec F S1x1024 .f32) (x5 : Vec F S1x128 .f32) (s : Vec F S1x1024x128 .f32)

/-- The decayed queries of a chunk, its keys undecayed and decayed to the end, and the decay over the whole of it. -/
abbrev QD : FVec F S32x1024 .f32 := k0_pay11 (k0_pay7 x0) (k0_pay9 x1 x4)
abbrev KI : FVec F S32x1024 .f32 := k0_pay12 (k0_pay8 x1 x4) (k0_pay9 x1 x4)
abbrev KE : FVec F S32x1024 .f32 := k0_pay13 (k0_pay8 x1 x4) (k0_pay9 x1 x4)
abbrev EG : FVec F S1x1024 .f32 := k0_pay14 (k0_pay9 x1 x4)

/-- What a point writes. -/
def OUT : Vec F S32x1024 .bf16 := joinO fun h => outH (QD x0 x1 x4) (KI x1 x4) x2 x3 x5 (k0_pay4 s) h
/-- The state it leaves. -/
def NEW : Vec F S1x1024x128 .f32 := joinS fun h => newH (KE x1 x4) x2 (EG x1 x4) (k0_pay4 s) h

variable (c : Dev nD) (t : Fin cfg0.N)

theorem new_B (h0) : sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h0 x0 x1 x2 x3 x4 x5 s = NEW x1 x2 x4 s := by
  unfold sout0_B_0
  frame_open
  frame_out
  have e : View.read (Elt F) (View.whole cc0_scratch0) ((Memref.isWhole_whole cc0_scratch0).unread s) = s :=
    (Memref.isWhole_whole cc0_scratch0).read_unread _
  rw [e]
  with_unfolding_all rfl

theorem out_B (h0) : out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h0 x0 x1 x2 x3 x4 x5 s = OUT x0 x1 x2 x3 x4 x5 s := by
  unfold out0_B_6
  frame_open
  frame_out
  have e : View.read (Elt F) (View.whole cc0_scratch0) ((Memref.isWhole_whole cc0_scratch0).unread s) = s :=
    (Memref.isWhole_whole cc0_scratch0).read_unread _
  rw [e]
  with_unfolding_all rfl

theorem new_A (h0) : sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h0 x0 x1 x2 x3 x4 x5 = NEW x1 x2 x4 k0_pay3 := by
  unfold sout0_A_0
  frame_open
  frame_out
  with_unfolding_all rfl

theorem out_A (h0) : out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) h0 x0 x1 x2 x3 x4 x5 = OUT x0 x1 x2 x3 x4 x5 k0_pay3 := by
  unfold out0_A_6
  frame_open
  frame_out
  with_unfolding_all rfl

end

end Cert.GlaFwdIdeal.Fwd
end

end
-- ==== Proof.Gla.Point.lean ====
/-
  One chunk of the kernel over the extended reals: what a point writes and the state it leaves, at an index.
-/
module

public import proofs.«01_k».proof.Proof.Gla.Head

@[expose] public section

set_option maxRecDepth 65536

noncomputable section

namespace Cert.GlaFwdIdeal.Fwd

open Idealize.ShloMosaic Idealize.ShloMosaic.TcCoe Idealize.SL.Sem Cert.GlaFwdIdeal.Gen Cert.Gla

theorem hd_at (x : FVec Ideal S32x1024 .f32) (h : Fin 8) (l : Fin 32) (d : Fin 128) : hd x h (ix2 l d) = x (ix2 l (hcol h d)) := by
  pointwise [hd]
  blk_ext
theorem sth_at (x : FVec Ideal S1024x128 .f32) (h : Fin 8) (k e : Fin 128) : sth x h (ix2 k e) = x (ix2 (srow h k) e) := by
  pointwise [sth]
  blk_ext
theorem joinO_at (p : Fin 8 → FVec Ideal S32x128 .f32) (h : Fin 8) (l : Fin 32) (d : Fin 128) :
    joinO p (ix2 l (hcol h d)) = p h (ix2 l d) := by
  have key : ∀ k : Fin 8, joinO p (ix2 l (hcol k d)) = p k (ix2 l d) := fun k =>
    concatenate_apply_piece (t := S32x1024) 1 (List.ofFn fun i : Fin 8 => (⟨S32x128, p i⟩ : (s : Shape) × (s.Idx → EReal))) concatenates_S32x128_S32x128_S32x128_S32x128_S32x128_S32x128_S32x128_S32x128_S32x1024_d1 (ix2 l (hcol k d)) k.val (by simp) S32x128 (p k) (List.getElem_ofFn _) rfl (128 * k.val)
      (by fin_cases k <;> rfl) (ix2 l d) (fun b hb => by
        match b with
        | ⟨0, _⟩ => rfl
        | ⟨1, _⟩ => exact absurd rfl hb) rfl
  exact key h
theorem joinS_at (p : Fin 8 → FVec Ideal S128x128 .f32) (h : Fin 8) (k e : Fin 128) :
    k0_pay4 (joinS p) (ix2 (srow h k) e) = p h (ix2 k e) := by
  have key : ∀ i : Fin 8, concatenate S1024x128 0 (List.ofFn fun i : Fin 8 => (⟨S128x128, p i⟩ : (s : Shape) × (s.Idx → EReal))) concatenates_S128x128_S128x128_S128x128_S128x128_S128x128_S128x128_S128x128_S128x128_S1024x128_d0 (ix2 (srow i k) e) = p i (ix2 k e) := fun i =>
    concatenate_apply_piece (t := S1024x128) 0 (List.ofFn fun i : Fin 8 => (⟨S128x128, p i⟩ : (s : Shape) × (s.Idx → EReal))) _ (ix2 (srow i k) e) i.val (by simp) S128x128 (p i) (List.getElem_ofFn _) rfl (128 * i.val)
      (by fin_cases i <;> rfl) (ix2 k e) (fun b hb => by
        match b with
        | ⟨0, _⟩ => exact absurd rfl hb
        | ⟨1, _⟩ => rfl) rfl
  refine Eq.trans ?_ (key h)
  unfold k0_pay4 joinS k0_pay1
  exact congrFun (shapeCast_shapeCast _ _ _) _

section
variable (x0 x1 x2 x3 : Vec Ideal S32x1024 .f32) (x4 : Vec Ideal S1x1024 .f32) (x5 : Vec Ideal S1x128 .f32)
variable (s : Vec Ideal S1x1024x128 .f32)

/-- Head `h` of a chunk's rows, of a row, and of the state. -/
def rows (x : Vec Ideal S32x1024 .f32) (h : Fin 8) (l : Fin 32) (d : Fin 128) : EReal := x (ix2 l (hcol h d))
def row1 (x : Vec Ideal S1x1024 .f32) (h : Fin 8) (d : Fin 128) : EReal := x (ix2 0 (hcol h d))
def stOf (s : Vec Ideal S1x1024x128 .f32) (h : Fin 8) (k e : Fin 128) : EReal := k0_pay4 s (ix2 (srow h k) e)
def nrm (x : Vec Ideal S1x128 .f32) (e : Fin 128) : EReal := x (ix2 0 e)

theorem pay6_at (l : Fin 32) (h : Fin 8) (d : Fin 128) :
    k0_pay6 x1 x4 (ix2 l (hcol h d)) = fg (rows x1 h) (row1 x4 h) l d := by
  pointwise [k0_pay6]
  rfl
theorem pay8_at (l : Fin 32) (h : Fin 8) (d : Fin 128) :
    k0_pay8 x1 x4 (ix2 l (hcol h d)) = 1 - fg (rows x1 h) (row1 x4 h) l d := by
  pointwise [k0_pay8]
  rw [pay6_at]
theorem mask_at (l s : Fin 32) : k0_pay5 (ix2 l s) = if s ≤ l then 1#1 else 0#1 := by
  revert l s
  decide +kernel

theorem pay9_at (l : Fin 32) (h : Fin 8) (d : Fin 128) :
    k0_pay9 x1 x4 (ix2 l (hcol h d)) = cum (rows x1 h) (row1 x4 h) l d := by
  pointwise [k0_pay9]
  simp only [pay6_at, mask_at]
  refine Finset.sum_congr rfl fun s _ => ?_
  split
  · refine (congrArg (· * _) (show FloatOps.sitofp (F := Ideal) FTy.f32 (BitVec.setWidth 32 1#1) = (1 : EReal) from ?_)).trans (one_mul _)
    show (((BitVec.setWidth 32 1#1).toInt : ℝ) : EReal) = 1
    norm_num
  · refine (congrArg (· * _) (show FloatOps.sitofp (F := Ideal) FTy.f32 (BitVec.setWidth 32 0#1) = (0 : EReal) from ?_)).trans (zero_mul _)
    show (((BitVec.setWidth 32 0#1).toInt : ℝ) : EReal) = 0
    norm_num

theorem QD_at (l : Fin 32) (h : Fin 8) (d : Fin 128) : QD x0 x1 x4 (ix2 l (hcol h d)) = qd (rows x0 h) (rows x1 h) (row1 x4 h) l d := by
  pointwise [k0_pay11, k0_pay7]
  rw [pay9_at]
  rfl
theorem KI_at (l : Fin 32) (h : Fin 8) (d : Fin 128) : KI x1 x4 (ix2 l (hcol h d)) = ki (rows x1 h) (row1 x4 h) l d := by
  pointwise [k0_pay12]
  rw [pay9_at, pay8_at, zero_sub]
  rfl
theorem KE_at (l : Fin 32) (h : Fin 8) (d : Fin 128) : KE x1 x4 (ix2 l (hcol h d)) = ke (rows x1 h) (row1 x4 h) l d := by
  pointwise [k0_pay13, k0_pay10]
  rw [pay9_at, pay9_at, pay8_at]
  rfl
theorem EG_at (h : Fin 8) (d : Fin 128) : EG x1 x4 (ix2 0 (hcol h d)) = Ideal.exp (cum (rows x1 h) (row1 x4 h) 31 d) := by
  pointwise [k0_pay14, k0_pay10]
  exact congrArg Ideal.exp (pay9_at x1 x4 31 h d)

variable (h : Fin 8)

theorem att_at (l s : Fin 32) : attH (QD x0 x1 x4) (KI x1 x4) h (ix2 l s) = att (rows x0 h) (rows x1 h) (row1 x4 h) l s := by
  pointwise [attH]
  rw [mask_at]
  simp only [hd_at, QD_at, KI_at]
  unfold att
  split <;> rfl

theorem o_at (l : Fin 32) (e : Fin 128) :
    addf (o1H (QD x0 x1 x4) (KI x1 x4) x2 h) (o2H (QD x0 x1 x4) (k0_pay4 s) h) (ix2 l e) = o (rows x0 h) (rows x1 h) (rows x2 h) (row1 x4 h) (stOf s h) l e := by
  pointwise [o1H, o2H]
  simp only [att_at, hd_at, sth_at, QD_at]
  rfl

theorem out_at (l : Fin 32) (e : Fin 128) :
    OUT x0 x1 x2 x3 x4 x5 s (ix2 l (hcol h e)) = fin (o (rows x0 h) (rows x1 h) (rows x2 h) (row1 x4 h) (stOf s h) l) (nrm x5) (rows x3 h l) e := by
  unfold OUT
  rw [joinO_at]
  have ho : ∀ k, (o1H (QD x0 x1 x4) (KI x1 x4) x2 h) (ix2 l k) + (o2H (QD x0 x1 x4) (k0_pay4 s) h) (ix2 l k) = _ := fun k => o_at x0 x1 x2 x4 s h l k
  pointwise [outH, k0_pay66, k0_pay67]
  simp only [ho, hd_at]
  rfl

theorem new_at (k e : Fin 128) :
    stOf (NEW x1 x2 x4 s) h k e = nxt (rows x1 h) (rows x2 h) (row1 x4 h) (stOf s h) k e := by
  unfold stOf NEW
  rw [joinS_at]
  pointwise [newH]
  simp only [hd_at, sth_at, KE_at]
  exact congrArg (fun z => k0_pay4 s (ix2 (srow h k) e) * z + ∑ x, ke (rows x1 h) (row1 x4 h) x k * x2 (ix2 x (hcol h e))) (EG_at x1 x4 h k)

end

theorem zero_at (h : Fin 8) (k e : Fin 128) : stOf (k0_pay3 : FVec Ideal S1x1024x128 .f32) h k e = 0 := by
  unfold stOf
  pointwise [k0_pay4, k0_pay3]

end Cert.GlaFwdIdeal.Fwd
end
end
-- ==== Proof.Gla.Value.lean ====
/-
  The kernel's array after the run, over the extended reals: every point's block is a chunk's result, the state before it
  being the recurrence of Spec.lean.
-/
module

public import proofs.«01_k».proof.Proof.Gla.Point

@[expose] public section

set_option maxRecDepth 65536

noncomputable section

namespace Cert.GlaFwdIdeal.Fwd

open Idealize.ShloMosaic Idealize.ShloMosaic.TcCoe Idealize.SL.Sem Cert.GlaFwdIdeal.Gen Cert.Gla

variable (m : (ℓ : Loc nD τ sig) → Buf (Elt Ideal) ℓ) (ρ : Dev nD → PrngReg)

theorem idx_tok : ∀ t : Fin cfg0.N, win0_0.index t = ![t.val, 0] ∧ win0_1.index t = ![t.val, 0] ∧ win0_2.index t = ![t.val, 0] ∧ win0_3.index t = ![t.val, 0] ∧ win0_6.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_6.index t = ![t.val, 0])
theorem idx_par : ∀ t : Fin cfg0.N, win0_4.index t = ![0, 0] ∧ win0_5.index t = ![0, 0] :=
  (by decide +kernel : ∀ t : Fin grid0.N, win0_4.index t = ![0, 0] ∧ win0_5.index t = ![0, 0])

/-- The arguments as launched, by row and column. -/
abbrev a0 (c : Dev nD) (r : Fin 4096) (e : Fin 1024) : EReal := m ((c : Thread nD τ).loc main_arg0) (ix2 r e)
abbrev a1 (c : Dev nD) (r : Fin 4096) (e : Fin 1024) : EReal := m ((c : Thread nD τ).loc main_arg1) (ix2 r e)
abbrev a2 (c : Dev nD) (r : Fin 4096) (e : Fin 1024) : EReal := m ((c : Thread nD τ).loc main_arg2) (ix2 r e)
abbrev a3 (c : Dev nD) (r : Fin 4096) (e : Fin 1024) : EReal := m ((c : Thread nD τ).loc main_arg3) (ix2 r e)
abbrev a4 (c : Dev nD) (e : Fin 1024) : EReal := m ((c : Thread nD τ).loc main_arg4) (ix2 (0 : Fin 1) e)
abbrev a5 (c : Dev nD) (e : Fin 128) : EReal := m ((c : Thread nD τ).loc main_arg5) (ix2 (0 : Fin 1) e)

theorem row_lt (t : Fin cfg0.N) (l : Fin 32) : (32 * t.val + l.val) % 4096 = 32 * t.val + l.val := by
  have : t.val < 128 := lt_of_lt_of_eq t.isLt Gen.N_0
  omega

theorem blk_0 (c : Dev nD) (t : Fin cfg0.N) (h : Fin 8) : rows (iblk m c 0 t) h = blk (a0 m c) h t.val := by
  funext l d
  have := row_lt t l
  unfold rows blk a0
  blk_ext [iblk, V, (idx_tok t).1]
theorem blk_1 (c : Dev nD) (t : Fin cfg0.N) (h : Fin 8) : rows (iblk m c 1 t) h = blk (a1 m c) h t.val := by
  funext l d
  have := row_lt t l
  unfold rows blk a1
  blk_ext [iblk, V, (idx_tok t).2.1]
theorem blk_2 (c : Dev nD) (t : Fin cfg0.N) (h : Fin 8) : rows (iblk m c 2 t) h = blk (a2 m c) h t.val := by
  funext l d
  have := row_lt t l
  unfold rows blk a2
  blk_ext [iblk, V, (idx_tok t).2.2.1]
theorem blk_3 (c : Dev nD) (t : Fin cfg0.N) (h : Fin 8) : rows (iblk m c 3 t) h = blk (a3 m c) h t.val := by
  funext l d
  have := row_lt t l
  unfold rows blk a3
  blk_ext [iblk, V, (idx_tok t).2.2.2.1]
theorem blk_4 (c : Dev nD) (t : Fin cfg0.N) (h : Fin 8) : row1 (iblk m c 4 t) h = fun d => a4 m c (hcol h d) := by
  funext d
  unfold row1 a4
  blk_ext [iblk, V, (idx_par t).1]
theorem blk_5 (c : Dev nD) (t : Fin cfg0.N) : nrm (iblk m c 5 t) = a5 m c := by
  funext d
  unfold nrm a5
  blk_ext [iblk, V, (idx_par t).2]

/-- The state a point leaves, head by head: the recurrence after the point's chunk. -/
theorem state_at (c : Dev nD) : ∀ (k : ℕ) (hk : k < cfg0.N) (h : Fin 8),
    stOf (outsAt0 m c k hk).2.2 h = st (a1 m c) (a2 m c) (a4 m c) (k / 64) h (k % 64 + 1) := by
  intro k
  induction k with
  | zero =>
    intro hk h
    have e := outsAt0_A m c ⟨0, hk⟩ rfl
    funext x y
    rw [show outsAt0 m c 0 hk = _ from e]
    dsimp only
    rw [new_A, new_at]
    exact congrFun (congrFun (congr (congr (congr (congrArg nxt (blk_1 m c ⟨0, hk⟩ h)) (blk_2 m c ⟨0, hk⟩ h)) (blk_4 m c ⟨0, hk⟩ h)) (funext fun a => funext fun b => zero_at h a b)) x) y
  | succ k ih =>
    intro hk h
    have hk' : k < cfg0.N := Nat.lt_of_succ_lt hk
    funext x y
    by_cases h0 : (k + 1) % 64 = 0
    · have e := outsAt0_A m c ⟨k + 1, hk⟩ h0
      rw [show outsAt0 m c (k + 1) hk = _ from e]
      dsimp only
      rw [new_A, new_at]
      refine (congrFun (congrFun (congr (congr (congr (congrArg nxt (blk_1 m c ⟨k + 1, hk⟩ h)) (blk_2 m c ⟨k + 1, hk⟩ h)) (blk_4 m c ⟨k + 1, hk⟩ h)) (funext fun a => funext fun b => zero_at h a b)) x) y).trans ?_
      rw [h0]
      show _ = nxt (blk _ h (64 * ((k + 1) / 64) + 0)) (blk _ h (64 * ((k + 1) / 64) + 0)) _ _ x y
      rw [show 64 * ((k + 1) / 64) + 0 = k + 1 by omega]
      rfl
    · have e := outsAt0_B m c ⟨k + 1, hk⟩ h0
      rw [show outsAt0 m c (k + 1) hk = _ from e]
      dsimp only
      rw [new_B, new_at]
      refine (congrFun (congrFun (congr (congr (congr (congrArg nxt (blk_1 m c ⟨k + 1, hk⟩ h)) (blk_2 m c ⟨k + 1, hk⟩ h)) (blk_4 m c ⟨k + 1, hk⟩ h)) (ih hk' h)) x) y).trans ?_
      rw [show (k + 1) % 64 = k % 64 + 1 by omega, show (k + 1) / 64 = k / 64 by omega]
      show _ = nxt (blk _ h (64 * (k / 64) + (k % 64 + 1))) (blk _ h (64 * (k / 64) + (k % 64 + 1))) _ _ x y
      rw [show 64 * (k / 64) + (k % 64 + 1) = k + 1 by omega]

/-- A point's result. -/
theorem point_at (c : Dev nD) (t : Fin cfg0.N) (h : Fin 8) (l : Fin 32) (e : Fin 128) :
    (outsAt0 m c t.val t.isLt).1 (ix2 l (hcol h e))
      = res (a0 m c) (a1 m c) (a2 m c) (a3 m c) (a4 m c) (a5 m c) (t.val / 64) h (t.val % 64) l e := by
  have et : 64 * (t.val / 64) + t.val % 64 = t.val := by omega
  unfold res rd
  rw [et]
  by_cases h0 : t.val % 64 = 0
  · rw [outsAt0_A m c t h0]
    dsimp only
    rw [out_A, out_at, blk_0, blk_1, blk_2, blk_3, blk_4, blk_5, h0]
    exact congrArg (fun S => fin (o _ _ _ _ S l) _ _ e) (funext fun a => funext fun b => zero_at h a b)
  · rw [outsAt0_B m c t h0]
    dsimp only
    rw [out_B, out_at, blk_0, blk_1, blk_2, blk_3, blk_4, blk_5, state_at]
    rw [show (t.val - 1) / 64 = t.val / 64 by omega, show (t.val - 1) % 64 + 1 = t.val % 64 by omega]

/-- The result as an array. -/
def arr (c : Dev nD) (r : Fin 4096) (e : Fin 1024) : EReal :=
  res (a0 m c) (a1 m c) (a2 m c) (a3 m c) (a4 m c) (a5 m c) (r.val / 2048) ⟨e.val / 128, by omega⟩ (r.val / 32 % 64)
    ⟨r.val % 32, by omega⟩ ⟨e.val % 128, by omega⟩

/-- The result after the run. -/
theorem arr6 (c : Dev nD) : (dats m 0 c).arrAt 6 cfg0.N = fun i => arr m c (i 0) (i 1) := by
  refine (dats m 0 c).arrAt_eq_of_covers 6 _ (by decide +kernel) fun t hf y => ?_
  blk_simp
  rw [after0_6]
  obtain ⟨l, h, d, rfl⟩ : ∃ (l : Fin 32) (h : Fin 8) (d : Fin 128), y = ix2 l (hcol h d) :=
    ⟨y 0, ⟨(y 1).val / 128, by have : (y 1).val < 1024 := (y 1).isLt; omega⟩, ⟨(y 1).val % 128, Nat.mod_lt _ (by decide)⟩,
      (eq_ix2 y).trans (congrArg (ix2 (y 0)) (Fin.ext (Nat.div_add_mod _ _).symm))⟩
  have ht : t.val < 128 := lt_of_lt_of_eq t.isLt Gen.N_0
  have hy : ((cfg0.win 6).blk t).view.emb (ix2 l (hcol h d)) = (ix2 (⟨32 * t.val + l.val, by omega⟩ : Fin 4096) (hcol h d) : S4096x1024.Idx) := by
    blk_ext [(idx_tok t).2.2.2.2]
  refine Eq.trans ?_ (congrArg (fun i : S4096x1024.Idx => arr m c (i 0) (i 1)) hy).symm
  refine (point_at m c t h l d).trans ?_
  show _ = arr m c ⟨32 * t.val + l.val, by omega⟩ (hcol h d)
  unfold arr
  have e1 : (32 * t.val + l.val) / 2048 = t.val / 64 := by omega
  have e2 : (32 * t.val + l.val) / 32 % 64 = t.val % 64 := by omega
  have e3 : (⟨(hcol h d).val / 128, by omega⟩ : Fin 8) = h := Fin.ext (by show (128 * h.val + d.val) / 128 = h.val; omega)
  have e4 : (⟨(hcol h d).val % 128, by omega⟩ : Fin 128) = d := Fin.ext (by show (128 * h.val + d.val) % 128 = d.val; omega)
  have e5 : (⟨(32 * t.val + l.val) % 32, by omega⟩ : Fin 32) = l := Fin.ext (by show (32 * t.val + l.val) % 32 = l.val; omega)
  rw [e3, e4]
  dsimp only
  rw [e1, e2, e5]

/-- The run, its result named, the arguments unchanged. -/
theorem run_blocks : θ_run defs (onTc (τ := τ) (main (F := Ideal))) ⟨m, fun _ => 0, ρ⟩ fun r => ∀ c : Dev nD,
      r.2.mem ((c : Thread nD τ).loc main_v0_0) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.GlaFwdIdeal.Fwd
end
end
-- ==== Proof.Gla.Entry.lean ====
/-
  The reference over the extended reals, up to its scan: the decayed queries and keys of every chunk, at an index.
-/
module

public import proofs.«01_k».proof.Proof.Gla.Spec
public import proofs.«01_k».proof.Proof.Gen.GlaFwdRefIdeal.Run
public import Idealize.ShloMosaic.Lib.Pipeline.ValueKit.Geometry

@[expose] public section

set_option maxRecDepth 65536

noncomputable section

namespace Cert.GlaFwdRefIdeal.Fwd

open Idealize.ShloMosaic Idealize.ShloMosaic.TcCoe Idealize.ShloMosaic.StableHlo Idealize.SL.Sem Cert.GlaFwdRefIdeal.Gen Cert.GlaFwdRefIdeal.Value Cert.Gla

variable (V : Valuation τ sig (Elt Ideal))

/-- A row of sequence `b`, of the 4096. -/
abbrev srow4 (b : Fin 2) (t : Fin 2048) : Fin 4096 := ⟨b.val * 2048 + t.val, by omega⟩
/-- Row `l` of chunk `n`. -/
abbrev crow (n : Fin 64) (l : Fin 32) : Fin 2048 := ⟨n.val * 32 + l.val, by omega⟩

abbrev D (r : Ref sig .tc) : DevRef τ sig := Proc.devRef .tc r
/-- A buffer's contents, by index, as numbers. -/
abbrev N {s : Shape} (x : FVec Ideal s .f32) (i : s.Idx) : EReal := x i

theorem s0_v17 (b : Fin 2) (t : Fin 2048) (h : Fin 8) (d : Fin 128) :
    N (s := S2x2048x8x128) (after hostOps0 V (D main_v17)) (ix4 b t h d)
      = N (s := S1x1024) (V (D main_arg4)) (ix2 0 (hcol h d)) + (1 - N (s := S1x1024) (V (D main_arg4)) (ix2 0 (hcol h d)))
        * Ideal.logistic (N (s := S4096x1024) (V (D main_arg1)) (ix2 (srow4 b t) (hcol h d))) := by
  after_results
  dsimp only [N, id_eq]
  pointwise
  rw [show (⟨h.val * 128 + d.val, by omega⟩ : Fin 1024) = hcol h d from Fin.ext (by show h.val * 128 + d.val = 128 * h.val + d.val; omega)]
  rfl
theorem s0_v0 (b : Fin 2) (t : Fin 2048) (h : Fin 8) (d : Fin 128) :
    N (s := S2x2048x8x128) (after hostOps0 V (D main_v0)) (ix4 b t h d) = N (s := S4096x1024) (V (D main_arg0)) (ix2 (srow4 b t) (hcol h d)) := by
  after_results
  dsimp only [N, id_eq]
  pointwise
  blk_ext
theorem s0_v2 (b : Fin 2) (t : Fin 2048) (h : Fin 8) (d : Fin 128) :
    N (s := S2x2048x8x128) (after hostOps0 V (D main_v2)) (ix4 b t h d) = N (s := S4096x1024) (V (D main_arg2)) (ix2 (srow4 b t) (hcol h d)) := by
  after_results
  dsimp only [N, id_eq]
  pointwise
  blk_ext
/-- The gating function, as the reference computes it. -/
def silu4 (x : FVec Ideal S2x2048x8x128 .f32) : FVec Ideal S2x2048x8x128 .f32 :=
  mulf x (Host.divf (broadcastInDim S2x2048x8x128 ![] bcast_S_S2x2048x8x128 (constant S_ .f32 0x3F800000#32))
    (addf (broadcastInDim S2x2048x8x128 ![] bcast_S_S2x2048x8x128 (constant S_ .f32 0x3F800000#32)) (Host.exp (Host.negf x))))
theorem silu4_at (x : FVec Ideal S2x2048x8x128 .f32) (i : S2x2048x8x128.Idx) : silu4 x i = x i * Ideal.logistic (x i) := by
  pointwise [silu4]
  rfl
theorem s1_v18 (i : S2x2048x8x128.Idx) :
    N (s := S2x2048x8x128) (after hostOps0_1 V (D main_v18)) i
      = N (s := S2x2048x8x128) (V (D main_v0)) i * Ideal.logistic (N (s := S2x2048x8x128) (V (D main_v0)) i) := by
  have e : after hostOps0_1 V (D main_v18) = silu4 (V (D main_v0)) := by
    after_results
    rfl
  rw [e]
  exact silu4_at _ i
theorem s2_v25 (b : Fin 2) (n : Fin 64) (h : Fin 8) (l : Fin 32) (d : Fin 128) :
    N (s := S2x64x8x32x128) (after hostOps0_2 V (D main_v25)) (ix5 b n h l d)
      = N (s := S2x2048x8x128) (V (D main_v18)) (ix4 b (crow n l) h d) * scale := by
  after_results
  dsimp only [N, id_eq]
  pointwise
  try rfl
theorem s2_v27 (b : Fin 2) (n : Fin 64) (h : Fin 8) (l : Fin 32) (d : Fin 128) :
    N (s := S2x64x8x32x128) (after hostOps0_2 V (D main_v27)) (ix5 b n h l d)
      = 1 - N (s := S2x2048x8x128) (V (D main_v17)) (ix4 b (crow n l) h d) := by
  after_results
  dsimp only [N, id_eq]
  pointwise
  try rfl
theorem s2_v29 (b : Fin 2) (n : Fin 64) (h : Fin 8) (l : Fin 32) (d : Fin 128) :
    N (s := S2x64x8x32x128) (after hostOps0_2 V (D main_v29)) (ix5 b n h l d)
      = N (s := S2x2048x8x128) (V (D main_v2)) (ix4 b (crow n l) h d) := by
  after_results
  dsimp only [N, id_eq]
  pointwise
  try rfl
theorem s2_v31 (b : Fin 2) (n : Fin 64) (h : Fin 8) (l : Fin 32) (d : Fin 128) :
    N (s := S2x64x8x32x128) (after hostOps0_2 V (D main_v31)) (ix5 b n h l d)
      = Ideal.log (N (s := S2x2048x8x128) (V (D main_v17)) (ix4 b (crow n l) h d)) := by
  after_results
  dsimp only [N, id_eq]
  pointwise
  try rfl
theorem foldl_add {α : Type} (g : α → EReal) : ∀ (L : List α) (a : EReal), L.foldl (fun r n => r + g n) a = a + (L.map g).sum
  | [], a => (add_zero a).symm
  | x :: L, a => by
    rw [List.foldl_cons, foldl_add g L, List.map_cons, List.sum_cons, add_assoc]

/-- One position of a window: the operand's element, or the initial value where it is padding. -/
def wterm {s : Shape} (window strides lo : Fin s.rank → ℕ) (x : s.Idx → EReal) (v : EReal) (j : s.Idx) (k : Fin (⟨s.rank, window⟩ : Shape).numel) : EReal :=
  let p : Fin s.rank → ℕ := fun a => (j a).val * strides a + ((⟨s.rank, window⟩ : Shape).rowMajor.symm k a).val
  if hin : ∀ a, lo a ≤ p a ∧ p a - lo a < s.size a then x (fun a => ⟨p a - lo a, (hin a).2⟩) else v
theorem window_sum {s u : Shape} (window strides lo hi : Fin s.rank → ℕ) (x : FVec Ideal s .f32) (init : FVec Ideal u .f32)
    (h : s.ReduceWindows window strides lo hi s) (hu : 0 < u.numel) (j : s.Idx) :
    Host.reduceWindowAdd window strides lo hi x init h hu j
      = N init (Shape.Idx.first hu) + ∑ k, wterm window strides lo x (N init (Shape.Idx.first hu)) j k := by
  rw [Fin.sum_univ_def, ← foldl_add]
  show Host.reduceWindow (s := s) (t := s) (u := ⟨0, ![]⟩) (fun a b : EReal => a + b) window strides lo hi x (fun _ => N init (Shape.Idx.first hu)) h (by decide) j = _
  unfold Host.reduceWindow
  dsimp only
  refine congrArg (fun f => List.foldl f _ _) (funext fun r => funext fun k => congrArg (r + ·) ?_)
  unfold wterm
  dsimp only [Fin.cast_eq_self]
  congr

/-- The window of the running sum: 32 rows high. -/
abbrev Win : Shape := ⟨5, ![1, 1, 1, 32, 1]⟩
theorem win_at : ∀ n : Fin Win.numel, n.val < 32 ∧ (Win.rowMajor.symm n 0).val = 0 ∧ (Win.rowMajor.symm n 1).val = 0 ∧ (Win.rowMajor.symm n 2).val = 0
    ∧ (Win.rowMajor.symm n 3).val = n.val ∧ (Win.rowMajor.symm n 4).val = 0 := by decide +kernel

theorem wterm_at (x : FVec Ideal S2x64x8x32x128 .f32) (v : EReal)
    (b : Fin 2) (n : Fin 64) (h : Fin 8) (l : Fin 32) (d : Fin 128) (k : Fin Win.numel) :
    wterm (s := S2x64x8x32x128) ![1, 1, 1, 32, 1] ![1, 1, 1, 1, 1] ![0, 0, 0, 31, 0] x v (ix5 b n h l d) k
      = if 31 ≤ l.val + k.val then N x (ix5 b n h ⟨(l.val + k.val - 31) % 32, Nat.mod_lt _ (by decide)⟩ d) else v := by
  have hb := b.isLt
  have hn := n.isLt
  have hh := h.isLt
  have hl := l.isLt
  have hd := d.isLt
  obtain ⟨hk, w0, w1, w2, w3, w4⟩ := win_at k
  unfold wterm
  dsimp only
  split
  · next hin =>
    have h3 := (hin 3).1
    change 31 ≤ l.val * 1 + (Win.rowMajor.symm k 3).val at h3
    rw [if_pos (by omega)]
    refine congrArg x (funext fun a => Fin.ext ?_)
    match a with
    | ⟨0, _⟩ => show b.val * 1 + (Win.rowMajor.symm k 0).val - 0 = b.val; omega
    | ⟨1, _⟩ => show n.val * 1 + (Win.rowMajor.symm k 1).val - 0 = n.val; omega
    | ⟨2, _⟩ => show h.val * 1 + (Win.rowMajor.symm k 2).val - 0 = h.val; omega
    | ⟨3, _⟩ => show l.val * 1 + (Win.rowMajor.symm k 3).val - 31 = (l.val + k.val - 31) % 32; omega
    | ⟨4, _⟩ => show d.val * 1 + (Win.rowMajor.symm k 4).val - 0 = d.val; omega
  · next hin =>
    rw [if_neg fun hle => hin fun a => by
      match a with
      | ⟨0, _⟩ => show 0 ≤ b.val * 1 + (Win.rowMajor.symm k 0).val ∧ b.val * 1 + (Win.rowMajor.symm k 0).val - 0 < 2; omega
      | ⟨1, _⟩ => show 0 ≤ n.val * 1 + (Win.rowMajor.symm k 1).val ∧ n.val * 1 + (Win.rowMajor.symm k 1).val - 0 < 64; omega
      | ⟨2, _⟩ => show 0 ≤ h.val * 1 + (Win.rowMajor.symm k 2).val ∧ h.val * 1 + (Win.rowMajor.symm k 2).val - 0 < 8; omega
      | ⟨3, _⟩ => show 31 ≤ l.val * 1 + (Win.rowMajor.symm k 3).val ∧ l.val * 1 + (Win.rowMajor.symm k 3).val - 31 < 32; omega
      | ⟨4, _⟩ => show 0 ≤ d.val * 1 + (Win.rowMajor.symm k 4).val ∧ d.val * 1 + (Win.rowMajor.symm k 4).val - 0 < 128; omega]

/-- The running sum along a chunk's rows, from zero. -/
def cumT (x : FVec Ideal S2x64x8x32x128 .f32) : FVec Ideal S2x64x8x32x128 .f32 :=
  Host.reduceWindowAdd ![1, 1, 1, 32, 1] ![1, 1, 1, 1, 1] ![0, 0, 0, 31, 0] ![0, 0, 0, 0, 0] x (broadcastInDim S_ ![] bcast_S_S_ (constant S_ .f32 0x00000000#32))
    reduceWindows_S2x64x8x32x128_S2x64x8x32x128_w1s1p0_0_w1s1p0_0_w1s1p0_0_w32s1p31_0_w1s1p0_0 h_S_
/-- Row `l` holds the sum of the rows up to it. -/
theorem cum_at (x : FVec Ideal S2x64x8x32x128 .f32) (b : Fin 2) (n : Fin 64) (h : Fin 8) (l : Fin 32) (d : Fin 128) :
    cumT x (ix5 b n h l d) = ∑ s : Fin 32, if s ≤ l then N x (ix5 b n h s d) else 0 := by
  have h0 : N (s := S_) (broadcastInDim S_ ![] bcast_S_S_ (constant S_ .f32 0x00000000#32)) (Shape.Idx.first h_S_) = 0 := by
    dsimp only [N]
    pointwise
  unfold cumT
  rw [window_sum, h0, zero_add]
  refine (Finset.sum_congr rfl fun k _ => wterm_at x 0 b n h l d k).trans ?_
  rw [← Finset.sum_filter, ← Finset.sum_filter]
  have hl := l.isLt
  refine Finset.sum_bij' (fun k _ => (⟨(l.val + k.val - 31) % 32, Nat.mod_lt _ (by decide)⟩ : Fin 32))
    (fun s _ => (⟨(31 - l.val + s.val) % 32, lt_of_lt_of_eq (Nat.mod_lt _ (by decide)) (by decide +kernel : 32 = Win.numel)⟩ : Fin Win.numel)) ?_ ?_ ?_ ?_ ?_
  · intro k hk
    have := (Finset.mem_filter.mp hk).2
    have := (win_at k).1
    exact Finset.mem_filter.mpr ⟨Finset.mem_univ _, by show (l.val + k.val - 31) % 32 ≤ l.val; omega⟩
  · intro s hs
    have h1 : s.val ≤ l.val := (Finset.mem_filter.mp hs).2
    exact Finset.mem_filter.mpr ⟨Finset.mem_univ _, by show 31 ≤ l.val + (31 - l.val + s.val) % 32; omega⟩
  · intro k hk
    have := (Finset.mem_filter.mp hk).2
    have := (win_at k).1
    exact Fin.ext (by show (31 - l.val + (l.val + k.val - 31) % 32) % 32 = k.val; omega)
  · intro s hs
    have h1 : s.val ≤ l.val := (Finset.mem_filter.mp hs).2
    exact Fin.ext (by show (l.val + (31 - l.val + s.val) % 32 - 31) % 32 = s.val; omega)
  · intro k hk
    rfl

theorem s3_v32 (b : Fin 2) (n : Fin 64) (h : Fin 8) (l : Fin 32) (d : Fin 128) :
    N (s := S2x64x8x32x128) (after hostOps0_3 V (D main_v32)) (ix5 b n h l d)
      = ∑ s : Fin 32, if s ≤ l then N (s := S2x64x8x32x128) (V (D main_v31)) (ix5 b n h s d) else 0 := by
  have e : after hostOps0_3 V (D main_v32) = cumT (V (D main_v31)) := by
    after_results
    rfl
  rw [e]
  exact cum_at _ b n h l d
theorem s4_v52_0 (n : Fin 64) (b : Fin 2) (h : Fin 8) (l : Fin 32) (d : Fin 128) :
    N (s := S64x2x8x32x128) (after hostOps0_4 V (D main_v52_0)) (ix5 n b h l d)
      = N (s := S2x64x8x32x128) (V (D main_v25)) (ix5 b n h l d) * Ideal.exp (N (s := S2x64x8x32x128) (V (D main_v32)) (ix5 b n h l d)) := by
  after_results
  dsimp only [N, id_eq]
  pointwise
  try rfl
theorem s4_v52_1 (n : Fin 64) (b : Fin 2) (h : Fin 8) (l : Fin 32) (d : Fin 128) :
    N (s := S64x2x8x32x128) (after hostOps0_4 V (D main_v52_1)) (ix5 n b h l d)
      = N (s := S2x64x8x32x128) (V (D main_v27)) (ix5 b n h l d) * Ideal.exp (-(N (s := S2x64x8x32x128) (V (D main_v32)) (ix5 b n h l d))) := by
  after_results
  dsimp only [N, id_eq]
  pointwise
  try rfl
theorem s4_v52_2 (n : Fin 64) (b : Fin 2) (h : Fin 8) (l : Fin 32) (d : Fin 128) :
    N (s := S64x2x8x32x128) (after hostOps0_4 V (D main_v52_2)) (ix5 n b h l d)
      = N (s := S2x64x8x32x128) (V (D main_v27)) (ix5 b n h l d)
        * Ideal.exp (N (s := S2x64x8x32x128) (V (D main_v32)) (ix5 b n h 31 d) - N (s := S2x64x8x32x128) (V (D main_v32)) (ix5 b n h l d)) := by
  after_results
  dsimp only [N, id_eq]
  pointwise
  try rfl
theorem s4_v52_3 (n : Fin 64) (b : Fin 2) (h : Fin 8) (l : Fin 32) (d : Fin 128) :
    N (s := S64x2x8x32x128) (after hostOps0_4 V (D main_v52_3)) (ix5 n b h l d) = N (s := S2x64x8x32x128) (V (D main_v29)) (ix5 b n h l d) := by
  after_results
  dsimp only [N, id_eq]
  pointwise
  try rfl
theorem s4_v52_4 (n : Fin 64) (b : Fin 2) (h : Fin 8) (d : Fin 128) :
    N (s := S64x2x8x128) (after hostOps0_4 V (D main_v52_4)) (ix4 n b h d) = N (s := S2x64x8x32x128) (V (D main_v32)) (ix5 b n h 31 d) := by
  after_results
  dsimp only [N, id_eq]
  pointwise
  try rfl
theorem s4_v52_6 (i : S2x8x128x128.Idx) :
    N (s := S2x8x128x128) (after hostOps0_4 V (D main_v52_6)) i = 0 := by
  after_results
  dsimp only [N, id_eq]
  pointwise
  try rfl

end Cert.GlaFwdRefIdeal.Fwd
end
end
-- ==== Proof.Gla.Step.lean ====
/-
  One trip of the reference's scan over the extended reals, at an index.
-/
module

public import proofs.«01_k».proof.Proof.Gla.Entry

@[expose] public section

set_option maxRecDepth 65536

noncomputable section

namespace Cert.GlaFwdRefIdeal.Fwd

open Idealize.ShloMosaic Idealize.ShloMosaic.TcCoe Idealize.ShloMosaic.StableHlo Idealize.SL.Sem Cert.GlaFwdRefIdeal.Gen Cert.GlaFwdRefIdeal.Value Cert.Gla

variable (V : Valuation τ sig (Elt Ideal)) (n : Fin 64)

/-- Chunk `n`'s slice of the stacked operands. -/
theorem slice5_at (x : FVec Ideal S64x2x8x32x128 .f32) (start : Fin 5 → ℤ) (h0 : start 0 = n.val) (h1 : ∀ a : Fin 5, a ≠ 0 → start a = 0)
    (b : Fin 2) (h : Fin 8) (l : Fin 32) (d : Fin 128) :
    shapeCast S2x8x32x128 (Host.dynamicSlice S1x2x8x32x128 x start sliceFits_S64x2x8x32x128_S1x2x8x32x128) shapeCasts_S1x2x8x32x128_S2x8x32x128 (ix4 b h l d)
      = x (ix5 n b h l d) := by
  have hn := n.isLt
  pointwise
  refine congrArg x (funext fun a => Fin.ext ?_)
  match a with
  | ⟨0, _⟩ => exact Host.clampedStart_of_le (s := S64x2x8x32x128) (t := S1x2x8x32x128) rfl start 0 n.val h0 (by show n.val + 1 ≤ 64; omega)
  | ⟨1, _⟩ => exact (congrArg (· + b.val) (Host.clampedStart_of_le (s := S64x2x8x32x128) (t := S1x2x8x32x128) rfl start 1 0 (h1 1 (by decide)) (by decide))).trans (Nat.zero_add _)
  | ⟨2, _⟩ => exact (congrArg (· + h.val) (Host.clampedStart_of_le (s := S64x2x8x32x128) (t := S1x2x8x32x128) rfl start 2 0 (h1 2 (by decide)) (by decide))).trans (Nat.zero_add _)
  | ⟨3, _⟩ => exact (congrArg (· + l.val) (Host.clampedStart_of_le (s := S64x2x8x32x128) (t := S1x2x8x32x128) rfl start 3 0 (h1 3 (by decide)) (by decide))).trans (Nat.zero_add _)
  | ⟨4, _⟩ => exact (congrArg (· + d.val) (Host.clampedStart_of_le (s := S64x2x8x32x128) (t := S1x2x8x32x128) rfl start 4 0 (h1 4 (by decide)) (by decide))).trans (Nat.zero_add _)
theorem slice4_at (x : FVec Ideal S64x2x8x128 .f32) (start : Fin 4 → ℤ) (h0 : start 0 = n.val) (h1 : ∀ a : Fin 4, a ≠ 0 → start a = 0)
    (b : Fin 2) (h : Fin 8) (d : Fin 128) :
    shapeCast S2x8x128 (Host.dynamicSlice S1x2x8x128 x start sliceFits_S64x2x8x128_S1x2x8x128) shapeCasts_S1x2x8x128_S2x8x128 (ix3 b h d)
      = x (ix4 n b h d) := by
  have hn := n.isLt
  pointwise
  refine congrArg x (funext fun a => Fin.ext ?_)
  match a with
  | ⟨0, _⟩ => exact Host.clampedStart_of_le (s := S64x2x8x128) (t := S1x2x8x128) rfl start 0 n.val h0 (by show n.val + 1 ≤ 64; omega)
  | ⟨1, _⟩ => exact (congrArg (· + b.val) (Host.clampedStart_of_le (s := S64x2x8x128) (t := S1x2x8x128) rfl start 1 0 (h1 1 (by decide)) (by decide))).trans (Nat.zero_add _)
  | ⟨2, _⟩ => exact (congrArg (· + h.val) (Host.clampedStart_of_le (s := S64x2x8x128) (t := S1x2x8x128) rfl start 2 0 (h1 2 (by decide)) (by decide))).trans (Nat.zero_add _)
  | ⟨3, _⟩ => exact (congrArg (· + d.val) (Host.clampedStart_of_le (s := S64x2x8x128) (t := S1x2x8x128) rfl start 3 0 (h1 3 (by decide)) (by decide))).trans (Nat.zero_add _)

/-- Chunk `n`'s update of the stacked results. -/
theorem update5_at (x : FVec Ideal S64x2x8x32x128 .f32) (u : FVec Ideal S2x8x32x128 .f32) (start : Fin 5 → ℤ) (h0 : start 0 = n.val) (h1 : ∀ a : Fin 5, a ≠ 0 → start a = 0)
    (k : Fin 64) (b : Fin 2) (h : Fin 8) (l : Fin 32) (d : Fin 128) :
    Host.dynamicUpdateSlice x (broadcastInDim S1x2x8x32x128 ![1, 2, 3, 4] bcast_S2x8x32x128_S1x2x8x32x128_1_2_3_4 u) start updateFits_S64x2x8x32x128_S1x2x8x32x128 (ix5 k b h l d)
      = if k = n then u (ix4 b h l d) else x (ix5 k b h l d) := by
  have hn := n.isLt
  have c0 := Host.clampedStart_of_le (s := S64x2x8x32x128) (t := S1x2x8x32x128) rfl start 0 n.val h0 (by show n.val + 1 ≤ 64; omega)
  have c1 := Host.clampedStart_of_le (s := S64x2x8x32x128) (t := S1x2x8x32x128) rfl start 1 0 (h1 1 (by decide)) (by decide)
  have c2 := Host.clampedStart_of_le (s := S64x2x8x32x128) (t := S1x2x8x32x128) rfl start 2 0 (h1 2 (by decide)) (by decide)
  have c3 := Host.clampedStart_of_le (s := S64x2x8x32x128) (t := S1x2x8x32x128) rfl start 3 0 (h1 3 (by decide)) (by decide)
  have c4 := Host.clampedStart_of_le (s := S64x2x8x32x128) (t := S1x2x8x32x128) rfl start 4 0 (h1 4 (by decide)) (by decide)
  rw [Host.dynamicUpdateSlice_apply]
  split
  · next hin =>
    have hk := hin 0
    change Host.clampedStart S64x2x8x32x128 S1x2x8x32x128 _ start 0 ≤ k.val ∧ k.val < Host.clampedStart S64x2x8x32x128 S1x2x8x32x128 _ start 0 + 1 at hk
    rw [c0] at hk
    rw [if_pos (Fin.ext (by omega))]
    pointwise
    refine congrArg u (funext fun a => Fin.ext ?_)
    match a with
    | ⟨0, _⟩ => exact (congrArg (b.val - ·) c1).trans (Nat.sub_zero _)
    | ⟨1, _⟩ => exact (congrArg (h.val - ·) c2).trans (Nat.sub_zero _)
    | ⟨2, _⟩ => exact (congrArg (l.val - ·) c3).trans (Nat.sub_zero _)
    | ⟨3, _⟩ => exact (congrArg (d.val - ·) c4).trans (Nat.sub_zero _)
  · next hin =>
    rw [if_neg fun hk => hin fun a => by
      subst hk
      match a with
      | ⟨0, _⟩ =>
        show Host.clampedStart S64x2x8x32x128 S1x2x8x32x128 _ start 0 ≤ k.val ∧ k.val < Host.clampedStart S64x2x8x32x128 S1x2x8x32x128 _ start 0 + 1
        rw [c0]; omega
      | ⟨1, _⟩ =>
        show Host.clampedStart S64x2x8x32x128 S1x2x8x32x128 _ start 1 ≤ b.val ∧ b.val < Host.clampedStart S64x2x8x32x128 S1x2x8x32x128 _ start 1 + 2
        rw [c1]; omega
      | ⟨2, _⟩ =>
        show Host.clampedStart S64x2x8x32x128 S1x2x8x32x128 _ start 2 ≤ h.val ∧ h.val < Host.clampedStart S64x2x8x32x128 S1x2x8x32x128 _ start 2 + 8
        rw [c2]; omega
      | ⟨3, _⟩ =>
        show Host.clampedStart S64x2x8x32x128 S1x2x8x32x128 _ start 3 ≤ l.val ∧ l.val < Host.clampedStart S64x2x8x32x128 S1x2x8x32x128 _ start 3 + 32
        rw [c3]; omega
      | ⟨4, _⟩ =>
        show Host.clampedStart S64x2x8x32x128 S1x2x8x32x128 _ start 4 ≤ d.val ∧ d.val < Host.clampedStart S64x2x8x32x128 S1x2x8x32x128 _ start 4 + 128
        rw [c4]; omega]

/-- Where a trip's slices start. -/
def start5 : Fin 5 → ℤ := fun k => (((![V (Proc.devRef .tc main_v52_5), constantI S_ 32 0#32, constantI S_ 32 0#32, constantI S_ 32 0#32, constantI S_ 32 0#32] : Fin 5 → (⟨S_, .i32⟩ : BufTy).Contents (Elt Ideal))) k (Shape.Idx.first h_S_)).toInt
def start4 : Fin 4 → ℤ := fun k => (((![V (Proc.devRef .tc main_v52_5), constantI S_ 32 0#32, constantI S_ 32 0#32, constantI S_ 32 0#32] : Fin 4 → (⟨S_, .i32⟩ : BufTy).Contents (Elt Ideal))) k (Shape.Idx.first h_S_)).toInt
theorem word_int : ∀ n : Fin 64, (BitVec.ofNat 32 n.val).toInt = n.val := by decide +kernel
theorem start5_0 (hn : V (D main_v52_5) = fun _ => BitVec.ofNat 32 n.val) : start5 V 0 = n.val :=
  (congrArg BitVec.toInt (congrFun hn (Shape.Idx.first h_S_))).trans (word_int n)
theorem start4_0 (hn : V (D main_v52_5) = fun _ => BitVec.ofNat 32 n.val) : start4 V 0 = n.val :=
  (congrArg BitVec.toInt (congrFun hn (Shape.Idx.first h_S_))).trans (word_int n)
theorem start5_ne (a : Fin 5) (h : a ≠ 0) : start5 V a = 0 := by
  match a with
  | ⟨0, _⟩ => exact absurd rfl h
  | ⟨1, _⟩ => rfl
  | ⟨2, _⟩ => rfl
  | ⟨3, _⟩ => rfl
  | ⟨4, _⟩ => rfl
theorem start4_ne (a : Fin 4) (h : a ≠ 0) : start4 V a = 0 := by
  match a with
  | ⟨0, _⟩ => exact absurd rfl h
  | ⟨1, _⟩ => rfl
  | ⟨2, _⟩ => rfl
  | ⟨3, _⟩ => rfl

/-- Chunk slices of the five stacked operands. -/
def sl5 (x : FVec Ideal S64x2x8x32x128 .f32) : FVec Ideal S2x8x32x128 .f32 :=
  shapeCast S2x8x32x128 (Host.dynamicSlice S1x2x8x32x128 x (start5 V) sliceFits_S64x2x8x32x128_S1x2x8x32x128) shapeCasts_S1x2x8x32x128_S2x8x32x128
def sl4 (x : FVec Ideal S64x2x8x128 .f32) : FVec Ideal S2x8x128 .f32 :=
  shapeCast S2x8x128 (Host.dynamicSlice S1x2x8x128 x (start4 V) sliceFits_S64x2x8x128_S1x2x8x128) shapeCasts_S1x2x8x128_S2x8x128

/-- The state a trip leaves. -/
def nxtT (S : FVec Ideal S2x8x128x128 .f32) (g : FVec Ideal S2x8x128 .f32) (k v : FVec Ideal S2x8x32x128 .f32) : FVec Ideal S2x8x128x128 .f32 :=
  addf (mulf S (broadcastInDim S2x8x128x128 ![0, 1, 2, 3] bcast_S2x8x128x1_S2x8x128x128_0_1_2_3 (broadcastInDim S2x8x128x1 ![0, 1, 2] bcast_S2x8x128_S2x8x128x1_0_1_2 (Host.exp g))))
    (Host.dotGeneral dot_S2x8x32x128_S2x8x32x128_S2x8x128x128_2_2_3_3_01_01 none k v)
theorem nxtT_at (S : FVec Ideal S2x8x128x128 .f32) (g : FVec Ideal S2x8x128 .f32) (k v : FVec Ideal S2x8x32x128 .f32) (b : Fin 2) (h : Fin 8) (d e : Fin 128) :
    nxtT S g k v (ix4 b h d e) = S (ix4 b h d e) * Ideal.exp (g (ix3 b h d)) + ∑ s : Fin 32, N k (ix4 b h s d) * N v (ix4 b h s e) := by
  pointwise [nxtT]

/-- Rows up to a row. -/
def maskT : IVec S32x32 1 :=
  select (cmpi .sge (addi (iotaInDim S32x32 32 0) (broadcastInDim S32x32 ![] bcast_S_S32x32 (constantI S_ 32 0#32))) (iotaInDim S32x32 32 1)) (broadcastInDim S32x32 ![] bcast_S_S32x32 (constantI S_ 1 1#1)) (broadcastInDim S32x32 ![] bcast_S_S32x32 (constantI S_ 1 0#1))
theorem maskT_at : ∀ l s : Fin 32, maskT (ix2 l s) = if s ≤ l then 1#1 else 0#1 := by
  decide +kernel

/-- What a trip reads. -/
def oT (q k v : FVec Ideal S2x8x32x128 .f32) (S : FVec Ideal S2x8x128x128 .f32) : FVec Ideal S2x8x32x128 .f32 :=
  addf (Host.dotGeneral dot_S2x8x32x32_S2x8x32x128_S2x8x32x128_3_2_2_3_01_01 none (select (broadcastInDim S2x8x32x32 ![2, 3] bcast_S32x32_S2x8x32x32_2_3 maskT)
      (Host.dotGeneral dot_S2x8x32x128_S2x8x32x128_S2x8x32x32_3_3_2_2_01_01 none q k) (broadcastInDim S2x8x32x32 ![] bcast_S_S2x8x32x32 (id (constant S_ .f32 0x00000000#32)))) v)
    (Host.dotGeneral dot_S2x8x32x128_S2x8x128x128_S2x8x32x128_3_2_2_3_01_01 none q S)
theorem oT_at (q k v : FVec Ideal S2x8x32x128 .f32) (S : FVec Ideal S2x8x128x128 .f32) (b : Fin 2) (h : Fin 8) (l : Fin 32) (e : Fin 128) :
    oT q k v S (ix4 b h l e)
      = ∑ s : Fin 32, (if s ≤ l then ∑ d : Fin 128, N q (ix4 b h l d) * N k (ix4 b h s d) else 0) * N v (ix4 b h s e)
        + ∑ d : Fin 128, N q (ix4 b h l d) * N S (ix4 b h d e) := by
  pointwise [oT, id_eq]
  simp only [maskT_at]
  refine congrArg (· + _) (Finset.sum_congr rfl fun s _ => ?_)
  split
  · rfl
  · exact (zero_mul _).symm

theorem step6_eq : step_main_v52_6 V = nxtT (V (D main_v52_6)) (sl4 V (V (D main_v52_4))) (sl5 V (V (D main_v52_2))) (sl5 V (V (D main_v52_3))) := by
  unfold step_main_v52_6 res_main_while0b_v76 nxtT sl4 sl5 start5 start4
  rw [id_eq]
  with_reducible_and_instances rfl
theorem step7_eq : step_main_v52_7 V = Host.dynamicUpdateSlice (V (D main_v52_7) : FVec Ideal S64x2x8x32x128 .f32) (broadcastInDim S1x2x8x32x128 ![1, 2, 3, 4] bcast_S2x8x32x128_S1x2x8x32x128_1_2_3_4
    (oT (sl5 V (V (D main_v52_0))) (sl5 V (V (D main_v52_1))) (sl5 V (V (D main_v52_3))) (V (D main_v52_6)))) (start5 V) updateFits_S64x2x8x32x128_S1x2x8x32x128 := by
  unfold step_main_v52_7 res_main_while0b_v73 res_main_while0b_v76 oT maskT sl5 start5
  rw [id_eq]
  with_reducible_and_instances rfl

theorem out_at (k : Fin 64) (b : Fin 2) (h : Fin 8) (l : Fin 32) (e : Fin 128) :
    N (s := S4096x1024) (out_main_v72 V) (ix2 (srow4 b (crow k l)) (hcol h e))
      = fin (fun e => N (s := S64x2x8x32x128) (V (D main_v52_7)) (ix5 k b h l e)) (fun e => N (s := S1x128) (V (D main_arg5)) (ix2 0 e))
          (fun e => N (s := S4096x1024) (V (D main_arg3)) (ix2 (srow4 b (crow k l)) (hcol h e))) e := by
  have hb := b.isLt
  have hk := k.isLt
  have hl := l.isLt
  have hh := h.isLt
  have he := e.isLt
  have h1 : (b.val * 2048 + (k.val * 32 + l.val)) % 2048 = k.val * 32 + l.val := by omega
  have h2 : (b.val * 2048 + (k.val * 32 + l.val)) / 2048 = b.val := by omega
  have h3 : (128 * h.val + e.val) / 128 = h.val := by omega
  have h4 : (128 * h.val + e.val) % 128 = e.val := by omega
  have h5 : (k.val * 32 + l.val) / 32 = k.val := by omega
  have h6 : (k.val * 32 + l.val) % 32 = l.val := by omega
  have h7 : h.val * 128 + e.val = 128 * h.val + e.val := by omega
  dsimp only [N]
  pointwise [out_main_v72]
  simp only [h1, h2, h3, h4, h5, h6, h7, Fin.eta]
  rfl

end Cert.GlaFwdRefIdeal.Fwd
end
end
-- ==== Proof.Gla.Scan.lean ====
/-
  The reference's scan over the extended reals: what it starts from, the state and the results after each trip.
-/
module

public import proofs.«01_k».proof.Proof.Gla.Step

@[expose] public section

set_option maxRecDepth 65536

noncomputable section

namespace Cert.GlaFwdRefIdeal.Fwd

open Idealize.ShloMosaic Idealize.ShloMosaic.TcCoe Idealize.ShloMosaic.StableHlo Idealize.SL.Sem Cert.GlaFwdRefIdeal.Gen Cert.GlaFwdRefIdeal.Value Cert.Gla

variable (m : (ℓ : Loc nD τ sig) → Buf (Elt Ideal) ℓ)

/-- The arguments as launched, by row and column. -/
abbrev a0 (c : Dev nD) (r : Fin 4096) (e : Fin 1024) : EReal := m ((c : Thread nD τ).loc main_arg0) (ix2 r e)
abbrev a1 (c : Dev nD) (r : Fin 4096) (e : Fin 1024) : EReal := m ((c : Thread nD τ).loc main_arg1) (ix2 r e)
abbrev a2 (c : Dev nD) (r : Fin 4096) (e : Fin 1024) : EReal := m ((c : Thread nD τ).loc main_arg2) (ix2 r e)
abbrev a3 (c : Dev nD) (r : Fin 4096) (e : Fin 1024) : EReal := m ((c : Thread nD τ).loc main_arg3) (ix2 r e)
abbrev a4 (c : Dev nD) (e : Fin 1024) : EReal := m ((c : Thread nD τ).loc main_arg4) (ix2 (0 : Fin 1) e)
abbrev a5 (c : Dev nD) (e : Fin 128) : EReal := m ((c : Thread nD τ).loc main_arg5) (ix2 (0 : Fin 1) e)

/-- The contents after each stretch before the scan. -/
def X0 (c : Dev nD) : Valuation τ sig (Elt Ideal) := after hostOps0 (launchContents m c)
def X1 (c : Dev nD) : Valuation τ sig (Elt Ideal) := after hostOps0_1 (X0 m c)
def X2 (c : Dev nD) : Valuation τ sig (Elt Ideal) := after hostOps0_2 (X1 m c)
def X3 (c : Dev nD) : Valuation τ sig (Elt Ideal) := after hostOps0_3 (X2 m c)
theorem entry_eq (c : Dev nD) : entryContents preI m c = after hostOps0_4 (X3 m c) := by
  simp only [entryContents, preI, afterL_cons, afterL_nil]
  rfl

theorem X1_v17 (c : Dev nD) : X1 m c (D main_v17) = X0 m c (D main_v17) := after_of_writes_sub hostOps0_1 _ hostOps0_1_writes (by decide +kernel)
theorem X1_v2 (c : Dev nD) : X1 m c (D main_v2) = X0 m c (D main_v2) := after_of_writes_sub hostOps0_1 _ hostOps0_1_writes (by decide +kernel)
theorem X3_v25 (c : Dev nD) : X3 m c (D main_v25) = X2 m c (D main_v25) := after_of_writes_sub hostOps0_3 _ hostOps0_3_writes (by decide +kernel)
theorem X3_v27 (c : Dev nD) : X3 m c (D main_v27) = X2 m c (D main_v27) := after_of_writes_sub hostOps0_3 _ hostOps0_3_writes (by decide +kernel)
theorem X3_v29 (c : Dev nD) : X3 m c (D main_v29) = X2 m c (D main_v29) := after_of_writes_sub hostOps0_3 _ hostOps0_3_writes (by decide +kernel)

section
variable (c : Dev nD) (n : Fin 64) (b : Fin 2) (h : Fin 8) (l : Fin 32) (d : Fin 128)

/-- Chunk `n` of sequence `b`, of an argument's rows. -/
abbrev ch (A : Fin 4096 → Fin 1024 → EReal) (b : Fin 2) (h : Fin 8) (n : Fin 64) : Fin 32 → Fin 128 → EReal := blk A h (64 * b.val + n.val)
abbrev lbh (c : Dev nD) (h : Fin 8) (d : Fin 128) : EReal := a4 m c (hcol h d)

theorem ch_at (A : Fin 4096 → Fin 1024 → EReal) : ch A b h n l d = A (srow4 b (crow n l)) (hcol h d) := by
  refine congrArg (fun r => A r (hcol h d)) (Fin.ext ?_)
  show (32 * (64 * b.val + n.val) + l.val) % 4096 = b.val * 2048 + (n.val * 32 + l.val)
  omega

theorem X0_v17 : N (s := S2x2048x8x128) (X0 m c (D main_v17)) (ix4 b (crow n l) h d) = fg (ch (a1 m c) b h n) (lbh m c h) l d := by
  unfold X0 fg
  rw [s0_v17, ch_at]
theorem X2_v25 : N (s := S2x64x8x32x128) (X2 m c (D main_v25)) (ix5 b n h l d)
    = ch (a0 m c) b h n l d * Ideal.logistic (ch (a0 m c) b h n l d) * scale := by
  unfold X2
  rw [s2_v25]
  unfold X1
  rw [s1_v18]
  unfold X0
  rw [s0_v0, ch_at]
theorem X2_v27 : N (s := S2x64x8x32x128) (X2 m c (D main_v27)) (ix5 b n h l d) = 1 - fg (ch (a1 m c) b h n) (lbh m c h) l d := by
  unfold X2
  rw [s2_v27, X1_v17, X0_v17]
theorem X2_v29 : N (s := S2x64x8x32x128) (X2 m c (D main_v29)) (ix5 b n h l d) = ch (a2 m c) b h n l d := by
  unfold X2
  rw [s2_v29, X1_v2]
  unfold X0
  rw [s0_v2, ch_at]
theorem X3_v32 : N (s := S2x64x8x32x128) (X3 m c (D main_v32)) (ix5 b n h l d) = cum (ch (a1 m c) b h n) (lbh m c h) l d := by
  unfold X3
  rw [s3_v32]
  unfold cum X2
  refine Finset.sum_congr rfl fun s _ => ?_
  rw [s2_v31, X1_v17, X0_v17]

theorem E_0 : N (s := S64x2x8x32x128) (entryContents preI m c (D main_v52_0)) (ix5 n b h l d) = qd (ch (a0 m c) b h n) (ch (a1 m c) b h n) (lbh m c h) l d := by
  rw [entry_eq, s4_v52_0, X3_v25, X2_v25, X3_v32]
  rfl
theorem E_1 : N (s := S64x2x8x32x128) (entryContents preI m c (D main_v52_1)) (ix5 n b h l d) = ki (ch (a1 m c) b h n) (lbh m c h) l d := by
  rw [entry_eq, s4_v52_1, X3_v27, X2_v27, X3_v32]
  rfl
theorem E_2 : N (s := S64x2x8x32x128) (entryContents preI m c (D main_v52_2)) (ix5 n b h l d) = ke (ch (a1 m c) b h n) (lbh m c h) l d := by
  rw [entry_eq, s4_v52_2, X3_v27, X2_v27, X3_v32, X3_v32]
  rfl
theorem E_3 : N (s := S64x2x8x32x128) (entryContents preI m c (D main_v52_3)) (ix5 n b h l d) = ch (a2 m c) b h n l d := by
  rw [entry_eq, s4_v52_3, X3_v29, X2_v29]
theorem E_4 : N (s := S64x2x8x128) (entryContents preI m c (D main_v52_4)) (ix4 n b h d) = cum (ch (a1 m c) b h n) (lbh m c h) 31 d := by
  rw [entry_eq, s4_v52_4, X3_v32]
theorem E_6 (i : S2x8x128x128.Idx) : N (s := S2x8x128x128) (entryContents preI m c (D main_v52_6)) i = 0 := by
  rw [entry_eq, s4_v52_6]
end

/-- The contents after `k` trips. -/
def T (c : Dev nD) (k : ℕ) : Valuation τ sig (Elt Ideal) := STEP^[k] (entryContents preI m c)
theorem T_succ (c : Dev nD) (k : ℕ) : T m c (k + 1) = STEP (T m c k) := Function.iterate_succ_apply' _ _ _

theorem T_0 (c : Dev nD) : ∀ k, T m c k (D main_v52_0) = entryContents preI m c (D main_v52_0)
  | 0 => rfl
  | k + 1 => by rw [T_succ, STEP_main_v52_0, T_0 c k]
theorem T_1 (c : Dev nD) : ∀ k, T m c k (D main_v52_1) = entryContents preI m c (D main_v52_1)
  | 0 => rfl
  | k + 1 => by rw [T_succ, STEP_main_v52_1, T_1 c k]
theorem T_2 (c : Dev nD) : ∀ k, T m c k (D main_v52_2) = entryContents preI m c (D main_v52_2)
  | 0 => rfl
  | k + 1 => by rw [T_succ, STEP_main_v52_2, T_2 c k]
theorem T_3 (c : Dev nD) : ∀ k, T m c k (D main_v52_3) = entryContents preI m c (D main_v52_3)
  | 0 => rfl
  | k + 1 => by rw [T_succ, STEP_main_v52_3, T_3 c k]
theorem T_4 (c : Dev nD) : ∀ k, T m c k (D main_v52_4) = entryContents preI m c (D main_v52_4)
  | 0 => rfl
  | k + 1 => by rw [T_succ, STEP_main_v52_4, T_4 c k]
theorem T_5 (c : Dev nD) : ∀ k, T m c k (D main_v52_5) = fun _ => BitVec.ofNat 32 k
  | 0 => ctr_entry m c
  | k + 1 => by
    rw [T_succ, STEP_main_v52_5]
    unfold step_main_v52_5
    rw [T_5 c k]
    exact funext fun _ => (BitVec.ofNat_add (n := 32) k 1).symm

section
variable (c : Dev nD) (b : Fin 2) (h : Fin 8)

theorem sl5_at (k : ℕ) (hk : k < 64) (x : FVec Ideal S64x2x8x32x128 .f32) (l : Fin 32) (d : Fin 128) :
    N (sl5 (T m c k) x) (ix4 b h l d) = N x (ix5 ⟨k, hk⟩ b h l d) :=
  slice5_at ⟨k, hk⟩ x _ (start5_0 _ ⟨k, hk⟩ (T_5 m c k)) (start5_ne _) b h l d
theorem sl4_at (k : ℕ) (hk : k < 64) (x : FVec Ideal S64x2x8x128 .f32) (d : Fin 128) :
    N (sl4 (T m c k) x) (ix3 b h d) = N x (ix4 ⟨k, hk⟩ b h d) :=
  slice4_at ⟨k, hk⟩ x _ (start4_0 _ ⟨k, hk⟩ (T_5 m c k)) (start4_ne _) b h d

/-- One trip's state, in the whole arrays. -/
theorem trip6_at (k : ℕ) (hk : k < 64) (S : FVec Ideal S2x8x128x128 .f32) (g : FVec Ideal S64x2x8x128 .f32)
    (x y : FVec Ideal S64x2x8x32x128 .f32)
    {S' : EReal} {g' : Fin 128 → EReal} {x' y' : Fin 32 → Fin 128 → EReal} (d e : Fin 128)
    (hS : N S (ix4 b h d e) = S') (hg : ∀ d, N g (ix4 ⟨k, hk⟩ b h d) = g' d)
    (hx : ∀ l d, N x (ix5 ⟨k, hk⟩ b h l d) = x' l d) (hy : ∀ l d, N y (ix5 ⟨k, hk⟩ b h l d) = y' l d) :
    N (nxtT S (sl4 (T m c k) g) (sl5 (T m c k) x) (sl5 (T m c k) y)) (ix4 b h d e)
      = S' * Ideal.exp (g' d) + ∑ s : Fin 32, x' s d * y' s e := by
  refine (nxtT_at _ _ _ _ b h d e).trans ?_
  refine congr (congrArg HAdd.hAdd (congr (congrArg HMul.hMul hS) (congrArg Ideal.exp ((sl4_at m c b h k hk g d).trans (hg d)))))
    (Finset.sum_congr rfl fun s _ => ?_)
  exact congr (congrArg HMul.hMul ((sl5_at m c b h k hk x s d).trans (hx s d))) ((sl5_at m c b h k hk y s e).trans (hy s e))

/-- One trip's reading, in the whole arrays. -/
theorem trip7_at (k : ℕ) (hk : k < 64) (S : FVec Ideal S2x8x128x128 .f32) (x y z : FVec Ideal S64x2x8x32x128 .f32)
    {S' : Fin 128 → Fin 128 → EReal} {x' y' z' : Fin 32 → Fin 128 → EReal} (l : Fin 32) (e : Fin 128)
    (hS : ∀ d e, N S (ix4 b h d e) = S' d e) (hx : ∀ l d, N x (ix5 ⟨k, hk⟩ b h l d) = x' l d)
    (hy : ∀ l d, N y (ix5 ⟨k, hk⟩ b h l d) = y' l d) (hz : ∀ l d, N z (ix5 ⟨k, hk⟩ b h l d) = z' l d) :
    N (oT (sl5 (T m c k) x) (sl5 (T m c k) y) (sl5 (T m c k) z) S) (ix4 b h l e)
      = (∑ s : Fin 32, (if s ≤ l then ∑ d : Fin 128, x' l d * y' s d else 0) * z' s e) + ∑ d : Fin 128, x' l d * S' d e := by
  refine (oT_at _ _ _ _ b h l e).trans ?_
  have hx := fun l d => (sl5_at m c b h k hk x l d).trans (hx l d)
  have hy := fun l d => (sl5_at m c b h k hk y l d).trans (hy l d)
  have hz := fun l d => (sl5_at m c b h k hk z l d).trans (hz l d)
  refine congr (congrArg HAdd.hAdd (Finset.sum_congr rfl fun s _ => congr (congrArg HMul.hMul ?_) (hz s e)))
    (Finset.sum_congr rfl fun d _ => congr (congrArg HMul.hMul (hx l d)) (hS d e))
  split
  · exact Finset.sum_congr rfl fun d _ => congr (congrArg HMul.hMul (hx l d)) (hy s d)
  · rfl

/-- The state after `k` trips is the recurrence's. -/
theorem T_6 : ∀ k, k ≤ 64 → ∀ d e : Fin 128,
    N (s := S2x8x128x128) (T m c k (D main_v52_6)) (ix4 b h d e) = st (a1 m c) (a2 m c) (a4 m c) b.val h k d e
  | 0, _, d, e => E_6 m c _
  | k + 1, hk, d, e => by
    have hl : k < 64 := hk
    rw [T_succ, STEP_main_v52_6, step6_eq]
    rw [T_4, T_2, T_3]
    refine (trip6_at m c b h k hl _ _ _ _ d e (T_6 k (Nat.le_of_lt hl) d e) (fun d => E_4 m c ⟨k, hl⟩ b h d)
      (fun l d => E_2 m c ⟨k, hl⟩ b h l d) (fun l d => E_3 m c ⟨k, hl⟩ b h l d)).trans ?_
    rfl

/-- What a trip reads is the recurrence's reading. -/
theorem read_at (k : ℕ) (hl : k < 64) (l : Fin 32) (e : Fin 128) :
    N (oT (sl5 (T m c k) (T m c k (D main_v52_0))) (sl5 (T m c k) (T m c k (D main_v52_1))) (sl5 (T m c k) (T m c k (D main_v52_3)))
      (T m c k (D main_v52_6))) (ix4 b h l e) = rd (a0 m c) (a1 m c) (a2 m c) (a4 m c) b.val h k l e := by
  rw [T_0, T_1, T_3]
  refine (trip7_at m c b h k hl _ _ _ _ l e (T_6 m c b h k (Nat.le_of_lt hl)) (fun l d => E_0 m c ⟨k, hl⟩ b h l d)
    (fun l d => E_1 m c ⟨k, hl⟩ b h l d) (fun l d => E_3 m c ⟨k, hl⟩ b h l d)).trans ?_
  rfl

/-- The results after `k` trips: the chunks before `k` are read. -/
theorem T_7 : ∀ k, k ≤ 64 → ∀ (n : Fin 64), n.val < k → ∀ (l : Fin 32) (e : Fin 128),
    N (s := S64x2x8x32x128) (T m c k (D main_v52_7)) (ix5 n b h l e) = rd (a0 m c) (a1 m c) (a2 m c) (a4 m c) b.val h n.val l e
  | 0, _, n, hn, l, e => absurd hn (Nat.not_lt_zero _)
  | k + 1, hk, n, hn, l, e => by
    have hl : k < 64 := hk
    rw [T_succ, STEP_main_v52_7, step7_eq]
    refine (update5_at ⟨k, hl⟩ _ _ _ (start5_0 _ ⟨k, hl⟩ (T_5 m c k)) (start5_ne _) n b h l e).trans ?_
    split
    · next he =>
      subst he
      exact read_at m c b h k hl l e
    · next he =>
      have : n.val ≠ k := fun q => he (Fin.ext q)
      exact T_7 k (Nat.le_of_lt hl) n (by omega) l e
end

/-- The result, at an index. -/
theorem result_at (c : Dev nD) (b : Fin 2) (n : Fin 64) (l : Fin 32) (h : Fin 8) (e : Fin 128) :
    N (s := S4096x1024) (out_main_v72 (T m c 64)) (ix2 (srow4 b (crow n l)) (hcol h e))
      = res (a0 m c) (a1 m c) (a2 m c) (a3 m c) (a4 m c) (a5 m c) b.val h n.val l e := by
  rw [out_at]
  unfold res
  refine congr (congr (congr (congrArg fin (funext fun e => T_7 m c b h 64 le_rfl n n.isLt l e)) ?_) ?_) rfl
  · funext e
    exact congrFun (iter_main_arg5 m c 64) (ix2 0 e)
  · funext e
    exact (congrFun (iter_main_arg3 m c 64) _).trans (ch_at n b h l e (a3 m c)).symm

end Cert.GlaFwdRefIdeal.Fwd
end
end
-- ==== Proof.Gla.Fwd.lean ====
/-
  The claims of the forward scan: the kernel's array and the reference's are the same function of the arguments.
-/
module

public import proofs.«01_k».proof.Defs
public import proofs.«01_k».proof.Proof.Gla.Floats
public import proofs.«01_k».proof.Proof.Gla.Frame
public import proofs.«01_k».proof.Proof.Gla.Value
public import proofs.«01_k».proof.Proof.Gla.Scan
public import proofs.«01_k».proof.Proof.Ext2

@[expose] public section

set_option maxRecDepth 65536

noncomputable section

open Idealize.ShloMosaic Idealize.ShloMosaic.TcCoe Idealize.SL.Sem Cert.Common Cert.Gla

namespace Cert.GlaFwdRefIdeal.Fwd

open Cert.GlaFwdRefIdeal.Value

/-- The reference's result, from its arguments. -/
def arr (m : (ℓ : Loc nD τ sig) → Buf (Elt Ideal) ℓ) (c : Dev nD) (r : Fin 4096) (e : Fin 1024) : EReal :=
  res (a0 m c) (a1 m c) (a2 m c) (a3 m c) (a4 m c) (a5 m c) (r.val / 2048) ⟨e.val / 128, by omega⟩ (r.val / 32 % 64)
    ⟨r.val % 32, by omega⟩ ⟨e.val % 128, by omega⟩

theorem result (m : (ℓ : Loc nD τ sig) → Buf (Elt Ideal) ℓ) (c : Dev nD) :
    (out_main_v72 (T m c 64) : (⟨2, ![4096, 1024]⟩ : Shape).Idx → EReal) = fun i => arr m c (i 0) (i 1) := by
  refine ext2 fun r e => ?_
  have h := result_at m c ⟨r.val / 2048, by omega⟩ ⟨r.val / 32 % 64, by omega⟩ ⟨r.val % 32, by omega⟩ ⟨e.val / 128, by omega⟩ ⟨e.val % 128, by omega⟩
  have hr : srow4 ⟨r.val / 2048, by omega⟩ (crow ⟨r.val / 32 % 64, by omega⟩ ⟨r.val % 32, by omega⟩) = r := Fin.ext (by
    show r.val / 2048 * 2048 + (r.val / 32 % 64 * 32 + r.val % 32) = r.val
    omega)
  have he : hcol ⟨e.val / 128, by omega⟩ ⟨e.val % 128, by omega⟩ = e := Fin.ext (by
    show 128 * (e.val / 128) + e.val % 128 = e.val
    omega)
  rw [hr, he] at h
  exact h

end Cert.GlaFwdRefIdeal.Fwd

namespace Cert.GlaFwd.Claims

theorem frame_kernel : Cert.quiescent_GlaFwd := fun m ρ _ => Cert.GlaFwd.frame m ρ
theorem frame_ideal : Cert.quiescent_GlaFwdIdeal := fun m ρ _ => Cert.GlaFwdIdeal.Gen.frame m ρ
theorem frame_ref : Cert.quiescent_GlaFwdRefIdeal := fun m ρ _ =>
  (θ_run Cert.GlaFwdRefIdeal.defs _ _).mono (fun _ h => ⟨fun c => (h c).2, Idealize.ShloMosaic.sem_eq_zero_of_no_sems (by decide) _⟩)
    (Cert.GlaFwdRefIdeal.Value.run m ρ)

/-- Over the extended reals the scan's forward is the reference's recurrence, chunk by chunk. -/
theorem value : Cert.algebraic_GlaFwdIdeal_GlaFwdRefIdeal := fun m ρ m' ρ' _ hag =>
  ⟨fun c => (Cert.GlaFwdIdeal.Gen.dats m 0 c).arrAt 6 Cert.GlaFwdIdeal.cfg0.N,
    Cert.GlaFwdIdeal.Fwd.run_blocks m ρ,
    (θ_run _ _ _).mono (fun _ h c => by
      obtain ⟨h0, hr⟩ := h c
      obtain ⟨e0, e1, e2, e3, e4, e5⟩ := hag c
      refine ⟨h0.trans ((Cert.GlaFwdRefIdeal.Fwd.result m' c).trans ((?_ : _ = _).trans (Cert.GlaFwdIdeal.Fwd.arr6 m c).symm)), hr⟩
      have f0 : Cert.GlaFwdRefIdeal.Fwd.a0 m' c = Cert.GlaFwdIdeal.Fwd.a0 m c := funext fun r => funext fun e => congrFun e0 (ix2 r e)
      have f1 : Cert.GlaFwdRefIdeal.Fwd.a1 m' c = Cert.GlaFwdIdeal.Fwd.a1 m c := funext fun r => funext fun e => congrFun e1 (ix2 r e)
      have f2 : Cert.GlaFwdRefIdeal.Fwd.a2 m' c = Cert.GlaFwdIdeal.Fwd.a2 m c := funext fun r => funext fun e => congrFun e2 (ix2 r e)
      have f3 : Cert.GlaFwdRefIdeal.Fwd.a3 m' c = Cert.GlaFwdIdeal.Fwd.a3 m c := funext fun r => funext fun e => congrFun e3 (ix2 r e)
      have f4 : Cert.GlaFwdRefIdeal.Fwd.a4 m' c = Cert.GlaFwdIdeal.Fwd.a4 m c := funext fun e => congrFun e4 (ix2 (0 : Fin 1) e)
      have f5 : Cert.GlaFwdRefIdeal.Fwd.a5 m' c = Cert.GlaFwdIdeal.Fwd.a5 m c := funext fun e => congrFun e5 (ix2 (0 : Fin 1) e)
      unfold Cert.GlaFwdRefIdeal.Fwd.arr Cert.GlaFwdIdeal.Fwd.arr
      rw [f0, f1, f2, f3, f4, f5]
      rfl) (Cert.GlaFwdRefIdeal.Value.run m' ρ')⟩

end Cert.GlaFwd.Claims
end
end
-- ==== Proof.Opt.AdamUp.lean ====
/-
  The optimiser's step on a weight of 4096 rows of 1408 columns: a block of 256 rows at a point, element by element.
-/
module

public import proofs.«01_k».proof.Proof.Kit
public import proofs.«01_k».proof.Proof.Gen.AdamUp.Frame
public import proofs.«01_k».proof.Proof.Gen.AdamUpIdeal.Value
public import proofs.«01_k».proof.Proof.Gen.AdamUpRefIdeal.Run

@[expose] public section

set_option maxRecDepth 16384

noncomputable section

open Idealize.ShloMosaic Idealize.ShloMosaic.TcCoe Idealize.SL.Sem Cert.Common

namespace Cert.Adam

/-- A constant of the step. -/
abbrev k (b : BitVec 32) : EReal := Ideal.ofBits .f32 b

variable (w g m v h : EReal)

/-- The new first moment, of the gradient's two halves. -/
def mom : EReal := k 0x3F666666#32 * m + k 0x3DCCCCCD#32 * (g + h)
/-- The new second moment. -/
def sqr : EReal := k 0x3F7FBE77#32 * v + k 0x3A83126F#32 * ((g + h) * (g + h))
/-- What the weight moves by. -/
def delta : EReal :=
  k 0xBA83126F#32 * (Ideal.div (Ideal.div (mom g m h) (k 0x3F26BD02#32))
    (Ideal.sqrt (Ideal.div (sqr g v h) (k 0x3C231ACC#32)) + k 0x322BCC77#32) + k 0x3C23D70A#32 * w)

end Cert.Adam

namespace Cert.AdamUpIdeal.Opt

open Cert.AdamUpIdeal Cert.AdamUpIdeal.Gen Cert.Adam

variable (m : (ℓ : Loc nD τ sig) → Buf (Elt Ideal) ℓ)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
theorem idx7 : ∀ t : Fin grid0.N, win0_7.index t = ![t.val, 0] := by decide +kernel
theorem idx8 : ∀ t : Fin grid0.N, win0_8.index t = ![t.val, 0] := by decide +kernel

/-- An element of a block. -/
abbrev el (x : Vec Ideal S256x1408 .f32) (p : Fin 256) (e : Fin 1408) : EReal := x (ix2 p e)

section
variable (x0 x1 x2 x3 x4 : Vec Ideal S256x1408 .f32) (p : Fin 256) (e : Fin 1408)
theorem pay1_at : k0_pay1 x1 x2 (ix2 p e) = el x1 p e + el x2 p e := by
  pointwise [k0_pay1]
theorem pay2_at : k0_pay2 x1 x2 x3 (ix2 p e) = mom (el x1 p e) (el x3 p e) (el x2 p e) := by
  pointwise [k0_pay2, k0_pay1]
  rfl
theorem pay3_at : k0_pay3 x1 x2 x4 (ix2 p e) = sqr (el x1 p e) (el x4 p e) (el x2 p e) := by
  pointwise [k0_pay3, k0_pay1]
  rfl
theorem pay4_at : k0_pay4 x0 x1 x2 x3 x4 (ix2 p e) = delta (el x0 p e) (el x1 p e) (el x3 p e) (el x4 p e) (el x2 p e) := by
  pointwise [k0_pay4, k0_pay3, k0_pay2, k0_pay1]
  rfl
end

/-- The arguments as launched: the weight, the gradient's halves and the moments. -/
abbrev aw (c : Dev nD) (r : Fin 4096) (e : Fin 1408) : EReal := m ((c : Thread nD τ).loc main_arg0) (ix2 r e)
abbrev ag (c : Dev nD) (r : Fin 4096) (e : Fin 1408) : EReal := m ((c : Thread nD τ).loc main_arg1) (ix2 r e)
abbrev am (c : Dev nD) (r : Fin 4096) (e : Fin 1408) : EReal := m ((c : Thread nD τ).loc main_arg2) (ix2 r e)
abbrev av (c : Dev nD) (r : Fin 4096) (e : Fin 1408) : EReal := m ((c : Thread nD τ).loc main_arg3) (ix2 r e)
abbrev ah (c : Dev nD) (r : Fin 4096) (e : Fin 1408) : EReal := m ((c : Thread nD τ).loc main_arg4) (ix2 r e)

/-- Row `p` of point `t`'s blocks. -/
abbrev rowOf (t : Fin cfg0.N) (p : Fin 256) : Fin 4096 :=
  ⟨t.val * 256 + p.val, by have : t.val < 16 := lt_of_lt_of_eq t.isLt Gen.N_0; omega⟩

section
variable (c : Dev nD) (t : Fin cfg0.N) (p : Fin 256) (e : Fin 1408)
theorem blk0 : el (iblk m c 0 t) p e = aw m c (rowOf t p) e := by
  unfold el aw
  blk_ext [iblk, V, idx0 t]
theorem blk1 : el (iblk m c 1 t) p e = ag m c (rowOf t p) e := by
  unfold el ag
  blk_ext [iblk, V, idx1 t]
theorem blk2 : el (iblk m c 2 t) p e = ah m c (rowOf t p) e := by
  unfold el ah
  blk_ext [iblk, V, idx2 t]
theorem blk3 : el (iblk m c 3 t) p e = am m c (rowOf t p) e := by
  unfold el am
  blk_ext [iblk, V, idx3 t]
theorem blk4 : el (iblk m c 4 t) p e = av m c (rowOf t p) e := by
  unfold el av
  blk_ext [iblk, V, idx4 t]
end

/-- The four results, from the arguments. -/
def rg (c : Dev nD) (r : Fin 4096) (e : Fin 1408) : EReal := ag m c r e + ah m c r e
def rd (c : Dev nD) (r : Fin 4096) (e : Fin 1408) : EReal := delta (aw m c r e) (ag m c r e) (am m c r e) (av m c r e) (ah m c r e)
def rm (c : Dev nD) (r : Fin 4096) (e : Fin 1408) : EReal := mom (ag m c r e) (am m c r e) (ah m c r e)
def rv (c : Dev nD) (r : Fin 4096) (e : Fin 1408) : EReal := sqr (ag m c r e) (av m c r e) (ah m c r e)

theorem arr5 (c : Dev nD) : (dats m 0 c).arrAt 5 cfg0.N = fun i => rg m c (i 0) (i 1) := by
  refine (dats m 0 c).arrAt_eq_of_covers 5 _ (by decide +kernel) fun t hf y => ?_
  blk_simp
  rw [after0_5]
  obtain ⟨p, q, rfl⟩ : ∃ (p : Fin 256) (q : Fin 1408), y = ix2 p q := ⟨y 0, y 1, eq_ix2 y⟩
  have hy : ((cfg0.win 5).blk t).view.emb (ix2 p q) = (ix2 (rowOf t p) q : S4096x1408.Idx) := by
    blk_ext [idx5 t]
  refine Eq.trans ?_ (congrArg (fun i : S4096x1408.Idx => rg m c (i 0) (i 1)) hy).symm
  unfold out0_5
  frame_out
  refine (pay1_at _ _ p q).trans ?_
  rw [blk1, blk2]
  rfl

theorem arr6 (c : Dev nD) : (dats m 0 c).arrAt 6 cfg0.N = fun i => rd m c (i 0) (i 1) := by
  refine (dats m 0 c).arrAt_eq_of_covers 6 _ (by decide +kernel) fun t hf y => ?_
  blk_simp
  rw [after0_6]
  obtain ⟨p, q, rfl⟩ : ∃ (p : Fin 256) (q : Fin 1408), y = ix2 p q := ⟨y 0, y 1, eq_ix2 y⟩
  have hy : ((cfg0.win 6).blk t).view.emb (ix2 p q) = (ix2 (rowOf t p) q : S4096x1408.Idx) := by
    blk_ext [idx6 t]
  refine Eq.trans ?_ (congrArg (fun i : S4096x1408.Idx => rd m c (i 0) (i 1)) hy).symm
  unfold out0_6
  frame_out
  refine (pay4_at _ _ _ _ _ p q).trans ?_
  rw [blk0, blk1, blk2, blk3, blk4]
  rfl

theorem arr7 (c : Dev nD) : (dats m 0 c).arrAt 7 cfg0.N = fun i => rm m c (i 0) (i 1) := by
  refine (dats m 0 c).arrAt_eq_of_covers 7 _ (by decide +kernel) fun t hf y => ?_
  blk_simp
  rw [after0_7]
  obtain ⟨p, q, rfl⟩ : ∃ (p : Fin 256) (q : Fin 1408), y = ix2 p q := ⟨y 0, y 1, eq_ix2 y⟩
  have hy : ((cfg0.win 7).blk t).view.emb (ix2 p q) = (ix2 (rowOf t p) q : S4096x1408.Idx) := by
    blk_ext [idx7 t]
  refine Eq.trans ?_ (congrArg (fun i : S4096x1408.Idx => rm m c (i 0) (i 1)) hy).symm
  unfold out0_7
  frame_out
  refine (pay2_at _ _ _ p q).trans ?_
  rw [blk1, blk2, blk3]
  rfl

theorem arr8 (c : Dev nD) : (dats m 0 c).arrAt 8 cfg0.N = fun i => rv m c (i 0) (i 1) := by
  refine (dats m 0 c).arrAt_eq_of_covers 8 _ (by decide +kernel) fun t hf y => ?_
  blk_simp
  rw [after0_8]
  obtain ⟨p, q, rfl⟩ : ∃ (p : Fin 256) (q : Fin 1408), y = ix2 p q := ⟨y 0, y 1, eq_ix2 y⟩
  have hy : ((cfg0.win 8).blk t).view.emb (ix2 p q) = (ix2 (rowOf t p) q : S4096x1408.Idx) := by
    blk_ext [idx8 t]
  refine Eq.trans ?_ (congrArg (fun i : S4096x1408.Idx => rv m c (i 0) (i 1)) hy).symm
  unfold out0_8
  frame_out
  refine (pay3_at _ _ _ p q).trans ?_
  rw [blk1, blk2, blk4]
  rfl

end Cert.AdamUpIdeal.Opt

namespace Cert.AdamUp.Claims

/-- The reference's frame: its generated run, read at the arguments. -/
theorem frame_ref : Cert.quiescent_AdamUpRefIdeal := fun m ρ _ =>
  (θ_run Cert.AdamUpRefIdeal.defs _ _).mono (fun _ h => ⟨fun c => (h c).2.2.2.2, Idealize.ShloMosaic.sem_eq_zero_of_no_sems (by decide) _⟩)
    (Cert.AdamUpRefIdeal.Value.run m ρ)

/-- The kernel's four results are the reference's over the extended reals. -/
theorem value : Cert.algebraic_AdamUpIdeal_AdamUpRefIdeal := fun m ρ m' ρ' _ hag =>
  ⟨fun c => (Cert.AdamUpIdeal.Gen.dats m 0 c).arrAt 5 Cert.AdamUpIdeal.cfg0.N,
    fun c => (Cert.AdamUpIdeal.Gen.dats m 0 c).arrAt 6 Cert.AdamUpIdeal.cfg0.N,
    fun c => (Cert.AdamUpIdeal.Gen.dats m 0 c).arrAt 7 Cert.AdamUpIdeal.cfg0.N,
    fun c => (Cert.AdamUpIdeal.Gen.dats m 0 c).arrAt 8 Cert.AdamUpIdeal.cfg0.N,
    Cert.AdamUpIdeal.Value.run_blocks m ρ,
    (θ_run _ _ _).mono (fun _ h c => by
      obtain ⟨h0, h1, h2, h3, hr⟩ := h c
      obtain ⟨a0, a1, a2, a3, a4⟩ := hag c
      refine ⟨h0.trans ?_, h1.trans ?_, h2.trans ?_, h3.trans ?_, hr⟩
      · rw [a1, a4]
        exact (ext2 fun r e => by pointwise; rfl).trans (Cert.AdamUpIdeal.Opt.arr5 m c).symm
      · rw [a0, a1, a2, a3, a4]
        exact (ext2 fun r e => by pointwise; rfl).trans (Cert.AdamUpIdeal.Opt.arr6 m c).symm
      · rw [a1, a2, a4]
        exact (ext2 fun r e => by pointwise; rfl).trans (Cert.AdamUpIdeal.Opt.arr7 m c).symm
      · rw [a1, a3, a4]
        exact (ext2 fun r e => by pointwise; rfl).trans (Cert.AdamUpIdeal.Opt.arr8 m c).symm)
      (Cert.AdamUpRefIdeal.Value.run m' ρ')⟩

end Cert.AdamUp.Claims

end
end
-- ==== Proof.Cols.Head.lean ====
/-
  The loss head: the norm of the last layer's output, half the mean squared error against the target, and the gradients of
  the output and of the norm's weight, 512 rows at a point. The loss and the weight's gradient are added up over the
  points. Both programs' results are stated through the functions of one row in `Cert.Norm` and `Cert.Head`.
-/
module

public import proofs.«01_k».proof.Proof.Kit
public import proofs.«01_k».proof.Proof.Cols.Norm
public import proofs.«01_k».proof.Proof.Gen.HeadBwd.Frame
public import proofs.«01_k».proof.Proof.Gen.HeadBwdIdeal.Value
public import proofs.«01_k».proof.Proof.Gen.HeadBwdRefIdeal.Run

@[expose] public section

set_option maxRecDepth 16384

noncomputable section

open Idealize.ShloMosaic Idealize.ShloMosaic.TcCoe Idealize.SL.Sem Cert.Common

namespace Cert.Head

open Cert.Norm

/-- One half. -/
abbrev half : EReal := Ideal.ofBits .f32 0x3F000000#32

/-- One half times a sum. -/
theorem half_sum {ι : Type} (s : Finset ι) (f : ι → EReal) : half * ∑ i ∈ s, f i = ∑ i ∈ s, half * f i := by
  have e : half = (((1 : ℝ) / 2 : ℝ) : EReal) := by
    simp [half, Ideal.ofBits, Ideal.ieee, -EReal.coe_mul]; norm_num
  classical
  induction s using Finset.induction_on with
  | empty => simp
  | insert a s ha ih =>
    rw [Finset.sum_insert ha, Finset.sum_insert ha, ← ih, e]
    exact EReal.left_distrib_of_nonneg_of_ne_top (EReal.coe_nonneg.mpr (by norm_num)) (EReal.coe_ne_top _) _ _

variable (x t w : Fin 1024 → EReal)

/-- The row's errors. -/
def err (e : Fin 1024) : EReal := x e * rs x * w e - t e
/-- Their mean square. -/
def sq : EReal := Ideal.div (∑ e, err x t w e * err x t w e) len
/-- What a square's derivative is multiplied with. -/
def ct : EReal := Ideal.div half len
/-- The gradient of the norm's result. -/
def g (e : Fin 1024) : EReal := err x t w e * ct + ct * err x t w e
/-- The gradient of the row. -/
def dxr (e : Fin 1024) : EReal := g x t w e * w e * rs x + x e * back x (g x t w) w + back x (g x t w) w * x e

/-- The gradient of all rows. -/
def gradX (x t : Fin 4096 → Fin 1024 → EReal) (w : Fin 1024 → EReal) (p : Fin 4096) (e : Fin 1024) : EReal :=
  dxr (x p) (t p) w e
/-- The loss, at every column. -/
def loss (x t : Fin 4096 → Fin 1024 → EReal) (w : Fin 1024 → EReal) (_ : Fin 1) (_ : Fin 128) : EReal :=
  half * ∑ p, sq (x p) (t p) w
/-- The weight's gradient. -/
def gradW (x t : Fin 4096 → Fin 1024 → EReal) (w : Fin 1024 → EReal) (_ : Fin 1) (e : Fin 1024) : EReal :=
  ∑ p, dw (x p) (g (x p) (t p) w) e

end Cert.Head

namespace Cert.HeadBwdIdeal.Cols

open Cert.HeadBwdIdeal Cert.HeadBwdIdeal.Gen Cert.Norm Cert.Head

variable (m : (ℓ : Loc nD τ sig) → Buf (Elt Ideal) ℓ)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel
theorem idx3 : ∀ t : Fin grid0.N, win0_3.index t = ![t.val, 0] := by decide +kernel
theorem idx4 : ∀ t : Fin grid0.N, win0_4.index t = ![0, 0] := by decide +kernel
theorem idx5 : ∀ t : Fin grid0.N, win0_5.index t = ![0, 0] := by decide +kernel

/-- A row of a block. -/
abbrev row (x : Vec Ideal S512x1024 .f32) (p : Fin 512) (e : Fin 1024) : EReal := x (ix2 p e)
/-- The weight's block. -/
abbrev wrow (w : Vec Ideal S1x1024 .f32) (e : Fin 1024) : EReal := w (ix2 0 e)

variable (x tg : Vec Ideal S512x1024 .f32) (w : Vec Ideal S1x1024 .f32)

theorem ms_at (p : Fin 512) (z : Fin 1) : k0_pay6 x (ix2 p z) = ms (row x p) := by
  pointwise [k0_pay6]
  rfl
theorem rs_at (p : Fin 512) (z : Fin 1) : k0_pay7 x (ix2 p z) = rs (row x p) := by
  pointwise [k0_pay7]
  rw [ms_at]
  rfl
theorem err_at (p : Fin 512) (e : Fin 1024) : k0_pay10 x tg w (ix2 p e) = err (row x p) (row tg p) (wrow w) e := by
  pointwise [k0_pay10, k0_pay9]
  rw [rs_at]
  rfl
theorem g_at (p : Fin 512) (e : Fin 1024) : k0_pay12 x tg w (ix2 p e) = g (row x p) (row tg p) (wrow w) e := by
  pointwise [k0_pay12]
  simp only [err_at]
  rfl

/-- What a block's rows add to the loss. -/
def lpart : EReal := half * ∑ p : Fin 512, sq (row x p) (row tg p) (wrow w)
/-- What they add to the weight's gradient. -/
def part (e : Fin 1024) : EReal := ∑ p : Fin 512, dw (row x p) (g (row x p) (row tg p) (wrow w)) e

theorem lpart_at : k0_pay11 x tg w = lpart x tg w := by
  unfold lpart
  pointwise [k0_pay11]
  simp only [err_at]
  rfl

theorem part_at (z : Fin 1) (e : Fin 1024) : k0_pay13 x tg w (ix2 z e) = part x tg w e := by
  unfold part
  pointwise [k0_pay13, k0_pay9]
  simp only [rs_at, g_at]
  rfl

theorem dx_at (p : Fin 512) (e : Fin 1024) :
    k0_pay1 x (k0_pay7 x) (k0_pay8 x) (k0_pay12 x tg w) (k0_pay14 w) (ix2 p e) = dxr (row x p) (row tg p) (wrow w) e := by
  unfold dxr back
  pointwise [k0_pay1, k0_pay8, k0_pay14]
  simp only [rs_at, ms_at, g_at, Fin.sum_univ_one]

theorem out3 (c : Dev nD) (t : Fin cfg0.N) (p : Fin 512) (e : Fin 1024) :
    (outsAt0 m c t.val t.isLt).1 (ix2 p e)
      = dxr (row (iblk m c 0 t) p) (row (iblk m c 1 t) p) (wrow (iblk m c 2 t)) e := by
  refine Eq.trans ?_ (dx_at _ _ _ p e)
  by_cases h : t.val % 8 = 0
  · rw [outsAt0_A m c t h]
    frame_open
    simp (disch := decide) only [↓ View.readCov_skip, ↓ View.readCov_cons_toLoadRect, ↓ View.readCov_fill]
    frame_out
    done
  · rw [outsAt0_B m c t h]
    frame_open
    simp (disch := decide) only [↓ View.readCov_skip, ↓ View.readCov_cons_toLoadRect, ↓ View.readCov_fill]
    frame_out
    done

theorem loss_A (c : Dev nD) (t : Fin cfg0.N) (ht : t.val % 8 = 0) (q : Fin 128) :
    (outsAt0 m c t.val t.isLt).2.1 (ix2 0 q) = 0 + lpart (iblk m c 0 t) (iblk m c 1 t) (iblk m c 2 t) := by
  rw [outsAt0_A m c t ht]
  frame_open
  simp (disch := decide) only [↓ View.readCov_skip, ↓ View.readCov_cons_toLoadRect, ↓ View.readCov_fill]
  frame_out
  rw [← lpart_at _ _ _]
  pointwise [k0_pay4, k0_pay2]
  done

theorem loss_B (c : Dev nD) (t : Fin cfg0.N) (ht : ¬ t.val % 8 = 0) (q : Fin 128) :
    (outsAt0 m c t.val t.isLt).2.1 (ix2 0 q)
      = (outsAt0 m c (t.val - 1) (Nat.lt_of_le_of_lt (Nat.sub_le _ _) t.isLt)).2.1 (ix2 0 q)
        + lpart (iblk m c 0 t) (iblk m c 1 t) (iblk m c 2 t) := by
  rw [outsAt0_B m c t ht]
  frame_open
  simp (disch := decide) only [↓ View.readCov_skip, ↓ View.readCov_cons_toLoadRect, ↓ View.readCov_fill]
  frame_out
  rw [← lpart_at _ _ _]
  pointwise [k0_pay4]
  done

theorem acc_A (c : Dev nD) (t : Fin cfg0.N) (ht : t.val % 8 = 0) (q : Fin 1024) :
    (outsAt0 m c t.val t.isLt).2.2 (ix2 0 q) = 0 + part (iblk m c 0 t) (iblk m c 1 t) (iblk m c 2 t) q := by
  rw [outsAt0_A m c t ht]
  frame_open
  simp (disch := decide) only [↓ View.readCov_skip, ↓ View.readCov_cons_toLoadRect, ↓ View.readCov_fill]
  frame_out
  rw [← part_at _ _ _ 0 q]
  pointwise [k0_pay5, k0_pay3]
  done

theorem acc_B (c : Dev nD) (t : Fin cfg0.N) (ht : ¬ t.val % 8 = 0) (q : Fin 1024) :
    (outsAt0 m c t.val t.isLt).2.2 (ix2 0 q)
      = (outsAt0 m c (t.val - 1) (Nat.lt_of_le_of_lt (Nat.sub_le _ _) t.isLt)).2.2 (ix2 0 q)
        + part (iblk m c 0 t) (iblk m c 1 t) (iblk m c 2 t) q := by
  rw [outsAt0_B m c t ht]
  frame_open
  simp (disch := decide) only [↓ View.readCov_skip, ↓ View.readCov_cons_toLoadRect, ↓ View.readCov_fill]
  frame_out
  rw [← part_at _ _ _ 0 q]
  pointwise [k0_pay5]
  done

/-- The rows, the target and the weight, as launched. -/
abbrev a0 (c : Dev nD) (r : Fin 4096) (e : Fin 1024) : EReal := m ((c : Thread nD τ).loc main_arg0) (ix2 r e)
abbrev a1 (c : Dev nD) (r : Fin 4096) (e : Fin 1024) : EReal := m ((c : Thread nD τ).loc main_arg1) (ix2 r e)
abbrev a2 (c : Dev nD) (e : Fin 1024) : EReal := m ((c : Thread nD τ).loc main_arg2) (ix2 0 e)

/-- Row `p` of point `t`'s blocks. -/
abbrev tokn (t : Fin cfg0.N) (p : Fin 512) : Fin 4096 :=
  ⟨t.val * 512 + p.val, by have : t.val < 8 := lt_of_lt_of_eq t.isLt Gen.N_0; omega⟩

theorem blk0 (c : Dev nD) (t : Fin cfg0.N) (p : Fin 512) : row (iblk m c 0 t) p = a0 m c (tokn t p) := by
  funext e
  unfold row a0
  blk_ext [iblk, V, idx0 t]
theorem blk1 (c : Dev nD) (t : Fin cfg0.N) (p : Fin 512) : row (iblk m c 1 t) p = a1 m c (tokn t p) := by
  funext e
  unfold row a1
  blk_ext [iblk, V, idx1 t]
theorem blk2 (c : Dev nD) (t : Fin cfg0.N) : wrow (iblk m c 2 t) = a2 m c := by
  funext e
  unfold wrow a2
  blk_ext [iblk, V, idx2 t]

/-- A row of a point's block, the points counted from a multiple of 8. -/
theorem tokn_eq (n : ℕ) (hn : n < 8) (s : Fin 8) (r : Fin 512) (hl : s.val * 512 + r.val < 4096) (h) :
    tokn ⟨8 * (n / 8) + s.val, h⟩ r = ⟨s.val * 512 + r.val, hl⟩ :=
  Fin.ext (by show (8 * (n / 8) + s.val) * 512 + r.val = s.val * 512 + r.val; omega)

/-- The rows' gradient after the run. -/
theorem arr3 (c : Dev nD) : (dats m 0 c).arrAt 3 cfg0.N
    = fun i => Head.gradX (a0 m c) (a1 m c) (a2 m c) (i 0) (i 1) := by
  refine (dats m 0 c).arrAt_eq_of_covers 3 _ (by decide +kernel) fun t hf y => ?_
  blk_simp
  rw [after0_3]
  obtain ⟨p, q, rfl⟩ : ∃ (p : Fin 512) (q : Fin 1024), y = ix2 p q := ⟨y 0, y 1, eq_ix2 y⟩
  have hy : ((cfg0.win 3).blk t).view.emb (ix2 p q) = (ix2 (tokn t p) q : S4096x1024.Idx) := by
    blk_ext [idx3 t]
  refine Eq.trans ?_ (congrArg (fun i : S4096x1024.Idx => Head.gradX (a0 m c) (a1 m c) (a2 m c) (i 0) (i 1)) hy).symm
  refine (out3 m c t p q).trans ?_
  rw [blk0, blk1, blk2]
  rfl

/-- The loss after the run. -/
theorem arr4 (c : Dev nD) : (dats m 0 c).arrAt 4 cfg0.N
    = fun i => loss (a0 m c) (a1 m c) (a2 m c) (i 0) (i 1) := by
  refine (dats m 0 c).arrAt_eq_of_covers 4 _ (by decide +kernel) fun t hf y => ?_
  blk_simp
  rw [after0_4]
  obtain ⟨p, q, rfl⟩ : ∃ (p : Fin 1) (q : Fin 128), y = ix2 p q := ⟨y 0, y 1, eq_ix2 y⟩
  have hy : ((cfg0.win 4).blk t).view.emb (ix2 p q) = (ix2 p q : S1x128.Idx) := by
    blk_ext [idx4 t]
  refine Eq.trans ?_ (congrArg (fun i : S1x128.Idx => loss (a0 m c) (a1 m c) (a2 m c) (i 0) (i 1)) hy).symm
  have ht := (flush0_4 t).mp hf
  have hN : t.val < 8 := lt_of_lt_of_eq t.isLt Gen.N_0
  obtain rfl : p = 0 := Subsingleton.elim _ _
  have e := Pipeline.eq_sum_fin_of_reset_step_of_flush (M := EReal)
    (fun n hn => (outsAt0 m c n hn).2.1 (ix2 0 q)) 8 0 _
    (fun t ht => loss_A m c t ht q) (fun t ht => loss_B m c t ht q) t ht
  refine e.trans ((zero_add _).trans ?_)
  unfold lpart
  refine (half_sum _ _).symm.trans (congrArg (half * ·) ?_)
  show _ = ∑ p, sq (a0 m c p) (a1 m c p) (a2 m c)
  refine Fin.sum_mul_add_congr fun s r hl => ?_
  rw [blk0, blk1, blk2]
  exact congrArg (fun k => sq (a0 m c k) (a1 m c k) (a2 m c)) (tokn_eq _ hN s r hl _)

/-- The weight's gradient after the run. -/
theorem arr5 (c : Dev nD) : (dats m 0 c).arrAt 5 cfg0.N
    = fun i => Head.gradW (a0 m c) (a1 m c) (a2 m c) (i 0) (i 1) := by
  refine (dats m 0 c).arrAt_eq_of_covers 5 _ (by decide +kernel) fun t hf y => ?_
  blk_simp
  rw [after0_5]
  obtain ⟨p, q, rfl⟩ : ∃ (p : Fin 1) (q : Fin 1024), y = ix2 p q := ⟨y 0, y 1, eq_ix2 y⟩
  have hy : ((cfg0.win 5).blk t).view.emb (ix2 p q) = (ix2 p q : S1x1024.Idx) := by
    blk_ext [idx5 t]
  refine Eq.trans ?_ (congrArg (fun i : S1x1024.Idx => Head.gradW (a0 m c) (a1 m c) (a2 m c) (i 0) (i 1)) hy).symm
  have ht := (flush0_5 t).mp hf
  have hN : t.val < 8 := lt_of_lt_of_eq t.isLt Gen.N_0
  obtain rfl : p = 0 := Subsingleton.elim _ _
  have e := Pipeline.eq_sum_fin_of_reset_step_of_flush (M := EReal)
    (fun n hn => (outsAt0 m c n hn).2.2 (ix2 0 q)) 8 0 _
    (fun t ht => acc_A m c t ht q) (fun t ht => acc_B m c t ht q) t ht
  refine e.trans ((zero_add _).trans ?_)
  unfold part
  show _ = ∑ p, dw (a0 m c p) (g (a0 m c p) (a1 m c p) (a2 m c)) q
  refine Fin.sum_mul_add_congr fun s r hl => ?_
  rw [blk0, blk1, blk2]
  exact congrArg (fun k => dw (a0 m c k) (g (a0 m c k) (a1 m c k) (a2 m c)) q) (tokn_eq _ hN s r hl _)

end Cert.HeadBwdIdeal.Cols

namespace Cert.HeadBwdRefIdeal.Cols

open Cert.HeadBwdRefIdeal Cert.HeadBwdRefIdeal.Gen Cert.Norm Cert.Head

variable (x t : FVec Ideal S4096x1024 .f32) (w : FVec Ideal S1x1024 .f32)

/-- An array by row and column. -/
abbrev ar (x : FVec Ideal S4096x1024 .f32) (r : Fin 4096) (e : Fin 1024) : EReal := x (ix2 r e)
/-- The weight. -/
abbrev wr (w : FVec Ideal S1x1024 .f32) (e : Fin 1024) : EReal := w (ix2 0 e)

/-- The mean squares. -/
def msR : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
/-- The factors. -/
def rsR : FVec Ideal S4096x1 .f32 := Host.rsqrt (msR x)
/-- The normed rows, before the weight. -/
def nrm : FVec Ideal S4096x1024 .f32 := mulf x (broadcastInDim S4096x1024 ![0, 1] bcast_S4096x1_S4096x1024_0_1 (rsR x))
/-- The errors. -/
def errR : FVec Ideal S4096x1024 .f32 :=
  subf (mulf (nrm x) (broadcastInDim S4096x1024 ![0, 1] bcast_S1x1024_S4096x1024_0_1 w)) t
/-- What the squares' derivatives are multiplied with. -/
def ctR : FVec Ideal S4096x1024 .f32 :=
  broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))
/-- The gradient of the norm's result. -/
def gR : FVec Ideal S4096x1024 .f32 := addf (mulf (errR x t w) ctR) (mulf ctR (errR x t w))
/-- That, times the weight. -/
def gw : FVec Ideal S4096x1024 .f32 := mulf (gR x t w) (broadcastInDim S4096x1024 ![0, 1] bcast_S1x1024_S4096x1024_0_1 w)
/-- What the factors pass back. -/
def backR : FVec Ideal S4096x1024 .f32 :=
  broadcastInDim S4096x1024 ![0] bcast_S4096_S4096x1024_0 (Host.reduceAdd (Host.divf (mulf (shapeCast _ (Host.reduceAdd (mulf x (gw x t w)) (constant S_ .f32 0x00000000#32) reducesTo_S4096x1024_S4096_d1 h_S_) shapeCasts_S4096_S4096x1) (mulf (broadcastInDim S4096x1 ![] bcast_S_S4096x1 (constant S_ .f32 0xBF000000#32)) (Host.divf (rsR x) (msR x)))) (broadcastInDim S4096x1 ![] bcast_S_S4096x1 (constant S_ .f32 0x44800000#32))) (constant S_ .f32 0x00000000#32) reducesTo_S4096x1_S4096_d1 h_S_)
/-- The rows' gradient. -/
def outX : FVec Ideal S4096x1024 .f32 :=
  addf (addf (mulf (gw x t w) (broadcastInDim S4096x1024 ![0, 1] bcast_S4096x1_S4096x1024_0_1 (rsR x))) (mulf x (backR x t w))) (mulf (backR x t w) x)
/-- The loss. -/
def outL : FVec Ideal S1x128 .f32 :=
  broadcastInDim S1x128 ![] bcast_S_S1x128 (mulf (constant S_ .f32 0x3F000000#32) (Host.reduceAdd (Host.divf (Host.reduceAdd (mulf (errR x t w) (errR x t w)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))
/-- The weight's gradient. -/
def outW : FVec Ideal S1x1024 .f32 :=
  shapeCast _ (Host.reduceAdd (mulf (nrm x) (gR x t w)) (constant S_ .f32 0x00000000#32) reducesTo_S4096x1024_S1024_d0 h_S_) shapeCasts_S1024_S1x1024

theorem msR_at (p : Fin 4096) (z : Fin 1) : msR x (ix2 p z) = ms (ar x p) := by
  pointwise [msR]
  rfl
theorem rsR_at (p : Fin 4096) (z : Fin 1) : rsR x (ix2 p z) = rs (ar x p) := by
  pointwise [rsR]
  rw [msR_at]
  rfl
theorem errR_at (p : Fin 4096) (e : Fin 1024) : errR x t w (ix2 p e) = err (ar x p) (ar t p) (wr w) e := by
  pointwise [errR, nrm]
  rw [rsR_at]
  rfl
theorem gR_at (p : Fin 4096) (e : Fin 1024) : gR x t w (ix2 p e) = g (ar x p) (ar t p) (wr w) e := by
  pointwise [gR, ctR]
  simp only [errR_at]
  rfl
theorem gw_at (p : Fin 4096) (e : Fin 1024) : gw x t w (ix2 p e) = g (ar x p) (ar t p) (wr w) e * wr w e := by
  pointwise [gw]
  rw [gR_at]
theorem backR_at (p : Fin 4096) (e : Fin 1024) :
    backR x t w (ix2 p e) = back (ar x p) (g (ar x p) (ar t p) (wr w)) (wr w) := by
  pointwise [backR]
  simp only [rsR_at, msR_at, gw_at, Fin.sum_univ_one]
  rfl
theorem outX_at (p : Fin 4096) (e : Fin 1024) : outX x t w (ix2 p e) = Head.gradX (ar x) (ar t) (wr w) p e := by
  unfold Head.gradX
  pointwise [outX]
  simp only [rsR_at, gw_at, backR_at]
  rfl
theorem outL_at (z : Fin 1) (q : Fin 128) : outL x t w (ix2 z q) = loss (ar x) (ar t) (wr w) z q := by
  unfold loss
  pointwise [outL]
  simp only [errR_at]
  rfl
theorem outW_at (z : Fin 1) (e : Fin 1024) : outW x t w (ix2 z e) = Head.gradW (ar x) (ar t) (wr w) z e := by
  unfold Head.gradW
  pointwise [outW, nrm]
  simp only [rsR_at, gR_at]
  rfl

end Cert.HeadBwdRefIdeal.Cols

namespace Cert.HeadBwd.Claims

/-- The reference's frame: its generated run, read at the arguments. -/
theorem frame_ref : Cert.quiescent_HeadBwdRefIdeal := fun m ρ _ =>
  (θ_run Cert.HeadBwdRefIdeal.defs _ _).mono (fun _ h => ⟨fun c => (h c).2.2.2, Idealize.ShloMosaic.sem_eq_zero_of_no_sems (by decide) _⟩)
    (Cert.HeadBwdRefIdeal.Value.run m ρ)

/-- The kernel's three results are the reference's over the extended reals. -/
theorem value : Cert.algebraic_HeadBwdIdeal_HeadBwdRefIdeal := fun m ρ m' ρ' _ hag =>
  ⟨fun c => (Cert.HeadBwdIdeal.Gen.dats m 0 c).arrAt 3 Cert.HeadBwdIdeal.cfg0.N,
    fun c => (Cert.HeadBwdIdeal.Gen.dats m 0 c).arrAt 4 Cert.HeadBwdIdeal.cfg0.N,
    fun c => (Cert.HeadBwdIdeal.Gen.dats m 0 c).arrAt 5 Cert.HeadBwdIdeal.cfg0.N,
    Cert.HeadBwdIdeal.Value.run_blocks m ρ,
    (θ_run _ _ _).mono (fun _ h c => by
      obtain ⟨h0, h1, h2, hr⟩ := h c
      obtain ⟨a0, a1, a2⟩ := hag c
      refine ⟨h0.trans ?_, h1.trans ?_, h2.trans ?_, hr⟩
      · unfold Cert.HeadBwdRefIdeal.Value.res_main_v48
        rw [a0, a1, a2]
        exact (ext2 (Cert.HeadBwdRefIdeal.Cols.outX_at _ _ _)).trans (Cert.HeadBwdIdeal.Cols.arr3 m c).symm
      · rw [a0, a1, a2]
        exact (ext2 (Cert.HeadBwdRefIdeal.Cols.outL_at _ _ _)).trans (Cert.HeadBwdIdeal.Cols.arr4 m c).symm
      · rw [a0, a1, a2]
        exact (ext2 (Cert.HeadBwdRefIdeal.Cols.outW_at _ _ _)).trans (Cert.HeadBwdIdeal.Cols.arr5 m c).symm)
      (Cert.HeadBwdRefIdeal.Value.run m' ρ')⟩

end Cert.HeadBwd.Claims

end
end
-- ==== Proof.Cols.GluFwd.lean ====
/-
  The feed-forward network's gate: its causal convolution of three taps, its activation and the product with the other
  half. A block of one sequence and 256 columns at a point. Over the extended reals this is the function which the gate's
  gradient applies to the result's gradient to get the other half's.
-/
module

public import proofs.«01_k».proof.Proof.Kit
public import proofs.«01_k».proof.Proof.Gen.GluFwd.Frame
public import proofs.«01_k».proof.Proof.Gen.GluFwdIdeal.Value
public import proofs.«01_k».proof.Proof.Gen.GluFwdRefIdeal.Run
public import proofs.«01_k».proof.Proof.Cols.GluBwd

@[expose] public section

set_option maxRecDepth 16384

noncomputable section

open Idealize.ShloMosaic Idealize.ShloMosaic.TcCoe Idealize.SL.Sem Cert.Common

namespace Cert.GluFwdIdeal.Fwd

open Cert.GluFwdIdeal Cert.GluFwdIdeal.Gen Cert.Conv

variable (m : (ℓ : Loc nD τ sig) → Buf (Elt Ideal) ℓ)

theorem idx0 : ∀ t : Fin grid0.N, win0_0.index t = ![t.val % 2, t.val / 2] := by decide +kernel
theorem idx1 : ∀ t : Fin grid0.N, win0_1.index t = ![t.val % 2, t.val / 2] := by decide +kernel
theorem idx2 : ∀ t : Fin grid0.N, win0_2.index t = ![0, t.val / 2] := by decide +kernel
theorem idx3 : ∀ t : Fin grid0.N, win0_3.index t = ![0, t.val / 2] := by decide +kernel
theorem idx4 : ∀ t : Fin grid0.N, win0_4.index t = ![t.val % 2, t.val / 2] := by decide +kernel

section
variable (x u : Vec Ideal S2048x256 .bf16) (w : Vec Ideal S3x256 .f32) (b : Vec Ideal S1x256 .f32)

/-- A column of a block. -/
abbrev colx (e : Fin 256) (l : Fin 2048) : EReal := x (ix2 l e)
/-- A column of the taps. -/
abbrev colw (e : Fin 256) (j : Fin 3) : EReal := w (ix2 j e)
/-- A bias. -/
abbrev colb (e : Fin 256) : EReal := b (ix2 0 e)

theorem pay_eq : k0_pay1 x u w b = Cert.GluBwdIdeal.Gen.k0_pay1 (Cert.GluBwdIdeal.Gen.k0_pay16 x w b u) := by
  with_unfolding_all rfl

theorem pay_at (l : Fin 2048) (e : Fin 256) :
    k0_pay1 x u w b (ix2 l e) = dm 3 (colx x e) (colw w e) (colb b e) (colx u e) l := by
  rw [pay_eq]
  exact Cert.GluBwdIdeal.Cols.dm_at x w b u l e

end

/-- The gate, the other half, the taps and the biases, as launched. -/
abbrev a0 (c : Dev nD) (r : Fin 4096) (e : Fin 2816) : EReal := m ((c : Thread nD τ).loc main_arg0) (ix2 r e)
abbrev a1 (c : Dev nD) (r : Fin 4096) (e : Fin 2816) : EReal := m ((c : Thread nD τ).loc main_arg1) (ix2 r e)
abbrev a2 (c : Dev nD) (j : Fin 3) (e : Fin 2816) : EReal := m ((c : Thread nD τ).loc main_arg2) (ix2 j e)
abbrev a3 (c : Dev nD) (e : Fin 2816) : EReal := m ((c : Thread nD τ).loc main_arg3) (ix2 0 e)

/-- Point `t`'s sequence. -/
abbrev sq (t : Fin cfg0.N) : Fin 2 := ⟨t.val % 2, Nat.mod_lt _ (by decide)⟩
/-- Column `e` of point `t`'s blocks. -/
abbrev cl (t : Fin cfg0.N) (e : Fin 256) : Fin 2816 :=
  ⟨t.val / 2 * 256 + e.val, by have : t.val < 22 := lt_of_lt_of_eq t.isLt Gen.N_0; omega⟩

theorem blk0 (c : Dev nD) (t : Fin cfg0.N) (e : Fin 256) : colx (iblk m c 0 t) e = seq (a0 m c) (sq t) (cl t e) := by
  funext l
  unfold colx seq a0
  blk_ext [iblk, V, idx0 t]
theorem blk1 (c : Dev nD) (t : Fin cfg0.N) (e : Fin 256) : colx (iblk m c 1 t) e = seq (a1 m c) (sq t) (cl t e) := by
  funext l
  unfold colx seq a1
  blk_ext [iblk, V, idx1 t]
theorem blk2 (c : Dev nD) (t : Fin cfg0.N) (e : Fin 256) : colw (iblk m c 2 t) e = (a2 m c · (cl t e)) := by
  funext j
  unfold colw a2
  blk_ext [iblk, V, idx2 t]
theorem blk3 (c : Dev nD) (t : Fin cfg0.N) (e : Fin 256) : colb (iblk m c 3 t) e = a3 m c (cl t e) := by
  unfold colb a3
  blk_ext [iblk, V, idx3 t]

/-- The result after the run. -/
theorem arr4 (c : Dev nD) : (dats m 0 c).arrAt 4 cfg0.N
    = fun i => gradM 3 (a0 m c) (a2 m c) (a3 m c) (a1 m c) (i 0) (i 1) := by
  refine (dats m 0 c).arrAt_eq_of_covers 4 _ (by decide +kernel) fun t hf y => ?_
  blk_simp
  rw [after0_4]
  obtain ⟨p, q, rfl⟩ : ∃ (p : Fin 2048) (q : Fin 256), y = ix2 p q := ⟨y 0, y 1, eq_ix2 y⟩
  have hy : ((cfg0.win 4).blk t).view.emb (ix2 p q)
      = (ix2 ⟨(sq t).val * 2048 + p.val, by omega⟩ (cl t q) : S4096x2816.Idx) := by
    blk_ext [idx4 t]
  refine Eq.trans ?_ (congrArg (fun i : S4096x2816.Idx => gradM 3 (a0 m c) (a2 m c) (a3 m c) (a1 m c) (i 0) (i 1)) hy).symm
  unfold out0_4
  frame_out
  refine (pay_at _ _ _ _ p q).trans ?_
  rw [blk0, blk1, blk2, blk3]
  exact (rows_at (fun b e => dm 3 (seq (a0 m c) b e) (a2 m c · e) (a3 m c e) (seq (a1 m c) b e)) (sq t) p (cl t q)).symm

end Cert.GluFwdIdeal.Fwd

namespace Cert.GluFwd.Claims

/-- The reference's frame: its generated run, read at the arguments. -/
theorem frame_ref : Cert.quiescent_GluFwdRefIdeal := fun m ρ _ =>
  (θ_run Cert.GluFwdRefIdeal.defs _ _).mono (fun _ h => ⟨fun c => (h c).2, Idealize.ShloMosaic.sem_eq_zero_of_no_sems (by decide) _⟩)
    (Cert.GluFwdRefIdeal.Value.run m ρ)

/-- The kernel's result is the reference's over the extended reals. -/
theorem value : Cert.algebraic_GluFwdIdeal_GluFwdRefIdeal := fun m ρ m' ρ' _ hag =>
  ⟨fun c => (Cert.GluFwdIdeal.Gen.dats m 0 c).arrAt 4 Cert.GluFwdIdeal.cfg0.N,
    Cert.GluFwdIdeal.Value.run_blocks m ρ,
    (θ_run _ _ _).mono (fun _ h c => by
      obtain ⟨h0, hr⟩ := h c
      obtain ⟨a0, a1, a2, a3⟩ := hag c
      refine ⟨h0.trans ?_, hr⟩
      unfold Cert.GluFwdRefIdeal.Value.res_main_v35
      rw [a0, a1, a2, a3]
      exact (ext2 (Cert.GluBwdRefIdeal.Cols.outM_at _ _ _ _)).trans (Cert.GluFwdIdeal.Fwd.arr4 m c).symm)
      (Cert.GluFwdRefIdeal.Value.run m' ρ')⟩

end Cert.GluFwd.Claims

end
end
-- ==== Proof.Cols.NormFwd.lean ====
/-
  The root-mean-square norm of rows of 1024: a block of 512 rows at a point.
-/
module

public import proofs.«01_k».proof.Proof.Kit
public import proofs.«01_k».proof.Proof.Gen.NormFwd.Frame
public import proofs.«01_k».proof.Proof.Gen.NormFwdIdeal.Value
public import proofs.«01_k».proof.Proof.Gen.NormFwdRefIdeal.Run
public import proofs.«01_k».proof.Proof.Cols.Norm

@[expose] public section

set_option maxRecDepth 16384

noncomputable section

open Idealize.ShloMosaic Idealize.ShloMosaic.TcCoe Idealize.SL.Sem Cert.Common

namespace Cert.Norm

variable (x w : Fin 1024 → EReal)

/-- The norm of a row. -/
def nx (e : Fin 1024) : EReal := x e * rs x * w e

/-- The norm of each row, as an array. -/
def norms (A0 : Fin 4096 → Fin 1024 → EReal) (w : Fin 1024 → EReal) (r : Fin 4096) (e : Fin 1024) : EReal := nx (A0 r) w e

end Cert.Norm

namespace Cert.NormFwdIdeal.Fwd

open Cert.NormFwdIdeal Cert.NormFwdIdeal.Gen Cert.Norm

variable (m : (ℓ : Loc nD τ sig) → Buf (Elt Ideal) ℓ)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

/-- A row of a block. -/
abbrev row (x : Vec Ideal S512x1024 .f32) (p : Fin 512) (e : Fin 1024) : EReal := x (ix2 p e)
/-- The weight's block. -/
abbrev wrow (w : Vec Ideal S1x1024 .f32) (e : Fin 1024) : EReal := w (ix2 0 e)

theorem pay_at (x : Vec Ideal S512x1024 .f32) (w : Vec Ideal S1x1024 .f32) (p : Fin 512) (e : Fin 1024) :
    k0_pay1 x w (ix2 p e) = nx (row x p) (wrow w) e := by
  pointwise [k0_pay1]
  rfl

/-- The rows and the weight, as launched. -/
abbrev a0 (c : Dev nD) (r : Fin 4096) (e : Fin 1024) : EReal := m ((c : Thread nD τ).loc main_arg0) (ix2 r e)
abbrev a1 (c : Dev nD) (e : Fin 1024) : EReal := m ((c : Thread nD τ).loc main_arg1) (ix2 0 e)

/-- Row `p` of point `t`'s blocks. -/
abbrev tokn (t : Fin cfg0.N) (p : Fin 512) : Fin 4096 :=
  ⟨t.val * 512 + p.val, by have : t.val < 8 := lt_of_lt_of_eq t.isLt Gen.N_0; omega⟩

theorem blk0 (c : Dev nD) (t : Fin cfg0.N) (p : Fin 512) : row (iblk m c 0 t) p = a0 m c (tokn t p) := by
  funext e
  unfold row a0
  blk_ext [iblk, V, idx0 t]
theorem blk1 (c : Dev nD) (t : Fin cfg0.N) : wrow (iblk m c 1 t) = a1 m c := by
  funext e
  unfold wrow a1
  blk_ext [iblk, V, idx1 t]

/-- The norms after the run. -/
theorem arr2 (c : Dev nD) : (dats m 0 c).arrAt 2 cfg0.N = fun i => norms (a0 m c) (a1 m c) (i 0) (i 1) := by
  refine (dats m 0 c).arrAt_eq_of_covers 2 _ (by decide +kernel) fun t hf y => ?_
  blk_simp
  rw [after0_2]
  obtain ⟨p, q, rfl⟩ : ∃ (p : Fin 512) (q : Fin 1024), y = ix2 p q := ⟨y 0, y 1, eq_ix2 y⟩
  have hy : ((cfg0.win 2).blk t).view.emb (ix2 p q) = (ix2 (tokn t p) q : S4096x1024.Idx) := by
    blk_ext [idx2 t]
  refine Eq.trans ?_ (congrArg (fun i : S4096x1024.Idx => norms (a0 m c) (a1 m c) (i 0) (i 1)) hy).symm
  unfold out0_2
  frame_out
  refine (pay_at _ _ p q).trans ?_
  rw [blk0, blk1]
  rfl

end Cert.NormFwdIdeal.Fwd

namespace Cert.NormFwdRefIdeal.Fwd

open Cert.NormFwdRefIdeal Cert.NormFwdRefIdeal.Gen Cert.Norm

variable (x : FVec Ideal S4096x1024 .f32) (w : FVec Ideal S1x1024 .f32)

/-- The norms. -/
def out : FVec Ideal S4096x1024 .bf16 :=
  truncf .bf16 (mulf (mulf x (broadcastInDim S4096x1024 ![0, 1] bcast_S4096x1_S4096x1024_0_1 (Cert.NormBwdRefIdeal.Cols.rsR x))) (broadcastInDim S4096x1024 ![0, 1] bcast_S1x1024_S4096x1024_0_1 w)) bitsLt_bf16_f32

theorem out_at (p : Fin 4096) (e : Fin 1024) :
    out x w (ix2 p e) = norms (fun r e => x (ix2 r e)) (fun e => w (ix2 0 e)) p e := by
  pointwise [out]
  rw [Cert.NormBwdRefIdeal.Cols.rsR_at]
  rfl

end Cert.NormFwdRefIdeal.Fwd

namespace Cert.NormFwd.Claims

/-- The reference's frame: its generated run, read at the arguments. -/
theorem frame_ref : Cert.quiescent_NormFwdRefIdeal := fun m ρ _ =>
  (θ_run Cert.NormFwdRefIdeal.defs _ _).mono (fun _ h => ⟨fun c => (h c).2, Idealize.ShloMosaic.sem_eq_zero_of_no_sems (by decide) _⟩)
    (Cert.NormFwdRefIdeal.Value.run m ρ)

/-- The kernel's result is the reference's over the extended reals. -/
theorem value : Cert.algebraic_NormFwdIdeal_NormFwdRefIdeal := fun m ρ m' ρ' _ hag =>
  ⟨fun c => (Cert.NormFwdIdeal.Gen.dats m 0 c).arrAt 2 Cert.NormFwdIdeal.cfg0.N,
    Cert.NormFwdIdeal.Value.run_blocks m ρ,
    (θ_run _ _ _).mono (fun _ h c => by
      obtain ⟨h0, hr⟩ := h c
      obtain ⟨a0, a1⟩ := hag c
      refine ⟨h0.trans ?_, hr⟩
      rw [a0, a1]
      exact (ext2 (Cert.NormFwdRefIdeal.Fwd.out_at _ _)).trans (Cert.NormFwdIdeal.Fwd.arr2 m c).symm)
      (Cert.NormFwdRefIdeal.Value.run m' ρ')⟩

end Cert.NormFwd.Claims

end
end
-- ==== Proof.Cols.ConvFwd.lean ====
/-
  The mixer's causal convolution of four taps with its activation: a block of one sequence and 256 columns at a point.
-/
module

public import proofs.«01_k».proof.Proof.Kit
public import proofs.«01_k».proof.Proof.Gen.ConvFwd.Frame
public import proofs.«01_k».proof.Proof.Gen.ConvFwdIdeal.Value
public import proofs.«01_k».proof.Proof.Gen.ConvFwdRefIdeal.Run
public import proofs.«01_k».proof.Proof.Cols.ConvBwd

@[expose] public section

set_option maxRecDepth 16384

noncomputable section

open Idealize.ShloMosaic Idealize.ShloMosaic.TcCoe Idealize.SL.Sem Cert.Common

namespace Cert.Conv

/-- The activation of the convolution. -/
def act (K : ℕ) (x : Fin 2048 → EReal) (w : Fin K → EReal) (b : EReal) (l : Fin 2048) : EReal :=
  pre K x w b l * sig K x w b l

/-- The activations, over both sequences. -/
def acts {C : ℕ} (K : ℕ) (X : Fin 4096 → Fin C → EReal) (W : Fin K → Fin C → EReal) (B : Fin C → EReal) :
    Fin 4096 → Fin C → EReal := rows fun b e => act K (seq X b e) (W · e) (B e)

end Cert.Conv

namespace Cert.ConvFwdIdeal.Fwd

open Cert.ConvFwdIdeal Cert.ConvFwdIdeal.Gen Cert.Conv

variable (m : (ℓ : Loc nD τ sig) → Buf (Elt Ideal) ℓ)

theorem idx0 : ∀ t : Fin grid0.N, win0_0.index t = ![t.val % 2, t.val / 2] := by decide +kernel
theorem idx1 : ∀ t : Fin grid0.N, win0_1.index t = ![0, t.val / 2] := by decide +kernel
theorem idx2 : ∀ t : Fin grid0.N, win0_2.index t = ![0, t.val / 2] := by decide +kernel
theorem idx3 : ∀ t : Fin grid0.N, win0_3.index t = ![t.val % 2, t.val / 2] := by decide +kernel

section
variable (x : Vec Ideal S2048x256 .f32) (w : Vec Ideal S4x256 .f32) (b : Vec Ideal S1x256 .f32)

/-- A column of a block. -/
abbrev colx (e : Fin 256) (l : Fin 2048) : EReal := x (ix2 l e)
/-- A column of the taps. -/
abbrev colw (e : Fin 256) (j : Fin 4) : EReal := w (ix2 j e)
/-- A bias. -/
abbrev colb (e : Fin 256) : EReal := b (ix2 0 e)

/-- The body's result is the product of what the gradient's body computes first: the convolution and its logistic. -/
theorem pay_eq : k0_pay1 x w b = mulf (Cert.ConvBwdIdeal.Gen.k0_pay14 x w b) (Cert.ConvBwdIdeal.Gen.k0_pay15 x w b) := by
  with_unfolding_all rfl

theorem pay_at (l : Fin 2048) (e : Fin 256) : k0_pay1 x w b (ix2 l e) = act 4 (colx x e) (colw w e) (colb b e) l := by
  rw [pay_eq]
  exact congrArg₂ (· * ·) (Cert.ConvBwdIdeal.Cols.pre_at x w b l e) (Cert.ConvBwdIdeal.Cols.sig_at x w b l e)

end

/-- The columns, the taps and the biases, as launched. -/
abbrev a0 (c : Dev nD) (r : Fin 4096) (e : Fin 2048) : EReal := m ((c : Thread nD τ).loc main_arg0) (ix2 r e)
abbrev a1 (c : Dev nD) (j : Fin 4) (e : Fin 2048) : EReal := m ((c : Thread nD τ).loc main_arg1) (ix2 j e)
abbrev a2 (c : Dev nD) (e : Fin 2048) : EReal := m ((c : Thread nD τ).loc main_arg2) (ix2 0 e)

/-- Point `t`'s sequence. -/
abbrev sq (t : Fin cfg0.N) : Fin 2 := ⟨t.val % 2, Nat.mod_lt _ (by decide)⟩
/-- Column `e` of point `t`'s blocks. -/
abbrev cl (t : Fin cfg0.N) (e : Fin 256) : Fin 2048 :=
  ⟨t.val / 2 * 256 + e.val, by have : t.val < 16 := lt_of_lt_of_eq t.isLt Gen.N_0; omega⟩

theorem blk0 (c : Dev nD) (t : Fin cfg0.N) (e : Fin 256) : colx (iblk m c 0 t) e = seq (a0 m c) (sq t) (cl t e) := by
  funext l
  unfold colx seq a0
  blk_ext [iblk, V, idx0 t]
theorem blk1 (c : Dev nD) (t : Fin cfg0.N) (e : Fin 256) : colw (iblk m c 1 t) e = (a1 m c · (cl t e)) := by
  funext j
  unfold colw a1
  blk_ext [iblk, V, idx1 t]
theorem blk2 (c : Dev nD) (t : Fin cfg0.N) (e : Fin 256) : colb (iblk m c 2 t) e = a2 m c (cl t e) := by
  unfold colb a2
  blk_ext [iblk, V, idx2 t]

/-- The activations after the run. -/
theorem arr3 (c : Dev nD) : (dats m 0 c).arrAt 3 cfg0.N
    = fun i => acts 4 (a0 m c) (a1 m c) (a2 m c) (i 0) (i 1) := by
  refine (dats m 0 c).arrAt_eq_of_covers 3 _ (by decide +kernel) fun t hf y => ?_
  blk_simp
  rw [after0_3]
  obtain ⟨p, q, rfl⟩ : ∃ (p : Fin 2048) (q : Fin 256), y = ix2 p q := ⟨y 0, y 1, eq_ix2 y⟩
  have hy : ((cfg0.win 3).blk t).view.emb (ix2 p q)
      = (ix2 ⟨(sq t).val * 2048 + p.val, by omega⟩ (cl t q) : S4096x2048.Idx) := by
    blk_ext [idx3 t]
  refine Eq.trans ?_ (congrArg (fun i : S4096x2048.Idx => acts 4 (a0 m c) (a1 m c) (a2 m c) (i 0) (i 1)) hy).symm
  unfold out0_3
  frame_out
  refine (pay_at _ _ _ p q).trans ?_
  rw [blk0, blk1, blk2]
  exact (rows_at (fun b e => act 4 (seq (a0 m c) b e) (a1 m c · e) (a2 m c e)) (sq t) p (cl t q)).symm

end Cert.ConvFwdIdeal.Fwd

namespace Cert.ConvFwdRefIdeal.Fwd

open Cert.ConvFwdRefIdeal Cert.ConvFwdRefIdeal.Gen Cert.Conv Cert.ConvBwdRefIdeal.Cols

variable (x : FVec Ideal S4096x2048 .f32) (w : FVec Ideal S4x2048 .f32) (b : FVec Ideal S1x2048 .f32)

/-- The activations: the reference's convolution and logistic are those its gradient computes first. -/
def out : FVec Ideal S4096x2048 .f32 := shapeCast _ (mulf (preR x w b) (sigR x w b)) shapeCasts_S2x2048x2048_S4096x2048

theorem out_at (r : Fin 4096) (e : Fin 2048) : out x w b (ix2 r e) = acts 4 (ar x) (wr w) (br b) r e := by
  unfold acts rows act
  pointwise [out]
  rw [preR_at, sigR_at]

end Cert.ConvFwdRefIdeal.Fwd

namespace Cert.ConvFwd.Claims

/-- The reference's frame: its generated run, read at the arguments. -/
theorem frame_ref : Cert.quiescent_ConvFwdRefIdeal := fun m ρ _ =>
  (θ_run Cert.ConvFwdRefIdeal.defs _ _).mono (fun _ h => ⟨fun c => (h c).2, Idealize.ShloMosaic.sem_eq_zero_of_no_sems (by decide) _⟩)
    (Cert.ConvFwdRefIdeal.Value.run m ρ)

/-- The kernel's result is the reference's over the extended reals. -/
theorem value : Cert.algebraic_ConvFwdIdeal_ConvFwdRefIdeal := fun m ρ m' ρ' _ hag =>
  ⟨fun c => (Cert.ConvFwdIdeal.Gen.dats m 0 c).arrAt 3 Cert.ConvFwdIdeal.cfg0.N,
    Cert.ConvFwdIdeal.Value.run_blocks m ρ,
    (θ_run _ _ _).mono (fun _ h c => by
      obtain ⟨h0, hr⟩ := h c
      obtain ⟨a0, a1, a2⟩ := hag c
      refine ⟨h0.trans ?_, hr⟩
      unfold Cert.ConvFwdRefIdeal.Value.res_main_v39
      rw [a0, a1, a2]
      exact (ext2 (Cert.ConvFwdRefIdeal.Fwd.out_at _ _ _)).trans (Cert.ConvFwdIdeal.Fwd.arr3 m c).symm)
      (Cert.ConvFwdRefIdeal.Value.run m' ρ')⟩

end Cert.ConvFwd.Claims

end
end
-- ==== Proof.Ffn.FfnDown.lean ====
/-
  The feed-forward layer's second product, forward, with the layer's input added: a block of 512 tokens at a point;
  the reference is one product and a sum.
-/
module

public import proofs.«01_k».proof.Proof.Kit
public import proofs.«01_k».proof.Proof.Gen.FfnDown.Frame
public import proofs.«01_k».proof.Proof.Gen.FfnDownIdeal.Value
public import proofs.«01_k».proof.Proof.Gen.FfnDownRefIdeal.Run

@[expose] public section

set_option maxRecDepth 16384

noncomputable section

open Idealize.ShloMosaic Idealize.ShloMosaic.TcCoe Idealize.SL.Sem Cert.Common

namespace Cert.FfnDownIdeal.Ffn

open Cert.FfnDownIdeal Cert.FfnDownIdeal.Gen

variable (m : (ℓ : Loc nD τ sig) → Buf (Elt Ideal) ℓ)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![t.val, 0] := by decide +kernel

/-- A point's block: its rows times the weight, and the third argument's block added. -/
theorem out_point (c : Dev nD) (t : Fin cfg0.N) (p : Fin 512) (q : Fin 1024) :
    outsAt0 m c t (ix2 p q)
      = (∑ e : Fin 2816, (show Vec Ideal S512x2816 .bf16 from iblk m c 0 t) (ix2 p e)
          * (show Vec Ideal S2816x1024 .bf16 from iblk m c 1 t) (ix2 e q)) + (show Vec Ideal S512x1024 .f32 from iblk m c 2 t) (ix2 p q) := by
  unfold outsAt0
  frame_open
  simp (disch := decide) only [↓ View.readCov_skip, ↓ View.readCov_cons_toLoadRect, ↓ View.readCov_fill]
  frame_out
  pointwise [k0_pay3, k0_pay2, k0_pay1]

/-- The activations as launched. -/
abbrev a0 (c : Dev nD) (r : Fin 4096) (e : Fin 2816) : EReal := m ((c : Thread nD τ).loc main_arg0) (ix2 r e)
/-- The weight as launched. -/
abbrev a1 (c : Dev nD) (r : Fin 2816) (e : Fin 1024) : EReal := m ((c : Thread nD τ).loc main_arg1) (ix2 r e)
/-- The layer's input as launched. -/
abbrev a2 (c : Dev nD) (r : Fin 4096) (e : Fin 1024) : EReal := m ((c : Thread nD τ).loc main_arg2) (ix2 r e)

/-- Row `p` of point `t`'s blocks as a token. -/
abbrev tokn (t : Fin cfg0.N) (p : Fin 512) : Fin 4096 :=
  ⟨t.val * 512 + p.val, by have : t.val < 8 := lt_of_lt_of_eq t.isLt Gen.N_0; omega⟩

theorem blk0 (c : Dev nD) (t : Fin cfg0.N) (p : Fin 512) (e : Fin 2816) :
    (show Vec Ideal S512x2816 .bf16 from iblk m c 0 t) (ix2 p e) = a0 m c (tokn t p) e := by
  unfold a0
  blk_ext [iblk, V, idx0 t]
theorem blk1 (c : Dev nD) (t : Fin cfg0.N) (r : Fin 2816) (e : Fin 1024) :
    (show Vec Ideal S2816x1024 .bf16 from iblk m c 1 t) (ix2 r e) = a1 m c r e := by
  unfold a1
  blk_ext [iblk, V, idx1 t]
theorem blk2 (c : Dev nD) (t : Fin cfg0.N) (p : Fin 512) (q : Fin 1024) :
    (show Vec Ideal S512x1024 .f32 from iblk m c 2 t) (ix2 p q) = a2 m c (tokn t p) q := by
  unfold a2
  blk_ext [iblk, V, idx2 t]

/-- The kernel's result array after the run. -/
theorem arr (c : Dev nD) : (dats m 0 c).arrAt 3 cfg0.N = fun i => a2 m c (i 0) (i 1) + mat (a0 m c) (a1 m c) (i 0) (i 1) := by
  refine (dats m 0 c).arrAt_eq_of_covers 3 _ (by decide +kernel) fun t hf y => ?_
  blk_simp
  rw [after0_3]
  obtain ⟨p, q, rfl⟩ : ∃ (p : Fin 512) (q : Fin 1024), y = ix2 p q := ⟨y 0, y 1, eq_ix2 y⟩
  have hy : ((cfg0.win 3).blk t).view.emb (ix2 p q) = (ix2 (tokn t p) q : S4096x1024.Idx) := by
    blk_ext [idx3 t]
  refine Eq.trans ?_ (congrArg (fun i : S4096x1024.Idx => a2 m c (i 0) (i 1) + mat (a0 m c) (a1 m c) (i 0) (i 1)) hy).symm
  refine (out_point m c t p q).trans ?_
  refine (add_comm _ _).trans (congrArg₂ (· + ·) (blk2 m c t p q) ?_)
  unfold mat
  refine Finset.sum_congr rfl fun e _ => ?_
  rw [blk0, blk1]
  rfl

end Cert.FfnDownIdeal.Ffn

namespace Cert.FfnDownRefIdeal.Ffn

open Cert.FfnDownRefIdeal Cert.FfnDownRefIdeal.Gen

/-- The reference's result. -/
def out (x : FVec Ideal S4096x2816 .bf16) (y : FVec Ideal S2816x1024 .bf16) (z : FVec Ideal S4096x1024 .f32) : FVec Ideal S4096x1024 .f32 :=
  addf z (Host.dotGeneral dot_S4096x2816_S2816x1024_S4096x1024_1_0_0_1_n_n none (extf .f32 x bitsLt_bf16_f32) (extf .f32 y bitsLt_bf16_f32))

theorem out_at (x : FVec Ideal S4096x2816 .bf16) (y : FVec Ideal S2816x1024 .bf16) (z : FVec Ideal S4096x1024 .f32) (p : Fin 4096) (q : Fin 1024) :
    out x y z (ix2 p q) = z (ix2 p q) + mat (fun r e => x (ix2 r e)) (fun e q => y (ix2 e q)) p q := by
  unfold mat
  pointwise [out]

end Cert.FfnDownRefIdeal.Ffn

namespace Cert.FfnDown.Claims

/-- The reference's frame: its generated run, read at the arguments. -/
theorem frame_ref : Cert.quiescent_FfnDownRefIdeal := fun m ρ _ =>
  (θ_run Cert.FfnDownRefIdeal.defs _ _).mono (fun _ h => ⟨fun c => (h c).2, Idealize.ShloMosaic.sem_eq_zero_of_no_sems (by decide) _⟩)
    (Cert.FfnDownRefIdeal.Value.run m ρ)

/-- The kernel's result is the reference's over the extended reals. -/
theorem value : Cert.algebraic_FfnDownIdeal_FfnDownRefIdeal := fun m ρ m' ρ' _ hag =>
  ⟨fun c => (Cert.FfnDownIdeal.Gen.dats m 0 c).arrAt 3 Cert.FfnDownIdeal.cfg0.N,
    Cert.FfnDownIdeal.Value.run_blocks m ρ,
    (θ_run _ _ _).mono (fun _ h c => by
      obtain ⟨h0, hr⟩ := h c
      obtain ⟨a0, a1, a2⟩ := hag c
      refine ⟨h0.trans ?_, hr⟩
      rw [a0, a1, a2]
      exact (ext2 (Cert.FfnDownRefIdeal.Ffn.out_at _ _ _)).trans (Cert.FfnDownIdeal.Ffn.arr m c).symm)
      (Cert.FfnDownRefIdeal.Value.run m' ρ')⟩

end Cert.FfnDown.Claims

end
end
-- ==== Proof.Ffn.FfnGate.lean ====
/-
  The feed-forward layer's gate columns, forward: a block of 512 tokens times one of the weight's two slots of 1408
  columns at a point; the reference is one product.
-/
module

public import proofs.«01_k».proof.Proof.Kit
public import proofs.«01_k».proof.Proof.Gen.FfnGate.Frame
public import proofs.«01_k».proof.Proof.Gen.FfnGateIdeal.Value
public import proofs.«01_k».proof.Proof.Gen.FfnGateRefIdeal.Run
public import proofs.«01_k».proof.Proof.Ffn.DxGate

@[expose] public section

set_option maxRecDepth 16384

noncomputable section

open Idealize.ShloMosaic Idealize.ShloMosaic.TcCoe Idealize.SL.Sem Cert.Common

namespace Cert.FfnGateIdeal.Ffn

open Cert.FfnGateIdeal Cert.FfnGateIdeal.Gen

variable (m : (ℓ : Loc nD τ sig) → Buf (Elt Ideal) ℓ)

theorem idx0 : ∀ t : Fin grid0.N, win0_0.index t = ![t.val / 2, 0] := by decide +kernel
theorem idx1 : ∀ t : Fin grid0.N, win0_1.index t = ![t.val % 2, 0, 0] := by decide +kernel
theorem idx2 : ∀ t : Fin grid0.N, win0_2.index t = ![t.val / 2, t.val % 2] := by decide +kernel

/-- A point's block: its rows times the weight's slot. -/
theorem out_point (c : Dev nD) (t : Fin cfg0.N) (p : Fin 512) (q : Fin 1408) :
    outsAt0 m c t (ix2 p q)
      = ∑ e : Fin 1024, (show Vec Ideal S512x1024 .bf16 from iblk m c 0 t) (ix2 p e)
          * (show Vec Ideal S1x1024x1408 .bf16 from iblk m c 1 t) (ix3 0 e q) := by
  unfold outsAt0
  frame_open
  simp (disch := decide) only [↓ View.readCov_skip, ↓ View.readCov_cons_toLoadRect, ↓ View.readCov_fill]
  frame_out
  pointwise [k0_pay3, k0_pay2, k0_pay1]

/-- The layer's input as launched. -/
abbrev a0 (c : Dev nD) (r : Fin 4096) (e : Fin 1024) : EReal := m ((c : Thread nD τ).loc main_arg0) (ix2 r e)
/-- The weight as launched, in four slots of 1408 columns. -/
abbrev a1 (c : Dev nD) (s : Fin 4) (r : Fin 1024) (e : Fin 1408) : EReal := m ((c : Thread nD τ).loc main_arg1) (ix3 s r e)

/-- The two slots of the gate columns side by side. -/
def side (y : Fin 4 → Fin 1024 → Fin 1408 → EReal) (e : Fin 1024) (q : Fin 2816) : EReal :=
  y ⟨q.val / 1408, by omega⟩ e ⟨q.val % 1408, by omega⟩

/-- Row `p` of point `t`'s blocks as a token. -/
abbrev tokn (t : Fin cfg0.N) (p : Fin 512) : Fin 4096 :=
  ⟨t.val / 2 * 512 + p.val, by have : t.val < 16 := lt_of_lt_of_eq t.isLt Gen.N_0; omega⟩
/-- Column `q` of point `t`'s block as a column of the array. -/
abbrev col (t : Fin cfg0.N) (q : Fin 1408) : Fin 2816 := ⟨t.val % 2 * 1408 + q.val, by omega⟩

theorem blk0 (c : Dev nD) (t : Fin cfg0.N) (p : Fin 512) (e : Fin 1024) :
    (show Vec Ideal S512x1024 .bf16 from iblk m c 0 t) (ix2 p e) = a0 m c (tokn t p) e := by
  unfold a0
  blk_ext [iblk, V, idx0 t]
theorem blk1 (c : Dev nD) (t : Fin cfg0.N) (e : Fin 1024) (q : Fin 1408) :
    (show Vec Ideal S1x1024x1408 .bf16 from iblk m c 1 t) (ix3 0 e q) = a1 m c ⟨t.val % 2, by omega⟩ e q := by
  unfold a1
  blk_ext [iblk, V, idx1 t]

theorem side_at (c : Dev nD) (t : Fin cfg0.N) (e : Fin 1024) (q : Fin 1408) :
    side (a1 m c) e (col t q) = a1 m c ⟨t.val % 2, by omega⟩ e q := by
  have h1 : (⟨(t.val % 2 * 1408 + q.val) / 1408, by omega⟩ : Fin 4) = ⟨t.val % 2, by omega⟩ :=
    Fin.ext (by show (t.val % 2 * 1408 + q.val) / 1408 = t.val % 2; omega)
  have h2 : (⟨(t.val % 2 * 1408 + q.val) % 1408, by omega⟩ : Fin 1408) = q :=
    Fin.ext (by show (t.val % 2 * 1408 + q.val) % 1408 = q.val; omega)
  exact congrArg₂ (fun s r => a1 m c s e r) h1 h2

/-- The kernel's result array after the run. -/
theorem arr (c : Dev nD) : (dats m 0 c).arrAt 2 cfg0.N = fun i => mat (a0 m c) (side (a1 m c)) (i 0) (i 1) := by
  refine (dats m 0 c).arrAt_eq_of_covers 2 _ (by decide +kernel) fun t hf y => ?_
  blk_simp
  rw [after0_2]
  obtain ⟨p, q, rfl⟩ : ∃ (p : Fin 512) (q : Fin 1408), y = ix2 p q := ⟨y 0, y 1, eq_ix2 y⟩
  have hy : ((cfg0.win 2).blk t).view.emb (ix2 p q) = (ix2 (tokn t p) (col t q) : S4096x2816.Idx) := by
    blk_ext [idx2 t]
  refine Eq.trans ?_ (congrArg (fun i : S4096x2816.Idx => mat (a0 m c) (side (a1 m c)) (i 0) (i 1)) hy).symm
  refine (out_point m c t p q).trans (Finset.sum_congr rfl fun e _ => ?_)
  exact congrArg₂ (· * ·) (blk0 m c t p e) ((blk1 m c t e q).trans (side_at m c t e q).symm)

end Cert.FfnGateIdeal.Ffn

namespace Cert.FfnGateRefIdeal.Ffn

open Cert.FfnGateRefIdeal Cert.FfnGateRefIdeal.Gen

/-- The reference's result; the weight's slots side by side as in the backward product's reference. -/
def out (x : FVec Ideal S4096x1024 .bf16) (y : FVec Ideal S4x1024x1408 .bf16) : FVec Ideal S4096x2816 .bf16 :=
  truncf .bf16 (Host.dotGeneral dot_S4096x1024_S1024x2816_S4096x2816_1_0_0_1_n_n none (extf .f32 x bitsLt_bf16_f32) (Cert.DxGateRefIdeal.Ffn.weight y)) bitsLt_bf16_f32

theorem out_at (x : FVec Ideal S4096x1024 .bf16) (y : FVec Ideal S4x1024x1408 .bf16) (p : Fin 4096) (q : Fin 2816) :
    out x y (ix2 p q) = mat (fun r e => x (ix2 r e)) (Cert.FfnGateIdeal.Ffn.side fun s r e => y (ix3 s r e)) p q := by
  unfold mat Cert.FfnGateIdeal.Ffn.side
  pointwise [out]
  exact Finset.sum_congr rfl fun e _ => congrArg (_ * ·) (Cert.DxGateRefIdeal.Ffn.weight_at y e q)

end Cert.FfnGateRefIdeal.Ffn

namespace Cert.FfnGate.Claims

/-- The reference's frame: its generated run, read at the arguments. -/
theorem frame_ref : Cert.quiescent_FfnGateRefIdeal := fun m ρ _ =>
  (θ_run Cert.FfnGateRefIdeal.defs _ _).mono (fun _ h => ⟨fun c => (h c).2, Idealize.ShloMosaic.sem_eq_zero_of_no_sems (by decide) _⟩)
    (Cert.FfnGateRefIdeal.Value.run m ρ)

/-- The kernel's result is the reference's over the extended reals. -/
theorem value : Cert.algebraic_FfnGateIdeal_FfnGateRefIdeal := fun m ρ m' ρ' _ hag =>
  ⟨fun c => (Cert.FfnGateIdeal.Gen.dats m 0 c).arrAt 2 Cert.FfnGateIdeal.cfg0.N,
    Cert.FfnGateIdeal.Value.run_blocks m ρ,
    (θ_run _ _ _).mono (fun _ h c => by
      obtain ⟨h0, hr⟩ := h c
      obtain ⟨a0, a1⟩ := hag c
      refine ⟨h0.trans ?_, hr⟩
      rw [a0, a1]
      exact (ext2 (Cert.FfnGateRefIdeal.Ffn.out_at _ _)).trans (Cert.FfnGateIdeal.Ffn.arr m c).symm)
      (Cert.FfnGateRefIdeal.Value.run m' ρ')⟩

end Cert.FfnGate.Claims

end
end
-- ==== Proof.Ffn.FfnUp.lean ====
/-
  The feed-forward layer's up columns, forward: a block of 512 tokens times one of the weight's two slots of 1408
  columns at a point; the reference is one product.
-/
module

public import proofs.«01_k».proof.Proof.Kit
public import proofs.«01_k».proof.Proof.Gen.FfnUp.Frame
public import proofs.«01_k».proof.Proof.Gen.FfnUpIdeal.Value
public import proofs.«01_k».proof.Proof.Gen.FfnUpRefIdeal.Run
public import proofs.«01_k».proof.Proof.Ffn.DxUp

@[expose] public section

set_option maxRecDepth 16384

noncomputable section

open Idealize.ShloMosaic Idealize.ShloMosaic.TcCoe Idealize.SL.Sem Cert.Common

namespace Cert.FfnUpIdeal.Ffn

open Cert.FfnUpIdeal Cert.FfnUpIdeal.Gen

variable (m : (ℓ : Loc nD τ sig) → Buf (Elt Ideal) ℓ)

theorem idx0 : ∀ t : Fin grid0.N, win0_0.index t = ![t.val / 2, 0] := by decide +kernel
theorem idx1 : ∀ t : Fin grid0.N, win0_1.index t = ![2 + t.val % 2, 0, 0] := by decide +kernel
theorem idx2 : ∀ t : Fin grid0.N, win0_2.index t = ![t.val / 2, t.val % 2] := by decide +kernel

/-- A point's block: its rows times the weight's slot. -/
theorem out_point (c : Dev nD) (t : Fin cfg0.N) (p : Fin 512) (q : Fin 1408) :
    outsAt0 m c t (ix2 p q)
      = ∑ e : Fin 1024, (show Vec Ideal S512x1024 .bf16 from iblk m c 0 t) (ix2 p e)
          * (show Vec Ideal S1x1024x1408 .bf16 from iblk m c 1 t) (ix3 0 e q) := by
  unfold outsAt0
  frame_open
  simp (disch := decide) only [↓ View.readCov_skip, ↓ View.readCov_cons_toLoadRect, ↓ View.readCov_fill]
  frame_out
  pointwise [k0_pay3, k0_pay2, k0_pay1]

/-- The layer's input as launched. -/
abbrev a0 (c : Dev nD) (r : Fin 4096) (e : Fin 1024) : EReal := m ((c : Thread nD τ).loc main_arg0) (ix2 r e)
/-- The weight as launched, in four slots of 1408 columns. -/
abbrev a1 (c : Dev nD) (s : Fin 4) (r : Fin 1024) (e : Fin 1408) : EReal := m ((c : Thread nD τ).loc main_arg1) (ix3 s r e)

/-- The two slots of the up columns side by side. -/
def side (y : Fin 4 → Fin 1024 → Fin 1408 → EReal) (e : Fin 1024) (q : Fin 2816) : EReal :=
  y ⟨2 + q.val / 1408, by omega⟩ e ⟨q.val % 1408, by omega⟩

/-- Row `p` of point `t`'s blocks as a token. -/
abbrev tokn (t : Fin cfg0.N) (p : Fin 512) : Fin 4096 :=
  ⟨t.val / 2 * 512 + p.val, by have : t.val < 16 := lt_of_lt_of_eq t.isLt Gen.N_0; omega⟩
/-- Column `q` of point `t`'s block as a column of the array. -/
abbrev col (t : Fin cfg0.N) (q : Fin 1408) : Fin 2816 := ⟨t.val % 2 * 1408 + q.val, by omega⟩

theorem blk0 (c : Dev nD) (t : Fin cfg0.N) (p : Fin 512) (e : Fin 1024) :
    (show Vec Ideal S512x1024 .bf16 from iblk m c 0 t) (ix2 p e) = a0 m c (tokn t p) e := by
  unfold a0
  blk_ext [iblk, V, idx0 t]
theorem blk1 (c : Dev nD) (t : Fin cfg0.N) (e : Fin 1024) (q : Fin 1408) :
    (show Vec Ideal S1x1024x1408 .bf16 from iblk m c 1 t) (ix3 0 e q) = a1 m c ⟨2 + t.val % 2, by omega⟩ e q := by
  unfold a1
  blk_ext [iblk, V, idx1 t]

theorem side_at (c : Dev nD) (t : Fin cfg0.N) (e : Fin 1024) (q : Fin 1408) :
    side (a1 m c) e (col t q) = a1 m c ⟨2 + t.val % 2, by omega⟩ e q := by
  have h1 : (⟨2 + (t.val % 2 * 1408 + q.val) / 1408, by omega⟩ : Fin 4) = ⟨2 + t.val % 2, by omega⟩ :=
    Fin.ext (by show 2 + (t.val % 2 * 1408 + q.val) / 1408 = 2 + t.val % 2; omega)
  have h2 : (⟨(t.val % 2 * 1408 + q.val) % 1408, by omega⟩ : Fin 1408) = q :=
    Fin.ext (by show (t.val % 2 * 1408 + q.val) % 1408 = q.val; omega)
  exact congrArg₂ (fun s r => a1 m c s e r) h1 h2

/-- The kernel's result array after the run. -/
theorem arr (c : Dev nD) : (dats m 0 c).arrAt 2 cfg0.N = fun i => mat (a0 m c) (side (a1 m c)) (i 0) (i 1) := by
  refine (dats m 0 c).arrAt_eq_of_covers 2 _ (by decide +kernel) fun t hf y => ?_
  blk_simp
  rw [after0_2]
  obtain ⟨p, q, rfl⟩ : ∃ (p : Fin 512) (q : Fin 1408), y = ix2 p q := ⟨y 0, y 1, eq_ix2 y⟩
  have hy : ((cfg0.win 2).blk t).view.emb (ix2 p q) = (ix2 (tokn t p) (col t q) : S4096x2816.Idx) := by
    blk_ext [idx2 t]
  refine Eq.trans ?_ (congrArg (fun i : S4096x2816.Idx => mat (a0 m c) (side (a1 m c)) (i 0) (i 1)) hy).symm
  refine (out_point m c t p q).trans (Finset.sum_congr rfl fun e _ => ?_)
  exact congrArg₂ (· * ·) (blk0 m c t p e) ((blk1 m c t e q).trans (side_at m c t e q).symm)

end Cert.FfnUpIdeal.Ffn

namespace Cert.FfnUpRefIdeal.Ffn

open Cert.FfnUpRefIdeal Cert.FfnUpRefIdeal.Gen

/-- The reference's result; the weight's slots side by side as in the backward product's reference. -/
def out (x : FVec Ideal S4096x1024 .bf16) (y : FVec Ideal S4x1024x1408 .bf16) : FVec Ideal S4096x2816 .bf16 :=
  truncf .bf16 (Host.dotGeneral dot_S4096x1024_S1024x2816_S4096x2816_1_0_0_1_n_n none (extf .f32 x bitsLt_bf16_f32) (Cert.DxUpRefIdeal.Ffn.weight y)) bitsLt_bf16_f32

theorem out_at (x : FVec Ideal S4096x1024 .bf16) (y : FVec Ideal S4x1024x1408 .bf16) (p : Fin 4096) (q : Fin 2816) :
    out x y (ix2 p q) = mat (fun r e => x (ix2 r e)) (Cert.FfnUpIdeal.Ffn.side fun s r e => y (ix3 s r e)) p q := by
  unfold mat Cert.FfnUpIdeal.Ffn.side
  pointwise [out]
  exact Finset.sum_congr rfl fun e _ => congrArg (_ * ·) (Cert.DxUpRefIdeal.Ffn.weight_at y e q)

end Cert.FfnUpRefIdeal.Ffn

namespace Cert.FfnUp.Claims

/-- The reference's frame: its generated run, read at the arguments. -/
theorem frame_ref : Cert.quiescent_FfnUpRefIdeal := fun m ρ _ =>
  (θ_run Cert.FfnUpRefIdeal.defs _ _).mono (fun _ h => ⟨fun c => (h c).2, Idealize.ShloMosaic.sem_eq_zero_of_no_sems (by decide) _⟩)
    (Cert.FfnUpRefIdeal.Value.run m ρ)

/-- The kernel's result is the reference's over the extended reals. -/
theorem value : Cert.algebraic_FfnUpIdeal_FfnUpRefIdeal := fun m ρ m' ρ' _ hag =>
  ⟨fun c => (Cert.FfnUpIdeal.Gen.dats m 0 c).arrAt 2 Cert.FfnUpIdeal.cfg0.N,
    Cert.FfnUpIdeal.Value.run_blocks m ρ,
    (θ_run _ _ _).mono (fun _ h c => by
      obtain ⟨h0, hr⟩ := h c
      obtain ⟨a0, a1⟩ := hag c
      refine ⟨h0.trans ?_, hr⟩
      rw [a0, a1]
      exact (ext2 (Cert.FfnUpRefIdeal.Ffn.out_at _ _)).trans (Cert.FfnUpIdeal.Ffn.arr m c).symm)
      (Cert.FfnUpRefIdeal.Value.run m' ρ')⟩

end Cert.FfnUp.Claims

end
end
-- ==== Proof.Proj.ProjIn.lean ====
/-
  A mixer's projection of width 2048, forward: a block of 512 tokens at a point; the reference is the one product.
-/
module

public import proofs.«01_k».proof.Proof.Kit
public import proofs.«01_k».proof.Proof.Gen.ProjIn.Frame
public import proofs.«01_k».proof.Proof.Gen.ProjInIdeal.Value
public import proofs.«01_k».proof.Proof.Gen.ProjInRefIdeal.Run

@[expose] public section

set_option maxRecDepth 16384

noncomputable section

open Idealize.ShloMosaic Idealize.ShloMosaic.TcCoe Idealize.SL.Sem Cert.Common

namespace Cert.ProjInIdeal.Proj

open Cert.ProjInIdeal Cert.ProjInIdeal.Gen

variable (m : (ℓ : Loc nD τ sig) → Buf (Elt Ideal) ℓ)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

/-- A point's block: its rows times the weight. -/
theorem out_point (c : Dev nD) (t : Fin cfg0.N) (p : Fin 512) (q : Fin 2048) :
    outsAt0 m c t (ix2 p q)
      = (∑ e : Fin 1024, (show Vec Ideal S512x1024 .bf16 from iblk m c 0 t) (ix2 p e)
          * (show Vec Ideal S1024x2048 .bf16 from iblk m c 1 t) (ix2 e q)) := by
  unfold outsAt0
  frame_open
  simp (disch := decide) only [↓ View.readCov_skip, ↓ View.readCov_cons_toLoadRect, ↓ View.readCov_fill]
  frame_out
  pointwise [k0_pay2, k0_pay1]

/-- The mixer's input as launched. -/
abbrev a0 (c : Dev nD) (r : Fin 4096) (e : Fin 1024) : EReal := m ((c : Thread nD τ).loc main_arg0) (ix2 r e)
/-- The weight as launched. -/
abbrev a1 (c : Dev nD) (r : Fin 1024) (e : Fin 2048) : EReal := m ((c : Thread nD τ).loc main_arg1) (ix2 r e)

/-- Row `p` of point `t`'s blocks as a token. -/
abbrev tokn (t : Fin cfg0.N) (p : Fin 512) : Fin 4096 :=
  ⟨t.val * 512 + p.val, by have : t.val < 8 := lt_of_lt_of_eq t.isLt Gen.N_0; omega⟩

theorem blk0 (c : Dev nD) (t : Fin cfg0.N) (p : Fin 512) (e : Fin 1024) :
    (show Vec Ideal S512x1024 .bf16 from iblk m c 0 t) (ix2 p e) = a0 m c (tokn t p) e := by
  unfold a0
  blk_ext [iblk, V, idx0 t]
theorem blk1 (c : Dev nD) (t : Fin cfg0.N) (r : Fin 1024) (e : Fin 2048) :
    (show Vec Ideal S1024x2048 .bf16 from iblk m c 1 t) (ix2 r e) = a1 m c r e := by
  unfold a1
  blk_ext [iblk, V, idx1 t]

/-- The kernel's result array after the run. -/
theorem arr (c : Dev nD) : (dats m 0 c).arrAt 2 cfg0.N = fun i => mat (a0 m c) (a1 m c) (i 0) (i 1) := by
  refine (dats m 0 c).arrAt_eq_of_covers 2 _ (by decide +kernel) fun t hf y => ?_
  blk_simp
  rw [after0_2]
  obtain ⟨p, q, rfl⟩ : ∃ (p : Fin 512) (q : Fin 2048), y = ix2 p q := ⟨y 0, y 1, eq_ix2 y⟩
  have hy : ((cfg0.win 2).blk t).view.emb (ix2 p q) = (ix2 (tokn t p) q : S4096x2048.Idx) := by
    blk_ext [idx2 t]
  refine Eq.trans ?_ (congrArg (fun i : S4096x2048.Idx => mat (a0 m c) (a1 m c) (i 0) (i 1)) hy).symm
  refine (out_point m c t p q).trans ?_
  unfold mat
  refine Finset.sum_congr rfl fun e _ => ?_
  rw [blk0, blk1]
  rfl

end Cert.ProjInIdeal.Proj

namespace Cert.ProjInRefIdeal.Proj

open Cert.ProjInRefIdeal Cert.ProjInRefIdeal.Gen

/-- The reference's result. -/
def out (x : FVec Ideal S4096x1024 .bf16) (y : FVec Ideal S1024x2048 .bf16) : FVec Ideal S4096x2048 .f32 :=
  Host.dotGeneral dot_S4096x1024_S1024x2048_S4096x2048_1_0_0_1_n_n none (extf .f32 x bitsLt_bf16_f32) (extf .f32 y bitsLt_bf16_f32)

theorem out_at (x : FVec Ideal S4096x1024 .bf16) (y : FVec Ideal S1024x2048 .bf16) (p : Fin 4096) (q : Fin 2048) :
    out x y (ix2 p q) = mat (fun r e => x (ix2 r e)) (fun e q => y (ix2 e q)) p q := by
  unfold mat
  pointwise [out]

end Cert.ProjInRefIdeal.Proj

namespace Cert.ProjIn.Claims

/-- The reference's frame: its generated run, read at the arguments. -/
theorem frame_ref : Cert.quiescent_ProjInRefIdeal := fun m ρ _ =>
  (θ_run Cert.ProjInRefIdeal.defs _ _).mono (fun _ h => ⟨fun c => (h c).2, Idealize.ShloMosaic.sem_eq_zero_of_no_sems (by decide) _⟩)
    (Cert.ProjInRefIdeal.Value.run m ρ)

/-- The kernel's result is the reference's over the extended reals. -/
theorem value : Cert.algebraic_ProjInIdeal_ProjInRefIdeal := fun m ρ m' ρ' _ hag =>
  ⟨fun c => (Cert.ProjInIdeal.Gen.dats m 0 c).arrAt 2 Cert.ProjInIdeal.cfg0.N,
    Cert.ProjInIdeal.Value.run_blocks m ρ,
    (θ_run _ _ _).mono (fun _ h c => by
      obtain ⟨h0, hr⟩ := h c
      obtain ⟨a0, a1⟩ := hag c
      refine ⟨h0.trans ?_, hr⟩
      rw [a0, a1]
      exact (ext2 (Cert.ProjInRefIdeal.Proj.out_at _ _)).trans (Cert.ProjInIdeal.Proj.arr m c).symm)
      (Cert.ProjInRefIdeal.Value.run m' ρ')⟩

end Cert.ProjIn.Claims

end
end
-- ==== Proof.Proj.DwIn.lean ====
/-
  The gradient of the weight of a mixer's projection of width 2048: the kernel adds up, over four tiles of 1024 tokens,
  the products of the input's columns with the gradient's columns; the reference is one sum over the 4096 tokens.
-/
module

public import proofs.«01_k».proof.Proof.Kit
public import proofs.«01_k».proof.Proof.Gen.DwIn.Frame
public import proofs.«01_k».proof.Proof.Gen.DwInIdeal.Value
public import proofs.«01_k».proof.Proof.Gen.DwInRefIdeal.Run

@[expose] public section

set_option maxRecDepth 16384

noncomputable section

open Idealize.ShloMosaic Idealize.ShloMosaic.TcCoe Idealize.SL.Sem Cert.Common

namespace Cert.DwInIdeal.Proj

open Cert.DwInIdeal Cert.DwInIdeal.Gen

variable (m : (ℓ : Loc nD τ sig) → Buf (Elt Ideal) ℓ)

theorem idx0 : ∀ t : Fin grid0.N, win0_0.index t = ![t.val % 4, t.val / 4] := by decide +kernel
theorem idx1 : ∀ t : Fin grid0.N, win0_1.index t = ![t.val % 4, 0] := by decide +kernel
theorem idx2 : ∀ t : Fin grid0.N, win0_2.index t = ![t.val / 4, 0] := by decide +kernel

/-- What a point adds at row `p` and column `q` of its block: the sum over its 1024 tokens. -/
def part (x0 : Vec Ideal S1024x512 .bf16) (x1 : Vec Ideal S1024x2048 .bf16) (p : Fin 512) (q : Fin 2048) : EReal :=
  ∑ r : Fin 1024, x0 (ix2 r p) * x1 (ix2 r q)

theorem acc_A (c : Dev nD) (t : Fin cfg0.N) (ht : t.val % 4 = 0) (p : Fin 512) (q : Fin 2048) :
    (outsAt0 m c t.val t.isLt).2 (ix2 p q) = 0 + part (iblk m c 0 t) (iblk m c 1 t) p q := by
  rw [outsAt0_A m c t ht (by omega)]
  frame_open
  simp (disch := decide) only [↓ View.readCov_skip, ↓ View.readCov_cons_toLoadRect, ↓ View.readCov_fill]
  frame_out
  unfold part
  pointwise [k0_pay2, k0_pay1]

theorem acc_B (c : Dev nD) (t : Fin cfg0.N) (ht : ¬ t.val % 4 = 0) (p : Fin 512) (q : Fin 2048) :
    (outsAt0 m c t.val t.isLt).2 (ix2 p q)
      = (outsAt0 m c (t.val - 1) (Nat.lt_of_le_of_lt (Nat.sub_le _ _) t.isLt)).2 (ix2 p q)
        + part (iblk m c 0 t) (iblk m c 1 t) p q := by
  by_cases h : t.val % 4 = 3
  · rw [outsAt0_C m c t ht h]
    frame_open
    simp (disch := decide) only [↓ View.readCov_skip, ↓ View.readCov_cons_toLoadRect, ↓ View.readCov_fill]
    frame_out
    simp only [read_unread_whole]
    unfold part
    pointwise [k0_pay2]
  · rw [outsAt0_B m c t ht h]
    frame_open
    simp (disch := decide) only [↓ View.readCov_skip, ↓ View.readCov_cons_toLoadRect, ↓ View.readCov_fill]
    frame_out
    simp only [read_unread_whole]
    unfold part
    pointwise [k0_pay2]

/-- The last point of a block writes the sum out. -/
theorem out_C (c : Dev nD) (t : Fin cfg0.N) (ht : t.val % 4 = 3) (p : Fin 512) (q : Fin 2048) :
    (outsAt0 m c t.val t.isLt).1 (ix2 p q) = (outsAt0 m c t.val t.isLt).2 (ix2 p q) := by
  rw [acc_B m c t (by omega), outsAt0_C m c t (by omega) ht]
  frame_open
  simp (disch := decide) only [↓ View.readCov_skip, ↓ View.readCov_cons_toLoadRect, ↓ View.readCov_fill]
  frame_out
  simp only [read_unread_whole]
  unfold part
  pointwise [k0_pay3, k0_pay2]

/-- The product's input as launched. -/
abbrev a0 (c : Dev nD) (r : Fin 4096) (e : Fin 1024) : EReal := m ((c : Thread nD τ).loc main_arg0) (ix2 r e)
/-- The gradient of the product's result as launched. -/
abbrev a1 (c : Dev nD) (r : Fin 4096) (e : Fin 2048) : EReal := m ((c : Thread nD τ).loc main_arg1) (ix2 r e)

/-- Row `p` of point `t`'s output block as a row of the array. -/
abbrev orow (t : Fin cfg0.N) (p : Fin 512) : Fin 1024 :=
  ⟨t.val / 4 * 512 + p.val, by have : t.val < 8 := lt_of_lt_of_eq t.isLt Gen.N_0; omega⟩
/-- Row `r` of point `t`'s input blocks as a token. -/
abbrev tokn (t : Fin cfg0.N) (r : Fin 1024) : Fin 4096 := ⟨t.val % 4 * 1024 + r.val, by omega⟩

theorem blk0 (c : Dev nD) (t : Fin cfg0.N) (r : Fin 1024) (p : Fin 512) :
    iblk m c 0 t (ix2 r p) = a0 m c (tokn t r) (orow t p) := by
  unfold a0
  blk_ext [iblk, V, idx0 t]
theorem blk1 (c : Dev nD) (t : Fin cfg0.N) (r : Fin 1024) (q : Fin 2048) :
    iblk m c 1 t (ix2 r q) = a1 m c (tokn t r) q := by
  unfold a1
  blk_ext [iblk, V, idx1 t]

/-- At a block's last point the accumulator holds the whole sum. -/
theorem sum_at (c : Dev nD) (t : Fin cfg0.N) (ht : t.val % 4 = 3) (p : Fin 512) (q : Fin 2048) :
    (outsAt0 m c t.val t.isLt).2 (ix2 p q) = mat (fun p r => a0 m c r p) (a1 m c) (orow t p) q := by
  have hN : t.val < 8 := lt_of_lt_of_eq t.isLt Gen.N_0
  have e := Pipeline.eq_sum_fin_of_reset_step_of_flush (M := EReal)
    (fun n hn => (outsAt0 m c n hn).2 (ix2 p q)) 4 0 _
    (fun t ht => acc_A m c t ht p q) (fun t ht => acc_B m c t ht p q) t ht
  refine e.trans ((zero_add _).trans ?_)
  unfold mat part
  refine Fin.sum_mul_add_congr fun s r hl => ?_
  rw [blk0, blk1]
  have e1 : orow ⟨4 * (t.val / 4) + s.val, by have := s.isLt; exact lt_of_lt_of_eq (by omega) Gen.N_0.symm⟩ p = orow t p :=
    Fin.ext (by show (4 * (t.val / 4) + s.val) / 4 * 512 + p.val = t.val / 4 * 512 + p.val; omega)
  have e2 : tokn ⟨4 * (t.val / 4) + s.val, by have := s.isLt; exact lt_of_lt_of_eq (by omega) Gen.N_0.symm⟩ r
      = ⟨s.val * 1024 + r.val, hl⟩ :=
    Fin.ext (by show (4 * (t.val / 4) + s.val) % 4 * 1024 + r.val = s.val * 1024 + r.val; omega)
  rw [e1, e2]

/-- The kernel's result array after the run. -/
theorem arr (c : Dev nD) : (dats m 0 c).arrAt 2 cfg0.N = fun i => mat (fun p r => a0 m c r p) (a1 m c) (i 0) (i 1) := by
  refine (dats m 0 c).arrAt_eq_of_covers 2 _ (by decide +kernel) fun t hf y => ?_
  blk_simp
  rw [after0_2]
  obtain ⟨p, q, rfl⟩ : ∃ (p : Fin 512) (q : Fin 2048), y = ix2 p q := ⟨y 0, y 1, eq_ix2 y⟩
  have hy : ((cfg0.win 2).blk t).view.emb (ix2 p q) = (ix2 (orow t p) q : S1024x2048.Idx) := by
    blk_ext [idx2 t]
  refine Eq.trans ?_ (congrArg (fun i : S1024x2048.Idx => mat (fun p r => a0 m c r p) (a1 m c) (i 0) (i 1)) hy).symm
  exact (out_C m c t ((flush0_2 t).mp hf) p q).trans (sum_at m c t ((flush0_2 t).mp hf) p q)

end Cert.DwInIdeal.Proj

namespace Cert.DwInRefIdeal.Proj

open Cert.DwInRefIdeal Cert.DwInRefIdeal.Gen

/-- The reference's result. -/
def out (x : FVec Ideal S4096x1024 .bf16) (y : FVec Ideal S4096x2048 .bf16) : FVec Ideal S1024x2048 .bf16 :=
  truncf .bf16 (transpose S1024x2048 [1, 0] (Host.dotGeneral dot_S4096x2048_S4096x1024_S2048x1024_0_0_1_1_n_n none (extf .f32 y bitsLt_bf16_f32) (extf .f32 x bitsLt_bf16_f32)) transposes_S2048x1024_S1024x2048_1_0) bitsLt_bf16_f32

theorem out_at (x : FVec Ideal S4096x1024 .bf16) (y : FVec Ideal S4096x2048 .bf16) (p : Fin 1024) (q : Fin 2048) :
    out x y (ix2 p q) = mat (fun p r => x (ix2 r p)) (fun r e => y (ix2 r e)) p q := by
  unfold mat
  pointwise [out]
  exact Finset.sum_congr rfl fun r _ => mul_comm _ _

end Cert.DwInRefIdeal.Proj

namespace Cert.DwIn.Claims

/-- The reference's frame: its generated run, read at the arguments. -/
theorem frame_ref : Cert.quiescent_DwInRefIdeal := fun m ρ _ =>
  (θ_run Cert.DwInRefIdeal.defs _ _).mono (fun _ h => ⟨fun c => (h c).2, Idealize.ShloMosaic.sem_eq_zero_of_no_sems (by decide) _⟩)
    (Cert.DwInRefIdeal.Value.run m ρ)

/-- The kernel's result is the reference's over the extended reals. -/
theorem value : Cert.algebraic_DwInIdeal_DwInRefIdeal := fun m ρ m' ρ' _ hag =>
  ⟨fun c => (Cert.DwInIdeal.Gen.dats m 0 c).arrAt 2 Cert.DwInIdeal.cfg0.N,
    Cert.DwInIdeal.Value.run_blocks m ρ,
    (θ_run _ _ _).mono (fun _ h c => by
      obtain ⟨h0, hr⟩ := h c
      obtain ⟨a0, a1⟩ := hag c
      refine ⟨h0.trans ?_, hr⟩
      rw [a0, a1]
      exact (ext2 (Cert.DwInRefIdeal.Proj.out_at _ _)).trans (Cert.DwInIdeal.Proj.arr m c).symm)
      (Cert.DwInRefIdeal.Value.run m' ρ')⟩

end Cert.DwIn.Claims

end
end
-- ==== Proof.Proj.DxIn.lean ====
/-
  The gradient of the mixer's input through its first projection of width 2048: rows of the gradient times rows of the
  weight, a block of 512 tokens at a point; the reference is the one product.
-/
module

public import proofs.«01_k».proof.Proof.Kit
public import proofs.«01_k».proof.Proof.Gen.DxIn.Frame
public import proofs.«01_k».proof.Proof.Gen.DxInIdeal.Value
public import proofs.«01_k».proof.Proof.Gen.DxInRefIdeal.Run

@[expose] public section

set_option maxRecDepth 16384

noncomputable section

open Idealize.ShloMosaic Idealize.ShloMosaic.TcCoe Idealize.SL.Sem Cert.Common

namespace Cert.DxInIdeal.Proj

open Cert.DxInIdeal Cert.DxInIdeal.Gen

variable (m : (ℓ : Loc nD τ sig) → Buf (Elt Ideal) ℓ)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

/-- A point's block: its rows times the weight. -/
theorem out_point (c : Dev nD) (t : Fin cfg0.N) (p : Fin 512) (q : Fin 1024) :
    outsAt0 m c t (ix2 p q)
      = (∑ e : Fin 2048, (show Vec Ideal S512x2048 .bf16 from iblk m c 0 t) (ix2 p e)
          * (show Vec Ideal S1024x2048 .bf16 from iblk m c 1 t) (ix2 q e)) := by
  unfold outsAt0
  frame_open
  simp (disch := decide) only [↓ View.readCov_skip, ↓ View.readCov_cons_toLoadRect, ↓ View.readCov_fill]
  frame_out
  pointwise [k0_pay2, k0_pay1]

/-- The projection's gradient as launched. -/
abbrev a0 (c : Dev nD) (r : Fin 4096) (e : Fin 2048) : EReal := m ((c : Thread nD τ).loc main_arg0) (ix2 r e)
/-- The weight as launched. -/
abbrev a1 (c : Dev nD) (r : Fin 1024) (e : Fin 2048) : EReal := m ((c : Thread nD τ).loc main_arg1) (ix2 r e)

/-- Row `p` of point `t`'s blocks as a token. -/
abbrev tokn (t : Fin cfg0.N) (p : Fin 512) : Fin 4096 :=
  ⟨t.val * 512 + p.val, by have : t.val < 8 := lt_of_lt_of_eq t.isLt Gen.N_0; omega⟩

theorem blk0 (c : Dev nD) (t : Fin cfg0.N) (p : Fin 512) (e : Fin 2048) :
    (show Vec Ideal S512x2048 .bf16 from iblk m c 0 t) (ix2 p e) = a0 m c (tokn t p) e := by
  unfold a0
  blk_ext [iblk, V, idx0 t]
theorem blk1 (c : Dev nD) (t : Fin cfg0.N) (r : Fin 1024) (e : Fin 2048) :
    (show Vec Ideal S1024x2048 .bf16 from iblk m c 1 t) (ix2 r e) = a1 m c r e := by
  unfold a1
  blk_ext [iblk, V, idx1 t]

/-- The kernel's result array after the run. -/
theorem arr (c : Dev nD) : (dats m 0 c).arrAt 2 cfg0.N = fun i => mat (a0 m c) (fun e q => a1 m c q e) (i 0) (i 1) := by
  refine (dats m 0 c).arrAt_eq_of_covers 2 _ (by decide +kernel) fun t hf y => ?_
  blk_simp
  rw [after0_2]
  obtain ⟨p, q, rfl⟩ : ∃ (p : Fin 512) (q : Fin 1024), y = ix2 p q := ⟨y 0, y 1, eq_ix2 y⟩
  have hy : ((cfg0.win 2).blk t).view.emb (ix2 p q) = (ix2 (tokn t p) q : S4096x1024.Idx) := by
    blk_ext [idx2 t]
  refine Eq.trans ?_ (congrArg (fun i : S4096x1024.Idx => mat (a0 m c) (fun e q => a1 m c q e) (i 0) (i 1)) hy).symm
  refine (out_point m c t p q).trans ?_
  unfold mat
  refine Finset.sum_congr rfl fun e _ => ?_
  rw [blk0, blk1]
  rfl

end Cert.DxInIdeal.Proj

namespace Cert.DxInRefIdeal.Proj

open Cert.DxInRefIdeal Cert.DxInRefIdeal.Gen

/-- The reference's result. -/
def out (x : FVec Ideal S4096x2048 .bf16) (y : FVec Ideal S1024x2048 .bf16) : FVec Ideal S4096x1024 .f32 :=
  Host.dotGeneral dot_S4096x2048_S1024x2048_S4096x1024_1_1_0_0_n_n none (extf .f32 x bitsLt_bf16_f32) (extf .f32 y bitsLt_bf16_f32)

theorem out_at (x : FVec Ideal S4096x2048 .bf16) (y : FVec Ideal S1024x2048 .bf16) (p : Fin 4096) (q : Fin 1024) :
    out x y (ix2 p q) = mat (fun r e => x (ix2 r e)) (fun e q => y (ix2 q e)) p q := by
  unfold mat
  pointwise [out]

end Cert.DxInRefIdeal.Proj

namespace Cert.DxIn.Claims

/-- The reference's frame: its generated run, read at the arguments. -/
theorem frame_ref : Cert.quiescent_DxInRefIdeal := fun m ρ _ =>
  (θ_run Cert.DxInRefIdeal.defs _ _).mono (fun _ h => ⟨fun c => (h c).2, Idealize.ShloMosaic.sem_eq_zero_of_no_sems (by decide) _⟩)
    (Cert.DxInRefIdeal.Value.run m ρ)

/-- The kernel's result is the reference's over the extended reals. -/
theorem value : Cert.algebraic_DxInIdeal_DxInRefIdeal := fun m ρ m' ρ' _ hag =>
  ⟨fun c => (Cert.DxInIdeal.Gen.dats m 0 c).arrAt 2 Cert.DxInIdeal.cfg0.N,
    Cert.DxInIdeal.Value.run_blocks m ρ,
    (θ_run _ _ _).mono (fun _ h c => by
      obtain ⟨h0, hr⟩ := h c
      obtain ⟨a0, a1⟩ := hag c
      refine ⟨h0.trans ?_, hr⟩
      rw [a0, a1]
      exact (ext2 (Cert.DxInRefIdeal.Proj.out_at _ _)).trans (Cert.DxInIdeal.Proj.arr m c).symm)
      (Cert.DxInRefIdeal.Value.run m' ρ')⟩

end Cert.DxIn.Claims

end
end
-- ==== Proof.Proj.DxInNext.lean ====
/-
  The gradient of the mixer's input through a further projection of width 2048, added to the gradient so far: a block of
  512 tokens at a point; the reference is one product and a sum.
-/
module

public import proofs.«01_k».proof.Proof.Kit
public import proofs.«01_k».proof.Proof.Gen.DxInNext.Frame
public import proofs.«01_k».proof.Proof.Gen.DxInNextIdeal.Value
public import proofs.«01_k».proof.Proof.Gen.DxInNextRefIdeal.Run

@[expose] public section

set_option maxRecDepth 16384

noncomputable section

open Idealize.ShloMosaic Idealize.ShloMosaic.TcCoe Idealize.SL.Sem Cert.Common

namespace Cert.DxInNextIdeal.Proj

open Cert.DxInNextIdeal Cert.DxInNextIdeal.Gen

variable (m : (ℓ : Loc nD τ sig) → Buf (Elt Ideal) ℓ)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![t.val, 0] := by decide +kernel

/-- A point's block: its rows times the weight, and the third argument's block added. -/
theorem out_point (c : Dev nD) (t : Fin cfg0.N) (p : Fin 512) (q : Fin 1024) :
    outsAt0 m c t (ix2 p q)
      = (∑ e : Fin 2048, (show Vec Ideal S512x2048 .bf16 from iblk m c 0 t) (ix2 p e)
          * (show Vec Ideal S1024x2048 .bf16 from iblk m c 1 t) (ix2 q e)) + (show Vec Ideal S512x1024 .f32 from iblk m c 2 t) (ix2 p q) := by
  unfold outsAt0
  frame_open
  simp (disch := decide) only [↓ View.readCov_skip, ↓ View.readCov_cons_toLoadRect, ↓ View.readCov_fill]
  frame_out
  pointwise [k0_pay3, k0_pay2, k0_pay1]

/-- The projection's gradient as launched. -/
abbrev a0 (c : Dev nD) (r : Fin 4096) (e : Fin 2048) : EReal := m ((c : Thread nD τ).loc main_arg0) (ix2 r e)
/-- The weight as launched. -/
abbrev a1 (c : Dev nD) (r : Fin 1024) (e : Fin 2048) : EReal := m ((c : Thread nD τ).loc main_arg1) (ix2 r e)
/-- The gradient so far as launched. -/
abbrev a2 (c : Dev nD) (r : Fin 4096) (e : Fin 1024) : EReal := m ((c : Thread nD τ).loc main_arg2) (ix2 r e)

/-- Row `p` of point `t`'s blocks as a token. -/
abbrev tokn (t : Fin cfg0.N) (p : Fin 512) : Fin 4096 :=
  ⟨t.val * 512 + p.val, by have : t.val < 8 := lt_of_lt_of_eq t.isLt Gen.N_0; omega⟩

theorem blk0 (c : Dev nD) (t : Fin cfg0.N) (p : Fin 512) (e : Fin 2048) :
    (show Vec Ideal S512x2048 .bf16 from iblk m c 0 t) (ix2 p e) = a0 m c (tokn t p) e := by
  unfold a0
  blk_ext [iblk, V, idx0 t]
theorem blk1 (c : Dev nD) (t : Fin cfg0.N) (r : Fin 1024) (e : Fin 2048) :
    (show Vec Ideal S1024x2048 .bf16 from iblk m c 1 t) (ix2 r e) = a1 m c r e := by
  unfold a1
  blk_ext [iblk, V, idx1 t]
theorem blk2 (c : Dev nD) (t : Fin cfg0.N) (p : Fin 512) (q : Fin 1024) :
    (show Vec Ideal S512x1024 .f32 from iblk m c 2 t) (ix2 p q) = a2 m c (tokn t p) q := by
  unfold a2
  blk_ext [iblk, V, idx2 t]

/-- The kernel's result array after the run. -/
theorem arr (c : Dev nD) : (dats m 0 c).arrAt 3 cfg0.N = fun i => a2 m c (i 0) (i 1) + mat (a0 m c) (fun e q => a1 m c q e) (i 0) (i 1) := by
  refine (dats m 0 c).arrAt_eq_of_covers 3 _ (by decide +kernel) fun t hf y => ?_
  blk_simp
  rw [after0_3]
  obtain ⟨p, q, rfl⟩ : ∃ (p : Fin 512) (q : Fin 1024), y = ix2 p q := ⟨y 0, y 1, eq_ix2 y⟩
  have hy : ((cfg0.win 3).blk t).view.emb (ix2 p q) = (ix2 (tokn t p) q : S4096x1024.Idx) := by
    blk_ext [idx3 t]
  refine Eq.trans ?_ (congrArg (fun i : S4096x1024.Idx => a2 m c (i 0) (i 1) + mat (a0 m c) (fun e q => a1 m c q e) (i 0) (i 1)) hy).symm
  refine (out_point m c t p q).trans ?_
  refine (add_comm _ _).trans (congrArg₂ (· + ·) (blk2 m c t p q) ?_)
  unfold mat
  refine Finset.sum_congr rfl fun e _ => ?_
  rw [blk0, blk1]
  rfl

end Cert.DxInNextIdeal.Proj

namespace Cert.DxInNextRefIdeal.Proj

open Cert.DxInNextRefIdeal Cert.DxInNextRefIdeal.Gen

/-- The reference's result. -/
def out (x : FVec Ideal S4096x2048 .bf16) (y : FVec Ideal S1024x2048 .bf16) (z : FVec Ideal S4096x1024 .f32) : FVec Ideal S4096x1024 .f32 :=
  addf z (Host.dotGeneral dot_S4096x2048_S1024x2048_S4096x1024_1_1_0_0_n_n none (extf .f32 x bitsLt_bf16_f32) (extf .f32 y bitsLt_bf16_f32))

theorem out_at (x : FVec Ideal S4096x2048 .bf16) (y : FVec Ideal S1024x2048 .bf16) (z : FVec Ideal S4096x1024 .f32) (p : Fin 4096) (q : Fin 1024) :
    out x y z (ix2 p q) = z (ix2 p q) + mat (fun r e => x (ix2 r e)) (fun e q => y (ix2 q e)) p q := by
  unfold mat
  pointwise [out]

end Cert.DxInNextRefIdeal.Proj

namespace Cert.DxInNext.Claims

/-- The reference's frame: its generated run, read at the arguments. -/
theorem frame_ref : Cert.quiescent_DxInNextRefIdeal := fun m ρ _ =>
  (θ_run Cert.DxInNextRefIdeal.defs _ _).mono (fun _ h => ⟨fun c => (h c).2, Idealize.ShloMosaic.sem_eq_zero_of_no_sems (by decide) _⟩)
    (Cert.DxInNextRefIdeal.Value.run m ρ)

/-- The kernel's result is the reference's over the extended reals. -/
theorem value : Cert.algebraic_DxInNextIdeal_DxInNextRefIdeal := fun m ρ m' ρ' _ hag =>
  ⟨fun c => (Cert.DxInNextIdeal.Gen.dats m 0 c).arrAt 3 Cert.DxInNextIdeal.cfg0.N,
    Cert.DxInNextIdeal.Value.run_blocks m ρ,
    (θ_run _ _ _).mono (fun _ h c => by
      obtain ⟨h0, hr⟩ := h c
      obtain ⟨a0, a1, a2⟩ := hag c
      refine ⟨h0.trans ?_, hr⟩
      rw [a0, a1, a2]
      exact (ext2 (Cert.DxInNextRefIdeal.Proj.out_at _ _ _)).trans (Cert.DxInNextIdeal.Proj.arr m c).symm)
      (Cert.DxInNextRefIdeal.Value.run m' ρ')⟩

end Cert.DxInNext.Claims

end
end
-- ==== Proof.Proj.ProjOut.lean ====
/-
  The projection out of a mixer of width 2048, forward, with the layer's input added: a block of 512 tokens at a point;
  the reference is one product and a sum.
-/
module

public import proofs.«01_k».proof.Proof.Kit
public import proofs.«01_k».proof.Proof.Gen.ProjOut.Frame
public import proofs.«01_k».proof.Proof.Gen.ProjOutIdeal.Value
public import proofs.«01_k».proof.Proof.Gen.ProjOutRefIdeal.Run

@[expose] public section

set_option maxRecDepth 16384

noncomputable section

open Idealize.ShloMosaic Idealize.ShloMosaic.TcCoe Idealize.SL.Sem Cert.Common

namespace Cert.ProjOutIdeal.Proj

open Cert.ProjOutIdeal Cert.ProjOutIdeal.Gen

variable (m : (ℓ : Loc nD τ sig) → Buf (Elt Ideal) ℓ)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![t.val, 0] := by decide +kernel

/-- A point's block: its rows times the weight, and the third argument's block added. -/
theorem out_point (c : Dev nD) (t : Fin cfg0.N) (p : Fin 512) (q : Fin 1024) :
    outsAt0 m c t (ix2 p q)
      = (∑ e : Fin 2048, (show Vec Ideal S512x2048 .bf16 from iblk m c 0 t) (ix2 p e)
          * (show Vec Ideal S2048x1024 .bf16 from iblk m c 1 t) (ix2 e q)) + (show Vec Ideal S512x1024 .f32 from iblk m c 2 t) (ix2 p q) := by
  unfold outsAt0
  frame_open
  simp (disch := decide) only [↓ View.readCov_skip, ↓ View.readCov_cons_toLoadRect, ↓ View.readCov_fill]
  frame_out
  pointwise [k0_pay3, k0_pay2, k0_pay1]

/-- The mixer's result as launched. -/
abbrev a0 (c : Dev nD) (r : Fin 4096) (e : Fin 2048) : EReal := m ((c : Thread nD τ).loc main_arg0) (ix2 r e)
/-- The weight as launched. -/
abbrev a1 (c : Dev nD) (r : Fin 2048) (e : Fin 1024) : EReal := m ((c : Thread nD τ).loc main_arg1) (ix2 r e)
/-- The layer's input as launched. -/
abbrev a2 (c : Dev nD) (r : Fin 4096) (e : Fin 1024) : EReal := m ((c : Thread nD τ).loc main_arg2) (ix2 r e)

/-- Row `p` of point `t`'s blocks as a token. -/
abbrev tokn (t : Fin cfg0.N) (p : Fin 512) : Fin 4096 :=
  ⟨t.val * 512 + p.val, by have : t.val < 8 := lt_of_lt_of_eq t.isLt Gen.N_0; omega⟩

theorem blk0 (c : Dev nD) (t : Fin cfg0.N) (p : Fin 512) (e : Fin 2048) :
    (show Vec Ideal S512x2048 .bf16 from iblk m c 0 t) (ix2 p e) = a0 m c (tokn t p) e := by
  unfold a0
  blk_ext [iblk, V, idx0 t]
theorem blk1 (c : Dev nD) (t : Fin cfg0.N) (r : Fin 2048) (e : Fin 1024) :
    (show Vec Ideal S2048x1024 .bf16 from iblk m c 1 t) (ix2 r e) = a1 m c r e := by
  unfold a1
  blk_ext [iblk, V, idx1 t]
theorem blk2 (c : Dev nD) (t : Fin cfg0.N) (p : Fin 512) (q : Fin 1024) :
    (show Vec Ideal S512x1024 .f32 from iblk m c 2 t) (ix2 p q) = a2 m c (tokn t p) q := by
  unfold a2
  blk_ext [iblk, V, idx2 t]

/-- The kernel's result array after the run. -/
theorem arr (c : Dev nD) : (dats m 0 c).arrAt 3 cfg0.N = fun i => a2 m c (i 0) (i 1) + mat (a0 m c) (a1 m c) (i 0) (i 1) := by
  refine (dats m 0 c).arrAt_eq_of_covers 3 _ (by decide +kernel) fun t hf y => ?_
  blk_simp
  rw [after0_3]
  obtain ⟨p, q, rfl⟩ : ∃ (p : Fin 512) (q : Fin 1024), y = ix2 p q := ⟨y 0, y 1, eq_ix2 y⟩
  have hy : ((cfg0.win 3).blk t).view.emb (ix2 p q) = (ix2 (tokn t p) q : S4096x1024.Idx) := by
    blk_ext [idx3 t]
  refine Eq.trans ?_ (congrArg (fun i : S4096x1024.Idx => a2 m c (i 0) (i 1) + mat (a0 m c) (a1 m c) (i 0) (i 1)) hy).symm
  refine (out_point m c t p q).trans ?_
  refine (add_comm _ _).trans (congrArg₂ (· + ·) (blk2 m c t p q) ?_)
  unfold mat
  refine Finset.sum_congr rfl fun e _ => ?_
  rw [blk0, blk1]
  rfl

end Cert.ProjOutIdeal.Proj

namespace Cert.ProjOutRefIdeal.Proj

open Cert.ProjOutRefIdeal Cert.ProjOutRefIdeal.Gen

/-- The reference's result. -/
def out (x : FVec Ideal S4096x2048 .bf16) (y : FVec Ideal S2048x1024 .bf16) (z : FVec Ideal S4096x1024 .f32) : FVec Ideal S4096x1024 .f32 :=
  addf z (Host.dotGeneral dot_S4096x2048_S2048x1024_S4096x1024_1_0_0_1_n_n none (extf .f32 x bitsLt_bf16_f32) (extf .f32 y bitsLt_bf16_f32))

theorem out_at (x : FVec Ideal S4096x2048 .bf16) (y : FVec Ideal S2048x1024 .bf16) (z : FVec Ideal S4096x1024 .f32) (p : Fin 4096) (q : Fin 1024) :
    out x y z (ix2 p q) = z (ix2 p q) + mat (fun r e => x (ix2 r e)) (fun e q => y (ix2 e q)) p q := by
  unfold mat
  pointwise [out]

end Cert.ProjOutRefIdeal.Proj

namespace Cert.ProjOut.Claims

/-- The reference's frame: its generated run, read at the arguments. -/
theorem frame_ref : Cert.quiescent_ProjOutRefIdeal := fun m ρ _ =>
  (θ_run Cert.ProjOutRefIdeal.defs _ _).mono (fun _ h => ⟨fun c => (h c).2, Idealize.ShloMosaic.sem_eq_zero_of_no_sems (by decide) _⟩)
    (Cert.ProjOutRefIdeal.Value.run m ρ)

/-- The kernel's result is the reference's over the extended reals. -/
theorem value : Cert.algebraic_ProjOutIdeal_ProjOutRefIdeal := fun m ρ m' ρ' _ hag =>
  ⟨fun c => (Cert.ProjOutIdeal.Gen.dats m 0 c).arrAt 3 Cert.ProjOutIdeal.cfg0.N,
    Cert.ProjOutIdeal.Value.run_blocks m ρ,
    (θ_run _ _ _).mono (fun _ h c => by
      obtain ⟨h0, hr⟩ := h c
      obtain ⟨a0, a1, a2⟩ := hag c
      refine ⟨h0.trans ?_, hr⟩
      rw [a0, a1, a2]
      exact (ext2 (Cert.ProjOutRefIdeal.Proj.out_at _ _ _)).trans (Cert.ProjOutIdeal.Proj.arr m c).symm)
      (Cert.ProjOutRefIdeal.Value.run m' ρ')⟩

end Cert.ProjOut.Claims

end
end
-- ==== Proof.Proj.DwOut.lean ====
/-
  The gradient of the weight of the projection out of a mixer: the kernel adds up, over four tiles of 1024 tokens, the
  products of the mixer's columns with the gradient's columns; the reference is one sum over the 4096 tokens.
-/
module

public import proofs.«01_k».proof.Proof.Kit
public import proofs.«01_k».proof.Proof.Gen.DwOut.Frame
public import proofs.«01_k».proof.Proof.Gen.DwOutIdeal.Value
public import proofs.«01_k».proof.Proof.Gen.DwOutRefIdeal.Run

@[expose] public section

set_option maxRecDepth 16384

noncomputable section

open Idealize.ShloMosaic Idealize.ShloMosaic.TcCoe Idealize.SL.Sem Cert.Common

namespace Cert.DwOutIdeal.Proj

open Cert.DwOutIdeal Cert.DwOutIdeal.Gen

variable (m : (ℓ : Loc nD τ sig) → Buf (Elt Ideal) ℓ)

theorem idx0 : ∀ t : Fin grid0.N, win0_0.index t = ![t.val % 4, t.val / 4] := by decide +kernel
theorem idx1 : ∀ t : Fin grid0.N, win0_1.index t = ![t.val % 4, 0] := by decide +kernel
theorem idx2 : ∀ t : Fin grid0.N, win0_2.index t = ![t.val / 4, 0] := by decide +kernel

/-- What a point adds at row `p` and column `q` of its block: the sum over its 1024 tokens. -/
def part (x0 : Vec Ideal S1024x512 .bf16) (x1 : Vec Ideal S1024x1024 .f32) (p : Fin 512) (q : Fin 1024) : EReal :=
  ∑ r : Fin 1024, x0 (ix2 r p) * x1 (ix2 r q)

theorem acc_A (c : Dev nD) (t : Fin cfg0.N) (ht : t.val % 4 = 0) (p : Fin 512) (q : Fin 1024) :
    (outsAt0 m c t.val t.isLt).2 (ix2 p q) = 0 + part (iblk m c 0 t) (iblk m c 1 t) p q := by
  rw [outsAt0_A m c t ht (by omega)]
  frame_open
  simp (disch := decide) only [↓ View.readCov_skip, ↓ View.readCov_cons_toLoadRect, ↓ View.readCov_fill]
  frame_out
  unfold part
  pointwise [k0_pay2, k0_pay1]

theorem acc_B (c : Dev nD) (t : Fin cfg0.N) (ht : ¬ t.val % 4 = 0) (p : Fin 512) (q : Fin 1024) :
    (outsAt0 m c t.val t.isLt).2 (ix2 p q)
      = (outsAt0 m c (t.val - 1) (Nat.lt_of_le_of_lt (Nat.sub_le _ _) t.isLt)).2 (ix2 p q)
        + part (iblk m c 0 t) (iblk m c 1 t) p q := by
  by_cases h : t.val % 4 = 3
  · rw [outsAt0_C m c t ht h]
    frame_open
    simp (disch := decide) only [↓ View.readCov_skip, ↓ View.readCov_cons_toLoadRect, ↓ View.readCov_fill]
    frame_out
    simp only [read_unread_whole]
    unfold part
    pointwise [k0_pay2]
  · rw [outsAt0_B m c t ht h]
    frame_open
    simp (disch := decide) only [↓ View.readCov_skip, ↓ View.readCov_cons_toLoadRect, ↓ View.readCov_fill]
    frame_out
    simp only [read_unread_whole]
    unfold part
    pointwise [k0_pay2]

/-- The last point of a block writes the sum out. -/
theorem out_C (c : Dev nD) (t : Fin cfg0.N) (ht : t.val % 4 = 3) (p : Fin 512) (q : Fin 1024) :
    (outsAt0 m c t.val t.isLt).1 (ix2 p q) = (outsAt0 m c t.val t.isLt).2 (ix2 p q) := by
  rw [acc_B m c t (by omega), outsAt0_C m c t (by omega) ht]
  frame_open
  simp (disch := decide) only [↓ View.readCov_skip, ↓ View.readCov_cons_toLoadRect, ↓ View.readCov_fill]
  frame_out
  simp only [read_unread_whole]
  unfold part
  pointwise [k0_pay3, k0_pay2]

/-- The product's input as launched. -/
abbrev a0 (c : Dev nD) (r : Fin 4096) (e : Fin 2048) : EReal := m ((c : Thread nD τ).loc main_arg0) (ix2 r e)
/-- The gradient of the product's result as launched. -/
abbrev a1 (c : Dev nD) (r : Fin 4096) (e : Fin 1024) : EReal := m ((c : Thread nD τ).loc main_arg1) (ix2 r e)

/-- Row `p` of point `t`'s output block as a row of the array. -/
abbrev orow (t : Fin cfg0.N) (p : Fin 512) : Fin 2048 :=
  ⟨t.val / 4 * 512 + p.val, by have : t.val < 16 := lt_of_lt_of_eq t.isLt Gen.N_0; omega⟩
/-- Row `r` of point `t`'s input blocks as a token. -/
abbrev tokn (t : Fin cfg0.N) (r : Fin 1024) : Fin 4096 := ⟨t.val % 4 * 1024 + r.val, by omega⟩

theorem blk0 (c : Dev nD) (t : Fin cfg0.N) (r : Fin 1024) (p : Fin 512) :
    iblk m c 0 t (ix2 r p) = a0 m c (tokn t r) (orow t p) := by
  unfold a0
  blk_ext [iblk, V, idx0 t]
theorem blk1 (c : Dev nD) (t : Fin cfg0.N) (r : Fin 1024) (q : Fin 1024) :
    iblk m c 1 t (ix2 r q) = a1 m c (tokn t r) q := by
  unfold a1
  blk_ext [iblk, V, idx1 t]

/-- At a block's last point the accumulator holds the whole sum. -/
theorem sum_at (c : Dev nD) (t : Fin cfg0.N) (ht : t.val % 4 = 3) (p : Fin 512) (q : Fin 1024) :
    (outsAt0 m c t.val t.isLt).2 (ix2 p q) = mat (fun p r => a0 m c r p) (a1 m c) (orow t p) q := by
  have hN : t.val < 16 := lt_of_lt_of_eq t.isLt Gen.N_0
  have e := Pipeline.eq_sum_fin_of_reset_step_of_flush (M := EReal)
    (fun n hn => (outsAt0 m c n hn).2 (ix2 p q)) 4 0 _
    (fun t ht => acc_A m c t ht p q) (fun t ht => acc_B m c t ht p q) t ht
  refine e.trans ((zero_add _).trans ?_)
  unfold mat part
  refine Fin.sum_mul_add_congr fun s r hl => ?_
  rw [blk0, blk1]
  have e1 : orow ⟨4 * (t.val / 4) + s.val, by have := s.isLt; exact lt_of_lt_of_eq (by omega) Gen.N_0.symm⟩ p = orow t p :=
    Fin.ext (by show (4 * (t.val / 4) + s.val) / 4 * 512 + p.val = t.val / 4 * 512 + p.val; omega)
  have e2 : tokn ⟨4 * (t.val / 4) + s.val, by have := s.isLt; exact lt_of_lt_of_eq (by omega) Gen.N_0.symm⟩ r
      = ⟨s.val * 1024 + r.val, hl⟩ :=
    Fin.ext (by show (4 * (t.val / 4) + s.val) % 4 * 1024 + r.val = s.val * 1024 + r.val; omega)
  rw [e1, e2]

/-- The kernel's result array after the run. -/
theorem arr (c : Dev nD) : (dats m 0 c).arrAt 2 cfg0.N = fun i => mat (fun p r => a0 m c r p) (a1 m c) (i 0) (i 1) := by
  refine (dats m 0 c).arrAt_eq_of_covers 2 _ (by decide +kernel) fun t hf y => ?_
  blk_simp
  rw [after0_2]
  obtain ⟨p, q, rfl⟩ : ∃ (p : Fin 512) (q : Fin 1024), y = ix2 p q := ⟨y 0, y 1, eq_ix2 y⟩
  have hy : ((cfg0.win 2).blk t).view.emb (ix2 p q) = (ix2 (orow t p) q : S2048x1024.Idx) := by
    blk_ext [idx2 t]
  refine Eq.trans ?_ (congrArg (fun i : S2048x1024.Idx => mat (fun p r => a0 m c r p) (a1 m c) (i 0) (i 1)) hy).symm
  exact (out_C m c t ((flush0_2 t).mp hf) p q).trans (sum_at m c t ((flush0_2 t).mp hf) p q)

end Cert.DwOutIdeal.Proj

namespace Cert.DwOutRefIdeal.Proj

open Cert.DwOutRefIdeal Cert.DwOutRefIdeal.Gen

/-- The reference's result. -/
def out (x : FVec Ideal S4096x2048 .bf16) (y : FVec Ideal S4096x1024 .f32) : FVec Ideal S2048x1024 .bf16 :=
  truncf .bf16 (transpose S2048x1024 [1, 0] (Host.dotGeneral dot_S4096x1024_S4096x2048_S1024x2048_0_0_1_1_n_n none y (extf .f32 x bitsLt_bf16_f32)) transposes_S1024x2048_S2048x1024_1_0) bitsLt_bf16_f32

theorem out_at (x : FVec Ideal S4096x2048 .bf16) (y : FVec Ideal S4096x1024 .f32) (p : Fin 2048) (q : Fin 1024) :
    out x y (ix2 p q) = mat (fun p r => x (ix2 r p)) (fun r e => y (ix2 r e)) p q := by
  unfold mat
  pointwise [out]
  exact Finset.sum_congr rfl fun r _ => mul_comm _ _

end Cert.DwOutRefIdeal.Proj

namespace Cert.DwOut.Claims

/-- The reference's frame: its generated run, read at the arguments. -/
theorem frame_ref : Cert.quiescent_DwOutRefIdeal := fun m ρ _ =>
  (θ_run Cert.DwOutRefIdeal.defs _ _).mono (fun _ h => ⟨fun c => (h c).2, Idealize.ShloMosaic.sem_eq_zero_of_no_sems (by decide) _⟩)
    (Cert.DwOutRefIdeal.Value.run m ρ)

/-- The kernel's result is the reference's over the extended reals. -/
theorem value : Cert.algebraic_DwOutIdeal_DwOutRefIdeal := fun m ρ m' ρ' _ hag =>
  ⟨fun c => (Cert.DwOutIdeal.Gen.dats m 0 c).arrAt 2 Cert.DwOutIdeal.cfg0.N,
    Cert.DwOutIdeal.Value.run_blocks m ρ,
    (θ_run _ _ _).mono (fun _ h c => by
      obtain ⟨h0, hr⟩ := h c
      obtain ⟨a0, a1⟩ := hag c
      refine ⟨h0.trans ?_, hr⟩
      rw [a0, a1]
      exact (ext2 (Cert.DwOutRefIdeal.Proj.out_at _ _)).trans (Cert.DwOutIdeal.Proj.arr m c).symm)
      (Cert.DwOutRefIdeal.Value.run m' ρ')⟩

end Cert.DwOut.Claims

end
end
-- ==== Proof.Proj.DxOut.lean ====
/-
  The gradient of a mixer's result through the projection out of it: rows of the gradient times rows of the weight, a
  block of 512 tokens at a point; the reference is the one product.
-/
module

public import proofs.«01_k».proof.Proof.Kit
public import proofs.«01_k».proof.Proof.Gen.DxOut.Frame
public import proofs.«01_k».proof.Proof.Gen.DxOutIdeal.Value
public import proofs.«01_k».proof.Proof.Gen.DxOutRefIdeal.Run

@[expose] public section

set_option maxRecDepth 16384

noncomputable section

open Idealize.ShloMosaic Idealize.ShloMosaic.TcCoe Idealize.SL.Sem Cert.Common

namespace Cert.DxOutIdeal.Proj

open Cert.DxOutIdeal Cert.DxOutIdeal.Gen

variable (m : (ℓ : Loc nD τ sig) → Buf (Elt Ideal) ℓ)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

/-- A point's block: its rows times the weight. -/
theorem out_point (c : Dev nD) (t : Fin cfg0.N) (p : Fin 512) (q : Fin 2048) :
    outsAt0 m c t (ix2 p q)
      = (∑ e : Fin 1024, (show Vec Ideal S512x1024 .f32 from iblk m c 0 t) (ix2 p e)
          * (show Vec Ideal S2048x1024 .bf16 from iblk m c 1 t) (ix2 q e)) := by
  unfold outsAt0
  frame_open
  simp (disch := decide) only [↓ View.readCov_skip, ↓ View.readCov_cons_toLoadRect, ↓ View.readCov_fill]
  frame_out
  pointwise [k0_pay3, k0_pay2, k0_pay1]

/-- The projection's gradient as launched. -/
abbrev a0 (c : Dev nD) (r : Fin 4096) (e : Fin 1024) : EReal := m ((c : Thread nD τ).loc main_arg0) (ix2 r e)
/-- The weight as launched. -/
abbrev a1 (c : Dev nD) (r : Fin 2048) (e : Fin 1024) : EReal := m ((c : Thread nD τ).loc main_arg1) (ix2 r e)

/-- Row `p` of point `t`'s blocks as a token. -/
abbrev tokn (t : Fin cfg0.N) (p : Fin 512) : Fin 4096 :=
  ⟨t.val * 512 + p.val, by have : t.val < 8 := lt_of_lt_of_eq t.isLt Gen.N_0; omega⟩

theorem blk0 (c : Dev nD) (t : Fin cfg0.N) (p : Fin 512) (e : Fin 1024) :
    (show Vec Ideal S512x1024 .f32 from iblk m c 0 t) (ix2 p e) = a0 m c (tokn t p) e := by
  unfold a0
  blk_ext [iblk, V, idx0 t]
theorem blk1 (c : Dev nD) (t : Fin cfg0.N) (r : Fin 2048) (e : Fin 1024) :
    (show Vec Ideal S2048x1024 .bf16 from iblk m c 1 t) (ix2 r e) = a1 m c r e := by
  unfold a1
  blk_ext [iblk, V, idx1 t]

/-- The kernel's result array after the run. -/
theorem arr (c : Dev nD) : (dats m 0 c).arrAt 2 cfg0.N = fun i => mat (a0 m c) (fun e q => a1 m c q e) (i 0) (i 1) := by
  refine (dats m 0 c).arrAt_eq_of_covers 2 _ (by decide +kernel) fun t hf y => ?_
  blk_simp
  rw [after0_2]
  obtain ⟨p, q, rfl⟩ : ∃ (p : Fin 512) (q : Fin 2048), y = ix2 p q := ⟨y 0, y 1, eq_ix2 y⟩
  have hy : ((cfg0.win 2).blk t).view.emb (ix2 p q) = (ix2 (tokn t p) q : S4096x2048.Idx) := by
    blk_ext [idx2 t]
  refine Eq.trans ?_ (congrArg (fun i : S4096x2048.Idx => mat (a0 m c) (fun e q => a1 m c q e) (i 0) (i 1)) hy).symm
  refine (out_point m c t p q).trans ?_
  unfold mat
  refine Finset.sum_congr rfl fun e _ => ?_
  rw [blk0, blk1]
  rfl

end Cert.DxOutIdeal.Proj

namespace Cert.DxOutRefIdeal.Proj

open Cert.DxOutRefIdeal Cert.DxOutRefIdeal.Gen

/-- The reference's result. -/
def out (x : FVec Ideal S4096x1024 .f32) (y : FVec Ideal S2048x1024 .bf16) : FVec Ideal S4096x2048 .bf16 :=
  truncf .bf16 (Host.dotGeneral dot_S4096x1024_S2048x1024_S4096x2048_1_1_0_0_n_n none x (extf .f32 y bitsLt_bf16_f32)) bitsLt_bf16_f32

theorem out_at (x : FVec Ideal S4096x1024 .f32) (y : FVec Ideal S2048x1024 .bf16) (p : Fin 4096) (q : Fin 2048) :
    out x y (ix2 p q) = mat (fun r e => x (ix2 r e)) (fun e q => y (ix2 q e)) p q := by
  unfold mat
  pointwise [out]

end Cert.DxOutRefIdeal.Proj

namespace Cert.DxOut.Claims

/-- The reference's frame: its generated run, read at the arguments. -/
theorem frame_ref : Cert.quiescent_DxOutRefIdeal := fun m ρ _ =>
  (θ_run Cert.DxOutRefIdeal.defs _ _).mono (fun _ h => ⟨fun c => (h c).2, Idealize.ShloMosaic.sem_eq_zero_of_no_sems (by decide) _⟩)
    (Cert.DxOutRefIdeal.Value.run m ρ)

/-- The kernel's result is the reference's over the extended reals. -/
theorem value : Cert.algebraic_DxOutIdeal_DxOutRefIdeal := fun m ρ m' ρ' _ hag =>
  ⟨fun c => (Cert.DxOutIdeal.Gen.dats m 0 c).arrAt 2 Cert.DxOutIdeal.cfg0.N,
    Cert.DxOutIdeal.Value.run_blocks m ρ,
    (θ_run _ _ _).mono (fun _ h c => by
      obtain ⟨h0, hr⟩ := h c
      obtain ⟨a0, a1⟩ := hag c
      refine ⟨h0.trans ?_, hr⟩
      rw [a0, a1]
      exact (ext2 (Cert.DxOutRefIdeal.Proj.out_at _ _)).trans (Cert.DxOutIdeal.Proj.arr m c).symm)
      (Cert.DxOutRefIdeal.Value.run m' ρ')⟩

end Cert.DxOut.Claims

end
end
-- ==== Proof.Proj.SqIn.lean ====
/-
  A mixer's projection of width 1024, forward: a block of 512 tokens at a point; the reference is the one product.
-/
module

public import proofs.«01_k».proof.Proof.Kit
public import proofs.«01_k».proof.Proof.Gen.SqIn.Frame
public import proofs.«01_k».proof.Proof.Gen.SqInIdeal.Value
public import proofs.«01_k».proof.Proof.Gen.SqInRefIdeal.Run

@[expose] public section

set_option maxRecDepth 16384

noncomputable section

open Idealize.ShloMosaic Idealize.ShloMosaic.TcCoe Idealize.SL.Sem Cert.Common

namespace Cert.SqInIdeal.Proj

open Cert.SqInIdeal Cert.SqInIdeal.Gen

variable (m : (ℓ : Loc nD τ sig) → Buf (Elt Ideal) ℓ)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

/-- A point's block: its rows times the weight. -/
theorem out_point (c : Dev nD) (t : Fin cfg0.N) (p : Fin 512) (q : Fin 1024) :
    outsAt0 m c t (ix2 p q)
      = (∑ e : Fin 1024, (show Vec Ideal S512x1024 .bf16 from iblk m c 0 t) (ix2 p e)
          * (show Vec Ideal S1024x1024 .bf16 from iblk m c 1 t) (ix2 e q)) := by
  unfold outsAt0
  frame_open
  simp (disch := decide) only [↓ View.readCov_skip, ↓ View.readCov_cons_toLoadRect, ↓ View.readCov_fill]
  frame_out
  pointwise [k0_pay2, k0_pay1]

/-- The mixer's input as launched. -/
abbrev a0 (c : Dev nD) (r : Fin 4096) (e : Fin 1024) : EReal := m ((c : Thread nD τ).loc main_arg0) (ix2 r e)
/-- The weight as launched. -/
abbrev a1 (c : Dev nD) (r : Fin 1024) (e : Fin 1024) : EReal := m ((c : Thread nD τ).loc main_arg1) (ix2 r e)

/-- Row `p` of point `t`'s blocks as a token. -/
abbrev tokn (t : Fin cfg0.N) (p : Fin 512) : Fin 4096 :=
  ⟨t.val * 512 + p.val, by have : t.val < 8 := lt_of_lt_of_eq t.isLt Gen.N_0; omega⟩

theorem blk0 (c : Dev nD) (t : Fin cfg0.N) (p : Fin 512) (e : Fin 1024) :
    (show Vec Ideal S512x1024 .bf16 from iblk m c 0 t) (ix2 p e) = a0 m c (tokn t p) e := by
  unfold a0
  blk_ext [iblk, V, idx0 t]
theorem blk1 (c : Dev nD) (t : Fin cfg0.N) (r : Fin 1024) (e : Fin 1024) :
    (show Vec Ideal S1024x1024 .bf16 from iblk m c 1 t) (ix2 r e) = a1 m c r e := by
  unfold a1
  blk_ext [iblk, V, idx1 t]

/-- The kernel's result array after the run. -/
theorem arr (c : Dev nD) : (dats m 0 c).arrAt 2 cfg0.N = fun i => mat (a0 m c) (a1 m c) (i 0) (i 1) := by
  refine (dats m 0 c).arrAt_eq_of_covers 2 _ (by decide +kernel) fun t hf y => ?_
  blk_simp
  rw [after0_2]
  obtain ⟨p, q, rfl⟩ : ∃ (p : Fin 512) (q : Fin 1024), y = ix2 p q := ⟨y 0, y 1, eq_ix2 y⟩
  have hy : ((cfg0.win 2).blk t).view.emb (ix2 p q) = (ix2 (tokn t p) q : S4096x1024.Idx) := by
    blk_ext [idx2 t]
  refine Eq.trans ?_ (congrArg (fun i : S4096x1024.Idx => mat (a0 m c) (a1 m c) (i 0) (i 1)) hy).symm
  refine (out_point m c t p q).trans ?_
  unfold mat
  refine Finset.sum_congr rfl fun e _ => ?_
  rw [blk0, blk1]
  rfl

end Cert.SqInIdeal.Proj

namespace Cert.SqInRefIdeal.Proj

open Cert.SqInRefIdeal Cert.SqInRefIdeal.Gen

/-- The reference's result. -/
def out (x : FVec Ideal S4096x1024 .bf16) (y : FVec Ideal S1024x1024 .bf16) : FVec Ideal S4096x1024 .f32 :=
  Host.dotGeneral dot_S4096x1024_S1024x1024_S4096x1024_1_0_0_1_n_n none (extf .f32 x bitsLt_bf16_f32) (extf .f32 y bitsLt_bf16_f32)

theorem out_at (x : FVec Ideal S4096x1024 .bf16) (y : FVec Ideal S1024x1024 .bf16) (p : Fin 4096) (q : Fin 1024) :
    out x y (ix2 p q) = mat (fun r e => x (ix2 r e)) (fun e q => y (ix2 e q)) p q := by
  unfold mat
  pointwise [out]

end Cert.SqInRefIdeal.Proj

namespace Cert.SqIn.Claims

/-- The reference's frame: its generated run, read at the arguments. -/
theorem frame_ref : Cert.quiescent_SqInRefIdeal := fun m ρ _ =>
  (θ_run Cert.SqInRefIdeal.defs _ _).mono (fun _ h => ⟨fun c => (h c).2, Idealize.ShloMosaic.sem_eq_zero_of_no_sems (by decide) _⟩)
    (Cert.SqInRefIdeal.Value.run m ρ)

/-- The kernel's result is the reference's over the extended reals. -/
theorem value : Cert.algebraic_SqInIdeal_SqInRefIdeal := fun m ρ m' ρ' _ hag =>
  ⟨fun c => (Cert.SqInIdeal.Gen.dats m 0 c).arrAt 2 Cert.SqInIdeal.cfg0.N,
    Cert.SqInIdeal.Value.run_blocks m ρ,
    (θ_run _ _ _).mono (fun _ h c => by
      obtain ⟨h0, hr⟩ := h c
      obtain ⟨a0, a1⟩ := hag c
      refine ⟨h0.trans ?_, hr⟩
      rw [a0, a1]
      exact (ext2 (Cert.SqInRefIdeal.Proj.out_at _ _)).trans (Cert.SqInIdeal.Proj.arr m c).symm)
      (Cert.SqInRefIdeal.Value.run m' ρ')⟩

end Cert.SqIn.Claims

end
end
-- ==== Proof.Proj.SqDwIn.lean ====
/-
  The gradient of the weight of a projection of width 1024: the kernel adds up, over four tiles of 1024 tokens, the
  products of the input's columns with the gradient's columns; the reference is one sum over the 4096 tokens.
-/
module

public import proofs.«01_k».proof.Proof.Kit
public import proofs.«01_k».proof.Proof.Gen.SqDwIn.Frame
public import proofs.«01_k».proof.Proof.Gen.SqDwInIdeal.Value
public import proofs.«01_k».proof.Proof.Gen.SqDwInRefIdeal.Run

@[expose] public section

set_option maxRecDepth 16384

noncomputable section

open Idealize.ShloMosaic Idealize.ShloMosaic.TcCoe Idealize.SL.Sem Cert.Common

namespace Cert.SqDwInIdeal.Proj

open Cert.SqDwInIdeal Cert.SqDwInIdeal.Gen

variable (m : (ℓ : Loc nD τ sig) → Buf (Elt Ideal) ℓ)

theorem idx0 : ∀ t : Fin grid0.N, win0_0.index t = ![t.val % 4, t.val / 4] := by decide +kernel
theorem idx1 : ∀ t : Fin grid0.N, win0_1.index t = ![t.val % 4, 0] := by decide +kernel
theorem idx2 : ∀ t : Fin grid0.N, win0_2.index t = ![t.val / 4, 0] := by decide +kernel

/-- What a point adds at row `p` and column `q` of its block: the sum over its 1024 tokens. -/
def part (x0 : Vec Ideal S1024x512 .bf16) (x1 : Vec Ideal S1024x1024 .bf16) (p : Fin 512) (q : Fin 1024) : EReal :=
  ∑ r : Fin 1024, x0 (ix2 r p) * x1 (ix2 r q)

theorem acc_A (c : Dev nD) (t : Fin cfg0.N) (ht : t.val % 4 = 0) (p : Fin 512) (q : Fin 1024) :
    (outsAt0 m c t.val t.isLt).2 (ix2 p q) = 0 + part (iblk m c 0 t) (iblk m c 1 t) p q := by
  rw [outsAt0_A m c t ht (by omega)]
  frame_open
  simp (disch := decide) only [↓ View.readCov_skip, ↓ View.readCov_cons_toLoadRect, ↓ View.readCov_fill]
  frame_out
  unfold part
  pointwise [k0_pay2, k0_pay1]

theorem acc_B (c : Dev nD) (t : Fin cfg0.N) (ht : ¬ t.val % 4 = 0) (p : Fin 512) (q : Fin 1024) :
    (outsAt0 m c t.val t.isLt).2 (ix2 p q)
      = (outsAt0 m c (t.val - 1) (Nat.lt_of_le_of_lt (Nat.sub_le _ _) t.isLt)).2 (ix2 p q)
        + part (iblk m c 0 t) (iblk m c 1 t) p q := by
  by_cases h : t.val % 4 = 3
  · rw [outsAt0_C m c t ht h]
    frame_open
    simp (disch := decide) only [↓ View.readCov_skip, ↓ View.readCov_cons_toLoadRect, ↓ View.readCov_fill]
    frame_out
    simp only [read_unread_whole]
    unfold part
    pointwise [k0_pay2]
  · rw [outsAt0_B m c t ht h]
    frame_open
    simp (disch := decide) only [↓ View.readCov_skip, ↓ View.readCov_cons_toLoadRect, ↓ View.readCov_fill]
    frame_out
    simp only [read_unread_whole]
    unfold part
    pointwise [k0_pay2]

/-- The last point of a block writes the sum out. -/
theorem out_C (c : Dev nD) (t : Fin cfg0.N) (ht : t.val % 4 = 3) (p : Fin 512) (q : Fin 1024) :
    (outsAt0 m c t.val t.isLt).1 (ix2 p q) = (outsAt0 m c t.val t.isLt).2 (ix2 p q) := by
  rw [acc_B m c t (by omega), outsAt0_C m c t (by omega) ht]
  frame_open
  simp (disch := decide) only [↓ View.readCov_skip, ↓ View.readCov_cons_toLoadRect, ↓ View.readCov_fill]
  frame_out
  simp only [read_unread_whole]
  unfold part
  pointwise [k0_pay3, k0_pay2]

/-- The product's input as launched. -/
abbrev a0 (c : Dev nD) (r : Fin 4096) (e : Fin 1024) : EReal := m ((c : Thread nD τ).loc main_arg0) (ix2 r e)
/-- The gradient of the product's result as launched. -/
abbrev a1 (c : Dev nD) (r : Fin 4096) (e : Fin 1024) : EReal := m ((c : Thread nD τ).loc main_arg1) (ix2 r e)

/-- Row `p` of point `t`'s output block as a row of the array. -/
abbrev orow (t : Fin cfg0.N) (p : Fin 512) : Fin 1024 :=
  ⟨t.val / 4 * 512 + p.val, by have : t.val < 8 := lt_of_lt_of_eq t.isLt Gen.N_0; omega⟩
/-- Row `r` of point `t`'s input blocks as a token. -/
abbrev tokn (t : Fin cfg0.N) (r : Fin 1024) : Fin 4096 := ⟨t.val % 4 * 1024 + r.val, by omega⟩

theorem blk0 (c : Dev nD) (t : Fin cfg0.N) (r : Fin 1024) (p : Fin 512) :
    iblk m c 0 t (ix2 r p) = a0 m c (tokn t r) (orow t p) := by
  unfold a0
  blk_ext [iblk, V, idx0 t]
theorem blk1 (c : Dev nD) (t : Fin cfg0.N) (r : Fin 1024) (q : Fin 1024) :
    iblk m c 1 t (ix2 r q) = a1 m c (tokn t r) q := by
  unfold a1
  blk_ext [iblk, V, idx1 t]

/-- At a block's last point the accumulator holds the whole sum. -/
theorem sum_at (c : Dev nD) (t : Fin cfg0.N) (ht : t.val % 4 = 3) (p : Fin 512) (q : Fin 1024) :
    (outsAt0 m c t.val t.isLt).2 (ix2 p q) = mat (fun p r => a0 m c r p) (a1 m c) (orow t p) q := by
  have hN : t.val < 8 := lt_of_lt_of_eq t.isLt Gen.N_0
  have e := Pipeline.eq_sum_fin_of_reset_step_of_flush (M := EReal)
    (fun n hn => (outsAt0 m c n hn).2 (ix2 p q)) 4 0 _
    (fun t ht => acc_A m c t ht p q) (fun t ht => acc_B m c t ht p q) t ht
  refine e.trans ((zero_add _).trans ?_)
  unfold mat part
  refine Fin.sum_mul_add_congr fun s r hl => ?_
  rw [blk0, blk1]
  have e1 : orow ⟨4 * (t.val / 4) + s.val, by have := s.isLt; exact lt_of_lt_of_eq (by omega) Gen.N_0.symm⟩ p = orow t p :=
    Fin.ext (by show (4 * (t.val / 4) + s.val) / 4 * 512 + p.val = t.val / 4 * 512 + p.val; omega)
  have e2 : tokn ⟨4 * (t.val / 4) + s.val, by have := s.isLt; exact lt_of_lt_of_eq (by omega) Gen.N_0.symm⟩ r
      = ⟨s.val * 1024 + r.val, hl⟩ :=
    Fin.ext (by show (4 * (t.val / 4) + s.val) % 4 * 1024 + r.val = s.val * 1024 + r.val; omega)
  rw [e1, e2]

/-- The kernel's result array after the run. -/
theorem arr (c : Dev nD) : (dats m 0 c).arrAt 2 cfg0.N = fun i => mat (fun p r => a0 m c r p) (a1 m c) (i 0) (i 1) := by
  refine (dats m 0 c).arrAt_eq_of_covers 2 _ (by decide +kernel) fun t hf y => ?_
  blk_simp
  rw [after0_2]
  obtain ⟨p, q, rfl⟩ : ∃ (p : Fin 512) (q : Fin 1024), y = ix2 p q := ⟨y 0, y 1, eq_ix2 y⟩
  have hy : ((cfg0.win 2).blk t).view.emb (ix2 p q) = (ix2 (orow t p) q : S1024x1024.Idx) := by
    blk_ext [idx2 t]
  refine Eq.trans ?_ (congrArg (fun i : S1024x1024.Idx => mat (fun p r => a0 m c r p) (a1 m c) (i 0) (i 1)) hy).symm
  exact (out_C m c t ((flush0_2 t).mp hf) p q).trans (sum_at m c t ((flush0_2 t).mp hf) p q)

end Cert.SqDwInIdeal.Proj

namespace Cert.SqDwInRefIdeal.Proj

open Cert.SqDwInRefIdeal Cert.SqDwInRefIdeal.Gen

/-- The reference's result. -/
def out (x : FVec Ideal S4096x1024 .bf16) (y : FVec Ideal S4096x1024 .bf16) : FVec Ideal S1024x1024 .bf16 :=
  truncf .bf16 (transpose S1024x1024 [1, 0] (Host.dotGeneral dot_S4096x1024_S4096x1024_S1024x1024_0_0_1_1_n_n none (extf .f32 y bitsLt_bf16_f32) (extf .f32 x bitsLt_bf16_f32)) transposes_S1024x1024_S1024x1024_1_0) bitsLt_bf16_f32

theorem out_at (x : FVec Ideal S4096x1024 .bf16) (y : FVec Ideal S4096x1024 .bf16) (p : Fin 1024) (q : Fin 1024) :
    out x y (ix2 p q) = mat (fun p r => x (ix2 r p)) (fun r e => y (ix2 r e)) p q := by
  unfold mat
  pointwise [out]
  exact Finset.sum_congr rfl fun r _ => mul_comm _ _

end Cert.SqDwInRefIdeal.Proj

namespace Cert.SqDwIn.Claims

/-- The reference's frame: its generated run, read at the arguments. -/
theorem frame_ref : Cert.quiescent_SqDwInRefIdeal := fun m ρ _ =>
  (θ_run Cert.SqDwInRefIdeal.defs _ _).mono (fun _ h => ⟨fun c => (h c).2, Idealize.ShloMosaic.sem_eq_zero_of_no_sems (by decide) _⟩)
    (Cert.SqDwInRefIdeal.Value.run m ρ)

/-- The kernel's result is the reference's over the extended reals. -/
theorem value : Cert.algebraic_SqDwInIdeal_SqDwInRefIdeal := fun m ρ m' ρ' _ hag =>
  ⟨fun c => (Cert.SqDwInIdeal.Gen.dats m 0 c).arrAt 2 Cert.SqDwInIdeal.cfg0.N,
    Cert.SqDwInIdeal.Value.run_blocks m ρ,
    (θ_run _ _ _).mono (fun _ h c => by
      obtain ⟨h0, hr⟩ := h c
      obtain ⟨a0, a1⟩ := hag c
      refine ⟨h0.trans ?_, hr⟩
      rw [a0, a1]
      exact (ext2 (Cert.SqDwInRefIdeal.Proj.out_at _ _)).trans (Cert.SqDwInIdeal.Proj.arr m c).symm)
      (Cert.SqDwInRefIdeal.Value.run m' ρ')⟩

end Cert.SqDwIn.Claims

end
end
-- ==== Proof.Proj.SqDxIn.lean ====
/-
  The gradient of a mixer's or of the attention's input through a first projection of width 1024: a block of 512 tokens
  at a point; the reference is the one product.
-/
module

public import proofs.«01_k».proof.Proof.Kit
public import proofs.«01_k».proof.Proof.Gen.SqDxIn.Frame
public import proofs.«01_k».proof.Proof.Gen.SqDxInIdeal.Value
public import proofs.«01_k».proof.Proof.Gen.SqDxInRefIdeal.Run

@[expose] public section

set_option maxRecDepth 16384

noncomputable section

open Idealize.ShloMosaic Idealize.ShloMosaic.TcCoe Idealize.SL.Sem Cert.Common

namespace Cert.SqDxInIdeal.Proj

open Cert.SqDxInIdeal Cert.SqDxInIdeal.Gen

variable (m : (ℓ : Loc nD τ sig) → Buf (Elt Ideal) ℓ)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

/-- A point's block: its rows times the weight. -/
theorem out_point (c : Dev nD) (t : Fin cfg0.N) (p : Fin 512) (q : Fin 1024) :
    outsAt0 m c t (ix2 p q)
      = (∑ e : Fin 1024, (show Vec Ideal S512x1024 .bf16 from iblk m c 0 t) (ix2 p e)
          * (show Vec Ideal S1024x1024 .bf16 from iblk m c 1 t) (ix2 q e)) := by
  unfold outsAt0
  frame_open
  simp (disch := decide) only [↓ View.readCov_skip, ↓ View.readCov_cons_toLoadRect, ↓ View.readCov_fill]
  frame_out
  pointwise [k0_pay2, k0_pay1]

/-- The projection's gradient as launched. -/
abbrev a0 (c : Dev nD) (r : Fin 4096) (e : Fin 1024) : EReal := m ((c : Thread nD τ).loc main_arg0) (ix2 r e)
/-- The weight as launched. -/
abbrev a1 (c : Dev nD) (r : Fin 1024) (e : Fin 1024) : EReal := m ((c : Thread nD τ).loc main_arg1) (ix2 r e)

/-- Row `p` of point `t`'s blocks as a token. -/
abbrev tokn (t : Fin cfg0.N) (p : Fin 512) : Fin 4096 :=
  ⟨t.val * 512 + p.val, by have : t.val < 8 := lt_of_lt_of_eq t.isLt Gen.N_0; omega⟩

theorem blk0 (c : Dev nD) (t : Fin cfg0.N) (p : Fin 512) (e : Fin 1024) :
    (show Vec Ideal S512x1024 .bf16 from iblk m c 0 t) (ix2 p e) = a0 m c (tokn t p) e := by
  unfold a0
  blk_ext [iblk, V, idx0 t]
theorem blk1 (c : Dev nD) (t : Fin cfg0.N) (r : Fin 1024) (e : Fin 1024) :
    (show Vec Ideal S1024x1024 .bf16 from iblk m c 1 t) (ix2 r e) = a1 m c r e := by
  unfold a1
  blk_ext [iblk, V, idx1 t]

/-- The kernel's result array after the run. -/
theorem arr (c : Dev nD) : (dats m 0 c).arrAt 2 cfg0.N = fun i => mat (a0 m c) (fun e q => a1 m c q e) (i 0) (i 1) := by
  refine (dats m 0 c).arrAt_eq_of_covers 2 _ (by decide +kernel) fun t hf y => ?_
  blk_simp
  rw [after0_2]
  obtain ⟨p, q, rfl⟩ : ∃ (p : Fin 512) (q : Fin 1024), y = ix2 p q := ⟨y 0, y 1, eq_ix2 y⟩
  have hy : ((cfg0.win 2).blk t).view.emb (ix2 p q) = (ix2 (tokn t p) q : S4096x1024.Idx) := by
    blk_ext [idx2 t]
  refine Eq.trans ?_ (congrArg (fun i : S4096x1024.Idx => mat (a0 m c) (fun e q => a1 m c q e) (i 0) (i 1)) hy).symm
  refine (out_point m c t p q).trans ?_
  unfold mat
  refine Finset.sum_congr rfl fun e _ => ?_
  rw [blk0, blk1]
  rfl

end Cert.SqDxInIdeal.Proj

namespace Cert.SqDxInRefIdeal.Proj

open Cert.SqDxInRefIdeal Cert.SqDxInRefIdeal.Gen

/-- The reference's result. -/
def out (x : FVec Ideal S4096x1024 .bf16) (y : FVec Ideal S1024x1024 .bf16) : FVec Ideal S4096x1024 .f32 :=
  Host.dotGeneral dot_S4096x1024_S1024x1024_S4096x1024_1_1_0_0_n_n none (extf .f32 x bitsLt_bf16_f32) (extf .f32 y bitsLt_bf16_f32)

theorem out_at (x : FVec Ideal S4096x1024 .bf16) (y : FVec Ideal S1024x1024 .bf16) (p : Fin 4096) (q : Fin 1024) :
    out x y (ix2 p q) = mat (fun r e => x (ix2 r e)) (fun e q => y (ix2 q e)) p q := by
  unfold mat
  pointwise [out]

end Cert.SqDxInRefIdeal.Proj

namespace Cert.SqDxIn.Claims

/-- The reference's frame: its generated run, read at the arguments. -/
theorem frame_ref : Cert.quiescent_SqDxInRefIdeal := fun m ρ _ =>
  (θ_run Cert.SqDxInRefIdeal.defs _ _).mono (fun _ h => ⟨fun c => (h c).2, Idealize.ShloMosaic.sem_eq_zero_of_no_sems (by decide) _⟩)
    (Cert.SqDxInRefIdeal.Value.run m ρ)

/-- The kernel's result is the reference's over the extended reals. -/
theorem value : Cert.algebraic_SqDxInIdeal_SqDxInRefIdeal := fun m ρ m' ρ' _ hag =>
  ⟨fun c => (Cert.SqDxInIdeal.Gen.dats m 0 c).arrAt 2 Cert.SqDxInIdeal.cfg0.N,
    Cert.SqDxInIdeal.Value.run_blocks m ρ,
    (θ_run _ _ _).mono (fun _ h c => by
      obtain ⟨h0, hr⟩ := h c
      obtain ⟨a0, a1⟩ := hag c
      refine ⟨h0.trans ?_, hr⟩
      rw [a0, a1]
      exact (ext2 (Cert.SqDxInRefIdeal.Proj.out_at _ _)).trans (Cert.SqDxInIdeal.Proj.arr m c).symm)
      (Cert.SqDxInRefIdeal.Value.run m' ρ')⟩

end Cert.SqDxIn.Claims

end
end
-- ==== Proof.Proj.SqDxInNext.lean ====
/-
  The gradient of a mixer's input through a further projection of width 1024, added to the gradient so far: a block of
  512 tokens at a point; the reference is one product and a sum.
-/
module

public import proofs.«01_k».proof.Proof.Kit
public import proofs.«01_k».proof.Proof.Gen.SqDxInNext.Frame
public import proofs.«01_k».proof.Proof.Gen.SqDxInNextIdeal.Value
public import proofs.«01_k».proof.Proof.Gen.SqDxInNextRefIdeal.Run

@[expose] public section

set_option maxRecDepth 16384

noncomputable section

open Idealize.ShloMosaic Idealize.ShloMosaic.TcCoe Idealize.SL.Sem Cert.Common

namespace Cert.SqDxInNextIdeal.Proj

open Cert.SqDxInNextIdeal Cert.SqDxInNextIdeal.Gen

variable (m : (ℓ : Loc nD τ sig) → Buf (Elt Ideal) ℓ)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![t.val, 0] := by decide +kernel

/-- A point's block: its rows times the weight, and the third argument's block added. -/
theorem out_point (c : Dev nD) (t : Fin cfg0.N) (p : Fin 512) (q : Fin 1024) :
    outsAt0 m c t (ix2 p q)
      = (∑ e : Fin 1024, (show Vec Ideal S512x1024 .bf16 from iblk m c 0 t) (ix2 p e)
          * (show Vec Ideal S1024x1024 .bf16 from iblk m c 1 t) (ix2 q e)) + (show Vec Ideal S512x1024 .f32 from iblk m c 2 t) (ix2 p q) := by
  unfold outsAt0
  frame_open
  simp (disch := decide) only [↓ View.readCov_skip, ↓ View.readCov_cons_toLoadRect, ↓ View.readCov_fill]
  frame_out
  pointwise [k0_pay3, k0_pay2, k0_pay1]

/-- The projection's gradient as launched. -/
abbrev a0 (c : Dev nD) (r : Fin 4096) (e : Fin 1024) : EReal := m ((c : Thread nD τ).loc main_arg0) (ix2 r e)
/-- The weight as launched. -/
abbrev a1 (c : Dev nD) (r : Fin 1024) (e : Fin 1024) : EReal := m ((c : Thread nD τ).loc main_arg1) (ix2 r e)
/-- The gradient so far as launched. -/
abbrev a2 (c : Dev nD) (r : Fin 4096) (e : Fin 1024) : EReal := m ((c : Thread nD τ).loc main_arg2) (ix2 r e)

/-- Row `p` of point `t`'s blocks as a token. -/
abbrev tokn (t : Fin cfg0.N) (p : Fin 512) : Fin 4096 :=
  ⟨t.val * 512 + p.val, by have : t.val < 8 := lt_of_lt_of_eq t.isLt Gen.N_0; omega⟩

theorem blk0 (c : Dev nD) (t : Fin cfg0.N) (p : Fin 512) (e : Fin 1024) :
    (show Vec Ideal S512x1024 .bf16 from iblk m c 0 t) (ix2 p e) = a0 m c (tokn t p) e := by
  unfold a0
  blk_ext [iblk, V, idx0 t]
theorem blk1 (c : Dev nD) (t : Fin cfg0.N) (r : Fin 1024) (e : Fin 1024) :
    (show Vec Ideal S1024x1024 .bf16 from iblk m c 1 t) (ix2 r e) = a1 m c r e := by
  unfold a1
  blk_ext [iblk, V, idx1 t]
theorem blk2 (c : Dev nD) (t : Fin cfg0.N) (p : Fin 512) (q : Fin 1024) :
    (show Vec Ideal S512x1024 .f32 from iblk m c 2 t) (ix2 p q) = a2 m c (tokn t p) q := by
  unfold a2
  blk_ext [iblk, V, idx2 t]

/-- The kernel's result array after the run. -/
theorem arr (c : Dev nD) : (dats m 0 c).arrAt 3 cfg0.N = fun i => a2 m c (i 0) (i 1) + mat (a0 m c) (fun e q => a1 m c q e) (i 0) (i 1) := by
  refine (dats m 0 c).arrAt_eq_of_covers 3 _ (by decide +kernel) fun t hf y => ?_
  blk_simp
  rw [after0_3]
  obtain ⟨p, q, rfl⟩ : ∃ (p : Fin 512) (q : Fin 1024), y = ix2 p q := ⟨y 0, y 1, eq_ix2 y⟩
  have hy : ((cfg0.win 3).blk t).view.emb (ix2 p q) = (ix2 (tokn t p) q : S4096x1024.Idx) := by
    blk_ext [idx3 t]
  refine Eq.trans ?_ (congrArg (fun i : S4096x1024.Idx => a2 m c (i 0) (i 1) + mat (a0 m c) (fun e q => a1 m c q e) (i 0) (i 1)) hy).symm
  refine (out_point m c t p q).trans ?_
  refine (add_comm _ _).trans (congrArg₂ (· + ·) (blk2 m c t p q) ?_)
  unfold mat
  refine Finset.sum_congr rfl fun e _ => ?_
  rw [blk0, blk1]
  rfl

end Cert.SqDxInNextIdeal.Proj

namespace Cert.SqDxInNextRefIdeal.Proj

open Cert.SqDxInNextRefIdeal Cert.SqDxInNextRefIdeal.Gen

/-- The reference's result. -/
def out (x : FVec Ideal S4096x1024 .bf16) (y : FVec Ideal S1024x1024 .bf16) (z : FVec Ideal S4096x1024 .f32) : FVec Ideal S4096x1024 .f32 :=
  addf z (Host.dotGeneral dot_S4096x1024_S1024x1024_S4096x1024_1_1_0_0_n_n none (extf .f32 x bitsLt_bf16_f32) (extf .f32 y bitsLt_bf16_f32))

theorem out_at (x : FVec Ideal S4096x1024 .bf16) (y : FVec Ideal S1024x1024 .bf16) (z : FVec Ideal S4096x1024 .f32) (p : Fin 4096) (q : Fin 1024) :
    out x y z (ix2 p q) = z (ix2 p q) + mat (fun r e => x (ix2 r e)) (fun e q => y (ix2 q e)) p q := by
  unfold mat
  pointwise [out]

end Cert.SqDxInNextRefIdeal.Proj

namespace Cert.SqDxInNext.Claims

/-- The reference's frame: its generated run, read at the arguments. -/
theorem frame_ref : Cert.quiescent_SqDxInNextRefIdeal := fun m ρ _ =>
  (θ_run Cert.SqDxInNextRefIdeal.defs _ _).mono (fun _ h => ⟨fun c => (h c).2, Idealize.ShloMosaic.sem_eq_zero_of_no_sems (by decide) _⟩)
    (Cert.SqDxInNextRefIdeal.Value.run m ρ)

/-- The kernel's result is the reference's over the extended reals. -/
theorem value : Cert.algebraic_SqDxInNextIdeal_SqDxInNextRefIdeal := fun m ρ m' ρ' _ hag =>
  ⟨fun c => (Cert.SqDxInNextIdeal.Gen.dats m 0 c).arrAt 3 Cert.SqDxInNextIdeal.cfg0.N,
    Cert.SqDxInNextIdeal.Value.run_blocks m ρ,
    (θ_run _ _ _).mono (fun _ h c => by
      obtain ⟨h0, hr⟩ := h c
      obtain ⟨a0, a1, a2⟩ := hag c
      refine ⟨h0.trans ?_, hr⟩
      rw [a0, a1, a2]
      exact (ext2 (Cert.SqDxInNextRefIdeal.Proj.out_at _ _ _)).trans (Cert.SqDxInNextIdeal.Proj.arr m c).symm)
      (Cert.SqDxInNextRefIdeal.Value.run m' ρ')⟩

end Cert.SqDxInNext.Claims

end
end
-- ==== Proof.Proj.SqQuery.lean ====
/-
  The attention's queries: a block of 512 tokens at a point; the reference is the one product.
-/
module

public import proofs.«01_k».proof.Proof.Kit
public import proofs.«01_k».proof.Proof.Gen.SqQuery.Frame
public import proofs.«01_k».proof.Proof.Gen.SqQueryIdeal.Value
public import proofs.«01_k».proof.Proof.Gen.SqQueryRefIdeal.Run

@[expose] public section

set_option maxRecDepth 16384

noncomputable section

open Idealize.ShloMosaic Idealize.ShloMosaic.TcCoe Idealize.SL.Sem Cert.Common

namespace Cert.SqQueryIdeal.Proj

open Cert.SqQueryIdeal Cert.SqQueryIdeal.Gen

variable (m : (ℓ : Loc nD τ sig) → Buf (Elt Ideal) ℓ)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

/-- A point's block: its rows times the weight. -/
theorem out_point (c : Dev nD) (t : Fin cfg0.N) (p : Fin 512) (q : Fin 1024) :
    outsAt0 m c t (ix2 p q)
      = (∑ e : Fin 1024, (show Vec Ideal S512x1024 .bf16 from iblk m c 0 t) (ix2 p e)
          * (show Vec Ideal S1024x1024 .bf16 from iblk m c 1 t) (ix2 e q)) := by
  unfold outsAt0
  frame_open
  simp (disch := decide) only [↓ View.readCov_skip, ↓ View.readCov_cons_toLoadRect, ↓ View.readCov_fill]
  frame_out
  pointwise [k0_pay3, k0_pay2, k0_pay1]

/-- The attention's input as launched. -/
abbrev a0 (c : Dev nD) (r : Fin 4096) (e : Fin 1024) : EReal := m ((c : Thread nD τ).loc main_arg0) (ix2 r e)
/-- The weight as launched. -/
abbrev a1 (c : Dev nD) (r : Fin 1024) (e : Fin 1024) : EReal := m ((c : Thread nD τ).loc main_arg1) (ix2 r e)

/-- Row `p` of point `t`'s blocks as a token. -/
abbrev tokn (t : Fin cfg0.N) (p : Fin 512) : Fin 4096 :=
  ⟨t.val * 512 + p.val, by have : t.val < 8 := lt_of_lt_of_eq t.isLt Gen.N_0; omega⟩

theorem blk0 (c : Dev nD) (t : Fin cfg0.N) (p : Fin 512) (e : Fin 1024) :
    (show Vec Ideal S512x1024 .bf16 from iblk m c 0 t) (ix2 p e) = a0 m c (tokn t p) e := by
  unfold a0
  blk_ext [iblk, V, idx0 t]
theorem blk1 (c : Dev nD) (t : Fin cfg0.N) (r : Fin 1024) (e : Fin 1024) :
    (show Vec Ideal S1024x1024 .bf16 from iblk m c 1 t) (ix2 r e) = a1 m c r e := by
  unfold a1
  blk_ext [iblk, V, idx1 t]

/-- The kernel's result array after the run. -/
theorem arr (c : Dev nD) : (dats m 0 c).arrAt 2 cfg0.N = fun i => mat (a0 m c) (a1 m c) (i 0) (i 1) := by
  refine (dats m 0 c).arrAt_eq_of_covers 2 _ (by decide +kernel) fun t hf y => ?_
  blk_simp
  rw [after0_2]
  obtain ⟨p, q, rfl⟩ : ∃ (p : Fin 512) (q : Fin 1024), y = ix2 p q := ⟨y 0, y 1, eq_ix2 y⟩
  have hy : ((cfg0.win 2).blk t).view.emb (ix2 p q) = (ix2 (tokn t p) q : S4096x1024.Idx) := by
    blk_ext [idx2 t]
  refine Eq.trans ?_ (congrArg (fun i : S4096x1024.Idx => mat (a0 m c) (a1 m c) (i 0) (i 1)) hy).symm
  refine (out_point m c t p q).trans ?_
  unfold mat
  refine Finset.sum_congr rfl fun e _ => ?_
  rw [blk0, blk1]
  rfl

end Cert.SqQueryIdeal.Proj

namespace Cert.SqQueryRefIdeal.Proj

open Cert.SqQueryRefIdeal Cert.SqQueryRefIdeal.Gen

/-- The reference's result. -/
def out (x : FVec Ideal S4096x1024 .bf16) (y : FVec Ideal S1024x1024 .bf16) : FVec Ideal S4096x1024 .bf16 :=
  truncf .bf16 (Host.dotGeneral dot_S4096x1024_S1024x1024_S4096x1024_1_0_0_1_n_n none (extf .f32 x bitsLt_bf16_f32) (extf .f32 y bitsLt_bf16_f32)) bitsLt_bf16_f32

theorem out_at (x : FVec Ideal S4096x1024 .bf16) (y : FVec Ideal S1024x1024 .bf16) (p : Fin 4096) (q : Fin 1024) :
    out x y (ix2 p q) = mat (fun r e => x (ix2 r e)) (fun e q => y (ix2 e q)) p q := by
  unfold mat
  pointwise [out]

end Cert.SqQueryRefIdeal.Proj

namespace Cert.SqQuery.Claims

/-- The reference's frame: its generated run, read at the arguments. -/
theorem frame_ref : Cert.quiescent_SqQueryRefIdeal := fun m ρ _ =>
  (θ_run Cert.SqQueryRefIdeal.defs _ _).mono (fun _ h => ⟨fun c => (h c).2, Idealize.ShloMosaic.sem_eq_zero_of_no_sems (by decide) _⟩)
    (Cert.SqQueryRefIdeal.Value.run m ρ)

/-- The kernel's result is the reference's over the extended reals. -/
theorem value : Cert.algebraic_SqQueryIdeal_SqQueryRefIdeal := fun m ρ m' ρ' _ hag =>
  ⟨fun c => (Cert.SqQueryIdeal.Gen.dats m 0 c).arrAt 2 Cert.SqQueryIdeal.cfg0.N,
    Cert.SqQueryIdeal.Value.run_blocks m ρ,
    (θ_run _ _ _).mono (fun _ h c => by
      obtain ⟨h0, hr⟩ := h c
      obtain ⟨a0, a1⟩ := hag c
      refine ⟨h0.trans ?_, hr⟩
      rw [a0, a1]
      exact (ext2 (Cert.SqQueryRefIdeal.Proj.out_at _ _)).trans (Cert.SqQueryIdeal.Proj.arr m c).symm)
      (Cert.SqQueryRefIdeal.Value.run m' ρ')⟩

end Cert.SqQuery.Claims

end
end
-- ==== Proof.Proj.SqOut.lean ====
/-
  The projection out of a mixer or of the attention of width 1024, forward, with the input added: a block of 512 tokens at
  a point; the reference is one product and a sum.
-/
module

public import proofs.«01_k».proof.Proof.Kit
public import proofs.«01_k».proof.Proof.Gen.SqOut.Frame
public import proofs.«01_k».proof.Proof.Gen.SqOutIdeal.Value
public import proofs.«01_k».proof.Proof.Gen.SqOutRefIdeal.Run

@[expose] public section

set_option maxRecDepth 16384

noncomputable section

open Idealize.ShloMosaic Idealize.ShloMosaic.TcCoe Idealize.SL.Sem Cert.Common

namespace Cert.SqOutIdeal.Proj

open Cert.SqOutIdeal Cert.SqOutIdeal.Gen

variable (m : (ℓ : Loc nD τ sig) → Buf (Elt Ideal) ℓ)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![t.val, 0] := by decide +kernel

/-- A point's block: its rows times the weight, and the third argument's block added. -/
theorem out_point (c : Dev nD) (t : Fin cfg0.N) (p : Fin 512) (q : Fin 1024) :
    outsAt0 m c t (ix2 p q)
      = (∑ e : Fin 1024, (show Vec Ideal S512x1024 .bf16 from iblk m c 0 t) (ix2 p e)
          * (show Vec Ideal S1024x1024 .bf16 from iblk m c 1 t) (ix2 e q)) + (show Vec Ideal S512x1024 .f32 from iblk m c 2 t) (ix2 p q) := by
  unfold outsAt0
  frame_open
  simp (disch := decide) only [↓ View.readCov_skip, ↓ View.readCov_cons_toLoadRect, ↓ View.readCov_fill]
  frame_out
  pointwise [k0_pay3, k0_pay2, k0_pay1]

/-- The mixer's result as launched. -/
abbrev a0 (c : Dev nD) (r : Fin 4096) (e : Fin 1024) : EReal := m ((c : Thread nD τ).loc main_arg0) (ix2 r e)
/-- The weight as launched. -/
abbrev a1 (c : Dev nD) (r : Fin 1024) (e : Fin 1024) : EReal := m ((c : Thread nD τ).loc main_arg1) (ix2 r e)
/-- The layer's input as launched. -/
abbrev a2 (c : Dev nD) (r : Fin 4096) (e : Fin 1024) : EReal := m ((c : Thread nD τ).loc main_arg2) (ix2 r e)

/-- Row `p` of point `t`'s blocks as a token. -/
abbrev tokn (t : Fin cfg0.N) (p : Fin 512) : Fin 4096 :=
  ⟨t.val * 512 + p.val, by have : t.val < 8 := lt_of_lt_of_eq t.isLt Gen.N_0; omega⟩

theorem blk0 (c : Dev nD) (t : Fin cfg0.N) (p : Fin 512) (e : Fin 1024) :
    (show Vec Ideal S512x1024 .bf16 from iblk m c 0 t) (ix2 p e) = a0 m c (tokn t p) e := by
  unfold a0
  blk_ext [iblk, V, idx0 t]
theorem blk1 (c : Dev nD) (t : Fin cfg0.N) (r : Fin 1024) (e : Fin 1024) :
    (show Vec Ideal S1024x1024 .bf16 from iblk m c 1 t) (ix2 r e) = a1 m c r e := by
  unfold a1
  blk_ext [iblk, V, idx1 t]
theorem blk2 (c : Dev nD) (t : Fin cfg0.N) (p : Fin 512) (q : Fin 1024) :
    (show Vec Ideal S512x1024 .f32 from iblk m c 2 t) (ix2 p q) = a2 m c (tokn t p) q := by
  unfold a2
  blk_ext [iblk, V, idx2 t]

/-- The kernel's result array after the run. -/
theorem arr (c : Dev nD) : (dats m 0 c).arrAt 3 cfg0.N = fun i => a2 m c (i 0) (i 1) + mat (a0 m c) (a1 m c) (i 0) (i 1) := by
  refine (dats m 0 c).arrAt_eq_of_covers 3 _ (by decide +kernel) fun t hf y => ?_
  blk_simp
  rw [after0_3]
  obtain ⟨p, q, rfl⟩ : ∃ (p : Fin 512) (q : Fin 1024), y = ix2 p q := ⟨y 0, y 1, eq_ix2 y⟩
  have hy : ((cfg0.win 3).blk t).view.emb (ix2 p q) = (ix2 (tokn t p) q : S4096x1024.Idx) := by
    blk_ext [idx3 t]
  refine Eq.trans ?_ (congrArg (fun i : S4096x1024.Idx => a2 m c (i 0) (i 1) + mat (a0 m c) (a1 m c) (i 0) (i 1)) hy).symm
  refine (out_point m c t p q).trans ?_
  refine (add_comm _ _).trans (congrArg₂ (· + ·) (blk2 m c t p q) ?_)
  unfold mat
  refine Finset.sum_congr rfl fun e _ => ?_
  rw [blk0, blk1]
  rfl

end Cert.SqOutIdeal.Proj

namespace Cert.SqOutRefIdeal.Proj

open Cert.SqOutRefIdeal Cert.SqOutRefIdeal.Gen

/-- The reference's result. -/
def out (x : FVec Ideal S4096x1024 .bf16) (y : FVec Ideal S1024x1024 .bf16) (z : FVec Ideal S4096x1024 .f32) : FVec Ideal S4096x1024 .f32 :=
  addf z (Host.dotGeneral dot_S4096x1024_S1024x1024_S4096x1024_1_0_0_1_n_n none (extf .f32 x bitsLt_bf16_f32) (extf .f32 y bitsLt_bf16_f32))

theorem out_at (x : FVec Ideal S4096x1024 .bf16) (y : FVec Ideal S1024x1024 .bf16) (z : FVec Ideal S4096x1024 .f32) (p : Fin 4096) (q : Fin 1024) :
    out x y z (ix2 p q) = z (ix2 p q) + mat (fun r e => x (ix2 r e)) (fun e q => y (ix2 e q)) p q := by
  unfold mat
  pointwise [out]

end Cert.SqOutRefIdeal.Proj

namespace Cert.SqOut.Claims

/-- The reference's frame: its generated run, read at the arguments. -/
theorem frame_ref : Cert.quiescent_SqOutRefIdeal := fun m ρ _ =>
  (θ_run Cert.SqOutRefIdeal.defs _ _).mono (fun _ h => ⟨fun c => (h c).2, Idealize.ShloMosaic.sem_eq_zero_of_no_sems (by decide) _⟩)
    (Cert.SqOutRefIdeal.Value.run m ρ)

/-- The kernel's result is the reference's over the extended reals. -/
theorem value : Cert.algebraic_SqOutIdeal_SqOutRefIdeal := fun m ρ m' ρ' _ hag =>
  ⟨fun c => (Cert.SqOutIdeal.Gen.dats m 0 c).arrAt 3 Cert.SqOutIdeal.cfg0.N,
    Cert.SqOutIdeal.Value.run_blocks m ρ,
    (θ_run _ _ _).mono (fun _ h c => by
      obtain ⟨h0, hr⟩ := h c
      obtain ⟨a0, a1, a2⟩ := hag c
      refine ⟨h0.trans ?_, hr⟩
      rw [a0, a1, a2]
      exact (ext2 (Cert.SqOutRefIdeal.Proj.out_at _ _ _)).trans (Cert.SqOutIdeal.Proj.arr m c).symm)
      (Cert.SqOutRefIdeal.Value.run m' ρ')⟩

end Cert.SqOut.Claims

end
end
-- ==== Proof.Proj.SqDwOut.lean ====
/-
  The gradient of the weight of a projection of width 1024 out of a mixer or of the attention: the kernel adds up, over
  four tiles of 1024 tokens, the products of the columns; the reference is one sum over the 4096 tokens.
-/
module

public import proofs.«01_k».proof.Proof.Kit
public import proofs.«01_k».proof.Proof.Gen.SqDwOut.Frame
public import proofs.«01_k».proof.Proof.Gen.SqDwOutIdeal.Value
public import proofs.«01_k».proof.Proof.Gen.SqDwOutRefIdeal.Run

@[expose] public section

set_option maxRecDepth 16384

noncomputable section

open Idealize.ShloMosaic Idealize.ShloMosaic.TcCoe Idealize.SL.Sem Cert.Common

namespace Cert.SqDwOutIdeal.Proj

open Cert.SqDwOutIdeal Cert.SqDwOutIdeal.Gen

variable (m : (ℓ : Loc nD τ sig) → Buf (Elt Ideal) ℓ)

theorem idx0 : ∀ t : Fin grid0.N, win0_0.index t = ![t.val % 4, t.val / 4] := by decide +kernel
theorem idx1 : ∀ t : Fin grid0.N, win0_1.index t = ![t.val % 4, 0] := by decide +kernel
theorem idx2 : ∀ t : Fin grid0.N, win0_2.index t = ![t.val / 4, 0] := by decide +kernel

/-- What a point adds at row `p` and column `q` of its block: the sum over its 1024 tokens. -/
def part (x0 : Vec Ideal S1024x512 .bf16) (x1 : Vec Ideal S1024x1024 .f32) (p : Fin 512) (q : Fin 1024) : EReal :=
  ∑ r : Fin 1024, x0 (ix2 r p) * x1 (ix2 r q)

theorem acc_A (c : Dev nD) (t : Fin cfg0.N) (ht : t.val % 4 = 0) (p : Fin 512) (q : Fin 1024) :
    (outsAt0 m c t.val t.isLt).2 (ix2 p q) = 0 + part (iblk m c 0 t) (iblk m c 1 t) p q := by
  rw [outsAt0_A m c t ht (by omega)]
  frame_open
  simp (disch := decide) only [↓ View.readCov_skip, ↓ View.readCov_cons_toLoadRect, ↓ View.readCov_fill]
  frame_out
  unfold part
  pointwise [k0_pay2, k0_pay1]

theorem acc_B (c : Dev nD) (t : Fin cfg0.N) (ht : ¬ t.val % 4 = 0) (p : Fin 512) (q : Fin 1024) :
    (outsAt0 m c t.val t.isLt).2 (ix2 p q)
      = (outsAt0 m c (t.val - 1) (Nat.lt_of_le_of_lt (Nat.sub_le _ _) t.isLt)).2 (ix2 p q)
        + part (iblk m c 0 t) (iblk m c 1 t) p q := by
  by_cases h : t.val % 4 = 3
  · rw [outsAt0_C m c t ht h]
    frame_open
    simp (disch := decide) only [↓ View.readCov_skip, ↓ View.readCov_cons_toLoadRect, ↓ View.readCov_fill]
    frame_out
    simp only [read_unread_whole]
    unfold part
    pointwise [k0_pay2]
  · rw [outsAt0_B m c t ht h]
    frame_open
    simp (disch := decide) only [↓ View.readCov_skip, ↓ View.readCov_cons_toLoadRect, ↓ View.readCov_fill]
    frame_out
    simp only [read_unread_whole]
    unfold part
    pointwise [k0_pay2]

/-- The last point of a block writes the sum out. -/
theorem out_C (c : Dev nD) (t : Fin cfg0.N) (ht : t.val % 4 = 3) (p : Fin 512) (q : Fin 1024) :
    (outsAt0 m c t.val t.isLt).1 (ix2 p q) = (outsAt0 m c t.val t.isLt).2 (ix2 p q) := by
  rw [acc_B m c t (by omega), outsAt0_C m c t (by omega) ht]
  frame_open
  simp (disch := decide) only [↓ View.readCov_skip, ↓ View.readCov_cons_toLoadRect, ↓ View.readCov_fill]
  frame_out
  simp only [read_unread_whole]
  unfold part
  pointwise [k0_pay3, k0_pay2]

/-- The product's input as launched. -/
abbrev a0 (c : Dev nD) (r : Fin 4096) (e : Fin 1024) : EReal := m ((c : Thread nD τ).loc main_arg0) (ix2 r e)
/-- The gradient of the product's result as launched. -/
abbrev a1 (c : Dev nD) (r : Fin 4096) (e : Fin 1024) : EReal := m ((c : Thread nD τ).loc main_arg1) (ix2 r e)

/-- Row `p` of point `t`'s output block as a row of the array. -/
abbrev orow (t : Fin cfg0.N) (p : Fin 512) : Fin 1024 :=
  ⟨t.val / 4 * 512 + p.val, by have : t.val < 8 := lt_of_lt_of_eq t.isLt Gen.N_0; omega⟩
/-- Row `r` of point `t`'s input blocks as a token. -/
abbrev tokn (t : Fin cfg0.N) (r : Fin 1024) : Fin 4096 := ⟨t.val % 4 * 1024 + r.val, by omega⟩

theorem blk0 (c : Dev nD) (t : Fin cfg0.N) (r : Fin 1024) (p : Fin 512) :
    iblk m c 0 t (ix2 r p) = a0 m c (tokn t r) (orow t p) := by
  unfold a0
  blk_ext [iblk, V, idx0 t]
theorem blk1 (c : Dev nD) (t : Fin cfg0.N) (r : Fin 1024) (q : Fin 1024) :
    iblk m c 1 t (ix2 r q) = a1 m c (tokn t r) q := by
  unfold a1
  blk_ext [iblk, V, idx1 t]

/-- At a block's last point the accumulator holds the whole sum. -/
theorem sum_at (c : Dev nD) (t : Fin cfg0.N) (ht : t.val % 4 = 3) (p : Fin 512) (q : Fin 1024) :
    (outsAt0 m c t.val t.isLt).2 (ix2 p q) = mat (fun p r => a0 m c r p) (a1 m c) (orow t p) q := by
  have hN : t.val < 8 := lt_of_lt_of_eq t.isLt Gen.N_0
  have e := Pipeline.eq_sum_fin_of_reset_step_of_flush (M := EReal)
    (fun n hn => (outsAt0 m c n hn).2 (ix2 p q)) 4 0 _
    (fun t ht => acc_A m c t ht p q) (fun t ht => acc_B m c t ht p q) t ht
  refine e.trans ((zero_add _).trans ?_)
  unfold mat part
  refine Fin.sum_mul_add_congr fun s r hl => ?_
  rw [blk0, blk1]
  have e1 : orow ⟨4 * (t.val / 4) + s.val, by have := s.isLt; exact lt_of_lt_of_eq (by omega) Gen.N_0.symm⟩ p = orow t p :=
    Fin.ext (by show (4 * (t.val / 4) + s.val) / 4 * 512 + p.val = t.val / 4 * 512 + p.val; omega)
  have e2 : tokn ⟨4 * (t.val / 4) + s.val, by have := s.isLt; exact lt_of_lt_of_eq (by omega) Gen.N_0.symm⟩ r
      = ⟨s.val * 1024 + r.val, hl⟩ :=
    Fin.ext (by show (4 * (t.val / 4) + s.val) % 4 * 1024 + r.val = s.val * 1024 + r.val; omega)
  rw [e1, e2]

/-- The kernel's result array after the run. -/
theorem arr (c : Dev nD) : (dats m 0 c).arrAt 2 cfg0.N = fun i => mat (fun p r => a0 m c r p) (a1 m c) (i 0) (i 1) := by
  refine (dats m 0 c).arrAt_eq_of_covers 2 _ (by decide +kernel) fun t hf y => ?_
  blk_simp
  rw [after0_2]
  obtain ⟨p, q, rfl⟩ : ∃ (p : Fin 512) (q : Fin 1024), y = ix2 p q := ⟨y 0, y 1, eq_ix2 y⟩
  have hy : ((cfg0.win 2).blk t).view.emb (ix2 p q) = (ix2 (orow t p) q : S1024x1024.Idx) := by
    blk_ext [idx2 t]
  refine Eq.trans ?_ (congrArg (fun i : S1024x1024.Idx => mat (fun p r => a0 m c r p) (a1 m c) (i 0) (i 1)) hy).symm
  exact (out_C m c t ((flush0_2 t).mp hf) p q).trans (sum_at m c t ((flush0_2 t).mp hf) p q)

end Cert.SqDwOutIdeal.Proj

namespace Cert.SqDwOutRefIdeal.Proj

open Cert.SqDwOutRefIdeal Cert.SqDwOutRefIdeal.Gen

/-- The reference's result. -/
def out (x : FVec Ideal S4096x1024 .bf16) (y : FVec Ideal S4096x1024 .f32) : FVec Ideal S1024x1024 .bf16 :=
  truncf .bf16 (transpose S1024x1024 [1, 0] (Host.dotGeneral dot_S4096x1024_S4096x1024_S1024x1024_0_0_1_1_n_n none y (extf .f32 x bitsLt_bf16_f32)) transposes_S1024x1024_S1024x1024_1_0) bitsLt_bf16_f32

theorem out_at (x : FVec Ideal S4096x1024 .bf16) (y : FVec Ideal S4096x1024 .f32) (p : Fin 1024) (q : Fin 1024) :
    out x y (ix2 p q) = mat (fun p r => x (ix2 r p)) (fun r e => y (ix2 r e)) p q := by
  unfold mat
  pointwise [out]
  exact Finset.sum_congr rfl fun r _ => mul_comm _ _

end Cert.SqDwOutRefIdeal.Proj

namespace Cert.SqDwOut.Claims

/-- The reference's frame: its generated run, read at the arguments. -/
theorem frame_ref : Cert.quiescent_SqDwOutRefIdeal := fun m ρ _ =>
  (θ_run Cert.SqDwOutRefIdeal.defs _ _).mono (fun _ h => ⟨fun c => (h c).2, Idealize.ShloMosaic.sem_eq_zero_of_no_sems (by decide) _⟩)
    (Cert.SqDwOutRefIdeal.Value.run m ρ)

/-- The kernel's result is the reference's over the extended reals. -/
theorem value : Cert.algebraic_SqDwOutIdeal_SqDwOutRefIdeal := fun m ρ m' ρ' _ hag =>
  ⟨fun c => (Cert.SqDwOutIdeal.Gen.dats m 0 c).arrAt 2 Cert.SqDwOutIdeal.cfg0.N,
    Cert.SqDwOutIdeal.Value.run_blocks m ρ,
    (θ_run _ _ _).mono (fun _ h c => by
      obtain ⟨h0, hr⟩ := h c
      obtain ⟨a0, a1⟩ := hag c
      refine ⟨h0.trans ?_, hr⟩
      rw [a0, a1]
      exact (ext2 (Cert.SqDwOutRefIdeal.Proj.out_at _ _)).trans (Cert.SqDwOutIdeal.Proj.arr m c).symm)
      (Cert.SqDwOutRefIdeal.Value.run m' ρ')⟩

end Cert.SqDwOut.Claims

end
end
-- ==== Proof.Proj.SqDxOut.lean ====
/-
  The gradient of a mixer's or of the attention's result of width 1024 through the projection out of it: a block of 512
  tokens at a point; the reference is the one product.
-/
module

public import proofs.«01_k».proof.Proof.Kit
public import proofs.«01_k».proof.Proof.Gen.SqDxOut.Frame
public import proofs.«01_k».proof.Proof.Gen.SqDxOutIdeal.Value
public import proofs.«01_k».proof.Proof.Gen.SqDxOutRefIdeal.Run

@[expose] public section

set_option maxRecDepth 16384

noncomputable section

open Idealize.ShloMosaic Idealize.ShloMosaic.TcCoe Idealize.SL.Sem Cert.Common

namespace Cert.SqDxOutIdeal.Proj

open Cert.SqDxOutIdeal Cert.SqDxOutIdeal.Gen

variable (m : (ℓ : Loc nD τ sig) → Buf (Elt Ideal) ℓ)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

/-- A point's block: its rows times the weight. -/
theorem out_point (c : Dev nD) (t : Fin cfg0.N) (p : Fin 512) (q : Fin 1024) :
    outsAt0 m c t (ix2 p q)
      = (∑ e : Fin 1024, (show Vec Ideal S512x1024 .f32 from iblk m c 0 t) (ix2 p e)
          * (show Vec Ideal S1024x1024 .bf16 from iblk m c 1 t) (ix2 q e)) := by
  unfold outsAt0
  frame_open
  simp (disch := decide) only [↓ View.readCov_skip, ↓ View.readCov_cons_toLoadRect, ↓ View.readCov_fill]
  frame_out
  pointwise [k0_pay3, k0_pay2, k0_pay1]

/-- The projection's gradient as launched. -/
abbrev a0 (c : Dev nD) (r : Fin 4096) (e : Fin 1024) : EReal := m ((c : Thread nD τ).loc main_arg0) (ix2 r e)
/-- The weight as launched. -/
abbrev a1 (c : Dev nD) (r : Fin 1024) (e : Fin 1024) : EReal := m ((c : Thread nD τ).loc main_arg1) (ix2 r e)

/-- Row `p` of point `t`'s blocks as a token. -/
abbrev tokn (t : Fin cfg0.N) (p : Fin 512) : Fin 4096 :=
  ⟨t.val * 512 + p.val, by have : t.val < 8 := lt_of_lt_of_eq t.isLt Gen.N_0; omega⟩

theorem blk0 (c : Dev nD) (t : Fin cfg0.N) (p : Fin 512) (e : Fin 1024) :
    (show Vec Ideal S512x1024 .f32 from iblk m c 0 t) (ix2 p e) = a0 m c (tokn t p) e := by
  unfold a0
  blk_ext [iblk, V, idx0 t]
theorem blk1 (c : Dev nD) (t : Fin cfg0.N) (r : Fin 1024) (e : Fin 1024) :
    (show Vec Ideal S1024x1024 .bf16 from iblk m c 1 t) (ix2 r e) = a1 m c r e := by
  unfold a1
  blk_ext [iblk, V, idx1 t]

/-- The kernel's result array after the run. -/
theorem arr (c : Dev nD) : (dats m 0 c).arrAt 2 cfg0.N = fun i => mat (a0 m c) (fun e q => a1 m c q e) (i 0) (i 1) := by
  refine (dats m 0 c).arrAt_eq_of_covers 2 _ (by decide +kernel) fun t hf y => ?_
  blk_simp
  rw [after0_2]
  obtain ⟨p, q, rfl⟩ : ∃ (p : Fin 512) (q : Fin 1024), y = ix2 p q := ⟨y 0, y 1, eq_ix2 y⟩
  have hy : ((cfg0.win 2).blk t).view.emb (ix2 p q) = (ix2 (tokn t p) q : S4096x1024.Idx) := by
    blk_ext [idx2 t]
  refine Eq.trans ?_ (congrArg (fun i : S4096x1024.Idx => mat (a0 m c) (fun e q => a1 m c q e) (i 0) (i 1)) hy).symm
  refine (out_point m c t p q).trans ?_
  unfold mat
  refine Finset.sum_congr rfl fun e _ => ?_
  rw [blk0, blk1]
  rfl

end Cert.SqDxOutIdeal.Proj

namespace Cert.SqDxOutRefIdeal.Proj

open Cert.SqDxOutRefIdeal Cert.SqDxOutRefIdeal.Gen

/-- The reference's result. -/
def out (x : FVec Ideal S4096x1024 .f32) (y : FVec Ideal S1024x1024 .bf16) : FVec Ideal S4096x1024 .bf16 :=
  truncf .bf16 (Host.dotGeneral dot_S4096x1024_S1024x1024_S4096x1024_1_1_0_0_n_n none x (extf .f32 y bitsLt_bf16_f32)) bitsLt_bf16_f32

theorem out_at (x : FVec Ideal S4096x1024 .f32) (y : FVec Ideal S1024x1024 .bf16) (p : Fin 4096) (q : Fin 1024) :
    out x y (ix2 p q) = mat (fun r e => x (ix2 r e)) (fun e q => y (ix2 q e)) p q := by
  unfold mat
  pointwise [out]

end Cert.SqDxOutRefIdeal.Proj

namespace Cert.SqDxOut.Claims

/-- The reference's frame: its generated run, read at the arguments. -/
theorem frame_ref : Cert.quiescent_SqDxOutRefIdeal := fun m ρ _ =>
  (θ_run Cert.SqDxOutRefIdeal.defs _ _).mono (fun _ h => ⟨fun c => (h c).2, Idealize.ShloMosaic.sem_eq_zero_of_no_sems (by decide) _⟩)
    (Cert.SqDxOutRefIdeal.Value.run m ρ)

/-- The kernel's result is the reference's over the extended reals. -/
theorem value : Cert.algebraic_SqDxOutIdeal_SqDxOutRefIdeal := fun m ρ m' ρ' _ hag =>
  ⟨fun c => (Cert.SqDxOutIdeal.Gen.dats m 0 c).arrAt 2 Cert.SqDxOutIdeal.cfg0.N,
    Cert.SqDxOutIdeal.Value.run_blocks m ρ,
    (θ_run _ _ _).mono (fun _ h c => by
      obtain ⟨h0, hr⟩ := h c
      obtain ⟨a0, a1⟩ := hag c
      refine ⟨h0.trans ?_, hr⟩
      rw [a0, a1]
      exact (ext2 (Cert.SqDxOutRefIdeal.Proj.out_at _ _)).trans (Cert.SqDxOutIdeal.Proj.arr m c).symm)
      (Cert.SqDxOutRefIdeal.Value.run m' ρ')⟩

end Cert.SqDxOut.Claims

end
end
-- ==== Proof.Stack.DwGate.lean ====
/-
  The gradient of the gate half of the feed-forward layer's first weight: the kernel adds up, over four tiles of 1024
  tokens, the products of the input's columns with the gradient's columns, and writes two slots of 1408 columns; the
  reference is one sum over the 4096 tokens.
-/
module

public import proofs.«01_k».proof.Proof.Kit
public import proofs.«01_k».proof.Proof.Gen.DwGate.Frame
public import proofs.«01_k».proof.Proof.Gen.DwGateIdeal.Frame
public import proofs.«01_k».proof.Proof.Gen.DwGateRefIdeal.Run

@[expose] public section

set_option maxRecDepth 16384

noncomputable section

open Idealize.ShloMosaic Idealize.ShloMosaic.TcCoe Idealize.SL.Sem Cert.Common

namespace Cert.DwGateIdeal.Stack

open Cert.DwGateIdeal Cert.DwGateIdeal.Gen

variable (m : (ℓ : Loc nD τ sig) → Buf (Elt Ideal) ℓ)

theorem idx0 : ∀ t : Fin grid0.N, win0_0.index t = ![t.val % 4, t.val / 8] := by decide +kernel
theorem idx1 : ∀ t : Fin grid0.N, win0_1.index t = ![t.val % 4, t.val / 4 % 2] := by decide +kernel
theorem idx2 : ∀ t : Fin grid0.N, win0_2.index t = ![0 + t.val / 4 % 2, t.val / 8, 0] := by decide +kernel

/-- What a point adds at row `p` and column `q` of its block: the sum over its 1024 tokens. -/
def part (x0 : Vec Ideal S1024x512 .bf16) (x1 : Vec Ideal S1024x1408 .bf16) (p : Fin 512) (q : Fin 1408) : EReal :=
  ∑ r : Fin 1024, x0 (ix2 r p) * x1 (ix2 r q)

theorem acc_A (c : Dev nD) (t : Fin cfg0.N) (ht : t.val % 4 = 0) (p : Fin 512) (q : Fin 1408) :
    (outsAt0 m c t.val t.isLt).2 (ix2 p q) = 0 + part (iblk m c 0 t) (iblk m c 1 t) p q := by
  rw [outsAt0_A m c t ht (by omega)]
  frame_open
  simp (disch := decide) only [↓ View.readCov_skip, ↓ View.readCov_cons_toLoadRect, ↓ View.readCov_fill]
  frame_out
  unfold part
  pointwise [k0_pay2, k0_pay1]

theorem acc_B (c : Dev nD) (t : Fin cfg0.N) (ht : ¬ t.val % 4 = 0) (p : Fin 512) (q : Fin 1408) :
    (outsAt0 m c t.val t.isLt).2 (ix2 p q)
      = (outsAt0 m c (t.val - 1) (Nat.lt_of_le_of_lt (Nat.sub_le _ _) t.isLt)).2 (ix2 p q)
        + part (iblk m c 0 t) (iblk m c 1 t) p q := by
  by_cases h : t.val % 4 = 3
  · rw [outsAt0_C m c t ht h]
    frame_open
    simp (disch := decide) only [↓ View.readCov_skip, ↓ View.readCov_cons_toLoadRect, ↓ View.readCov_fill]
    frame_out
    simp only [read_unread_whole]
    unfold part
    pointwise [k0_pay2]
  · rw [outsAt0_B m c t ht h]
    frame_open
    simp (disch := decide) only [↓ View.readCov_skip, ↓ View.readCov_cons_toLoadRect, ↓ View.readCov_fill]
    frame_out
    simp only [read_unread_whole]
    unfold part
    pointwise [k0_pay2]

/-- The last point of a block writes the sum out. -/
theorem out_C (c : Dev nD) (t : Fin cfg0.N) (ht : t.val % 4 = 3) (p : Fin 512) (q : Fin 1408) :
    (outsAt0 m c t.val t.isLt).1 (ix3 0 p q) = (outsAt0 m c t.val t.isLt).2 (ix2 p q) := by
  rw [acc_B m c t (by omega), outsAt0_C m c t (by omega) ht]
  frame_open
  simp (disch := decide) only [↓ View.readCov_skip, ↓ View.readCov_cons_toLoadRect, ↓ View.readCov_fill]
  frame_out
  simp only [read_unread_whole]
  unfold part
  pointwise [k0_pay3, k0_pay2]

/-- The product's input as launched. -/
abbrev a0 (c : Dev nD) (r : Fin 4096) (e : Fin 1024) : EReal := m ((c : Thread nD τ).loc main_arg0) (ix2 r e)
/-- The gradient of the product's result as launched. -/
abbrev a1 (c : Dev nD) (r : Fin 4096) (e : Fin 2816) : EReal := m ((c : Thread nD τ).loc main_arg1) (ix2 r e)

/-- Row `p` of point `t`'s output block as a row of the weight. -/
abbrev orow (t : Fin cfg0.N) (p : Fin 512) : Fin 1024 :=
  ⟨t.val / 8 * 512 + p.val, by have : t.val < 16 := lt_of_lt_of_eq t.isLt Gen.N_0; omega⟩
/-- Column `q` of point `t`'s output block as a column of the weight. -/
abbrev ocol (t : Fin cfg0.N) (q : Fin 1408) : Fin 2816 := ⟨t.val / 4 % 2 * 1408 + q.val, by omega⟩
/-- Row `r` of point `t`'s input blocks as a token. -/
abbrev tokn (t : Fin cfg0.N) (r : Fin 1024) : Fin 4096 := ⟨t.val % 4 * 1024 + r.val, by omega⟩

theorem blk0 (c : Dev nD) (t : Fin cfg0.N) (r : Fin 1024) (p : Fin 512) :
    iblk m c 0 t (ix2 r p) = a0 m c (tokn t r) (orow t p) := by
  unfold a0
  blk_ext [iblk, V, idx0 t]
theorem blk1 (c : Dev nD) (t : Fin cfg0.N) (r : Fin 1024) (q : Fin 1408) :
    iblk m c 1 t (ix2 r q) = a1 m c (tokn t r) (ocol t q) := by
  unfold a1
  blk_ext [iblk, V, idx1 t]

/-- At a block's last point the accumulator holds the whole sum. -/
theorem sum_at (c : Dev nD) (t : Fin cfg0.N) (ht : t.val % 4 = 3) (p : Fin 512) (q : Fin 1408) :
    (outsAt0 m c t.val t.isLt).2 (ix2 p q) = mat (fun p r => a0 m c r p) (a1 m c) (orow t p) (ocol t q) := by
  have hN : t.val < 16 := lt_of_lt_of_eq t.isLt Gen.N_0
  have e := Pipeline.eq_sum_fin_of_reset_step_of_flush (M := EReal)
    (fun n hn => (outsAt0 m c n hn).2 (ix2 p q)) 4 0 _
    (fun t ht => acc_A m c t ht p q) (fun t ht => acc_B m c t ht p q) t ht
  refine e.trans ((zero_add _).trans ?_)
  unfold mat part
  refine Fin.sum_mul_add_congr fun s r hl => ?_
  rw [blk0, blk1]
  have hs : 4 * (t.val / 4) + s.val < cfg0.N := by have := s.isLt; exact lt_of_lt_of_eq (by omega) Gen.N_0.symm
  have e1 : orow ⟨4 * (t.val / 4) + s.val, hs⟩ p = orow t p :=
    Fin.ext (by show (4 * (t.val / 4) + s.val) / 8 * 512 + p.val = t.val / 8 * 512 + p.val; omega)
  have e2 : tokn ⟨4 * (t.val / 4) + s.val, hs⟩ r = ⟨s.val * 1024 + r.val, hl⟩ :=
    Fin.ext (by show (4 * (t.val / 4) + s.val) % 4 * 1024 + r.val = s.val * 1024 + r.val; omega)
  have e3 : ocol ⟨4 * (t.val / 4) + s.val, hs⟩ q = ocol t q :=
    Fin.ext (by show (4 * (t.val / 4) + s.val) / 4 % 2 * 1408 + q.val = t.val / 4 % 2 * 1408 + q.val; omega)
  rw [e1, e2, e3]

/-- The product's columns, cut into slots of 1408. -/
def stack (x : Fin 1024 → Fin 4096 → EReal) (y : Fin 4096 → Fin 2816 → EReal) (s : Fin 4) (p : Fin 1024) (q : Fin 1408) : EReal :=
  mat x y p ⟨s.val % 2 * 1408 + q.val, by omega⟩

/-- The kernel's result in the slots that the call writes. -/
theorem arr (c : Dev nD) (s : Fin 2) (p : Fin 1024) (q : Fin 1408) :
    (dats m 0 c).arrAt 2 cfg0.N (ix3 ⟨s.val, by omega⟩ p q : S4x1024x1408.Idx)
      = mat (fun p r => a0 m c r p) (a1 m c) p ⟨s.val * 1408 + q.val, by omega⟩ := by
  refine ((dats m 0 c).arrAt_apply_of_coversWhere 2
    (fun i : S4x1024x1408.Idx => stack (fun p r => a0 m c r p) (a1 m c) (i 0) (i 1) (i 2))
    (P := fun i : S4x1024x1408.Idx => (i 0).val < 2) (fun β => β (0 : Fin 3) < 2) (by decide +kernel) (fun t hf y => ?_)
    (fun j => by show (j 0).val < 2 ↔ (j 0).val / 1 < 2; omega) _).trans ?_
  · blk_simp
    rw [after0_2]
    obtain ⟨p, q, rfl⟩ : ∃ (p : Fin 512) (q : Fin 1408), y = ix3 0 p q :=
      ⟨y 1, y 2, (eq_ix3 y).trans (congrArg (fun s => ix3 s (y 1) (y 2)) (Fin.fin_one_eq_zero (y 0)))⟩
    have hb : 0 + t.val / 4 % 2 < 4 := by omega
    have hy : ((cfg0.win 2).blk t).view.emb (ix3 0 p q) = (ix3 ⟨0 + t.val / 4 % 2, hb⟩ (orow t p) q : S4x1024x1408.Idx) := by
      blk_ext [idx2 t]
    refine Eq.trans ?_ (congrArg (fun i : S4x1024x1408.Idx =>
      stack (fun p r => a0 m c r p) (a1 m c) (i 0) (i 1) (i 2)) hy).symm
    refine ((out_C m c t ((flush0_2 t).mp hf) p q).trans (sum_at m c t ((flush0_2 t).mp hf) p q)).trans ?_
    exact congrArg (mat _ _ _) (Fin.ext (by
      show t.val / 4 % 2 * 1408 + q.val = (0 + t.val / 4 % 2) % 2 * 1408 + q.val; omega))
  · refine (if_pos s.isLt).trans (congrArg (mat _ _ _) (Fin.ext ?_))
    show s.val % 2 * 1408 + q.val = s.val * 1408 + q.val
    omega

/-- What the program returns: the written slots. -/
abbrev res (c : Dev nD) : FVec Ideal S2x1024x1408 .bf16 :=
  extractStridedSlice S2x1024x1408 ![0, 0, 0] ((dats m 0 c).arrAt 2 cfg0.N) slices_S4x1024x1408_S2x1024x1408_0_0_0

theorem res_at (c : Dev nD) (s : Fin 2) (p : Fin 1024) (q : Fin 1408) :
    res m c (ix3 s p q) = mat (fun p r => a0 m c r p) (a1 m c) p ⟨s.val * 1408 + q.val, by omega⟩ := by
  refine Eq.trans ?_ (arr m c s p q)
  pointwise [res]

/-- The host's slice after the region reads the call's result. -/
theorem tail_v1 (c : Dev nD) : Pipeline.afterTail₀ cfgs (dats m) 0 (V0 m) [hostOps1] c main_v1 = res m c := by
  unfold Pipeline.afterTail₀ hostOps1
  simp only [List.flatten_cons, List.flatten_nil, List.append_nil]
  after_results
  have e : (Pipeline.withArrays spec0 c (V0 m c) (fun w => (dats m 0 c).arrAt w cfg0.N) (Proc.devRef .tc main_v0) : FVec Ideal S4x1024x1408 .bf16)
      = (dats m 0 c).arrAt 2 cfg0.N := Pipeline.withArrays_arr spec0 winFacts0.arr_inj c (V0 m c) (fun w => (dats m 0 c).arrAt w cfg0.N) 2
  unfold res
  rw [← e]

/-- The run, read at the result and at the arguments. -/
theorem run (ρ : Dev nD → PrngReg) : θ_run defs (onTc (τ := τ) (main (F := Ideal))) ⟨m, fun _ => 0, ρ⟩ fun r => ∀ c : Dev nD,
    r.2.mem ((c.tc : Thread nD τ).loc main_v1) = res m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).2 main_v1 (Pipeline.mem_restRefs_of main_v1 (by decide) (by decide))).trans (tail_v1 m c), h.2 c⟩)
    (θ_run_and (run_main m ρ) (unchanged m ρ))

end Cert.DwGateIdeal.Stack

namespace Cert.DwGateRefIdeal.Stack

open Cert.DwGateRefIdeal Cert.DwGateRefIdeal.Gen

/-- The weight's gradient. -/
def grad (x : FVec Ideal S4096x1024 .bf16) (y : FVec Ideal S4096x2816 .bf16) : FVec Ideal S1024x2816 .bf16 :=
  truncf .bf16 (transpose S1024x2816 [1, 0] (Host.dotGeneral dot_S4096x2816_S4096x1024_S2816x1024_0_0_1_1_n_n none (extf .f32 y bitsLt_bf16_f32) (extf .f32 x bitsLt_bf16_f32)) transposes_S2816x1024_S1024x2816_1_0) bitsLt_bf16_f32

theorem grad_at (x : FVec Ideal S4096x1024 .bf16) (y : FVec Ideal S4096x2816 .bf16) (p : Fin 1024) (q : Fin 2816) :
    grad x y (ix2 p q) = mat (fun p r => x (ix2 r p)) (fun r e => y (ix2 r e)) p q := by
  unfold mat
  pointwise [grad]
  exact Finset.sum_congr rfl fun r _ => mul_comm _ _

/-- The reference's result: the gradient's halves as two slots. -/
def out (x : FVec Ideal S4096x1024 .bf16) (y : FVec Ideal S4096x2816 .bf16) : FVec Ideal S2x1024x1408 .bf16 :=
  concatenate S2x1024x1408 0 [⟨S1x1024x1408, (broadcastInDim S1x1024x1408 ![1, 2] bcast_S1024x1408_S1x1024x1408_1_2 (extractStridedSlice S1024x1408 ![0, 0] (grad x y) slices_S1024x2816_S1024x1408_0_0))⟩, ⟨S1x1024x1408, (broadcastInDim S1x1024x1408 ![1, 2] bcast_S1024x1408_S1x1024x1408_1_2 (extractStridedSlice S1024x1408 ![0, 1408] (grad x y) slices_S1024x2816_S1024x1408_0_1408))⟩] concatenates_S1x1024x1408_S1x1024x1408_S2x1024x1408_d0

theorem out_at (x : FVec Ideal S4096x1024 .bf16) (y : FVec Ideal S4096x2816 .bf16) (s : Fin 2) (p : Fin 1024) (q : Fin 1408) :
    out x y (ix3 s p q) = mat (fun p r => x (ix2 r p)) (fun r e => y (ix2 r e)) p ⟨s.val * 1408 + q.val, by omega⟩ := by
  refine Eq.trans ?_ (grad_at x y p ⟨s.val * 1408 + q.val, by omega⟩)
  match s with
  | 0 => pointwise [out]
  | 1 => pointwise [out]

end Cert.DwGateRefIdeal.Stack

namespace Cert.DwGate.Claims

/-- The reference's frame: its generated run, read at the arguments. -/
theorem frame_ref : Cert.quiescent_DwGateRefIdeal := fun m ρ _ =>
  (θ_run Cert.DwGateRefIdeal.defs _ _).mono (fun _ h => ⟨fun c => (h c).2, Idealize.ShloMosaic.sem_eq_zero_of_no_sems (by decide) _⟩)
    (Cert.DwGateRefIdeal.Value.run m ρ)

/-- The kernel's result is the reference's over the extended reals. -/
theorem value : Cert.algebraic_DwGateIdeal_DwGateRefIdeal := fun m ρ m' ρ' _ hag =>
  ⟨fun c => Cert.DwGateIdeal.Stack.res m c,
    Cert.DwGateIdeal.Stack.run m ρ,
    (θ_run _ _ _).mono (fun _ h c => by
      obtain ⟨h0, hr⟩ := h c
      obtain ⟨a0, a1⟩ := hag c
      refine ⟨h0.trans ?_, hr⟩
      rw [a0, a1]
      exact (ext3 (Cert.DwGateRefIdeal.Stack.out_at _ _)).trans (ext3 (Cert.DwGateIdeal.Stack.res_at m c)).symm)
      (Cert.DwGateRefIdeal.Value.run m' ρ')⟩

end Cert.DwGate.Claims

end
end
-- ==== Proof.Stack.DwUp.lean ====
/-
  The gradient of the up half of the feed-forward layer's first weight, written into the last two of four slots of 1408
  columns; the first two keep what the gate half's call left in them.
-/
module

public import proofs.«01_k».proof.Proof.Kit
public import proofs.«01_k».proof.Proof.Gen.DwUp.Frame
public import proofs.«01_k».proof.Proof.Gen.DwUpIdeal.Value
public import proofs.«01_k».proof.Proof.Gen.DwUpRefIdeal.Run

@[expose] public section

set_option maxRecDepth 16384

noncomputable section

open Idealize.ShloMosaic Idealize.ShloMosaic.TcCoe Idealize.SL.Sem Cert.Common

namespace Cert.DwUpIdeal.Stack

open Cert.DwUpIdeal Cert.DwUpIdeal.Gen

variable (m : (ℓ : Loc nD τ sig) → Buf (Elt Ideal) ℓ)

theorem idx0 : ∀ t : Fin grid0.N, win0_0.index t = ![t.val % 4, t.val / 8] := by decide +kernel
theorem idx1 : ∀ t : Fin grid0.N, win0_1.index t = ![t.val % 4, t.val / 4 % 2] := by decide +kernel
theorem idx2 : ∀ t : Fin grid0.N, win0_2.index t = ![2 + t.val / 4 % 2, t.val / 8, 0] := by decide +kernel

/-- What a point adds at row `p` and column `q` of its block: the sum over its 1024 tokens. -/
def part (x0 : Vec Ideal S1024x512 .bf16) (x1 : Vec Ideal S1024x1408 .bf16) (p : Fin 512) (q : Fin 1408) : EReal :=
  ∑ r : Fin 1024, x0 (ix2 r p) * x1 (ix2 r q)

theorem acc_A (c : Dev nD) (t : Fin cfg0.N) (ht : t.val % 4 = 0) (p : Fin 512) (q : Fin 1408) :
    (outsAt0 m c t.val t.isLt).2 (ix2 p q) = 0 + part (iblk m c 0 t) (iblk m c 1 t) p q := by
  rw [outsAt0_A m c t ht (by omega)]
  frame_open
  simp (disch := decide) only [↓ View.readCov_skip, ↓ View.readCov_cons_toLoadRect, ↓ View.readCov_fill]
  frame_out
  unfold part
  pointwise [k0_pay2, k0_pay1]

theorem acc_B (c : Dev nD) (t : Fin cfg0.N) (ht : ¬ t.val % 4 = 0) (p : Fin 512) (q : Fin 1408) :
    (outsAt0 m c t.val t.isLt).2 (ix2 p q)
      = (outsAt0 m c (t.val - 1) (Nat.lt_of_le_of_lt (Nat.sub_le _ _) t.isLt)).2 (ix2 p q)
        + part (iblk m c 0 t) (iblk m c 1 t) p q := by
  by_cases h : t.val % 4 = 3
  · rw [outsAt0_C m c t ht h]
    frame_open
    simp (disch := decide) only [↓ View.readCov_skip, ↓ View.readCov_cons_toLoadRect, ↓ View.readCov_fill]
    frame_out
    simp only [read_unread_whole]
    unfold part
    pointwise [k0_pay2]
  · rw [outsAt0_B m c t ht h]
    frame_open
    simp (disch := decide) only [↓ View.readCov_skip, ↓ View.readCov_cons_toLoadRect, ↓ View.readCov_fill]
    frame_out
    simp only [read_unread_whole]
    unfold part
    pointwise [k0_pay2]

/-- The last point of a block writes the sum out. -/
theorem out_C (c : Dev nD) (t : Fin cfg0.N) (ht : t.val % 4 = 3) (p : Fin 512) (q : Fin 1408) :
    (outsAt0 m c t.val t.isLt).1 (ix3 0 p q) = (outsAt0 m c t.val t.isLt).2 (ix2 p q) := by
  rw [acc_B m c t (by omega), outsAt0_C m c t (by omega) ht]
  frame_open
  simp (disch := decide) only [↓ View.readCov_skip, ↓ View.readCov_cons_toLoadRect, ↓ View.readCov_fill]
  frame_out
  simp only [read_unread_whole]
  unfold part
  pointwise [k0_pay3, k0_pay2]

/-- The product's input as launched. -/
abbrev a0 (c : Dev nD) (r : Fin 4096) (e : Fin 1024) : EReal := m ((c : Thread nD τ).loc main_arg0) (ix2 r e)
/-- The gradient of the product's result as launched. -/
abbrev a1 (c : Dev nD) (r : Fin 4096) (e : Fin 2816) : EReal := m ((c : Thread nD τ).loc main_arg1) (ix2 r e)

/-- Row `p` of point `t`'s output block as a row of the weight. -/
abbrev orow (t : Fin cfg0.N) (p : Fin 512) : Fin 1024 :=
  ⟨t.val / 8 * 512 + p.val, by have : t.val < 16 := lt_of_lt_of_eq t.isLt Gen.N_0; omega⟩
/-- Column `q` of point `t`'s output block as a column of the weight. -/
abbrev ocol (t : Fin cfg0.N) (q : Fin 1408) : Fin 2816 := ⟨t.val / 4 % 2 * 1408 + q.val, by omega⟩
/-- Row `r` of point `t`'s input blocks as a token. -/
abbrev tokn (t : Fin cfg0.N) (r : Fin 1024) : Fin 4096 := ⟨t.val % 4 * 1024 + r.val, by omega⟩

theorem blk0 (c : Dev nD) (t : Fin cfg0.N) (r : Fin 1024) (p : Fin 512) :
    iblk m c 0 t (ix2 r p) = a0 m c (tokn t r) (orow t p) := by
  unfold a0
  rw [← V_main_arg0 m c]
  blk_ext [iblk, idx0 t]
theorem blk1 (c : Dev nD) (t : Fin cfg0.N) (r : Fin 1024) (q : Fin 1408) :
    iblk m c 1 t (ix2 r q) = a1 m c (tokn t r) (ocol t q) := by
  unfold a1
  rw [← V_main_arg1 m c]
  blk_ext [iblk, idx1 t]

/-- At a block's last point the accumulator holds the whole sum. -/
theorem sum_at (c : Dev nD) (t : Fin cfg0.N) (ht : t.val % 4 = 3) (p : Fin 512) (q : Fin 1408) :
    (outsAt0 m c t.val t.isLt).2 (ix2 p q) = mat (fun p r => a0 m c r p) (a1 m c) (orow t p) (ocol t q) := by
  have hN : t.val < 16 := lt_of_lt_of_eq t.isLt Gen.N_0
  have e := Pipeline.eq_sum_fin_of_reset_step_of_flush (M := EReal)
    (fun n hn => (outsAt0 m c n hn).2 (ix2 p q)) 4 0 _
    (fun t ht => acc_A m c t ht p q) (fun t ht => acc_B m c t ht p q) t ht
  refine e.trans ((zero_add _).trans ?_)
  unfold mat part
  refine Fin.sum_mul_add_congr fun s r hl => ?_
  rw [blk0, blk1]
  have hs : 4 * (t.val / 4) + s.val < cfg0.N := by have := s.isLt; exact lt_of_lt_of_eq (by omega) Gen.N_0.symm
  have e1 : orow ⟨4 * (t.val / 4) + s.val, hs⟩ p = orow t p :=
    Fin.ext (by show (4 * (t.val / 4) + s.val) / 8 * 512 + p.val = t.val / 8 * 512 + p.val; omega)
  have e2 : tokn ⟨4 * (t.val / 4) + s.val, hs⟩ r = ⟨s.val * 1024 + r.val, hl⟩ :=
    Fin.ext (by show (4 * (t.val / 4) + s.val) % 4 * 1024 + r.val = s.val * 1024 + r.val; omega)
  have e3 : ocol ⟨4 * (t.val / 4) + s.val, hs⟩ q = ocol t q :=
    Fin.ext (by show (4 * (t.val / 4) + s.val) / 4 % 2 * 1408 + q.val = t.val / 4 % 2 * 1408 + q.val; omega)
  rw [e1, e2, e3]

/-- The four slots as launched. -/
abbrev a2 (c : Dev nD) (s : Fin 4) (p : Fin 1024) (q : Fin 1408) : EReal := m ((c : Thread nD τ).loc main_arg2) (ix3 s p q)

/-- The region finds the four slots' copy as the slots were launched. -/
theorem V_v0 (c : Dev nD) : V m c main_v0 = m ((c : Thread nD τ).loc main_arg2) := by
  unfold V hostOps0
  after_results
  rfl

/-- The product's columns in the last two slots of the four; the others as they were. -/
def stack (x : Fin 1024 → Fin 4096 → EReal) (y : Fin 4096 → Fin 2816 → EReal) (b : Fin 4 → Fin 1024 → Fin 1408 → EReal)
    (s : Fin 4) (p : Fin 1024) (q : Fin 1408) : EReal :=
  if h : 2 ≤ s.val ∧ s.val < 4 then mat x y p ⟨(s.val - 2) * 1408 + q.val, by omega⟩ else b s p q

section
variable (x : Fin 1024 → Fin 4096 → EReal) (y : Fin 4096 → Fin 2816 → EReal) (b : Fin 4 → Fin 1024 → Fin 1408 → EReal)

theorem stack_in (s : Fin 4) (p : Fin 1024) (q : Fin 1408) (k : Fin 2816) (h : 2 ≤ s.val ∧ s.val < 4)
    (hk : k.val = (s.val - 2) * 1408 + q.val) : mat x y p k = stack x y b s p q :=
  by
  unfold stack
  rw [dif_pos h]
  exact congrArg (mat x y p) (Fin.ext hk)

theorem stack_out (s : Fin 4) (p : Fin 1024) (q : Fin 1408) (h : ¬ (2 ≤ s.val ∧ s.val < 4)) :
    b s p q = stack x y b s p q := by
  unfold stack
  rw [dif_neg h]

end

/-- The kernel's result array after the run. -/
theorem arr (c : Dev nD) : (dats m 0 c).arrAt 2 cfg0.N
    = fun i => stack (fun p r => a0 m c r p) (a1 m c) (a2 m c) (i 0) (i 1) (i 2) := by
  refine (dats m 0 c).arrAt_eq_of_coversWhere_of_agree 2 _ (fun β => 2 ≤ β (0 : Fin 3) ∧ β (0 : Fin 3) < 4)
    (by decide +kernel) (fun t hf y => ?_) (fun j hj => ?_)
  · blk_simp
    rw [after0_2]
    obtain ⟨p, q, rfl⟩ : ∃ (p : Fin 512) (q : Fin 1408), y = ix3 0 p q :=
      ⟨y 1, y 2, (eq_ix3 y).trans (congrArg (fun s => ix3 s (y 1) (y 2)) (Fin.fin_one_eq_zero (y 0)))⟩
    have hb : 2 + t.val / 4 % 2 < 4 := by omega
    have hy : ((cfg0.win 2).blk t).view.emb (ix3 0 p q) = (ix3 ⟨2 + t.val / 4 % 2, hb⟩ (orow t p) q : S4x1024x1408.Idx) := by
      blk_ext [idx2 t]
    refine Eq.trans ?_ (congrArg (fun i : S4x1024x1408.Idx =>
      stack (fun p r => a0 m c r p) (a1 m c) (a2 m c) (i 0) (i 1) (i 2)) hy).symm
    refine ((out_C m c t ((flush0_2 t).mp hf) p q).trans (sum_at m c t ((flush0_2 t).mp hf) p q)).trans ?_
    exact stack_in _ _ _ _ _ _ _ (show 2 ≤ 2 + t.val / 4 % 2 ∧ 2 + t.val / 4 % 2 < 4 by omega)
      (by show t.val / 4 % 2 * 1408 + q.val = (2 + t.val / 4 % 2 - 2) * 1408 + q.val; omega)
  · obtain ⟨s, p, q, rfl⟩ : ∃ (s : Fin 4) (p : Fin 1024) (q : Fin 1408), j = ix3 s p q := ⟨j 0, j 1, j 2, eq_ix3 j⟩
    have hj' : ¬ (2 ≤ s.val ∧ s.val < 4) := fun h => hj (by
      show 2 ≤ s.val / 1 ∧ s.val / 1 < 4
      omega)
    exact (congrFun (V_v0 m c) (ix3 s p q)).trans (stack_out _ _ (a2 m c) s p q hj')

end Cert.DwUpIdeal.Stack

namespace Cert.DwUpRefIdeal.Stack

open Cert.DwUpRefIdeal Cert.DwUpRefIdeal.Gen

/-- The weight's gradient. -/
def grad (x : FVec Ideal S4096x1024 .bf16) (y : FVec Ideal S4096x2816 .bf16) : FVec Ideal S1024x2816 .bf16 :=
  truncf .bf16 (transpose S1024x2816 [1, 0] (Host.dotGeneral dot_S4096x2816_S4096x1024_S2816x1024_0_0_1_1_n_n none (extf .f32 y bitsLt_bf16_f32) (extf .f32 x bitsLt_bf16_f32)) transposes_S2816x1024_S1024x2816_1_0) bitsLt_bf16_f32

theorem grad_at (x : FVec Ideal S4096x1024 .bf16) (y : FVec Ideal S4096x2816 .bf16) (p : Fin 1024) (q : Fin 2816) :
    grad x y (ix2 p q) = mat (fun p r => x (ix2 r p)) (fun r e => y (ix2 r e)) p q := by
  unfold mat
  pointwise [grad]
  exact Finset.sum_congr rfl fun r _ => mul_comm _ _

/-- The reference's result: the gradient's halves as two slots, after the first two as they were. -/
def out (x : FVec Ideal S4096x1024 .bf16) (y : FVec Ideal S4096x2816 .bf16) (b : FVec Ideal S4x1024x1408 .bf16) : FVec Ideal S4x1024x1408 .bf16 :=
  concatenate S4x1024x1408 0 [⟨S2x1024x1408, (extractStridedSlice S2x1024x1408 ![0, 0, 0] b slices_S4x1024x1408_S2x1024x1408_0_0_0)⟩, ⟨S2x1024x1408, (concatenate S2x1024x1408 0 [⟨S1x1024x1408, (broadcastInDim S1x1024x1408 ![1, 2] bcast_S1024x1408_S1x1024x1408_1_2 (extractStridedSlice S1024x1408 ![0, 0] (grad x y) slices_S1024x2816_S1024x1408_0_0))⟩, ⟨S1x1024x1408, (broadcastInDim S1x1024x1408 ![1, 2] bcast_S1024x1408_S1x1024x1408_1_2 (extractStridedSlice S1024x1408 ![0, 1408] (grad x y) slices_S1024x2816_S1024x1408_0_1408))⟩] concatenates_S1x1024x1408_S1x1024x1408_S2x1024x1408_d0)⟩] concatenates_S2x1024x1408_S2x1024x1408_S4x1024x1408_d0

theorem out_at (x : FVec Ideal S4096x1024 .bf16) (y : FVec Ideal S4096x2816 .bf16) (b : FVec Ideal S4x1024x1408 .bf16)
    (s : Fin 4) (p : Fin 1024) (q : Fin 1408) :
    out x y b (ix3 s p q) = Cert.DwUpIdeal.Stack.stack (fun p r => x (ix2 r p)) (fun r e => y (ix2 r e)) (fun s p q => b (ix3 s p q)) s p q := by
  match s with
  | 0 => refine Eq.trans ?_ (Cert.DwUpIdeal.Stack.stack_out _ _ _ _ _ _ (by decide)); pointwise [out]
  | 1 => refine Eq.trans ?_ (Cert.DwUpIdeal.Stack.stack_out _ _ _ _ _ _ (by decide)); pointwise [out]
  | 2 =>
    refine Eq.trans ?_ ((grad_at x y p ⟨0 * 1408 + q.val, by omega⟩).trans (Cert.DwUpIdeal.Stack.stack_in _ _ _ _ _ _ _ (by decide) rfl))
    pointwise [out]
  | 3 =>
    refine Eq.trans ?_ ((grad_at x y p ⟨1 * 1408 + q.val, by omega⟩).trans (Cert.DwUpIdeal.Stack.stack_in _ _ _ _ _ _ _ (by decide) rfl))
    pointwise [out]

end Cert.DwUpRefIdeal.Stack

namespace Cert.DwUp.Claims

/-- The reference's frame: its generated run, read at the arguments. -/
theorem frame_ref : Cert.quiescent_DwUpRefIdeal := fun m ρ _ =>
  (θ_run Cert.DwUpRefIdeal.defs _ _).mono (fun _ h => ⟨fun c => (h c).2, Idealize.ShloMosaic.sem_eq_zero_of_no_sems (by decide) _⟩)
    (Cert.DwUpRefIdeal.Value.run m ρ)

/-- The kernel's result is the reference's over the extended reals. -/
theorem value : Cert.algebraic_DwUpIdeal_DwUpRefIdeal := fun m ρ m' ρ' _ hag =>
  ⟨fun c => (Cert.DwUpIdeal.Gen.dats m 0 c).arrAt 2 Cert.DwUpIdeal.cfg0.N,
    Cert.DwUpIdeal.Value.run_blocks m ρ,
    (θ_run _ _ _).mono (fun _ h c => by
      obtain ⟨h0, hr⟩ := h c
      obtain ⟨a0, a1, a2⟩ := hag c
      refine ⟨h0.trans ?_, hr⟩
      rw [a0, a1, a2]
      exact (ext3 (Cert.DwUpRefIdeal.Stack.out_at _ _ _)).trans (Cert.DwUpIdeal.Stack.arr m c).symm)
      (Cert.DwUpRefIdeal.Value.run m' ρ')⟩

end Cert.DwUp.Claims

end
end
-- ==== Proof.Slots.HgQ.lean ====
/-
  The HGRN2 layer's query projection, forward: a block of 512 tokens times one of the four slots of the layer's weight at
  a point; the reference is the one product.
-/
module

public import proofs.«01_k».proof.Proof.Kit
public import proofs.«01_k».proof.Proof.Gen.HgQ.Frame
public import proofs.«01_k».proof.Proof.Gen.HgQIdeal.Value
public import proofs.«01_k».proof.Proof.Gen.HgQRefIdeal.Run

@[expose] public section

set_option maxRecDepth 16384

noncomputable section

open Idealize.ShloMosaic Idealize.ShloMosaic.TcCoe Idealize.SL.Sem Cert.Common

namespace Cert.HgQIdeal.Slots

open Cert.HgQIdeal Cert.HgQIdeal.Gen

variable (m : (ℓ : Loc nD τ sig) → Buf (Elt Ideal) ℓ)

theorem idx0 : ∀ t : Fin grid0.N, win0_0.index t = ![t.val, 0] := by decide +kernel
theorem idx1 : ∀ t : Fin grid0.N, win0_1.index t = ![0, 0, 0] := by decide +kernel
theorem idx2 : ∀ t : Fin grid0.N, win0_2.index t = ![t.val, 0] := by decide +kernel

/-- A point's block: its rows times the weight. -/
theorem out_point (c : Dev nD) (t : Fin cfg0.N) (p : Fin 512) (q : Fin 1024) :
    outsAt0 m c t (ix2 p q)
      = (∑ e : Fin 1024, (show Vec Ideal S512x1024 .bf16 from iblk m c 0 t) (ix2 p e)
          * (show Vec Ideal S1x1024x1024 .bf16 from iblk m c 1 t) (ix3 0 e q)) := by
  unfold outsAt0
  frame_open
  simp (disch := decide) only [↓ View.readCov_skip, ↓ View.readCov_cons_toLoadRect, ↓ View.readCov_fill]
  frame_out
  pointwise [k0_pay2, k0_pay1]

/-- The layer's input as launched. -/
abbrev a0 (c : Dev nD) (r : Fin 4096) (e : Fin 1024) : EReal := m ((c : Thread nD τ).loc main_arg0) (ix2 r e)
/-- The weight as launched: a slot of four. -/
abbrev a1 (c : Dev nD) (r : Fin 1024) (e : Fin 1024) : EReal := m ((c : Thread nD τ).loc main_arg1) (ix3 0 r e)

/-- Row `p` of point `t`'s blocks as a token. -/
abbrev tokn (t : Fin cfg0.N) (p : Fin 512) : Fin 4096 :=
  ⟨t.val * 512 + p.val, by have : t.val < 8 := lt_of_lt_of_eq t.isLt Gen.N_0; omega⟩

theorem blk0 (c : Dev nD) (t : Fin cfg0.N) (p : Fin 512) (e : Fin 1024) :
    (show Vec Ideal S512x1024 .bf16 from iblk m c 0 t) (ix2 p e) = a0 m c (tokn t p) e := by
  unfold a0
  blk_ext [iblk, V, idx0 t]
theorem blk1 (c : Dev nD) (t : Fin cfg0.N) (r : Fin 1024) (e : Fin 1024) :
    (show Vec Ideal S1x1024x1024 .bf16 from iblk m c 1 t) (ix3 0 r e) = a1 m c r e := by
  unfold a1
  blk_ext [iblk, V, idx1 t]

/-- The kernel's result array after the run. -/
theorem arr (c : Dev nD) : (dats m 0 c).arrAt 2 cfg0.N = fun i => mat (a0 m c) (a1 m c) (i 0) (i 1) := by
  refine (dats m 0 c).arrAt_eq_of_covers 2 _ (by decide +kernel) fun t hf y => ?_
  blk_simp
  rw [after0_2]
  obtain ⟨p, q, rfl⟩ : ∃ (p : Fin 512) (q : Fin 1024), y = ix2 p q := ⟨y 0, y 1, eq_ix2 y⟩
  have hy : ((cfg0.win 2).blk t).view.emb (ix2 p q) = (ix2 (tokn t p) q : S4096x1024.Idx) := by
    blk_ext [idx2 t]
  refine Eq.trans ?_ (congrArg (fun i : S4096x1024.Idx => mat (a0 m c) (a1 m c) (i 0) (i 1)) hy).symm
  refine (out_point m c t p q).trans ?_
  unfold mat
  refine Finset.sum_congr rfl fun e _ => ?_
  rw [blk0, blk1]
  rfl

end Cert.HgQIdeal.Slots

namespace Cert.HgQRefIdeal.Slots

open Cert.HgQRefIdeal Cert.HgQRefIdeal.Gen

/-- The reference's result. -/
def out (x : FVec Ideal S4096x1024 .bf16) (y : FVec Ideal S4x1024x1024 .bf16) : FVec Ideal S4096x1024 .f32 :=
  Host.dotGeneral dot_S4096x1024_S1024x1024_S4096x1024_1_0_0_1_n_n none (extf .f32 x bitsLt_bf16_f32) (extf .f32 (shapeCast _ (extractStridedSlice S1x1024x1024 ![0, 0, 0] y slices_S4x1024x1024_S1x1024x1024_0_0_0) shapeCasts_S1x1024x1024_S1024x1024) bitsLt_bf16_f32)

theorem out_at (x : FVec Ideal S4096x1024 .bf16) (y : FVec Ideal S4x1024x1024 .bf16) (p : Fin 4096) (q : Fin 1024) :
    out x y (ix2 p q) = mat (fun r e => x (ix2 r e)) (fun e q => y (ix3 0 e q)) p q := by
  unfold mat
  pointwise [out]

end Cert.HgQRefIdeal.Slots

namespace Cert.HgQ.Claims

/-- The reference's frame: its generated run, read at the arguments. -/
theorem frame_ref : Cert.quiescent_HgQRefIdeal := fun m ρ _ =>
  (θ_run Cert.HgQRefIdeal.defs _ _).mono (fun _ h => ⟨fun c => (h c).2, Idealize.ShloMosaic.sem_eq_zero_of_no_sems (by decide) _⟩)
    (Cert.HgQRefIdeal.Value.run m ρ)

/-- The kernel's result is the reference's over the extended reals. -/
theorem value : Cert.algebraic_HgQIdeal_HgQRefIdeal := fun m ρ m' ρ' _ hag =>
  ⟨fun c => (Cert.HgQIdeal.Gen.dats m 0 c).arrAt 2 Cert.HgQIdeal.cfg0.N,
    Cert.HgQIdeal.Value.run_blocks m ρ,
    (θ_run _ _ _).mono (fun _ h c => by
      obtain ⟨h0, hr⟩ := h c
      obtain ⟨a0, a1⟩ := hag c
      refine ⟨h0.trans ?_, hr⟩
      rw [a0, a1]
      exact (ext2 (Cert.HgQRefIdeal.Slots.out_at _ _)).trans (Cert.HgQIdeal.Slots.arr m c).symm)
      (Cert.HgQRefIdeal.Value.run m' ρ')⟩

end Cert.HgQ.Claims

end
end
-- ==== Proof.Slots.HgF.lean ====
/-
  The HGRN2 layer's forget projection, forward: a block of 512 tokens times one of the four slots of the layer's weight at
  a point; the reference is the one product.
-/
module

public import proofs.«01_k».proof.Proof.Kit
public import proofs.«01_k».proof.Proof.Gen.HgF.Frame
public import proofs.«01_k».proof.Proof.Gen.HgFIdeal.Value
public import proofs.«01_k».proof.Proof.Gen.HgFRefIdeal.Run

@[expose] public section

set_option maxRecDepth 16384

noncomputable section

open Idealize.ShloMosaic Idealize.ShloMosaic.TcCoe Idealize.SL.Sem Cert.Common

namespace Cert.HgFIdeal.Slots

open Cert.HgFIdeal Cert.HgFIdeal.Gen

variable (m : (ℓ : Loc nD τ sig) → Buf (Elt Ideal) ℓ)

theorem idx0 : ∀ t : Fin grid0.N, win0_0.index t = ![t.val, 0] := by decide +kernel
theorem idx1 : ∀ t : Fin grid0.N, win0_1.index t = ![1, 0, 0] := by decide +kernel
theorem idx2 : ∀ t : Fin grid0.N, win0_2.index t = ![t.val, 0] := by decide +kernel

/-- A point's block: its rows times the weight. -/
theorem out_point (c : Dev nD) (t : Fin cfg0.N) (p : Fin 512) (q : Fin 1024) :
    outsAt0 m c t (ix2 p q)
      = (∑ e : Fin 1024, (show Vec Ideal S512x1024 .bf16 from iblk m c 0 t) (ix2 p e)
          * (show Vec Ideal S1x1024x1024 .bf16 from iblk m c 1 t) (ix3 0 e q)) := by
  unfold outsAt0
  frame_open
  simp (disch := decide) only [↓ View.readCov_skip, ↓ View.readCov_cons_toLoadRect, ↓ View.readCov_fill]
  frame_out
  pointwise [k0_pay2, k0_pay1]

/-- The layer's input as launched. -/
abbrev a0 (c : Dev nD) (r : Fin 4096) (e : Fin 1024) : EReal := m ((c : Thread nD τ).loc main_arg0) (ix2 r e)
/-- The weight as launched: a slot of four. -/
abbrev a1 (c : Dev nD) (r : Fin 1024) (e : Fin 1024) : EReal := m ((c : Thread nD τ).loc main_arg1) (ix3 1 r e)

/-- Row `p` of point `t`'s blocks as a token. -/
abbrev tokn (t : Fin cfg0.N) (p : Fin 512) : Fin 4096 :=
  ⟨t.val * 512 + p.val, by have : t.val < 8 := lt_of_lt_of_eq t.isLt Gen.N_0; omega⟩

theorem blk0 (c : Dev nD) (t : Fin cfg0.N) (p : Fin 512) (e : Fin 1024) :
    (show Vec Ideal S512x1024 .bf16 from iblk m c 0 t) (ix2 p e) = a0 m c (tokn t p) e := by
  unfold a0
  blk_ext [iblk, V, idx0 t]
theorem blk1 (c : Dev nD) (t : Fin cfg0.N) (r : Fin 1024) (e : Fin 1024) :
    (show Vec Ideal S1x1024x1024 .bf16 from iblk m c 1 t) (ix3 0 r e) = a1 m c r e := by
  unfold a1
  blk_ext [iblk, V, idx1 t]

/-- The kernel's result array after the run. -/
theorem arr (c : Dev nD) : (dats m 0 c).arrAt 2 cfg0.N = fun i => mat (a0 m c) (a1 m c) (i 0) (i 1) := by
  refine (dats m 0 c).arrAt_eq_of_covers 2 _ (by decide +kernel) fun t hf y => ?_
  blk_simp
  rw [after0_2]
  obtain ⟨p, q, rfl⟩ : ∃ (p : Fin 512) (q : Fin 1024), y = ix2 p q := ⟨y 0, y 1, eq_ix2 y⟩
  have hy : ((cfg0.win 2).blk t).view.emb (ix2 p q) = (ix2 (tokn t p) q : S4096x1024.Idx) := by
    blk_ext [idx2 t]
  refine Eq.trans ?_ (congrArg (fun i : S4096x1024.Idx => mat (a0 m c) (a1 m c) (i 0) (i 1)) hy).symm
  refine (out_point m c t p q).trans ?_
  unfold mat
  refine Finset.sum_congr rfl fun e _ => ?_
  rw [blk0, blk1]
  rfl

end Cert.HgFIdeal.Slots

namespace Cert.HgFRefIdeal.Slots

open Cert.HgFRefIdeal Cert.HgFRefIdeal.Gen

/-- The reference's result. -/
def out (x : FVec Ideal S4096x1024 .bf16) (y : FVec Ideal S4x1024x1024 .bf16) : FVec Ideal S4096x1024 .f32 :=
  Host.dotGeneral dot_S4096x1024_S1024x1024_S4096x1024_1_0_0_1_n_n none (extf .f32 x bitsLt_bf16_f32) (extf .f32 (shapeCast _ (extractStridedSlice S1x1024x1024 ![1, 0, 0] y slices_S4x1024x1024_S1x1024x1024_1_0_0) shapeCasts_S1x1024x1024_S1024x1024) bitsLt_bf16_f32)

theorem out_at (x : FVec Ideal S4096x1024 .bf16) (y : FVec Ideal S4x1024x1024 .bf16) (p : Fin 4096) (q : Fin 1024) :
    out x y (ix2 p q) = mat (fun r e => x (ix2 r e)) (fun e q => y (ix3 1 e q)) p q := by
  unfold mat
  pointwise [out]

end Cert.HgFRefIdeal.Slots

namespace Cert.HgF.Claims

/-- The reference's frame: its generated run, read at the arguments. -/
theorem frame_ref : Cert.quiescent_HgFRefIdeal := fun m ρ _ =>
  (θ_run Cert.HgFRefIdeal.defs _ _).mono (fun _ h => ⟨fun c => (h c).2, Idealize.ShloMosaic.sem_eq_zero_of_no_sems (by decide) _⟩)
    (Cert.HgFRefIdeal.Value.run m ρ)

/-- The kernel's result is the reference's over the extended reals. -/
theorem value : Cert.algebraic_HgFIdeal_HgFRefIdeal := fun m ρ m' ρ' _ hag =>
  ⟨fun c => (Cert.HgFIdeal.Gen.dats m 0 c).arrAt 2 Cert.HgFIdeal.cfg0.N,
    Cert.HgFIdeal.Value.run_blocks m ρ,
    (θ_run _ _ _).mono (fun _ h c => by
      obtain ⟨h0, hr⟩ := h c
      obtain ⟨a0, a1⟩ := hag c
      refine ⟨h0.trans ?_, hr⟩
      rw [a0, a1]
      exact (ext2 (Cert.HgFRefIdeal.Slots.out_at _ _)).trans (Cert.HgFIdeal.Slots.arr m c).symm)
      (Cert.HgFRefIdeal.Value.run m' ρ')⟩

end Cert.HgF.Claims

end
end
-- ==== Proof.Slots.HgI.lean ====
/-
  The HGRN2 layer's input projection, forward: a block of 512 tokens times one of the four slots of the layer's weight at
  a point; the reference is the one product.
-/
module

public import proofs.«01_k».proof.Proof.Kit
public import proofs.«01_k».proof.Proof.Gen.HgI.Frame
public import proofs.«01_k».proof.Proof.Gen.HgIIdeal.Value
public import proofs.«01_k».proof.Proof.Gen.HgIRefIdeal.Run

@[expose] public section

set_option maxRecDepth 16384

noncomputable section

open Idealize.ShloMosaic Idealize.ShloMosaic.TcCoe Idealize.SL.Sem Cert.Common

namespace Cert.HgIIdeal.Slots

open Cert.HgIIdeal Cert.HgIIdeal.Gen

variable (m : (ℓ : Loc nD τ sig) → Buf (Elt Ideal) ℓ)

theorem idx0 : ∀ t : Fin grid0.N, win0_0.index t = ![t.val, 0] := by decide +kernel
theorem idx1 : ∀ t : Fin grid0.N, win0_1.index t = ![2, 0, 0] := by decide +kernel
theorem idx2 : ∀ t : Fin grid0.N, win0_2.index t = ![t.val, 0] := by decide +kernel

/-- A point's block: its rows times the weight. -/
theorem out_point (c : Dev nD) (t : Fin cfg0.N) (p : Fin 512) (q : Fin 1024) :
    outsAt0 m c t (ix2 p q)
      = (∑ e : Fin 1024, (show Vec Ideal S512x1024 .bf16 from iblk m c 0 t) (ix2 p e)
          * (show Vec Ideal S1x1024x1024 .bf16 from iblk m c 1 t) (ix3 0 e q)) := by
  unfold outsAt0
  frame_open
  simp (disch := decide) only [↓ View.readCov_skip, ↓ View.readCov_cons_toLoadRect, ↓ View.readCov_fill]
  frame_out
  pointwise [k0_pay2, k0_pay1]

/-- The layer's input as launched. -/
abbrev a0 (c : Dev nD) (r : Fin 4096) (e : Fin 1024) : EReal := m ((c : Thread nD τ).loc main_arg0) (ix2 r e)
/-- The weight as launched: a slot of four. -/
abbrev a1 (c : Dev nD) (r : Fin 1024) (e : Fin 1024) : EReal := m ((c : Thread nD τ).loc main_arg1) (ix3 2 r e)

/-- Row `p` of point `t`'s blocks as a token. -/
abbrev tokn (t : Fin cfg0.N) (p : Fin 512) : Fin 4096 :=
  ⟨t.val * 512 + p.val, by have : t.val < 8 := lt_of_lt_of_eq t.isLt Gen.N_0; omega⟩

theorem blk0 (c : Dev nD) (t : Fin cfg0.N) (p : Fin 512) (e : Fin 1024) :
    (show Vec Ideal S512x1024 .bf16 from iblk m c 0 t) (ix2 p e) = a0 m c (tokn t p) e := by
  unfold a0
  blk_ext [iblk, V, idx0 t]
theorem blk1 (c : Dev nD) (t : Fin cfg0.N) (r : Fin 1024) (e : Fin 1024) :
    (show Vec Ideal S1x1024x1024 .bf16 from iblk m c 1 t) (ix3 0 r e) = a1 m c r e := by
  unfold a1
  blk_ext [iblk, V, idx1 t]

/-- The kernel's result array after the run. -/
theorem arr (c : Dev nD) : (dats m 0 c).arrAt 2 cfg0.N = fun i => mat (a0 m c) (a1 m c) (i 0) (i 1) := by
  refine (dats m 0 c).arrAt_eq_of_covers 2 _ (by decide +kernel) fun t hf y => ?_
  blk_simp
  rw [after0_2]
  obtain ⟨p, q, rfl⟩ : ∃ (p : Fin 512) (q : Fin 1024), y = ix2 p q := ⟨y 0, y 1, eq_ix2 y⟩
  have hy : ((cfg0.win 2).blk t).view.emb (ix2 p q) = (ix2 (tokn t p) q : S4096x1024.Idx) := by
    blk_ext [idx2 t]
  refine Eq.trans ?_ (congrArg (fun i : S4096x1024.Idx => mat (a0 m c) (a1 m c) (i 0) (i 1)) hy).symm
  refine (out_point m c t p q).trans ?_
  unfold mat
  refine Finset.sum_congr rfl fun e _ => ?_
  rw [blk0, blk1]
  rfl

end Cert.HgIIdeal.Slots

namespace Cert.HgIRefIdeal.Slots

open Cert.HgIRefIdeal Cert.HgIRefIdeal.Gen

/-- The reference's result. -/
def out (x : FVec Ideal S4096x1024 .bf16) (y : FVec Ideal S4x1024x1024 .bf16) : FVec Ideal S4096x1024 .f32 :=
  Host.dotGeneral dot_S4096x1024_S1024x1024_S4096x1024_1_0_0_1_n_n none (extf .f32 x bitsLt_bf16_f32) (extf .f32 (shapeCast _ (extractStridedSlice S1x1024x1024 ![2, 0, 0] y slices_S4x1024x1024_S1x1024x1024_2_0_0) shapeCasts_S1x1024x1024_S1024x1024) bitsLt_bf16_f32)

theorem out_at (x : FVec Ideal S4096x1024 .bf16) (y : FVec Ideal S4x1024x1024 .bf16) (p : Fin 4096) (q : Fin 1024) :
    out x y (ix2 p q) = mat (fun r e => x (ix2 r e)) (fun e q => y (ix3 2 e q)) p q := by
  unfold mat
  pointwise [out]

end Cert.HgIRefIdeal.Slots

namespace Cert.HgI.Claims

/-- The reference's frame: its generated run, read at the arguments. -/
theorem frame_ref : Cert.quiescent_HgIRefIdeal := fun m ρ _ =>
  (θ_run Cert.HgIRefIdeal.defs _ _).mono (fun _ h => ⟨fun c => (h c).2, Idealize.ShloMosaic.sem_eq_zero_of_no_sems (by decide) _⟩)
    (Cert.HgIRefIdeal.Value.run m ρ)

/-- The kernel's result is the reference's over the extended reals. -/
theorem value : Cert.algebraic_HgIIdeal_HgIRefIdeal := fun m ρ m' ρ' _ hag =>
  ⟨fun c => (Cert.HgIIdeal.Gen.dats m 0 c).arrAt 2 Cert.HgIIdeal.cfg0.N,
    Cert.HgIIdeal.Value.run_blocks m ρ,
    (θ_run _ _ _).mono (fun _ h c => by
      obtain ⟨h0, hr⟩ := h c
      obtain ⟨a0, a1⟩ := hag c
      refine ⟨h0.trans ?_, hr⟩
      rw [a0, a1]
      exact (ext2 (Cert.HgIRefIdeal.Slots.out_at _ _)).trans (Cert.HgIIdeal.Slots.arr m c).symm)
      (Cert.HgIRefIdeal.Value.run m' ρ')⟩

end Cert.HgI.Claims

end
end
-- ==== Proof.Slots.HgG.lean ====
/-
  The HGRN2 layer's gate projection, forward: a block of 512 tokens times one of the four slots of the layer's weight at
  a point; the reference is the one product.
-/
module

public import proofs.«01_k».proof.Proof.Kit
public import proofs.«01_k».proof.Proof.Gen.HgG.Frame
public import proofs.«01_k».proof.Proof.Gen.HgGIdeal.Value
public import proofs.«01_k».proof.Proof.Gen.HgGRefIdeal.Run

@[expose] public section

set_option maxRecDepth 16384

noncomputable section

open Idealize.ShloMosaic Idealize.ShloMosaic.TcCoe Idealize.SL.Sem Cert.Common

namespace Cert.HgGIdeal.Slots

open Cert.HgGIdeal Cert.HgGIdeal.Gen

variable (m : (ℓ : Loc nD τ sig) → Buf (Elt Ideal) ℓ)

theorem idx0 : ∀ t : Fin grid0.N, win0_0.index t = ![t.val, 0] := by decide +kernel
theorem idx1 : ∀ t : Fin grid0.N, win0_1.index t = ![3, 0, 0] := by decide +kernel
theorem idx2 : ∀ t : Fin grid0.N, win0_2.index t = ![t.val, 0] := by decide +kernel

/-- A point's block: its rows times the weight. -/
theorem out_point (c : Dev nD) (t : Fin cfg0.N) (p : Fin 512) (q : Fin 1024) :
    outsAt0 m c t (ix2 p q)
      = (∑ e : Fin 1024, (show Vec Ideal S512x1024 .bf16 from iblk m c 0 t) (ix2 p e)
          * (show Vec Ideal S1x1024x1024 .bf16 from iblk m c 1 t) (ix3 0 e q)) := by
  unfold outsAt0
  frame_open
  simp (disch := decide) only [↓ View.readCov_skip, ↓ View.readCov_cons_toLoadRect, ↓ View.readCov_fill]
  frame_out
  pointwise [k0_pay2, k0_pay1]

/-- The layer's input as launched. -/
abbrev a0 (c : Dev nD) (r : Fin 4096) (e : Fin 1024) : EReal := m ((c : Thread nD τ).loc main_arg0) (ix2 r e)
/-- The weight as launched: a slot of four. -/
abbrev a1 (c : Dev nD) (r : Fin 1024) (e : Fin 1024) : EReal := m ((c : Thread nD τ).loc main_arg1) (ix3 3 r e)

/-- Row `p` of point `t`'s blocks as a token. -/
abbrev tokn (t : Fin cfg0.N) (p : Fin 512) : Fin 4096 :=
  ⟨t.val * 512 + p.val, by have : t.val < 8 := lt_of_lt_of_eq t.isLt Gen.N_0; omega⟩

theorem blk0 (c : Dev nD) (t : Fin cfg0.N) (p : Fin 512) (e : Fin 1024) :
    (show Vec Ideal S512x1024 .bf16 from iblk m c 0 t) (ix2 p e) = a0 m c (tokn t p) e := by
  unfold a0
  blk_ext [iblk, V, idx0 t]
theorem blk1 (c : Dev nD) (t : Fin cfg0.N) (r : Fin 1024) (e : Fin 1024) :
    (show Vec Ideal S1x1024x1024 .bf16 from iblk m c 1 t) (ix3 0 r e) = a1 m c r e := by
  unfold a1
  blk_ext [iblk, V, idx1 t]

/-- The kernel's result array after the run. -/
theorem arr (c : Dev nD) : (dats m 0 c).arrAt 2 cfg0.N = fun i => mat (a0 m c) (a1 m c) (i 0) (i 1) := by
  refine (dats m 0 c).arrAt_eq_of_covers 2 _ (by decide +kernel) fun t hf y => ?_
  blk_simp
  rw [after0_2]
  obtain ⟨p, q, rfl⟩ : ∃ (p : Fin 512) (q : Fin 1024), y = ix2 p q := ⟨y 0, y 1, eq_ix2 y⟩
  have hy : ((cfg0.win 2).blk t).view.emb (ix2 p q) = (ix2 (tokn t p) q : S4096x1024.Idx) := by
    blk_ext [idx2 t]
  refine Eq.trans ?_ (congrArg (fun i : S4096x1024.Idx => mat (a0 m c) (a1 m c) (i 0) (i 1)) hy).symm
  refine (out_point m c t p q).trans ?_
  unfold mat
  refine Finset.sum_congr rfl fun e _ => ?_
  rw [blk0, blk1]
  rfl

end Cert.HgGIdeal.Slots

namespace Cert.HgGRefIdeal.Slots

open Cert.HgGRefIdeal Cert.HgGRefIdeal.Gen

/-- The reference's result. -/
def out (x : FVec Ideal S4096x1024 .bf16) (y : FVec Ideal S4x1024x1024 .bf16) : FVec Ideal S4096x1024 .f32 :=
  Host.dotGeneral dot_S4096x1024_S1024x1024_S4096x1024_1_0_0_1_n_n none (extf .f32 x bitsLt_bf16_f32) (extf .f32 (shapeCast _ (extractStridedSlice S1x1024x1024 ![3, 0, 0] y slices_S4x1024x1024_S1x1024x1024_3_0_0) shapeCasts_S1x1024x1024_S1024x1024) bitsLt_bf16_f32)

theorem out_at (x : FVec Ideal S4096x1024 .bf16) (y : FVec Ideal S4x1024x1024 .bf16) (p : Fin 4096) (q : Fin 1024) :
    out x y (ix2 p q) = mat (fun r e => x (ix2 r e)) (fun e q => y (ix3 3 e q)) p q := by
  unfold mat
  pointwise [out]

end Cert.HgGRefIdeal.Slots

namespace Cert.HgG.Claims

/-- The reference's frame: its generated run, read at the arguments. -/
theorem frame_ref : Cert.quiescent_HgGRefIdeal := fun m ρ _ =>
  (θ_run Cert.HgGRefIdeal.defs _ _).mono (fun _ h => ⟨fun c => (h c).2, Idealize.ShloMosaic.sem_eq_zero_of_no_sems (by decide) _⟩)
    (Cert.HgGRefIdeal.Value.run m ρ)

/-- The kernel's result is the reference's over the extended reals. -/
theorem value : Cert.algebraic_HgGIdeal_HgGRefIdeal := fun m ρ m' ρ' _ hag =>
  ⟨fun c => (Cert.HgGIdeal.Gen.dats m 0 c).arrAt 2 Cert.HgGIdeal.cfg0.N,
    Cert.HgGIdeal.Value.run_blocks m ρ,
    (θ_run _ _ _).mono (fun _ h c => by
      obtain ⟨h0, hr⟩ := h c
      obtain ⟨a0, a1⟩ := hag c
      refine ⟨h0.trans ?_, hr⟩
      rw [a0, a1]
      exact (ext2 (Cert.HgGRefIdeal.Slots.out_at _ _)).trans (Cert.HgGIdeal.Slots.arr m c).symm)
      (Cert.HgGRefIdeal.Value.run m' ρ')⟩

end Cert.HgG.Claims

end
end
-- ==== Proof.Stack.DwHgQ.lean ====
/-
  The gradient of the HGRN2 layer's first projection's weight: the kernel adds up, over four tiles of 1024 tokens, the
  products of the input's columns with the gradient's columns, and writes one slot of four; the reference is one sum over
  the 4096 tokens.
-/
module

public import proofs.«01_k».proof.Proof.Kit
public import proofs.«01_k».proof.Proof.Gen.DwHgQ.Frame
public import proofs.«01_k».proof.Proof.Gen.DwHgQIdeal.Frame
public import proofs.«01_k».proof.Proof.Gen.DwHgQRefIdeal.Run

@[expose] public section

set_option maxRecDepth 16384

noncomputable section

open Idealize.ShloMosaic Idealize.ShloMosaic.TcCoe Idealize.SL.Sem Cert.Common

namespace Cert.DwHgQIdeal.Stack

open Cert.DwHgQIdeal Cert.DwHgQIdeal.Gen

variable (m : (ℓ : Loc nD τ sig) → Buf (Elt Ideal) ℓ)

theorem idx0 : ∀ t : Fin grid0.N, win0_0.index t = ![t.val % 4, t.val / 4] := by decide +kernel
theorem idx1 : ∀ t : Fin grid0.N, win0_1.index t = ![t.val % 4, t.val / 4 % 1] := by decide +kernel
theorem idx2 : ∀ t : Fin grid0.N, win0_2.index t = ![0 + t.val / 4 % 1, t.val / 4, 0] := by decide +kernel

/-- What a point adds at row `p` and column `q` of its block: the sum over its 1024 tokens. -/
def part (x0 : Vec Ideal S1024x512 .bf16) (x1 : Vec Ideal S1024x1024 .bf16) (p : Fin 512) (q : Fin 1024) : EReal :=
  ∑ r : Fin 1024, x0 (ix2 r p) * x1 (ix2 r q)

theorem acc_A (c : Dev nD) (t : Fin cfg0.N) (ht : t.val % 4 = 0) (p : Fin 512) (q : Fin 1024) :
    (outsAt0 m c t.val t.isLt).2 (ix2 p q) = 0 + part (iblk m c 0 t) (iblk m c 1 t) p q := by
  rw [outsAt0_A m c t ht (by omega)]
  frame_open
  simp (disch := decide) only [↓ View.readCov_skip, ↓ View.readCov_cons_toLoadRect, ↓ View.readCov_fill]
  frame_out
  unfold part
  pointwise [k0_pay2, k0_pay1]

theorem acc_B (c : Dev nD) (t : Fin cfg0.N) (ht : ¬ t.val % 4 = 0) (p : Fin 512) (q : Fin 1024) :
    (outsAt0 m c t.val t.isLt).2 (ix2 p q)
      = (outsAt0 m c (t.val - 1) (Nat.lt_of_le_of_lt (Nat.sub_le _ _) t.isLt)).2 (ix2 p q)
        + part (iblk m c 0 t) (iblk m c 1 t) p q := by
  by_cases h : t.val % 4 = 3
  · rw [outsAt0_C m c t ht h]
    frame_open
    simp (disch := decide) only [↓ View.readCov_skip, ↓ View.readCov_cons_toLoadRect, ↓ View.readCov_fill]
    frame_out
    simp only [read_unread_whole]
    unfold part
    pointwise [k0_pay2]
  · rw [outsAt0_B m c t ht h]
    frame_open
    simp (disch := decide) only [↓ View.readCov_skip, ↓ View.readCov_cons_toLoadRect, ↓ View.readCov_fill]
    frame_out
    simp only [read_unread_whole]
    unfold part
    pointwise [k0_pay2]

/-- The last point of a block writes the sum out. -/
theorem out_C (c : Dev nD) (t : Fin cfg0.N) (ht : t.val % 4 = 3) (p : Fin 512) (q : Fin 1024) :
    (outsAt0 m c t.val t.isLt).1 (ix3 0 p q) = (outsAt0 m c t.val t.isLt).2 (ix2 p q) := by
  rw [acc_B m c t (by omega), outsAt0_C m c t (by omega) ht]
  frame_open
  simp (disch := decide) only [↓ View.readCov_skip, ↓ View.readCov_cons_toLoadRect, ↓ View.readCov_fill]
  frame_out
  simp only [read_unread_whole]
  unfold part
  pointwise [k0_pay3, k0_pay2]

/-- The product's input as launched. -/
abbrev a0 (c : Dev nD) (r : Fin 4096) (e : Fin 1024) : EReal := m ((c : Thread nD τ).loc main_arg0) (ix2 r e)
/-- The gradient of the product's result as launched. -/
abbrev a1 (c : Dev nD) (r : Fin 4096) (e : Fin 1024) : EReal := m ((c : Thread nD τ).loc main_arg1) (ix2 r e)

/-- Row `p` of point `t`'s output block as a row of the weight. -/
abbrev orow (t : Fin cfg0.N) (p : Fin 512) : Fin 1024 :=
  ⟨t.val / 4 * 512 + p.val, by have : t.val < 8 := lt_of_lt_of_eq t.isLt Gen.N_0; omega⟩
/-- Column `q` of point `t`'s output block as a column of the weight. -/
abbrev ocol (t : Fin cfg0.N) (q : Fin 1024) : Fin 1024 := ⟨t.val / 4 % 1 * 1024 + q.val, by omega⟩
/-- Row `r` of point `t`'s input blocks as a token. -/
abbrev tokn (t : Fin cfg0.N) (r : Fin 1024) : Fin 4096 := ⟨t.val % 4 * 1024 + r.val, by omega⟩

theorem blk0 (c : Dev nD) (t : Fin cfg0.N) (r : Fin 1024) (p : Fin 512) :
    iblk m c 0 t (ix2 r p) = a0 m c (tokn t r) (orow t p) := by
  unfold a0
  blk_ext [iblk, V, idx0 t]
theorem blk1 (c : Dev nD) (t : Fin cfg0.N) (r : Fin 1024) (q : Fin 1024) :
    iblk m c 1 t (ix2 r q) = a1 m c (tokn t r) (ocol t q) := by
  unfold a1
  blk_ext [iblk, V, idx1 t]

/-- At a block's last point the accumulator holds the whole sum. -/
theorem sum_at (c : Dev nD) (t : Fin cfg0.N) (ht : t.val % 4 = 3) (p : Fin 512) (q : Fin 1024) :
    (outsAt0 m c t.val t.isLt).2 (ix2 p q) = mat (fun p r => a0 m c r p) (a1 m c) (orow t p) (ocol t q) := by
  have hN : t.val < 8 := lt_of_lt_of_eq t.isLt Gen.N_0
  have e := Pipeline.eq_sum_fin_of_reset_step_of_flush (M := EReal)
    (fun n hn => (outsAt0 m c n hn).2 (ix2 p q)) 4 0 _
    (fun t ht => acc_A m c t ht p q) (fun t ht => acc_B m c t ht p q) t ht
  refine e.trans ((zero_add _).trans ?_)
  unfold mat part
  refine Fin.sum_mul_add_congr fun s r hl => ?_
  rw [blk0, blk1]
  have hs : 4 * (t.val / 4) + s.val < cfg0.N := by have := s.isLt; exact lt_of_lt_of_eq (by omega) Gen.N_0.symm
  have e1 : orow ⟨4 * (t.val / 4) + s.val, hs⟩ p = orow t p :=
    Fin.ext (by show (4 * (t.val / 4) + s.val) / 4 * 512 + p.val = t.val / 4 * 512 + p.val; omega)
  have e2 : tokn ⟨4 * (t.val / 4) + s.val, hs⟩ r = ⟨s.val * 1024 + r.val, hl⟩ :=
    Fin.ext (by show (4 * (t.val / 4) + s.val) % 4 * 1024 + r.val = s.val * 1024 + r.val; omega)
  have e3 : ocol ⟨4 * (t.val / 4) + s.val, hs⟩ q = ocol t q :=
    Fin.ext (by show (4 * (t.val / 4) + s.val) / 4 % 1 * 1024 + q.val = t.val / 4 % 1 * 1024 + q.val; omega)
  rw [e1, e2, e3]

/-- The product's columns, cut into slots of 1024. -/
def stack (x : Fin 1024 → Fin 4096 → EReal) (y : Fin 4096 → Fin 1024 → EReal) (s : Fin 4) (p : Fin 1024) (q : Fin 1024) : EReal :=
  mat x y p ⟨s.val % 1 * 1024 + q.val, by omega⟩

/-- The kernel's result in the slots that the call writes. -/
theorem arr (c : Dev nD) (s : Fin 1) (p : Fin 1024) (q : Fin 1024) :
    (dats m 0 c).arrAt 2 cfg0.N (ix3 ⟨s.val, by omega⟩ p q : S4x1024x1024.Idx)
      = mat (fun p r => a0 m c r p) (a1 m c) p ⟨s.val * 1024 + q.val, by omega⟩ := by
  refine ((dats m 0 c).arrAt_apply_of_coversWhere 2
    (fun i : S4x1024x1024.Idx => stack (fun p r => a0 m c r p) (a1 m c) (i 0) (i 1) (i 2))
    (P := fun i : S4x1024x1024.Idx => (i 0).val < 1) (fun β => β (0 : Fin 3) < 1) (by decide +kernel) (fun t hf y => ?_)
    (fun j => by show (j 0).val < 1 ↔ (j 0).val / 1 < 1; omega) _).trans ?_
  · blk_simp
    rw [after0_2]
    obtain ⟨p, q, rfl⟩ : ∃ (p : Fin 512) (q : Fin 1024), y = ix3 0 p q :=
      ⟨y 1, y 2, (eq_ix3 y).trans (congrArg (fun s => ix3 s (y 1) (y 2)) (Fin.fin_one_eq_zero (y 0)))⟩
    have hb : 0 + t.val / 4 % 1 < 4 := by omega
    have hy : ((cfg0.win 2).blk t).view.emb (ix3 0 p q) = (ix3 ⟨0 + t.val / 4 % 1, hb⟩ (orow t p) q : S4x1024x1024.Idx) := by
      blk_ext [idx2 t]
    refine Eq.trans ?_ (congrArg (fun i : S4x1024x1024.Idx =>
      stack (fun p r => a0 m c r p) (a1 m c) (i 0) (i 1) (i 2)) hy).symm
    refine ((out_C m c t ((flush0_2 t).mp hf) p q).trans (sum_at m c t ((flush0_2 t).mp hf) p q)).trans ?_
    exact congrArg (mat _ _ _) (Fin.ext (by
      show t.val / 4 % 1 * 1024 + q.val = (0 + t.val / 4 % 1) % 1 * 1024 + q.val; omega))
  · refine (if_pos s.isLt).trans (congrArg (mat _ _ _) (Fin.ext ?_))
    show s.val % 1 * 1024 + q.val = s.val * 1024 + q.val
    omega

/-- What the program returns: the written slots. -/
abbrev res (c : Dev nD) : FVec Ideal S1x1024x1024 .bf16 :=
  extractStridedSlice S1x1024x1024 ![0, 0, 0] ((dats m 0 c).arrAt 2 cfg0.N) slices_S4x1024x1024_S1x1024x1024_0_0_0

theorem res_at (c : Dev nD) (s : Fin 1) (p : Fin 1024) (q : Fin 1024) :
    res m c (ix3 s p q) = mat (fun p r => a0 m c r p) (a1 m c) p ⟨s.val * 1024 + q.val, by omega⟩ := by
  refine Eq.trans ?_ (arr m c s p q)
  pointwise [res]

/-- The host's slice after the region reads the call's result. -/
theorem tail_v1 (c : Dev nD) : Pipeline.afterTail₀ cfgs (dats m) 0 (V0 m) [hostOps1] c main_v1 = res m c := by
  unfold Pipeline.afterTail₀ hostOps1
  simp only [List.flatten_cons, List.flatten_nil, List.append_nil]
  after_results
  have e : (Pipeline.withArrays spec0 c (V0 m c) (fun w => (dats m 0 c).arrAt w cfg0.N) (Proc.devRef .tc main_v0) : FVec Ideal S4x1024x1024 .bf16)
      = (dats m 0 c).arrAt 2 cfg0.N := Pipeline.withArrays_arr spec0 winFacts0.arr_inj c (V0 m c) (fun w => (dats m 0 c).arrAt w cfg0.N) 2
  unfold res
  rw [← e]

/-- The run, read at the result and at the arguments. -/
theorem run (ρ : Dev nD → PrngReg) : θ_run defs (onTc (τ := τ) (main (F := Ideal))) ⟨m, fun _ => 0, ρ⟩ fun r => ∀ c : Dev nD,
    r.2.mem ((c.tc : Thread nD τ).loc main_v1) = res m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).2 main_v1 (Pipeline.mem_restRefs_of main_v1 (by decide) (by decide))).trans (tail_v1 m c), h.2 c⟩)
    (θ_run_and (run_main m ρ) (unchanged m ρ))

end Cert.DwHgQIdeal.Stack

namespace Cert.DwHgQRefIdeal.Stack

open Cert.DwHgQRefIdeal Cert.DwHgQRefIdeal.Gen

/-- The weight's gradient. -/
def grad (x : FVec Ideal S4096x1024 .bf16) (y : FVec Ideal S4096x1024 .bf16) : FVec Ideal S1024x1024 .bf16 :=
  truncf .bf16 (transpose S1024x1024 [1, 0] (Host.dotGeneral dot_S4096x1024_S4096x1024_S1024x1024_0_0_1_1_n_n none (extf .f32 y bitsLt_bf16_f32) (extf .f32 x bitsLt_bf16_f32)) transposes_S1024x1024_S1024x1024_1_0) bitsLt_bf16_f32

theorem grad_at (x : FVec Ideal S4096x1024 .bf16) (y : FVec Ideal S4096x1024 .bf16) (p : Fin 1024) (q : Fin 1024) :
    grad x y (ix2 p q) = mat (fun p r => x (ix2 r p)) (fun r e => y (ix2 r e)) p q := by
  unfold mat
  pointwise [grad]
  exact Finset.sum_congr rfl fun r _ => mul_comm _ _

/-- The reference's result: the gradient as one slot. -/
def out (x : FVec Ideal S4096x1024 .bf16) (y : FVec Ideal S4096x1024 .bf16) : FVec Ideal S1x1024x1024 .bf16 :=
  broadcastInDim S1x1024x1024 ![1, 2] bcast_S1024x1024_S1x1024x1024_1_2 (grad x y)

theorem out_at (x : FVec Ideal S4096x1024 .bf16) (y : FVec Ideal S4096x1024 .bf16) (s : Fin 1) (p : Fin 1024) (q : Fin 1024) :
    out x y (ix3 s p q) = mat (fun p r => x (ix2 r p)) (fun r e => y (ix2 r e)) p ⟨s.val * 1024 + q.val, by omega⟩ := by
  refine Eq.trans ?_ (grad_at x y p ⟨s.val * 1024 + q.val, by omega⟩)
  have e : (⟨s.val * 1024 + q.val, by omega⟩ : Fin 1024) = q := Fin.ext (by show s.val * 1024 + q.val = q.val; omega)
  rw [e]
  pointwise [out]

end Cert.DwHgQRefIdeal.Stack

namespace Cert.DwHgQ.Claims

/-- The reference's frame: its generated run, read at the arguments. -/
theorem frame_ref : Cert.quiescent_DwHgQRefIdeal := fun m ρ _ =>
  (θ_run Cert.DwHgQRefIdeal.defs _ _).mono (fun _ h => ⟨fun c => (h c).2, Idealize.ShloMosaic.sem_eq_zero_of_no_sems (by decide) _⟩)
    (Cert.DwHgQRefIdeal.Value.run m ρ)

/-- The kernel's result is the reference's over the extended reals. -/
theorem value : Cert.algebraic_DwHgQIdeal_DwHgQRefIdeal := fun m ρ m' ρ' _ hag =>
  ⟨fun c => Cert.DwHgQIdeal.Stack.res m c,
    Cert.DwHgQIdeal.Stack.run m ρ,
    (θ_run _ _ _).mono (fun _ h c => by
      obtain ⟨h0, hr⟩ := h c
      obtain ⟨a0, a1⟩ := hag c
      refine ⟨h0.trans ?_, hr⟩
      rw [a0, a1]
      exact (ext3 (Cert.DwHgQRefIdeal.Stack.out_at _ _)).trans (ext3 (Cert.DwHgQIdeal.Stack.res_at m c)).symm)
      (Cert.DwHgQRefIdeal.Value.run m' ρ')⟩

end Cert.DwHgQ.Claims

end
end
-- ==== Proof.Stack.DwHgF.lean ====
/-
  The gradient of the HGRN2 layer's forget projection's weight, written into one slot of four; the others keep what the
  other projections' calls left in them.
-/
module

public import proofs.«01_k».proof.Proof.Kit
public import proofs.«01_k».proof.Proof.Gen.DwHgF.Frame
public import proofs.«01_k».proof.Proof.Gen.DwHgFIdeal.Value
public import proofs.«01_k».proof.Proof.Gen.DwHgFRefIdeal.Run

@[expose] public section

set_option maxRecDepth 16384

noncomputable section

open Idealize.ShloMosaic Idealize.ShloMosaic.TcCoe Idealize.SL.Sem Cert.Common

namespace Cert.DwHgFIdeal.Stack

open Cert.DwHgFIdeal Cert.DwHgFIdeal.Gen

variable (m : (ℓ : Loc nD τ sig) → Buf (Elt Ideal) ℓ)

theorem idx0 : ∀ t : Fin grid0.N, win0_0.index t = ![t.val % 4, t.val / 4] := by decide +kernel
theorem idx1 : ∀ t : Fin grid0.N, win0_1.index t = ![t.val % 4, t.val / 4 % 1] := by decide +kernel
theorem idx2 : ∀ t : Fin grid0.N, win0_2.index t = ![1 + t.val / 4 % 1, t.val / 4, 0] := by decide +kernel

/-- What a point adds at row `p` and column `q` of its block: the sum over its 1024 tokens. -/
def part (x0 : Vec Ideal S1024x512 .bf16) (x1 : Vec Ideal S1024x1024 .bf16) (p : Fin 512) (q : Fin 1024) : EReal :=
  ∑ r : Fin 1024, x0 (ix2 r p) * x1 (ix2 r q)

theorem acc_A (c : Dev nD) (t : Fin cfg0.N) (ht : t.val % 4 = 0) (p : Fin 512) (q : Fin 1024) :
    (outsAt0 m c t.val t.isLt).2 (ix2 p q) = 0 + part (iblk m c 0 t) (iblk m c 1 t) p q := by
  rw [outsAt0_A m c t ht (by omega)]
  frame_open
  simp (disch := decide) only [↓ View.readCov_skip, ↓ View.readCov_cons_toLoadRect, ↓ View.readCov_fill]
  frame_out
  unfold part
  pointwise [k0_pay2, k0_pay1]

theorem acc_B (c : Dev nD) (t : Fin cfg0.N) (ht : ¬ t.val % 4 = 0) (p : Fin 512) (q : Fin 1024) :
    (outsAt0 m c t.val t.isLt).2 (ix2 p q)
      = (outsAt0 m c (t.val - 1) (Nat.lt_of_le_of_lt (Nat.sub_le _ _) t.isLt)).2 (ix2 p q)
        + part (iblk m c 0 t) (iblk m c 1 t) p q := by
  by_cases h : t.val % 4 = 3
  · rw [outsAt0_C m c t ht h]
    frame_open
    simp (disch := decide) only [↓ View.readCov_skip, ↓ View.readCov_cons_toLoadRect, ↓ View.readCov_fill]
    frame_out
    simp only [read_unread_whole]
    unfold part
    pointwise [k0_pay2]
  · rw [outsAt0_B m c t ht h]
    frame_open
    simp (disch := decide) only [↓ View.readCov_skip, ↓ View.readCov_cons_toLoadRect, ↓ View.readCov_fill]
    frame_out
    simp only [read_unread_whole]
    unfold part
    pointwise [k0_pay2]

/-- The last point of a block writes the sum out. -/
theorem out_C (c : Dev nD) (t : Fin cfg0.N) (ht : t.val % 4 = 3) (p : Fin 512) (q : Fin 1024) :
    (outsAt0 m c t.val t.isLt).1 (ix3 0 p q) = (outsAt0 m c t.val t.isLt).2 (ix2 p q) := by
  rw [acc_B m c t (by omega), outsAt0_C m c t (by omega) ht]
  frame_open
  simp (disch := decide) only [↓ View.readCov_skip, ↓ View.readCov_cons_toLoadRect, ↓ View.readCov_fill]
  frame_out
  simp only [read_unread_whole]
  unfold part
  pointwise [k0_pay3, k0_pay2]

/-- The product's input as launched. -/
abbrev a0 (c : Dev nD) (r : Fin 4096) (e : Fin 1024) : EReal := m ((c : Thread nD τ).loc main_arg0) (ix2 r e)
/-- The gradient of the product's result as launched. -/
abbrev a1 (c : Dev nD) (r : Fin 4096) (e : Fin 1024) : EReal := m ((c : Thread nD τ).loc main_arg1) (ix2 r e)

/-- Row `p` of point `t`'s output block as a row of the weight. -/
abbrev orow (t : Fin cfg0.N) (p : Fin 512) : Fin 1024 :=
  ⟨t.val / 4 * 512 + p.val, by have : t.val < 8 := lt_of_lt_of_eq t.isLt Gen.N_0; omega⟩
/-- Column `q` of point `t`'s output block as a column of the weight. -/
abbrev ocol (t : Fin cfg0.N) (q : Fin 1024) : Fin 1024 := ⟨t.val / 4 % 1 * 1024 + q.val, by omega⟩
/-- Row `r` of point `t`'s input blocks as a token. -/
abbrev tokn (t : Fin cfg0.N) (r : Fin 1024) : Fin 4096 := ⟨t.val % 4 * 1024 + r.val, by omega⟩

theorem blk0 (c : Dev nD) (t : Fin cfg0.N) (r : Fin 1024) (p : Fin 512) :
    iblk m c 0 t (ix2 r p) = a0 m c (tokn t r) (orow t p) := by
  unfold a0
  rw [← V_main_arg0 m c]
  blk_ext [iblk, idx0 t]
theorem blk1 (c : Dev nD) (t : Fin cfg0.N) (r : Fin 1024) (q : Fin 1024) :
    iblk m c 1 t (ix2 r q) = a1 m c (tokn t r) (ocol t q) := by
  unfold a1
  rw [← V_main_arg1 m c]
  blk_ext [iblk, idx1 t]

/-- At a block's last point the accumulator holds the whole sum. -/
theorem sum_at (c : Dev nD) (t : Fin cfg0.N) (ht : t.val % 4 = 3) (p : Fin 512) (q : Fin 1024) :
    (outsAt0 m c t.val t.isLt).2 (ix2 p q) = mat (fun p r => a0 m c r p) (a1 m c) (orow t p) (ocol t q) := by
  have hN : t.val < 8 := lt_of_lt_of_eq t.isLt Gen.N_0
  have e := Pipeline.eq_sum_fin_of_reset_step_of_flush (M := EReal)
    (fun n hn => (outsAt0 m c n hn).2 (ix2 p q)) 4 0 _
    (fun t ht => acc_A m c t ht p q) (fun t ht => acc_B m c t ht p q) t ht
  refine e.trans ((zero_add _).trans ?_)
  unfold mat part
  refine Fin.sum_mul_add_congr fun s r hl => ?_
  rw [blk0, blk1]
  have hs : 4 * (t.val / 4) + s.val < cfg0.N := by have := s.isLt; exact lt_of_lt_of_eq (by omega) Gen.N_0.symm
  have e1 : orow ⟨4 * (t.val / 4) + s.val, hs⟩ p = orow t p :=
    Fin.ext (by show (4 * (t.val / 4) + s.val) / 4 * 512 + p.val = t.val / 4 * 512 + p.val; omega)
  have e2 : tokn ⟨4 * (t.val / 4) + s.val, hs⟩ r = ⟨s.val * 1024 + r.val, hl⟩ :=
    Fin.ext (by show (4 * (t.val / 4) + s.val) % 4 * 1024 + r.val = s.val * 1024 + r.val; omega)
  have e3 : ocol ⟨4 * (t.val / 4) + s.val, hs⟩ q = ocol t q :=
    Fin.ext (by show (4 * (t.val / 4) + s.val) / 4 % 1 * 1024 + q.val = t.val / 4 % 1 * 1024 + q.val; omega)
  rw [e1, e2, e3]

/-- The four slots as launched. -/
abbrev a2 (c : Dev nD) (s : Fin 4) (p : Fin 1024) (q : Fin 1024) : EReal := m ((c : Thread nD τ).loc main_arg2) (ix3 s p q)

/-- The region finds the four slots' copy as the slots were launched. -/
theorem V_v0 (c : Dev nD) : V m c main_v0 = m ((c : Thread nD τ).loc main_arg2) := by
  unfold V hostOps0
  after_results
  rfl

/-- The product's columns in slot 1 of the four; the others as they were. -/
def stack (x : Fin 1024 → Fin 4096 → EReal) (y : Fin 4096 → Fin 1024 → EReal) (b : Fin 4 → Fin 1024 → Fin 1024 → EReal)
    (s : Fin 4) (p : Fin 1024) (q : Fin 1024) : EReal :=
  if h : 1 ≤ s.val ∧ s.val < 2 then mat x y p ⟨(s.val - 1) * 1024 + q.val, by omega⟩ else b s p q

section
variable (x : Fin 1024 → Fin 4096 → EReal) (y : Fin 4096 → Fin 1024 → EReal) (b : Fin 4 → Fin 1024 → Fin 1024 → EReal)

theorem stack_in (s : Fin 4) (p : Fin 1024) (q : Fin 1024) (k : Fin 1024) (h : 1 ≤ s.val ∧ s.val < 2)
    (hk : k.val = (s.val - 1) * 1024 + q.val) : mat x y p k = stack x y b s p q :=
  by
  unfold stack
  rw [dif_pos h]
  exact congrArg (mat x y p) (Fin.ext hk)

theorem stack_out (s : Fin 4) (p : Fin 1024) (q : Fin 1024) (h : ¬ (1 ≤ s.val ∧ s.val < 2)) :
    b s p q = stack x y b s p q := by
  unfold stack
  rw [dif_neg h]

end

/-- The kernel's result array after the run. -/
theorem arr (c : Dev nD) : (dats m 0 c).arrAt 2 cfg0.N
    = fun i => stack (fun p r => a0 m c r p) (a1 m c) (a2 m c) (i 0) (i 1) (i 2) := by
  refine (dats m 0 c).arrAt_eq_of_coversWhere_of_agree 2 _ (fun β => 1 ≤ β (0 : Fin 3) ∧ β (0 : Fin 3) < 2)
    (by decide +kernel) (fun t hf y => ?_) (fun j hj => ?_)
  · blk_simp
    rw [after0_2]
    obtain ⟨p, q, rfl⟩ : ∃ (p : Fin 512) (q : Fin 1024), y = ix3 0 p q :=
      ⟨y 1, y 2, (eq_ix3 y).trans (congrArg (fun s => ix3 s (y 1) (y 2)) (Fin.fin_one_eq_zero (y 0)))⟩
    have hb : 1 + t.val / 4 % 1 < 4 := by omega
    have hy : ((cfg0.win 2).blk t).view.emb (ix3 0 p q) = (ix3 ⟨1 + t.val / 4 % 1, hb⟩ (orow t p) q : S4x1024x1024.Idx) := by
      blk_ext [idx2 t]
    refine Eq.trans ?_ (congrArg (fun i : S4x1024x1024.Idx =>
      stack (fun p r => a0 m c r p) (a1 m c) (a2 m c) (i 0) (i 1) (i 2)) hy).symm
    refine ((out_C m c t ((flush0_2 t).mp hf) p q).trans (sum_at m c t ((flush0_2 t).mp hf) p q)).trans ?_
    exact stack_in _ _ _ _ _ _ _ (show 1 ≤ 1 + t.val / 4 % 1 ∧ 1 + t.val / 4 % 1 < 2 by omega)
      (by show t.val / 4 % 1 * 1024 + q.val = (1 + t.val / 4 % 1 - 1) * 1024 + q.val; omega)
  · obtain ⟨s, p, q, rfl⟩ : ∃ (s : Fin 4) (p : Fin 1024) (q : Fin 1024), j = ix3 s p q := ⟨j 0, j 1, j 2, eq_ix3 j⟩
    have hj' : ¬ (1 ≤ s.val ∧ s.val < 2) := fun h => hj (by
      show 1 ≤ s.val / 1 ∧ s.val / 1 < 2
      omega)
    exact (congrFun (V_v0 m c) (ix3 s p q)).trans (stack_out _ _ (a2 m c) s p q hj')

end Cert.DwHgFIdeal.Stack

namespace Cert.DwHgFRefIdeal.Stack

open Cert.DwHgFRefIdeal Cert.DwHgFRefIdeal.Gen

/-- The weight's gradient. -/
def grad (x : FVec Ideal S4096x1024 .bf16) (y : FVec Ideal S4096x1024 .bf16) : FVec Ideal S1024x1024 .bf16 :=
  truncf .bf16 (transpose S1024x1024 [1, 0] (Host.dotGeneral dot_S4096x1024_S4096x1024_S1024x1024_0_0_1_1_n_n none (extf .f32 y bitsLt_bf16_f32) (extf .f32 x bitsLt_bf16_f32)) transposes_S1024x1024_S1024x1024_1_0) bitsLt_bf16_f32

theorem grad_at (x : FVec Ideal S4096x1024 .bf16) (y : FVec Ideal S4096x1024 .bf16) (p : Fin 1024) (q : Fin 1024) :
    grad x y (ix2 p q) = mat (fun p r => x (ix2 r p)) (fun r e => y (ix2 r e)) p q := by
  unfold mat
  pointwise [grad]
  exact Finset.sum_congr rfl fun r _ => mul_comm _ _

/-- The reference's result: the gradient as slot 1 of four, the others as they were. -/
def out (x : FVec Ideal S4096x1024 .bf16) (y : FVec Ideal S4096x1024 .bf16) (b : FVec Ideal S4x1024x1024 .bf16) : FVec Ideal S4x1024x1024 .bf16 :=
  concatenate S4x1024x1024 0 [⟨S1x1024x1024, (extractStridedSlice S1x1024x1024 ![0, 0, 0] b slices_S4x1024x1024_S1x1024x1024_0_0_0)⟩, ⟨S1x1024x1024, (broadcastInDim S1x1024x1024 ![1, 2] bcast_S1024x1024_S1x1024x1024_1_2 (grad x y))⟩, ⟨S2x1024x1024, (extractStridedSlice S2x1024x1024 ![2, 0, 0] b slices_S4x1024x1024_S2x1024x1024_2_0_0)⟩] concatenates_S1x1024x1024_S1x1024x1024_S2x1024x1024_S4x1024x1024_d0

theorem out_at (x : FVec Ideal S4096x1024 .bf16) (y : FVec Ideal S4096x1024 .bf16) (b : FVec Ideal S4x1024x1024 .bf16)
    (s : Fin 4) (p : Fin 1024) (q : Fin 1024) :
    out x y b (ix3 s p q) = Cert.DwHgFIdeal.Stack.stack (fun p r => x (ix2 r p)) (fun r e => y (ix2 r e)) (fun s p q => b (ix3 s p q)) s p q := by
  match s with
  | 0 => refine Eq.trans ?_ (Cert.DwHgFIdeal.Stack.stack_out _ _ _ _ _ _ (by decide)); pointwise [out]
  | 1 =>
    refine Eq.trans ?_ ((grad_at x y p q).trans (Cert.DwHgFIdeal.Stack.stack_in _ _ _ _ _ _ _ (by decide) (by show q.val = 0 * 1024 + q.val; omega)))
    pointwise [out]
  | 2 => refine Eq.trans ?_ (Cert.DwHgFIdeal.Stack.stack_out _ _ _ _ _ _ (by decide)); pointwise [out]
  | 3 => refine Eq.trans ?_ (Cert.DwHgFIdeal.Stack.stack_out _ _ _ _ _ _ (by decide)); pointwise [out]

end Cert.DwHgFRefIdeal.Stack

namespace Cert.DwHgF.Claims

/-- The reference's frame: its generated run, read at the arguments. -/
theorem frame_ref : Cert.quiescent_DwHgFRefIdeal := fun m ρ _ =>
  (θ_run Cert.DwHgFRefIdeal.defs _ _).mono (fun _ h => ⟨fun c => (h c).2, Idealize.ShloMosaic.sem_eq_zero_of_no_sems (by decide) _⟩)
    (Cert.DwHgFRefIdeal.Value.run m ρ)

/-- The kernel's result is the reference's over the extended reals. -/
theorem value : Cert.algebraic_DwHgFIdeal_DwHgFRefIdeal := fun m ρ m' ρ' _ hag =>
  ⟨fun c => (Cert.DwHgFIdeal.Gen.dats m 0 c).arrAt 2 Cert.DwHgFIdeal.cfg0.N,
    Cert.DwHgFIdeal.Value.run_blocks m ρ,
    (θ_run _ _ _).mono (fun _ h c => by
      obtain ⟨h0, hr⟩ := h c
      obtain ⟨a0, a1, a2⟩ := hag c
      refine ⟨h0.trans ?_, hr⟩
      rw [a0, a1, a2]
      exact (ext3 (Cert.DwHgFRefIdeal.Stack.out_at _ _ _)).trans (Cert.DwHgFIdeal.Stack.arr m c).symm)
      (Cert.DwHgFRefIdeal.Value.run m' ρ')⟩

end Cert.DwHgF.Claims

end
end
-- ==== Proof.Stack.DwHgI.lean ====
/-
  The gradient of the HGRN2 layer's input projection's weight, written into one slot of four; the others keep what the
  other projections' calls left in them.
-/
module

public import proofs.«01_k».proof.Proof.Kit
public import proofs.«01_k».proof.Proof.Gen.DwHgI.Frame
public import proofs.«01_k».proof.Proof.Gen.DwHgIIdeal.Value
public import proofs.«01_k».proof.Proof.Gen.DwHgIRefIdeal.Run

@[expose] public section

set_option maxRecDepth 16384

noncomputable section

open Idealize.ShloMosaic Idealize.ShloMosaic.TcCoe Idealize.SL.Sem Cert.Common

namespace Cert.DwHgIIdeal.Stack

open Cert.DwHgIIdeal Cert.DwHgIIdeal.Gen

variable (m : (ℓ : Loc nD τ sig) → Buf (Elt Ideal) ℓ)

theorem idx0 : ∀ t : Fin grid0.N, win0_0.index t = ![t.val % 4, t.val / 4] := by decide +kernel
theorem idx1 : ∀ t : Fin grid0.N, win0_1.index t = ![t.val % 4, t.val / 4 % 1] := by decide +kernel
theorem idx2 : ∀ t : Fin grid0.N, win0_2.index t = ![2 + t.val / 4 % 1, t.val / 4, 0] := by decide +kernel

/-- What a point adds at row `p` and column `q` of its block: the sum over its 1024 tokens. -/
def part (x0 : Vec Ideal S1024x512 .bf16) (x1 : Vec Ideal S1024x1024 .bf16) (p : Fin 512) (q : Fin 1024) : EReal :=
  ∑ r : Fin 1024, x0 (ix2 r p) * x1 (ix2 r q)

theorem acc_A (c : Dev nD) (t : Fin cfg0.N) (ht : t.val % 4 = 0) (p : Fin 512) (q : Fin 1024) :
    (outsAt0 m c t.val t.isLt).2 (ix2 p q) = 0 + part (iblk m c 0 t) (iblk m c 1 t) p q := by
  rw [outsAt0_A m c t ht (by omega)]
  frame_open
  simp (disch := decide) only [↓ View.readCov_skip, ↓ View.readCov_cons_toLoadRect, ↓ View.readCov_fill]
  frame_out
  unfold part
  pointwise [k0_pay2, k0_pay1]

theorem acc_B (c : Dev nD) (t : Fin cfg0.N) (ht : ¬ t.val % 4 = 0) (p : Fin 512) (q : Fin 1024) :
    (outsAt0 m c t.val t.isLt).2 (ix2 p q)
      = (outsAt0 m c (t.val - 1) (Nat.lt_of_le_of_lt (Nat.sub_le _ _) t.isLt)).2 (ix2 p q)
        + part (iblk m c 0 t) (iblk m c 1 t) p q := by
  by_cases h : t.val % 4 = 3
  · rw [outsAt0_C m c t ht h]
    frame_open
    simp (disch := decide) only [↓ View.readCov_skip, ↓ View.readCov_cons_toLoadRect, ↓ View.readCov_fill]
    frame_out
    simp only [read_unread_whole]
    unfold part
    pointwise [k0_pay2]
  · rw [outsAt0_B m c t ht h]
    frame_open
    simp (disch := decide) only [↓ View.readCov_skip, ↓ View.readCov_cons_toLoadRect, ↓ View.readCov_fill]
    frame_out
    simp only [read_unread_whole]
    unfold part
    pointwise [k0_pay2]

/-- The last point of a block writes the sum out. -/
theorem out_C (c : Dev nD) (t : Fin cfg0.N) (ht : t.val % 4 = 3) (p : Fin 512) (q : Fin 1024) :
    (outsAt0 m c t.val t.isLt).1 (ix3 0 p q) = (outsAt0 m c t.val t.isLt).2 (ix2 p q) := by
  rw [acc_B m c t (by omega), outsAt0_C m c t (by omega) ht]
  frame_open
  simp (disch := decide) only [↓ View.readCov_skip, ↓ View.readCov_cons_toLoadRect, ↓ View.readCov_fill]
  frame_out
  simp only [read_unread_whole]
  unfold part
  pointwise [k0_pay3, k0_pay2]

/-- The product's input as launched. -/
abbrev a0 (c : Dev nD) (r : Fin 4096) (e : Fin 1024) : EReal := m ((c : Thread nD τ).loc main_arg0) (ix2 r e)
/-- The gradient of the product's result as launched. -/
abbrev a1 (c : Dev nD) (r : Fin 4096) (e : Fin 1024) : EReal := m ((c : Thread nD τ).loc main_arg1) (ix2 r e)

/-- Row `p` of point `t`'s output block as a row of the weight. -/
abbrev orow (t : Fin cfg0.N) (p : Fin 512) : Fin 1024 :=
  ⟨t.val / 4 * 512 + p.val, by have : t.val < 8 := lt_of_lt_of_eq t.isLt Gen.N_0; omega⟩
/-- Column `q` of point `t`'s output block as a column of the weight. -/
abbrev ocol (t : Fin cfg0.N) (q : Fin 1024) : Fin 1024 := ⟨t.val / 4 % 1 * 1024 + q.val, by omega⟩
/-- Row `r` of point `t`'s input blocks as a token. -/
abbrev tokn (t : Fin cfg0.N) (r : Fin 1024) : Fin 4096 := ⟨t.val % 4 * 1024 + r.val, by omega⟩

theorem blk0 (c : Dev nD) (t : Fin cfg0.N) (r : Fin 1024) (p : Fin 512) :
    iblk m c 0 t (ix2 r p) = a0 m c (tokn t r) (orow t p) := by
  unfold a0
  rw [← V_main_arg0 m c]
  blk_ext [iblk, idx0 t]
theorem blk1 (c : Dev nD) (t : Fin cfg0.N) (r : Fin 1024) (q : Fin 1024) :
    iblk m c 1 t (ix2 r q) = a1 m c (tokn t r) (ocol t q) := by
  unfold a1
  rw [← V_main_arg1 m c]
  blk_ext [iblk, idx1 t]

/-- At a block's last point the accumulator holds the whole sum. -/
theorem sum_at (c : Dev nD) (t : Fin cfg0.N) (ht : t.val % 4 = 3) (p : Fin 512) (q : Fin 1024) :
    (outsAt0 m c t.val t.isLt).2 (ix2 p q) = mat (fun p r => a0 m c r p) (a1 m c) (orow t p) (ocol t q) := by
  have hN : t.val < 8 := lt_of_lt_of_eq t.isLt Gen.N_0
  have e := Pipeline.eq_sum_fin_of_reset_step_of_flush (M := EReal)
    (fun n hn => (outsAt0 m c n hn).2 (ix2 p q)) 4 0 _
    (fun t ht => acc_A m c t ht p q) (fun t ht => acc_B m c t ht p q) t ht
  refine e.trans ((zero_add _).trans ?_)
  unfold mat part
  refine Fin.sum_mul_add_congr fun s r hl => ?_
  rw [blk0, blk1]
  have hs : 4 * (t.val / 4) + s.val < cfg0.N := by have := s.isLt; exact lt_of_lt_of_eq (by omega) Gen.N_0.symm
  have e1 : orow ⟨4 * (t.val / 4) + s.val, hs⟩ p = orow t p :=
    Fin.ext (by show (4 * (t.val / 4) + s.val) / 4 * 512 + p.val = t.val / 4 * 512 + p.val; omega)
  have e2 : tokn ⟨4 * (t.val / 4) + s.val, hs⟩ r = ⟨s.val * 1024 + r.val, hl⟩ :=
    Fin.ext (by show (4 * (t.val / 4) + s.val) % 4 * 1024 + r.val = s.val * 1024 + r.val; omega)
  have e3 : ocol ⟨4 * (t.val / 4) + s.val, hs⟩ q = ocol t q :=
    Fin.ext (by show (4 * (t.val / 4) + s.val) / 4 % 1 * 1024 + q.val = t.val / 4 % 1 * 1024 + q.val; omega)
  rw [e1, e2, e3]

/-- The four slots as launched. -/
abbrev a2 (c : Dev nD) (s : Fin 4) (p : Fin 1024) (q : Fin 1024) : EReal := m ((c : Thread nD τ).loc main_arg2) (ix3 s p q)

/-- The region finds the four slots' copy as the slots were launched. -/
theorem V_v0 (c : Dev nD) : V m c main_v0 = m ((c : Thread nD τ).loc main_arg2) := by
  unfold V hostOps0
  after_results
  rfl

/-- The product's columns in slot 2 of the four; the others as they were. -/
def stack (x : Fin 1024 → Fin 4096 → EReal) (y : Fin 4096 → Fin 1024 → EReal) (b : Fin 4 → Fin 1024 → Fin 1024 → EReal)
    (s : Fin 4) (p : Fin 1024) (q : Fin 1024) : EReal :=
  if h : 2 ≤ s.val ∧ s.val < 3 then mat x y p ⟨(s.val - 2) * 1024 + q.val, by omega⟩ else b s p q

section
variable (x : Fin 1024 → Fin 4096 → EReal) (y : Fin 4096 → Fin 1024 → EReal) (b : Fin 4 → Fin 1024 → Fin 1024 → EReal)

theorem stack_in (s : Fin 4) (p : Fin 1024) (q : Fin 1024) (k : Fin 1024) (h : 2 ≤ s.val ∧ s.val < 3)
    (hk : k.val = (s.val - 2) * 1024 + q.val) : mat x y p k = stack x y b s p q :=
  by
  unfold stack
  rw [dif_pos h]
  exact congrArg (mat x y p) (Fin.ext hk)

theorem stack_out (s : Fin 4) (p : Fin 1024) (q : Fin 1024) (h : ¬ (2 ≤ s.val ∧ s.val < 3)) :
    b s p q = stack x y b s p q := by
  unfold stack
  rw [dif_neg h]

end

/-- The kernel's result array after the run. -/
theorem arr (c : Dev nD) : (dats m 0 c).arrAt 2 cfg0.N
    = fun i => stack (fun p r => a0 m c r p) (a1 m c) (a2 m c) (i 0) (i 1) (i 2) := by
  refine (dats m 0 c).arrAt_eq_of_coversWhere_of_agree 2 _ (fun β => 2 ≤ β (0 : Fin 3) ∧ β (0 : Fin 3) < 3)
    (by decide +kernel) (fun t hf y => ?_) (fun j hj => ?_)
  · blk_simp
    rw [after0_2]
    obtain ⟨p, q, rfl⟩ : ∃ (p : Fin 512) (q : Fin 1024), y = ix3 0 p q :=
      ⟨y 1, y 2, (eq_ix3 y).trans (congrArg (fun s => ix3 s (y 1) (y 2)) (Fin.fin_one_eq_zero (y 0)))⟩
    have hb : 2 + t.val / 4 % 1 < 4 := by omega
    have hy : ((cfg0.win 2).blk t).view.emb (ix3 0 p q) = (ix3 ⟨2 + t.val / 4 % 1, hb⟩ (orow t p) q : S4x1024x1024.Idx) := by
      blk_ext [idx2 t]
    refine Eq.trans ?_ (congrArg (fun i : S4x1024x1024.Idx =>
      stack (fun p r => a0 m c r p) (a1 m c) (a2 m c) (i 0) (i 1) (i 2)) hy).symm
    refine ((out_C m c t ((flush0_2 t).mp hf) p q).trans (sum_at m c t ((flush0_2 t).mp hf) p q)).trans ?_
    exact stack_in _ _ _ _ _ _ _ (show 2 ≤ 2 + t.val / 4 % 1 ∧ 2 + t.val / 4 % 1 < 3 by omega)
      (by show t.val / 4 % 1 * 1024 + q.val = (2 + t.val / 4 % 1 - 2) * 1024 + q.val; omega)
  · obtain ⟨s, p, q, rfl⟩ : ∃ (s : Fin 4) (p : Fin 1024) (q : Fin 1024), j = ix3 s p q := ⟨j 0, j 1, j 2, eq_ix3 j⟩
    have hj' : ¬ (2 ≤ s.val ∧ s.val < 3) := fun h => hj (by
      show 2 ≤ s.val / 1 ∧ s.val / 1 < 3
      omega)
    exact (congrFun (V_v0 m c) (ix3 s p q)).trans (stack_out _ _ (a2 m c) s p q hj')

end Cert.DwHgIIdeal.Stack

namespace Cert.DwHgIRefIdeal.Stack

open Cert.DwHgIRefIdeal Cert.DwHgIRefIdeal.Gen

/-- The weight's gradient. -/
def grad (x : FVec Ideal S4096x1024 .bf16) (y : FVec Ideal S4096x1024 .bf16) : FVec Ideal S1024x1024 .bf16 :=
  truncf .bf16 (transpose S1024x1024 [1, 0] (Host.dotGeneral dot_S4096x1024_S4096x1024_S1024x1024_0_0_1_1_n_n none (extf .f32 y bitsLt_bf16_f32) (extf .f32 x bitsLt_bf16_f32)) transposes_S1024x1024_S1024x1024_1_0) bitsLt_bf16_f32

theorem grad_at (x : FVec Ideal S4096x1024 .bf16) (y : FVec Ideal S4096x1024 .bf16) (p : Fin 1024) (q : Fin 1024) :
    grad x y (ix2 p q) = mat (fun p r => x (ix2 r p)) (fun r e => y (ix2 r e)) p q := by
  unfold mat
  pointwise [grad]
  exact Finset.sum_congr rfl fun r _ => mul_comm _ _

/-- The reference's result: the gradient as slot 2 of four, the others as they were. -/
def out (x : FVec Ideal S4096x1024 .bf16) (y : FVec Ideal S4096x1024 .bf16) (b : FVec Ideal S4x1024x1024 .bf16) : FVec Ideal S4x1024x1024 .bf16 :=
  concatenate S4x1024x1024 0 [⟨S2x1024x1024, (extractStridedSlice S2x1024x1024 ![0, 0, 0] b slices_S4x1024x1024_S2x1024x1024_0_0_0)⟩, ⟨S1x1024x1024, (broadcastInDim S1x1024x1024 ![1, 2] bcast_S1024x1024_S1x1024x1024_1_2 (grad x y))⟩, ⟨S1x1024x1024, (extractStridedSlice S1x1024x1024 ![3, 0, 0] b slices_S4x1024x1024_S1x1024x1024_3_0_0)⟩] concatenates_S2x1024x1024_S1x1024x1024_S1x1024x1024_S4x1024x1024_d0

theorem out_at (x : FVec Ideal S4096x1024 .bf16) (y : FVec Ideal S4096x1024 .bf16) (b : FVec Ideal S4x1024x1024 .bf16)
    (s : Fin 4) (p : Fin 1024) (q : Fin 1024) :
    out x y b (ix3 s p q) = Cert.DwHgIIdeal.Stack.stack (fun p r => x (ix2 r p)) (fun r e => y (ix2 r e)) (fun s p q => b (ix3 s p q)) s p q := by
  match s with
  | 0 => refine Eq.trans ?_ (Cert.DwHgIIdeal.Stack.stack_out _ _ _ _ _ _ (by decide)); pointwise [out]
  | 1 => refine Eq.trans ?_ (Cert.DwHgIIdeal.Stack.stack_out _ _ _ _ _ _ (by decide)); pointwise [out]
  | 2 =>
    refine Eq.trans ?_ ((grad_at x y p q).trans (Cert.DwHgIIdeal.Stack.stack_in _ _ _ _ _ _ _ (by decide) (by show q.val = 0 * 1024 + q.val; omega)))
    pointwise [out]
  | 3 => refine Eq.trans ?_ (Cert.DwHgIIdeal.Stack.stack_out _ _ _ _ _ _ (by decide)); pointwise [out]

end Cert.DwHgIRefIdeal.Stack

namespace Cert.DwHgI.Claims

/-- The reference's frame: its generated run, read at the arguments. -/
theorem frame_ref : Cert.quiescent_DwHgIRefIdeal := fun m ρ _ =>
  (θ_run Cert.DwHgIRefIdeal.defs _ _).mono (fun _ h => ⟨fun c => (h c).2, Idealize.ShloMosaic.sem_eq_zero_of_no_sems (by decide) _⟩)
    (Cert.DwHgIRefIdeal.Value.run m ρ)

/-- The kernel's result is the reference's over the extended reals. -/
theorem value : Cert.algebraic_DwHgIIdeal_DwHgIRefIdeal := fun m ρ m' ρ' _ hag =>
  ⟨fun c => (Cert.DwHgIIdeal.Gen.dats m 0 c).arrAt 2 Cert.DwHgIIdeal.cfg0.N,
    Cert.DwHgIIdeal.Value.run_blocks m ρ,
    (θ_run _ _ _).mono (fun _ h c => by
      obtain ⟨h0, hr⟩ := h c
      obtain ⟨a0, a1, a2⟩ := hag c
      refine ⟨h0.trans ?_, hr⟩
      rw [a0, a1, a2]
      exact (ext3 (Cert.DwHgIRefIdeal.Stack.out_at _ _ _)).trans (Cert.DwHgIIdeal.Stack.arr m c).symm)
      (Cert.DwHgIRefIdeal.Value.run m' ρ')⟩

end Cert.DwHgI.Claims

end
end
-- ==== Proof.Stack.DwHgG.lean ====
/-
  The gradient of the HGRN2 layer's gate projection's weight, written into one slot of four; the others keep what the
  other projections' calls left in them.
-/
module

public import proofs.«01_k».proof.Proof.Kit
public import proofs.«01_k».proof.Proof.Gen.DwHgG.Frame
public import proofs.«01_k».proof.Proof.Gen.DwHgGIdeal.Value
public import proofs.«01_k».proof.Proof.Gen.DwHgGRefIdeal.Run

@[expose] public section

set_option maxRecDepth 16384

noncomputable section

open Idealize.ShloMosaic Idealize.ShloMosaic.TcCoe Idealize.SL.Sem Cert.Common

namespace Cert.DwHgGIdeal.Stack

open Cert.DwHgGIdeal Cert.DwHgGIdeal.Gen

variable (m : (ℓ : Loc nD τ sig) → Buf (Elt Ideal) ℓ)

theorem idx0 : ∀ t : Fin grid0.N, win0_0.index t = ![t.val % 4, t.val / 4] := by decide +kernel
theorem idx1 : ∀ t : Fin grid0.N, win0_1.index t = ![t.val % 4, t.val / 4 % 1] := by decide +kernel
theorem idx2 : ∀ t : Fin grid0.N, win0_2.index t = ![3 + t.val / 4 % 1, t.val / 4, 0] := by decide +kernel

/-- What a point adds at row `p` and column `q` of its block: the sum over its 1024 tokens. -/
def part (x0 : Vec Ideal S1024x512 .bf16) (x1 : Vec Ideal S1024x1024 .bf16) (p : Fin 512) (q : Fin 1024) : EReal :=
  ∑ r : Fin 1024, x0 (ix2 r p) * x1 (ix2 r q)

theorem acc_A (c : Dev nD) (t : Fin cfg0.N) (ht : t.val % 4 = 0) (p : Fin 512) (q : Fin 1024) :
    (outsAt0 m c t.val t.isLt).2 (ix2 p q) = 0 + part (iblk m c 0 t) (iblk m c 1 t) p q := by
  rw [outsAt0_A m c t ht (by omega)]
  frame_open
  simp (disch := decide) only [↓ View.readCov_skip, ↓ View.readCov_cons_toLoadRect, ↓ View.readCov_fill]
  frame_out
  unfold part
  pointwise [k0_pay2, k0_pay1]

theorem acc_B (c : Dev nD) (t : Fin cfg0.N) (ht : ¬ t.val % 4 = 0) (p : Fin 512) (q : Fin 1024) :
    (outsAt0 m c t.val t.isLt).2 (ix2 p q)
      = (outsAt0 m c (t.val - 1) (Nat.lt_of_le_of_lt (Nat.sub_le _ _) t.isLt)).2 (ix2 p q)
        + part (iblk m c 0 t) (iblk m c 1 t) p q := by
  by_cases h : t.val % 4 = 3
  · rw [outsAt0_C m c t ht h]
    frame_open
    simp (disch := decide) only [↓ View.readCov_skip, ↓ View.readCov_cons_toLoadRect, ↓ View.readCov_fill]
    frame_out
    simp only [read_unread_whole]
    unfold part
    pointwise [k0_pay2]
  · rw [outsAt0_B m c t ht h]
    frame_open
    simp (disch := decide) only [↓ View.readCov_skip, ↓ View.readCov_cons_toLoadRect, ↓ View.readCov_fill]
    frame_out
    simp only [read_unread_whole]
    unfold part
    pointwise [k0_pay2]

/-- The last point of a block writes the sum out. -/
theorem out_C (c : Dev nD) (t : Fin cfg0.N) (ht : t.val % 4 = 3) (p : Fin 512) (q : Fin 1024) :
    (outsAt0 m c t.val t.isLt).1 (ix3 0 p q) = (outsAt0 m c t.val t.isLt).2 (ix2 p q) := by
  rw [acc_B m c t (by omega), outsAt0_C m c t (by omega) ht]
  frame_open
  simp (disch := decide) only [↓ View.readCov_skip, ↓ View.readCov_cons_toLoadRect, ↓ View.readCov_fill]
  frame_out
  simp only [read_unread_whole]
  unfold part
  pointwise [k0_pay3, k0_pay2]

/-- The product's input as launched. -/
abbrev a0 (c : Dev nD) (r : Fin 4096) (e : Fin 1024) : EReal := m ((c : Thread nD τ).loc main_arg0) (ix2 r e)
/-- The gradient of the product's result as launched. -/
abbrev a1 (c : Dev nD) (r : Fin 4096) (e : Fin 1024) : EReal := m ((c : Thread nD τ).loc main_arg1) (ix2 r e)

/-- Row `p` of point `t`'s output block as a row of the weight. -/
abbrev orow (t : Fin cfg0.N) (p : Fin 512) : Fin 1024 :=
  ⟨t.val / 4 * 512 + p.val, by have : t.val < 8 := lt_of_lt_of_eq t.isLt Gen.N_0; omega⟩
/-- Column `q` of point `t`'s output block as a column of the weight. -/
abbrev ocol (t : Fin cfg0.N) (q : Fin 1024) : Fin 1024 := ⟨t.val / 4 % 1 * 1024 + q.val, by omega⟩
/-- Row `r` of point `t`'s input blocks as a token. -/
abbrev tokn (t : Fin cfg0.N) (r : Fin 1024) : Fin 4096 := ⟨t.val % 4 * 1024 + r.val, by omega⟩

theorem blk0 (c : Dev nD) (t : Fin cfg0.N) (r : Fin 1024) (p : Fin 512) :
    iblk m c 0 t (ix2 r p) = a0 m c (tokn t r) (orow t p) := by
  unfold a0
  rw [← V_main_arg0 m c]
  blk_ext [iblk, idx0 t]
theorem blk1 (c : Dev nD) (t : Fin cfg0.N) (r : Fin 1024) (q : Fin 1024) :
    iblk m c 1 t (ix2 r q) = a1 m c (tokn t r) (ocol t q) := by
  unfold a1
  rw [← V_main_arg1 m c]
  blk_ext [iblk, idx1 t]

/-- At a block's last point the accumulator holds the whole sum. -/
theorem sum_at (c : Dev nD) (t : Fin cfg0.N) (ht : t.val % 4 = 3) (p : Fin 512) (q : Fin 1024) :
    (outsAt0 m c t.val t.isLt).2 (ix2 p q) = mat (fun p r => a0 m c r p) (a1 m c) (orow t p) (ocol t q) := by
  have hN : t.val < 8 := lt_of_lt_of_eq t.isLt Gen.N_0
  have e := Pipeline.eq_sum_fin_of_reset_step_of_flush (M := EReal)
    (fun n hn => (outsAt0 m c n hn).2 (ix2 p q)) 4 0 _
    (fun t ht => acc_A m c t ht p q) (fun t ht => acc_B m c t ht p q) t ht
  refine e.trans ((zero_add _).trans ?_)
  unfold mat part
  refine Fin.sum_mul_add_congr fun s r hl => ?_
  rw [blk0, blk1]
  have hs : 4 * (t.val / 4) + s.val < cfg0.N := by have := s.isLt; exact lt_of_lt_of_eq (by omega) Gen.N_0.symm
  have e1 : orow ⟨4 * (t.val / 4) + s.val, hs⟩ p = orow t p :=
    Fin.ext (by show (4 * (t.val / 4) + s.val) / 4 * 512 + p.val = t.val / 4 * 512 + p.val; omega)
  have e2 : tokn ⟨4 * (t.val / 4) + s.val, hs⟩ r = ⟨s.val * 1024 + r.val, hl⟩ :=
    Fin.ext (by show (4 * (t.val / 4) + s.val) % 4 * 1024 + r.val = s.val * 1024 + r.val; omega)
  have e3 : ocol ⟨4 * (t.val / 4) + s.val, hs⟩ q = ocol t q :=
    Fin.ext (by show (4 * (t.val / 4) + s.val) / 4 % 1 * 1024 + q.val = t.val / 4 % 1 * 1024 + q.val; omega)
  rw [e1, e2, e3]

/-- The four slots as launched. -/
abbrev a2 (c : Dev nD) (s : Fin 4) (p : Fin 1024) (q : Fin 1024) : EReal := m ((c : Thread nD τ).loc main_arg2) (ix3 s p q)

/-- The region finds the four slots' copy as the slots were launched. -/
theorem V_v0 (c : Dev nD) : V m c main_v0 = m ((c : Thread nD τ).loc main_arg2) := by
  unfold V hostOps0
  after_results
  rfl

/-- The product's columns in slot 3 of the four; the others as they were. -/
def stack (x : Fin 1024 → Fin 4096 → EReal) (y : Fin 4096 → Fin 1024 → EReal) (b : Fin 4 → Fin 1024 → Fin 1024 → EReal)
    (s : Fin 4) (p : Fin 1024) (q : Fin 1024) : EReal :=
  if h : 3 ≤ s.val ∧ s.val < 4 then mat x y p ⟨(s.val - 3) * 1024 + q.val, by omega⟩ else b s p q

section
variable (x : Fin 1024 → Fin 4096 → EReal) (y : Fin 4096 → Fin 1024 → EReal) (b : Fin 4 → Fin 1024 → Fin 1024 → EReal)

theorem stack_in (s : Fin 4) (p : Fin 1024) (q : Fin 1024) (k : Fin 1024) (h : 3 ≤ s.val ∧ s.val < 4)
    (hk : k.val = (s.val - 3) * 1024 + q.val) : mat x y p k = stack x y b s p q :=
  by
  unfold stack
  rw [dif_pos h]
  exact congrArg (mat x y p) (Fin.ext hk)

theorem stack_out (s : Fin 4) (p : Fin 1024) (q : Fin 1024) (h : ¬ (3 ≤ s.val ∧ s.val < 4)) :
    b s p q = stack x y b s p q := by
  unfold stack
  rw [dif_neg h]

end

/-- The kernel's result array after the run. -/
theorem arr (c : Dev nD) : (dats m 0 c).arrAt 2 cfg0.N
    = fun i => stack (fun p r => a0 m c r p) (a1 m c) (a2 m c) (i 0) (i 1) (i 2) := by
  refine (dats m 0 c).arrAt_eq_of_coversWhere_of_agree 2 _ (fun β => 3 ≤ β (0 : Fin 3) ∧ β (0 : Fin 3) < 4)
    (by decide +kernel) (fun t hf y => ?_) (fun j hj => ?_)
  · blk_simp
    rw [after0_2]
    obtain ⟨p, q, rfl⟩ : ∃ (p : Fin 512) (q : Fin 1024), y = ix3 0 p q :=
      ⟨y 1, y 2, (eq_ix3 y).trans (congrArg (fun s => ix3 s (y 1) (y 2)) (Fin.fin_one_eq_zero (y 0)))⟩
    have hb : 3 + t.val / 4 % 1 < 4 := by omega
    have hy : ((cfg0.win 2).blk t).view.emb (ix3 0 p q) = (ix3 ⟨3 + t.val / 4 % 1, hb⟩ (orow t p) q : S4x1024x1024.Idx) := by
      blk_ext [idx2 t]
    refine Eq.trans ?_ (congrArg (fun i : S4x1024x1024.Idx =>
      stack (fun p r => a0 m c r p) (a1 m c) (a2 m c) (i 0) (i 1) (i 2)) hy).symm
    refine ((out_C m c t ((flush0_2 t).mp hf) p q).trans (sum_at m c t ((flush0_2 t).mp hf) p q)).trans ?_
    exact stack_in _ _ _ _ _ _ _ (show 3 ≤ 3 + t.val / 4 % 1 ∧ 3 + t.val / 4 % 1 < 4 by omega)
      (by show t.val / 4 % 1 * 1024 + q.val = (3 + t.val / 4 % 1 - 3) * 1024 + q.val; omega)
  · obtain ⟨s, p, q, rfl⟩ : ∃ (s : Fin 4) (p : Fin 1024) (q : Fin 1024), j = ix3 s p q := ⟨j 0, j 1, j 2, eq_ix3 j⟩
    have hj' : ¬ (3 ≤ s.val ∧ s.val < 4) := fun h => hj (by
      show 3 ≤ s.val / 1 ∧ s.val / 1 < 4
      omega)
    exact (congrFun (V_v0 m c) (ix3 s p q)).trans (stack_out _ _ (a2 m c) s p q hj')

end Cert.DwHgGIdeal.Stack

namespace Cert.DwHgGRefIdeal.Stack

open Cert.DwHgGRefIdeal Cert.DwHgGRefIdeal.Gen

/-- The weight's gradient. -/
def grad (x : FVec Ideal S4096x1024 .bf16) (y : FVec Ideal S4096x1024 .bf16) : FVec Ideal S1024x1024 .bf16 :=
  truncf .bf16 (transpose S1024x1024 [1, 0] (Host.dotGeneral dot_S4096x1024_S4096x1024_S1024x1024_0_0_1_1_n_n none (extf .f32 y bitsLt_bf16_f32) (extf .f32 x bitsLt_bf16_f32)) transposes_S1024x1024_S1024x1024_1_0) bitsLt_bf16_f32

theorem grad_at (x : FVec Ideal S4096x1024 .bf16) (y : FVec Ideal S4096x1024 .bf16) (p : Fin 1024) (q : Fin 1024) :
    grad x y (ix2 p q) = mat (fun p r => x (ix2 r p)) (fun r e => y (ix2 r e)) p q := by
  unfold mat
  pointwise [grad]
  exact Finset.sum_congr rfl fun r _ => mul_comm _ _

/-- The reference's result: the gradient as slot 3 of four, the others as they were. -/
def out (x : FVec Ideal S4096x1024 .bf16) (y : FVec Ideal S4096x1024 .bf16) (b : FVec Ideal S4x1024x1024 .bf16) : FVec Ideal S4x1024x1024 .bf16 :=
  concatenate S4x1024x1024 0 [⟨S3x1024x1024, (extractStridedSlice S3x1024x1024 ![0, 0, 0] b slices_S4x1024x1024_S3x1024x1024_0_0_0)⟩, ⟨S1x1024x1024, (broadcastInDim S1x1024x1024 ![1, 2] bcast_S1024x1024_S1x1024x1024_1_2 (grad x y))⟩, ⟨S0x1024x1024, (extractStridedSlice S0x1024x1024 ![4, 0, 0] b slices_S4x1024x1024_S0x1024x1024_4_0_0)⟩] concatenates_S3x1024x1024_S1x1024x1024_S0x1024x1024_S4x1024x1024_d0

theorem out_at (x : FVec Ideal S4096x1024 .bf16) (y : FVec Ideal S4096x1024 .bf16) (b : FVec Ideal S4x1024x1024 .bf16)
    (s : Fin 4) (p : Fin 1024) (q : Fin 1024) :
    out x y b (ix3 s p q) = Cert.DwHgGIdeal.Stack.stack (fun p r => x (ix2 r p)) (fun r e => y (ix2 r e)) (fun s p q => b (ix3 s p q)) s p q := by
  match s with
  | 0 => refine Eq.trans ?_ (Cert.DwHgGIdeal.Stack.stack_out _ _ _ _ _ _ (by decide)); pointwise [out]
  | 1 => refine Eq.trans ?_ (Cert.DwHgGIdeal.Stack.stack_out _ _ _ _ _ _ (by decide)); pointwise [out]
  | 2 => refine Eq.trans ?_ (Cert.DwHgGIdeal.Stack.stack_out _ _ _ _ _ _ (by decide)); pointwise [out]
  | 3 =>
    refine Eq.trans ?_ ((grad_at x y p q).trans (Cert.DwHgGIdeal.Stack.stack_in _ _ _ _ _ _ _ (by decide) (by show q.val = 0 * 1024 + q.val; omega)))
    pointwise [out]

end Cert.DwHgGRefIdeal.Stack

namespace Cert.DwHgG.Claims

/-- The reference's frame: its generated run, read at the arguments. -/
theorem frame_ref : Cert.quiescent_DwHgGRefIdeal := fun m ρ _ =>
  (θ_run Cert.DwHgGRefIdeal.defs _ _).mono (fun _ h => ⟨fun c => (h c).2, Idealize.ShloMosaic.sem_eq_zero_of_no_sems (by decide) _⟩)
    (Cert.DwHgGRefIdeal.Value.run m ρ)

/-- The kernel's result is the reference's over the extended reals. -/
theorem value : Cert.algebraic_DwHgGIdeal_DwHgGRefIdeal := fun m ρ m' ρ' _ hag =>
  ⟨fun c => (Cert.DwHgGIdeal.Gen.dats m 0 c).arrAt 2 Cert.DwHgGIdeal.cfg0.N,
    Cert.DwHgGIdeal.Value.run_blocks m ρ,
    (θ_run _ _ _).mono (fun _ h c => by
      obtain ⟨h0, hr⟩ := h c
      obtain ⟨a0, a1, a2⟩ := hag c
      refine ⟨h0.trans ?_, hr⟩
      rw [a0, a1, a2]
      exact (ext3 (Cert.DwHgGRefIdeal.Stack.out_at _ _ _)).trans (Cert.DwHgGIdeal.Stack.arr m c).symm)
      (Cert.DwHgGRefIdeal.Value.run m' ρ')⟩

end Cert.DwHgG.Claims

end
end
-- ==== Proof.Slots.DxHgQ.lean ====
/-
  The gradient of the HGRN2 layer's input through the query projection: a block of 512 tokens times the weight's slot at a
  point; the reference is the one product.
-/
module

public import proofs.«01_k».proof.Proof.Kit
public import proofs.«01_k».proof.Proof.Gen.DxHgQ.Frame
public import proofs.«01_k».proof.Proof.Gen.DxHgQIdeal.Value
public import proofs.«01_k».proof.Proof.Gen.DxHgQRefIdeal.Run

@[expose] public section

set_option maxRecDepth 16384

noncomputable section

open Idealize.ShloMosaic Idealize.ShloMosaic.TcCoe Idealize.SL.Sem Cert.Common

namespace Cert.DxHgQIdeal.Slots

open Cert.DxHgQIdeal Cert.DxHgQIdeal.Gen

variable (m : (ℓ : Loc nD τ sig) → Buf (Elt Ideal) ℓ)

theorem idx0 : ∀ t : Fin grid0.N, win0_0.index t = ![t.val, 0] := by decide +kernel
theorem idx1 : ∀ t : Fin grid0.N, win0_1.index t = ![0, 0, 0] := by decide +kernel
theorem idx2 : ∀ t : Fin grid0.N, win0_2.index t = ![t.val, 0] := by decide +kernel

/-- A point's block: its rows times the weight. -/
theorem out_point (c : Dev nD) (t : Fin cfg0.N) (p : Fin 512) (q : Fin 1024) :
    outsAt0 m c t (ix2 p q)
      = (∑ e : Fin 1024, (show Vec Ideal S512x1024 .bf16 from iblk m c 0 t) (ix2 p e)
          * (show Vec Ideal S1x1024x1024 .bf16 from iblk m c 1 t) (ix3 0 q e)) := by
  unfold outsAt0
  frame_open
  simp (disch := decide) only [↓ View.readCov_skip, ↓ View.readCov_cons_toLoadRect, ↓ View.readCov_fill]
  frame_out
  pointwise [k0_pay2, k0_pay1]

/-- The projection's gradient as launched. -/
abbrev a0 (c : Dev nD) (r : Fin 4096) (e : Fin 1024) : EReal := m ((c : Thread nD τ).loc main_arg0) (ix2 r e)
/-- The weight as launched: a slot of four. -/
abbrev a1 (c : Dev nD) (r : Fin 1024) (e : Fin 1024) : EReal := m ((c : Thread nD τ).loc main_arg1) (ix3 0 r e)

/-- Row `p` of point `t`'s blocks as a token. -/
abbrev tokn (t : Fin cfg0.N) (p : Fin 512) : Fin 4096 :=
  ⟨t.val * 512 + p.val, by have : t.val < 8 := lt_of_lt_of_eq t.isLt Gen.N_0; omega⟩

theorem blk0 (c : Dev nD) (t : Fin cfg0.N) (p : Fin 512) (e : Fin 1024) :
    (show Vec Ideal S512x1024 .bf16 from iblk m c 0 t) (ix2 p e) = a0 m c (tokn t p) e := by
  unfold a0
  blk_ext [iblk, V, idx0 t]
theorem blk1 (c : Dev nD) (t : Fin cfg0.N) (r : Fin 1024) (e : Fin 1024) :
    (show Vec Ideal S1x1024x1024 .bf16 from iblk m c 1 t) (ix3 0 r e) = a1 m c r e := by
  unfold a1
  blk_ext [iblk, V, idx1 t]

/-- The kernel's result array after the run. -/
theorem arr (c : Dev nD) : (dats m 0 c).arrAt 2 cfg0.N = fun i => mat (a0 m c) (fun e q => a1 m c q e) (i 0) (i 1) := by
  refine (dats m 0 c).arrAt_eq_of_covers 2 _ (by decide +kernel) fun t hf y => ?_
  blk_simp
  rw [after0_2]
  obtain ⟨p, q, rfl⟩ : ∃ (p : Fin 512) (q : Fin 1024), y = ix2 p q := ⟨y 0, y 1, eq_ix2 y⟩
  have hy : ((cfg0.win 2).blk t).view.emb (ix2 p q) = (ix2 (tokn t p) q : S4096x1024.Idx) := by
    blk_ext [idx2 t]
  refine Eq.trans ?_ (congrArg (fun i : S4096x1024.Idx => mat (a0 m c) (fun e q => a1 m c q e) (i 0) (i 1)) hy).symm
  refine (out_point m c t p q).trans ?_
  unfold mat
  refine Finset.sum_congr rfl fun e _ => ?_
  rw [blk0, blk1]
  rfl

end Cert.DxHgQIdeal.Slots

namespace Cert.DxHgQRefIdeal.Slots

open Cert.DxHgQRefIdeal Cert.DxHgQRefIdeal.Gen

/-- The reference's result. -/
def out (x : FVec Ideal S4096x1024 .bf16) (y : FVec Ideal S4x1024x1024 .bf16) : FVec Ideal S4096x1024 .f32 :=
  Host.dotGeneral dot_S4096x1024_S1024x1024_S4096x1024_1_1_0_0_n_n none (extf .f32 x bitsLt_bf16_f32) (extf .f32 (shapeCast _ (extractStridedSlice S1x1024x1024 ![0, 0, 0] y slices_S4x1024x1024_S1x1024x1024_0_0_0) shapeCasts_S1x1024x1024_S1024x1024) bitsLt_bf16_f32)

theorem out_at (x : FVec Ideal S4096x1024 .bf16) (y : FVec Ideal S4x1024x1024 .bf16) (p : Fin 4096) (q : Fin 1024) :
    out x y (ix2 p q) = mat (fun r e => x (ix2 r e)) (fun e q => y (ix3 0 q e)) p q := by
  unfold mat
  pointwise [out]

end Cert.DxHgQRefIdeal.Slots

namespace Cert.DxHgQ.Claims

/-- The reference's frame: its generated run, read at the arguments. -/
theorem frame_ref : Cert.quiescent_DxHgQRefIdeal := fun m ρ _ =>
  (θ_run Cert.DxHgQRefIdeal.defs _ _).mono (fun _ h => ⟨fun c => (h c).2, Idealize.ShloMosaic.sem_eq_zero_of_no_sems (by decide) _⟩)
    (Cert.DxHgQRefIdeal.Value.run m ρ)

/-- The kernel's result is the reference's over the extended reals. -/
theorem value : Cert.algebraic_DxHgQIdeal_DxHgQRefIdeal := fun m ρ m' ρ' _ hag =>
  ⟨fun c => (Cert.DxHgQIdeal.Gen.dats m 0 c).arrAt 2 Cert.DxHgQIdeal.cfg0.N,
    Cert.DxHgQIdeal.Value.run_blocks m ρ,
    (θ_run _ _ _).mono (fun _ h c => by
      obtain ⟨h0, hr⟩ := h c
      obtain ⟨a0, a1⟩ := hag c
      refine ⟨h0.trans ?_, hr⟩
      rw [a0, a1]
      exact (ext2 (Cert.DxHgQRefIdeal.Slots.out_at _ _)).trans (Cert.DxHgQIdeal.Slots.arr m c).symm)
      (Cert.DxHgQRefIdeal.Value.run m' ρ')⟩

end Cert.DxHgQ.Claims

end
end
-- ==== Proof.Slots.DxHgF.lean ====
/-
  The gradient of the HGRN2 layer's input through the forget projection, added to the gradient so far: a block of 512
  tokens times the weight's slot at a point; the reference is one product and a sum.
-/
module

public import proofs.«01_k».proof.Proof.Kit
public import proofs.«01_k».proof.Proof.Gen.DxHgF.Frame
public import proofs.«01_k».proof.Proof.Gen.DxHgFIdeal.Value
public import proofs.«01_k».proof.Proof.Gen.DxHgFRefIdeal.Run

@[expose] public section

set_option maxRecDepth 16384

noncomputable section

open Idealize.ShloMosaic Idealize.ShloMosaic.TcCoe Idealize.SL.Sem Cert.Common

namespace Cert.DxHgFIdeal.Slots

open Cert.DxHgFIdeal Cert.DxHgFIdeal.Gen

variable (m : (ℓ : Loc nD τ sig) → Buf (Elt Ideal) ℓ)

theorem idx0 : ∀ t : Fin grid0.N, win0_0.index t = ![t.val, 0] := by decide +kernel
theorem idx1 : ∀ t : Fin grid0.N, win0_1.index t = ![1, 0, 0] := by decide +kernel
theorem idx2 : ∀ t : Fin grid0.N, win0_2.index t = ![t.val, 0] := by decide +kernel
theorem idx3 : ∀ t : Fin grid0.N, win0_3.index t = ![t.val, 0] := by decide +kernel

/-- A point's block: its rows times the weight, and the third argument's block added. -/
theorem out_point (c : Dev nD) (t : Fin cfg0.N) (p : Fin 512) (q : Fin 1024) :
    outsAt0 m c t (ix2 p q)
      = (∑ e : Fin 1024, (show Vec Ideal S512x1024 .bf16 from iblk m c 0 t) (ix2 p e)
          * (show Vec Ideal S1x1024x1024 .bf16 from iblk m c 1 t) (ix3 0 q e)) + (show Vec Ideal S512x1024 .f32 from iblk m c 2 t) (ix2 p q) := by
  unfold outsAt0
  frame_open
  simp (disch := decide) only [↓ View.readCov_skip, ↓ View.readCov_cons_toLoadRect, ↓ View.readCov_fill]
  frame_out
  pointwise [k0_pay3, k0_pay2, k0_pay1]

/-- The projection's gradient as launched. -/
abbrev a0 (c : Dev nD) (r : Fin 4096) (e : Fin 1024) : EReal := m ((c : Thread nD τ).loc main_arg0) (ix2 r e)
/-- The weight as launched: a slot of four. -/
abbrev a1 (c : Dev nD) (r : Fin 1024) (e : Fin 1024) : EReal := m ((c : Thread nD τ).loc main_arg1) (ix3 1 r e)
/-- The gradient so far as launched. -/
abbrev a2 (c : Dev nD) (r : Fin 4096) (e : Fin 1024) : EReal := m ((c : Thread nD τ).loc main_arg2) (ix2 r e)

/-- Row `p` of point `t`'s blocks as a token. -/
abbrev tokn (t : Fin cfg0.N) (p : Fin 512) : Fin 4096 :=
  ⟨t.val * 512 + p.val, by have : t.val < 8 := lt_of_lt_of_eq t.isLt Gen.N_0; omega⟩

theorem blk0 (c : Dev nD) (t : Fin cfg0.N) (p : Fin 512) (e : Fin 1024) :
    (show Vec Ideal S512x1024 .bf16 from iblk m c 0 t) (ix2 p e) = a0 m c (tokn t p) e := by
  unfold a0
  blk_ext [iblk, V, idx0 t]
theorem blk1 (c : Dev nD) (t : Fin cfg0.N) (r : Fin 1024) (e : Fin 1024) :
    (show Vec Ideal S1x1024x1024 .bf16 from iblk m c 1 t) (ix3 0 r e) = a1 m c r e := by
  unfold a1
  blk_ext [iblk, V, idx1 t]
theorem blk2 (c : Dev nD) (t : Fin cfg0.N) (p : Fin 512) (q : Fin 1024) :
    (show Vec Ideal S512x1024 .f32 from iblk m c 2 t) (ix2 p q) = a2 m c (tokn t p) q := by
  unfold a2
  blk_ext [iblk, V, idx2 t]

/-- The kernel's result array after the run. -/
theorem arr (c : Dev nD) : (dats m 0 c).arrAt 3 cfg0.N = fun i => a2 m c (i 0) (i 1) + mat (a0 m c) (fun e q => a1 m c q e) (i 0) (i 1) := by
  refine (dats m 0 c).arrAt_eq_of_covers 3 _ (by decide +kernel) fun t hf y => ?_
  blk_simp
  rw [after0_3]
  obtain ⟨p, q, rfl⟩ : ∃ (p : Fin 512) (q : Fin 1024), y = ix2 p q := ⟨y 0, y 1, eq_ix2 y⟩
  have hy : ((cfg0.win 3).blk t).view.emb (ix2 p q) = (ix2 (tokn t p) q : S4096x1024.Idx) := by
    blk_ext [idx3 t]
  refine Eq.trans ?_ (congrArg (fun i : S4096x1024.Idx => a2 m c (i 0) (i 1) + mat (a0 m c) (fun e q => a1 m c q e) (i 0) (i 1)) hy).symm
  refine (out_point m c t p q).trans ?_
  refine (add_comm _ _).trans (congrArg₂ (· + ·) (blk2 m c t p q) ?_)
  unfold mat
  refine Finset.sum_congr rfl fun e _ => ?_
  rw [blk0, blk1]
  rfl

end Cert.DxHgFIdeal.Slots

namespace Cert.DxHgFRefIdeal.Slots

open Cert.DxHgFRefIdeal Cert.DxHgFRefIdeal.Gen

/-- The reference's result. -/
def out (x : FVec Ideal S4096x1024 .bf16) (y : FVec Ideal S4x1024x1024 .bf16) (z : FVec Ideal S4096x1024 .f32) : FVec Ideal S4096x1024 .f32 :=
  addf z (Host.dotGeneral dot_S4096x1024_S1024x1024_S4096x1024_1_1_0_0_n_n none (extf .f32 x bitsLt_bf16_f32) (extf .f32 (shapeCast _ (extractStridedSlice S1x1024x1024 ![1, 0, 0] y slices_S4x1024x1024_S1x1024x1024_1_0_0) shapeCasts_S1x1024x1024_S1024x1024) bitsLt_bf16_f32))

theorem out_at (x : FVec Ideal S4096x1024 .bf16) (y : FVec Ideal S4x1024x1024 .bf16) (z : FVec Ideal S4096x1024 .f32) (p : Fin 4096) (q : Fin 1024) :
    out x y z (ix2 p q) = z (ix2 p q) + mat (fun r e => x (ix2 r e)) (fun e q => y (ix3 1 q e)) p q := by
  unfold mat
  pointwise [out]

end Cert.DxHgFRefIdeal.Slots

namespace Cert.DxHgF.Claims

/-- The reference's frame: its generated run, read at the arguments. -/
theorem frame_ref : Cert.quiescent_DxHgFRefIdeal := fun m ρ _ =>
  (θ_run Cert.DxHgFRefIdeal.defs _ _).mono (fun _ h => ⟨fun c => (h c).2, Idealize.ShloMosaic.sem_eq_zero_of_no_sems (by decide) _⟩)
    (Cert.DxHgFRefIdeal.Value.run m ρ)

/-- The kernel's result is the reference's over the extended reals. -/
theorem value : Cert.algebraic_DxHgFIdeal_DxHgFRefIdeal := fun m ρ m' ρ' _ hag =>
  ⟨fun c => (Cert.DxHgFIdeal.Gen.dats m 0 c).arrAt 3 Cert.DxHgFIdeal.cfg0.N,
    Cert.DxHgFIdeal.Value.run_blocks m ρ,
    (θ_run _ _ _).mono (fun _ h c => by
      obtain ⟨h0, hr⟩ := h c
      obtain ⟨a0, a1, a2⟩ := hag c
      refine ⟨h0.trans ?_, hr⟩
      rw [a0, a1, a2]
      exact (ext2 (Cert.DxHgFRefIdeal.Slots.out_at _ _ _)).trans (Cert.DxHgFIdeal.Slots.arr m c).symm)
      (Cert.DxHgFRefIdeal.Value.run m' ρ')⟩

end Cert.DxHgF.Claims

end
end
-- ==== Proof.Slots.DxHgI.lean ====
/-
  The gradient of the HGRN2 layer's input through the input projection, added to the gradient so far: a block of 512
  tokens times the weight's slot at a point; the reference is one product and a sum.
-/
module

public import proofs.«01_k».proof.Proof.Kit
public import proofs.«01_k».proof.Proof.Gen.DxHgI.Frame
public import proofs.«01_k».proof.Proof.Gen.DxHgIIdeal.Value
public import proofs.«01_k».proof.Proof.Gen.DxHgIRefIdeal.Run

@[expose] public section

set_option maxRecDepth 16384

noncomputable section

open Idealize.ShloMosaic Idealize.ShloMosaic.TcCoe Idealize.SL.Sem Cert.Common

namespace Cert.DxHgIIdeal.Slots

open Cert.DxHgIIdeal Cert.DxHgIIdeal.Gen

variable (m : (ℓ : Loc nD τ sig) → Buf (Elt Ideal) ℓ)

theorem idx0 : ∀ t : Fin grid0.N, win0_0.index t = ![t.val, 0] := by decide +kernel
theorem idx1 : ∀ t : Fin grid0.N, win0_1.index t = ![2, 0, 0] := by decide +kernel
theorem idx2 : ∀ t : Fin grid0.N, win0_2.index t = ![t.val, 0] := by decide +kernel
theorem idx3 : ∀ t : Fin grid0.N, win0_3.index t = ![t.val, 0] := by decide +kernel

/-- A point's block: its rows times the weight, and the third argument's block added. -/
theorem out_point (c : Dev nD) (t : Fin cfg0.N) (p : Fin 512) (q : Fin 1024) :
    outsAt0 m c t (ix2 p q)
      = (∑ e : Fin 1024, (show Vec Ideal S512x1024 .bf16 from iblk m c 0 t) (ix2 p e)
          * (show Vec Ideal S1x1024x1024 .bf16 from iblk m c 1 t) (ix3 0 q e)) + (show Vec Ideal S512x1024 .f32 from iblk m c 2 t) (ix2 p q) := by
  unfold outsAt0
  frame_open
  simp (disch := decide) only [↓ View.readCov_skip, ↓ View.readCov_cons_toLoadRect, ↓ View.readCov_fill]
  frame_out
  pointwise [k0_pay3, k0_pay2, k0_pay1]

/-- The projection's gradient as launched. -/
abbrev a0 (c : Dev nD) (r : Fin 4096) (e : Fin 1024) : EReal := m ((c : Thread nD τ).loc main_arg0) (ix2 r e)
/-- The weight as launched: a slot of four. -/
abbrev a1 (c : Dev nD) (r : Fin 1024) (e : Fin 1024) : EReal := m ((c : Thread nD τ).loc main_arg1) (ix3 2 r e)
/-- The gradient so far as launched. -/
abbrev a2 (c : Dev nD) (r : Fin 4096) (e : Fin 1024) : EReal := m ((c : Thread nD τ).loc main_arg2) (ix2 r e)

/-- Row `p` of point `t`'s blocks as a token. -/
abbrev tokn (t : Fin cfg0.N) (p : Fin 512) : Fin 4096 :=
  ⟨t.val * 512 + p.val, by have : t.val < 8 := lt_of_lt_of_eq t.isLt Gen.N_0; omega⟩

theorem blk0 (c : Dev nD) (t : Fin cfg0.N) (p : Fin 512) (e : Fin 1024) :
    (show Vec Ideal S512x1024 .bf16 from iblk m c 0 t) (ix2 p e) = a0 m c (tokn t p) e := by
  unfold a0
  blk_ext [iblk, V, idx0 t]
theorem blk1 (c : Dev nD) (t : Fin cfg0.N) (r : Fin 1024) (e : Fin 1024) :
    (show Vec Ideal S1x1024x1024 .bf16 from iblk m c 1 t) (ix3 0 r e) = a1 m c r e := by
  unfold a1
  blk_ext [iblk, V, idx1 t]
theorem blk2 (c : Dev nD) (t : Fin cfg0.N) (p : Fin 512) (q : Fin 1024) :
    (show Vec Ideal S512x1024 .f32 from iblk m c 2 t) (ix2 p q) = a2 m c (tokn t p) q := by
  unfold a2
  blk_ext [iblk, V, idx2 t]

/-- The kernel's result array after the run. -/
theorem arr (c : Dev nD) : (dats m 0 c).arrAt 3 cfg0.N = fun i => a2 m c (i 0) (i 1) + mat (a0 m c) (fun e q => a1 m c q e) (i 0) (i 1) := by
  refine (dats m 0 c).arrAt_eq_of_covers 3 _ (by decide +kernel) fun t hf y => ?_
  blk_simp
  rw [after0_3]
  obtain ⟨p, q, rfl⟩ : ∃ (p : Fin 512) (q : Fin 1024), y = ix2 p q := ⟨y 0, y 1, eq_ix2 y⟩
  have hy : ((cfg0.win 3).blk t).view.emb (ix2 p q) = (ix2 (tokn t p) q : S4096x1024.Idx) := by
    blk_ext [idx3 t]
  refine Eq.trans ?_ (congrArg (fun i : S4096x1024.Idx => a2 m c (i 0) (i 1) + mat (a0 m c) (fun e q => a1 m c q e) (i 0) (i 1)) hy).symm
  refine (out_point m c t p q).trans ?_
  refine (add_comm _ _).trans (congrArg₂ (· + ·) (blk2 m c t p q) ?_)
  unfold mat
  refine Finset.sum_congr rfl fun e _ => ?_
  rw [blk0, blk1]
  rfl

end Cert.DxHgIIdeal.Slots

namespace Cert.DxHgIRefIdeal.Slots

open Cert.DxHgIRefIdeal Cert.DxHgIRefIdeal.Gen

/-- The reference's result. -/
def out (x : FVec Ideal S4096x1024 .bf16) (y : FVec Ideal S4x1024x1024 .bf16) (z : FVec Ideal S4096x1024 .f32) : FVec Ideal S4096x1024 .f32 :=
  addf z (Host.dotGeneral dot_S4096x1024_S1024x1024_S4096x1024_1_1_0_0_n_n none (extf .f32 x bitsLt_bf16_f32) (extf .f32 (shapeCast _ (extractStridedSlice S1x1024x1024 ![2, 0, 0] y slices_S4x1024x1024_S1x1024x1024_2_0_0) shapeCasts_S1x1024x1024_S1024x1024) bitsLt_bf16_f32))

theorem out_at (x : FVec Ideal S4096x1024 .bf16) (y : FVec Ideal S4x1024x1024 .bf16) (z : FVec Ideal S4096x1024 .f32) (p : Fin 4096) (q : Fin 1024) :
    out x y z (ix2 p q) = z (ix2 p q) + mat (fun r e => x (ix2 r e)) (fun e q => y (ix3 2 q e)) p q := by
  unfold mat
  pointwise [out]

end Cert.DxHgIRefIdeal.Slots

namespace Cert.DxHgI.Claims

/-- The reference's frame: its generated run, read at the arguments. -/
theorem frame_ref : Cert.quiescent_DxHgIRefIdeal := fun m ρ _ =>
  (θ_run Cert.DxHgIRefIdeal.defs _ _).mono (fun _ h => ⟨fun c => (h c).2, Idealize.ShloMosaic.sem_eq_zero_of_no_sems (by decide) _⟩)
    (Cert.DxHgIRefIdeal.Value.run m ρ)

/-- The kernel's result is the reference's over the extended reals. -/
theorem value : Cert.algebraic_DxHgIIdeal_DxHgIRefIdeal := fun m ρ m' ρ' _ hag =>
  ⟨fun c => (Cert.DxHgIIdeal.Gen.dats m 0 c).arrAt 3 Cert.DxHgIIdeal.cfg0.N,
    Cert.DxHgIIdeal.Value.run_blocks m ρ,
    (θ_run _ _ _).mono (fun _ h c => by
      obtain ⟨h0, hr⟩ := h c
      obtain ⟨a0, a1, a2⟩ := hag c
      refine ⟨h0.trans ?_, hr⟩
      rw [a0, a1, a2]
      exact (ext2 (Cert.DxHgIRefIdeal.Slots.out_at _ _ _)).trans (Cert.DxHgIIdeal.Slots.arr m c).symm)
      (Cert.DxHgIRefIdeal.Value.run m' ρ')⟩

end Cert.DxHgI.Claims

end
end
-- ==== Proof.Slots.DxHgG.lean ====
/-
  The gradient of the HGRN2 layer's input through the gate projection, added to the gradient so far: a block of 512
  tokens times the weight's slot at a point; the reference is one product and a sum.
-/
module

public import proofs.«01_k».proof.Proof.Kit
public import proofs.«01_k».proof.Proof.Gen.DxHgG.Frame
public import proofs.«01_k».proof.Proof.Gen.DxHgGIdeal.Value
public import proofs.«01_k».proof.Proof.Gen.DxHgGRefIdeal.Run

@[expose] public section

set_option maxRecDepth 16384

noncomputable section

open Idealize.ShloMosaic Idealize.ShloMosaic.TcCoe Idealize.SL.Sem Cert.Common

namespace Cert.DxHgGIdeal.Slots

open Cert.DxHgGIdeal Cert.DxHgGIdeal.Gen

variable (m : (ℓ : Loc nD τ sig) → Buf (Elt Ideal) ℓ)

theorem idx0 : ∀ t : Fin grid0.N, win0_0.index t = ![t.val, 0] := by decide +kernel
theorem idx1 : ∀ t : Fin grid0.N, win0_1.index t = ![3, 0, 0] := by decide +kernel
theorem idx2 : ∀ t : Fin grid0.N, win0_2.index t = ![t.val, 0] := by decide +kernel
theorem idx3 : ∀ t : Fin grid0.N, win0_3.index t = ![t.val, 0] := by decide +kernel

/-- A point's block: its rows times the weight, and the third argument's block added. -/
theorem out_point (c : Dev nD) (t : Fin cfg0.N) (p : Fin 512) (q : Fin 1024) :
    outsAt0 m c t (ix2 p q)
      = (∑ e : Fin 1024, (show Vec Ideal S512x1024 .bf16 from iblk m c 0 t) (ix2 p e)
          * (show Vec Ideal S1x1024x1024 .bf16 from iblk m c 1 t) (ix3 0 q e)) + (show Vec Ideal S512x1024 .f32 from iblk m c 2 t) (ix2 p q) := by
  unfold outsAt0
  frame_open
  simp (disch := decide) only [↓ View.readCov_skip, ↓ View.readCov_cons_toLoadRect, ↓ View.readCov_fill]
  frame_out
  pointwise [k0_pay3, k0_pay2, k0_pay1]

/-- The projection's gradient as launched. -/
abbrev a0 (c : Dev nD) (r : Fin 4096) (e : Fin 1024) : EReal := m ((c : Thread nD τ).loc main_arg0) (ix2 r e)
/-- The weight as launched: a slot of four. -/
abbrev a1 (c : Dev nD) (r : Fin 1024) (e : Fin 1024) : EReal := m ((c : Thread nD τ).loc main_arg1) (ix3 3 r e)
/-- The gradient so far as launched. -/
abbrev a2 (c : Dev nD) (r : Fin 4096) (e : Fin 1024) : EReal := m ((c : Thread nD τ).loc main_arg2) (ix2 r e)

/-- Row `p` of point `t`'s blocks as a token. -/
abbrev tokn (t : Fin cfg0.N) (p : Fin 512) : Fin 4096 :=
  ⟨t.val * 512 + p.val, by have : t.val < 8 := lt_of_lt_of_eq t.isLt Gen.N_0; omega⟩

theorem blk0 (c : Dev nD) (t : Fin cfg0.N) (p : Fin 512) (e : Fin 1024) :
    (show Vec Ideal S512x1024 .bf16 from iblk m c 0 t) (ix2 p e) = a0 m c (tokn t p) e := by
  unfold a0
  blk_ext [iblk, V, idx0 t]
theorem blk1 (c : Dev nD) (t : Fin cfg0.N) (r : Fin 1024) (e : Fin 1024) :
    (show Vec Ideal S1x1024x1024 .bf16 from iblk m c 1 t) (ix3 0 r e) = a1 m c r e := by
  unfold a1
  blk_ext [iblk, V, idx1 t]
theorem blk2 (c : Dev nD) (t : Fin cfg0.N) (p : Fin 512) (q : Fin 1024) :
    (show Vec Ideal S512x1024 .f32 from iblk m c 2 t) (ix2 p q) = a2 m c (tokn t p) q := by
  unfold a2
  blk_ext [iblk, V, idx2 t]

/-- The kernel's result array after the run. -/
theorem arr (c : Dev nD) : (dats m 0 c).arrAt 3 cfg0.N = fun i => a2 m c (i 0) (i 1) + mat (a0 m c) (fun e q => a1 m c q e) (i 0) (i 1) := by
  refine (dats m 0 c).arrAt_eq_of_covers 3 _ (by decide +kernel) fun t hf y => ?_
  blk_simp
  rw [after0_3]
  obtain ⟨p, q, rfl⟩ : ∃ (p : Fin 512) (q : Fin 1024), y = ix2 p q := ⟨y 0, y 1, eq_ix2 y⟩
  have hy : ((cfg0.win 3).blk t).view.emb (ix2 p q) = (ix2 (tokn t p) q : S4096x1024.Idx) := by
    blk_ext [idx3 t]
  refine Eq.trans ?_ (congrArg (fun i : S4096x1024.Idx => a2 m c (i 0) (i 1) + mat (a0 m c) (fun e q => a1 m c q e) (i 0) (i 1)) hy).symm
  refine (out_point m c t p q).trans ?_
  refine (add_comm _ _).trans (congrArg₂ (· + ·) (blk2 m c t p q) ?_)
  unfold mat
  refine Finset.sum_congr rfl fun e _ => ?_
  rw [blk0, blk1]
  rfl

end Cert.DxHgGIdeal.Slots

namespace Cert.DxHgGRefIdeal.Slots

open Cert.DxHgGRefIdeal Cert.DxHgGRefIdeal.Gen

/-- The reference's result. -/
def out (x : FVec Ideal S4096x1024 .bf16) (y : FVec Ideal S4x1024x1024 .bf16) (z : FVec Ideal S4096x1024 .f32) : FVec Ideal S4096x1024 .f32 :=
  addf z (Host.dotGeneral dot_S4096x1024_S1024x1024_S4096x1024_1_1_0_0_n_n none (extf .f32 x bitsLt_bf16_f32) (extf .f32 (shapeCast _ (extractStridedSlice S1x1024x1024 ![3, 0, 0] y slices_S4x1024x1024_S1x1024x1024_3_0_0) shapeCasts_S1x1024x1024_S1024x1024) bitsLt_bf16_f32))

theorem out_at (x : FVec Ideal S4096x1024 .bf16) (y : FVec Ideal S4x1024x1024 .bf16) (z : FVec Ideal S4096x1024 .f32) (p : Fin 4096) (q : Fin 1024) :
    out x y z (ix2 p q) = z (ix2 p q) + mat (fun r e => x (ix2 r e)) (fun e q => y (ix3 3 q e)) p q := by
  unfold mat
  pointwise [out]

end Cert.DxHgGRefIdeal.Slots

namespace Cert.DxHgG.Claims

/-- The reference's frame: its generated run, read at the arguments. -/
theorem frame_ref : Cert.quiescent_DxHgGRefIdeal := fun m ρ _ =>
  (θ_run Cert.DxHgGRefIdeal.defs _ _).mono (fun _ h => ⟨fun c => (h c).2, Idealize.ShloMosaic.sem_eq_zero_of_no_sems (by decide) _⟩)
    (Cert.DxHgGRefIdeal.Value.run m ρ)

/-- The kernel's result is the reference's over the extended reals. -/
theorem value : Cert.algebraic_DxHgGIdeal_DxHgGRefIdeal := fun m ρ m' ρ' _ hag =>
  ⟨fun c => (Cert.DxHgGIdeal.Gen.dats m 0 c).arrAt 3 Cert.DxHgGIdeal.cfg0.N,
    Cert.DxHgGIdeal.Value.run_blocks m ρ,
    (θ_run _ _ _).mono (fun _ h c => by
      obtain ⟨h0, hr⟩ := h c
      obtain ⟨a0, a1, a2⟩ := hag c
      refine ⟨h0.trans ?_, hr⟩
      rw [a0, a1, a2]
      exact (ext2 (Cert.DxHgGRefIdeal.Slots.out_at _ _ _)).trans (Cert.DxHgGIdeal.Slots.arr m c).symm)
      (Cert.DxHgGRefIdeal.Value.run m' ρ')⟩

end Cert.DxHgG.Claims

end
end
-- ==== Proof.Slots.DxMemK.lean ====
/-
  The gradient of the memory through the keys: rows of 1024 columns times the weight's rows,
  over the weight's two slots of 512 columns; the reference is one product.
-/
module

public import proofs.«01_k».proof.Proof.Kit
public import proofs.«01_k».proof.Proof.Gen.DxMemK.Frame
public import proofs.«01_k».proof.Proof.Gen.DxMemKIdeal.Value
public import proofs.«01_k».proof.Proof.Gen.DxMemKRefIdeal.Run

@[expose] public section

set_option maxRecDepth 16384

noncomputable section

open Idealize.ShloMosaic Idealize.ShloMosaic.TcCoe Idealize.SL.Sem Cert.Common

namespace Cert.DxMemKIdeal.Slots

open Cert.DxMemKIdeal Cert.DxMemKIdeal.Gen

variable (m : (ℓ : Loc nD τ sig) → Buf (Elt Ideal) ℓ)

theorem idx0 : ∀ t : Fin grid0.N, win0_0.index t = ![t.val / 2, t.val % 2] := by decide +kernel
theorem idx1 : ∀ t : Fin grid0.N, win0_1.index t = ![t.val % 2, 0, 0] := by decide +kernel
theorem idx2 : ∀ t : Fin grid0.N, win0_2.index t = ![t.val / 2, 0] := by decide +kernel

/-- What a point adds at row `p` and column `q` of its block: the sum over its 512 columns. -/
def part (x0 : Vec Ideal S512x512 .bf16) (x1 : Vec Ideal S1x1024x512 .bf16) (p : Fin 512) (q : Fin 1024) : EReal :=
  ∑ e : Fin 512, x0 (ix2 p e) * x1 (ix3 0 q e)

/-- One product of the body, at an index. -/
theorem pay_at (acc : Vec Ideal S512x1024 .f32) (x0 : Vec Ideal S512x512 .bf16) (x1 : Vec Ideal S1x1024x512 .bf16)
    (p : Fin 512) (q : Fin 1024) : k0_pay2 acc x0 x1 (ix2 p q) = acc (ix2 p q) + part x0 x1 p q := by
  unfold part
  pointwise [k0_pay2]

theorem acc_A (c : Dev nD) (t : Fin cfg0.N) (ht : t.val % 2 = 0) (p : Fin 512) (q : Fin 1024) :
    (outsAt0 m c t.val t.isLt).2 (ix2 p q) = 0 + part (iblk m c 0 t) (iblk m c 1 t) p q := by
  rw [outsAt0_A m c t ht (by omega)]
  frame_open
  simp (disch := decide) only [↓ View.readCov_skip, ↓ View.readCov_cons_toLoadRect, ↓ View.readCov_fill]
  frame_out
  refine (pay_at _ _ _ p q).trans (congrArg (· + _) ?_)
  pointwise [k0_pay1]

theorem acc_B (c : Dev nD) (t : Fin cfg0.N) (ht : ¬ t.val % 2 = 0) (p : Fin 512) (q : Fin 1024) :
    (outsAt0 m c t.val t.isLt).2 (ix2 p q)
      = (outsAt0 m c (t.val - 1) (Nat.lt_of_le_of_lt (Nat.sub_le _ _) t.isLt)).2 (ix2 p q)
        + part (iblk m c 0 t) (iblk m c 1 t) p q := by
  rw [outsAt0_B m c t ht (by omega)]
  frame_open
  simp (disch := decide) only [↓ View.readCov_skip, ↓ View.readCov_cons_toLoadRect, ↓ View.readCov_fill]
  frame_out
  simp only [read_unread_whole]
  exact pay_at _ _ _ p q

/-- The last point of a block writes the sum out. -/
theorem out_B (c : Dev nD) (t : Fin cfg0.N) (ht : t.val % 2 = 1) (p : Fin 512) (q : Fin 1024) :
    (outsAt0 m c t.val t.isLt).1 (ix2 p q) = (outsAt0 m c t.val t.isLt).2 (ix2 p q) := by
  rw [acc_B m c t (by omega), outsAt0_B m c t (by omega) ht]
  frame_open
  simp (disch := decide) only [↓ View.readCov_skip, ↓ View.readCov_cons_toLoadRect, ↓ View.readCov_fill]
  frame_out
  simp only [read_unread_whole]
  exact pay_at _ _ _ p q

/-- The gradient of the keys as launched. -/
abbrev a0 (c : Dev nD) (r : Fin 512) (e : Fin 1024) : EReal := m ((c : Thread nD τ).loc main_arg0) (ix2 r e)
/-- The weight as launched, in four slots of 512 columns. -/
abbrev a1 (c : Dev nD) (s : Fin 4) (r : Fin 1024) (e : Fin 512) : EReal := m ((c : Thread nD τ).loc main_arg1) (ix3 s r e)

/-- The gradient of the memory: a row times the weight's row, the columns in two slots. -/
def grad (x : Fin 512 → Fin 1024 → EReal) (y : Fin 4 → Fin 1024 → Fin 512 → EReal) (p : Fin 512) (q : Fin 1024) : EReal :=
  ∑ e : Fin 1024, x p e * y ⟨e.val / 512, by omega⟩ q ⟨e.val % 512, by omega⟩

/-- Row `p` of point `t`'s blocks as a row of the memory. -/
abbrev tokn (t : Fin cfg0.N) (p : Fin 512) : Fin 512 :=
  ⟨t.val / 2 * 512 + p.val, by have : t.val < 2 := lt_of_lt_of_eq t.isLt Gen.N_0; omega⟩
/-- Column `e` of point `t`'s block. -/
abbrev col (t : Fin cfg0.N) (e : Fin 512) : Fin 1024 := ⟨t.val % 2 * 512 + e.val, by omega⟩

theorem blk0 (c : Dev nD) (t : Fin cfg0.N) (p : Fin 512) (e : Fin 512) :
    iblk m c 0 t (ix2 p e) = a0 m c (tokn t p) (col t e) := by
  unfold a0
  blk_ext [iblk, V, idx0 t]
theorem blk1 (c : Dev nD) (t : Fin cfg0.N) (q : Fin 1024) (e : Fin 512) :
    iblk m c 1 t (ix3 0 q e) = a1 m c ⟨t.val % 2, by omega⟩ q e := by
  unfold a1
  blk_ext [iblk, V, idx1 t]

/-- At a block's last point the accumulator holds the whole sum. -/
theorem sum_at (c : Dev nD) (t : Fin cfg0.N) (ht : t.val % 2 = 1) (p : Fin 512) (q : Fin 1024) :
    (outsAt0 m c t.val t.isLt).2 (ix2 p q)
      = ∑ e : Fin 1024, a0 m c (tokn t p) e * a1 m c ⟨e.val / 512, by omega⟩ q ⟨e.val % 512, by omega⟩ := by
  have hN : t.val < 2 := lt_of_lt_of_eq t.isLt Gen.N_0
  have e := Pipeline.eq_sum_fin_of_reset_step_of_flush (M := EReal)
    (fun n hn => (outsAt0 m c n hn).2 (ix2 p q)) 2 0 _
    (fun t ht => acc_A m c t ht p q) (fun t ht => acc_B m c t ht p q) t ht
  refine e.trans ((zero_add _).trans ?_)
  unfold part
  refine Fin.sum_mul_add_congr fun s r hl => ?_
  rw [blk0, blk1]
  have hs := s.isLt
  have hr := r.isLt
  have e1 : tokn ⟨2 * (t.val / 2) + s.val, lt_of_lt_of_eq (by omega) Gen.N_0.symm⟩ p = tokn t p :=
    Fin.ext (by show (2 * (t.val / 2) + s.val) / 2 * 512 + p.val = t.val / 2 * 512 + p.val; omega)
  have e2 : col ⟨2 * (t.val / 2) + s.val, lt_of_lt_of_eq (by omega) Gen.N_0.symm⟩ r
      = ⟨s.val * 512 + r.val, hl⟩ :=
    Fin.ext (by show (2 * (t.val / 2) + s.val) % 2 * 512 + r.val = s.val * 512 + r.val; omega)
  have e3 : (⟨(2 * (t.val / 2) + s.val) % 2, by omega⟩ : Fin 4) = ⟨(s.val * 512 + r.val) / 512, by omega⟩ :=
    Fin.ext (by show (2 * (t.val / 2) + s.val) % 2 = (s.val * 512 + r.val) / 512; omega)
  have e4 : r = ⟨(s.val * 512 + r.val) % 512, by omega⟩ := Fin.ext (by show r.val = (s.val * 512 + r.val) % 512; omega)
  exact congrArg₂ (· * ·) (congrArg₂ (a0 m c) e1 e2) (congrArg₂ (fun s r => a1 m c s q r) e3 e4)

/-- The kernel's result array after the run. -/
theorem arr2 (c : Dev nD) : (dats m 0 c).arrAt 2 cfg0.N = fun i => grad (a0 m c) (a1 m c) (i 0) (i 1) := by
  refine (dats m 0 c).arrAt_eq_of_covers 2 _ (by decide +kernel) fun t hf y => ?_
  blk_simp
  rw [after0_2]
  obtain ⟨p, q, rfl⟩ : ∃ (p : Fin 512) (q : Fin 1024), y = ix2 p q := ⟨y 0, y 1, eq_ix2 y⟩
  have hy : ((cfg0.win 2).blk t).view.emb (ix2 p q) = (ix2 (tokn t p) q : S512x1024.Idx) := by
    blk_ext [idx2 t]
  refine Eq.trans ?_ (congrArg (fun i : S512x1024.Idx => grad (a0 m c) (a1 m c) (i 0) (i 1)) hy).symm
  refine (out_B m c t ((flush0_2 t).mp hf) p q).trans ?_
  rw [sum_at m c t ((flush0_2 t).mp hf) p q]
  rfl

end Cert.DxMemKIdeal.Slots

namespace Cert.DxMemKRefIdeal.Slots

open Cert.DxMemKRefIdeal Cert.DxMemKRefIdeal.Gen

/-- The weight's two slots side by side. -/
def weight (y : FVec Ideal S4x1024x512 .bf16) : FVec Ideal S1024x1024 .f32 :=
  concatenate S1024x1024 1 [⟨S1024x512, (shapeCast _ (extractStridedSlice S1x1024x512 ![0, 0, 0] (extf .f32 y bitsLt_bf16_f32) slices_S4x1024x512_S1x1024x512_0_0_0) shapeCasts_S1x1024x512_S1024x512)⟩, ⟨S1024x512, (shapeCast _ (extractStridedSlice S1x1024x512 ![1, 0, 0] (extf .f32 y bitsLt_bf16_f32) slices_S4x1024x512_S1x1024x512_1_0_0) shapeCasts_S1x1024x512_S1024x512)⟩] concatenates_S1024x512_S1024x512_S1024x1024_d1

theorem weight_at (y : FVec Ideal S4x1024x512 .bf16) (q : Fin 1024) (e : Fin 1024) :
    weight y (ix2 q e) = y (ix3 ⟨e.val / 512, by omega⟩ q ⟨e.val % 512, by omega⟩) := by
  pointwise [weight]
  split_ifs with h
  · have h1 : (⟨e.val / 512, by omega⟩ : Fin 4) = 0 := Fin.ext (by show e.val / 512 = 0; omega)
    have h2 : (⟨e.val % 512, by omega⟩ : Fin 512) = ⟨e.val, h⟩ := Fin.ext (by show e.val % 512 = e.val; omega)
    rw [h1, h2]
  · have h1 : (⟨e.val / 512, by omega⟩ : Fin 4) = 1 := Fin.ext (by show e.val / 512 = 1; omega)
    have h2 : (⟨e.val % 512, by omega⟩ : Fin 512) = ⟨e.val - 512, by omega⟩ :=
      Fin.ext (by show e.val % 512 = e.val - 512; omega)
    rw [h1, h2]
  · exact absurd rfl ‹_›

/-- The reference's result. -/
def out (x : FVec Ideal S512x1024 .bf16) (y : FVec Ideal S4x1024x512 .bf16) : FVec Ideal S512x1024 .f32 :=
  Host.dotGeneral dot_S512x1024_S1024x1024_S512x1024_1_1_0_0_n_n none (extf .f32 x bitsLt_bf16_f32) (weight y)

theorem out_at (x : FVec Ideal S512x1024 .bf16) (y : FVec Ideal S4x1024x512 .bf16) (p : Fin 512) (q : Fin 1024) :
    out x y (ix2 p q) = Cert.DxMemKIdeal.Slots.grad (fun r e => x (ix2 r e)) (fun s r e => y (ix3 s r e)) p q := by
  unfold Cert.DxMemKIdeal.Slots.grad
  pointwise [out]
  simp only [weight_at]

end Cert.DxMemKRefIdeal.Slots

namespace Cert.DxMemK.Claims

/-- The reference's frame: its generated run, read at the arguments. -/
theorem frame_ref : Cert.quiescent_DxMemKRefIdeal := fun m ρ _ =>
  (θ_run Cert.DxMemKRefIdeal.defs _ _).mono (fun _ h => ⟨fun c => (h c).2, Idealize.ShloMosaic.sem_eq_zero_of_no_sems (by decide) _⟩)
    (Cert.DxMemKRefIdeal.Value.run m ρ)

/-- The kernel's result is the reference's over the extended reals. -/
theorem value : Cert.algebraic_DxMemKIdeal_DxMemKRefIdeal := fun m ρ m' ρ' _ hag =>
  ⟨fun c => (Cert.DxMemKIdeal.Gen.dats m 0 c).arrAt 2 Cert.DxMemKIdeal.cfg0.N,
    Cert.DxMemKIdeal.Value.run_blocks m ρ,
    (θ_run _ _ _).mono (fun _ h c => by
      obtain ⟨h0, hr⟩ := h c
      obtain ⟨a0, a1⟩ := hag c
      refine ⟨h0.trans ?_, hr⟩
      rw [a0, a1]
      exact (ext2 (Cert.DxMemKRefIdeal.Slots.out_at _ _)).trans (Cert.DxMemKIdeal.Slots.arr2 m c).symm)
      (Cert.DxMemKRefIdeal.Value.run m' ρ')⟩

end Cert.DxMemK.Claims

end
end
-- ==== Proof.Slots.MemK.lean ====
/-
  The memory attention's keys, forward: the 512 rows of the memory times one of the weight's two slots of 512 columns at a
  point; the reference is one product.
-/
module

public import proofs.«01_k».proof.Proof.Kit
public import proofs.«01_k».proof.Proof.Gen.MemK.Frame
public import proofs.«01_k».proof.Proof.Gen.MemKIdeal.Value
public import proofs.«01_k».proof.Proof.Gen.MemKRefIdeal.Run
public import proofs.«01_k».proof.Proof.Slots.DxMemK

@[expose] public section

set_option maxRecDepth 16384

noncomputable section

open Idealize.ShloMosaic Idealize.ShloMosaic.TcCoe Idealize.SL.Sem Cert.Common

namespace Cert.MemKIdeal.Slots

open Cert.MemKIdeal Cert.MemKIdeal.Gen

variable (m : (ℓ : Loc nD τ sig) → Buf (Elt Ideal) ℓ)

theorem idx0 : ∀ t : Fin grid0.N, win0_0.index t = ![t.val / 2, 0] := by decide +kernel
theorem idx1 : ∀ t : Fin grid0.N, win0_1.index t = ![t.val % 2, 0, 0] := by decide +kernel
theorem idx2 : ∀ t : Fin grid0.N, win0_2.index t = ![t.val / 2, t.val % 2] := by decide +kernel

/-- A point's block: its rows times the weight's slot. -/
theorem out_point (c : Dev nD) (t : Fin cfg0.N) (p : Fin 512) (q : Fin 512) :
    outsAt0 m c t (ix2 p q)
      = ∑ e : Fin 1024, (show Vec Ideal S512x1024 .bf16 from iblk m c 0 t) (ix2 p e)
          * (show Vec Ideal S1x1024x512 .bf16 from iblk m c 1 t) (ix3 0 e q) := by
  unfold outsAt0
  frame_open
  simp (disch := decide) only [↓ View.readCov_skip, ↓ View.readCov_cons_toLoadRect, ↓ View.readCov_fill]
  frame_out
  pointwise [k0_pay3, k0_pay2, k0_pay1]

/-- The memory as launched. -/
abbrev a0 (c : Dev nD) (r : Fin 512) (e : Fin 1024) : EReal := m ((c : Thread nD τ).loc main_arg0) (ix2 r e)
/-- The weight as launched, in four slots of 512 columns. -/
abbrev a1 (c : Dev nD) (s : Fin 4) (r : Fin 1024) (e : Fin 512) : EReal := m ((c : Thread nD τ).loc main_arg1) (ix3 s r e)

/-- The two slots of the keys side by side. -/
def side (y : Fin 4 → Fin 1024 → Fin 512 → EReal) (e : Fin 1024) (q : Fin 1024) : EReal :=
  y ⟨q.val / 512, by omega⟩ e ⟨q.val % 512, by omega⟩

/-- Row `p` of point `t`'s blocks as a row of the memory. -/
abbrev tokn (t : Fin cfg0.N) (p : Fin 512) : Fin 512 :=
  ⟨t.val / 2 * 512 + p.val, by have : t.val < 2 := lt_of_lt_of_eq t.isLt Gen.N_0; omega⟩
/-- Column `q` of point `t`'s block as a column of the array. -/
abbrev col (t : Fin cfg0.N) (q : Fin 512) : Fin 1024 := ⟨t.val % 2 * 512 + q.val, by omega⟩

theorem blk0 (c : Dev nD) (t : Fin cfg0.N) (p : Fin 512) (e : Fin 1024) :
    (show Vec Ideal S512x1024 .bf16 from iblk m c 0 t) (ix2 p e) = a0 m c (tokn t p) e := by
  unfold a0
  blk_ext [iblk, V, idx0 t]
theorem blk1 (c : Dev nD) (t : Fin cfg0.N) (e : Fin 1024) (q : Fin 512) :
    (show Vec Ideal S1x1024x512 .bf16 from iblk m c 1 t) (ix3 0 e q) = a1 m c ⟨t.val % 2, by omega⟩ e q := by
  unfold a1
  blk_ext [iblk, V, idx1 t]

theorem side_at (c : Dev nD) (t : Fin cfg0.N) (e : Fin 1024) (q : Fin 512) :
    side (a1 m c) e (col t q) = a1 m c ⟨t.val % 2, by omega⟩ e q := by
  have h1 : (⟨(t.val % 2 * 512 + q.val) / 512, by omega⟩ : Fin 4) = ⟨t.val % 2, by omega⟩ :=
    Fin.ext (by show (t.val % 2 * 512 + q.val) / 512 = t.val % 2; omega)
  have h2 : (⟨(t.val % 2 * 512 + q.val) % 512, by omega⟩ : Fin 512) = q :=
    Fin.ext (by show (t.val % 2 * 512 + q.val) % 512 = q.val; omega)
  exact congrArg₂ (fun s r => a1 m c s e r) h1 h2

/-- The kernel's result array after the run. -/
theorem arr (c : Dev nD) : (dats m 0 c).arrAt 2 cfg0.N = fun i => mat (a0 m c) (side (a1 m c)) (i 0) (i 1) := by
  refine (dats m 0 c).arrAt_eq_of_covers 2 _ (by decide +kernel) fun t hf y => ?_
  blk_simp
  rw [after0_2]
  obtain ⟨p, q, rfl⟩ : ∃ (p : Fin 512) (q : Fin 512), y = ix2 p q := ⟨y 0, y 1, eq_ix2 y⟩
  have hy : ((cfg0.win 2).blk t).view.emb (ix2 p q) = (ix2 (tokn t p) (col t q) : S512x1024.Idx) := by
    blk_ext [idx2 t]
  refine Eq.trans ?_ (congrArg (fun i : S512x1024.Idx => mat (a0 m c) (side (a1 m c)) (i 0) (i 1)) hy).symm
  refine (out_point m c t p q).trans (Finset.sum_congr rfl fun e _ => ?_)
  exact congrArg₂ (· * ·) (blk0 m c t p e) ((blk1 m c t e q).trans (side_at m c t e q).symm)

end Cert.MemKIdeal.Slots

namespace Cert.MemKRefIdeal.Slots

open Cert.MemKRefIdeal Cert.MemKRefIdeal.Gen

/-- The reference's result; the weight's slots side by side as in the backward product's reference. -/
def out (x : FVec Ideal S512x1024 .bf16) (y : FVec Ideal S4x1024x512 .bf16) : FVec Ideal S512x1024 .bf16 :=
  truncf .bf16 (Host.dotGeneral dot_S512x1024_S1024x1024_S512x1024_1_0_0_1_n_n none (extf .f32 x bitsLt_bf16_f32) (Cert.DxMemKRefIdeal.Slots.weight y)) bitsLt_bf16_f32

theorem out_at (x : FVec Ideal S512x1024 .bf16) (y : FVec Ideal S4x1024x512 .bf16) (p : Fin 512) (q : Fin 1024) :
    out x y (ix2 p q) = mat (fun r e => x (ix2 r e)) (Cert.MemKIdeal.Slots.side fun s r e => y (ix3 s r e)) p q := by
  unfold mat Cert.MemKIdeal.Slots.side
  pointwise [out]
  exact Finset.sum_congr rfl fun e _ => congrArg (_ * ·) (Cert.DxMemKRefIdeal.Slots.weight_at y e q)

end Cert.MemKRefIdeal.Slots

namespace Cert.MemK.Claims

/-- The reference's frame: its generated run, read at the arguments. -/
theorem frame_ref : Cert.quiescent_MemKRefIdeal := fun m ρ _ =>
  (θ_run Cert.MemKRefIdeal.defs _ _).mono (fun _ h => ⟨fun c => (h c).2, Idealize.ShloMosaic.sem_eq_zero_of_no_sems (by decide) _⟩)
    (Cert.MemKRefIdeal.Value.run m ρ)

/-- The kernel's result is the reference's over the extended reals. -/
theorem value : Cert.algebraic_MemKIdeal_MemKRefIdeal := fun m ρ m' ρ' _ hag =>
  ⟨fun c => (Cert.MemKIdeal.Gen.dats m 0 c).arrAt 2 Cert.MemKIdeal.cfg0.N,
    Cert.MemKIdeal.Value.run_blocks m ρ,
    (θ_run _ _ _).mono (fun _ h c => by
      obtain ⟨h0, hr⟩ := h c
      obtain ⟨a0, a1⟩ := hag c
      refine ⟨h0.trans ?_, hr⟩
      rw [a0, a1]
      exact (ext2 (Cert.MemKRefIdeal.Slots.out_at _ _)).trans (Cert.MemKIdeal.Slots.arr m c).symm)
      (Cert.MemKRefIdeal.Value.run m' ρ')⟩

end Cert.MemK.Claims

end
end
-- ==== Proof.Slots.DxMemV.lean ====
/-
  The gradient of the memory through the values, added to the gradient so far: rows of 1024 columns times the weight's rows,
  over the weight's two slots of 512 columns; the reference is one product and a sum.
-/
module

public import proofs.«01_k».proof.Proof.Kit
public import proofs.«01_k».proof.Proof.Gen.DxMemV.Frame
public import proofs.«01_k».proof.Proof.Gen.DxMemVIdeal.Value
public import proofs.«01_k».proof.Proof.Gen.DxMemVRefIdeal.Run

@[expose] public section

set_option maxRecDepth 16384

noncomputable section

open Idealize.ShloMosaic Idealize.ShloMosaic.TcCoe Idealize.SL.Sem Cert.Common

namespace Cert.DxMemVIdeal.Slots

open Cert.DxMemVIdeal Cert.DxMemVIdeal.Gen

variable (m : (ℓ : Loc nD τ sig) → Buf (Elt Ideal) ℓ)

theorem idx0 : ∀ t : Fin grid0.N, win0_0.index t = ![t.val / 2, t.val % 2] := by decide +kernel
theorem idx1 : ∀ t : Fin grid0.N, win0_1.index t = ![2 + t.val % 2, 0, 0] := by decide +kernel
theorem idx2 : ∀ t : Fin grid0.N, win0_2.index t = ![t.val / 2, 0] := by decide +kernel
theorem idx3 : ∀ t : Fin grid0.N, win0_3.index t = ![t.val / 2, 0] := by decide +kernel

/-- What a point adds at row `p` and column `q` of its block: the sum over its 512 columns. -/
def part (x0 : Vec Ideal S512x512 .bf16) (x1 : Vec Ideal S1x1024x512 .bf16) (p : Fin 512) (q : Fin 1024) : EReal :=
  ∑ e : Fin 512, x0 (ix2 p e) * x1 (ix3 0 q e)

/-- One product of the body, at an index. -/
theorem pay_at (acc : Vec Ideal S512x1024 .f32) (x0 : Vec Ideal S512x512 .bf16) (x1 : Vec Ideal S1x1024x512 .bf16)
    (p : Fin 512) (q : Fin 1024) : k0_pay2 acc x0 x1 (ix2 p q) = acc (ix2 p q) + part x0 x1 p q := by
  unfold part
  pointwise [k0_pay2]

theorem acc_A (c : Dev nD) (t : Fin cfg0.N) (ht : t.val % 2 = 0) (p : Fin 512) (q : Fin 1024) :
    (outsAt0 m c t.val t.isLt).2 (ix2 p q) = 0 + part (iblk m c 0 t) (iblk m c 1 t) p q := by
  rw [outsAt0_A m c t ht (by omega)]
  frame_open
  simp (disch := decide) only [↓ View.readCov_skip, ↓ View.readCov_cons_toLoadRect, ↓ View.readCov_fill]
  frame_out
  refine (pay_at _ _ _ p q).trans (congrArg (· + _) ?_)
  pointwise [k0_pay1]

theorem acc_B (c : Dev nD) (t : Fin cfg0.N) (ht : ¬ t.val % 2 = 0) (p : Fin 512) (q : Fin 1024) :
    (outsAt0 m c t.val t.isLt).2 (ix2 p q)
      = (outsAt0 m c (t.val - 1) (Nat.lt_of_le_of_lt (Nat.sub_le _ _) t.isLt)).2 (ix2 p q)
        + part (iblk m c 0 t) (iblk m c 1 t) p q := by
  rw [outsAt0_B m c t ht (by omega)]
  frame_open
  simp (disch := decide) only [↓ View.readCov_skip, ↓ View.readCov_cons_toLoadRect, ↓ View.readCov_fill]
  frame_out
  simp only [read_unread_whole]
  exact pay_at _ _ _ p q

/-- The last point of a block writes the sum out, with the block of the third argument added. -/
theorem out_B (c : Dev nD) (t : Fin cfg0.N) (ht : t.val % 2 = 1) (p : Fin 512) (q : Fin 1024) :
    (outsAt0 m c t.val t.isLt).1 (ix2 p q) = (outsAt0 m c t.val t.isLt).2 (ix2 p q) + (show Vec Ideal S512x1024 .f32 from iblk m c 2 t) (ix2 p q) := by
  rw [acc_B m c t (by omega), outsAt0_B m c t (by omega) ht]
  frame_open
  simp (disch := decide) only [↓ View.readCov_skip, ↓ View.readCov_cons_toLoadRect, ↓ View.readCov_fill]
  frame_out
  simp only [read_unread_whole]
  unfold k0_pay3
  exact congrArg (· + _) (pay_at _ _ _ p q)

/-- The gradient of the values as launched. -/
abbrev a0 (c : Dev nD) (r : Fin 512) (e : Fin 1024) : EReal := m ((c : Thread nD τ).loc main_arg0) (ix2 r e)
/-- The weight as launched, in four slots of 512 columns. -/
abbrev a1 (c : Dev nD) (s : Fin 4) (r : Fin 1024) (e : Fin 512) : EReal := m ((c : Thread nD τ).loc main_arg1) (ix3 s r e)
/-- The gradient so far, as launched. -/
abbrev a2 (c : Dev nD) (r : Fin 512) (e : Fin 1024) : EReal := m ((c : Thread nD τ).loc main_arg2) (ix2 r e)

/-- The gradient of the memory: a row times the weight's row, the columns in two slots, and the gradient so far. -/
def grad (x : Fin 512 → Fin 1024 → EReal) (y : Fin 4 → Fin 1024 → Fin 512 → EReal) (z : Fin 512 → Fin 1024 → EReal) (p : Fin 512) (q : Fin 1024) : EReal :=
  z p q + ∑ e : Fin 1024, x p e * y ⟨2 + e.val / 512, by omega⟩ q ⟨e.val % 512, by omega⟩

/-- Row `p` of point `t`'s blocks as a row of the memory. -/
abbrev tokn (t : Fin cfg0.N) (p : Fin 512) : Fin 512 :=
  ⟨t.val / 2 * 512 + p.val, by have : t.val < 2 := lt_of_lt_of_eq t.isLt Gen.N_0; omega⟩
/-- Column `e` of point `t`'s block. -/
abbrev col (t : Fin cfg0.N) (e : Fin 512) : Fin 1024 := ⟨t.val % 2 * 512 + e.val, by omega⟩

theorem blk0 (c : Dev nD) (t : Fin cfg0.N) (p : Fin 512) (e : Fin 512) :
    iblk m c 0 t (ix2 p e) = a0 m c (tokn t p) (col t e) := by
  unfold a0
  blk_ext [iblk, V, idx0 t]
theorem blk1 (c : Dev nD) (t : Fin cfg0.N) (q : Fin 1024) (e : Fin 512) :
    iblk m c 1 t (ix3 0 q e) = a1 m c ⟨2 + t.val % 2, by omega⟩ q e := by
  unfold a1
  blk_ext [iblk, V, idx1 t]
theorem blk2 (c : Dev nD) (t : Fin cfg0.N) (p : Fin 512) (q : Fin 1024) :
    (show Vec Ideal S512x1024 .f32 from iblk m c 2 t) (ix2 p q) = a2 m c (tokn t p) q := by
  unfold a2
  blk_ext [iblk, V, idx2 t]

/-- At a block's last point the accumulator holds the whole sum. -/
theorem sum_at (c : Dev nD) (t : Fin cfg0.N) (ht : t.val % 2 = 1) (p : Fin 512) (q : Fin 1024) :
    (outsAt0 m c t.val t.isLt).2 (ix2 p q)
      = ∑ e : Fin 1024, a0 m c (tokn t p) e * a1 m c ⟨2 + e.val / 512, by omega⟩ q ⟨e.val % 512, by omega⟩ := by
  have hN : t.val < 2 := lt_of_lt_of_eq t.isLt Gen.N_0
  have e := Pipeline.eq_sum_fin_of_reset_step_of_flush (M := EReal)
    (fun n hn => (outsAt0 m c n hn).2 (ix2 p q)) 2 0 _
    (fun t ht => acc_A m c t ht p q) (fun t ht => acc_B m c t ht p q) t ht
  refine e.trans ((zero_add _).trans ?_)
  unfold part
  refine Fin.sum_mul_add_congr fun s r hl => ?_
  rw [blk0, blk1]
  have hs := s.isLt
  have hr := r.isLt
  have e1 : tokn ⟨2 * (t.val / 2) + s.val, lt_of_lt_of_eq (by omega) Gen.N_0.symm⟩ p = tokn t p :=
    Fin.ext (by show (2 * (t.val / 2) + s.val) / 2 * 512 + p.val = t.val / 2 * 512 + p.val; omega)
  have e2 : col ⟨2 * (t.val / 2) + s.val, lt_of_lt_of_eq (by omega) Gen.N_0.symm⟩ r
      = ⟨s.val * 512 + r.val, hl⟩ :=
    Fin.ext (by show (2 * (t.val / 2) + s.val) % 2 * 512 + r.val = s.val * 512 + r.val; omega)
  have e3 : (⟨2 + (2 * (t.val / 2) + s.val) % 2, by omega⟩ : Fin 4) = ⟨2 + (s.val * 512 + r.val) / 512, by omega⟩ :=
    Fin.ext (by show 2 + (2 * (t.val / 2) + s.val) % 2 = 2 + (s.val * 512 + r.val) / 512; omega)
  have e4 : r = ⟨(s.val * 512 + r.val) % 512, by omega⟩ := Fin.ext (by show r.val = (s.val * 512 + r.val) % 512; omega)
  exact congrArg₂ (· * ·) (congrArg₂ (a0 m c) e1 e2) (congrArg₂ (fun s r => a1 m c s q r) e3 e4)

/-- The kernel's result array after the run. -/
theorem arr3 (c : Dev nD) : (dats m 0 c).arrAt 3 cfg0.N = fun i => grad (a0 m c) (a1 m c) (a2 m c) (i 0) (i 1) := by
  refine (dats m 0 c).arrAt_eq_of_covers 3 _ (by decide +kernel) fun t hf y => ?_
  blk_simp
  rw [after0_3]
  obtain ⟨p, q, rfl⟩ : ∃ (p : Fin 512) (q : Fin 1024), y = ix2 p q := ⟨y 0, y 1, eq_ix2 y⟩
  have hy : ((cfg0.win 3).blk t).view.emb (ix2 p q) = (ix2 (tokn t p) q : S512x1024.Idx) := by
    blk_ext [idx3 t]
  refine Eq.trans ?_ (congrArg (fun i : S512x1024.Idx => grad (a0 m c) (a1 m c) (a2 m c) (i 0) (i 1)) hy).symm
  refine (out_B m c t ((flush0_3 t).mp hf) p q).trans ?_
  rw [sum_at m c t ((flush0_3 t).mp hf) p q, blk2, add_comm]
  rfl

end Cert.DxMemVIdeal.Slots

namespace Cert.DxMemVRefIdeal.Slots

open Cert.DxMemVRefIdeal Cert.DxMemVRefIdeal.Gen

/-- The weight's two slots side by side. -/
def weight (y : FVec Ideal S4x1024x512 .bf16) : FVec Ideal S1024x1024 .f32 :=
  concatenate S1024x1024 1 [⟨S1024x512, (shapeCast _ (extractStridedSlice S1x1024x512 ![2, 0, 0] (extf .f32 y bitsLt_bf16_f32) slices_S4x1024x512_S1x1024x512_2_0_0) shapeCasts_S1x1024x512_S1024x512)⟩, ⟨S1024x512, (shapeCast _ (extractStridedSlice S1x1024x512 ![3, 0, 0] (extf .f32 y bitsLt_bf16_f32) slices_S4x1024x512_S1x1024x512_3_0_0) shapeCasts_S1x1024x512_S1024x512)⟩] concatenates_S1024x512_S1024x512_S1024x1024_d1

theorem weight_at (y : FVec Ideal S4x1024x512 .bf16) (q : Fin 1024) (e : Fin 1024) :
    weight y (ix2 q e) = y (ix3 ⟨2 + e.val / 512, by omega⟩ q ⟨e.val % 512, by omega⟩) := by
  pointwise [weight]
  split_ifs with h
  · have h1 : (⟨2 + e.val / 512, by omega⟩ : Fin 4) = 2 := Fin.ext (by show 2 + e.val / 512 = 2; omega)
    have h2 : (⟨e.val % 512, by omega⟩ : Fin 512) = ⟨e.val, h⟩ := Fin.ext (by show e.val % 512 = e.val; omega)
    rw [h1, h2]
  · have h1 : (⟨2 + e.val / 512, by omega⟩ : Fin 4) = 3 := Fin.ext (by show 2 + e.val / 512 = 3; omega)
    have h2 : (⟨e.val % 512, by omega⟩ : Fin 512) = ⟨e.val - 512, by omega⟩ :=
      Fin.ext (by show e.val % 512 = e.val - 512; omega)
    rw [h1, h2]
  · exact absurd rfl ‹_›

/-- The reference's result. -/
def out (x : FVec Ideal S512x1024 .bf16) (y : FVec Ideal S4x1024x512 .bf16) (z : FVec Ideal S512x1024 .f32) : FVec Ideal S512x1024 .f32 :=
  addf z (Host.dotGeneral dot_S512x1024_S1024x1024_S512x1024_1_1_0_0_n_n none (extf .f32 x bitsLt_bf16_f32) (weight y))

theorem out_at (x : FVec Ideal S512x1024 .bf16) (y : FVec Ideal S4x1024x512 .bf16) (z : FVec Ideal S512x1024 .f32) (p : Fin 512) (q : Fin 1024) :
    out x y z (ix2 p q) = Cert.DxMemVIdeal.Slots.grad (fun r e => x (ix2 r e)) (fun s r e => y (ix3 s r e)) (fun r e => z (ix2 r e)) p q := by
  unfold Cert.DxMemVIdeal.Slots.grad
  pointwise [out]
  simp only [weight_at]

end Cert.DxMemVRefIdeal.Slots

namespace Cert.DxMemV.Claims

/-- The reference's frame: its generated run, read at the arguments. -/
theorem frame_ref : Cert.quiescent_DxMemVRefIdeal := fun m ρ _ =>
  (θ_run Cert.DxMemVRefIdeal.defs _ _).mono (fun _ h => ⟨fun c => (h c).2, Idealize.ShloMosaic.sem_eq_zero_of_no_sems (by decide) _⟩)
    (Cert.DxMemVRefIdeal.Value.run m ρ)

/-- The kernel's result is the reference's over the extended reals. -/
theorem value : Cert.algebraic_DxMemVIdeal_DxMemVRefIdeal := fun m ρ m' ρ' _ hag =>
  ⟨fun c => (Cert.DxMemVIdeal.Gen.dats m 0 c).arrAt 3 Cert.DxMemVIdeal.cfg0.N,
    Cert.DxMemVIdeal.Value.run_blocks m ρ,
    (θ_run _ _ _).mono (fun _ h c => by
      obtain ⟨h0, hr⟩ := h c
      obtain ⟨a0, a1, a2⟩ := hag c
      refine ⟨h0.trans ?_, hr⟩
      rw [a0, a1, a2]
      exact (ext2 (Cert.DxMemVRefIdeal.Slots.out_at _ _ _)).trans (Cert.DxMemVIdeal.Slots.arr3 m c).symm)
      (Cert.DxMemVRefIdeal.Value.run m' ρ')⟩

end Cert.DxMemV.Claims

end
end
-- ==== Proof.Slots.MemV.lean ====
/-
  The memory attention's values, forward: the 512 rows of the memory times one of the weight's two slots of 512 columns at a
  point; the reference is one product.
-/
module

public import proofs.«01_k».proof.Proof.Kit
public import proofs.«01_k».proof.Proof.Gen.MemV.Frame
public import proofs.«01_k».proof.Proof.Gen.MemVIdeal.Value
public import proofs.«01_k».proof.Proof.Gen.MemVRefIdeal.Run
public import proofs.«01_k».proof.Proof.Slots.DxMemV

@[expose] public section

set_option maxRecDepth 16384

noncomputable section

open Idealize.ShloMosaic Idealize.ShloMosaic.TcCoe Idealize.SL.Sem Cert.Common

namespace Cert.MemVIdeal.Slots

open Cert.MemVIdeal Cert.MemVIdeal.Gen

variable (m : (ℓ : Loc nD τ sig) → Buf (Elt Ideal) ℓ)

theorem idx0 : ∀ t : Fin grid0.N, win0_0.index t = ![t.val / 2, 0] := by decide +kernel
theorem idx1 : ∀ t : Fin grid0.N, win0_1.index t = ![2 + t.val % 2, 0, 0] := by decide +kernel
theorem idx2 : ∀ t : Fin grid0.N, win0_2.index t = ![t.val / 2, t.val % 2] := by decide +kernel

/-- A point's block: its rows times the weight's slot. -/
theorem out_point (c : Dev nD) (t : Fin cfg0.N) (p : Fin 512) (q : Fin 512) :
    outsAt0 m c t (ix2 p q)
      = ∑ e : Fin 1024, (show Vec Ideal S512x1024 .bf16 from iblk m c 0 t) (ix2 p e)
          * (show Vec Ideal S1x1024x512 .bf16 from iblk m c 1 t) (ix3 0 e q) := by
  unfold outsAt0
  frame_open
  simp (disch := decide) only [↓ View.readCov_skip, ↓ View.readCov_cons_toLoadRect, ↓ View.readCov_fill]
  frame_out
  pointwise [k0_pay3, k0_pay2, k0_pay1]

/-- The memory as launched. -/
abbrev a0 (c : Dev nD) (r : Fin 512) (e : Fin 1024) : EReal := m ((c : Thread nD τ).loc main_arg0) (ix2 r e)
/-- The weight as launched, in four slots of 512 columns. -/
abbrev a1 (c : Dev nD) (s : Fin 4) (r : Fin 1024) (e : Fin 512) : EReal := m ((c : Thread nD τ).loc main_arg1) (ix3 s r e)

/-- The two slots of the values side by side. -/
def side (y : Fin 4 → Fin 1024 → Fin 512 → EReal) (e : Fin 1024) (q : Fin 1024) : EReal :=
  y ⟨2 + q.val / 512, by omega⟩ e ⟨q.val % 512, by omega⟩

/-- Row `p` of point `t`'s blocks as a row of the memory. -/
abbrev tokn (t : Fin cfg0.N) (p : Fin 512) : Fin 512 :=
  ⟨t.val / 2 * 512 + p.val, by have : t.val < 2 := lt_of_lt_of_eq t.isLt Gen.N_0; omega⟩
/-- Column `q` of point `t`'s block as a column of the array. -/
abbrev col (t : Fin cfg0.N) (q : Fin 512) : Fin 1024 := ⟨t.val % 2 * 512 + q.val, by omega⟩

theorem blk0 (c : Dev nD) (t : Fin cfg0.N) (p : Fin 512) (e : Fin 1024) :
    (show Vec Ideal S512x1024 .bf16 from iblk m c 0 t) (ix2 p e) = a0 m c (tokn t p) e := by
  unfold a0
  blk_ext [iblk, V, idx0 t]
theorem blk1 (c : Dev nD) (t : Fin cfg0.N) (e : Fin 1024) (q : Fin 512) :
    (show Vec Ideal S1x1024x512 .bf16 from iblk m c 1 t) (ix3 0 e q) = a1 m c ⟨2 + t.val % 2, by omega⟩ e q := by
  unfold a1
  blk_ext [iblk, V, idx1 t]

theorem side_at (c : Dev nD) (t : Fin cfg0.N) (e : Fin 1024) (q : Fin 512) :
    side (a1 m c) e (col t q) = a1 m c ⟨2 + t.val % 2, by omega⟩ e q := by
  have h1 : (⟨2 + (t.val % 2 * 512 + q.val) / 512, by omega⟩ : Fin 4) = ⟨2 + t.val % 2, by omega⟩ :=
    Fin.ext (by show 2 + (t.val % 2 * 512 + q.val) / 512 = 2 + t.val % 2; omega)
  have h2 : (⟨(t.val % 2 * 512 + q.val) % 512, by omega⟩ : Fin 512) = q :=
    Fin.ext (by show (t.val % 2 * 512 + q.val) % 512 = q.val; omega)
  exact congrArg₂ (fun s r => a1 m c s e r) h1 h2

/-- The kernel's result array after the run. -/
theorem arr (c : Dev nD) : (dats m 0 c).arrAt 2 cfg0.N = fun i => mat (a0 m c) (side (a1 m c)) (i 0) (i 1) := by
  refine (dats m 0 c).arrAt_eq_of_covers 2 _ (by decide +kernel) fun t hf y => ?_
  blk_simp
  rw [after0_2]
  obtain ⟨p, q, rfl⟩ : ∃ (p : Fin 512) (q : Fin 512), y = ix2 p q := ⟨y 0, y 1, eq_ix2 y⟩
  have hy : ((cfg0.win 2).blk t).view.emb (ix2 p q) = (ix2 (tokn t p) (col t q) : S512x1024.Idx) := by
    blk_ext [idx2 t]
  refine Eq.trans ?_ (congrArg (fun i : S512x1024.Idx => mat (a0 m c) (side (a1 m c)) (i 0) (i 1)) hy).symm
  refine (out_point m c t p q).trans (Finset.sum_congr rfl fun e _ => ?_)
  exact congrArg₂ (· * ·) (blk0 m c t p e) ((blk1 m c t e q).trans (side_at m c t e q).symm)

end Cert.MemVIdeal.Slots

namespace Cert.MemVRefIdeal.Slots

open Cert.MemVRefIdeal Cert.MemVRefIdeal.Gen

/-- The reference's result; the weight's slots side by side as in the backward product's reference. -/
def out (x : FVec Ideal S512x1024 .bf16) (y : FVec Ideal S4x1024x512 .bf16) : FVec Ideal S512x1024 .bf16 :=
  truncf .bf16 (Host.dotGeneral dot_S512x1024_S1024x1024_S512x1024_1_0_0_1_n_n none (extf .f32 x bitsLt_bf16_f32) (Cert.DxMemVRefIdeal.Slots.weight y)) bitsLt_bf16_f32

theorem out_at (x : FVec Ideal S512x1024 .bf16) (y : FVec Ideal S4x1024x512 .bf16) (p : Fin 512) (q : Fin 1024) :
    out x y (ix2 p q) = mat (fun r e => x (ix2 r e)) (Cert.MemVIdeal.Slots.side fun s r e => y (ix3 s r e)) p q := by
  unfold mat Cert.MemVIdeal.Slots.side
  pointwise [out]
  exact Finset.sum_congr rfl fun e _ => congrArg (_ * ·) (Cert.DxMemVRefIdeal.Slots.weight_at y e q)

end Cert.MemVRefIdeal.Slots

namespace Cert.MemV.Claims

/-- The reference's frame: its generated run, read at the arguments. -/
theorem frame_ref : Cert.quiescent_MemVRefIdeal := fun m ρ _ =>
  (θ_run Cert.MemVRefIdeal.defs _ _).mono (fun _ h => ⟨fun c => (h c).2, Idealize.ShloMosaic.sem_eq_zero_of_no_sems (by decide) _⟩)
    (Cert.MemVRefIdeal.Value.run m ρ)

/-- The kernel's result is the reference's over the extended reals. -/
theorem value : Cert.algebraic_MemVIdeal_MemVRefIdeal := fun m ρ m' ρ' _ hag =>
  ⟨fun c => (Cert.MemVIdeal.Gen.dats m 0 c).arrAt 2 Cert.MemVIdeal.cfg0.N,
    Cert.MemVIdeal.Value.run_blocks m ρ,
    (θ_run _ _ _).mono (fun _ h c => by
      obtain ⟨h0, hr⟩ := h c
      obtain ⟨a0, a1⟩ := hag c
      refine ⟨h0.trans ?_, hr⟩
      rw [a0, a1]
      exact (ext2 (Cert.MemVRefIdeal.Slots.out_at _ _)).trans (Cert.MemVIdeal.Slots.arr m c).symm)
      (Cert.MemVRefIdeal.Value.run m' ρ')⟩

end Cert.MemV.Claims

end
end
-- ==== Proof.Stack.DwMemK.lean ====
/-
  The gradient of the weight of the memory attention's keys: products of the memory's columns with the gradient's columns,
  a block of 512 by 512 at a point, written as two slots; the reference is one sum over the memory's rows.
-/
module

public import proofs.«01_k».proof.Proof.Kit
public import proofs.«01_k».proof.Proof.Gen.DwMemK.Frame
public import proofs.«01_k».proof.Proof.Gen.DwMemKIdeal.Frame
public import proofs.«01_k».proof.Proof.Gen.DwMemKRefIdeal.Run

@[expose] public section

set_option maxRecDepth 16384

noncomputable section

open Idealize.ShloMosaic Idealize.ShloMosaic.TcCoe Idealize.SL.Sem Cert.Common

namespace Cert.DwMemKIdeal.Stack

open Cert.DwMemKIdeal Cert.DwMemKIdeal.Gen

variable (m : (ℓ : Loc nD τ sig) → Buf (Elt Ideal) ℓ)

theorem idx0 : ∀ t : Fin grid0.N, win0_0.index t = ![0, t.val / 2] := by decide +kernel
theorem idx1 : ∀ t : Fin grid0.N, win0_1.index t = ![0, t.val % 2] := by decide +kernel
theorem idx2 : ∀ t : Fin grid0.N, win0_2.index t = ![0 + t.val % 2, t.val / 2, 0] := by decide +kernel

/-- A point's block: the sum over the 512 rows of the memory. -/
theorem out_point (c : Dev nD) (t : Fin cfg0.N) (p : Fin 512) (q : Fin 512) :
    outsAt0 m c t (ix3 0 p q)
      = ∑ r : Fin 512, (show Vec Ideal S512x512 .bf16 from iblk m c 0 t) (ix2 r p)
          * (show Vec Ideal S512x512 .bf16 from iblk m c 1 t) (ix2 r q) := by
  unfold outsAt0
  frame_open
  simp (disch := decide) only [↓ View.readCov_skip, ↓ View.readCov_cons_toLoadRect, ↓ View.readCov_fill]
  frame_out
  pointwise [k0_pay3, k0_pay2, k0_pay1]

/-- The product's input as launched. -/
abbrev a0 (c : Dev nD) (r : Fin 512) (e : Fin 1024) : EReal := m ((c : Thread nD τ).loc main_arg0) (ix2 r e)
/-- The gradient of the product's result as launched. -/
abbrev a1 (c : Dev nD) (r : Fin 512) (e : Fin 1024) : EReal := m ((c : Thread nD τ).loc main_arg1) (ix2 r e)

/-- Row `p` of point `t`'s output block as a row of the weight. -/
abbrev orow (t : Fin cfg0.N) (p : Fin 512) : Fin 1024 :=
  ⟨t.val / 2 * 512 + p.val, by have : t.val < 4 := lt_of_lt_of_eq t.isLt Gen.N_0; omega⟩
/-- Column `q` of point `t`'s output block as a column of the weight. -/
abbrev ocol (t : Fin cfg0.N) (q : Fin 512) : Fin 1024 := ⟨t.val % 2 * 512 + q.val, by omega⟩
theorem blk0 (c : Dev nD) (t : Fin cfg0.N) (r : Fin 512) (p : Fin 512) :
    iblk m c 0 t (ix2 r p) = a0 m c r (orow t p) := by
  unfold a0
  blk_ext [iblk, V, idx0 t]
theorem blk1 (c : Dev nD) (t : Fin cfg0.N) (r : Fin 512) (q : Fin 512) :
    iblk m c 1 t (ix2 r q) = a1 m c r (ocol t q) := by
  unfold a1
  blk_ext [iblk, V, idx1 t]

theorem out_slot (c : Dev nD) (t : Fin cfg0.N) (p : Fin 512) (q : Fin 512) :
    outsAt0 m c t (ix3 0 p q) = mat (fun p r => a0 m c r p) (a1 m c) (orow t p) (ocol t q) := by
  refine (out_point m c t p q).trans ?_
  unfold mat
  exact Finset.sum_congr rfl fun r _ => congrArg₂ (· * ·) (blk0 m c t r p) (blk1 m c t r q)

/-- The product's columns, cut into slots of 512. -/
def stack (x : Fin 1024 → Fin 512 → EReal) (y : Fin 512 → Fin 1024 → EReal) (s : Fin 4) (p : Fin 1024) (q : Fin 512) : EReal :=
  mat x y p ⟨s.val % 2 * 512 + q.val, by omega⟩

/-- The kernel's result in the slots that the call writes. -/
theorem arr (c : Dev nD) (s : Fin 2) (p : Fin 1024) (q : Fin 512) :
    (dats m 0 c).arrAt 2 cfg0.N (ix3 ⟨s.val, by omega⟩ p q : S4x1024x512.Idx)
      = mat (fun p r => a0 m c r p) (a1 m c) p ⟨s.val * 512 + q.val, by omega⟩ := by
  refine ((dats m 0 c).arrAt_apply_of_coversWhere 2
    (fun i : S4x1024x512.Idx => stack (fun p r => a0 m c r p) (a1 m c) (i 0) (i 1) (i 2))
    (P := fun i : S4x1024x512.Idx => (i 0).val < 2) (fun β => β (0 : Fin 3) < 2) (by decide +kernel) (fun t hf y => ?_)
    (fun j => by show (j 0).val < 2 ↔ (j 0).val / 1 < 2; omega) _).trans ?_
  · blk_simp
    rw [after0_2]
    obtain ⟨p, q, rfl⟩ : ∃ (p : Fin 512) (q : Fin 512), y = ix3 0 p q :=
      ⟨y 1, y 2, (eq_ix3 y).trans (congrArg (fun s => ix3 s (y 1) (y 2)) (Fin.fin_one_eq_zero (y 0)))⟩
    have hb : 0 + t.val % 2 < 4 := by omega
    have hy : ((cfg0.win 2).blk t).view.emb (ix3 0 p q) = (ix3 ⟨0 + t.val % 2, hb⟩ (orow t p) q : S4x1024x512.Idx) := by
      blk_ext [idx2 t]
    refine Eq.trans ?_ (congrArg (fun i : S4x1024x512.Idx =>
      stack (fun p r => a0 m c r p) (a1 m c) (i 0) (i 1) (i 2)) hy).symm
    refine (out_slot m c t p q).trans ?_
    exact congrArg (mat _ _ _) (Fin.ext (by
      show t.val % 2 * 512 + q.val = (0 + t.val % 2) % 2 * 512 + q.val; omega))
  · refine (if_pos s.isLt).trans (congrArg (mat _ _ _) (Fin.ext ?_))
    show s.val % 2 * 512 + q.val = s.val * 512 + q.val
    omega

/-- What the program returns: the written slots. -/
abbrev res (c : Dev nD) : FVec Ideal S2x1024x512 .bf16 :=
  extractStridedSlice S2x1024x512 ![0, 0, 0] ((dats m 0 c).arrAt 2 cfg0.N) slices_S4x1024x512_S2x1024x512_0_0_0

theorem res_at (c : Dev nD) (s : Fin 2) (p : Fin 1024) (q : Fin 512) :
    res m c (ix3 s p q) = mat (fun p r => a0 m c r p) (a1 m c) p ⟨s.val * 512 + q.val, by omega⟩ := by
  refine Eq.trans ?_ (arr m c s p q)
  pointwise [res]

/-- The host's slice after the region reads the call's result. -/
theorem tail_v1 (c : Dev nD) : Pipeline.afterTail₀ cfgs (dats m) 0 (V0 m) [hostOps1] c main_v1 = res m c := by
  unfold Pipeline.afterTail₀ hostOps1
  simp only [List.flatten_cons, List.flatten_nil, List.append_nil]
  after_results
  have e : (Pipeline.withArrays spec0 c (V0 m c) (fun w => (dats m 0 c).arrAt w cfg0.N) (Proc.devRef .tc main_v0) : FVec Ideal S4x1024x512 .bf16)
      = (dats m 0 c).arrAt 2 cfg0.N := Pipeline.withArrays_arr spec0 winFacts0.arr_inj c (V0 m c) (fun w => (dats m 0 c).arrAt w cfg0.N) 2
  unfold res
  rw [← e]

/-- The run, read at the result and at the arguments. -/
theorem run (ρ : Dev nD → PrngReg) : θ_run defs (onTc (τ := τ) (main (F := Ideal))) ⟨m, fun _ => 0, ρ⟩ fun r => ∀ c : Dev nD,
    r.2.mem ((c.tc : Thread nD τ).loc main_v1) = res m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).2 main_v1 (Pipeline.mem_restRefs_of main_v1 (by decide) (by decide))).trans (tail_v1 m c), h.2 c⟩)
    (θ_run_and (run_main m ρ) (unchanged m ρ))

end Cert.DwMemKIdeal.Stack

namespace Cert.DwMemKRefIdeal.Stack

open Cert.DwMemKRefIdeal Cert.DwMemKRefIdeal.Gen

/-- The weight's gradient. -/
def grad (x : FVec Ideal S512x1024 .bf16) (y : FVec Ideal S512x1024 .bf16) : FVec Ideal S1024x1024 .bf16 :=
  truncf .bf16 (transpose S1024x1024 [1, 0] (Host.dotGeneral dot_S512x1024_S512x1024_S1024x1024_0_0_1_1_n_n none (extf .f32 y bitsLt_bf16_f32) (extf .f32 x bitsLt_bf16_f32)) transposes_S1024x1024_S1024x1024_1_0) bitsLt_bf16_f32

theorem grad_at (x : FVec Ideal S512x1024 .bf16) (y : FVec Ideal S512x1024 .bf16) (p : Fin 1024) (q : Fin 1024) :
    grad x y (ix2 p q) = mat (fun p r => x (ix2 r p)) (fun r e => y (ix2 r e)) p q := by
  unfold mat
  pointwise [grad]
  exact Finset.sum_congr rfl fun r _ => mul_comm _ _

/-- The reference's result: the gradient's halves as two slots. -/
def out (x : FVec Ideal S512x1024 .bf16) (y : FVec Ideal S512x1024 .bf16) : FVec Ideal S2x1024x512 .bf16 :=
  concatenate S2x1024x512 0 [⟨S1x1024x512, (broadcastInDim S1x1024x512 ![1, 2] bcast_S1024x512_S1x1024x512_1_2 (extractStridedSlice S1024x512 ![0, 0] (grad x y) slices_S1024x1024_S1024x512_0_0))⟩, ⟨S1x1024x512, (broadcastInDim S1x1024x512 ![1, 2] bcast_S1024x512_S1x1024x512_1_2 (extractStridedSlice S1024x512 ![0, 512] (grad x y) slices_S1024x1024_S1024x512_0_512))⟩] concatenates_S1x1024x512_S1x1024x512_S2x1024x512_d0

theorem out_at (x : FVec Ideal S512x1024 .bf16) (y : FVec Ideal S512x1024 .bf16) (s : Fin 2) (p : Fin 1024) (q : Fin 512) :
    out x y (ix3 s p q) = mat (fun p r => x (ix2 r p)) (fun r e => y (ix2 r e)) p ⟨s.val * 512 + q.val, by omega⟩ := by
  refine Eq.trans ?_ (grad_at x y p ⟨s.val * 512 + q.val, by omega⟩)
  match s with
  | 0 => pointwise [out]
  | 1 => pointwise [out]

end Cert.DwMemKRefIdeal.Stack

namespace Cert.DwMemK.Claims

/-- The reference's frame: its generated run, read at the arguments. -/
theorem frame_ref : Cert.quiescent_DwMemKRefIdeal := fun m ρ _ =>
  (θ_run Cert.DwMemKRefIdeal.defs _ _).mono (fun _ h => ⟨fun c => (h c).2, Idealize.ShloMosaic.sem_eq_zero_of_no_sems (by decide) _⟩)
    (Cert.DwMemKRefIdeal.Value.run m ρ)

/-- The kernel's result is the reference's over the extended reals. -/
theorem value : Cert.algebraic_DwMemKIdeal_DwMemKRefIdeal := fun m ρ m' ρ' _ hag =>
  ⟨fun c => Cert.DwMemKIdeal.Stack.res m c,
    Cert.DwMemKIdeal.Stack.run m ρ,
    (θ_run _ _ _).mono (fun _ h c => by
      obtain ⟨h0, hr⟩ := h c
      obtain ⟨a0, a1⟩ := hag c
      refine ⟨h0.trans ?_, hr⟩
      rw [a0, a1]
      exact (ext3 (Cert.DwMemKRefIdeal.Stack.out_at _ _)).trans (ext3 (Cert.DwMemKIdeal.Stack.res_at m c)).symm)
      (Cert.DwMemKRefIdeal.Value.run m' ρ')⟩

end Cert.DwMemK.Claims

end
end
-- ==== Proof.Stack.DwMemV.lean ====
/-
  The gradient of the weight of the memory attention's values, written into the last two of four slots; the first two keep
  what the keys' call left in them.
-/
module

public import proofs.«01_k».proof.Proof.Kit
public import proofs.«01_k».proof.Proof.Gen.DwMemV.Frame
public import proofs.«01_k».proof.Proof.Gen.DwMemVIdeal.Value
public import proofs.«01_k».proof.Proof.Gen.DwMemVRefIdeal.Run

@[expose] public section

set_option maxRecDepth 16384

noncomputable section

open Idealize.ShloMosaic Idealize.ShloMosaic.TcCoe Idealize.SL.Sem Cert.Common

namespace Cert.DwMemVIdeal.Stack

open Cert.DwMemVIdeal Cert.DwMemVIdeal.Gen

variable (m : (ℓ : Loc nD τ sig) → Buf (Elt Ideal) ℓ)

theorem idx0 : ∀ t : Fin grid0.N, win0_0.index t = ![0, t.val / 2] := by decide +kernel
theorem idx1 : ∀ t : Fin grid0.N, win0_1.index t = ![0, t.val % 2] := by decide +kernel
theorem idx2 : ∀ t : Fin grid0.N, win0_2.index t = ![2 + t.val % 2, t.val / 2, 0] := by decide +kernel

/-- A point's block: the sum over the 512 rows of the memory. -/
theorem out_point (c : Dev nD) (t : Fin cfg0.N) (p : Fin 512) (q : Fin 512) :
    outsAt0 m c t (ix3 0 p q)
      = ∑ r : Fin 512, (show Vec Ideal S512x512 .bf16 from iblk m c 0 t) (ix2 r p)
          * (show Vec Ideal S512x512 .bf16 from iblk m c 1 t) (ix2 r q) := by
  unfold outsAt0
  frame_open
  simp (disch := decide) only [↓ View.readCov_skip, ↓ View.readCov_cons_toLoadRect, ↓ View.readCov_fill]
  frame_out
  pointwise [k0_pay3, k0_pay2, k0_pay1]

/-- The product's input as launched. -/
abbrev a0 (c : Dev nD) (r : Fin 512) (e : Fin 1024) : EReal := m ((c : Thread nD τ).loc main_arg0) (ix2 r e)
/-- The gradient of the product's result as launched. -/
abbrev a1 (c : Dev nD) (r : Fin 512) (e : Fin 1024) : EReal := m ((c : Thread nD τ).loc main_arg1) (ix2 r e)

/-- Row `p` of point `t`'s output block as a row of the weight. -/
abbrev orow (t : Fin cfg0.N) (p : Fin 512) : Fin 1024 :=
  ⟨t.val / 2 * 512 + p.val, by have : t.val < 4 := lt_of_lt_of_eq t.isLt Gen.N_0; omega⟩
/-- Column `q` of point `t`'s output block as a column of the weight. -/
abbrev ocol (t : Fin cfg0.N) (q : Fin 512) : Fin 1024 := ⟨t.val % 2 * 512 + q.val, by omega⟩
theorem blk0 (c : Dev nD) (t : Fin cfg0.N) (r : Fin 512) (p : Fin 512) :
    iblk m c 0 t (ix2 r p) = a0 m c r (orow t p) := by
  unfold a0
  rw [← V_main_arg0 m c]
  blk_ext [iblk, idx0 t]
theorem blk1 (c : Dev nD) (t : Fin cfg0.N) (r : Fin 512) (q : Fin 512) :
    iblk m c 1 t (ix2 r q) = a1 m c r (ocol t q) := by
  unfold a1
  rw [← V_main_arg1 m c]
  blk_ext [iblk, idx1 t]

theorem out_slot (c : Dev nD) (t : Fin cfg0.N) (p : Fin 512) (q : Fin 512) :
    outsAt0 m c t (ix3 0 p q) = mat (fun p r => a0 m c r p) (a1 m c) (orow t p) (ocol t q) := by
  refine (out_point m c t p q).trans ?_
  unfold mat
  exact Finset.sum_congr rfl fun r _ => congrArg₂ (· * ·) (blk0 m c t r p) (blk1 m c t r q)

/-- The four slots as launched. -/
abbrev a2 (c : Dev nD) (s : Fin 4) (p : Fin 1024) (q : Fin 512) : EReal := m ((c : Thread nD τ).loc main_arg2) (ix3 s p q)

/-- The region finds the four slots' copy as the slots were launched. -/
theorem V_v0 (c : Dev nD) : V m c main_v0 = m ((c : Thread nD τ).loc main_arg2) := by
  unfold V hostOps0
  after_results
  rfl

/-- The product's columns in the last two slots of the four; the others as they were. -/
def stack (x : Fin 1024 → Fin 512 → EReal) (y : Fin 512 → Fin 1024 → EReal) (b : Fin 4 → Fin 1024 → Fin 512 → EReal)
    (s : Fin 4) (p : Fin 1024) (q : Fin 512) : EReal :=
  if h : 2 ≤ s.val ∧ s.val < 4 then mat x y p ⟨(s.val - 2) * 512 + q.val, by omega⟩ else b s p q

section
variable (x : Fin 1024 → Fin 512 → EReal) (y : Fin 512 → Fin 1024 → EReal) (b : Fin 4 → Fin 1024 → Fin 512 → EReal)

theorem stack_in (s : Fin 4) (p : Fin 1024) (q : Fin 512) (k : Fin 1024) (h : 2 ≤ s.val ∧ s.val < 4)
    (hk : k.val = (s.val - 2) * 512 + q.val) : mat x y p k = stack x y b s p q :=
  by
  unfold stack
  rw [dif_pos h]
  exact congrArg (mat x y p) (Fin.ext hk)

theorem stack_out (s : Fin 4) (p : Fin 1024) (q : Fin 512) (h : ¬ (2 ≤ s.val ∧ s.val < 4)) :
    b s p q = stack x y b s p q := by
  unfold stack
  rw [dif_neg h]

end

/-- The kernel's result array after the run. -/
theorem arr (c : Dev nD) : (dats m 0 c).arrAt 2 cfg0.N
    = fun i => stack (fun p r => a0 m c r p) (a1 m c) (a2 m c) (i 0) (i 1) (i 2) := by
  refine (dats m 0 c).arrAt_eq_of_coversWhere_of_agree 2 _ (fun β => 2 ≤ β (0 : Fin 3) ∧ β (0 : Fin 3) < 4)
    (by decide +kernel) (fun t hf y => ?_) (fun j hj => ?_)
  · blk_simp
    rw [after0_2]
    obtain ⟨p, q, rfl⟩ : ∃ (p : Fin 512) (q : Fin 512), y = ix3 0 p q :=
      ⟨y 1, y 2, (eq_ix3 y).trans (congrArg (fun s => ix3 s (y 1) (y 2)) (Fin.fin_one_eq_zero (y 0)))⟩
    have hb : 2 + t.val % 2 < 4 := by omega
    have hy : ((cfg0.win 2).blk t).view.emb (ix3 0 p q) = (ix3 ⟨2 + t.val % 2, hb⟩ (orow t p) q : S4x1024x512.Idx) := by
      blk_ext [idx2 t]
    refine Eq.trans ?_ (congrArg (fun i : S4x1024x512.Idx =>
      stack (fun p r => a0 m c r p) (a1 m c) (a2 m c) (i 0) (i 1) (i 2)) hy).symm
    refine (out_slot m c t p q).trans ?_
    exact stack_in _ _ _ _ _ _ _ (show 2 ≤ 2 + t.val % 2 ∧ 2 + t.val % 2 < 4 by omega)
      (by show t.val % 2 * 512 + q.val = (2 + t.val % 2 - 2) * 512 + q.val; omega)
  · obtain ⟨s, p, q, rfl⟩ : ∃ (s : Fin 4) (p : Fin 1024) (q : Fin 512), j = ix3 s p q := ⟨j 0, j 1, j 2, eq_ix3 j⟩
    have hj' : ¬ (2 ≤ s.val ∧ s.val < 4) := fun h => hj (by
      show 2 ≤ s.val / 1 ∧ s.val / 1 < 4
      omega)
    exact (congrFun (V_v0 m c) (ix3 s p q)).trans (stack_out _ _ (a2 m c) s p q hj')

end Cert.DwMemVIdeal.Stack

namespace Cert.DwMemVRefIdeal.Stack

open Cert.DwMemVRefIdeal Cert.DwMemVRefIdeal.Gen

/-- The weight's gradient. -/
def grad (x : FVec Ideal S512x1024 .bf16) (y : FVec Ideal S512x1024 .bf16) : FVec Ideal S1024x1024 .bf16 :=
  truncf .bf16 (transpose S1024x1024 [1, 0] (Host.dotGeneral dot_S512x1024_S512x1024_S1024x1024_0_0_1_1_n_n none (extf .f32 y bitsLt_bf16_f32) (extf .f32 x bitsLt_bf16_f32)) transposes_S1024x1024_S1024x1024_1_0) bitsLt_bf16_f32

theorem grad_at (x : FVec Ideal S512x1024 .bf16) (y : FVec Ideal S512x1024 .bf16) (p : Fin 1024) (q : Fin 1024) :
    grad x y (ix2 p q) = mat (fun p r => x (ix2 r p)) (fun r e => y (ix2 r e)) p q := by
  unfold mat
  pointwise [grad]
  exact Finset.sum_congr rfl fun r _ => mul_comm _ _

/-- The reference's result: the gradient's halves as two slots, after the first two as they were. -/
def out (x : FVec Ideal S512x1024 .bf16) (y : FVec Ideal S512x1024 .bf16) (b : FVec Ideal S4x1024x512 .bf16) : FVec Ideal S4x1024x512 .bf16 :=
  concatenate S4x1024x512 0 [⟨S2x1024x512, (extractStridedSlice S2x1024x512 ![0, 0, 0] b slices_S4x1024x512_S2x1024x512_0_0_0)⟩, ⟨S2x1024x512, (concatenate S2x1024x512 0 [⟨S1x1024x512, (broadcastInDim S1x1024x512 ![1, 2] bcast_S1024x512_S1x1024x512_1_2 (extractStridedSlice S1024x512 ![0, 0] (grad x y) slices_S1024x1024_S1024x512_0_0))⟩, ⟨S1x1024x512, (broadcastInDim S1x1024x512 ![1, 2] bcast_S1024x512_S1x1024x512_1_2 (extractStridedSlice S1024x512 ![0, 512] (grad x y) slices_S1024x1024_S1024x512_0_512))⟩] concatenates_S1x1024x512_S1x1024x512_S2x1024x512_d0)⟩] concatenates_S2x1024x512_S2x1024x512_S4x1024x512_d0

theorem out_at (x : FVec Ideal S512x1024 .bf16) (y : FVec Ideal S512x1024 .bf16) (b : FVec Ideal S4x1024x512 .bf16)
    (s : Fin 4) (p : Fin 1024) (q : Fin 512) :
    out x y b (ix3 s p q) = Cert.DwMemVIdeal.Stack.stack (fun p r => x (ix2 r p)) (fun r e => y (ix2 r e)) (fun s p q => b (ix3 s p q)) s p q := by
  match s with
  | 0 => refine Eq.trans ?_ (Cert.DwMemVIdeal.Stack.stack_out _ _ _ _ _ _ (by decide)); pointwise [out]
  | 1 => refine Eq.trans ?_ (Cert.DwMemVIdeal.Stack.stack_out _ _ _ _ _ _ (by decide)); pointwise [out]
  | 2 =>
    refine Eq.trans ?_ ((grad_at x y p ⟨0 * 512 + q.val, by omega⟩).trans (Cert.DwMemVIdeal.Stack.stack_in _ _ _ _ _ _ _ (by decide) rfl))
    pointwise [out]
  | 3 =>
    refine Eq.trans ?_ ((grad_at x y p ⟨1 * 512 + q.val, by omega⟩).trans (Cert.DwMemVIdeal.Stack.stack_in _ _ _ _ _ _ _ (by decide) rfl))
    pointwise [out]

end Cert.DwMemVRefIdeal.Stack

namespace Cert.DwMemV.Claims

/-- The reference's frame: its generated run, read at the arguments. -/
theorem frame_ref : Cert.quiescent_DwMemVRefIdeal := fun m ρ _ =>
  (θ_run Cert.DwMemVRefIdeal.defs _ _).mono (fun _ h => ⟨fun c => (h c).2, Idealize.ShloMosaic.sem_eq_zero_of_no_sems (by decide) _⟩)
    (Cert.DwMemVRefIdeal.Value.run m ρ)

/-- The kernel's result is the reference's over the extended reals. -/
theorem value : Cert.algebraic_DwMemVIdeal_DwMemVRefIdeal := fun m ρ m' ρ' _ hag =>
  ⟨fun c => (Cert.DwMemVIdeal.Gen.dats m 0 c).arrAt 2 Cert.DwMemVIdeal.cfg0.N,
    Cert.DwMemVIdeal.Value.run_blocks m ρ,
    (θ_run _ _ _).mono (fun _ h c => by
      obtain ⟨h0, hr⟩ := h c
      obtain ⟨a0, a1, a2⟩ := hag c
      refine ⟨h0.trans ?_, hr⟩
      rw [a0, a1, a2]
      exact (ext3 (Cert.DwMemVRefIdeal.Stack.out_at _ _ _)).trans (Cert.DwMemVIdeal.Stack.arr m c).symm)
      (Cert.DwMemVRefIdeal.Value.run m' ρ')⟩

end Cert.DwMemV.Claims

end
end
-- ==== Proof.lean ====
/-
  The proof of `Cert.Claim`: for each call the frames of the kernel, of its idealization and of the
  reference, and that the kernel's results are the reference's over the extended reals. The proofs are in Proof/Attn/,
  Proof/Ffn/, Proof/Proj/ and Proof/Cols/.
-/
module

public import proofs.«01_k».proof.Defs
public import proofs.«01_k».proof.Proof.Gen.AttnBwd
public import proofs.«01_k».proof.Proof.Gen.AttnBwd.Skeleton
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnBwdRefIdeal
public import proofs.«01_k».proof.Proof.Gen.AttnBwdIdeal.Value
public import proofs.«01_k».proof.Proof.Gen.AttnBwdRefIdeal.Run
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DxDown
public import proofs.«01_k».proof.Proof.Gen.DxDown.Skeleton
public import proofs.«01_k».proof.Proof.Gen.DxDown.Launch
public import proofs.«01_k».proof.Proof.Gen.DxDown.Points
public import proofs.«01_k».proof.Proof.Gen.DxDown.Frame
public import proofs.«01_k».proof.Proof.Gen.DxDownIdeal
public import proofs.«01_k».proof.Proof.Gen.DxDownIdeal.Skeleton
public import proofs.«01_k».proof.Proof.Gen.DxDownIdeal.Launch
public import proofs.«01_k».proof.Proof.Gen.DxDownIdeal.Points
public import proofs.«01_k».proof.Proof.Gen.DxDownIdeal.Frame
public import proofs.«01_k».proof.Proof.Gen.DxGate
public import proofs.«01_k».proof.Proof.Gen.DxGate.Skeleton
public import proofs.«01_k».proof.Proof.Gen.DxGate.Launch
public import proofs.«01_k».proof.Proof.Gen.DxGate.Points
public import proofs.«01_k».proof.Proof.Gen.DxGate.Frame
public import proofs.«01_k».proof.Proof.Gen.DxGateIdeal
public import proofs.«01_k».proof.Proof.Gen.DxGateIdeal.Skeleton
public import proofs.«01_k».proof.Proof.Gen.DxGateIdeal.Launch
public import proofs.«01_k».proof.Proof.Gen.DxGateIdeal.Points
public import proofs.«01_k».proof.Proof.Gen.DxGateIdeal.Frame
public import proofs.«01_k».proof.Proof.Gen.DxUp
public import proofs.«01_k».proof.Proof.Gen.DxUp.Skeleton
public import proofs.«01_k».proof.Proof.Gen.DxUp.Launch
public import proofs.«01_k».proof.Proof.Gen.DxUp.Points
public import proofs.«01_k».proof.Proof.Gen.DxUp.Frame
public import proofs.«01_k».proof.Proof.Gen.DxUpIdeal
public import proofs.«01_k».proof.Proof.Gen.DxUpIdeal.Skeleton
public import proofs.«01_k».proof.Proof.Gen.DxUpIdeal.Launch
public import proofs.«01_k».proof.Proof.Gen.DxUpIdeal.Points
public import proofs.«01_k».proof.Proof.Gen.DxUpIdeal.Frame
public import proofs.«01_k».proof.Proof.Gen.DwDownRefIdeal
public import proofs.«01_k».proof.Proof.Gen.DxDownRefIdeal
public import proofs.«01_k».proof.Proof.Gen.DxGateRefIdeal
public import proofs.«01_k».proof.Proof.Gen.DxUpRefIdeal
public import proofs.«01_k».proof.Proof.Gen.DwDownIdeal.Value
public import proofs.«01_k».proof.Proof.Gen.DwDownRefIdeal.Run
public import proofs.«01_k».proof.Proof.Gen.DxDownIdeal.Value
public import proofs.«01_k».proof.Proof.Gen.DxDownRefIdeal.Run
public import proofs.«01_k».proof.Proof.Gen.DxGateIdeal.Value
public import proofs.«01_k».proof.Proof.Gen.DxGateRefIdeal.Run
public import proofs.«01_k».proof.Proof.Gen.DxUpIdeal.Value
public import proofs.«01_k».proof.Proof.Gen.DxUpRefIdeal.Run
public import proofs.«01_k».proof.Proof.Gen.GluBwd
public import proofs.«01_k».proof.Proof.Gen.GluBwd.Skeleton
public import proofs.«01_k».proof.Proof.Gen.GluBwd.Launch
public import proofs.«01_k».proof.Proof.Gen.GluBwd.Points
public import proofs.«01_k».proof.Proof.Gen.GluBwd.Frame
public import proofs.«01_k».proof.Proof.Gen.GluBwdIdeal
public import proofs.«01_k».proof.Proof.Gen.GluBwdIdeal.Skeleton
public import proofs.«01_k».proof.Proof.Gen.GluBwdIdeal.Launch
public import proofs.«01_k».proof.Proof.Gen.GluBwdIdeal.Points
public import proofs.«01_k».proof.Proof.Gen.GluBwdIdeal.Frame
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.ConvBwd
public import proofs.«01_k».proof.Proof.Gen.ConvBwd.Skeleton
public import proofs.«01_k».proof.Proof.Gen.ConvBwd.Launch
public import proofs.«01_k».proof.Proof.Gen.ConvBwd.Points
public import proofs.«01_k».proof.Proof.Gen.ConvBwd.Frame
public import proofs.«01_k».proof.Proof.Gen.ConvBwdIdeal
public import proofs.«01_k».proof.Proof.Gen.ConvBwdIdeal.Skeleton
public import proofs.«01_k».proof.Proof.Gen.ConvBwdIdeal.Launch
public import proofs.«01_k».proof.Proof.Gen.ConvBwdIdeal.Points
public import proofs.«01_k».proof.Proof.Gen.ConvBwdIdeal.Frame
public import proofs.«01_k».proof.Proof.Gen.GluBwdRefIdeal
public import proofs.«01_k».proof.Proof.Gen.NormBwdRefIdeal
public import proofs.«01_k».proof.Proof.Gen.ConvBwdRefIdeal
public import proofs.«01_k».proof.Proof.Gen.GluBwdIdeal.Value
public import proofs.«01_k».proof.Proof.Gen.GluBwdRefIdeal.Run
public import proofs.«01_k».proof.Proof.Gen.NormBwdIdeal.Value
public import proofs.«01_k».proof.Proof.Gen.NormBwdRefIdeal.Run
public import proofs.«01_k».proof.Proof.Gen.ConvBwdIdeal.Value
public import proofs.«01_k».proof.Proof.Gen.ConvBwdRefIdeal.Run
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownRefIdeal
public import proofs.«01_k».proof.Proof.Gen.FfnDownIdeal.Value
public import proofs.«01_k».proof.Proof.Gen.FfnDownRefIdeal.Run
public import proofs.«01_k».proof.Proof.Gen.FfnGate
public import proofs.«01_k».proof.Proof.Gen.FfnGate.Skeleton
public import proofs.«01_k».proof.Proof.Gen.FfnGate.Launch
public import proofs.«01_k».proof.Proof.Gen.FfnGate.Points
public import proofs.«01_k».proof.Proof.Gen.FfnGate.Frame
public import proofs.«01_k».proof.Proof.Gen.FfnGateIdeal
public import proofs.«01_k».proof.Proof.Gen.FfnGateIdeal.Skeleton
public import proofs.«01_k».proof.Proof.Gen.FfnGateIdeal.Launch
public import proofs.«01_k».proof.Proof.Gen.FfnGateIdeal.Points
public import proofs.«01_k».proof.Proof.Gen.FfnGateIdeal.Frame
public import proofs.«01_k».proof.Proof.Gen.FfnGateRefIdeal
public import proofs.«01_k».proof.Proof.Gen.FfnGateIdeal.Value
public import proofs.«01_k».proof.Proof.Gen.FfnGateRefIdeal.Run
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpRefIdeal
public import proofs.«01_k».proof.Proof.Gen.FfnUpIdeal.Value
public import proofs.«01_k».proof.Proof.Gen.FfnUpRefIdeal.Run
public import proofs.«01_k».proof.Proof.Gen.ProjIn
public import proofs.«01_k».proof.Proof.Gen.ProjIn.Skeleton
public import proofs.«01_k».proof.Proof.Gen.ProjIn.Launch
public import proofs.«01_k».proof.Proof.Gen.ProjIn.Points
public import proofs.«01_k».proof.Proof.Gen.ProjIn.Frame
public import proofs.«01_k».proof.Proof.Gen.ProjInIdeal
public import proofs.«01_k».proof.Proof.Gen.ProjInIdeal.Skeleton
public import proofs.«01_k».proof.Proof.Gen.ProjInIdeal.Launch
public import proofs.«01_k».proof.Proof.Gen.ProjInIdeal.Points
public import proofs.«01_k».proof.Proof.Gen.ProjInIdeal.Frame
public import proofs.«01_k».proof.Proof.Gen.ProjInRefIdeal
public import proofs.«01_k».proof.Proof.Gen.ProjInIdeal.Value
public import proofs.«01_k».proof.Proof.Gen.ProjInRefIdeal.Run
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInRefIdeal
public import proofs.«01_k».proof.Proof.Gen.DwInIdeal.Value
public import proofs.«01_k».proof.Proof.Gen.DwInRefIdeal.Run
public import proofs.«01_k».proof.Proof.Gen.DxIn
public import proofs.«01_k».proof.Proof.Gen.DxIn.Skeleton
public import proofs.«01_k».proof.Proof.Gen.DxIn.Launch
public import proofs.«01_k».proof.Proof.Gen.DxIn.Points
public import proofs.«01_k».proof.Proof.Gen.DxIn.Frame
public import proofs.«01_k».proof.Proof.Gen.DxInIdeal
public import proofs.«01_k».proof.Proof.Gen.DxInIdeal.Skeleton
public import proofs.«01_k».proof.Proof.Gen.DxInIdeal.Launch
public import proofs.«01_k».proof.Proof.Gen.DxInIdeal.Points
public import proofs.«01_k».proof.Proof.Gen.DxInIdeal.Frame
public import proofs.«01_k».proof.Proof.Gen.DxInRefIdeal
public import proofs.«01_k».proof.Proof.Gen.DxInIdeal.Value
public import proofs.«01_k».proof.Proof.Gen.DxInRefIdeal.Run
public import proofs.«01_k».proof.Proof.Gen.DxInNext
public import proofs.«01_k».proof.Proof.Gen.DxInNext.Skeleton
public import proofs.«01_k».proof.Proof.Gen.DxInNext.Launch
public import proofs.«01_k».proof.Proof.Gen.DxInNext.Points
public import proofs.«01_k».proof.Proof.Gen.DxInNext.Frame
public import proofs.«01_k».proof.Proof.Gen.DxInNextIdeal
public import proofs.«01_k».proof.Proof.Gen.DxInNextIdeal.Skeleton
public import proofs.«01_k».proof.Proof.Gen.DxInNextIdeal.Launch
public import proofs.«01_k».proof.Proof.Gen.DxInNextIdeal.Points
public import proofs.«01_k».proof.Proof.Gen.DxInNextIdeal.Frame
public import proofs.«01_k».proof.Proof.Gen.DxInNextRefIdeal
public import proofs.«01_k».proof.Proof.Gen.DxInNextIdeal.Value
public import proofs.«01_k».proof.Proof.Gen.DxInNextRefIdeal.Run
public import proofs.«01_k».proof.Proof.Gen.ProjOut
public import proofs.«01_k».proof.Proof.Gen.ProjOut.Skeleton
public import proofs.«01_k».proof.Proof.Gen.ProjOut.Launch
public import proofs.«01_k».proof.Proof.Gen.ProjOut.Points
public import proofs.«01_k».proof.Proof.Gen.ProjOut.Frame
public import proofs.«01_k».proof.Proof.Gen.ProjOutIdeal
public import proofs.«01_k».proof.Proof.Gen.ProjOutIdeal.Skeleton
public import proofs.«01_k».proof.Proof.Gen.ProjOutIdeal.Launch
public import proofs.«01_k».proof.Proof.Gen.ProjOutIdeal.Points
public import proofs.«01_k».proof.Proof.Gen.ProjOutIdeal.Frame
public import proofs.«01_k».proof.Proof.Gen.ProjOutRefIdeal
public import proofs.«01_k».proof.Proof.Gen.ProjOutIdeal.Value
public import proofs.«01_k».proof.Proof.Gen.ProjOutRefIdeal.Run
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutRefIdeal
public import proofs.«01_k».proof.Proof.Gen.DwOutIdeal.Value
public import proofs.«01_k».proof.Proof.Gen.DwOutRefIdeal.Run
public import proofs.«01_k».proof.Proof.Gen.DxOut
public import proofs.«01_k».proof.Proof.Gen.DxOut.Skeleton
public import proofs.«01_k».proof.Proof.Gen.DxOut.Launch
public import proofs.«01_k».proof.Proof.Gen.DxOut.Points
public import proofs.«01_k».proof.Proof.Gen.DxOut.Frame
public import proofs.«01_k».proof.Proof.Gen.DxOutIdeal
public import proofs.«01_k».proof.Proof.Gen.DxOutIdeal.Skeleton
public import proofs.«01_k».proof.Proof.Gen.DxOutIdeal.Launch
public import proofs.«01_k».proof.Proof.Gen.DxOutIdeal.Points
public import proofs.«01_k».proof.Proof.Gen.DxOutIdeal.Frame
public import proofs.«01_k».proof.Proof.Gen.DxOutRefIdeal
public import proofs.«01_k».proof.Proof.Gen.DxOutIdeal.Value
public import proofs.«01_k».proof.Proof.Gen.DxOutRefIdeal.Run
public import proofs.«01_k».proof.Proof.Gen.SqIn
public import proofs.«01_k».proof.Proof.Gen.SqIn.Skeleton
public import proofs.«01_k».proof.Proof.Gen.SqIn.Launch
public import proofs.«01_k».proof.Proof.Gen.SqIn.Points
public import proofs.«01_k».proof.Proof.Gen.SqIn.Frame
public import proofs.«01_k».proof.Proof.Gen.SqInIdeal
public import proofs.«01_k».proof.Proof.Gen.SqInIdeal.Skeleton
public import proofs.«01_k».proof.Proof.Gen.SqInIdeal.Launch
public import proofs.«01_k».proof.Proof.Gen.SqInIdeal.Points
public import proofs.«01_k».proof.Proof.Gen.SqInIdeal.Frame
public import proofs.«01_k».proof.Proof.Gen.SqInRefIdeal
public import proofs.«01_k».proof.Proof.Gen.SqInIdeal.Value
public import proofs.«01_k».proof.Proof.Gen.SqInRefIdeal.Run
public import proofs.«01_k».proof.Proof.Gen.SqDwIn
public import proofs.«01_k».proof.Proof.Gen.SqDwIn.Skeleton
public import proofs.«01_k».proof.Proof.Gen.SqDwIn.Launch
public import proofs.«01_k».proof.Proof.Gen.SqDwIn.Points
public import proofs.«01_k».proof.Proof.Gen.SqDwIn.Frame
public import proofs.«01_k».proof.Proof.Gen.SqDwInIdeal
public import proofs.«01_k».proof.Proof.Gen.SqDwInIdeal.Skeleton
public import proofs.«01_k».proof.Proof.Gen.SqDwInIdeal.Launch
public import proofs.«01_k».proof.Proof.Gen.SqDwInIdeal.Points
public import proofs.«01_k».proof.Proof.Gen.SqDwInIdeal.Frame
public import proofs.«01_k».proof.Proof.Gen.SqDwInRefIdeal
public import proofs.«01_k».proof.Proof.Gen.SqDwInIdeal.Value
public import proofs.«01_k».proof.Proof.Gen.SqDwInRefIdeal.Run
public import proofs.«01_k».proof.Proof.Gen.SqDxIn
public import proofs.«01_k».proof.Proof.Gen.SqDxIn.Skeleton
public import proofs.«01_k».proof.Proof.Gen.SqDxIn.Launch
public import proofs.«01_k».proof.Proof.Gen.SqDxIn.Points
public import proofs.«01_k».proof.Proof.Gen.SqDxIn.Frame
public import proofs.«01_k».proof.Proof.Gen.SqDxInIdeal
public import proofs.«01_k».proof.Proof.Gen.SqDxInIdeal.Skeleton
public import proofs.«01_k».proof.Proof.Gen.SqDxInIdeal.Launch
public import proofs.«01_k».proof.Proof.Gen.SqDxInIdeal.Points
public import proofs.«01_k».proof.Proof.Gen.SqDxInIdeal.Frame
public import proofs.«01_k».proof.Proof.Gen.SqDxInRefIdeal
public import proofs.«01_k».proof.Proof.Gen.SqDxInIdeal.Value
public import proofs.«01_k».proof.Proof.Gen.SqDxInRefIdeal.Run
public import proofs.«01_k».proof.Proof.Gen.SqDxInNext
public import proofs.«01_k».proof.Proof.Gen.SqDxInNext.Skeleton
public import proofs.«01_k».proof.Proof.Gen.SqDxInNext.Launch
public import proofs.«01_k».proof.Proof.Gen.SqDxInNext.Points
public import proofs.«01_k».proof.Proof.Gen.SqDxInNext.Frame
public import proofs.«01_k».proof.Proof.Gen.SqDxInNextIdeal
public import proofs.«01_k».proof.Proof.Gen.SqDxInNextIdeal.Skeleton
public import proofs.«01_k».proof.Proof.Gen.SqDxInNextIdeal.Launch
public import proofs.«01_k».proof.Proof.Gen.SqDxInNextIdeal.Points
public import proofs.«01_k».proof.Proof.Gen.SqDxInNextIdeal.Frame
public import proofs.«01_k».proof.Proof.Gen.SqDxInNextRefIdeal
public import proofs.«01_k».proof.Proof.Gen.SqDxInNextIdeal.Value
public import proofs.«01_k».proof.Proof.Gen.SqDxInNextRefIdeal.Run
public import proofs.«01_k».proof.Proof.Gen.SqQuery
public import proofs.«01_k».proof.Proof.Gen.SqQuery.Skeleton
public import proofs.«01_k».proof.Proof.Gen.SqQuery.Launch
public import proofs.«01_k».proof.Proof.Gen.SqQuery.Points
public import proofs.«01_k».proof.Proof.Gen.SqQuery.Frame
public import proofs.«01_k».proof.Proof.Gen.SqQueryIdeal
public import proofs.«01_k».proof.Proof.Gen.SqQueryIdeal.Skeleton
public import proofs.«01_k».proof.Proof.Gen.SqQueryIdeal.Launch
public import proofs.«01_k».proof.Proof.Gen.SqQueryIdeal.Points
public import proofs.«01_k».proof.Proof.Gen.SqQueryIdeal.Frame
public import proofs.«01_k».proof.Proof.Gen.SqQueryRefIdeal
public import proofs.«01_k».proof.Proof.Gen.SqQueryIdeal.Value
public import proofs.«01_k».proof.Proof.Gen.SqQueryRefIdeal.Run
public import proofs.«01_k».proof.Proof.Gen.SqOut
public import proofs.«01_k».proof.Proof.Gen.SqOut.Skeleton
public import proofs.«01_k».proof.Proof.Gen.SqOut.Launch
public import proofs.«01_k».proof.Proof.Gen.SqOut.Points
public import proofs.«01_k».proof.Proof.Gen.SqOut.Frame
public import proofs.«01_k».proof.Proof.Gen.SqOutIdeal
public import proofs.«01_k».proof.Proof.Gen.SqOutIdeal.Skeleton
public import proofs.«01_k».proof.Proof.Gen.SqOutIdeal.Launch
public import proofs.«01_k».proof.Proof.Gen.SqOutIdeal.Points
public import proofs.«01_k».proof.Proof.Gen.SqOutIdeal.Frame
public import proofs.«01_k».proof.Proof.Gen.SqOutRefIdeal
public import proofs.«01_k».proof.Proof.Gen.SqOutIdeal.Value
public import proofs.«01_k».proof.Proof.Gen.SqOutRefIdeal.Run
public import proofs.«01_k».proof.Proof.Gen.SqDwOut
public import proofs.«01_k».proof.Proof.Gen.SqDwOut.Skeleton
public import proofs.«01_k».proof.Proof.Gen.SqDwOut.Launch
public import proofs.«01_k».proof.Proof.Gen.SqDwOut.Points
public import proofs.«01_k».proof.Proof.Gen.SqDwOut.Frame
public import proofs.«01_k».proof.Proof.Gen.SqDwOutIdeal
public import proofs.«01_k».proof.Proof.Gen.SqDwOutIdeal.Skeleton
public import proofs.«01_k».proof.Proof.Gen.SqDwOutIdeal.Launch
public import proofs.«01_k».proof.Proof.Gen.SqDwOutIdeal.Points
public import proofs.«01_k».proof.Proof.Gen.SqDwOutIdeal.Frame
public import proofs.«01_k».proof.Proof.Gen.SqDwOutRefIdeal
public import proofs.«01_k».proof.Proof.Gen.SqDwOutIdeal.Value
public import proofs.«01_k».proof.Proof.Gen.SqDwOutRefIdeal.Run
public import proofs.«01_k».proof.Proof.Gen.SqDxOut
public import proofs.«01_k».proof.Proof.Gen.SqDxOut.Skeleton
public import proofs.«01_k».proof.Proof.Gen.SqDxOut.Launch
public import proofs.«01_k».proof.Proof.Gen.SqDxOut.Points
public import proofs.«01_k».proof.Proof.Gen.SqDxOut.Frame
public import proofs.«01_k».proof.Proof.Gen.SqDxOutIdeal
public import proofs.«01_k».proof.Proof.Gen.SqDxOutIdeal.Skeleton
public import proofs.«01_k».proof.Proof.Gen.SqDxOutIdeal.Launch
public import proofs.«01_k».proof.Proof.Gen.SqDxOutIdeal.Points
public import proofs.«01_k».proof.Proof.Gen.SqDxOutIdeal.Frame
public import proofs.«01_k».proof.Proof.Gen.SqDxOutRefIdeal
public import proofs.«01_k».proof.Proof.Gen.SqDxOutIdeal.Value
public import proofs.«01_k».proof.Proof.Gen.SqDxOutRefIdeal.Run
public import proofs.«01_k».proof.Proof.Gen.DwGate
public import proofs.«01_k».proof.Proof.Gen.DwGate.Skeleton
public import proofs.«01_k».proof.Proof.Gen.DwGate.Launch
public import proofs.«01_k».proof.Proof.Gen.DwGate.Points
public import proofs.«01_k».proof.Proof.Gen.DwGate.Frame
public import proofs.«01_k».proof.Proof.Gen.DwGateIdeal
public import proofs.«01_k».proof.Proof.Gen.DwGateIdeal.Skeleton
public import proofs.«01_k».proof.Proof.Gen.DwGateIdeal.Launch
public import proofs.«01_k».proof.Proof.Gen.DwGateIdeal.Points
public import proofs.«01_k».proof.Proof.Gen.DwGateIdeal.Frame
public import proofs.«01_k».proof.Proof.Gen.DwGateRefIdeal
public import proofs.«01_k».proof.Proof.Gen.DwGateRefIdeal.Run
public import proofs.«01_k».proof.Proof.Gen.DwUp
public import proofs.«01_k».proof.Proof.Gen.DwUp.Skeleton
public import proofs.«01_k».proof.Proof.Gen.DwUp.Launch
public import proofs.«01_k».proof.Proof.Gen.DwUp.Points
public import proofs.«01_k».proof.Proof.Gen.DwUp.Frame
public import proofs.«01_k».proof.Proof.Gen.DwUpIdeal
public import proofs.«01_k».proof.Proof.Gen.DwUpIdeal.Skeleton
public import proofs.«01_k».proof.Proof.Gen.DwUpIdeal.Launch
public import proofs.«01_k».proof.Proof.Gen.DwUpIdeal.Points
public import proofs.«01_k».proof.Proof.Gen.DwUpIdeal.Frame
public import proofs.«01_k».proof.Proof.Gen.DwUpRefIdeal
public import proofs.«01_k».proof.Proof.Gen.DwUpIdeal.Value
public import proofs.«01_k».proof.Proof.Gen.DwUpRefIdeal.Run
public import proofs.«01_k».proof.Proof.Gen.HgQ
public import proofs.«01_k».proof.Proof.Gen.HgQ.Skeleton
public import proofs.«01_k».proof.Proof.Gen.HgQ.Launch
public import proofs.«01_k».proof.Proof.Gen.HgQ.Points
public import proofs.«01_k».proof.Proof.Gen.HgQ.Frame
public import proofs.«01_k».proof.Proof.Gen.HgQIdeal
public import proofs.«01_k».proof.Proof.Gen.HgQIdeal.Skeleton
public import proofs.«01_k».proof.Proof.Gen.HgQIdeal.Launch
public import proofs.«01_k».proof.Proof.Gen.HgQIdeal.Points
public import proofs.«01_k».proof.Proof.Gen.HgQIdeal.Frame
public import proofs.«01_k».proof.Proof.Gen.HgQRefIdeal
public import proofs.«01_k».proof.Proof.Gen.HgQIdeal.Value
public import proofs.«01_k».proof.Proof.Gen.HgQRefIdeal.Run
public import proofs.«01_k».proof.Proof.Gen.HgF
public import proofs.«01_k».proof.Proof.Gen.HgF.Skeleton
public import proofs.«01_k».proof.Proof.Gen.HgF.Launch
public import proofs.«01_k».proof.Proof.Gen.HgF.Points
public import proofs.«01_k».proof.Proof.Gen.HgF.Frame
public import proofs.«01_k».proof.Proof.Gen.HgFIdeal
public import proofs.«01_k».proof.Proof.Gen.HgFIdeal.Skeleton
public import proofs.«01_k».proof.Proof.Gen.HgFIdeal.Launch
public import proofs.«01_k».proof.Proof.Gen.HgFIdeal.Points
public import proofs.«01_k».proof.Proof.Gen.HgFIdeal.Frame
public import proofs.«01_k».proof.Proof.Gen.HgFRefIdeal
public import proofs.«01_k».proof.Proof.Gen.HgFIdeal.Value
public import proofs.«01_k».proof.Proof.Gen.HgFRefIdeal.Run
public import proofs.«01_k».proof.Proof.Gen.HgI
public import proofs.«01_k».proof.Proof.Gen.HgI.Skeleton
public import proofs.«01_k».proof.Proof.Gen.HgI.Launch
public import proofs.«01_k».proof.Proof.Gen.HgI.Points
public import proofs.«01_k».proof.Proof.Gen.HgI.Frame
public import proofs.«01_k».proof.Proof.Gen.HgIIdeal
public import proofs.«01_k».proof.Proof.Gen.HgIIdeal.Skeleton
public import proofs.«01_k».proof.Proof.Gen.HgIIdeal.Launch
public import proofs.«01_k».proof.Proof.Gen.HgIIdeal.Points
public import proofs.«01_k».proof.Proof.Gen.HgIIdeal.Frame
public import proofs.«01_k».proof.Proof.Gen.HgIRefIdeal
public import proofs.«01_k».proof.Proof.Gen.HgIIdeal.Value
public import proofs.«01_k».proof.Proof.Gen.HgIRefIdeal.Run
public import proofs.«01_k».proof.Proof.Gen.HgG
public import proofs.«01_k».proof.Proof.Gen.HgG.Skeleton
public import proofs.«01_k».proof.Proof.Gen.HgG.Launch
public import proofs.«01_k».proof.Proof.Gen.HgG.Points
public import proofs.«01_k».proof.Proof.Gen.HgG.Frame
public import proofs.«01_k».proof.Proof.Gen.HgGIdeal
public import proofs.«01_k».proof.Proof.Gen.HgGIdeal.Skeleton
public import proofs.«01_k».proof.Proof.Gen.HgGIdeal.Launch
public import proofs.«01_k».proof.Proof.Gen.HgGIdeal.Points
public import proofs.«01_k».proof.Proof.Gen.HgGIdeal.Frame
public import proofs.«01_k».proof.Proof.Gen.HgGRefIdeal
public import proofs.«01_k».proof.Proof.Gen.HgGIdeal.Value
public import proofs.«01_k».proof.Proof.Gen.HgGRefIdeal.Run
public import proofs.«01_k».proof.Proof.Gen.DwHgQ
public import proofs.«01_k».proof.Proof.Gen.DwHgQ.Skeleton
public import proofs.«01_k».proof.Proof.Gen.DwHgQ.Launch
public import proofs.«01_k».proof.Proof.Gen.DwHgQ.Points
public import proofs.«01_k».proof.Proof.Gen.DwHgQ.Frame
public import proofs.«01_k».proof.Proof.Gen.DwHgQIdeal
public import proofs.«01_k».proof.Proof.Gen.DwHgQIdeal.Skeleton
public import proofs.«01_k».proof.Proof.Gen.DwHgQIdeal.Launch
public import proofs.«01_k».proof.Proof.Gen.DwHgQIdeal.Points
public import proofs.«01_k».proof.Proof.Gen.DwHgQIdeal.Frame
public import proofs.«01_k».proof.Proof.Gen.DwHgQRefIdeal
public import proofs.«01_k».proof.Proof.Gen.DwHgQRefIdeal.Run
public import proofs.«01_k».proof.Proof.Gen.DwHgF
public import proofs.«01_k».proof.Proof.Gen.DwHgF.Skeleton
public import proofs.«01_k».proof.Proof.Gen.DwHgF.Launch
public import proofs.«01_k».proof.Proof.Gen.DwHgF.Points
public import proofs.«01_k».proof.Proof.Gen.DwHgF.Frame
public import proofs.«01_k».proof.Proof.Gen.DwHgFIdeal
public import proofs.«01_k».proof.Proof.Gen.DwHgFIdeal.Skeleton
public import proofs.«01_k».proof.Proof.Gen.DwHgFIdeal.Launch
public import proofs.«01_k».proof.Proof.Gen.DwHgFIdeal.Points
public import proofs.«01_k».proof.Proof.Gen.DwHgFIdeal.Frame
public import proofs.«01_k».proof.Proof.Gen.DwHgFRefIdeal
public import proofs.«01_k».proof.Proof.Gen.DwHgFIdeal.Value
public import proofs.«01_k».proof.Proof.Gen.DwHgFRefIdeal.Run
public import proofs.«01_k».proof.Proof.Gen.DwHgI
public import proofs.«01_k».proof.Proof.Gen.DwHgI.Skeleton
public import proofs.«01_k».proof.Proof.Gen.DwHgI.Launch
public import proofs.«01_k».proof.Proof.Gen.DwHgI.Points
public import proofs.«01_k».proof.Proof.Gen.DwHgI.Frame
public import proofs.«01_k».proof.Proof.Gen.DwHgIIdeal
public import proofs.«01_k».proof.Proof.Gen.DwHgIIdeal.Skeleton
public import proofs.«01_k».proof.Proof.Gen.DwHgIIdeal.Launch
public import proofs.«01_k».proof.Proof.Gen.DwHgIIdeal.Points
public import proofs.«01_k».proof.Proof.Gen.DwHgIIdeal.Frame
public import proofs.«01_k».proof.Proof.Gen.DwHgIRefIdeal
public import proofs.«01_k».proof.Proof.Gen.DwHgIIdeal.Value
public import proofs.«01_k».proof.Proof.Gen.DwHgIRefIdeal.Run
public import proofs.«01_k».proof.Proof.Gen.DwHgG
public import proofs.«01_k».proof.Proof.Gen.DwHgG.Skeleton
public import proofs.«01_k».proof.Proof.Gen.DwHgG.Launch
public import proofs.«01_k».proof.Proof.Gen.DwHgG.Points
public import proofs.«01_k».proof.Proof.Gen.DwHgG.Frame
public import proofs.«01_k».proof.Proof.Gen.DwHgGIdeal
public import proofs.«01_k».proof.Proof.Gen.DwHgGIdeal.Skeleton
public import proofs.«01_k».proof.Proof.Gen.DwHgGIdeal.Launch
public import proofs.«01_k».proof.Proof.Gen.DwHgGIdeal.Points
public import proofs.«01_k».proof.Proof.Gen.DwHgGIdeal.Frame
public import proofs.«01_k».proof.Proof.Gen.DwHgGRefIdeal
public import proofs.«01_k».proof.Proof.Gen.DwHgGIdeal.Value
public import proofs.«01_k».proof.Proof.Gen.DwHgGRefIdeal.Run
public import proofs.«01_k».proof.Proof.Gen.DxHgQ
public import proofs.«01_k».proof.Proof.Gen.DxHgQ.Skeleton
public import proofs.«01_k».proof.Proof.Gen.DxHgQ.Launch
public import proofs.«01_k».proof.Proof.Gen.DxHgQ.Points
public import proofs.«01_k».proof.Proof.Gen.DxHgQ.Frame
public import proofs.«01_k».proof.Proof.Gen.DxHgQIdeal
public import proofs.«01_k».proof.Proof.Gen.DxHgQIdeal.Skeleton
public import proofs.«01_k».proof.Proof.Gen.DxHgQIdeal.Launch
public import proofs.«01_k».proof.Proof.Gen.DxHgQIdeal.Points
public import proofs.«01_k».proof.Proof.Gen.DxHgQIdeal.Frame
public import proofs.«01_k».proof.Proof.Gen.DxHgQRefIdeal
public import proofs.«01_k».proof.Proof.Gen.DxHgQIdeal.Value
public import proofs.«01_k».proof.Proof.Gen.DxHgQRefIdeal.Run
public import proofs.«01_k».proof.Proof.Gen.DxHgF
public import proofs.«01_k».proof.Proof.Gen.DxHgF.Skeleton
public import proofs.«01_k».proof.Proof.Gen.DxHgF.Launch
public import proofs.«01_k».proof.Proof.Gen.DxHgF.Points
public import proofs.«01_k».proof.Proof.Gen.DxHgF.Frame
public import proofs.«01_k».proof.Proof.Gen.DxHgFIdeal
public import proofs.«01_k».proof.Proof.Gen.DxHgFIdeal.Skeleton
public import proofs.«01_k».proof.Proof.Gen.DxHgFIdeal.Launch
public import proofs.«01_k».proof.Proof.Gen.DxHgFIdeal.Points
public import proofs.«01_k».proof.Proof.Gen.DxHgFIdeal.Frame
public import proofs.«01_k».proof.Proof.Gen.DxHgFRefIdeal
public import proofs.«01_k».proof.Proof.Gen.DxHgFIdeal.Value
public import proofs.«01_k».proof.Proof.Gen.DxHgFRefIdeal.Run
public import proofs.«01_k».proof.Proof.Gen.DxHgI
public import proofs.«01_k».proof.Proof.Gen.DxHgI.Skeleton
public import proofs.«01_k».proof.Proof.Gen.DxHgI.Launch
public import proofs.«01_k».proof.Proof.Gen.DxHgI.Points
public import proofs.«01_k».proof.Proof.Gen.DxHgI.Frame
public import proofs.«01_k».proof.Proof.Gen.DxHgIIdeal
public import proofs.«01_k».proof.Proof.Gen.DxHgIIdeal.Skeleton
public import proofs.«01_k».proof.Proof.Gen.DxHgIIdeal.Launch
public import proofs.«01_k».proof.Proof.Gen.DxHgIIdeal.Points
public import proofs.«01_k».proof.Proof.Gen.DxHgIIdeal.Frame
public import proofs.«01_k».proof.Proof.Gen.DxHgIRefIdeal
public import proofs.«01_k».proof.Proof.Gen.DxHgIIdeal.Value
public import proofs.«01_k».proof.Proof.Gen.DxHgIRefIdeal.Run
public import proofs.«01_k».proof.Proof.Gen.DxHgG
public import proofs.«01_k».proof.Proof.Gen.DxHgG.Skeleton
public import proofs.«01_k».proof.Proof.Gen.DxHgG.Launch
public import proofs.«01_k».proof.Proof.Gen.DxHgG.Points
public import proofs.«01_k».proof.Proof.Gen.DxHgG.Frame
public import proofs.«01_k».proof.Proof.Gen.DxHgGIdeal
public import proofs.«01_k».proof.Proof.Gen.DxHgGIdeal.Skeleton
public import proofs.«01_k».proof.Proof.Gen.DxHgGIdeal.Launch
public import proofs.«01_k».proof.Proof.Gen.DxHgGIdeal.Points
public import proofs.«01_k».proof.Proof.Gen.DxHgGIdeal.Frame
public import proofs.«01_k».proof.Proof.Gen.DxHgGRefIdeal
public import proofs.«01_k».proof.Proof.Gen.DxHgGIdeal.Value
public import proofs.«01_k».proof.Proof.Gen.DxHgGRefIdeal.Run
public import proofs.«01_k».proof.Proof.Gen.MemK
public import proofs.«01_k».proof.Proof.Gen.MemK.Skeleton
public import proofs.«01_k».proof.Proof.Gen.MemK.Launch
public import proofs.«01_k».proof.Proof.Gen.MemK.Points
public import proofs.«01_k».proof.Proof.Gen.MemK.Frame
public import proofs.«01_k».proof.Proof.Gen.MemKIdeal
public import proofs.«01_k».proof.Proof.Gen.MemKIdeal.Skeleton
public import proofs.«01_k».proof.Proof.Gen.MemKIdeal.Launch
public import proofs.«01_k».proof.Proof.Gen.MemKIdeal.Points
public import proofs.«01_k».proof.Proof.Gen.MemKIdeal.Frame
public import proofs.«01_k».proof.Proof.Gen.MemKRefIdeal
public import proofs.«01_k».proof.Proof.Gen.MemKIdeal.Value
public import proofs.«01_k».proof.Proof.Gen.MemKRefIdeal.Run
public import proofs.«01_k».proof.Proof.Gen.MemV
public import proofs.«01_k».proof.Proof.Gen.MemV.Skeleton
public import proofs.«01_k».proof.Proof.Gen.MemV.Launch
public import proofs.«01_k».proof.Proof.Gen.MemV.Points
public import proofs.«01_k».proof.Proof.Gen.MemV.Frame
public import proofs.«01_k».proof.Proof.Gen.MemVIdeal
public import proofs.«01_k».proof.Proof.Gen.MemVIdeal.Skeleton
public import proofs.«01_k».proof.Proof.Gen.MemVIdeal.Launch
public import proofs.«01_k».proof.Proof.Gen.MemVIdeal.Points
public import proofs.«01_k».proof.Proof.Gen.MemVIdeal.Frame
public import proofs.«01_k».proof.Proof.Gen.MemVRefIdeal
public import proofs.«01_k».proof.Proof.Gen.MemVIdeal.Value
public import proofs.«01_k».proof.Proof.Gen.MemVRefIdeal.Run
public import proofs.«01_k».proof.Proof.Gen.DwMemK
public import proofs.«01_k».proof.Proof.Gen.DwMemK.Skeleton
public import proofs.«01_k».proof.Proof.Gen.DwMemK.Launch
public import proofs.«01_k».proof.Proof.Gen.DwMemK.Points
public import proofs.«01_k».proof.Proof.Gen.DwMemK.Frame
public import proofs.«01_k».proof.Proof.Gen.DwMemKIdeal
public import proofs.«01_k».proof.Proof.Gen.DwMemKIdeal.Skeleton
public import proofs.«01_k».proof.Proof.Gen.DwMemKIdeal.Launch
public import proofs.«01_k».proof.Proof.Gen.DwMemKIdeal.Points
public import proofs.«01_k».proof.Proof.Gen.DwMemKIdeal.Frame
public import proofs.«01_k».proof.Proof.Gen.DwMemKRefIdeal
public import proofs.«01_k».proof.Proof.Gen.DwMemKRefIdeal.Run
public import proofs.«01_k».proof.Proof.Gen.DwMemV
public import proofs.«01_k».proof.Proof.Gen.DwMemV.Skeleton
public import proofs.«01_k».proof.Proof.Gen.DwMemV.Launch
public import proofs.«01_k».proof.Proof.Gen.DwMemV.Points
public import proofs.«01_k».proof.Proof.Gen.DwMemV.Frame
public import proofs.«01_k».proof.Proof.Gen.DwMemVIdeal
public import proofs.«01_k».proof.Proof.Gen.DwMemVIdeal.Skeleton
public import proofs.«01_k».proof.Proof.Gen.DwMemVIdeal.Launch
public import proofs.«01_k».proof.Proof.Gen.DwMemVIdeal.Points
public import proofs.«01_k».proof.Proof.Gen.DwMemVIdeal.Frame
public import proofs.«01_k».proof.Proof.Gen.DwMemVRefIdeal
public import proofs.«01_k».proof.Proof.Gen.DwMemVIdeal.Value
public import proofs.«01_k».proof.Proof.Gen.DwMemVRefIdeal.Run
public import proofs.«01_k».proof.Proof.Gen.DxMemK
public import proofs.«01_k».proof.Proof.Gen.DxMemK.Skeleton
public import proofs.«01_k».proof.Proof.Gen.DxMemK.Launch
public import proofs.«01_k».proof.Proof.Gen.DxMemK.Points
public import proofs.«01_k».proof.Proof.Gen.DxMemK.Frame
public import proofs.«01_k».proof.Proof.Gen.DxMemKIdeal
public import proofs.«01_k».proof.Proof.Gen.DxMemKIdeal.Skeleton
public import proofs.«01_k».proof.Proof.Gen.DxMemKIdeal.Launch
public import proofs.«01_k».proof.Proof.Gen.DxMemKIdeal.Points
public import proofs.«01_k».proof.Proof.Gen.DxMemKIdeal.Frame
public import proofs.«01_k».proof.Proof.Gen.DxMemKRefIdeal
public import proofs.«01_k».proof.Proof.Gen.DxMemKIdeal.Value
public import proofs.«01_k».proof.Proof.Gen.DxMemKRefIdeal.Run
public import proofs.«01_k».proof.Proof.Gen.DxMemV
public import proofs.«01_k».proof.Proof.Gen.DxMemV.Skeleton
public import proofs.«01_k».proof.Proof.Gen.DxMemV.Launch
public import proofs.«01_k».proof.Proof.Gen.DxMemV.Points
public import proofs.«01_k».proof.Proof.Gen.DxMemV.Frame
public import proofs.«01_k».proof.Proof.Gen.DxMemVIdeal
public import proofs.«01_k».proof.Proof.Gen.DxMemVIdeal.Skeleton
public import proofs.«01_k».proof.Proof.Gen.DxMemVIdeal.Launch
public import proofs.«01_k».proof.Proof.Gen.DxMemVIdeal.Points
public import proofs.«01_k».proof.Proof.Gen.DxMemVIdeal.Frame
public import proofs.«01_k».proof.Proof.Gen.DxMemVRefIdeal
public import proofs.«01_k».proof.Proof.Gen.DxMemVIdeal.Value
public import proofs.«01_k».proof.Proof.Gen.DxMemVRefIdeal.Run
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdRefIdeal
public import proofs.«01_k».proof.Proof.Gen.AttnFwdIdeal.Value
public import proofs.«01_k».proof.Proof.Gen.AttnFwdRefIdeal.Run
public import proofs.«01_k».proof.Proof.Gen.GluFwd
public import proofs.«01_k».proof.Proof.Gen.GluFwd.Skeleton
public import proofs.«01_k».proof.Proof.Gen.GluFwd.Launch
public import proofs.«01_k».proof.Proof.Gen.GluFwd.Points
public import proofs.«01_k».proof.Proof.Gen.GluFwd.Frame
public import proofs.«01_k».proof.Proof.Gen.GluFwdIdeal
public import proofs.«01_k».proof.Proof.Gen.GluFwdIdeal.Skeleton
public import proofs.«01_k».proof.Proof.Gen.GluFwdIdeal.Launch
public import proofs.«01_k».proof.Proof.Gen.GluFwdIdeal.Points
public import proofs.«01_k».proof.Proof.Gen.GluFwdIdeal.Frame
public import proofs.«01_k».proof.Proof.Gen.GluFwdRefIdeal
public import proofs.«01_k».proof.Proof.Gen.GluFwdIdeal.Value
public import proofs.«01_k».proof.Proof.Gen.GluFwdRefIdeal.Run
public import proofs.«01_k».proof.Proof.Gen.NormFwd
public import proofs.«01_k».proof.Proof.Gen.NormFwd.Skeleton
public import proofs.«01_k».proof.Proof.Gen.NormFwd.Launch
public import proofs.«01_k».proof.Proof.Gen.NormFwd.Points
public import proofs.«01_k».proof.Proof.Gen.NormFwd.Frame
public import proofs.«01_k».proof.Proof.Gen.NormFwdIdeal
public import proofs.«01_k».proof.Proof.Gen.NormFwdIdeal.Skeleton
public import proofs.«01_k».proof.Proof.Gen.NormFwdIdeal.Launch
public import proofs.«01_k».proof.Proof.Gen.NormFwdIdeal.Points
public import proofs.«01_k».proof.Proof.Gen.NormFwdIdeal.Frame
public import proofs.«01_k».proof.Proof.Gen.NormFwdRefIdeal
public import proofs.«01_k».proof.Proof.Gen.NormFwdIdeal.Value
public import proofs.«01_k».proof.Proof.Gen.NormFwdRefIdeal.Run
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdRefIdeal
public import proofs.«01_k».proof.Proof.Gen.ConvFwdIdeal.Value
public import proofs.«01_k».proof.Proof.Gen.ConvFwdRefIdeal.Run
public import proofs.«01_k».proof.Proof.Attn.Claim
public import proofs.«01_k».proof.Proof.Ffn.DwDown
public import proofs.«01_k».proof.Proof.Ffn.DxDown
public import proofs.«01_k».proof.Proof.Ffn.DxGate
public import proofs.«01_k».proof.Proof.Ffn.DxUp
public import proofs.«01_k».proof.Proof.Cols.GluBwd
public import proofs.«01_k».proof.Proof.Cols.Norm
public import proofs.«01_k».proof.Proof.Cols.ConvBwd
public import proofs.«01_k».proof.Proof.Attn.Fwd
public import proofs.«01_k».proof.Proof.Gen.GlaFwd
public import proofs.«01_k».proof.Proof.Gen.GlaFwd.Skeleton
public import proofs.«01_k».proof.Proof.Gen.GlaFwd.Launch
public import proofs.«01_k».proof.Proof.Gen.GlaFwd.Points
public import proofs.«01_k».proof.Proof.Gen.GlaFwd.Frame
public import proofs.«01_k».proof.Proof.Gen.GlaFwdIdeal
public import proofs.«01_k».proof.Proof.Gen.GlaFwdIdeal.Skeleton
public import proofs.«01_k».proof.Proof.Gen.GlaFwdIdeal.Launch
public import proofs.«01_k».proof.Proof.Gen.GlaFwdIdeal.Points
public import proofs.«01_k».proof.Proof.Gen.GlaFwdIdeal.Frame
public import proofs.«01_k».proof.Proof.Gen.GlaFwdRefIdeal
public import proofs.«01_k».proof.Proof.Gen.GlaFwdRefIdeal.Run
public import proofs.«01_k».proof.Proof.Gla.Body
public import proofs.«01_k».proof.Proof.Gla.Frame
public import proofs.«01_k».proof.Proof.Gla.Floats
public import proofs.«01_k».proof.Proof.Gla.Spec
public import proofs.«01_k».proof.Proof.Gla.Head
public import proofs.«01_k».proof.Proof.Gla.Point
public import proofs.«01_k».proof.Proof.Gla.Value
public import proofs.«01_k».proof.Proof.Gla.Entry
public import proofs.«01_k».proof.Proof.Gla.Step
public import proofs.«01_k».proof.Proof.Gla.Scan
public import proofs.«01_k».proof.Proof.Gla.Fwd
public import proofs.«01_k».proof.Proof.Opt.AdamUp
public import proofs.«01_k».proof.Proof.Cols.Head
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpRefIdeal
public import proofs.«01_k».proof.Proof.Gen.AdamUpIdeal.Value
public import proofs.«01_k».proof.Proof.Gen.AdamUpRefIdeal.Run
public import proofs.«01_k».proof.Proof.Gen.HeadBwd
public import proofs.«01_k».proof.Proof.Gen.HeadBwd.Skeleton
public import proofs.«01_k».proof.Proof.Gen.HeadBwd.Launch
public import proofs.«01_k».proof.Proof.Gen.HeadBwd.Points
public import proofs.«01_k».proof.Proof.Gen.HeadBwd.Frame
public import proofs.«01_k».proof.Proof.Gen.HeadBwdIdeal
public import proofs.«01_k».proof.Proof.Gen.HeadBwdIdeal.Skeleton
public import proofs.«01_k».proof.Proof.Gen.HeadBwdIdeal.Launch
public import proofs.«01_k».proof.Proof.Gen.HeadBwdIdeal.Points
public import proofs.«01_k».proof.Proof.Gen.HeadBwdIdeal.Frame
public import proofs.«01_k».proof.Proof.Gen.HeadBwdRefIdeal
public import proofs.«01_k».proof.Proof.Gen.HeadBwdIdeal.Value
public import proofs.«01_k».proof.Proof.Gen.HeadBwdRefIdeal.Run
public import proofs.«01_k».proof.Proof.Cols.GluFwd
public import proofs.«01_k».proof.Proof.Cols.NormFwd
public import proofs.«01_k».proof.Proof.Cols.ConvFwd
public import proofs.«01_k».proof.Proof.Ffn.FfnDown
public import proofs.«01_k».proof.Proof.Ffn.FfnGate
public import proofs.«01_k».proof.Proof.Ffn.FfnUp
public import proofs.«01_k».proof.Proof.Proj.ProjIn
public import proofs.«01_k».proof.Proof.Proj.DwIn
public import proofs.«01_k».proof.Proof.Proj.DxIn
public import proofs.«01_k».proof.Proof.Proj.DxInNext
public import proofs.«01_k».proof.Proof.Proj.ProjOut
public import proofs.«01_k».proof.Proof.Proj.DwOut
public import proofs.«01_k».proof.Proof.Proj.DxOut
public import proofs.«01_k».proof.Proof.Proj.SqIn
public import proofs.«01_k».proof.Proof.Proj.SqDwIn
public import proofs.«01_k».proof.Proof.Proj.SqDxIn
public import proofs.«01_k».proof.Proof.Proj.SqDxInNext
public import proofs.«01_k».proof.Proof.Proj.SqQuery
public import proofs.«01_k».proof.Proof.Proj.SqOut
public import proofs.«01_k».proof.Proof.Proj.SqDwOut
public import proofs.«01_k».proof.Proof.Proj.SqDxOut
public import proofs.«01_k».proof.Proof.Stack.DwGate
public import proofs.«01_k».proof.Proof.Stack.DwUp
public import proofs.«01_k».proof.Proof.Slots.HgQ
public import proofs.«01_k».proof.Proof.Slots.HgF
public import proofs.«01_k».proof.Proof.Slots.HgI
public import proofs.«01_k».proof.Proof.Slots.HgG
public import proofs.«01_k».proof.Proof.Stack.DwHgQ
public import proofs.«01_k».proof.Proof.Stack.DwHgF
public import proofs.«01_k».proof.Proof.Stack.DwHgI
public import proofs.«01_k».proof.Proof.Stack.DwHgG
public import proofs.«01_k».proof.Proof.Slots.DxHgQ
public import proofs.«01_k».proof.Proof.Slots.DxHgF
public import proofs.«01_k».proof.Proof.Slots.DxHgI
public import proofs.«01_k».proof.Proof.Slots.DxHgG
public import proofs.«01_k».proof.Proof.Slots.MemK
public import proofs.«01_k».proof.Proof.Slots.MemV
public import proofs.«01_k».proof.Proof.Stack.DwMemK
public import proofs.«01_k».proof.Proof.Stack.DwMemV
public import proofs.«01_k».proof.Proof.Slots.DxMemK
public import proofs.«01_k».proof.Proof.Slots.DxMemV
public import Idealize.ShloMosaic.Adequacy
public import Idealize.ShloMosaic.Init

@[expose] public section

noncomputable section

namespace Cert.Proof

open Idealize.ShloMosaic Idealize.SL.Sem Cert.AttnBwd

/-- Everything that is claimed. -/
theorem claim : Cert.Claim := ⟨
  Cert.AttnBwd.Gen.facts, Cert.AttnBwdIdeal.Gen.facts, Cert.AttnBwdRefIdeal.Gen.facts,
  Cert.DwDown.Gen.facts, Cert.DwDownIdeal.Gen.facts, Cert.DwDownRefIdeal.Gen.facts,
  Cert.DxDown.Gen.facts, Cert.DxDownIdeal.Gen.facts, Cert.DxDownRefIdeal.Gen.facts,
  Cert.DxGate.Gen.facts, Cert.DxGateIdeal.Gen.facts, Cert.DxGateRefIdeal.Gen.facts,
  Cert.DxUp.Gen.facts, Cert.DxUpIdeal.Gen.facts, Cert.DxUpRefIdeal.Gen.facts,
  Cert.GluBwd.Gen.facts, Cert.GluBwdIdeal.Gen.facts, Cert.GluBwdRefIdeal.Gen.facts,
  Cert.NormBwd.Gen.facts, Cert.NormBwdIdeal.Gen.facts, Cert.NormBwdRefIdeal.Gen.facts,
  Cert.ConvBwd.Gen.facts, Cert.ConvBwdIdeal.Gen.facts, Cert.ConvBwdRefIdeal.Gen.facts,
  Cert.FfnDown.Gen.facts, Cert.FfnDownIdeal.Gen.facts, Cert.FfnDownRefIdeal.Gen.facts,
  Cert.FfnGate.Gen.facts, Cert.FfnGateIdeal.Gen.facts, Cert.FfnGateRefIdeal.Gen.facts,
  Cert.FfnUp.Gen.facts, Cert.FfnUpIdeal.Gen.facts, Cert.FfnUpRefIdeal.Gen.facts,
  Cert.ProjIn.Gen.facts, Cert.ProjInIdeal.Gen.facts, Cert.ProjInRefIdeal.Gen.facts,
  Cert.DwIn.Gen.facts, Cert.DwInIdeal.Gen.facts, Cert.DwInRefIdeal.Gen.facts,
  Cert.DxIn.Gen.facts, Cert.DxInIdeal.Gen.facts, Cert.DxInRefIdeal.Gen.facts,
  Cert.DxInNext.Gen.facts, Cert.DxInNextIdeal.Gen.facts, Cert.DxInNextRefIdeal.Gen.facts,
  Cert.ProjOut.Gen.facts, Cert.ProjOutIdeal.Gen.facts, Cert.ProjOutRefIdeal.Gen.facts,
  Cert.DwOut.Gen.facts, Cert.DwOutIdeal.Gen.facts, Cert.DwOutRefIdeal.Gen.facts,
  Cert.DxOut.Gen.facts, Cert.DxOutIdeal.Gen.facts, Cert.DxOutRefIdeal.Gen.facts,
  Cert.SqIn.Gen.facts, Cert.SqInIdeal.Gen.facts, Cert.SqInRefIdeal.Gen.facts,
  Cert.SqDwIn.Gen.facts, Cert.SqDwInIdeal.Gen.facts, Cert.SqDwInRefIdeal.Gen.facts,
  Cert.SqDxIn.Gen.facts, Cert.SqDxInIdeal.Gen.facts, Cert.SqDxInRefIdeal.Gen.facts,
  Cert.SqDxInNext.Gen.facts, Cert.SqDxInNextIdeal.Gen.facts, Cert.SqDxInNextRefIdeal.Gen.facts,
  Cert.SqQuery.Gen.facts, Cert.SqQueryIdeal.Gen.facts, Cert.SqQueryRefIdeal.Gen.facts,
  Cert.SqOut.Gen.facts, Cert.SqOutIdeal.Gen.facts, Cert.SqOutRefIdeal.Gen.facts,
  Cert.SqDwOut.Gen.facts, Cert.SqDwOutIdeal.Gen.facts, Cert.SqDwOutRefIdeal.Gen.facts,
  Cert.SqDxOut.Gen.facts, Cert.SqDxOutIdeal.Gen.facts, Cert.SqDxOutRefIdeal.Gen.facts,
  Cert.DwGate.Gen.facts, Cert.DwGateIdeal.Gen.facts, Cert.DwGateRefIdeal.Gen.facts,
  Cert.DwUp.Gen.facts, Cert.DwUpIdeal.Gen.facts, Cert.DwUpRefIdeal.Gen.facts,
  Cert.HgQ.Gen.facts, Cert.HgQIdeal.Gen.facts, Cert.HgQRefIdeal.Gen.facts,
  Cert.HgF.Gen.facts, Cert.HgFIdeal.Gen.facts, Cert.HgFRefIdeal.Gen.facts,
  Cert.HgI.Gen.facts, Cert.HgIIdeal.Gen.facts, Cert.HgIRefIdeal.Gen.facts,
  Cert.HgG.Gen.facts, Cert.HgGIdeal.Gen.facts, Cert.HgGRefIdeal.Gen.facts,
  Cert.DwHgQ.Gen.facts, Cert.DwHgQIdeal.Gen.facts, Cert.DwHgQRefIdeal.Gen.facts,
  Cert.DwHgF.Gen.facts, Cert.DwHgFIdeal.Gen.facts, Cert.DwHgFRefIdeal.Gen.facts,
  Cert.DwHgI.Gen.facts, Cert.DwHgIIdeal.Gen.facts, Cert.DwHgIRefIdeal.Gen.facts,
  Cert.DwHgG.Gen.facts, Cert.DwHgGIdeal.Gen.facts, Cert.DwHgGRefIdeal.Gen.facts,
  Cert.DxHgQ.Gen.facts, Cert.DxHgQIdeal.Gen.facts, Cert.DxHgQRefIdeal.Gen.facts,
  Cert.DxHgF.Gen.facts, Cert.DxHgFIdeal.Gen.facts, Cert.DxHgFRefIdeal.Gen.facts,
  Cert.DxHgI.Gen.facts, Cert.DxHgIIdeal.Gen.facts, Cert.DxHgIRefIdeal.Gen.facts,
  Cert.DxHgG.Gen.facts, Cert.DxHgGIdeal.Gen.facts, Cert.DxHgGRefIdeal.Gen.facts,
  Cert.MemK.Gen.facts, Cert.MemKIdeal.Gen.facts, Cert.MemKRefIdeal.Gen.facts,
  Cert.MemV.Gen.facts, Cert.MemVIdeal.Gen.facts, Cert.MemVRefIdeal.Gen.facts,
  Cert.DwMemK.Gen.facts, Cert.DwMemKIdeal.Gen.facts, Cert.DwMemKRefIdeal.Gen.facts,
  Cert.DwMemV.Gen.facts, Cert.DwMemVIdeal.Gen.facts, Cert.DwMemVRefIdeal.Gen.facts,
  Cert.DxMemK.Gen.facts, Cert.DxMemKIdeal.Gen.facts, Cert.DxMemKRefIdeal.Gen.facts,
  Cert.DxMemV.Gen.facts, Cert.DxMemVIdeal.Gen.facts, Cert.DxMemVRefIdeal.Gen.facts,
  Cert.AttnFwd.Gen.facts, Cert.AttnFwdIdeal.Gen.facts, Cert.AttnFwdRefIdeal.Gen.facts,
  Cert.GluFwd.Gen.facts, Cert.GluFwdIdeal.Gen.facts, Cert.GluFwdRefIdeal.Gen.facts,
  Cert.NormFwd.Gen.facts, Cert.NormFwdIdeal.Gen.facts, Cert.NormFwdRefIdeal.Gen.facts,
  Cert.ConvFwd.Gen.facts, Cert.ConvFwdIdeal.Gen.facts, Cert.ConvFwdRefIdeal.Gen.facts,
  Cert.GlaFwd.Gen.facts, Cert.GlaFwdIdeal.Gen.facts, Cert.GlaFwdRefIdeal.Gen.facts,
  Cert.AdamUp.Gen.facts, Cert.AdamUpIdeal.Gen.facts, Cert.AdamUpRefIdeal.Gen.facts,
  Cert.HeadBwd.Gen.facts, Cert.HeadBwdIdeal.Gen.facts, Cert.HeadBwdRefIdeal.Gen.facts,
  fun m ρ _ => Cert.AttnBwd.Gen.frame m ρ, fun m ρ _ => Cert.AttnBwdIdeal.Gen.frame m ρ, Cert.Attn.frame_ref,
  fun m ρ _ => Cert.DwDown.Gen.frame m ρ, fun m ρ _ => Cert.DwDownIdeal.Gen.frame m ρ, Cert.DwDown.Claims.frame_ref,
  fun m ρ _ => Cert.DxDown.Gen.frame m ρ, fun m ρ _ => Cert.DxDownIdeal.Gen.frame m ρ, Cert.DxDown.Claims.frame_ref,
  fun m ρ _ => Cert.DxGate.Gen.frame m ρ, fun m ρ _ => Cert.DxGateIdeal.Gen.frame m ρ, Cert.DxGate.Claims.frame_ref,
  fun m ρ _ => Cert.DxUp.Gen.frame m ρ, fun m ρ _ => Cert.DxUpIdeal.Gen.frame m ρ, Cert.DxUp.Claims.frame_ref,
  fun m ρ _ => Cert.GluBwd.Gen.frame m ρ, fun m ρ _ => Cert.GluBwdIdeal.Gen.frame m ρ, Cert.GluBwd.Claims.frame_ref,
  fun m ρ _ => Cert.NormBwd.Gen.frame m ρ, fun m ρ _ => Cert.NormBwdIdeal.Gen.frame m ρ, Cert.NormBwd.Claims.frame_ref,
  fun m ρ _ => Cert.ConvBwd.Gen.frame m ρ, fun m ρ _ => Cert.ConvBwdIdeal.Gen.frame m ρ, Cert.ConvBwd.Claims.frame_ref,
  fun m ρ _ => Cert.FfnDown.Gen.frame m ρ, fun m ρ _ => Cert.FfnDownIdeal.Gen.frame m ρ, Cert.FfnDown.Claims.frame_ref,
  fun m ρ _ => Cert.FfnGate.Gen.frame m ρ, fun m ρ _ => Cert.FfnGateIdeal.Gen.frame m ρ, Cert.FfnGate.Claims.frame_ref,
  fun m ρ _ => Cert.FfnUp.Gen.frame m ρ, fun m ρ _ => Cert.FfnUpIdeal.Gen.frame m ρ, Cert.FfnUp.Claims.frame_ref,
  fun m ρ _ => Cert.ProjIn.Gen.frame m ρ, fun m ρ _ => Cert.ProjInIdeal.Gen.frame m ρ, Cert.ProjIn.Claims.frame_ref,
  fun m ρ _ => Cert.DwIn.Gen.frame m ρ, fun m ρ _ => Cert.DwInIdeal.Gen.frame m ρ, Cert.DwIn.Claims.frame_ref,
  fun m ρ _ => Cert.DxIn.Gen.frame m ρ, fun m ρ _ => Cert.DxInIdeal.Gen.frame m ρ, Cert.DxIn.Claims.frame_ref,
  fun m ρ _ => Cert.DxInNext.Gen.frame m ρ, fun m ρ _ => Cert.DxInNextIdeal.Gen.frame m ρ, Cert.DxInNext.Claims.frame_ref,
  fun m ρ _ => Cert.ProjOut.Gen.frame m ρ, fun m ρ _ => Cert.ProjOutIdeal.Gen.frame m ρ, Cert.ProjOut.Claims.frame_ref,
  fun m ρ _ => Cert.DwOut.Gen.frame m ρ, fun m ρ _ => Cert.DwOutIdeal.Gen.frame m ρ, Cert.DwOut.Claims.frame_ref,
  fun m ρ _ => Cert.DxOut.Gen.frame m ρ, fun m ρ _ => Cert.DxOutIdeal.Gen.frame m ρ, Cert.DxOut.Claims.frame_ref,
  fun m ρ _ => Cert.SqIn.Gen.frame m ρ, fun m ρ _ => Cert.SqInIdeal.Gen.frame m ρ, Cert.SqIn.Claims.frame_ref,
  fun m ρ _ => Cert.SqDwIn.Gen.frame m ρ, fun m ρ _ => Cert.SqDwInIdeal.Gen.frame m ρ, Cert.SqDwIn.Claims.frame_ref,
  fun m ρ _ => Cert.SqDxIn.Gen.frame m ρ, fun m ρ _ => Cert.SqDxInIdeal.Gen.frame m ρ, Cert.SqDxIn.Claims.frame_ref,
  fun m ρ _ => Cert.SqDxInNext.Gen.frame m ρ, fun m ρ _ => Cert.SqDxInNextIdeal.Gen.frame m ρ, Cert.SqDxInNext.Claims.frame_ref,
  fun m ρ _ => Cert.SqQuery.Gen.frame m ρ, fun m ρ _ => Cert.SqQueryIdeal.Gen.frame m ρ, Cert.SqQuery.Claims.frame_ref,
  fun m ρ _ => Cert.SqOut.Gen.frame m ρ, fun m ρ _ => Cert.SqOutIdeal.Gen.frame m ρ, Cert.SqOut.Claims.frame_ref,
  fun m ρ _ => Cert.SqDwOut.Gen.frame m ρ, fun m ρ _ => Cert.SqDwOutIdeal.Gen.frame m ρ, Cert.SqDwOut.Claims.frame_ref,
  fun m ρ _ => Cert.SqDxOut.Gen.frame m ρ, fun m ρ _ => Cert.SqDxOutIdeal.Gen.frame m ρ, Cert.SqDxOut.Claims.frame_ref,
  fun m ρ _ => Cert.DwGate.Gen.frame m ρ, fun m ρ _ => Cert.DwGateIdeal.Gen.frame m ρ, Cert.DwGate.Claims.frame_ref,
  fun m ρ _ => Cert.DwUp.Gen.frame m ρ, fun m ρ _ => Cert.DwUpIdeal.Gen.frame m ρ, Cert.DwUp.Claims.frame_ref,
  fun m ρ _ => Cert.HgQ.Gen.frame m ρ, fun m ρ _ => Cert.HgQIdeal.Gen.frame m ρ, Cert.HgQ.Claims.frame_ref,
  fun m ρ _ => Cert.HgF.Gen.frame m ρ, fun m ρ _ => Cert.HgFIdeal.Gen.frame m ρ, Cert.HgF.Claims.frame_ref,
  fun m ρ _ => Cert.HgI.Gen.frame m ρ, fun m ρ _ => Cert.HgIIdeal.Gen.frame m ρ, Cert.HgI.Claims.frame_ref,
  fun m ρ _ => Cert.HgG.Gen.frame m ρ, fun m ρ _ => Cert.HgGIdeal.Gen.frame m ρ, Cert.HgG.Claims.frame_ref,
  fun m ρ _ => Cert.DwHgQ.Gen.frame m ρ, fun m ρ _ => Cert.DwHgQIdeal.Gen.frame m ρ, Cert.DwHgQ.Claims.frame_ref,
  fun m ρ _ => Cert.DwHgF.Gen.frame m ρ, fun m ρ _ => Cert.DwHgFIdeal.Gen.frame m ρ, Cert.DwHgF.Claims.frame_ref,
  fun m ρ _ => Cert.DwHgI.Gen.frame m ρ, fun m ρ _ => Cert.DwHgIIdeal.Gen.frame m ρ, Cert.DwHgI.Claims.frame_ref,
  fun m ρ _ => Cert.DwHgG.Gen.frame m ρ, fun m ρ _ => Cert.DwHgGIdeal.Gen.frame m ρ, Cert.DwHgG.Claims.frame_ref,
  fun m ρ _ => Cert.DxHgQ.Gen.frame m ρ, fun m ρ _ => Cert.DxHgQIdeal.Gen.frame m ρ, Cert.DxHgQ.Claims.frame_ref,
  fun m ρ _ => Cert.DxHgF.Gen.frame m ρ, fun m ρ _ => Cert.DxHgFIdeal.Gen.frame m ρ, Cert.DxHgF.Claims.frame_ref,
  fun m ρ _ => Cert.DxHgI.Gen.frame m ρ, fun m ρ _ => Cert.DxHgIIdeal.Gen.frame m ρ, Cert.DxHgI.Claims.frame_ref,
  fun m ρ _ => Cert.DxHgG.Gen.frame m ρ, fun m ρ _ => Cert.DxHgGIdeal.Gen.frame m ρ, Cert.DxHgG.Claims.frame_ref,
  fun m ρ _ => Cert.MemK.Gen.frame m ρ, fun m ρ _ => Cert.MemKIdeal.Gen.frame m ρ, Cert.MemK.Claims.frame_ref,
  fun m ρ _ => Cert.MemV.Gen.frame m ρ, fun m ρ _ => Cert.MemVIdeal.Gen.frame m ρ, Cert.MemV.Claims.frame_ref,
  fun m ρ _ => Cert.DwMemK.Gen.frame m ρ, fun m ρ _ => Cert.DwMemKIdeal.Gen.frame m ρ, Cert.DwMemK.Claims.frame_ref,
  fun m ρ _ => Cert.DwMemV.Gen.frame m ρ, fun m ρ _ => Cert.DwMemVIdeal.Gen.frame m ρ, Cert.DwMemV.Claims.frame_ref,
  fun m ρ _ => Cert.DxMemK.Gen.frame m ρ, fun m ρ _ => Cert.DxMemKIdeal.Gen.frame m ρ, Cert.DxMemK.Claims.frame_ref,
  fun m ρ _ => Cert.DxMemV.Gen.frame m ρ, fun m ρ _ => Cert.DxMemVIdeal.Gen.frame m ρ, Cert.DxMemV.Claims.frame_ref,
  fun m ρ _ => Cert.AttnFwd.Gen.frame m ρ, fun m ρ _ => Cert.AttnFwdIdeal.Gen.frame m ρ, Cert.AttnFwd.Claims.frame_ref,
  fun m ρ _ => Cert.GluFwd.Gen.frame m ρ, fun m ρ _ => Cert.GluFwdIdeal.Gen.frame m ρ, Cert.GluFwd.Claims.frame_ref,
  fun m ρ _ => Cert.NormFwd.Gen.frame m ρ, fun m ρ _ => Cert.NormFwdIdeal.Gen.frame m ρ, Cert.NormFwd.Claims.frame_ref,
  fun m ρ _ => Cert.ConvFwd.Gen.frame m ρ, fun m ρ _ => Cert.ConvFwdIdeal.Gen.frame m ρ, Cert.ConvFwd.Claims.frame_ref,
  Cert.GlaFwd.Claims.frame_kernel, Cert.GlaFwd.Claims.frame_ideal, Cert.GlaFwd.Claims.frame_ref,
  fun m ρ _ => Cert.AdamUp.Gen.frame m ρ, fun m ρ _ => Cert.AdamUpIdeal.Gen.frame m ρ, Cert.AdamUp.Claims.frame_ref,
  fun m ρ _ => Cert.HeadBwd.Gen.frame m ρ, fun m ρ _ => Cert.HeadBwdIdeal.Gen.frame m ρ, Cert.HeadBwd.Claims.frame_ref,
  trivial, Cert.Attn.value,
  trivial, Cert.DwDown.Claims.value,
  trivial, Cert.DxDown.Claims.value,
  trivial, Cert.DxGate.Claims.value,
  trivial, Cert.DxUp.Claims.value,
  trivial, Cert.GluBwd.Claims.value,
  trivial, Cert.NormBwd.Claims.value,
  trivial, Cert.ConvBwd.Claims.value,
  trivial, Cert.FfnDown.Claims.value,
  trivial, Cert.FfnGate.Claims.value,
  trivial, Cert.FfnUp.Claims.value,
  trivial, Cert.ProjIn.Claims.value,
  trivial, Cert.DwIn.Claims.value,
  trivial, Cert.DxIn.Claims.value,
  trivial, Cert.DxInNext.Claims.value,
  trivial, Cert.ProjOut.Claims.value,
  trivial, Cert.DwOut.Claims.value,
  trivial, Cert.DxOut.Claims.value,
  trivial, Cert.SqIn.Claims.value,
  trivial, Cert.SqDwIn.Claims.value,
  trivial, Cert.SqDxIn.Claims.value,
  trivial, Cert.SqDxInNext.Claims.value,
  trivial, Cert.SqQuery.Claims.value,
  trivial, Cert.SqOut.Claims.value,
  trivial, Cert.SqDwOut.Claims.value,
  trivial, Cert.SqDxOut.Claims.value,
  trivial, Cert.DwGate.Claims.value,
  trivial, Cert.DwUp.Claims.value,
  trivial, Cert.HgQ.Claims.value,
  trivial, Cert.HgF.Claims.value,
  trivial, Cert.HgI.Claims.value,
  trivial, Cert.HgG.Claims.value,
  trivial, Cert.DwHgQ.Claims.value,
  trivial, Cert.DwHgF.Claims.value,
  trivial, Cert.DwHgI.Claims.value,
  trivial, Cert.DwHgG.Claims.value,
  trivial, Cert.DxHgQ.Claims.value,
  trivial, Cert.DxHgF.Claims.value,
  trivial, Cert.DxHgI.Claims.value,
  trivial, Cert.DxHgG.Claims.value,
  trivial, Cert.MemK.Claims.value,
  trivial, Cert.MemV.Claims.value,
  trivial, Cert.DwMemK.Claims.value,
  trivial, Cert.DwMemV.Claims.value,
  trivial, Cert.DxMemK.Claims.value,
  trivial, Cert.DxMemV.Claims.value,
  trivial, Cert.AttnFwd.Claims.value,
  trivial, Cert.GluFwd.Claims.value,
  trivial, Cert.NormFwd.Claims.value,
  trivial, Cert.ConvFwd.Claims.value,
  trivial, Cert.GlaFwd.Claims.value,
  trivial, Cert.AdamUp.Claims.value,
  trivial, Cert.HeadBwd.Claims.value⟩

end Cert.Proof

end
